-- ==== Defs.lean ====
def Pre_KernelZoh (m : (ℓ : Loc Cert.KernelZoh.nD Cert.KernelZoh.τ Cert.KernelZoh.sig) → Buf (Elt Bits) ℓ) : Prop :=
  True

def Pre_KernelZohIdeal (m : (ℓ : Loc Cert.KernelZohIdeal.nD Cert.KernelZohIdeal.τ Cert.KernelZohIdeal.sig) → Buf (Elt Ideal) ℓ) : Prop :=
  True

def Pre_KernelZohIdeal_zoh_finite [hPre_zoh_finite : Cert.Pre_zoh_finite.Facts] (m : (ℓ : Loc Cert.KernelZohIdeal.nD Cert.KernelZohIdeal.τ Cert.KernelZohIdeal.sig) → Buf (Elt Ideal) ℓ) : Prop :=
  ∀ c : Dev Cert.KernelZohIdeal.nD,
    (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.2.2.2.2.1 = (fun _ => 1#1)
    ∧ (Cert.Pre_zoh_finite.fn (F := Ideal) (m ((c.tc : Thread Cert.KernelZohIdeal.nD Cert.KernelZohIdeal.τ).loc Cert.KernelZohIdeal.main_arg0)) (m ((c.tc : Thread Cert.KernelZohIdeal.nD Cert.KernelZohIdeal.τ).loc Cert.KernelZohIdeal.main_arg1)) (m ((c.tc : Thread Cert.KernelZohIdeal.nD Cert.KernelZohIdeal.τ).loc Cert.KernelZohIdeal.main_arg2)) (m ((c.tc : Thread Cert.KernelZohIdeal.nD Cert.KernelZohIdeal.τ).loc Cert.KernelZohIdeal.main_arg3)) (m ((c.tc : Thread Cert.KernelZohIdeal.nD Cert.KernelZohIdeal.τ).loc Cert.KernelZohIdeal.main_arg4)) (m ((c.tc : Thread Cert.KernelZohIdeal.nD Cert.KernelZohIdeal.τ).loc Cert.KernelZohIdeal.main_arg5)) (m ((c.tc : Thread Cert.KernelZohIdeal.nD Cert.KernelZohIdeal.τ).loc Cert.KernelZohIdeal.main_arg6)) (m ((c.tc : Thread Cert.KernelZohIdeal.nD Cert.KernelZohIdeal.τ).loc Cert.KernelZohIdeal.main_arg7)) (m ((c.tc : Thread Cert.KernelZohIdeal.nD Cert.KernelZohIdeal.τ).loc Cert.KernelZohIdeal.main_arg8))).2.2.2.2.2.2.2.2.2 = (fun _ => 1#1)

def Pre_ReferenceZohIdeal (m : (ℓ : Loc Cert.ReferenceZohIdeal.nD Cert.ReferenceZohIdeal.τ Cert.ReferenceZohIdeal.sig) → Buf (Elt Ideal) ℓ) : Prop :=
  True

def Pre_ReferenceZohIdeal_zoh_finite [hPre_zoh_finite : Cert.Pre_zoh_finite.Facts] (m : (ℓ : Loc Cert.ReferenceZohIdeal.nD Cert.ReferenceZohIdeal.τ Cert.ReferenceZohIdeal.sig) → Buf (Elt Ideal) ℓ) : Prop :=
  ∀ c : Dev Cert.ReferenceZohIdeal.nD,
    (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.2.2.2.2.1 = (fun _ => 1#1)
    ∧ (Cert.Pre_zoh_finite.fn (F := Ideal) (m ((c.tc : Thread Cert.ReferenceZohIdeal.nD Cert.ReferenceZohIdeal.τ).loc Cert.ReferenceZohIdeal.main_arg0)) (m ((c.tc : Thread Cert.ReferenceZohIdeal.nD Cert.ReferenceZohIdeal.τ).loc Cert.ReferenceZohIdeal.main_arg1)) (m ((c.tc : Thread Cert.ReferenceZohIdeal.nD Cert.ReferenceZohIdeal.τ).loc Cert.ReferenceZohIdeal.main_arg2)) (m ((c.tc : Thread Cert.ReferenceZohIdeal.nD Cert.ReferenceZohIdeal.τ).loc Cert.ReferenceZohIdeal.main_arg3)) (m ((c.tc : Thread Cert.ReferenceZohIdeal.nD Cert.ReferenceZohIdeal.τ).loc Cert.ReferenceZohIdeal.main_arg4)) (m ((c.tc : Thread Cert.ReferenceZohIdeal.nD Cert.ReferenceZohIdeal.τ).loc Cert.ReferenceZohIdeal.main_arg5)) (m ((c.tc : Thread Cert.ReferenceZohIdeal.nD Cert.ReferenceZohIdeal.τ).loc Cert.ReferenceZohIdeal.main_arg6)) (m ((c.tc : Thread Cert.ReferenceZohIdeal.nD Cert.ReferenceZohIdeal.τ).loc Cert.ReferenceZohIdeal.main_arg7)) (m ((c.tc : Thread Cert.ReferenceZohIdeal.nD Cert.ReferenceZohIdeal.τ).loc Cert.ReferenceZohIdeal.main_arg8))).2.2.2.2.2.2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2 = (fun _ => 1#1)

def Pre_KernelIndx (m : (ℓ : Loc Cert.KernelIndx.nD Cert.KernelIndx.τ Cert.KernelIndx.sig) → Buf (Elt Bits) ℓ) : Prop :=
  True

def Pre_KernelIndxIdeal (m : (ℓ : Loc Cert.KernelIndxIdeal.nD Cert.KernelIndxIdeal.τ Cert.KernelIndxIdeal.sig) → Buf (Elt Ideal) ℓ) : Prop :=
  True

def Pre_KernelIndxIdeal_indx_finite [hPre_indx_finite : Cert.Pre_indx_finite.Facts] (m : (ℓ : Loc Cert.KernelIndxIdeal.nD Cert.KernelIndxIdeal.τ Cert.KernelIndxIdeal.sig) → Buf (Elt Ideal) ℓ) : Prop :=
  ∀ c : Dev Cert.KernelIndxIdeal.nD,
    (Cert.Pre_indx_finite.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4)) (m ((c.tc : Thread Cert.KernelIndxIdeal.nD Cert.KernelIndxIdeal.τ).loc Cert.KernelIndxIdeal.main_arg5))).1 = (fun _ => 1#1)
    ∧ (Cert.Pre_indx_finite.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4)) (m ((c.tc : Thread Cert.KernelIndxIdeal.nD Cert.KernelIndxIdeal.τ).loc Cert.KernelIndxIdeal.main_arg5))).2.1 = (fun _ => 1#1)
    ∧ (Cert.Pre_indx_finite.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4)) (m ((c.tc : Thread Cert.KernelIndxIdeal.nD Cert.KernelIndxIdeal.τ).loc Cert.KernelIndxIdeal.main_arg5))).2.2.1 = (fun _ => 1#1)
    ∧ (Cert.Pre_indx_finite.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4)) (m ((c.tc : Thread Cert.KernelIndxIdeal.nD Cert.KernelIndxIdeal.τ).loc Cert.KernelIndxIdeal.main_arg5))).2.2.2.1 = (fun _ => 1#1)
    ∧ (Cert.Pre_indx_finite.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4)) (m ((c.tc : Thread Cert.KernelIndxIdeal.nD Cert.KernelIndxIdeal.τ).loc Cert.KernelIndxIdeal.main_arg5))).2.2.2.2 = (fun _ => 1#1)

def Pre_ReferenceIndxIdeal (m : (ℓ : Loc Cert.ReferenceIndxIdeal.nD Cert.ReferenceIndxIdeal.τ Cert.ReferenceIndxIdeal.sig) → Buf (Elt Ideal) ℓ) : Prop :=
  True

def Pre_ReferenceIndxIdeal_indx_finite [hPre_indx_finite : Cert.Pre_indx_finite.Facts] (m : (ℓ : Loc Cert.ReferenceIndxIdeal.nD Cert.ReferenceIndxIdeal.τ Cert.ReferenceIndxIdeal.sig) → Buf (Elt Ideal) ℓ) : Prop :=
  ∀ c : Dev Cert.ReferenceIndxIdeal.nD,
    (Cert.Pre_indx_finite.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4)) (m ((c.tc : Thread Cert.ReferenceIndxIdeal.nD Cert.ReferenceIndxIdeal.τ).loc Cert.ReferenceIndxIdeal.main_arg5))).1 = (fun _ => 1#1)
    ∧ (Cert.Pre_indx_finite.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4)) (m ((c.tc : Thread Cert.ReferenceIndxIdeal.nD Cert.ReferenceIndxIdeal.τ).loc Cert.ReferenceIndxIdeal.main_arg5))).2.1 = (fun _ => 1#1)
    ∧ (Cert.Pre_indx_finite.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4)) (m ((c.tc : Thread Cert.ReferenceIndxIdeal.nD Cert.ReferenceIndxIdeal.τ).loc Cert.ReferenceIndxIdeal.main_arg5))).2.2.1 = (fun _ => 1#1)
    ∧ (Cert.Pre_indx_finite.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4)) (m ((c.tc : Thread Cert.ReferenceIndxIdeal.nD Cert.ReferenceIndxIdeal.τ).loc Cert.ReferenceIndxIdeal.main_arg5))).2.2.2.1 = (fun _ => 1#1)
    ∧ (Cert.Pre_indx_finite.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4)) (m ((c.tc : Thread Cert.ReferenceIndxIdeal.nD Cert.ReferenceIndxIdeal.τ).loc Cert.ReferenceIndxIdeal.main_arg5))).2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_loss_finite [hPre_loss_finite : Cert.Pre_loss_finite.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_loss_finite [hPre_loss_finite : Cert.Pre_loss_finite.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.2 = (fun _ => 1#1)

def Pre_KernelGatedx (m : (ℓ : Loc Cert.KernelGatedx.nD Cert.KernelGatedx.τ Cert.KernelGatedx.sig) → Buf (Elt Bits) ℓ) : Prop :=
  True

def Pre_KernelGatedxIdeal (m : (ℓ : Loc Cert.KernelGatedxIdeal.nD Cert.KernelGatedxIdeal.τ Cert.KernelGatedxIdeal.sig) → Buf (Elt Ideal) ℓ) : Prop :=
  True

def Pre_KernelGatedxIdeal_gatedx_finite [hPre_gatedx_finite : Cert.Pre_gatedx_finite.Facts] (m : (ℓ : Loc Cert.KernelGatedxIdeal.nD Cert.KernelGatedxIdeal.τ Cert.KernelGatedxIdeal.sig) → Buf (Elt Ideal) ℓ) : Prop :=
  ∀ c : Dev Cert.KernelGatedxIdeal.nD,
    (Cert.Pre_gatedx_finite.fn (F := Ideal) (m ((c.tc : Thread Cert.KernelGatedxIdeal.nD Cert.KernelGatedxIdeal.τ).loc Cert.KernelGatedxIdeal.main_arg0)) (m ((c.tc : Thread Cert.KernelGatedxIdeal.nD Cert.KernelGatedxIdeal.τ).loc Cert.KernelGatedxIdeal.main_arg1)) (m ((c.tc : Thread Cert.KernelGatedxIdeal.nD Cert.KernelGatedxIdeal.τ).loc Cert.KernelGatedxIdeal.main_arg2)) (m ((c.tc : Thread Cert.KernelGatedxIdeal.nD Cert.KernelGatedxIdeal.τ).loc Cert.KernelGatedxIdeal.main_arg3)) (m ((c.tc : Thread Cert.KernelGatedxIdeal.nD Cert.KernelGatedxIdeal.τ).loc Cert.KernelGatedxIdeal.main_arg4))).1 = (fun _ => 1#1)
    ∧ (Cert.Pre_gatedx_finite.fn (F := Ideal) (m ((c.tc : Thread Cert.KernelGatedxIdeal.nD Cert.KernelGatedxIdeal.τ).loc Cert.KernelGatedxIdeal.main_arg0)) (m ((c.tc : Thread Cert.KernelGatedxIdeal.nD Cert.KernelGatedxIdeal.τ).loc Cert.KernelGatedxIdeal.main_arg1)) (m ((c.tc : Thread Cert.KernelGatedxIdeal.nD Cert.KernelGatedxIdeal.τ).loc Cert.KernelGatedxIdeal.main_arg2)) (m ((c.tc : Thread Cert.KernelGatedxIdeal.nD Cert.KernelGatedxIdeal.τ).loc Cert.KernelGatedxIdeal.main_arg3)) (m ((c.tc : Thread Cert.KernelGatedxIdeal.nD Cert.KernelGatedxIdeal.τ).loc Cert.KernelGatedxIdeal.main_arg4))).2.1 = (fun _ => 1#1)
    ∧ (Cert.Pre_gatedx_finite.fn (F := Ideal) (m ((c.tc : Thread Cert.KernelGatedxIdeal.nD Cert.KernelGatedxIdeal.τ).loc Cert.KernelGatedxIdeal.main_arg0)) (m ((c.tc : Thread Cert.KernelGatedxIdeal.nD Cert.KernelGatedxIdeal.τ).loc Cert.KernelGatedxIdeal.main_arg1)) (m ((c.tc : Thread Cert.KernelGatedxIdeal.nD Cert.KernelGatedxIdeal.τ).loc Cert.KernelGatedxIdeal.main_arg2)) (m ((c.tc : Thread Cert.KernelGatedxIdeal.nD Cert.KernelGatedxIdeal.τ).loc Cert.KernelGatedxIdeal.main_arg3)) (m ((c.tc : Thread Cert.KernelGatedxIdeal.nD Cert.KernelGatedxIdeal.τ).loc Cert.KernelGatedxIdeal.main_arg4))).2.2.1 = (fun _ => 1#1)
    ∧ (Cert.Pre_gatedx_finite.fn (F := Ideal) (m ((c.tc : Thread Cert.KernelGatedxIdeal.nD Cert.KernelGatedxIdeal.τ).loc Cert.KernelGatedxIdeal.main_arg0)) (m ((c.tc : Thread Cert.KernelGatedxIdeal.nD Cert.KernelGatedxIdeal.τ).loc Cert.KernelGatedxIdeal.main_arg1)) (m ((c.tc : Thread Cert.KernelGatedxIdeal.nD Cert.KernelGatedxIdeal.τ).loc Cert.KernelGatedxIdeal.main_arg2)) (m ((c.tc : Thread Cert.KernelGatedxIdeal.nD Cert.KernelGatedxIdeal.τ).loc Cert.KernelGatedxIdeal.main_arg3)) (m ((c.tc : Thread Cert.KernelGatedxIdeal.nD Cert.KernelGatedxIdeal.τ).loc Cert.KernelGatedxIdeal.main_arg4))).2.2.2 = (fun _ => 1#1)

def Pre_ReferenceGatedxIdeal (m : (ℓ : Loc Cert.ReferenceGatedxIdeal.nD Cert.ReferenceGatedxIdeal.τ Cert.ReferenceGatedxIdeal.sig) → Buf (Elt Ideal) ℓ) : Prop :=
  True

def Pre_ReferenceGatedxIdeal_gatedx_finite [hPre_gatedx_finite : Cert.Pre_gatedx_finite.Facts] (m : (ℓ : Loc Cert.ReferenceGatedxIdeal.nD Cert.ReferenceGatedxIdeal.τ Cert.ReferenceGatedxIdeal.sig) → Buf (Elt Ideal) ℓ) : Prop :=
  ∀ c : Dev Cert.ReferenceGatedxIdeal.nD,
    (Cert.Pre_gatedx_finite.fn (F := Ideal) (m ((c.tc : Thread Cert.ReferenceGatedxIdeal.nD Cert.ReferenceGatedxIdeal.τ).loc Cert.ReferenceGatedxIdeal.main_arg0)) (m ((c.tc : Thread Cert.ReferenceGatedxIdeal.nD Cert.ReferenceGatedxIdeal.τ).loc Cert.ReferenceGatedxIdeal.main_arg1)) (m ((c.tc : Thread Cert.ReferenceGatedxIdeal.nD Cert.ReferenceGatedxIdeal.τ).loc Cert.ReferenceGatedxIdeal.main_arg2)) (m ((c.tc : Thread Cert.ReferenceGatedxIdeal.nD Cert.ReferenceGatedxIdeal.τ).loc Cert.ReferenceGatedxIdeal.main_arg3)) (m ((c.tc : Thread Cert.ReferenceGatedxIdeal.nD Cert.ReferenceGatedxIdeal.τ).loc Cert.ReferenceGatedxIdeal.main_arg4))).1 = (fun _ => 1#1)
    ∧ (Cert.Pre_gatedx_finite.fn (F := Ideal) (m ((c.tc : Thread Cert.ReferenceGatedxIdeal.nD Cert.ReferenceGatedxIdeal.τ).loc Cert.ReferenceGatedxIdeal.main_arg0)) (m ((c.tc : Thread Cert.ReferenceGatedxIdeal.nD Cert.ReferenceGatedxIdeal.τ).loc Cert.ReferenceGatedxIdeal.main_arg1)) (m ((c.tc : Thread Cert.ReferenceGatedxIdeal.nD Cert.ReferenceGatedxIdeal.τ).loc Cert.ReferenceGatedxIdeal.main_arg2)) (m ((c.tc : Thread Cert.ReferenceGatedxIdeal.nD Cert.ReferenceGatedxIdeal.τ).loc Cert.ReferenceGatedxIdeal.main_arg3)) (m ((c.tc : Thread Cert.ReferenceGatedxIdeal.nD Cert.ReferenceGatedxIdeal.τ).loc Cert.ReferenceGatedxIdeal.main_arg4))).2.1 = (fun _ => 1#1)
    ∧ (Cert.Pre_gatedx_finite.fn (F := Ideal) (m ((c.tc : Thread Cert.ReferenceGatedxIdeal.nD Cert.ReferenceGatedxIdeal.τ).loc Cert.ReferenceGatedxIdeal.main_arg0)) (m ((c.tc : Thread Cert.ReferenceGatedxIdeal.nD Cert.ReferenceGatedxIdeal.τ).loc Cert.ReferenceGatedxIdeal.main_arg1)) (m ((c.tc : Thread Cert.ReferenceGatedxIdeal.nD Cert.ReferenceGatedxIdeal.τ).loc Cert.ReferenceGatedxIdeal.main_arg2)) (m ((c.tc : Thread Cert.ReferenceGatedxIdeal.nD Cert.ReferenceGatedxIdeal.τ).loc Cert.ReferenceGatedxIdeal.main_arg3)) (m ((c.tc : Thread Cert.ReferenceGatedxIdeal.nD Cert.ReferenceGatedxIdeal.τ).loc Cert.ReferenceGatedxIdeal.main_arg4))).2.2.1 = (fun _ => 1#1)
    ∧ (Cert.Pre_gatedx_finite.fn (F := Ideal) (m ((c.tc : Thread Cert.ReferenceGatedxIdeal.nD Cert.ReferenceGatedxIdeal.τ).loc Cert.ReferenceGatedxIdeal.main_arg0)) (m ((c.tc : Thread Cert.ReferenceGatedxIdeal.nD Cert.ReferenceGatedxIdeal.τ).loc Cert.ReferenceGatedxIdeal.main_arg1)) (m ((c.tc : Thread Cert.ReferenceGatedxIdeal.nD Cert.ReferenceGatedxIdeal.τ).loc Cert.ReferenceGatedxIdeal.main_arg2)) (m ((c.tc : Thread Cert.ReferenceGatedxIdeal.nD Cert.ReferenceGatedxIdeal.τ).loc Cert.ReferenceGatedxIdeal.main_arg3)) (m ((c.tc : Thread Cert.ReferenceGatedxIdeal.nD Cert.ReferenceGatedxIdeal.τ).loc Cert.ReferenceGatedxIdeal.main_arg4))).2.2.2 = (fun _ => 1#1)

def Pre_KernelMixin (m : (ℓ : Loc Cert.KernelMixin.nD Cert.KernelMixin.τ Cert.KernelMixin.sig) → Buf (Elt Bits) ℓ) : Prop :=
  True

def Pre_KernelMixinIdeal (m : (ℓ : Loc Cert.KernelMixinIdeal.nD Cert.KernelMixinIdeal.τ Cert.KernelMixinIdeal.sig) → Buf (Elt Ideal) ℓ) : Prop :=
  True

def Pre_KernelMixinIdeal_mixin_finite [hPre_mixin_finite : Cert.Pre_mixin_finite.Facts] (m : (ℓ : Loc Cert.KernelMixinIdeal.nD Cert.KernelMixinIdeal.τ Cert.KernelMixinIdeal.sig) → Buf (Elt Ideal) ℓ) : Prop :=
  ∀ c : Dev Cert.KernelMixinIdeal.nD,
    (Cert.Pre_mixin_finite.fn (F := Ideal) (m ((c.tc : Thread Cert.KernelMixinIdeal.nD Cert.KernelMixinIdeal.τ).loc Cert.KernelMixinIdeal.main_arg0)) (m ((c.tc : Thread Cert.KernelMixinIdeal.nD Cert.KernelMixinIdeal.τ).loc Cert.KernelMixinIdeal.main_arg1)) (m ((c.tc : Thread Cert.KernelMixinIdeal.nD Cert.KernelMixinIdeal.τ).loc Cert.KernelMixinIdeal.main_arg2)) (m ((c.tc : Thread Cert.KernelMixinIdeal.nD Cert.KernelMixinIdeal.τ).loc Cert.KernelMixinIdeal.main_arg3)) (m ((c.tc : Thread Cert.KernelMixinIdeal.nD Cert.KernelMixinIdeal.τ).loc Cert.KernelMixinIdeal.main_arg4)) (m ((c.tc : Thread Cert.KernelMixinIdeal.nD Cert.KernelMixinIdeal.τ).loc Cert.KernelMixinIdeal.main_arg5))).1 = (fun _ => 1#1)
    ∧ (Cert.Pre_mixin_finite.fn (F := Ideal) (m ((c.tc : Thread Cert.KernelMixinIdeal.nD Cert.KernelMixinIdeal.τ).loc Cert.KernelMixinIdeal.main_arg0)) (m ((c.tc : Thread Cert.KernelMixinIdeal.nD Cert.KernelMixinIdeal.τ).loc Cert.KernelMixinIdeal.main_arg1)) (m ((c.tc : Thread Cert.KernelMixinIdeal.nD Cert.KernelMixinIdeal.τ).loc Cert.KernelMixinIdeal.main_arg2)) (m ((c.tc : Thread Cert.KernelMixinIdeal.nD Cert.KernelMixinIdeal.τ).loc Cert.KernelMixinIdeal.main_arg3)) (m ((c.tc : Thread Cert.KernelMixinIdeal.nD Cert.KernelMixinIdeal.τ).loc Cert.KernelMixinIdeal.main_arg4)) (m ((c.tc : Thread Cert.KernelMixinIdeal.nD Cert.KernelMixinIdeal.τ).loc Cert.KernelMixinIdeal.main_arg5))).2.1 = (fun _ => 1#1)
    ∧ (Cert.Pre_mixin_finite.fn (F := Ideal) (m ((c.tc : Thread Cert.KernelMixinIdeal.nD Cert.KernelMixinIdeal.τ).loc Cert.KernelMixinIdeal.main_arg0)) (m ((c.tc : Thread Cert.KernelMixinIdeal.nD Cert.KernelMixinIdeal.τ).loc Cert.KernelMixinIdeal.main_arg1)) (m ((c.tc : Thread Cert.KernelMixinIdeal.nD Cert.KernelMixinIdeal.τ).loc Cert.KernelMixinIdeal.main_arg2)) (m ((c.tc : Thread Cert.KernelMixinIdeal.nD Cert.KernelMixinIdeal.τ).loc Cert.KernelMixinIdeal.main_arg3)) (m ((c.tc : Thread Cert.KernelMixinIdeal.nD Cert.KernelMixinIdeal.τ).loc Cert.KernelMixinIdeal.main_arg4)) (m ((c.tc : Thread Cert.KernelMixinIdeal.nD Cert.KernelMixinIdeal.τ).loc Cert.KernelMixinIdeal.main_arg5))).2.2.1 = (fun _ => 1#1)
    ∧ (Cert.Pre_mixin_finite.fn (F := Ideal) (m ((c.tc : Thread Cert.KernelMixinIdeal.nD Cert.KernelMixinIdeal.τ).loc Cert.KernelMixinIdeal.main_arg0)) (m ((c.tc : Thread Cert.KernelMixinIdeal.nD Cert.KernelMixinIdeal.τ).loc Cert.KernelMixinIdeal.main_arg1)) (m ((c.tc : Thread Cert.KernelMixinIdeal.nD Cert.KernelMixinIdeal.τ).loc Cert.KernelMixinIdeal.main_arg2)) (m ((c.tc : Thread Cert.KernelMixinIdeal.nD Cert.KernelMixinIdeal.τ).loc Cert.KernelMixinIdeal.main_arg3)) (m ((c.tc : Thread Cert.KernelMixinIdeal.nD Cert.KernelMixinIdeal.τ).loc Cert.KernelMixinIdeal.main_arg4)) (m ((c.tc : Thread Cert.KernelMixinIdeal.nD Cert.KernelMixinIdeal.τ).loc Cert.KernelMixinIdeal.main_arg5))).2.2.2.1 = (fun _ => 1#1)
    ∧ (Cert.Pre_mixin_finite.fn (F := Ideal) (m ((c.tc : Thread Cert.KernelMixinIdeal.nD Cert.KernelMixinIdeal.τ).loc Cert.KernelMixinIdeal.main_arg0)) (m ((c.tc : Thread Cert.KernelMixinIdeal.nD Cert.KernelMixinIdeal.τ).loc Cert.KernelMixinIdeal.main_arg1)) (m ((c.tc : Thread Cert.KernelMixinIdeal.nD Cert.KernelMixinIdeal.τ).loc Cert.KernelMixinIdeal.main_arg2)) (m ((c.tc : Thread Cert.KernelMixinIdeal.nD Cert.KernelMixinIdeal.τ).loc Cert.KernelMixinIdeal.main_arg3)) (m ((c.tc : Thread Cert.KernelMixinIdeal.nD Cert.KernelMixinIdeal.τ).loc Cert.KernelMixinIdeal.main_arg4)) (m ((c.tc : Thread Cert.KernelMixinIdeal.nD Cert.KernelMixinIdeal.τ).loc Cert.KernelMixinIdeal.main_arg5))).2.2.2.2 = (fun _ => 1#1)

def Pre_ReferenceMixinIdeal (m : (ℓ : Loc Cert.ReferenceMixinIdeal.nD Cert.ReferenceMixinIdeal.τ Cert.ReferenceMixinIdeal.sig) → Buf (Elt Ideal) ℓ) : Prop :=
  True

def Pre_ReferenceMixinIdeal_mixin_finite [hPre_mixin_finite : Cert.Pre_mixin_finite.Facts] (m : (ℓ : Loc Cert.ReferenceMixinIdeal.nD Cert.ReferenceMixinIdeal.τ Cert.ReferenceMixinIdeal.sig) → Buf (Elt Ideal) ℓ) : Prop :=
  ∀ c : Dev Cert.ReferenceMixinIdeal.nD,
    (Cert.Pre_mixin_finite.fn (F := Ideal) (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))).1 = (fun _ => 1#1)
    ∧ (Cert.Pre_mixin_finite.fn (F := Ideal) (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))).2.1 = (fun _ => 1#1)
    ∧ (Cert.Pre_mixin_finite.fn (F := Ideal) (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))).2.2.1 = (fun _ => 1#1)
    ∧ (Cert.Pre_mixin_finite.fn (F := Ideal) (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))).2.2.2.1 = (fun _ => 1#1)
    ∧ (Cert.Pre_mixin_finite.fn (F := Ideal) (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))).2.2.2.2 = (fun _ => 1#1)

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_KernelGluIdeal_glu_finite [hPre_glu_finite : Cert.Pre_glu_finite.Facts] (m : (ℓ : Loc Cert.KernelGluIdeal.nD Cert.KernelGluIdeal.τ Cert.KernelGluIdeal.sig) → Buf (Elt Ideal) ℓ) : Prop :=
  ∀ c : Dev Cert.KernelGluIdeal.nD,
    (Cert.Pre_glu_finite.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))).1 = (fun _ => 1#1)
    ∧ (Cert.Pre_glu_finite.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))).2.1 = (fun _ => 1#1)
    ∧ (Cert.Pre_glu_finite.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))).2.2.1 = (fun _ => 1#1)
    ∧ (Cert.Pre_glu_finite.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))).2.2.2.1 = (fun _ => 1#1)
    ∧ (Cert.Pre_glu_finite.fn (F := Ideal) (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4))).2.2.2.2 = (fun _ => 1#1)

def Pre_ReferenceGluIdeal (m : (ℓ : Loc Cert.ReferenceGluIdeal.nD Cert.ReferenceGluIdeal.τ Cert.ReferenceGluIdeal.sig) → Buf (Elt Ideal) ℓ) : Prop :=
  True

def Pre_ReferenceGluIdeal_glu_finite [hPre_glu_finite : Cert.Pre_glu_finite.Facts] (m : (ℓ : Loc Cert.ReferenceGluIdeal.nD Cert.ReferenceGluIdeal.τ Cert.ReferenceGluIdeal.sig) → Buf (Elt Ideal) ℓ) : Prop :=
  ∀ c : Dev Cert.ReferenceGluIdeal.nD,
    (Cert.Pre_glu_finite.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))).1 = (fun _ => 1#1)
    ∧ (Cert.Pre_glu_finite.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))).2.1 = (fun _ => 1#1)
    ∧ (Cert.Pre_glu_finite.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))).2.2.1 = (fun _ => 1#1)
    ∧ (Cert.Pre_glu_finite.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))).2.2.2.1 = (fun _ => 1#1)
    ∧ (Cert.Pre_glu_finite.fn (F := Ideal) (m ((c.tc : Thread Cert.ReferenceGluIdeal.nD Cert.ReferenceGluIdeal.τ).loc Cert.ReferenceGluIdeal.main_arg0)) (m ((c.tc : Thread Cert.ReferenceGluIdeal.nD Cert.ReferenceGluIdeal.τ).loc Cert.ReferenceGluIdeal.main_arg1)) (m ((c.tc : Thread Cert.ReferenceGluIdeal.nD Cert.ReferenceGluIdeal.τ).loc Cert.ReferenceGluIdeal.main_arg2)) (m ((c.tc : Thread Cert.ReferenceGluIdeal.nD Cert.ReferenceGluIdeal.τ).loc Cert.ReferenceGluIdeal.main_arg3)) (m ((c.tc : Thread Cert.ReferenceGluIdeal.nD Cert.ReferenceGluIdeal.τ).loc Cert.ReferenceGluIdeal.main_arg4))).2.2.2.2 = (fun _ => 1#1)

def Pre_KernelMixout (m : (ℓ : Loc Cert.KernelMixout.nD Cert.KernelMixout.τ Cert.KernelMixout.sig) → Buf (Elt Bits) ℓ) : Prop :=
  True

def Pre_KernelMixoutIdeal (m : (ℓ : Loc Cert.KernelMixoutIdeal.nD Cert.KernelMixoutIdeal.τ Cert.KernelMixoutIdeal.sig) → Buf (Elt Ideal) ℓ) : Prop :=
  True

def Pre_ReferenceMixoutIdeal (m : (ℓ : Loc Cert.ReferenceMixoutIdeal.nD Cert.ReferenceMixoutIdeal.τ Cert.ReferenceMixoutIdeal.sig) → Buf (Elt Ideal) ℓ) : Prop :=
  True

def Pre_KernelIndxg (m : (ℓ : Loc Cert.KernelIndxg.nD Cert.KernelIndxg.τ Cert.KernelIndxg.sig) → Buf (Elt Bits) ℓ) : Prop :=
  True

def Pre_KernelIndxgIdeal (m : (ℓ : Loc Cert.KernelIndxgIdeal.nD Cert.KernelIndxgIdeal.τ Cert.KernelIndxgIdeal.sig) → Buf (Elt Ideal) ℓ) : Prop :=
  True

def Pre_KernelIndxgIdeal_indxg_finite [hPre_indxg_finite : Cert.Pre_indxg_finite.Facts] (m : (ℓ : Loc Cert.KernelIndxgIdeal.nD Cert.KernelIndxgIdeal.τ Cert.KernelIndxgIdeal.sig) → Buf (Elt Ideal) ℓ) : Prop :=
  ∀ c : Dev Cert.KernelIndxgIdeal.nD,
    (Cert.Pre_indxg_finite.fn (F := Ideal) (m ((c.tc : Thread Cert.KernelIndxgIdeal.nD Cert.KernelIndxgIdeal.τ).loc Cert.KernelIndxgIdeal.main_arg0)) (m ((c.tc : Thread Cert.KernelIndxgIdeal.nD Cert.KernelIndxgIdeal.τ).loc Cert.KernelIndxgIdeal.main_arg1)) (m ((c.tc : Thread Cert.KernelIndxgIdeal.nD Cert.KernelIndxgIdeal.τ).loc Cert.KernelIndxgIdeal.main_arg2)) (m ((c.tc : Thread Cert.KernelIndxgIdeal.nD Cert.KernelIndxgIdeal.τ).loc Cert.KernelIndxgIdeal.main_arg3)) (m ((c.tc : Thread Cert.KernelIndxgIdeal.nD Cert.KernelIndxgIdeal.τ).loc Cert.KernelIndxgIdeal.main_arg4)) (m ((c.tc : Thread Cert.KernelIndxgIdeal.nD Cert.KernelIndxgIdeal.τ).loc Cert.KernelIndxgIdeal.main_arg5)) (m ((c.tc : Thread Cert.KernelIndxgIdeal.nD Cert.KernelIndxgIdeal.τ).loc Cert.KernelIndxgIdeal.main_arg6)) (m ((c.tc : Thread Cert.KernelIndxgIdeal.nD Cert.KernelIndxgIdeal.τ).loc Cert.KernelIndxgIdeal.main_arg7))).1 = (fun _ => 1#1)
    ∧ (Cert.Pre_indxg_finite.fn (F := Ideal) (m ((c.tc : Thread Cert.KernelIndxgIdeal.nD Cert.KernelIndxgIdeal.τ).loc Cert.KernelIndxgIdeal.main_arg0)) (m ((c.tc : Thread Cert.KernelIndxgIdeal.nD Cert.KernelIndxgIdeal.τ).loc Cert.KernelIndxgIdeal.main_arg1)) (m ((c.tc : Thread Cert.KernelIndxgIdeal.nD Cert.KernelIndxgIdeal.τ).loc Cert.KernelIndxgIdeal.main_arg2)) (m ((c.tc : Thread Cert.KernelIndxgIdeal.nD Cert.KernelIndxgIdeal.τ).loc Cert.KernelIndxgIdeal.main_arg3)) (m ((c.tc : Thread Cert.KernelIndxgIdeal.nD Cert.KernelIndxgIdeal.τ).loc Cert.KernelIndxgIdeal.main_arg4)) (m ((c.tc : Thread Cert.KernelIndxgIdeal.nD Cert.KernelIndxgIdeal.τ).loc Cert.KernelIndxgIdeal.main_arg5)) (m ((c.tc : Thread Cert.KernelIndxgIdeal.nD Cert.KernelIndxgIdeal.τ).loc Cert.KernelIndxgIdeal.main_arg6)) (m ((c.tc : Thread Cert.KernelIndxgIdeal.nD Cert.KernelIndxgIdeal.τ).loc Cert.KernelIndxgIdeal.main_arg7))).2.1 = (fun _ => 1#1)
    ∧ (Cert.Pre_indxg_finite.fn (F := Ideal) (m ((c.tc : Thread Cert.KernelIndxgIdeal.nD Cert.KernelIndxgIdeal.τ).loc Cert.KernelIndxgIdeal.main_arg0)) (m ((c.tc : Thread Cert.KernelIndxgIdeal.nD Cert.KernelIndxgIdeal.τ).loc Cert.KernelIndxgIdeal.main_arg1)) (m ((c.tc : Thread Cert.KernelIndxgIdeal.nD Cert.KernelIndxgIdeal.τ).loc Cert.KernelIndxgIdeal.main_arg2)) (m ((c.tc : Thread Cert.KernelIndxgIdeal.nD Cert.KernelIndxgIdeal.τ).loc Cert.KernelIndxgIdeal.main_arg3)) (m ((c.tc : Thread Cert.KernelIndxgIdeal.nD Cert.KernelIndxgIdeal.τ).loc Cert.KernelIndxgIdeal.main_arg4)) (m ((c.tc : Thread Cert.KernelIndxgIdeal.nD Cert.KernelIndxgIdeal.τ).loc Cert.KernelIndxgIdeal.main_arg5)) (m ((c.tc : Thread Cert.KernelIndxgIdeal.nD Cert.KernelIndxgIdeal.τ).loc Cert.KernelIndxgIdeal.main_arg6)) (m ((c.tc : Thread Cert.KernelIndxgIdeal.nD Cert.KernelIndxgIdeal.τ).loc Cert.KernelIndxgIdeal.main_arg7))).2.2.1 = (fun _ => 1#1)
    ∧ (Cert.Pre_indxg_finite.fn (F := Ideal) (m ((c.tc : Thread Cert.KernelIndxgIdeal.nD Cert.KernelIndxgIdeal.τ).loc Cert.KernelIndxgIdeal.main_arg0)) (m ((c.tc : Thread Cert.KernelIndxgIdeal.nD Cert.KernelIndxgIdeal.τ).loc Cert.KernelIndxgIdeal.main_arg1)) (m ((c.tc : Thread Cert.KernelIndxgIdeal.nD Cert.KernelIndxgIdeal.τ).loc Cert.KernelIndxgIdeal.main_arg2)) (m ((c.tc : Thread Cert.KernelIndxgIdeal.nD Cert.KernelIndxgIdeal.τ).loc Cert.KernelIndxgIdeal.main_arg3)) (m ((c.tc : Thread Cert.KernelIndxgIdeal.nD Cert.KernelIndxgIdeal.τ).loc Cert.KernelIndxgIdeal.main_arg4)) (m ((c.tc : Thread Cert.KernelIndxgIdeal.nD Cert.KernelIndxgIdeal.τ).loc Cert.KernelIndxgIdeal.main_arg5)) (m ((c.tc : Thread Cert.KernelIndxgIdeal.nD Cert.KernelIndxgIdeal.τ).loc Cert.KernelIndxgIdeal.main_arg6)) (m ((c.tc : Thread Cert.KernelIndxgIdeal.nD Cert.KernelIndxgIdeal.τ).loc Cert.KernelIndxgIdeal.main_arg7))).2.2.2.1 = (fun _ => 1#1)
    ∧ (Cert.Pre_indxg_finite.fn (F := Ideal) (m ((c.tc : Thread Cert.KernelIndxgIdeal.nD Cert.KernelIndxgIdeal.τ).loc Cert.KernelIndxgIdeal.main_arg0)) (m ((c.tc : Thread Cert.KernelIndxgIdeal.nD Cert.KernelIndxgIdeal.τ).loc Cert.KernelIndxgIdeal.main_arg1)) (m ((c.tc : Thread Cert.KernelIndxgIdeal.nD Cert.KernelIndxgIdeal.τ).loc Cert.KernelIndxgIdeal.main_arg2)) (m ((c.tc : Thread Cert.KernelIndxgIdeal.nD Cert.KernelIndxgIdeal.τ).loc Cert.KernelIndxgIdeal.main_arg3)) (m ((c.tc : Thread Cert.KernelIndxgIdeal.nD Cert.KernelIndxgIdeal.τ).loc Cert.KernelIndxgIdeal.main_arg4)) (m ((c.tc : Thread Cert.KernelIndxgIdeal.nD Cert.KernelIndxgIdeal.τ).loc Cert.KernelIndxgIdeal.main_arg5)) (m ((c.tc : Thread Cert.KernelIndxgIdeal.nD Cert.KernelIndxgIdeal.τ).loc Cert.KernelIndxgIdeal.main_arg6)) (m ((c.tc : Thread Cert.KernelIndxgIdeal.nD Cert.KernelIndxgIdeal.τ).loc Cert.KernelIndxgIdeal.main_arg7))).2.2.2.2 = (fun _ => 1#1)

def Pre_ReferenceIndxgIdeal (m : (ℓ : Loc Cert.ReferenceIndxgIdeal.nD Cert.ReferenceIndxgIdeal.τ Cert.ReferenceIndxgIdeal.sig) → Buf (Elt Ideal) ℓ) : Prop :=
  True

def Pre_ReferenceIndxgIdeal_indxg_finite [hPre_indxg_finite : Cert.Pre_indxg_finite.Facts] (m : (ℓ : Loc Cert.ReferenceIndxgIdeal.nD Cert.ReferenceIndxgIdeal.τ Cert.ReferenceIndxgIdeal.sig) → Buf (Elt Ideal) ℓ) : Prop :=
  ∀ c : Dev Cert.ReferenceIndxgIdeal.nD,
    (Cert.Pre_indxg_finite.fn (F := Ideal) (m ((c.tc : Thread Cert.ReferenceIndxgIdeal.nD Cert.ReferenceIndxgIdeal.τ).loc Cert.ReferenceIndxgIdeal.main_arg0)) (m ((c.tc : Thread Cert.ReferenceIndxgIdeal.nD Cert.ReferenceIndxgIdeal.τ).loc Cert.ReferenceIndxgIdeal.main_arg1)) (m ((c.tc : Thread Cert.ReferenceIndxgIdeal.nD Cert.ReferenceIndxgIdeal.τ).loc Cert.ReferenceIndxgIdeal.main_arg2)) (m ((c.tc : Thread Cert.ReferenceIndxgIdeal.nD Cert.ReferenceIndxgIdeal.τ).loc Cert.ReferenceIndxgIdeal.main_arg3)) (m ((c.tc : Thread Cert.ReferenceIndxgIdeal.nD Cert.ReferenceIndxgIdeal.τ).loc Cert.ReferenceIndxgIdeal.main_arg4)) (m ((c.tc : Thread Cert.ReferenceIndxgIdeal.nD Cert.ReferenceIndxgIdeal.τ).loc Cert.ReferenceIndxgIdeal.main_arg5)) (m ((c.tc : Thread Cert.ReferenceIndxgIdeal.nD Cert.ReferenceIndxgIdeal.τ).loc Cert.ReferenceIndxgIdeal.main_arg6)) (m ((c.tc : Thread Cert.ReferenceIndxgIdeal.nD Cert.ReferenceIndxgIdeal.τ).loc Cert.ReferenceIndxgIdeal.main_arg7))).1 = (fun _ => 1#1)
    ∧ (Cert.Pre_indxg_finite.fn (F := Ideal) (m ((c.tc : Thread Cert.ReferenceIndxgIdeal.nD Cert.ReferenceIndxgIdeal.τ).loc Cert.ReferenceIndxgIdeal.main_arg0)) (m ((c.tc : Thread Cert.ReferenceIndxgIdeal.nD Cert.ReferenceIndxgIdeal.τ).loc Cert.ReferenceIndxgIdeal.main_arg1)) (m ((c.tc : Thread Cert.ReferenceIndxgIdeal.nD Cert.ReferenceIndxgIdeal.τ).loc Cert.ReferenceIndxgIdeal.main_arg2)) (m ((c.tc : Thread Cert.ReferenceIndxgIdeal.nD Cert.ReferenceIndxgIdeal.τ).loc Cert.ReferenceIndxgIdeal.main_arg3)) (m ((c.tc : Thread Cert.ReferenceIndxgIdeal.nD Cert.ReferenceIndxgIdeal.τ).loc Cert.ReferenceIndxgIdeal.main_arg4)) (m ((c.tc : Thread Cert.ReferenceIndxgIdeal.nD Cert.ReferenceIndxgIdeal.τ).loc Cert.ReferenceIndxgIdeal.main_arg5)) (m ((c.tc : Thread Cert.ReferenceIndxgIdeal.nD Cert.ReferenceIndxgIdeal.τ).loc Cert.ReferenceIndxgIdeal.main_arg6)) (m ((c.tc : Thread Cert.ReferenceIndxgIdeal.nD Cert.ReferenceIndxgIdeal.τ).loc Cert.ReferenceIndxgIdeal.main_arg7))).2.1 = (fun _ => 1#1)
    ∧ (Cert.Pre_indxg_finite.fn (F := Ideal) (m ((c.tc : Thread Cert.ReferenceIndxgIdeal.nD Cert.ReferenceIndxgIdeal.τ).loc Cert.ReferenceIndxgIdeal.main_arg0)) (m ((c.tc : Thread Cert.ReferenceIndxgIdeal.nD Cert.ReferenceIndxgIdeal.τ).loc Cert.ReferenceIndxgIdeal.main_arg1)) (m ((c.tc : Thread Cert.ReferenceIndxgIdeal.nD Cert.ReferenceIndxgIdeal.τ).loc Cert.ReferenceIndxgIdeal.main_arg2)) (m ((c.tc : Thread Cert.ReferenceIndxgIdeal.nD Cert.ReferenceIndxgIdeal.τ).loc Cert.ReferenceIndxgIdeal.main_arg3)) (m ((c.tc : Thread Cert.ReferenceIndxgIdeal.nD Cert.ReferenceIndxgIdeal.τ).loc Cert.ReferenceIndxgIdeal.main_arg4)) (m ((c.tc : Thread Cert.ReferenceIndxgIdeal.nD Cert.ReferenceIndxgIdeal.τ).loc Cert.ReferenceIndxgIdeal.main_arg5)) (m ((c.tc : Thread Cert.ReferenceIndxgIdeal.nD Cert.ReferenceIndxgIdeal.τ).loc Cert.ReferenceIndxgIdeal.main_arg6)) (m ((c.tc : Thread Cert.ReferenceIndxgIdeal.nD Cert.ReferenceIndxgIdeal.τ).loc Cert.ReferenceIndxgIdeal.main_arg7))).2.2.1 = (fun _ => 1#1)
    ∧ (Cert.Pre_indxg_finite.fn (F := Ideal) (m ((c.tc : Thread Cert.ReferenceIndxgIdeal.nD Cert.ReferenceIndxgIdeal.τ).loc Cert.ReferenceIndxgIdeal.main_arg0)) (m ((c.tc : Thread Cert.ReferenceIndxgIdeal.nD Cert.ReferenceIndxgIdeal.τ).loc Cert.ReferenceIndxgIdeal.main_arg1)) (m ((c.tc : Thread Cert.ReferenceIndxgIdeal.nD Cert.ReferenceIndxgIdeal.τ).loc Cert.ReferenceIndxgIdeal.main_arg2)) (m ((c.tc : Thread Cert.ReferenceIndxgIdeal.nD Cert.ReferenceIndxgIdeal.τ).loc Cert.ReferenceIndxgIdeal.main_arg3)) (m ((c.tc : Thread Cert.ReferenceIndxgIdeal.nD Cert.ReferenceIndxgIdeal.τ).loc Cert.ReferenceIndxgIdeal.main_arg4)) (m ((c.tc : Thread Cert.ReferenceIndxgIdeal.nD Cert.ReferenceIndxgIdeal.τ).loc Cert.ReferenceIndxgIdeal.main_arg5)) (m ((c.tc : Thread Cert.ReferenceIndxgIdeal.nD Cert.ReferenceIndxgIdeal.τ).loc Cert.ReferenceIndxgIdeal.main_arg6)) (m ((c.tc : Thread Cert.ReferenceIndxgIdeal.nD Cert.ReferenceIndxgIdeal.τ).loc Cert.ReferenceIndxgIdeal.main_arg7))).2.2.2.1 = (fun _ => 1#1)
    ∧ (Cert.Pre_indxg_finite.fn (F := Ideal) (m ((c.tc : Thread Cert.ReferenceIndxgIdeal.nD Cert.ReferenceIndxgIdeal.τ).loc Cert.ReferenceIndxgIdeal.main_arg0)) (m ((c.tc : Thread Cert.ReferenceIndxgIdeal.nD Cert.ReferenceIndxgIdeal.τ).loc Cert.ReferenceIndxgIdeal.main_arg1)) (m ((c.tc : Thread Cert.ReferenceIndxgIdeal.nD Cert.ReferenceIndxgIdeal.τ).loc Cert.ReferenceIndxgIdeal.main_arg2)) (m ((c.tc : Thread Cert.ReferenceIndxgIdeal.nD Cert.ReferenceIndxgIdeal.τ).loc Cert.ReferenceIndxgIdeal.main_arg3)) (m ((c.tc : Thread Cert.ReferenceIndxgIdeal.nD Cert.ReferenceIndxgIdeal.τ).loc Cert.ReferenceIndxgIdeal.main_arg4)) (m ((c.tc : Thread Cert.ReferenceIndxgIdeal.nD Cert.ReferenceIndxgIdeal.τ).loc Cert.ReferenceIndxgIdeal.main_arg5)) (m ((c.tc : Thread Cert.ReferenceIndxgIdeal.nD Cert.ReferenceIndxgIdeal.τ).loc Cert.ReferenceIndxgIdeal.main_arg6)) (m ((c.tc : Thread Cert.ReferenceIndxgIdeal.nD Cert.ReferenceIndxgIdeal.τ).loc Cert.ReferenceIndxgIdeal.main_arg7))).2.2.2.2 = (fun _ => 1#1)

def Pre_KernelBudx (m : (ℓ : Loc Cert.KernelBudx.nD Cert.KernelBudx.τ Cert.KernelBudx.sig) → Buf (Elt Bits) ℓ) : Prop :=
  True

def Pre_KernelBudxIdeal (m : (ℓ : Loc Cert.KernelBudxIdeal.nD Cert.KernelBudxIdeal.τ Cert.KernelBudxIdeal.sig) → Buf (Elt Ideal) ℓ) : Prop :=
  True

def Pre_ReferenceBudxIdeal (m : (ℓ : Loc Cert.ReferenceBudxIdeal.nD Cert.ReferenceBudxIdeal.τ Cert.ReferenceBudxIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_pool_finite [hPre_pool_finite : Cert.Pre_pool_finite.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 = (fun _ => 1#1)
    ∧ (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 = (fun _ => 1#1)
    ∧ (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2 = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_pool_finite [hPre_pool_finite : Cert.Pre_pool_finite.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).1 = (fun _ => 1#1)
    ∧ (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.1 = (fun _ => 1#1)
    ∧ (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2 = (fun _ => 1#1)

def Pre_KernelScanBwd (m : (ℓ : Loc Cert.KernelScanBwd.nD Cert.KernelScanBwd.τ Cert.KernelScanBwd.sig) → Buf (Elt Bits) ℓ) : Prop :=
  True

def Pre_KernelScanBwdIdeal (m : (ℓ : Loc Cert.KernelScanBwdIdeal.nD Cert.KernelScanBwdIdeal.τ Cert.KernelScanBwdIdeal.sig) → Buf (Elt Ideal) ℓ) : Prop :=
  True

def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_KernelScanIdeal_scan_finite [hPre_scan_finite : Cert.Pre_scan_finite.Facts] (m : (ℓ : Loc Cert.KernelScanIdeal.nD Cert.KernelScanIdeal.τ Cert.KernelScanIdeal.sig) → Buf (Elt Ideal) ℓ) : Prop :=
  ∀ c : Dev Cert.KernelScanIdeal.nD,
    (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3))).1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3))).2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3))).2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3))).2.2.2 = (fun _ => 1#1)

def Pre_ReferenceScanIdeal (m : (ℓ : Loc Cert.ReferenceScanIdeal.nD Cert.ReferenceScanIdeal.τ Cert.ReferenceScanIdeal.sig) → Buf (Elt Ideal) ℓ) : Prop :=
  True

def Pre_ReferenceScanIdeal_scan_finite [hPre_scan_finite : Cert.Pre_scan_finite.Facts] (m : (ℓ : Loc Cert.ReferenceScanIdeal.nD Cert.ReferenceScanIdeal.τ Cert.ReferenceScanIdeal.sig) → Buf (Elt Ideal) ℓ) : Prop :=
  ∀ c : Dev Cert.ReferenceScanIdeal.nD,
    (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3))).1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3))).2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3))).2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3))).2.2.2 = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelHold (m : (ℓ : Loc Cert.KernelHold.nD Cert.KernelHold.τ Cert.KernelHold.sig) → Buf (Elt Bits) ℓ) : Prop :=
  True

def Pre_KernelHoldIdeal (m : (ℓ : Loc Cert.KernelHoldIdeal.nD Cert.KernelHoldIdeal.τ Cert.KernelHoldIdeal.sig) → Buf (Elt Ideal) ℓ) : Prop :=
  True

def Pre_ReferenceHoldIdeal (m : (ℓ : Loc Cert.ReferenceHoldIdeal.nD Cert.ReferenceHoldIdeal.τ Cert.ReferenceHoldIdeal.sig) → Buf (Elt Ideal) ℓ) : Prop :=
  True

def Pre_KernelStates (m : (ℓ : Loc Cert.KernelStates.nD Cert.KernelStates.τ Cert.KernelStates.sig) → Buf (Elt Bits) ℓ) : Prop :=
  True

def Pre_KernelStatesIdeal (m : (ℓ : Loc Cert.KernelStatesIdeal.nD Cert.KernelStatesIdeal.τ Cert.KernelStatesIdeal.sig) → Buf (Elt Ideal) ℓ) : Prop :=
  True

def Pre_KernelStatesIdeal_states_finite [hPre_states_finite : Cert.Pre_states_finite.Facts] (m : (ℓ : Loc Cert.KernelStatesIdeal.nD Cert.KernelStatesIdeal.τ Cert.KernelStatesIdeal.sig) → Buf (Elt Ideal) ℓ) : Prop :=
  ∀ c : Dev Cert.KernelStatesIdeal.nD,
    (Cert.Pre_states_finite.fn (F := Ideal) (m ((c.tc : Thread Cert.KernelStatesIdeal.nD Cert.KernelStatesIdeal.τ).loc Cert.KernelStatesIdeal.main_arg0)) (m ((c.tc : Thread Cert.KernelStatesIdeal.nD Cert.KernelStatesIdeal.τ).loc Cert.KernelStatesIdeal.main_arg1)) (m ((c.tc : Thread Cert.KernelStatesIdeal.nD Cert.KernelStatesIdeal.τ).loc Cert.KernelStatesIdeal.main_arg2)) (m ((c.tc : Thread Cert.KernelStatesIdeal.nD Cert.KernelStatesIdeal.τ).loc Cert.KernelStatesIdeal.main_arg3)) (m ((c.tc : Thread Cert.KernelStatesIdeal.nD Cert.KernelStatesIdeal.τ).loc Cert.KernelStatesIdeal.main_arg4)) (m ((c.tc : Thread Cert.KernelStatesIdeal.nD Cert.KernelStatesIdeal.τ).loc Cert.KernelStatesIdeal.main_arg5))).1 = (fun _ => 1#1)
    ∧ (Cert.Pre_states_finite.fn (F := Ideal) (m ((c.tc : Thread Cert.KernelStatesIdeal.nD Cert.KernelStatesIdeal.τ).loc Cert.KernelStatesIdeal.main_arg0)) (m ((c.tc : Thread Cert.KernelStatesIdeal.nD Cert.KernelStatesIdeal.τ).loc Cert.KernelStatesIdeal.main_arg1)) (m ((c.tc : Thread Cert.KernelStatesIdeal.nD Cert.KernelStatesIdeal.τ).loc Cert.KernelStatesIdeal.main_arg2)) (m ((c.tc : Thread Cert.KernelStatesIdeal.nD Cert.KernelStatesIdeal.τ).loc Cert.KernelStatesIdeal.main_arg3)) (m ((c.tc : Thread Cert.KernelStatesIdeal.nD Cert.KernelStatesIdeal.τ).loc Cert.KernelStatesIdeal.main_arg4)) (m ((c.tc : Thread Cert.KernelStatesIdeal.nD Cert.KernelStatesIdeal.τ).loc Cert.KernelStatesIdeal.main_arg5))).2 = (fun _ => 1#1)

def Pre_ReferenceStatesIdeal (m : (ℓ : Loc Cert.ReferenceStatesIdeal.nD Cert.ReferenceStatesIdeal.τ Cert.ReferenceStatesIdeal.sig) → Buf (Elt Ideal) ℓ) : Prop :=
  True

def Pre_ReferenceStatesIdeal_states_finite [hPre_states_finite : Cert.Pre_states_finite.Facts] (m : (ℓ : Loc Cert.ReferenceStatesIdeal.nD Cert.ReferenceStatesIdeal.τ Cert.ReferenceStatesIdeal.sig) → Buf (Elt Ideal) ℓ) : Prop :=
  ∀ c : Dev Cert.ReferenceStatesIdeal.nD,
    (Cert.Pre_states_finite.fn (F := Ideal) (m ((c.tc : Thread Cert.ReferenceStatesIdeal.nD Cert.ReferenceStatesIdeal.τ).loc Cert.ReferenceStatesIdeal.main_arg0)) (m ((c.tc : Thread Cert.ReferenceStatesIdeal.nD Cert.ReferenceStatesIdeal.τ).loc Cert.ReferenceStatesIdeal.main_arg1)) (m ((c.tc : Thread Cert.ReferenceStatesIdeal.nD Cert.ReferenceStatesIdeal.τ).loc Cert.ReferenceStatesIdeal.main_arg2)) (m ((c.tc : Thread Cert.ReferenceStatesIdeal.nD Cert.ReferenceStatesIdeal.τ).loc Cert.ReferenceStatesIdeal.main_arg3)) (m ((c.tc : Thread Cert.ReferenceStatesIdeal.nD Cert.ReferenceStatesIdeal.τ).loc Cert.ReferenceStatesIdeal.main_arg4)) (m ((c.tc : Thread Cert.ReferenceStatesIdeal.nD Cert.ReferenceStatesIdeal.τ).loc Cert.ReferenceStatesIdeal.main_arg5))).1 = (fun _ => 1#1)
    ∧ (Cert.Pre_states_finite.fn (F := Ideal) (m ((c.tc : Thread Cert.ReferenceStatesIdeal.nD Cert.ReferenceStatesIdeal.τ).loc Cert.ReferenceStatesIdeal.main_arg0)) (m ((c.tc : Thread Cert.ReferenceStatesIdeal.nD Cert.ReferenceStatesIdeal.τ).loc Cert.ReferenceStatesIdeal.main_arg1)) (m ((c.tc : Thread Cert.ReferenceStatesIdeal.nD Cert.ReferenceStatesIdeal.τ).loc Cert.ReferenceStatesIdeal.main_arg2)) (m ((c.tc : Thread Cert.ReferenceStatesIdeal.nD Cert.ReferenceStatesIdeal.τ).loc Cert.ReferenceStatesIdeal.main_arg3)) (m ((c.tc : Thread Cert.ReferenceStatesIdeal.nD Cert.ReferenceStatesIdeal.τ).loc Cert.ReferenceStatesIdeal.main_arg4)) (m ((c.tc : Thread Cert.ReferenceStatesIdeal.nD Cert.ReferenceStatesIdeal.τ).loc Cert.ReferenceStatesIdeal.main_arg5))).2 = (fun _ => 1#1)

def Pre_KernelHeads (m : (ℓ : Loc Cert.KernelHeads.nD Cert.KernelHeads.τ Cert.KernelHeads.sig) → Buf (Elt Bits) ℓ) : Prop :=
  True

def Pre_KernelHeadsIdeal (m : (ℓ : Loc Cert.KernelHeadsIdeal.nD Cert.KernelHeadsIdeal.τ Cert.KernelHeadsIdeal.sig) → Buf (Elt Ideal) ℓ) : Prop :=
  True

def Pre_KernelHeadsIdeal_heads_finite [hPre_heads_finite : Cert.Pre_heads_finite.Facts] (m : (ℓ : Loc Cert.KernelHeadsIdeal.nD Cert.KernelHeadsIdeal.τ Cert.KernelHeadsIdeal.sig) → Buf (Elt Ideal) ℓ) : Prop :=
  ∀ c : Dev Cert.KernelHeadsIdeal.nD,
    (Cert.Pre_heads_finite.fn (F := Ideal) (m ((c.tc : Thread Cert.KernelHeadsIdeal.nD Cert.KernelHeadsIdeal.τ).loc Cert.KernelHeadsIdeal.main_arg0)) (m ((c.tc : Thread Cert.KernelHeadsIdeal.nD Cert.KernelHeadsIdeal.τ).loc Cert.KernelHeadsIdeal.main_arg1)) (m ((c.tc : Thread Cert.KernelHeadsIdeal.nD Cert.KernelHeadsIdeal.τ).loc Cert.KernelHeadsIdeal.main_arg2))) = (fun _ => 1#1)

def Pre_ReferenceHeadsIdeal (m : (ℓ : Loc Cert.ReferenceHeadsIdeal.nD Cert.ReferenceHeadsIdeal.τ Cert.ReferenceHeadsIdeal.sig) → Buf (Elt Ideal) ℓ) : Prop :=
  True

def Pre_ReferenceHeadsIdeal_heads_finite [hPre_heads_finite : Cert.Pre_heads_finite.Facts] (m : (ℓ : Loc Cert.ReferenceHeadsIdeal.nD Cert.ReferenceHeadsIdeal.τ Cert.ReferenceHeadsIdeal.sig) → Buf (Elt Ideal) ℓ) : Prop :=
  ∀ c : Dev Cert.ReferenceHeadsIdeal.nD,
    (Cert.Pre_heads_finite.fn (F := Ideal) (m ((c.tc : Thread Cert.ReferenceHeadsIdeal.nD Cert.ReferenceHeadsIdeal.τ).loc Cert.ReferenceHeadsIdeal.main_arg0)) (m ((c.tc : Thread Cert.ReferenceHeadsIdeal.nD Cert.ReferenceHeadsIdeal.τ).loc Cert.ReferenceHeadsIdeal.main_arg1)) (m ((c.tc : Thread Cert.ReferenceHeadsIdeal.nD Cert.ReferenceHeadsIdeal.τ).loc Cert.ReferenceHeadsIdeal.main_arg2))) = (fun _ => 1#1)

def quiescent_KernelZoh [hKernelZoh : Cert.KernelZoh.Facts] : Prop :=
  ∀ (m : (ℓ : Loc Cert.KernelZoh.nD Cert.KernelZoh.τ Cert.KernelZoh.sig) → Buf (Elt Bits) ℓ) (g : Dev Cert.KernelZoh.nD → PrngReg), Pre_KernelZoh m →
    θ_run (Cert.KernelZoh.defs (F := Bits)) (onTc (τ := Cert.KernelZoh.τ) (Cert.KernelZoh.main (F := Bits))) ⟨m, fun _ => 0, g⟩ (fun r => (∀ c : Dev Cert.KernelZoh.nD,
      r.2.mem ((c.tc : Thread Cert.KernelZoh.nD Cert.KernelZoh.τ).loc Cert.KernelZoh.main_arg0) = m ((c.tc : Thread Cert.KernelZoh.nD Cert.KernelZoh.τ).loc Cert.KernelZoh.main_arg0)
      ∧ r.2.mem ((c.tc : Thread Cert.KernelZoh.nD Cert.KernelZoh.τ).loc Cert.KernelZoh.main_arg1) = m ((c.tc : Thread Cert.KernelZoh.nD Cert.KernelZoh.τ).loc Cert.KernelZoh.main_arg1)
      ∧ r.2.mem ((c.tc : Thread Cert.KernelZoh.nD Cert.KernelZoh.τ).loc Cert.KernelZoh.main_arg2) = m ((c.tc : Thread Cert.KernelZoh.nD Cert.KernelZoh.τ).loc Cert.KernelZoh.main_arg2)
      ∧ r.2.mem ((c.tc : Thread Cert.KernelZoh.nD Cert.KernelZoh.τ).loc Cert.KernelZoh.main_arg3) = m ((c.tc : Thread Cert.KernelZoh.nD Cert.KernelZoh.τ).loc Cert.KernelZoh.main_arg3)
      ∧ r.2.mem ((c.tc : Thread Cert.KernelZoh.nD Cert.KernelZoh.τ).loc Cert.KernelZoh.main_arg4) = m ((c.tc : Thread Cert.KernelZoh.nD Cert.KernelZoh.τ).loc Cert.KernelZoh.main_arg4)
      ∧ r.2.mem ((c.tc : Thread Cert.KernelZoh.nD Cert.KernelZoh.τ).loc Cert.KernelZoh.main_arg5) = m ((c.tc : Thread Cert.KernelZoh.nD Cert.KernelZoh.τ).loc Cert.KernelZoh.main_arg5)
      ∧ r.2.mem ((c.tc : Thread Cert.KernelZoh.nD Cert.KernelZoh.τ).loc Cert.KernelZoh.main_arg6) = m ((c.tc : Thread Cert.KernelZoh.nD Cert.KernelZoh.τ).loc Cert.KernelZoh.main_arg6)
      ∧ r.2.mem ((c.tc : Thread Cert.KernelZoh.nD Cert.KernelZoh.τ).loc Cert.KernelZoh.main_arg7) = m ((c.tc : Thread Cert.KernelZoh.nD Cert.KernelZoh.τ).loc Cert.KernelZoh.main_arg7)
      ∧ r.2.mem ((c.tc : Thread Cert.KernelZoh.nD Cert.KernelZoh.τ).loc Cert.KernelZoh.main_arg8) = m ((c.tc : Thread Cert.KernelZoh.nD Cert.KernelZoh.τ).loc Cert.KernelZoh.main_arg8))
      ∧ r.2.sem = fun _ => 0)

def quiescent_KernelZohIdeal [hKernelZohIdeal : Cert.KernelZohIdeal.Facts] : Prop :=
  ∀ (m : (ℓ : Loc Cert.KernelZohIdeal.nD Cert.KernelZohIdeal.τ Cert.KernelZohIdeal.sig) → Buf (Elt Ideal) ℓ) (g : Dev Cert.KernelZohIdeal.nD → PrngReg), Pre_KernelZohIdeal m →
    θ_run (Cert.KernelZohIdeal.defs (F := Ideal)) (onTc (τ := Cert.KernelZohIdeal.τ) (Cert.KernelZohIdeal.main (F := Ideal))) ⟨m, fun _ => 0, g⟩ (fun r => (∀ c : Dev Cert.KernelZohIdeal.nD,
      r.2.mem ((c.tc : Thread Cert.KernelZohIdeal.nD Cert.KernelZohIdeal.τ).loc Cert.KernelZohIdeal.main_arg0) = m ((c.tc : Thread Cert.KernelZohIdeal.nD Cert.KernelZohIdeal.τ).loc Cert.KernelZohIdeal.main_arg0)
      ∧ r.2.mem ((c.tc : Thread Cert.KernelZohIdeal.nD Cert.KernelZohIdeal.τ).loc Cert.KernelZohIdeal.main_arg1) = m ((c.tc : Thread Cert.KernelZohIdeal.nD Cert.KernelZohIdeal.τ).loc Cert.KernelZohIdeal.main_arg1)
      ∧ r.2.mem ((c.tc : Thread Cert.KernelZohIdeal.nD Cert.KernelZohIdeal.τ).loc Cert.KernelZohIdeal.main_arg2) = m ((c.tc : Thread Cert.KernelZohIdeal.nD Cert.KernelZohIdeal.τ).loc Cert.KernelZohIdeal.main_arg2)
      ∧ r.2.mem ((c.tc : Thread Cert.KernelZohIdeal.nD Cert.KernelZohIdeal.τ).loc Cert.KernelZohIdeal.main_arg3) = m ((c.tc : Thread Cert.KernelZohIdeal.nD Cert.KernelZohIdeal.τ).loc Cert.KernelZohIdeal.main_arg3)
      ∧ r.2.mem ((c.tc : Thread Cert.KernelZohIdeal.nD Cert.KernelZohIdeal.τ).loc Cert.KernelZohIdeal.main_arg4) = m ((c.tc : Thread Cert.KernelZohIdeal.nD Cert.KernelZohIdeal.τ).loc Cert.KernelZohIdeal.main_arg4)
      ∧ r.2.mem ((c.tc : Thread Cert.KernelZohIdeal.nD Cert.KernelZohIdeal.τ).loc Cert.KernelZohIdeal.main_arg5) = m ((c.tc : Thread Cert.KernelZohIdeal.nD Cert.KernelZohIdeal.τ).loc Cert.KernelZohIdeal.main_arg5)
      ∧ r.2.mem ((c.tc : Thread Cert.KernelZohIdeal.nD Cert.KernelZohIdeal.τ).loc Cert.KernelZohIdeal.main_arg6) = m ((c.tc : Thread Cert.KernelZohIdeal.nD Cert.KernelZohIdeal.τ).loc Cert.KernelZohIdeal.main_arg6)
      ∧ r.2.mem ((c.tc : Thread Cert.KernelZohIdeal.nD Cert.KernelZohIdeal.τ).loc Cert.KernelZohIdeal.main_arg7) = m ((c.tc : Thread Cert.KernelZohIdeal.nD Cert.KernelZohIdeal.τ).loc Cert.KernelZohIdeal.main_arg7)
      ∧ r.2.mem ((c.tc : Thread Cert.KernelZohIdeal.nD Cert.KernelZohIdeal.τ).loc Cert.KernelZohIdeal.main_arg8) = m ((c.tc : Thread Cert.KernelZohIdeal.nD Cert.KernelZohIdeal.τ).loc Cert.KernelZohIdeal.main_arg8))
      ∧ r.2.sem = fun _ => 0)

def quiescent_KernelZohIdeal_pre_zoh_finite [hKernelZohIdeal : Cert.KernelZohIdeal.Facts] [hPre_zoh_finite : Cert.Pre_zoh_finite.Facts] : Prop :=
  ∀ (m : (ℓ : Loc Cert.KernelZohIdeal.nD Cert.KernelZohIdeal.τ Cert.KernelZohIdeal.sig) → Buf (Elt Ideal) ℓ) (g : Dev Cert.KernelZohIdeal.nD → PrngReg), Pre_KernelZohIdeal_zoh_finite m →
    θ_run (Cert.KernelZohIdeal.defs (F := Ideal)) (onTc (τ := Cert.KernelZohIdeal.τ) (Cert.KernelZohIdeal.main (F := Ideal))) ⟨m, fun _ => 0, g⟩ (fun r => (∀ c : Dev Cert.KernelZohIdeal.nD,
      r.2.mem ((c.tc : Thread Cert.KernelZohIdeal.nD Cert.KernelZohIdeal.τ).loc Cert.KernelZohIdeal.main_arg0) = m ((c.tc : Thread Cert.KernelZohIdeal.nD Cert.KernelZohIdeal.τ).loc Cert.KernelZohIdeal.main_arg0)
      ∧ r.2.mem ((c.tc : Thread Cert.KernelZohIdeal.nD Cert.KernelZohIdeal.τ).loc Cert.KernelZohIdeal.main_arg1) = m ((c.tc : Thread Cert.KernelZohIdeal.nD Cert.KernelZohIdeal.τ).loc Cert.KernelZohIdeal.main_arg1)
      ∧ r.2.mem ((c.tc : Thread Cert.KernelZohIdeal.nD Cert.KernelZohIdeal.τ).loc Cert.KernelZohIdeal.main_arg2) = m ((c.tc : Thread Cert.KernelZohIdeal.nD Cert.KernelZohIdeal.τ).loc Cert.KernelZohIdeal.main_arg2)
      ∧ r.2.mem ((c.tc : Thread Cert.KernelZohIdeal.nD Cert.KernelZohIdeal.τ).loc Cert.KernelZohIdeal.main_arg3) = m ((c.tc : Thread Cert.KernelZohIdeal.nD Cert.KernelZohIdeal.τ).loc Cert.KernelZohIdeal.main_arg3)
      ∧ r.2.mem ((c.tc : Thread Cert.KernelZohIdeal.nD Cert.KernelZohIdeal.τ).loc Cert.KernelZohIdeal.main_arg4) = m ((c.tc : Thread Cert.KernelZohIdeal.nD Cert.KernelZohIdeal.τ).loc Cert.KernelZohIdeal.main_arg4)
      ∧ r.2.mem ((c.tc : Thread Cert.KernelZohIdeal.nD Cert.KernelZohIdeal.τ).loc Cert.KernelZohIdeal.main_arg5) = m ((c.tc : Thread Cert.KernelZohIdeal.nD Cert.KernelZohIdeal.τ).loc Cert.KernelZohIdeal.main_arg5)
      ∧ r.2.mem ((c.tc : Thread Cert.KernelZohIdeal.nD Cert.KernelZohIdeal.τ).loc Cert.KernelZohIdeal.main_arg6) = m ((c.tc : Thread Cert.KernelZohIdeal.nD Cert.KernelZohIdeal.τ).loc Cert.KernelZohIdeal.main_arg6)
      ∧ r.2.mem ((c.tc : Thread Cert.KernelZohIdeal.nD Cert.KernelZohIdeal.τ).loc Cert.KernelZohIdeal.main_arg7) = m ((c.tc : Thread Cert.KernelZohIdeal.nD Cert.KernelZohIdeal.τ).loc Cert.KernelZohIdeal.main_arg7)
      ∧ r.2.mem ((c.tc : Thread Cert.KernelZohIdeal.nD Cert.KernelZohIdeal.τ).loc Cert.KernelZohIdeal.main_arg8) = m ((c.tc : Thread Cert.KernelZohIdeal.nD Cert.KernelZohIdeal.τ).loc Cert.KernelZohIdeal.main_arg8))
      ∧ r.2.sem = fun _ => 0)

def quiescent_ReferenceZohIdeal [hReferenceZohIdeal : Cert.ReferenceZohIdeal.Facts] : Prop :=
  ∀ (m : (ℓ : Loc Cert.ReferenceZohIdeal.nD Cert.ReferenceZohIdeal.τ Cert.ReferenceZohIdeal.sig) → Buf (Elt Ideal) ℓ) (g : Dev Cert.ReferenceZohIdeal.nD → PrngReg), Pre_ReferenceZohIdeal m →
    θ_run (Cert.ReferenceZohIdeal.defs (F := Ideal)) (onTc (τ := Cert.ReferenceZohIdeal.τ) (Cert.ReferenceZohIdeal.main (F := Ideal))) ⟨m, fun _ => 0, g⟩ (fun r => (∀ c : Dev Cert.ReferenceZohIdeal.nD,
      r.2.mem ((c.tc : Thread Cert.ReferenceZohIdeal.nD Cert.ReferenceZohIdeal.τ).loc Cert.ReferenceZohIdeal.main_arg0) = m ((c.tc : Thread Cert.ReferenceZohIdeal.nD Cert.ReferenceZohIdeal.τ).loc Cert.ReferenceZohIdeal.main_arg0)
      ∧ r.2.mem ((c.tc : Thread Cert.ReferenceZohIdeal.nD Cert.ReferenceZohIdeal.τ).loc Cert.ReferenceZohIdeal.main_arg1) = m ((c.tc : Thread Cert.ReferenceZohIdeal.nD Cert.ReferenceZohIdeal.τ).loc Cert.ReferenceZohIdeal.main_arg1)
      ∧ r.2.mem ((c.tc : Thread Cert.ReferenceZohIdeal.nD Cert.ReferenceZohIdeal.τ).loc Cert.ReferenceZohIdeal.main_arg2) = m ((c.tc : Thread Cert.ReferenceZohIdeal.nD Cert.ReferenceZohIdeal.τ).loc Cert.ReferenceZohIdeal.main_arg2)
      ∧ r.2.mem ((c.tc : Thread Cert.ReferenceZohIdeal.nD Cert.ReferenceZohIdeal.τ).loc Cert.ReferenceZohIdeal.main_arg3) = m ((c.tc : Thread Cert.ReferenceZohIdeal.nD Cert.ReferenceZohIdeal.τ).loc Cert.ReferenceZohIdeal.main_arg3)
      ∧ r.2.mem ((c.tc : Thread Cert.ReferenceZohIdeal.nD Cert.ReferenceZohIdeal.τ).loc Cert.ReferenceZohIdeal.main_arg4) = m ((c.tc : Thread Cert.ReferenceZohIdeal.nD Cert.ReferenceZohIdeal.τ).loc Cert.ReferenceZohIdeal.main_arg4)
      ∧ r.2.mem ((c.tc : Thread Cert.ReferenceZohIdeal.nD Cert.ReferenceZohIdeal.τ).loc Cert.ReferenceZohIdeal.main_arg5) = m ((c.tc : Thread Cert.ReferenceZohIdeal.nD Cert.ReferenceZohIdeal.τ).loc Cert.ReferenceZohIdeal.main_arg5)
      ∧ r.2.mem ((c.tc : Thread Cert.ReferenceZohIdeal.nD Cert.ReferenceZohIdeal.τ).loc Cert.ReferenceZohIdeal.main_arg6) = m ((c.tc : Thread Cert.ReferenceZohIdeal.nD Cert.ReferenceZohIdeal.τ).loc Cert.ReferenceZohIdeal.main_arg6)
      ∧ r.2.mem ((c.tc : Thread Cert.ReferenceZohIdeal.nD Cert.ReferenceZohIdeal.τ).loc Cert.ReferenceZohIdeal.main_arg7) = m ((c.tc : Thread Cert.ReferenceZohIdeal.nD Cert.ReferenceZohIdeal.τ).loc Cert.ReferenceZohIdeal.main_arg7)
      ∧ r.2.mem ((c.tc : Thread Cert.ReferenceZohIdeal.nD Cert.ReferenceZohIdeal.τ).loc Cert.ReferenceZohIdeal.main_arg8) = m ((c.tc : Thread Cert.ReferenceZohIdeal.nD Cert.ReferenceZohIdeal.τ).loc Cert.ReferenceZohIdeal.main_arg8))
      ∧ r.2.sem = fun _ => 0)

def quiescent_ReferenceZohIdeal_pre_zoh_finite [hReferenceZohIdeal : Cert.ReferenceZohIdeal.Facts] [hPre_zoh_finite : Cert.Pre_zoh_finite.Facts] : Prop :=
  ∀ (m : (ℓ : Loc Cert.ReferenceZohIdeal.nD Cert.ReferenceZohIdeal.τ Cert.ReferenceZohIdeal.sig) → Buf (Elt Ideal) ℓ) (g : Dev Cert.ReferenceZohIdeal.nD → PrngReg), Pre_ReferenceZohIdeal_zoh_finite m →
    θ_run (Cert.ReferenceZohIdeal.defs (F := Ideal)) (onTc (τ := Cert.ReferenceZohIdeal.τ) (Cert.ReferenceZohIdeal.main (F := Ideal))) ⟨m, fun _ => 0, g⟩ (fun r => (∀ c : Dev Cert.ReferenceZohIdeal.nD,
      r.2.mem ((c.tc : Thread Cert.ReferenceZohIdeal.nD Cert.ReferenceZohIdeal.τ).loc Cert.ReferenceZohIdeal.main_arg0) = m ((c.tc : Thread Cert.ReferenceZohIdeal.nD Cert.ReferenceZohIdeal.τ).loc Cert.ReferenceZohIdeal.main_arg0)
      ∧ r.2.mem ((c.tc : Thread Cert.ReferenceZohIdeal.nD Cert.ReferenceZohIdeal.τ).loc Cert.ReferenceZohIdeal.main_arg1) = m ((c.tc : Thread Cert.ReferenceZohIdeal.nD Cert.ReferenceZohIdeal.τ).loc Cert.ReferenceZohIdeal.main_arg1)
      ∧ r.2.mem ((c.tc : Thread Cert.ReferenceZohIdeal.nD Cert.ReferenceZohIdeal.τ).loc Cert.ReferenceZohIdeal.main_arg2) = m ((c.tc : Thread Cert.ReferenceZohIdeal.nD Cert.ReferenceZohIdeal.τ).loc Cert.ReferenceZohIdeal.main_arg2)
      ∧ r.2.mem ((c.tc : Thread Cert.ReferenceZohIdeal.nD Cert.ReferenceZohIdeal.τ).loc Cert.ReferenceZohIdeal.main_arg3) = m ((c.tc : Thread Cert.ReferenceZohIdeal.nD Cert.ReferenceZohIdeal.τ).loc Cert.ReferenceZohIdeal.main_arg3)
      ∧ r.2.mem ((c.tc : Thread Cert.ReferenceZohIdeal.nD Cert.ReferenceZohIdeal.τ).loc Cert.ReferenceZohIdeal.main_arg4) = m ((c.tc : Thread Cert.ReferenceZohIdeal.nD Cert.ReferenceZohIdeal.τ).loc Cert.ReferenceZohIdeal.main_arg4)
      ∧ r.2.mem ((c.tc : Thread Cert.ReferenceZohIdeal.nD Cert.ReferenceZohIdeal.τ).loc Cert.ReferenceZohIdeal.main_arg5) = m ((c.tc : Thread Cert.ReferenceZohIdeal.nD Cert.ReferenceZohIdeal.τ).loc Cert.ReferenceZohIdeal.main_arg5)
      ∧ r.2.mem ((c.tc : Thread Cert.ReferenceZohIdeal.nD Cert.ReferenceZohIdeal.τ).loc Cert.ReferenceZohIdeal.main_arg6) = m ((c.tc : Thread Cert.ReferenceZohIdeal.nD Cert.ReferenceZohIdeal.τ).loc Cert.ReferenceZohIdeal.main_arg6)
      ∧ r.2.mem ((c.tc : Thread Cert.ReferenceZohIdeal.nD Cert.ReferenceZohIdeal.τ).loc Cert.ReferenceZohIdeal.main_arg7) = m ((c.tc : Thread Cert.ReferenceZohIdeal.nD Cert.ReferenceZohIdeal.τ).loc Cert.ReferenceZohIdeal.main_arg7)
      ∧ r.2.mem ((c.tc : Thread Cert.ReferenceZohIdeal.nD Cert.ReferenceZohIdeal.τ).loc Cert.ReferenceZohIdeal.main_arg8) = m ((c.tc : Thread Cert.ReferenceZohIdeal.nD Cert.ReferenceZohIdeal.τ).loc Cert.ReferenceZohIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelIndx [hKernelIndx : Cert.KernelIndx.Facts] : Prop :=
  ∀ (m : (ℓ : Loc Cert.KernelIndx.nD Cert.KernelIndx.τ Cert.KernelIndx.sig) → Buf (Elt Bits) ℓ) (g : Dev Cert.KernelIndx.nD → PrngReg), Pre_KernelIndx m →
    θ_run (Cert.KernelIndx.defs (F := Bits)) (onTc (τ := Cert.KernelIndx.τ) (Cert.KernelIndx.main (F := Bits))) ⟨m, fun _ => 0, g⟩ (fun r => (∀ c : Dev Cert.KernelIndx.nD,
      r.2.mem ((c.tc : Thread Cert.KernelIndx.nD Cert.KernelIndx.τ).loc Cert.KernelIndx.main_arg0) = m ((c.tc : Thread Cert.KernelIndx.nD Cert.KernelIndx.τ).loc Cert.KernelIndx.main_arg0)
      ∧ r.2.mem ((c.tc : Thread Cert.KernelIndx.nD Cert.KernelIndx.τ).loc Cert.KernelIndx.main_arg1) = m ((c.tc : Thread Cert.KernelIndx.nD Cert.KernelIndx.τ).loc Cert.KernelIndx.main_arg1)
      ∧ r.2.mem ((c.tc : Thread Cert.KernelIndx.nD Cert.KernelIndx.τ).loc Cert.KernelIndx.main_arg2) = m ((c.tc : Thread Cert.KernelIndx.nD Cert.KernelIndx.τ).loc Cert.KernelIndx.main_arg2)
      ∧ r.2.mem ((c.tc : Thread Cert.KernelIndx.nD Cert.KernelIndx.τ).loc Cert.KernelIndx.main_arg3) = m ((c.tc : Thread Cert.KernelIndx.nD Cert.KernelIndx.τ).loc Cert.KernelIndx.main_arg3)
      ∧ r.2.mem ((c.tc : Thread Cert.KernelIndx.nD Cert.KernelIndx.τ).loc Cert.KernelIndx.main_arg4) = m ((c.tc : Thread Cert.KernelIndx.nD Cert.KernelIndx.τ).loc Cert.KernelIndx.main_arg4)
      ∧ r.2.mem ((c.tc : Thread Cert.KernelIndx.nD Cert.KernelIndx.τ).loc Cert.KernelIndx.main_arg5) = m ((c.tc : Thread Cert.KernelIndx.nD Cert.KernelIndx.τ).loc Cert.KernelIndx.main_arg5))
      ∧ r.2.sem = fun _ => 0)

def quiescent_KernelIndxIdeal [hKernelIndxIdeal : Cert.KernelIndxIdeal.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg), Pre_KernelIndxIdeal m →
    θ_run (Cert.KernelIndxIdeal.defs (F := Ideal)) (onTc (τ := Cert.KernelIndxIdeal.τ) (Cert.KernelIndxIdeal.main (F := Ideal))) ⟨m, fun _ => 0, g⟩ (fun r => (∀ c : Dev Cert.KernelIndxIdeal.nD,
      r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
      ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
      ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
      ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
      ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4)
      ∧ r.2.mem ((c.tc : Thread Cert.KernelIndxIdeal.nD Cert.KernelIndxIdeal.τ).loc Cert.KernelIndxIdeal.main_arg5) = m ((c.tc : Thread Cert.KernelIndxIdeal.nD Cert.KernelIndxIdeal.τ).loc Cert.KernelIndxIdeal.main_arg5))
      ∧ r.2.sem = fun _ => 0)

def quiescent_KernelIndxIdeal_pre_indx_finite [hKernelIndxIdeal : Cert.KernelIndxIdeal.Facts] [hPre_indx_finite : Cert.Pre_indx_finite.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg), Pre_KernelIndxIdeal_indx_finite m →
    θ_run (Cert.KernelIndxIdeal.defs (F := Ideal)) (onTc (τ := Cert.KernelIndxIdeal.τ) (Cert.KernelIndxIdeal.main (F := Ideal))) ⟨m, fun _ => 0, g⟩ (fun r => (∀ c : Dev Cert.KernelIndxIdeal.nD,
      r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
      ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
      ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
      ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
      ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4)
      ∧ r.2.mem ((c.tc : Thread Cert.KernelIndxIdeal.nD Cert.KernelIndxIdeal.τ).loc Cert.KernelIndxIdeal.main_arg5) = m ((c.tc : Thread Cert.KernelIndxIdeal.nD Cert.KernelIndxIdeal.τ).loc Cert.KernelIndxIdeal.main_arg5))
      ∧ r.2.sem = fun _ => 0)

def quiescent_ReferenceIndxIdeal [hReferenceIndxIdeal : Cert.ReferenceIndxIdeal.Facts] : Prop :=
  ∀ (m : (ℓ : Loc Cert.ReferenceIndxIdeal.nD Cert.ReferenceIndxIdeal.τ Cert.ReferenceIndxIdeal.sig) → Buf (Elt Ideal) ℓ) (g : Dev Cert.ReferenceIndxIdeal.nD → PrngReg), Pre_ReferenceIndxIdeal m →
    θ_run (Cert.ReferenceIndxIdeal.defs (F := Ideal)) (onTc (τ := Cert.ReferenceIndxIdeal.τ) (Cert.ReferenceIndxIdeal.main (F := Ideal))) ⟨m, fun _ => 0, g⟩ (fun r => (∀ c : Dev Cert.ReferenceIndxIdeal.nD,
      r.2.mem ((c.tc : Thread Cert.ReferenceIndxIdeal.nD Cert.ReferenceIndxIdeal.τ).loc Cert.ReferenceIndxIdeal.main_arg0) = m ((c.tc : Thread Cert.ReferenceIndxIdeal.nD Cert.ReferenceIndxIdeal.τ).loc Cert.ReferenceIndxIdeal.main_arg0)
      ∧ r.2.mem ((c.tc : Thread Cert.ReferenceIndxIdeal.nD Cert.ReferenceIndxIdeal.τ).loc Cert.ReferenceIndxIdeal.main_arg1) = m ((c.tc : Thread Cert.ReferenceIndxIdeal.nD Cert.ReferenceIndxIdeal.τ).loc Cert.ReferenceIndxIdeal.main_arg1)
      ∧ r.2.mem ((c.tc : Thread Cert.ReferenceIndxIdeal.nD Cert.ReferenceIndxIdeal.τ).loc Cert.ReferenceIndxIdeal.main_arg2) = m ((c.tc : Thread Cert.ReferenceIndxIdeal.nD Cert.ReferenceIndxIdeal.τ).loc Cert.ReferenceIndxIdeal.main_arg2)
      ∧ r.2.mem ((c.tc : Thread Cert.ReferenceIndxIdeal.nD Cert.ReferenceIndxIdeal.τ).loc Cert.ReferenceIndxIdeal.main_arg3) = m ((c.tc : Thread Cert.ReferenceIndxIdeal.nD Cert.ReferenceIndxIdeal.τ).loc Cert.ReferenceIndxIdeal.main_arg3)
      ∧ r.2.mem ((c.tc : Thread Cert.ReferenceIndxIdeal.nD Cert.ReferenceIndxIdeal.τ).loc Cert.ReferenceIndxIdeal.main_arg4) = m ((c.tc : Thread Cert.ReferenceIndxIdeal.nD Cert.ReferenceIndxIdeal.τ).loc Cert.ReferenceIndxIdeal.main_arg4)
      ∧ r.2.mem ((c.tc : Thread Cert.ReferenceIndxIdeal.nD Cert.ReferenceIndxIdeal.τ).loc Cert.ReferenceIndxIdeal.main_arg5) = m ((c.tc : Thread Cert.ReferenceIndxIdeal.nD Cert.ReferenceIndxIdeal.τ).loc Cert.ReferenceIndxIdeal.main_arg5))
      ∧ r.2.sem = fun _ => 0)

def quiescent_ReferenceIndxIdeal_pre_indx_finite [hReferenceIndxIdeal : Cert.ReferenceIndxIdeal.Facts] [hPre_indx_finite : Cert.Pre_indx_finite.Facts] : Prop :=
  ∀ (m : (ℓ : Loc Cert.ReferenceIndxIdeal.nD Cert.ReferenceIndxIdeal.τ Cert.ReferenceIndxIdeal.sig) → Buf (Elt Ideal) ℓ) (g : Dev Cert.ReferenceIndxIdeal.nD → PrngReg), Pre_ReferenceIndxIdeal_indx_finite m →
    θ_run (Cert.ReferenceIndxIdeal.defs (F := Ideal)) (onTc (τ := Cert.ReferenceIndxIdeal.τ) (Cert.ReferenceIndxIdeal.main (F := Ideal))) ⟨m, fun _ => 0, g⟩ (fun r => (∀ c : Dev Cert.ReferenceIndxIdeal.nD,
      r.2.mem ((c.tc : Thread Cert.ReferenceIndxIdeal.nD Cert.ReferenceIndxIdeal.τ).loc Cert.ReferenceIndxIdeal.main_arg0) = m ((c.tc : Thread Cert.ReferenceIndxIdeal.nD Cert.ReferenceIndxIdeal.τ).loc Cert.ReferenceIndxIdeal.main_arg0)
      ∧ r.2.mem ((c.tc : Thread Cert.ReferenceIndxIdeal.nD Cert.ReferenceIndxIdeal.τ).loc Cert.ReferenceIndxIdeal.main_arg1) = m ((c.tc : Thread Cert.ReferenceIndxIdeal.nD Cert.ReferenceIndxIdeal.τ).loc Cert.ReferenceIndxIdeal.main_arg1)
      ∧ r.2.mem ((c.tc : Thread Cert.ReferenceIndxIdeal.nD Cert.ReferenceIndxIdeal.τ).loc Cert.ReferenceIndxIdeal.main_arg2) = m ((c.tc : Thread Cert.ReferenceIndxIdeal.nD Cert.ReferenceIndxIdeal.τ).loc Cert.ReferenceIndxIdeal.main_arg2)
      ∧ r.2.mem ((c.tc : Thread Cert.ReferenceIndxIdeal.nD Cert.ReferenceIndxIdeal.τ).loc Cert.ReferenceIndxIdeal.main_arg3) = m ((c.tc : Thread Cert.ReferenceIndxIdeal.nD Cert.ReferenceIndxIdeal.τ).loc Cert.ReferenceIndxIdeal.main_arg3)
      ∧ r.2.mem ((c.tc : Thread Cert.ReferenceIndxIdeal.nD Cert.ReferenceIndxIdeal.τ).loc Cert.ReferenceIndxIdeal.main_arg4) = m ((c.tc : Thread Cert.ReferenceIndxIdeal.nD Cert.ReferenceIndxIdeal.τ).loc Cert.ReferenceIndxIdeal.main_arg4)
      ∧ r.2.mem ((c.tc : Thread Cert.ReferenceIndxIdeal.nD Cert.ReferenceIndxIdeal.τ).loc Cert.ReferenceIndxIdeal.main_arg5) = m ((c.tc : Thread Cert.ReferenceIndxIdeal.nD Cert.ReferenceIndxIdeal.τ).loc Cert.ReferenceIndxIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_KernelLossIdeal_pre_loss_finite [hKernelLossIdeal : Cert.KernelLossIdeal.Facts] [hPre_loss_finite : Cert.Pre_loss_finite.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_loss_finite m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_ReferenceLossIdeal_pre_loss_finite [hReferenceLossIdeal : Cert.ReferenceLossIdeal.Facts] [hPre_loss_finite : Cert.Pre_loss_finite.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_loss_finite m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelGatedx [hKernelGatedx : Cert.KernelGatedx.Facts] : Prop :=
  ∀ (m : (ℓ : Loc Cert.KernelGatedx.nD Cert.KernelGatedx.τ Cert.KernelGatedx.sig) → Buf (Elt Bits) ℓ) (g : Dev Cert.KernelGatedx.nD → PrngReg), Pre_KernelGatedx m →
    θ_run (Cert.KernelGatedx.defs (F := Bits)) (onTc (τ := Cert.KernelGatedx.τ) (Cert.KernelGatedx.main (F := Bits))) ⟨m, fun _ => 0, g⟩ (fun r => (∀ c : Dev Cert.KernelGatedx.nD,
      r.2.mem ((c.tc : Thread Cert.KernelGatedx.nD Cert.KernelGatedx.τ).loc Cert.KernelGatedx.main_arg0) = m ((c.tc : Thread Cert.KernelGatedx.nD Cert.KernelGatedx.τ).loc Cert.KernelGatedx.main_arg0)
      ∧ r.2.mem ((c.tc : Thread Cert.KernelGatedx.nD Cert.KernelGatedx.τ).loc Cert.KernelGatedx.main_arg1) = m ((c.tc : Thread Cert.KernelGatedx.nD Cert.KernelGatedx.τ).loc Cert.KernelGatedx.main_arg1)
      ∧ r.2.mem ((c.tc : Thread Cert.KernelGatedx.nD Cert.KernelGatedx.τ).loc Cert.KernelGatedx.main_arg2) = m ((c.tc : Thread Cert.KernelGatedx.nD Cert.KernelGatedx.τ).loc Cert.KernelGatedx.main_arg2)
      ∧ r.2.mem ((c.tc : Thread Cert.KernelGatedx.nD Cert.KernelGatedx.τ).loc Cert.KernelGatedx.main_arg3) = m ((c.tc : Thread Cert.KernelGatedx.nD Cert.KernelGatedx.τ).loc Cert.KernelGatedx.main_arg3)
      ∧ r.2.mem ((c.tc : Thread Cert.KernelGatedx.nD Cert.KernelGatedx.τ).loc Cert.KernelGatedx.main_arg4) = m ((c.tc : Thread Cert.KernelGatedx.nD Cert.KernelGatedx.τ).loc Cert.KernelGatedx.main_arg4))
      ∧ r.2.sem = fun _ => 0)

def quiescent_KernelGatedxIdeal [hKernelGatedxIdeal : Cert.KernelGatedxIdeal.Facts] : Prop :=
  ∀ (m : (ℓ : Loc Cert.KernelGatedxIdeal.nD Cert.KernelGatedxIdeal.τ Cert.KernelGatedxIdeal.sig) → Buf (Elt Ideal) ℓ) (g : Dev Cert.KernelGatedxIdeal.nD → PrngReg), Pre_KernelGatedxIdeal m →
    θ_run (Cert.KernelGatedxIdeal.defs (F := Ideal)) (onTc (τ := Cert.KernelGatedxIdeal.τ) (Cert.KernelGatedxIdeal.main (F := Ideal))) ⟨m, fun _ => 0, g⟩ (fun r => (∀ c : Dev Cert.KernelGatedxIdeal.nD,
      r.2.mem ((c.tc : Thread Cert.KernelGatedxIdeal.nD Cert.KernelGatedxIdeal.τ).loc Cert.KernelGatedxIdeal.main_arg0) = m ((c.tc : Thread Cert.KernelGatedxIdeal.nD Cert.KernelGatedxIdeal.τ).loc Cert.KernelGatedxIdeal.main_arg0)
      ∧ r.2.mem ((c.tc : Thread Cert.KernelGatedxIdeal.nD Cert.KernelGatedxIdeal.τ).loc Cert.KernelGatedxIdeal.main_arg1) = m ((c.tc : Thread Cert.KernelGatedxIdeal.nD Cert.KernelGatedxIdeal.τ).loc Cert.KernelGatedxIdeal.main_arg1)
      ∧ r.2.mem ((c.tc : Thread Cert.KernelGatedxIdeal.nD Cert.KernelGatedxIdeal.τ).loc Cert.KernelGatedxIdeal.main_arg2) = m ((c.tc : Thread Cert.KernelGatedxIdeal.nD Cert.KernelGatedxIdeal.τ).loc Cert.KernelGatedxIdeal.main_arg2)
      ∧ r.2.mem ((c.tc : Thread Cert.KernelGatedxIdeal.nD Cert.KernelGatedxIdeal.τ).loc Cert.KernelGatedxIdeal.main_arg3) = m ((c.tc : Thread Cert.KernelGatedxIdeal.nD Cert.KernelGatedxIdeal.τ).loc Cert.KernelGatedxIdeal.main_arg3)
      ∧ r.2.mem ((c.tc : Thread Cert.KernelGatedxIdeal.nD Cert.KernelGatedxIdeal.τ).loc Cert.KernelGatedxIdeal.main_arg4) = m ((c.tc : Thread Cert.KernelGatedxIdeal.nD Cert.KernelGatedxIdeal.τ).loc Cert.KernelGatedxIdeal.main_arg4))
      ∧ r.2.sem = fun _ => 0)

def quiescent_KernelGatedxIdeal_pre_gatedx_finite [hKernelGatedxIdeal : Cert.KernelGatedxIdeal.Facts] [hPre_gatedx_finite : Cert.Pre_gatedx_finite.Facts] : Prop :=
  ∀ (m : (ℓ : Loc Cert.KernelGatedxIdeal.nD Cert.KernelGatedxIdeal.τ Cert.KernelGatedxIdeal.sig) → Buf (Elt Ideal) ℓ) (g : Dev Cert.KernelGatedxIdeal.nD → PrngReg), Pre_KernelGatedxIdeal_gatedx_finite m →
    θ_run (Cert.KernelGatedxIdeal.defs (F := Ideal)) (onTc (τ := Cert.KernelGatedxIdeal.τ) (Cert.KernelGatedxIdeal.main (F := Ideal))) ⟨m, fun _ => 0, g⟩ (fun r => (∀ c : Dev Cert.KernelGatedxIdeal.nD,
      r.2.mem ((c.tc : Thread Cert.KernelGatedxIdeal.nD Cert.KernelGatedxIdeal.τ).loc Cert.KernelGatedxIdeal.main_arg0) = m ((c.tc : Thread Cert.KernelGatedxIdeal.nD Cert.KernelGatedxIdeal.τ).loc Cert.KernelGatedxIdeal.main_arg0)
      ∧ r.2.mem ((c.tc : Thread Cert.KernelGatedxIdeal.nD Cert.KernelGatedxIdeal.τ).loc Cert.KernelGatedxIdeal.main_arg1) = m ((c.tc : Thread Cert.KernelGatedxIdeal.nD Cert.KernelGatedxIdeal.τ).loc Cert.KernelGatedxIdeal.main_arg1)
      ∧ r.2.mem ((c.tc : Thread Cert.KernelGatedxIdeal.nD Cert.KernelGatedxIdeal.τ).loc Cert.KernelGatedxIdeal.main_arg2) = m ((c.tc : Thread Cert.KernelGatedxIdeal.nD Cert.KernelGatedxIdeal.τ).loc Cert.KernelGatedxIdeal.main_arg2)
      ∧ r.2.mem ((c.tc : Thread Cert.KernelGatedxIdeal.nD Cert.KernelGatedxIdeal.τ).loc Cert.KernelGatedxIdeal.main_arg3) = m ((c.tc : Thread Cert.KernelGatedxIdeal.nD Cert.KernelGatedxIdeal.τ).loc Cert.KernelGatedxIdeal.main_arg3)
      ∧ r.2.mem ((c.tc : Thread Cert.KernelGatedxIdeal.nD Cert.KernelGatedxIdeal.τ).loc Cert.KernelGatedxIdeal.main_arg4) = m ((c.tc : Thread Cert.KernelGatedxIdeal.nD Cert.KernelGatedxIdeal.τ).loc Cert.KernelGatedxIdeal.main_arg4))
      ∧ r.2.sem = fun _ => 0)

def quiescent_ReferenceGatedxIdeal [hReferenceGatedxIdeal : Cert.ReferenceGatedxIdeal.Facts] : Prop :=
  ∀ (m : (ℓ : Loc Cert.ReferenceGatedxIdeal.nD Cert.ReferenceGatedxIdeal.τ Cert.ReferenceGatedxIdeal.sig) → Buf (Elt Ideal) ℓ) (g : Dev Cert.ReferenceGatedxIdeal.nD → PrngReg), Pre_ReferenceGatedxIdeal m →
    θ_run (Cert.ReferenceGatedxIdeal.defs (F := Ideal)) (onTc (τ := Cert.ReferenceGatedxIdeal.τ) (Cert.ReferenceGatedxIdeal.main (F := Ideal))) ⟨m, fun _ => 0, g⟩ (fun r => (∀ c : Dev Cert.ReferenceGatedxIdeal.nD,
      r.2.mem ((c.tc : Thread Cert.ReferenceGatedxIdeal.nD Cert.ReferenceGatedxIdeal.τ).loc Cert.ReferenceGatedxIdeal.main_arg0) = m ((c.tc : Thread Cert.ReferenceGatedxIdeal.nD Cert.ReferenceGatedxIdeal.τ).loc Cert.ReferenceGatedxIdeal.main_arg0)
      ∧ r.2.mem ((c.tc : Thread Cert.ReferenceGatedxIdeal.nD Cert.ReferenceGatedxIdeal.τ).loc Cert.ReferenceGatedxIdeal.main_arg1) = m ((c.tc : Thread Cert.ReferenceGatedxIdeal.nD Cert.ReferenceGatedxIdeal.τ).loc Cert.ReferenceGatedxIdeal.main_arg1)
      ∧ r.2.mem ((c.tc : Thread Cert.ReferenceGatedxIdeal.nD Cert.ReferenceGatedxIdeal.τ).loc Cert.ReferenceGatedxIdeal.main_arg2) = m ((c.tc : Thread Cert.ReferenceGatedxIdeal.nD Cert.ReferenceGatedxIdeal.τ).loc Cert.ReferenceGatedxIdeal.main_arg2)
      ∧ r.2.mem ((c.tc : Thread Cert.ReferenceGatedxIdeal.nD Cert.ReferenceGatedxIdeal.τ).loc Cert.ReferenceGatedxIdeal.main_arg3) = m ((c.tc : Thread Cert.ReferenceGatedxIdeal.nD Cert.ReferenceGatedxIdeal.τ).loc Cert.ReferenceGatedxIdeal.main_arg3)
      ∧ r.2.mem ((c.tc : Thread Cert.ReferenceGatedxIdeal.nD Cert.ReferenceGatedxIdeal.τ).loc Cert.ReferenceGatedxIdeal.main_arg4) = m ((c.tc : Thread Cert.ReferenceGatedxIdeal.nD Cert.ReferenceGatedxIdeal.τ).loc Cert.ReferenceGatedxIdeal.main_arg4))
      ∧ r.2.sem = fun _ => 0)

def quiescent_ReferenceGatedxIdeal_pre_gatedx_finite [hReferenceGatedxIdeal : Cert.ReferenceGatedxIdeal.Facts] [hPre_gatedx_finite : Cert.Pre_gatedx_finite.Facts] : Prop :=
  ∀ (m : (ℓ : Loc Cert.ReferenceGatedxIdeal.nD Cert.ReferenceGatedxIdeal.τ Cert.ReferenceGatedxIdeal.sig) → Buf (Elt Ideal) ℓ) (g : Dev Cert.ReferenceGatedxIdeal.nD → PrngReg), Pre_ReferenceGatedxIdeal_gatedx_finite m →
    θ_run (Cert.ReferenceGatedxIdeal.defs (F := Ideal)) (onTc (τ := Cert.ReferenceGatedxIdeal.τ) (Cert.ReferenceGatedxIdeal.main (F := Ideal))) ⟨m, fun _ => 0, g⟩ (fun r => (∀ c : Dev Cert.ReferenceGatedxIdeal.nD,
      r.2.mem ((c.tc : Thread Cert.ReferenceGatedxIdeal.nD Cert.ReferenceGatedxIdeal.τ).loc Cert.ReferenceGatedxIdeal.main_arg0) = m ((c.tc : Thread Cert.ReferenceGatedxIdeal.nD Cert.ReferenceGatedxIdeal.τ).loc Cert.ReferenceGatedxIdeal.main_arg0)
      ∧ r.2.mem ((c.tc : Thread Cert.ReferenceGatedxIdeal.nD Cert.ReferenceGatedxIdeal.τ).loc Cert.ReferenceGatedxIdeal.main_arg1) = m ((c.tc : Thread Cert.ReferenceGatedxIdeal.nD Cert.ReferenceGatedxIdeal.τ).loc Cert.ReferenceGatedxIdeal.main_arg1)
      ∧ r.2.mem ((c.tc : Thread Cert.ReferenceGatedxIdeal.nD Cert.ReferenceGatedxIdeal.τ).loc Cert.ReferenceGatedxIdeal.main_arg2) = m ((c.tc : Thread Cert.ReferenceGatedxIdeal.nD Cert.ReferenceGatedxIdeal.τ).loc Cert.ReferenceGatedxIdeal.main_arg2)
      ∧ r.2.mem ((c.tc : Thread Cert.ReferenceGatedxIdeal.nD Cert.ReferenceGatedxIdeal.τ).loc Cert.ReferenceGatedxIdeal.main_arg3) = m ((c.tc : Thread Cert.ReferenceGatedxIdeal.nD Cert.ReferenceGatedxIdeal.τ).loc Cert.ReferenceGatedxIdeal.main_arg3)
      ∧ r.2.mem ((c.tc : Thread Cert.ReferenceGatedxIdeal.nD Cert.ReferenceGatedxIdeal.τ).loc Cert.ReferenceGatedxIdeal.main_arg4) = m ((c.tc : Thread Cert.ReferenceGatedxIdeal.nD Cert.ReferenceGatedxIdeal.τ).loc Cert.ReferenceGatedxIdeal.main_arg4))
      ∧ r.2.sem = fun _ => 0)

def quiescent_KernelMixin [hKernelMixin : Cert.KernelMixin.Facts] : Prop :=
  ∀ (m : (ℓ : Loc Cert.KernelMixin.nD Cert.KernelMixin.τ Cert.KernelMixin.sig) → Buf (Elt Bits) ℓ) (g : Dev Cert.KernelMixin.nD → PrngReg), Pre_KernelMixin m →
    θ_run (Cert.KernelMixin.defs (F := Bits)) (onTc (τ := Cert.KernelMixin.τ) (Cert.KernelMixin.main (F := Bits))) ⟨m, fun _ => 0, g⟩ (fun r => (∀ c : Dev Cert.KernelMixin.nD,
      r.2.mem ((c.tc : Thread Cert.KernelMixin.nD Cert.KernelMixin.τ).loc Cert.KernelMixin.main_arg0) = m ((c.tc : Thread Cert.KernelMixin.nD Cert.KernelMixin.τ).loc Cert.KernelMixin.main_arg0)
      ∧ r.2.mem ((c.tc : Thread Cert.KernelMixin.nD Cert.KernelMixin.τ).loc Cert.KernelMixin.main_arg1) = m ((c.tc : Thread Cert.KernelMixin.nD Cert.KernelMixin.τ).loc Cert.KernelMixin.main_arg1)
      ∧ r.2.mem ((c.tc : Thread Cert.KernelMixin.nD Cert.KernelMixin.τ).loc Cert.KernelMixin.main_arg2) = m ((c.tc : Thread Cert.KernelMixin.nD Cert.KernelMixin.τ).loc Cert.KernelMixin.main_arg2)
      ∧ r.2.mem ((c.tc : Thread Cert.KernelMixin.nD Cert.KernelMixin.τ).loc Cert.KernelMixin.main_arg3) = m ((c.tc : Thread Cert.KernelMixin.nD Cert.KernelMixin.τ).loc Cert.KernelMixin.main_arg3)
      ∧ r.2.mem ((c.tc : Thread Cert.KernelMixin.nD Cert.KernelMixin.τ).loc Cert.KernelMixin.main_arg4) = m ((c.tc : Thread Cert.KernelMixin.nD Cert.KernelMixin.τ).loc Cert.KernelMixin.main_arg4)
      ∧ r.2.mem ((c.tc : Thread Cert.KernelMixin.nD Cert.KernelMixin.τ).loc Cert.KernelMixin.main_arg5) = m ((c.tc : Thread Cert.KernelMixin.nD Cert.KernelMixin.τ).loc Cert.KernelMixin.main_arg5))
      ∧ r.2.sem = fun _ => 0)

def quiescent_KernelMixinIdeal [hKernelMixinIdeal : Cert.KernelMixinIdeal.Facts] : Prop :=
  ∀ (m : (ℓ : Loc Cert.KernelMixinIdeal.nD Cert.KernelMixinIdeal.τ Cert.KernelMixinIdeal.sig) → Buf (Elt Ideal) ℓ) (g : Dev Cert.KernelMixinIdeal.nD → PrngReg), Pre_KernelMixinIdeal m →
    θ_run (Cert.KernelMixinIdeal.defs (F := Ideal)) (onTc (τ := Cert.KernelMixinIdeal.τ) (Cert.KernelMixinIdeal.main (F := Ideal))) ⟨m, fun _ => 0, g⟩ (fun r => (∀ c : Dev Cert.KernelMixinIdeal.nD,
      r.2.mem ((c.tc : Thread Cert.KernelMixinIdeal.nD Cert.KernelMixinIdeal.τ).loc Cert.KernelMixinIdeal.main_arg0) = m ((c.tc : Thread Cert.KernelMixinIdeal.nD Cert.KernelMixinIdeal.τ).loc Cert.KernelMixinIdeal.main_arg0)
      ∧ r.2.mem ((c.tc : Thread Cert.KernelMixinIdeal.nD Cert.KernelMixinIdeal.τ).loc Cert.KernelMixinIdeal.main_arg1) = m ((c.tc : Thread Cert.KernelMixinIdeal.nD Cert.KernelMixinIdeal.τ).loc Cert.KernelMixinIdeal.main_arg1)
      ∧ r.2.mem ((c.tc : Thread Cert.KernelMixinIdeal.nD Cert.KernelMixinIdeal.τ).loc Cert.KernelMixinIdeal.main_arg2) = m ((c.tc : Thread Cert.KernelMixinIdeal.nD Cert.KernelMixinIdeal.τ).loc Cert.KernelMixinIdeal.main_arg2)
      ∧ r.2.mem ((c.tc : Thread Cert.KernelMixinIdeal.nD Cert.KernelMixinIdeal.τ).loc Cert.KernelMixinIdeal.main_arg3) = m ((c.tc : Thread Cert.KernelMixinIdeal.nD Cert.KernelMixinIdeal.τ).loc Cert.KernelMixinIdeal.main_arg3)
      ∧ r.2.mem ((c.tc : Thread Cert.KernelMixinIdeal.nD Cert.KernelMixinIdeal.τ).loc Cert.KernelMixinIdeal.main_arg4) = m ((c.tc : Thread Cert.KernelMixinIdeal.nD Cert.KernelMixinIdeal.τ).loc Cert.KernelMixinIdeal.main_arg4)
      ∧ r.2.mem ((c.tc : Thread Cert.KernelMixinIdeal.nD Cert.KernelMixinIdeal.τ).loc Cert.KernelMixinIdeal.main_arg5) = m ((c.tc : Thread Cert.KernelMixinIdeal.nD Cert.KernelMixinIdeal.τ).loc Cert.KernelMixinIdeal.main_arg5))
      ∧ r.2.sem = fun _ => 0)

def quiescent_KernelMixinIdeal_pre_mixin_finite [hKernelMixinIdeal : Cert.KernelMixinIdeal.Facts] [hPre_mixin_finite : Cert.Pre_mixin_finite.Facts] : Prop :=
  ∀ (m : (ℓ : Loc Cert.KernelMixinIdeal.nD Cert.KernelMixinIdeal.τ Cert.KernelMixinIdeal.sig) → Buf (Elt Ideal) ℓ) (g : Dev Cert.KernelMixinIdeal.nD → PrngReg), Pre_KernelMixinIdeal_mixin_finite m →
    θ_run (Cert.KernelMixinIdeal.defs (F := Ideal)) (onTc (τ := Cert.KernelMixinIdeal.τ) (Cert.KernelMixinIdeal.main (F := Ideal))) ⟨m, fun _ => 0, g⟩ (fun r => (∀ c : Dev Cert.KernelMixinIdeal.nD,
      r.2.mem ((c.tc : Thread Cert.KernelMixinIdeal.nD Cert.KernelMixinIdeal.τ).loc Cert.KernelMixinIdeal.main_arg0) = m ((c.tc : Thread Cert.KernelMixinIdeal.nD Cert.KernelMixinIdeal.τ).loc Cert.KernelMixinIdeal.main_arg0)
      ∧ r.2.mem ((c.tc : Thread Cert.KernelMixinIdeal.nD Cert.KernelMixinIdeal.τ).loc Cert.KernelMixinIdeal.main_arg1) = m ((c.tc : Thread Cert.KernelMixinIdeal.nD Cert.KernelMixinIdeal.τ).loc Cert.KernelMixinIdeal.main_arg1)
      ∧ r.2.mem ((c.tc : Thread Cert.KernelMixinIdeal.nD Cert.KernelMixinIdeal.τ).loc Cert.KernelMixinIdeal.main_arg2) = m ((c.tc : Thread Cert.KernelMixinIdeal.nD Cert.KernelMixinIdeal.τ).loc Cert.KernelMixinIdeal.main_arg2)
      ∧ r.2.mem ((c.tc : Thread Cert.KernelMixinIdeal.nD Cert.KernelMixinIdeal.τ).loc Cert.KernelMixinIdeal.main_arg3) = m ((c.tc : Thread Cert.KernelMixinIdeal.nD Cert.KernelMixinIdeal.τ).loc Cert.KernelMixinIdeal.main_arg3)
      ∧ r.2.mem ((c.tc : Thread Cert.KernelMixinIdeal.nD Cert.KernelMixinIdeal.τ).loc Cert.KernelMixinIdeal.main_arg4) = m ((c.tc : Thread Cert.KernelMixinIdeal.nD Cert.KernelMixinIdeal.τ).loc Cert.KernelMixinIdeal.main_arg4)
      ∧ r.2.mem ((c.tc : Thread Cert.KernelMixinIdeal.nD Cert.KernelMixinIdeal.τ).loc Cert.KernelMixinIdeal.main_arg5) = m ((c.tc : Thread Cert.KernelMixinIdeal.nD Cert.KernelMixinIdeal.τ).loc Cert.KernelMixinIdeal.main_arg5))
      ∧ r.2.sem = fun _ => 0)

def quiescent_ReferenceMixinIdeal [hReferenceMixinIdeal : Cert.ReferenceMixinIdeal.Facts] : Prop :=
  ∀ (m : (ℓ : Loc Cert.ReferenceMixinIdeal.nD Cert.ReferenceMixinIdeal.τ Cert.ReferenceMixinIdeal.sig) → Buf (Elt Ideal) ℓ) (g : Dev Cert.ReferenceMixinIdeal.nD → PrngReg), Pre_ReferenceMixinIdeal m →
    θ_run (Cert.ReferenceMixinIdeal.defs (F := Ideal)) (onTc (τ := Cert.ReferenceMixinIdeal.τ) (Cert.ReferenceMixinIdeal.main (F := Ideal))) ⟨m, fun _ => 0, g⟩ (fun r => (∀ c : Dev Cert.ReferenceMixinIdeal.nD,
      r.2.mem ((c.tc : Thread Cert.ReferenceMixinIdeal.nD Cert.ReferenceMixinIdeal.τ).loc Cert.ReferenceMixinIdeal.main_arg0) = m ((c.tc : Thread Cert.ReferenceMixinIdeal.nD Cert.ReferenceMixinIdeal.τ).loc Cert.ReferenceMixinIdeal.main_arg0)
      ∧ r.2.mem ((c.tc : Thread Cert.ReferenceMixinIdeal.nD Cert.ReferenceMixinIdeal.τ).loc Cert.ReferenceMixinIdeal.main_arg1) = m ((c.tc : Thread Cert.ReferenceMixinIdeal.nD Cert.ReferenceMixinIdeal.τ).loc Cert.ReferenceMixinIdeal.main_arg1)
      ∧ r.2.mem ((c.tc : Thread Cert.ReferenceMixinIdeal.nD Cert.ReferenceMixinIdeal.τ).loc Cert.ReferenceMixinIdeal.main_arg2) = m ((c.tc : Thread Cert.ReferenceMixinIdeal.nD Cert.ReferenceMixinIdeal.τ).loc Cert.ReferenceMixinIdeal.main_arg2)
      ∧ r.2.mem ((c.tc : Thread Cert.ReferenceMixinIdeal.nD Cert.ReferenceMixinIdeal.τ).loc Cert.ReferenceMixinIdeal.main_arg3) = m ((c.tc : Thread Cert.ReferenceMixinIdeal.nD Cert.ReferenceMixinIdeal.τ).loc Cert.ReferenceMixinIdeal.main_arg3)
      ∧ r.2.mem ((c.tc : Thread Cert.ReferenceMixinIdeal.nD Cert.ReferenceMixinIdeal.τ).loc Cert.ReferenceMixinIdeal.main_arg4) = m ((c.tc : Thread Cert.ReferenceMixinIdeal.nD Cert.ReferenceMixinIdeal.τ).loc Cert.ReferenceMixinIdeal.main_arg4)
      ∧ r.2.mem ((c.tc : Thread Cert.ReferenceMixinIdeal.nD Cert.ReferenceMixinIdeal.τ).loc Cert.ReferenceMixinIdeal.main_arg5) = m ((c.tc : Thread Cert.ReferenceMixinIdeal.nD Cert.ReferenceMixinIdeal.τ).loc Cert.ReferenceMixinIdeal.main_arg5))
      ∧ r.2.sem = fun _ => 0)

def quiescent_ReferenceMixinIdeal_pre_mixin_finite [hReferenceMixinIdeal : Cert.ReferenceMixinIdeal.Facts] [hPre_mixin_finite : Cert.Pre_mixin_finite.Facts] : Prop :=
  ∀ (m : (ℓ : Loc Cert.ReferenceMixinIdeal.nD Cert.ReferenceMixinIdeal.τ Cert.ReferenceMixinIdeal.sig) → Buf (Elt Ideal) ℓ) (g : Dev Cert.ReferenceMixinIdeal.nD → PrngReg), Pre_ReferenceMixinIdeal_mixin_finite m →
    θ_run (Cert.ReferenceMixinIdeal.defs (F := Ideal)) (onTc (τ := Cert.ReferenceMixinIdeal.τ) (Cert.ReferenceMixinIdeal.main (F := Ideal))) ⟨m, fun _ => 0, g⟩ (fun r => (∀ c : Dev Cert.ReferenceMixinIdeal.nD,
      r.2.mem ((c.tc : Thread Cert.ReferenceMixinIdeal.nD Cert.ReferenceMixinIdeal.τ).loc Cert.ReferenceMixinIdeal.main_arg0) = m ((c.tc : Thread Cert.ReferenceMixinIdeal.nD Cert.ReferenceMixinIdeal.τ).loc Cert.ReferenceMixinIdeal.main_arg0)
      ∧ r.2.mem ((c.tc : Thread Cert.ReferenceMixinIdeal.nD Cert.ReferenceMixinIdeal.τ).loc Cert.ReferenceMixinIdeal.main_arg1) = m ((c.tc : Thread Cert.ReferenceMixinIdeal.nD Cert.ReferenceMixinIdeal.τ).loc Cert.ReferenceMixinIdeal.main_arg1)
      ∧ r.2.mem ((c.tc : Thread Cert.ReferenceMixinIdeal.nD Cert.ReferenceMixinIdeal.τ).loc Cert.ReferenceMixinIdeal.main_arg2) = m ((c.tc : Thread Cert.ReferenceMixinIdeal.nD Cert.ReferenceMixinIdeal.τ).loc Cert.ReferenceMixinIdeal.main_arg2)
      ∧ r.2.mem ((c.tc : Thread Cert.ReferenceMixinIdeal.nD Cert.ReferenceMixinIdeal.τ).loc Cert.ReferenceMixinIdeal.main_arg3) = m ((c.tc : Thread Cert.ReferenceMixinIdeal.nD Cert.ReferenceMixinIdeal.τ).loc Cert.ReferenceMixinIdeal.main_arg3)
      ∧ r.2.mem ((c.tc : Thread Cert.ReferenceMixinIdeal.nD Cert.ReferenceMixinIdeal.τ).loc Cert.ReferenceMixinIdeal.main_arg4) = m ((c.tc : Thread Cert.ReferenceMixinIdeal.nD Cert.ReferenceMixinIdeal.τ).loc Cert.ReferenceMixinIdeal.main_arg4)
      ∧ r.2.mem ((c.tc : Thread Cert.ReferenceMixinIdeal.nD Cert.ReferenceMixinIdeal.τ).loc Cert.ReferenceMixinIdeal.main_arg5) = m ((c.tc : Thread Cert.ReferenceMixinIdeal.nD Cert.ReferenceMixinIdeal.τ).loc Cert.ReferenceMixinIdeal.main_arg5))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_KernelGluIdeal_pre_glu_finite [hKernelGluIdeal : Cert.KernelGluIdeal.Facts] [hPre_glu_finite : Cert.Pre_glu_finite.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal_glu_finite m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_ReferenceGluIdeal_pre_glu_finite [hReferenceGluIdeal : Cert.ReferenceGluIdeal.Facts] [hPre_glu_finite : Cert.Pre_glu_finite.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal_glu_finite m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_KernelMixout [hKernelMixout : Cert.KernelMixout.Facts] : Prop :=
  ∀ (m : (ℓ : Loc Cert.KernelMixout.nD Cert.KernelMixout.τ Cert.KernelMixout.sig) → Buf (Elt Bits) ℓ) (g : Dev Cert.KernelMixout.nD → PrngReg), Pre_KernelMixout m →
    θ_run (Cert.KernelMixout.defs (F := Bits)) (onTc (τ := Cert.KernelMixout.τ) (Cert.KernelMixout.main (F := Bits))) ⟨m, fun _ => 0, g⟩ (fun r => (∀ c : Dev Cert.KernelMixout.nD,
      r.2.mem ((c.tc : Thread Cert.KernelMixout.nD Cert.KernelMixout.τ).loc Cert.KernelMixout.main_arg0) = m ((c.tc : Thread Cert.KernelMixout.nD Cert.KernelMixout.τ).loc Cert.KernelMixout.main_arg0)
      ∧ r.2.mem ((c.tc : Thread Cert.KernelMixout.nD Cert.KernelMixout.τ).loc Cert.KernelMixout.main_arg1) = m ((c.tc : Thread Cert.KernelMixout.nD Cert.KernelMixout.τ).loc Cert.KernelMixout.main_arg1)
      ∧ r.2.mem ((c.tc : Thread Cert.KernelMixout.nD Cert.KernelMixout.τ).loc Cert.KernelMixout.main_arg2) = m ((c.tc : Thread Cert.KernelMixout.nD Cert.KernelMixout.τ).loc Cert.KernelMixout.main_arg2)
      ∧ r.2.mem ((c.tc : Thread Cert.KernelMixout.nD Cert.KernelMixout.τ).loc Cert.KernelMixout.main_arg3) = m ((c.tc : Thread Cert.KernelMixout.nD Cert.KernelMixout.τ).loc Cert.KernelMixout.main_arg3)
      ∧ r.2.mem ((c.tc : Thread Cert.KernelMixout.nD Cert.KernelMixout.τ).loc Cert.KernelMixout.main_arg4) = m ((c.tc : Thread Cert.KernelMixout.nD Cert.KernelMixout.τ).loc Cert.KernelMixout.main_arg4)
      ∧ r.2.mem ((c.tc : Thread Cert.KernelMixout.nD Cert.KernelMixout.τ).loc Cert.KernelMixout.main_arg5) = m ((c.tc : Thread Cert.KernelMixout.nD Cert.KernelMixout.τ).loc Cert.KernelMixout.main_arg5)
      ∧ r.2.mem ((c.tc : Thread Cert.KernelMixout.nD Cert.KernelMixout.τ).loc Cert.KernelMixout.main_arg6) = m ((c.tc : Thread Cert.KernelMixout.nD Cert.KernelMixout.τ).loc Cert.KernelMixout.main_arg6)
      ∧ r.2.mem ((c.tc : Thread Cert.KernelMixout.nD Cert.KernelMixout.τ).loc Cert.KernelMixout.main_arg7) = m ((c.tc : Thread Cert.KernelMixout.nD Cert.KernelMixout.τ).loc Cert.KernelMixout.main_arg7)
      ∧ r.2.mem ((c.tc : Thread Cert.KernelMixout.nD Cert.KernelMixout.τ).loc Cert.KernelMixout.main_arg8) = m ((c.tc : Thread Cert.KernelMixout.nD Cert.KernelMixout.τ).loc Cert.KernelMixout.main_arg8))
      ∧ r.2.sem = fun _ => 0)

def quiescent_KernelMixoutIdeal [hKernelMixoutIdeal : Cert.KernelMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg), Pre_KernelMixoutIdeal m →
    θ_run (Cert.KernelMixoutIdeal.defs (F := Ideal)) (onTc (τ := Cert.KernelMixoutIdeal.τ) (Cert.KernelMixoutIdeal.main (F := Ideal))) ⟨m, fun _ => 0, g⟩ (fun r => (∀ c : Dev Cert.KernelMixoutIdeal.nD,
      r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
      ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
      ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
      ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3)
      ∧ r.2.mem ((c.tc : Thread Cert.KernelMixoutIdeal.nD Cert.KernelMixoutIdeal.τ).loc Cert.KernelMixoutIdeal.main_arg4) = m ((c.tc : Thread Cert.KernelMixoutIdeal.nD Cert.KernelMixoutIdeal.τ).loc Cert.KernelMixoutIdeal.main_arg4)
      ∧ r.2.mem ((c.tc : Thread Cert.KernelMixoutIdeal.nD Cert.KernelMixoutIdeal.τ).loc Cert.KernelMixoutIdeal.main_arg5) = m ((c.tc : Thread Cert.KernelMixoutIdeal.nD Cert.KernelMixoutIdeal.τ).loc Cert.KernelMixoutIdeal.main_arg5)
      ∧ r.2.mem ((c.tc : Thread Cert.KernelMixoutIdeal.nD Cert.KernelMixoutIdeal.τ).loc Cert.KernelMixoutIdeal.main_arg6) = m ((c.tc : Thread Cert.KernelMixoutIdeal.nD Cert.KernelMixoutIdeal.τ).loc Cert.KernelMixoutIdeal.main_arg6)
      ∧ r.2.mem ((c.tc : Thread Cert.KernelMixoutIdeal.nD Cert.KernelMixoutIdeal.τ).loc Cert.KernelMixoutIdeal.main_arg7) = m ((c.tc : Thread Cert.KernelMixoutIdeal.nD Cert.KernelMixoutIdeal.τ).loc Cert.KernelMixoutIdeal.main_arg7)
      ∧ r.2.mem ((c.tc : Thread Cert.KernelMixoutIdeal.nD Cert.KernelMixoutIdeal.τ).loc Cert.KernelMixoutIdeal.main_arg8) = m ((c.tc : Thread Cert.KernelMixoutIdeal.nD Cert.KernelMixoutIdeal.τ).loc Cert.KernelMixoutIdeal.main_arg8))
      ∧ r.2.sem = fun _ => 0)

def quiescent_ReferenceMixoutIdeal [hReferenceMixoutIdeal : Cert.ReferenceMixoutIdeal.Facts] : Prop :=
  ∀ (m : (ℓ : Loc Cert.ReferenceMixoutIdeal.nD Cert.ReferenceMixoutIdeal.τ Cert.ReferenceMixoutIdeal.sig) → Buf (Elt Ideal) ℓ) (g : Dev Cert.ReferenceMixoutIdeal.nD → PrngReg), Pre_ReferenceMixoutIdeal m →
    θ_run (Cert.ReferenceMixoutIdeal.defs (F := Ideal)) (onTc (τ := Cert.ReferenceMixoutIdeal.τ) (Cert.ReferenceMixoutIdeal.main (F := Ideal))) ⟨m, fun _ => 0, g⟩ (fun r => (∀ c : Dev Cert.ReferenceMixoutIdeal.nD,
      r.2.mem ((c.tc : Thread Cert.ReferenceMixoutIdeal.nD Cert.ReferenceMixoutIdeal.τ).loc Cert.ReferenceMixoutIdeal.main_arg0) = m ((c.tc : Thread Cert.ReferenceMixoutIdeal.nD Cert.ReferenceMixoutIdeal.τ).loc Cert.ReferenceMixoutIdeal.main_arg0)
      ∧ r.2.mem ((c.tc : Thread Cert.ReferenceMixoutIdeal.nD Cert.ReferenceMixoutIdeal.τ).loc Cert.ReferenceMixoutIdeal.main_arg1) = m ((c.tc : Thread Cert.ReferenceMixoutIdeal.nD Cert.ReferenceMixoutIdeal.τ).loc Cert.ReferenceMixoutIdeal.main_arg1)
      ∧ r.2.mem ((c.tc : Thread Cert.ReferenceMixoutIdeal.nD Cert.ReferenceMixoutIdeal.τ).loc Cert.ReferenceMixoutIdeal.main_arg2) = m ((c.tc : Thread Cert.ReferenceMixoutIdeal.nD Cert.ReferenceMixoutIdeal.τ).loc Cert.ReferenceMixoutIdeal.main_arg2)
      ∧ r.2.mem ((c.tc : Thread Cert.ReferenceMixoutIdeal.nD Cert.ReferenceMixoutIdeal.τ).loc Cert.ReferenceMixoutIdeal.main_arg3) = m ((c.tc : Thread Cert.ReferenceMixoutIdeal.nD Cert.ReferenceMixoutIdeal.τ).loc Cert.ReferenceMixoutIdeal.main_arg3)
      ∧ r.2.mem ((c.tc : Thread Cert.ReferenceMixoutIdeal.nD Cert.ReferenceMixoutIdeal.τ).loc Cert.ReferenceMixoutIdeal.main_arg4) = m ((c.tc : Thread Cert.ReferenceMixoutIdeal.nD Cert.ReferenceMixoutIdeal.τ).loc Cert.ReferenceMixoutIdeal.main_arg4)
      ∧ r.2.mem ((c.tc : Thread Cert.ReferenceMixoutIdeal.nD Cert.ReferenceMixoutIdeal.τ).loc Cert.ReferenceMixoutIdeal.main_arg5) = m ((c.tc : Thread Cert.ReferenceMixoutIdeal.nD Cert.ReferenceMixoutIdeal.τ).loc Cert.ReferenceMixoutIdeal.main_arg5)
      ∧ r.2.mem ((c.tc : Thread Cert.ReferenceMixoutIdeal.nD Cert.ReferenceMixoutIdeal.τ).loc Cert.ReferenceMixoutIdeal.main_arg6) = m ((c.tc : Thread Cert.ReferenceMixoutIdeal.nD Cert.ReferenceMixoutIdeal.τ).loc Cert.ReferenceMixoutIdeal.main_arg6)
      ∧ r.2.mem ((c.tc : Thread Cert.ReferenceMixoutIdeal.nD Cert.ReferenceMixoutIdeal.τ).loc Cert.ReferenceMixoutIdeal.main_arg7) = m ((c.tc : Thread Cert.ReferenceMixoutIdeal.nD Cert.ReferenceMixoutIdeal.τ).loc Cert.ReferenceMixoutIdeal.main_arg7)
      ∧ r.2.mem ((c.tc : Thread Cert.ReferenceMixoutIdeal.nD Cert.ReferenceMixoutIdeal.τ).loc Cert.ReferenceMixoutIdeal.main_arg8) = m ((c.tc : Thread Cert.ReferenceMixoutIdeal.nD Cert.ReferenceMixoutIdeal.τ).loc Cert.ReferenceMixoutIdeal.main_arg8))
      ∧ r.2.sem = fun _ => 0)

def quiescent_KernelIndxg [hKernelIndxg : Cert.KernelIndxg.Facts] : Prop :=
  ∀ (m : (ℓ : Loc Cert.KernelIndxg.nD Cert.KernelIndxg.τ Cert.KernelIndxg.sig) → Buf (Elt Bits) ℓ) (g : Dev Cert.KernelIndxg.nD → PrngReg), Pre_KernelIndxg m →
    θ_run (Cert.KernelIndxg.defs (F := Bits)) (onTc (τ := Cert.KernelIndxg.τ) (Cert.KernelIndxg.main (F := Bits))) ⟨m, fun _ => 0, g⟩ (fun r => (∀ c : Dev Cert.KernelIndxg.nD,
      r.2.mem ((c.tc : Thread Cert.KernelIndxg.nD Cert.KernelIndxg.τ).loc Cert.KernelIndxg.main_arg0) = m ((c.tc : Thread Cert.KernelIndxg.nD Cert.KernelIndxg.τ).loc Cert.KernelIndxg.main_arg0)
      ∧ r.2.mem ((c.tc : Thread Cert.KernelIndxg.nD Cert.KernelIndxg.τ).loc Cert.KernelIndxg.main_arg1) = m ((c.tc : Thread Cert.KernelIndxg.nD Cert.KernelIndxg.τ).loc Cert.KernelIndxg.main_arg1)
      ∧ r.2.mem ((c.tc : Thread Cert.KernelIndxg.nD Cert.KernelIndxg.τ).loc Cert.KernelIndxg.main_arg2) = m ((c.tc : Thread Cert.KernelIndxg.nD Cert.KernelIndxg.τ).loc Cert.KernelIndxg.main_arg2)
      ∧ r.2.mem ((c.tc : Thread Cert.KernelIndxg.nD Cert.KernelIndxg.τ).loc Cert.KernelIndxg.main_arg3) = m ((c.tc : Thread Cert.KernelIndxg.nD Cert.KernelIndxg.τ).loc Cert.KernelIndxg.main_arg3)
      ∧ r.2.mem ((c.tc : Thread Cert.KernelIndxg.nD Cert.KernelIndxg.τ).loc Cert.KernelIndxg.main_arg4) = m ((c.tc : Thread Cert.KernelIndxg.nD Cert.KernelIndxg.τ).loc Cert.KernelIndxg.main_arg4)
      ∧ r.2.mem ((c.tc : Thread Cert.KernelIndxg.nD Cert.KernelIndxg.τ).loc Cert.KernelIndxg.main_arg5) = m ((c.tc : Thread Cert.KernelIndxg.nD Cert.KernelIndxg.τ).loc Cert.KernelIndxg.main_arg5)
      ∧ r.2.mem ((c.tc : Thread Cert.KernelIndxg.nD Cert.KernelIndxg.τ).loc Cert.KernelIndxg.main_arg6) = m ((c.tc : Thread Cert.KernelIndxg.nD Cert.KernelIndxg.τ).loc Cert.KernelIndxg.main_arg6)
      ∧ r.2.mem ((c.tc : Thread Cert.KernelIndxg.nD Cert.KernelIndxg.τ).loc Cert.KernelIndxg.main_arg7) = m ((c.tc : Thread Cert.KernelIndxg.nD Cert.KernelIndxg.τ).loc Cert.KernelIndxg.main_arg7))
      ∧ r.2.sem = fun _ => 0)

def quiescent_KernelIndxgIdeal [hKernelIndxgIdeal : Cert.KernelIndxgIdeal.Facts] : Prop :=
  ∀ (m : (ℓ : Loc Cert.KernelIndxgIdeal.nD Cert.KernelIndxgIdeal.τ Cert.KernelIndxgIdeal.sig) → Buf (Elt Ideal) ℓ) (g : Dev Cert.KernelIndxgIdeal.nD → PrngReg), Pre_KernelIndxgIdeal m →
    θ_run (Cert.KernelIndxgIdeal.defs (F := Ideal)) (onTc (τ := Cert.KernelIndxgIdeal.τ) (Cert.KernelIndxgIdeal.main (F := Ideal))) ⟨m, fun _ => 0, g⟩ (fun r => (∀ c : Dev Cert.KernelIndxgIdeal.nD,
      r.2.mem ((c.tc : Thread Cert.KernelIndxgIdeal.nD Cert.KernelIndxgIdeal.τ).loc Cert.KernelIndxgIdeal.main_arg0) = m ((c.tc : Thread Cert.KernelIndxgIdeal.nD Cert.KernelIndxgIdeal.τ).loc Cert.KernelIndxgIdeal.main_arg0)
      ∧ r.2.mem ((c.tc : Thread Cert.KernelIndxgIdeal.nD Cert.KernelIndxgIdeal.τ).loc Cert.KernelIndxgIdeal.main_arg1) = m ((c.tc : Thread Cert.KernelIndxgIdeal.nD Cert.KernelIndxgIdeal.τ).loc Cert.KernelIndxgIdeal.main_arg1)
      ∧ r.2.mem ((c.tc : Thread Cert.KernelIndxgIdeal.nD Cert.KernelIndxgIdeal.τ).loc Cert.KernelIndxgIdeal.main_arg2) = m ((c.tc : Thread Cert.KernelIndxgIdeal.nD Cert.KernelIndxgIdeal.τ).loc Cert.KernelIndxgIdeal.main_arg2)
      ∧ r.2.mem ((c.tc : Thread Cert.KernelIndxgIdeal.nD Cert.KernelIndxgIdeal.τ).loc Cert.KernelIndxgIdeal.main_arg3) = m ((c.tc : Thread Cert.KernelIndxgIdeal.nD Cert.KernelIndxgIdeal.τ).loc Cert.KernelIndxgIdeal.main_arg3)
      ∧ r.2.mem ((c.tc : Thread Cert.KernelIndxgIdeal.nD Cert.KernelIndxgIdeal.τ).loc Cert.KernelIndxgIdeal.main_arg4) = m ((c.tc : Thread Cert.KernelIndxgIdeal.nD Cert.KernelIndxgIdeal.τ).loc Cert.KernelIndxgIdeal.main_arg4)
      ∧ r.2.mem ((c.tc : Thread Cert.KernelIndxgIdeal.nD Cert.KernelIndxgIdeal.τ).loc Cert.KernelIndxgIdeal.main_arg5) = m ((c.tc : Thread Cert.KernelIndxgIdeal.nD Cert.KernelIndxgIdeal.τ).loc Cert.KernelIndxgIdeal.main_arg5)
      ∧ r.2.mem ((c.tc : Thread Cert.KernelIndxgIdeal.nD Cert.KernelIndxgIdeal.τ).loc Cert.KernelIndxgIdeal.main_arg6) = m ((c.tc : Thread Cert.KernelIndxgIdeal.nD Cert.KernelIndxgIdeal.τ).loc Cert.KernelIndxgIdeal.main_arg6)
      ∧ r.2.mem ((c.tc : Thread Cert.KernelIndxgIdeal.nD Cert.KernelIndxgIdeal.τ).loc Cert.KernelIndxgIdeal.main_arg7) = m ((c.tc : Thread Cert.KernelIndxgIdeal.nD Cert.KernelIndxgIdeal.τ).loc Cert.KernelIndxgIdeal.main_arg7))
      ∧ r.2.sem = fun _ => 0)

def quiescent_KernelIndxgIdeal_pre_indxg_finite [hKernelIndxgIdeal : Cert.KernelIndxgIdeal.Facts] [hPre_indxg_finite : Cert.Pre_indxg_finite.Facts] : Prop :=
  ∀ (m : (ℓ : Loc Cert.KernelIndxgIdeal.nD Cert.KernelIndxgIdeal.τ Cert.KernelIndxgIdeal.sig) → Buf (Elt Ideal) ℓ) (g : Dev Cert.KernelIndxgIdeal.nD → PrngReg), Pre_KernelIndxgIdeal_indxg_finite m →
    θ_run (Cert.KernelIndxgIdeal.defs (F := Ideal)) (onTc (τ := Cert.KernelIndxgIdeal.τ) (Cert.KernelIndxgIdeal.main (F := Ideal))) ⟨m, fun _ => 0, g⟩ (fun r => (∀ c : Dev Cert.KernelIndxgIdeal.nD,
      r.2.mem ((c.tc : Thread Cert.KernelIndxgIdeal.nD Cert.KernelIndxgIdeal.τ).loc Cert.KernelIndxgIdeal.main_arg0) = m ((c.tc : Thread Cert.KernelIndxgIdeal.nD Cert.KernelIndxgIdeal.τ).loc Cert.KernelIndxgIdeal.main_arg0)
      ∧ r.2.mem ((c.tc : Thread Cert.KernelIndxgIdeal.nD Cert.KernelIndxgIdeal.τ).loc Cert.KernelIndxgIdeal.main_arg1) = m ((c.tc : Thread Cert.KernelIndxgIdeal.nD Cert.KernelIndxgIdeal.τ).loc Cert.KernelIndxgIdeal.main_arg1)
      ∧ r.2.mem ((c.tc : Thread Cert.KernelIndxgIdeal.nD Cert.KernelIndxgIdeal.τ).loc Cert.KernelIndxgIdeal.main_arg2) = m ((c.tc : Thread Cert.KernelIndxgIdeal.nD Cert.KernelIndxgIdeal.τ).loc Cert.KernelIndxgIdeal.main_arg2)
      ∧ r.2.mem ((c.tc : Thread Cert.KernelIndxgIdeal.nD Cert.KernelIndxgIdeal.τ).loc Cert.KernelIndxgIdeal.main_arg3) = m ((c.tc : Thread Cert.KernelIndxgIdeal.nD Cert.KernelIndxgIdeal.τ).loc Cert.KernelIndxgIdeal.main_arg3)
      ∧ r.2.mem ((c.tc : Thread Cert.KernelIndxgIdeal.nD Cert.KernelIndxgIdeal.τ).loc Cert.KernelIndxgIdeal.main_arg4) = m ((c.tc : Thread Cert.KernelIndxgIdeal.nD Cert.KernelIndxgIdeal.τ).loc Cert.KernelIndxgIdeal.main_arg4)
      ∧ r.2.mem ((c.tc : Thread Cert.KernelIndxgIdeal.nD Cert.KernelIndxgIdeal.τ).loc Cert.KernelIndxgIdeal.main_arg5) = m ((c.tc : Thread Cert.KernelIndxgIdeal.nD Cert.KernelIndxgIdeal.τ).loc Cert.KernelIndxgIdeal.main_arg5)
      ∧ r.2.mem ((c.tc : Thread Cert.KernelIndxgIdeal.nD Cert.KernelIndxgIdeal.τ).loc Cert.KernelIndxgIdeal.main_arg6) = m ((c.tc : Thread Cert.KernelIndxgIdeal.nD Cert.KernelIndxgIdeal.τ).loc Cert.KernelIndxgIdeal.main_arg6)
      ∧ r.2.mem ((c.tc : Thread Cert.KernelIndxgIdeal.nD Cert.KernelIndxgIdeal.τ).loc Cert.KernelIndxgIdeal.main_arg7) = m ((c.tc : Thread Cert.KernelIndxgIdeal.nD Cert.KernelIndxgIdeal.τ).loc Cert.KernelIndxgIdeal.main_arg7))
      ∧ r.2.sem = fun _ => 0)

def quiescent_ReferenceIndxgIdeal [hReferenceIndxgIdeal : Cert.ReferenceIndxgIdeal.Facts] : Prop :=
  ∀ (m : (ℓ : Loc Cert.ReferenceIndxgIdeal.nD Cert.ReferenceIndxgIdeal.τ Cert.ReferenceIndxgIdeal.sig) → Buf (Elt Ideal) ℓ) (g : Dev Cert.ReferenceIndxgIdeal.nD → PrngReg), Pre_ReferenceIndxgIdeal m →
    θ_run (Cert.ReferenceIndxgIdeal.defs (F := Ideal)) (onTc (τ := Cert.ReferenceIndxgIdeal.τ) (Cert.ReferenceIndxgIdeal.main (F := Ideal))) ⟨m, fun _ => 0, g⟩ (fun r => (∀ c : Dev Cert.ReferenceIndxgIdeal.nD,
      r.2.mem ((c.tc : Thread Cert.ReferenceIndxgIdeal.nD Cert.ReferenceIndxgIdeal.τ).loc Cert.ReferenceIndxgIdeal.main_arg0) = m ((c.tc : Thread Cert.ReferenceIndxgIdeal.nD Cert.ReferenceIndxgIdeal.τ).loc Cert.ReferenceIndxgIdeal.main_arg0)
      ∧ r.2.mem ((c.tc : Thread Cert.ReferenceIndxgIdeal.nD Cert.ReferenceIndxgIdeal.τ).loc Cert.ReferenceIndxgIdeal.main_arg1) = m ((c.tc : Thread Cert.ReferenceIndxgIdeal.nD Cert.ReferenceIndxgIdeal.τ).loc Cert.ReferenceIndxgIdeal.main_arg1)
      ∧ r.2.mem ((c.tc : Thread Cert.ReferenceIndxgIdeal.nD Cert.ReferenceIndxgIdeal.τ).loc Cert.ReferenceIndxgIdeal.main_arg2) = m ((c.tc : Thread Cert.ReferenceIndxgIdeal.nD Cert.ReferenceIndxgIdeal.τ).loc Cert.ReferenceIndxgIdeal.main_arg2)
      ∧ r.2.mem ((c.tc : Thread Cert.ReferenceIndxgIdeal.nD Cert.ReferenceIndxgIdeal.τ).loc Cert.ReferenceIndxgIdeal.main_arg3) = m ((c.tc : Thread Cert.ReferenceIndxgIdeal.nD Cert.ReferenceIndxgIdeal.τ).loc Cert.ReferenceIndxgIdeal.main_arg3)
      ∧ r.2.mem ((c.tc : Thread Cert.ReferenceIndxgIdeal.nD Cert.ReferenceIndxgIdeal.τ).loc Cert.ReferenceIndxgIdeal.main_arg4) = m ((c.tc : Thread Cert.ReferenceIndxgIdeal.nD Cert.ReferenceIndxgIdeal.τ).loc Cert.ReferenceIndxgIdeal.main_arg4)
      ∧ r.2.mem ((c.tc : Thread Cert.ReferenceIndxgIdeal.nD Cert.ReferenceIndxgIdeal.τ).loc Cert.ReferenceIndxgIdeal.main_arg5) = m ((c.tc : Thread Cert.ReferenceIndxgIdeal.nD Cert.ReferenceIndxgIdeal.τ).loc Cert.ReferenceIndxgIdeal.main_arg5)
      ∧ r.2.mem ((c.tc : Thread Cert.ReferenceIndxgIdeal.nD Cert.ReferenceIndxgIdeal.τ).loc Cert.ReferenceIndxgIdeal.main_arg6) = m ((c.tc : Thread Cert.ReferenceIndxgIdeal.nD Cert.ReferenceIndxgIdeal.τ).loc Cert.ReferenceIndxgIdeal.main_arg6)
      ∧ r.2.mem ((c.tc : Thread Cert.ReferenceIndxgIdeal.nD Cert.ReferenceIndxgIdeal.τ).loc Cert.ReferenceIndxgIdeal.main_arg7) = m ((c.tc : Thread Cert.ReferenceIndxgIdeal.nD Cert.ReferenceIndxgIdeal.τ).loc Cert.ReferenceIndxgIdeal.main_arg7))
      ∧ r.2.sem = fun _ => 0)

def quiescent_ReferenceIndxgIdeal_pre_indxg_finite [hReferenceIndxgIdeal : Cert.ReferenceIndxgIdeal.Facts] [hPre_indxg_finite : Cert.Pre_indxg_finite.Facts] : Prop :=
  ∀ (m : (ℓ : Loc Cert.ReferenceIndxgIdeal.nD Cert.ReferenceIndxgIdeal.τ Cert.ReferenceIndxgIdeal.sig) → Buf (Elt Ideal) ℓ) (g : Dev Cert.ReferenceIndxgIdeal.nD → PrngReg), Pre_ReferenceIndxgIdeal_indxg_finite m →
    θ_run (Cert.ReferenceIndxgIdeal.defs (F := Ideal)) (onTc (τ := Cert.ReferenceIndxgIdeal.τ) (Cert.ReferenceIndxgIdeal.main (F := Ideal))) ⟨m, fun _ => 0, g⟩ (fun r => (∀ c : Dev Cert.ReferenceIndxgIdeal.nD,
      r.2.mem ((c.tc : Thread Cert.ReferenceIndxgIdeal.nD Cert.ReferenceIndxgIdeal.τ).loc Cert.ReferenceIndxgIdeal.main_arg0) = m ((c.tc : Thread Cert.ReferenceIndxgIdeal.nD Cert.ReferenceIndxgIdeal.τ).loc Cert.ReferenceIndxgIdeal.main_arg0)
      ∧ r.2.mem ((c.tc : Thread Cert.ReferenceIndxgIdeal.nD Cert.ReferenceIndxgIdeal.τ).loc Cert.ReferenceIndxgIdeal.main_arg1) = m ((c.tc : Thread Cert.ReferenceIndxgIdeal.nD Cert.ReferenceIndxgIdeal.τ).loc Cert.ReferenceIndxgIdeal.main_arg1)
      ∧ r.2.mem ((c.tc : Thread Cert.ReferenceIndxgIdeal.nD Cert.ReferenceIndxgIdeal.τ).loc Cert.ReferenceIndxgIdeal.main_arg2) = m ((c.tc : Thread Cert.ReferenceIndxgIdeal.nD Cert.ReferenceIndxgIdeal.τ).loc Cert.ReferenceIndxgIdeal.main_arg2)
      ∧ r.2.mem ((c.tc : Thread Cert.ReferenceIndxgIdeal.nD Cert.ReferenceIndxgIdeal.τ).loc Cert.ReferenceIndxgIdeal.main_arg3) = m ((c.tc : Thread Cert.ReferenceIndxgIdeal.nD Cert.ReferenceIndxgIdeal.τ).loc Cert.ReferenceIndxgIdeal.main_arg3)
      ∧ r.2.mem ((c.tc : Thread Cert.ReferenceIndxgIdeal.nD Cert.ReferenceIndxgIdeal.τ).loc Cert.ReferenceIndxgIdeal.main_arg4) = m ((c.tc : Thread Cert.ReferenceIndxgIdeal.nD Cert.ReferenceIndxgIdeal.τ).loc Cert.ReferenceIndxgIdeal.main_arg4)
      ∧ r.2.mem ((c.tc : Thread Cert.ReferenceIndxgIdeal.nD Cert.ReferenceIndxgIdeal.τ).loc Cert.ReferenceIndxgIdeal.main_arg5) = m ((c.tc : Thread Cert.ReferenceIndxgIdeal.nD Cert.ReferenceIndxgIdeal.τ).loc Cert.ReferenceIndxgIdeal.main_arg5)
      ∧ r.2.mem ((c.tc : Thread Cert.ReferenceIndxgIdeal.nD Cert.ReferenceIndxgIdeal.τ).loc Cert.ReferenceIndxgIdeal.main_arg6) = m ((c.tc : Thread Cert.ReferenceIndxgIdeal.nD Cert.ReferenceIndxgIdeal.τ).loc Cert.ReferenceIndxgIdeal.main_arg6)
      ∧ r.2.mem ((c.tc : Thread Cert.ReferenceIndxgIdeal.nD Cert.ReferenceIndxgIdeal.τ).loc Cert.ReferenceIndxgIdeal.main_arg7) = m ((c.tc : Thread Cert.ReferenceIndxgIdeal.nD Cert.ReferenceIndxgIdeal.τ).loc Cert.ReferenceIndxgIdeal.main_arg7))
      ∧ r.2.sem = fun _ => 0)

def quiescent_KernelBudx [hKernelBudx : Cert.KernelBudx.Facts] : Prop :=
  ∀ (m : (ℓ : Loc Cert.KernelBudx.nD Cert.KernelBudx.τ Cert.KernelBudx.sig) → Buf (Elt Bits) ℓ) (g : Dev Cert.KernelBudx.nD → PrngReg), Pre_KernelBudx m →
    θ_run (Cert.KernelBudx.defs (F := Bits)) (onTc (τ := Cert.KernelBudx.τ) (Cert.KernelBudx.main (F := Bits))) ⟨m, fun _ => 0, g⟩ (fun r => (∀ c : Dev Cert.KernelBudx.nD,
      r.2.mem ((c.tc : Thread Cert.KernelBudx.nD Cert.KernelBudx.τ).loc Cert.KernelBudx.main_arg0) = m ((c.tc : Thread Cert.KernelBudx.nD Cert.KernelBudx.τ).loc Cert.KernelBudx.main_arg0)
      ∧ r.2.mem ((c.tc : Thread Cert.KernelBudx.nD Cert.KernelBudx.τ).loc Cert.KernelBudx.main_arg1) = m ((c.tc : Thread Cert.KernelBudx.nD Cert.KernelBudx.τ).loc Cert.KernelBudx.main_arg1)
      ∧ r.2.mem ((c.tc : Thread Cert.KernelBudx.nD Cert.KernelBudx.τ).loc Cert.KernelBudx.main_arg2) = m ((c.tc : Thread Cert.KernelBudx.nD Cert.KernelBudx.τ).loc Cert.KernelBudx.main_arg2)
      ∧ r.2.mem ((c.tc : Thread Cert.KernelBudx.nD Cert.KernelBudx.τ).loc Cert.KernelBudx.main_arg3) = m ((c.tc : Thread Cert.KernelBudx.nD Cert.KernelBudx.τ).loc Cert.KernelBudx.main_arg3)
      ∧ r.2.mem ((c.tc : Thread Cert.KernelBudx.nD Cert.KernelBudx.τ).loc Cert.KernelBudx.main_arg4) = m ((c.tc : Thread Cert.KernelBudx.nD Cert.KernelBudx.τ).loc Cert.KernelBudx.main_arg4)
      ∧ r.2.mem ((c.tc : Thread Cert.KernelBudx.nD Cert.KernelBudx.τ).loc Cert.KernelBudx.main_arg5) = m ((c.tc : Thread Cert.KernelBudx.nD Cert.KernelBudx.τ).loc Cert.KernelBudx.main_arg5))
      ∧ r.2.sem = fun _ => 0)

def quiescent_KernelBudxIdeal [hKernelBudxIdeal : Cert.KernelBudxIdeal.Facts] : Prop :=
  ∀ (m : (ℓ : Loc Cert.KernelBudxIdeal.nD Cert.KernelBudxIdeal.τ Cert.KernelBudxIdeal.sig) → Buf (Elt Ideal) ℓ) (g : Dev Cert.KernelBudxIdeal.nD → PrngReg), Pre_KernelBudxIdeal m →
    θ_run (Cert.KernelBudxIdeal.defs (F := Ideal)) (onTc (τ := Cert.KernelBudxIdeal.τ) (Cert.KernelBudxIdeal.main (F := Ideal))) ⟨m, fun _ => 0, g⟩ (fun r => (∀ c : Dev Cert.KernelBudxIdeal.nD,
      r.2.mem ((c.tc : Thread Cert.KernelBudxIdeal.nD Cert.KernelBudxIdeal.τ).loc Cert.KernelBudxIdeal.main_arg0) = m ((c.tc : Thread Cert.KernelBudxIdeal.nD Cert.KernelBudxIdeal.τ).loc Cert.KernelBudxIdeal.main_arg0)
      ∧ r.2.mem ((c.tc : Thread Cert.KernelBudxIdeal.nD Cert.KernelBudxIdeal.τ).loc Cert.KernelBudxIdeal.main_arg1) = m ((c.tc : Thread Cert.KernelBudxIdeal.nD Cert.KernelBudxIdeal.τ).loc Cert.KernelBudxIdeal.main_arg1)
      ∧ r.2.mem ((c.tc : Thread Cert.KernelBudxIdeal.nD Cert.KernelBudxIdeal.τ).loc Cert.KernelBudxIdeal.main_arg2) = m ((c.tc : Thread Cert.KernelBudxIdeal.nD Cert.KernelBudxIdeal.τ).loc Cert.KernelBudxIdeal.main_arg2)
      ∧ r.2.mem ((c.tc : Thread Cert.KernelBudxIdeal.nD Cert.KernelBudxIdeal.τ).loc Cert.KernelBudxIdeal.main_arg3) = m ((c.tc : Thread Cert.KernelBudxIdeal.nD Cert.KernelBudxIdeal.τ).loc Cert.KernelBudxIdeal.main_arg3)
      ∧ r.2.mem ((c.tc : Thread Cert.KernelBudxIdeal.nD Cert.KernelBudxIdeal.τ).loc Cert.KernelBudxIdeal.main_arg4) = m ((c.tc : Thread Cert.KernelBudxIdeal.nD Cert.KernelBudxIdeal.τ).loc Cert.KernelBudxIdeal.main_arg4)
      ∧ r.2.mem ((c.tc : Thread Cert.KernelBudxIdeal.nD Cert.KernelBudxIdeal.τ).loc Cert.KernelBudxIdeal.main_arg5) = m ((c.tc : Thread Cert.KernelBudxIdeal.nD Cert.KernelBudxIdeal.τ).loc Cert.KernelBudxIdeal.main_arg5))
      ∧ r.2.sem = fun _ => 0)

def quiescent_ReferenceBudxIdeal [hReferenceBudxIdeal : Cert.ReferenceBudxIdeal.Facts] : Prop :=
  ∀ (m : (ℓ : Loc Cert.ReferenceBudxIdeal.nD Cert.ReferenceBudxIdeal.τ Cert.ReferenceBudxIdeal.sig) → Buf (Elt Ideal) ℓ) (g : Dev Cert.ReferenceBudxIdeal.nD → PrngReg), Pre_ReferenceBudxIdeal m →
    θ_run (Cert.ReferenceBudxIdeal.defs (F := Ideal)) (onTc (τ := Cert.ReferenceBudxIdeal.τ) (Cert.ReferenceBudxIdeal.main (F := Ideal))) ⟨m, fun _ => 0, g⟩ (fun r => (∀ c : Dev Cert.ReferenceBudxIdeal.nD,
      r.2.mem ((c.tc : Thread Cert.ReferenceBudxIdeal.nD Cert.ReferenceBudxIdeal.τ).loc Cert.ReferenceBudxIdeal.main_arg0) = m ((c.tc : Thread Cert.ReferenceBudxIdeal.nD Cert.ReferenceBudxIdeal.τ).loc Cert.ReferenceBudxIdeal.main_arg0)
      ∧ r.2.mem ((c.tc : Thread Cert.ReferenceBudxIdeal.nD Cert.ReferenceBudxIdeal.τ).loc Cert.ReferenceBudxIdeal.main_arg1) = m ((c.tc : Thread Cert.ReferenceBudxIdeal.nD Cert.ReferenceBudxIdeal.τ).loc Cert.ReferenceBudxIdeal.main_arg1)
      ∧ r.2.mem ((c.tc : Thread Cert.ReferenceBudxIdeal.nD Cert.ReferenceBudxIdeal.τ).loc Cert.ReferenceBudxIdeal.main_arg2) = m ((c.tc : Thread Cert.ReferenceBudxIdeal.nD Cert.ReferenceBudxIdeal.τ).loc Cert.ReferenceBudxIdeal.main_arg2)
      ∧ r.2.mem ((c.tc : Thread Cert.ReferenceBudxIdeal.nD Cert.ReferenceBudxIdeal.τ).loc Cert.ReferenceBudxIdeal.main_arg3) = m ((c.tc : Thread Cert.ReferenceBudxIdeal.nD Cert.ReferenceBudxIdeal.τ).loc Cert.ReferenceBudxIdeal.main_arg3)
      ∧ r.2.mem ((c.tc : Thread Cert.ReferenceBudxIdeal.nD Cert.ReferenceBudxIdeal.τ).loc Cert.ReferenceBudxIdeal.main_arg4) = m ((c.tc : Thread Cert.ReferenceBudxIdeal.nD Cert.ReferenceBudxIdeal.τ).loc Cert.ReferenceBudxIdeal.main_arg4)
      ∧ r.2.mem ((c.tc : Thread Cert.ReferenceBudxIdeal.nD Cert.ReferenceBudxIdeal.τ).loc Cert.ReferenceBudxIdeal.main_arg5) = m ((c.tc : Thread Cert.ReferenceBudxIdeal.nD Cert.ReferenceBudxIdeal.τ).loc Cert.ReferenceBudxIdeal.main_arg5))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_pool_finite [hKernelPoolIdeal : Cert.KernelPoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_pool_finite m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_pool_finite [hReferencePoolIdeal : Cert.ReferencePoolIdeal.Facts] [hPre_pool_finite : Cert.Pre_pool_finite.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_pool_finite m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelScanBwd [hKernelScanBwd : Cert.KernelScanBwd.Facts] : Prop :=
  ∀ (m : (ℓ : Loc Cert.KernelScanBwd.nD Cert.KernelScanBwd.τ Cert.KernelScanBwd.sig) → Buf (Elt Bits) ℓ) (g : Dev Cert.KernelScanBwd.nD → PrngReg), Pre_KernelScanBwd m →
    θ_run (Cert.KernelScanBwd.defs (F := Bits)) (onTc (τ := Cert.KernelScanBwd.τ) (Cert.KernelScanBwd.main (F := Bits))) ⟨m, fun _ => 0, g⟩ (fun r => (∀ c : Dev Cert.KernelScanBwd.nD,
      r.2.mem ((c.tc : Thread Cert.KernelScanBwd.nD Cert.KernelScanBwd.τ).loc Cert.KernelScanBwd.main_arg0) = m ((c.tc : Thread Cert.KernelScanBwd.nD Cert.KernelScanBwd.τ).loc Cert.KernelScanBwd.main_arg0)
      ∧ r.2.mem ((c.tc : Thread Cert.KernelScanBwd.nD Cert.KernelScanBwd.τ).loc Cert.KernelScanBwd.main_arg1) = m ((c.tc : Thread Cert.KernelScanBwd.nD Cert.KernelScanBwd.τ).loc Cert.KernelScanBwd.main_arg1)
      ∧ r.2.mem ((c.tc : Thread Cert.KernelScanBwd.nD Cert.KernelScanBwd.τ).loc Cert.KernelScanBwd.main_arg2) = m ((c.tc : Thread Cert.KernelScanBwd.nD Cert.KernelScanBwd.τ).loc Cert.KernelScanBwd.main_arg2)
      ∧ r.2.mem ((c.tc : Thread Cert.KernelScanBwd.nD Cert.KernelScanBwd.τ).loc Cert.KernelScanBwd.main_arg3) = m ((c.tc : Thread Cert.KernelScanBwd.nD Cert.KernelScanBwd.τ).loc Cert.KernelScanBwd.main_arg3)
      ∧ r.2.mem ((c.tc : Thread Cert.KernelScanBwd.nD Cert.KernelScanBwd.τ).loc Cert.KernelScanBwd.main_arg4) = m ((c.tc : Thread Cert.KernelScanBwd.nD Cert.KernelScanBwd.τ).loc Cert.KernelScanBwd.main_arg4)
      ∧ r.2.mem ((c.tc : Thread Cert.KernelScanBwd.nD Cert.KernelScanBwd.τ).loc Cert.KernelScanBwd.main_arg5) = m ((c.tc : Thread Cert.KernelScanBwd.nD Cert.KernelScanBwd.τ).loc Cert.KernelScanBwd.main_arg5))
      ∧ r.2.sem = fun _ => 0)

def quiescent_KernelScanBwdIdeal [hKernelScanBwdIdeal : Cert.KernelScanBwdIdeal.Facts] : Prop :=
  ∀ (m : (ℓ : Loc Cert.KernelScanBwdIdeal.nD Cert.KernelScanBwdIdeal.τ Cert.KernelScanBwdIdeal.sig) → Buf (Elt Ideal) ℓ) (g : Dev Cert.KernelScanBwdIdeal.nD → PrngReg), Pre_KernelScanBwdIdeal m →
    θ_run (Cert.KernelScanBwdIdeal.defs (F := Ideal)) (onTc (τ := Cert.KernelScanBwdIdeal.τ) (Cert.KernelScanBwdIdeal.main (F := Ideal))) ⟨m, fun _ => 0, g⟩ (fun r => (∀ c : Dev Cert.KernelScanBwdIdeal.nD,
      r.2.mem ((c.tc : Thread Cert.KernelScanBwdIdeal.nD Cert.KernelScanBwdIdeal.τ).loc Cert.KernelScanBwdIdeal.main_arg0) = m ((c.tc : Thread Cert.KernelScanBwdIdeal.nD Cert.KernelScanBwdIdeal.τ).loc Cert.KernelScanBwdIdeal.main_arg0)
      ∧ r.2.mem ((c.tc : Thread Cert.KernelScanBwdIdeal.nD Cert.KernelScanBwdIdeal.τ).loc Cert.KernelScanBwdIdeal.main_arg1) = m ((c.tc : Thread Cert.KernelScanBwdIdeal.nD Cert.KernelScanBwdIdeal.τ).loc Cert.KernelScanBwdIdeal.main_arg1)
      ∧ r.2.mem ((c.tc : Thread Cert.KernelScanBwdIdeal.nD Cert.KernelScanBwdIdeal.τ).loc Cert.KernelScanBwdIdeal.main_arg2) = m ((c.tc : Thread Cert.KernelScanBwdIdeal.nD Cert.KernelScanBwdIdeal.τ).loc Cert.KernelScanBwdIdeal.main_arg2)
      ∧ r.2.mem ((c.tc : Thread Cert.KernelScanBwdIdeal.nD Cert.KernelScanBwdIdeal.τ).loc Cert.KernelScanBwdIdeal.main_arg3) = m ((c.tc : Thread Cert.KernelScanBwdIdeal.nD Cert.KernelScanBwdIdeal.τ).loc Cert.KernelScanBwdIdeal.main_arg3)
      ∧ r.2.mem ((c.tc : Thread Cert.KernelScanBwdIdeal.nD Cert.KernelScanBwdIdeal.τ).loc Cert.KernelScanBwdIdeal.main_arg4) = m ((c.tc : Thread Cert.KernelScanBwdIdeal.nD Cert.KernelScanBwdIdeal.τ).loc Cert.KernelScanBwdIdeal.main_arg4)
      ∧ r.2.mem ((c.tc : Thread Cert.KernelScanBwdIdeal.nD Cert.KernelScanBwdIdeal.τ).loc Cert.KernelScanBwdIdeal.main_arg5) = m ((c.tc : Thread Cert.KernelScanBwdIdeal.nD Cert.KernelScanBwdIdeal.τ).loc Cert.KernelScanBwdIdeal.main_arg5))
      ∧ r.2.sem = fun _ => 0)

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3))
      ∧ r.2.sem = fun _ => 0)

def quiescent_KernelScanIdeal_pre_scan_finite [hKernelScanIdeal : Cert.KernelScanIdeal.Facts] [hPre_scan_finite : Cert.Pre_scan_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal_scan_finite m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3))
      ∧ r.2.sem = fun _ => 0)

def quiescent_ReferenceScanIdeal_pre_scan_finite [hReferenceScanIdeal : Cert.ReferenceScanIdeal.Facts] [hPre_scan_finite : Cert.Pre_scan_finite.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal_scan_finite m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5))
      ∧ r.2.sem = fun _ => 0)

def quiescent_KernelHold [hKernelHold : Cert.KernelHold.Facts] : Prop :=
  ∀ (m : (ℓ : Loc Cert.KernelHold.nD Cert.KernelHold.τ Cert.KernelHold.sig) → Buf (Elt Bits) ℓ) (g : Dev Cert.KernelHold.nD → PrngReg), Pre_KernelHold m →
    θ_run (Cert.KernelHold.defs (F := Bits)) (onTc (τ := Cert.KernelHold.τ) (Cert.KernelHold.main (F := Bits))) ⟨m, fun _ => 0, g⟩ (fun r => (∀ c : Dev Cert.KernelHold.nD,
      r.2.mem ((c.tc : Thread Cert.KernelHold.nD Cert.KernelHold.τ).loc Cert.KernelHold.main_arg0) = m ((c.tc : Thread Cert.KernelHold.nD Cert.KernelHold.τ).loc Cert.KernelHold.main_arg0)
      ∧ r.2.mem ((c.tc : Thread Cert.KernelHold.nD Cert.KernelHold.τ).loc Cert.KernelHold.main_arg1) = m ((c.tc : Thread Cert.KernelHold.nD Cert.KernelHold.τ).loc Cert.KernelHold.main_arg1)
      ∧ r.2.mem ((c.tc : Thread Cert.KernelHold.nD Cert.KernelHold.τ).loc Cert.KernelHold.main_arg2) = m ((c.tc : Thread Cert.KernelHold.nD Cert.KernelHold.τ).loc Cert.KernelHold.main_arg2)
      ∧ r.2.mem ((c.tc : Thread Cert.KernelHold.nD Cert.KernelHold.τ).loc Cert.KernelHold.main_arg3) = m ((c.tc : Thread Cert.KernelHold.nD Cert.KernelHold.τ).loc Cert.KernelHold.main_arg3)
      ∧ r.2.mem ((c.tc : Thread Cert.KernelHold.nD Cert.KernelHold.τ).loc Cert.KernelHold.main_arg4) = m ((c.tc : Thread Cert.KernelHold.nD Cert.KernelHold.τ).loc Cert.KernelHold.main_arg4))
      ∧ r.2.sem = fun _ => 0)

def quiescent_KernelHoldIdeal [hKernelHoldIdeal : Cert.KernelHoldIdeal.Facts] : Prop :=
  ∀ (m : (ℓ : Loc Cert.KernelHoldIdeal.nD Cert.KernelHoldIdeal.τ Cert.KernelHoldIdeal.sig) → Buf (Elt Ideal) ℓ) (g : Dev Cert.KernelHoldIdeal.nD → PrngReg), Pre_KernelHoldIdeal m →
    θ_run (Cert.KernelHoldIdeal.defs (F := Ideal)) (onTc (τ := Cert.KernelHoldIdeal.τ) (Cert.KernelHoldIdeal.main (F := Ideal))) ⟨m, fun _ => 0, g⟩ (fun r => (∀ c : Dev Cert.KernelHoldIdeal.nD,
      r.2.mem ((c.tc : Thread Cert.KernelHoldIdeal.nD Cert.KernelHoldIdeal.τ).loc Cert.KernelHoldIdeal.main_arg0) = m ((c.tc : Thread Cert.KernelHoldIdeal.nD Cert.KernelHoldIdeal.τ).loc Cert.KernelHoldIdeal.main_arg0)
      ∧ r.2.mem ((c.tc : Thread Cert.KernelHoldIdeal.nD Cert.KernelHoldIdeal.τ).loc Cert.KernelHoldIdeal.main_arg1) = m ((c.tc : Thread Cert.KernelHoldIdeal.nD Cert.KernelHoldIdeal.τ).loc Cert.KernelHoldIdeal.main_arg1)
      ∧ r.2.mem ((c.tc : Thread Cert.KernelHoldIdeal.nD Cert.KernelHoldIdeal.τ).loc Cert.KernelHoldIdeal.main_arg2) = m ((c.tc : Thread Cert.KernelHoldIdeal.nD Cert.KernelHoldIdeal.τ).loc Cert.KernelHoldIdeal.main_arg2)
      ∧ r.2.mem ((c.tc : Thread Cert.KernelHoldIdeal.nD Cert.KernelHoldIdeal.τ).loc Cert.KernelHoldIdeal.main_arg3) = m ((c.tc : Thread Cert.KernelHoldIdeal.nD Cert.KernelHoldIdeal.τ).loc Cert.KernelHoldIdeal.main_arg3)
      ∧ r.2.mem ((c.tc : Thread Cert.KernelHoldIdeal.nD Cert.KernelHoldIdeal.τ).loc Cert.KernelHoldIdeal.main_arg4) = m ((c.tc : Thread Cert.KernelHoldIdeal.nD Cert.KernelHoldIdeal.τ).loc Cert.KernelHoldIdeal.main_arg4))
      ∧ r.2.sem = fun _ => 0)

def quiescent_ReferenceHoldIdeal [hReferenceHoldIdeal : Cert.ReferenceHoldIdeal.Facts] : Prop :=
  ∀ (m : (ℓ : Loc Cert.ReferenceHoldIdeal.nD Cert.ReferenceHoldIdeal.τ Cert.ReferenceHoldIdeal.sig) → Buf (Elt Ideal) ℓ) (g : Dev Cert.ReferenceHoldIdeal.nD → PrngReg), Pre_ReferenceHoldIdeal m →
    θ_run (Cert.ReferenceHoldIdeal.defs (F := Ideal)) (onTc (τ := Cert.ReferenceHoldIdeal.τ) (Cert.ReferenceHoldIdeal.main (F := Ideal))) ⟨m, fun _ => 0, g⟩ (fun r => (∀ c : Dev Cert.ReferenceHoldIdeal.nD,
      r.2.mem ((c.tc : Thread Cert.ReferenceHoldIdeal.nD Cert.ReferenceHoldIdeal.τ).loc Cert.ReferenceHoldIdeal.main_arg0) = m ((c.tc : Thread Cert.ReferenceHoldIdeal.nD Cert.ReferenceHoldIdeal.τ).loc Cert.ReferenceHoldIdeal.main_arg0)
      ∧ r.2.mem ((c.tc : Thread Cert.ReferenceHoldIdeal.nD Cert.ReferenceHoldIdeal.τ).loc Cert.ReferenceHoldIdeal.main_arg1) = m ((c.tc : Thread Cert.ReferenceHoldIdeal.nD Cert.ReferenceHoldIdeal.τ).loc Cert.ReferenceHoldIdeal.main_arg1)
      ∧ r.2.mem ((c.tc : Thread Cert.ReferenceHoldIdeal.nD Cert.ReferenceHoldIdeal.τ).loc Cert.ReferenceHoldIdeal.main_arg2) = m ((c.tc : Thread Cert.ReferenceHoldIdeal.nD Cert.ReferenceHoldIdeal.τ).loc Cert.ReferenceHoldIdeal.main_arg2)
      ∧ r.2.mem ((c.tc : Thread Cert.ReferenceHoldIdeal.nD Cert.ReferenceHoldIdeal.τ).loc Cert.ReferenceHoldIdeal.main_arg3) = m ((c.tc : Thread Cert.ReferenceHoldIdeal.nD Cert.ReferenceHoldIdeal.τ).loc Cert.ReferenceHoldIdeal.main_arg3)
      ∧ r.2.mem ((c.tc : Thread Cert.ReferenceHoldIdeal.nD Cert.ReferenceHoldIdeal.τ).loc Cert.ReferenceHoldIdeal.main_arg4) = m ((c.tc : Thread Cert.ReferenceHoldIdeal.nD Cert.ReferenceHoldIdeal.τ).loc Cert.ReferenceHoldIdeal.main_arg4))
      ∧ r.2.sem = fun _ => 0)

def quiescent_KernelStates [hKernelStates : Cert.KernelStates.Facts] : Prop :=
  ∀ (m : (ℓ : Loc Cert.KernelStates.nD Cert.KernelStates.τ Cert.KernelStates.sig) → Buf (Elt Bits) ℓ) (g : Dev Cert.KernelStates.nD → PrngReg), Pre_KernelStates m →
    θ_run (Cert.KernelStates.defs (F := Bits)) (onTc (τ := Cert.KernelStates.τ) (Cert.KernelStates.main (F := Bits))) ⟨m, fun _ => 0, g⟩ (fun r => (∀ c : Dev Cert.KernelStates.nD,
      r.2.mem ((c.tc : Thread Cert.KernelStates.nD Cert.KernelStates.τ).loc Cert.KernelStates.main_arg0) = m ((c.tc : Thread Cert.KernelStates.nD Cert.KernelStates.τ).loc Cert.KernelStates.main_arg0)
      ∧ r.2.mem ((c.tc : Thread Cert.KernelStates.nD Cert.KernelStates.τ).loc Cert.KernelStates.main_arg1) = m ((c.tc : Thread Cert.KernelStates.nD Cert.KernelStates.τ).loc Cert.KernelStates.main_arg1)
      ∧ r.2.mem ((c.tc : Thread Cert.KernelStates.nD Cert.KernelStates.τ).loc Cert.KernelStates.main_arg2) = m ((c.tc : Thread Cert.KernelStates.nD Cert.KernelStates.τ).loc Cert.KernelStates.main_arg2)
      ∧ r.2.mem ((c.tc : Thread Cert.KernelStates.nD Cert.KernelStates.τ).loc Cert.KernelStates.main_arg3) = m ((c.tc : Thread Cert.KernelStates.nD Cert.KernelStates.τ).loc Cert.KernelStates.main_arg3)
      ∧ r.2.mem ((c.tc : Thread Cert.KernelStates.nD Cert.KernelStates.τ).loc Cert.KernelStates.main_arg4) = m ((c.tc : Thread Cert.KernelStates.nD Cert.KernelStates.τ).loc Cert.KernelStates.main_arg4)
      ∧ r.2.mem ((c.tc : Thread Cert.KernelStates.nD Cert.KernelStates.τ).loc Cert.KernelStates.main_arg5) = m ((c.tc : Thread Cert.KernelStates.nD Cert.KernelStates.τ).loc Cert.KernelStates.main_arg5))
      ∧ r.2.sem = fun _ => 0)

def quiescent_KernelStatesIdeal [hKernelStatesIdeal : Cert.KernelStatesIdeal.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg), Pre_KernelStatesIdeal m →
    θ_run (Cert.KernelStatesIdeal.defs (F := Ideal)) (onTc (τ := Cert.KernelStatesIdeal.τ) (Cert.KernelStatesIdeal.main (F := Ideal))) ⟨m, fun _ => 0, g⟩ (fun r => (∀ c : Dev Cert.KernelStatesIdeal.nD,
      r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
      ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
      ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
      ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3)
      ∧ r.2.mem ((c.tc : Thread Cert.KernelStatesIdeal.nD Cert.KernelStatesIdeal.τ).loc Cert.KernelStatesIdeal.main_arg4) = m ((c.tc : Thread Cert.KernelStatesIdeal.nD Cert.KernelStatesIdeal.τ).loc Cert.KernelStatesIdeal.main_arg4)
      ∧ r.2.mem ((c.tc : Thread Cert.KernelStatesIdeal.nD Cert.KernelStatesIdeal.τ).loc Cert.KernelStatesIdeal.main_arg5) = m ((c.tc : Thread Cert.KernelStatesIdeal.nD Cert.KernelStatesIdeal.τ).loc Cert.KernelStatesIdeal.main_arg5))
      ∧ r.2.sem = fun _ => 0)

def quiescent_KernelStatesIdeal_pre_states_finite [hKernelStatesIdeal : Cert.KernelStatesIdeal.Facts] [hPre_states_finite : Cert.Pre_states_finite.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg), Pre_KernelStatesIdeal_states_finite m →
    θ_run (Cert.KernelStatesIdeal.defs (F := Ideal)) (onTc (τ := Cert.KernelStatesIdeal.τ) (Cert.KernelStatesIdeal.main (F := Ideal))) ⟨m, fun _ => 0, g⟩ (fun r => (∀ c : Dev Cert.KernelStatesIdeal.nD,
      r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
      ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
      ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
      ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3)
      ∧ r.2.mem ((c.tc : Thread Cert.KernelStatesIdeal.nD Cert.KernelStatesIdeal.τ).loc Cert.KernelStatesIdeal.main_arg4) = m ((c.tc : Thread Cert.KernelStatesIdeal.nD Cert.KernelStatesIdeal.τ).loc Cert.KernelStatesIdeal.main_arg4)
      ∧ r.2.mem ((c.tc : Thread Cert.KernelStatesIdeal.nD Cert.KernelStatesIdeal.τ).loc Cert.KernelStatesIdeal.main_arg5) = m ((c.tc : Thread Cert.KernelStatesIdeal.nD Cert.KernelStatesIdeal.τ).loc Cert.KernelStatesIdeal.main_arg5))
      ∧ r.2.sem = fun _ => 0)

def quiescent_ReferenceStatesIdeal [hReferenceStatesIdeal : Cert.ReferenceStatesIdeal.Facts] : Prop :=
  ∀ (m : (ℓ : Loc Cert.ReferenceStatesIdeal.nD Cert.ReferenceStatesIdeal.τ Cert.ReferenceStatesIdeal.sig) → Buf (Elt Ideal) ℓ) (g : Dev Cert.ReferenceStatesIdeal.nD → PrngReg), Pre_ReferenceStatesIdeal m →
    θ_run (Cert.ReferenceStatesIdeal.defs (F := Ideal)) (onTc (τ := Cert.ReferenceStatesIdeal.τ) (Cert.ReferenceStatesIdeal.main (F := Ideal))) ⟨m, fun _ => 0, g⟩ (fun r => (∀ c : Dev Cert.ReferenceStatesIdeal.nD,
      r.2.mem ((c.tc : Thread Cert.ReferenceStatesIdeal.nD Cert.ReferenceStatesIdeal.τ).loc Cert.ReferenceStatesIdeal.main_arg0) = m ((c.tc : Thread Cert.ReferenceStatesIdeal.nD Cert.ReferenceStatesIdeal.τ).loc Cert.ReferenceStatesIdeal.main_arg0)
      ∧ r.2.mem ((c.tc : Thread Cert.ReferenceStatesIdeal.nD Cert.ReferenceStatesIdeal.τ).loc Cert.ReferenceStatesIdeal.main_arg1) = m ((c.tc : Thread Cert.ReferenceStatesIdeal.nD Cert.ReferenceStatesIdeal.τ).loc Cert.ReferenceStatesIdeal.main_arg1)
      ∧ r.2.mem ((c.tc : Thread Cert.ReferenceStatesIdeal.nD Cert.ReferenceStatesIdeal.τ).loc Cert.ReferenceStatesIdeal.main_arg2) = m ((c.tc : Thread Cert.ReferenceStatesIdeal.nD Cert.ReferenceStatesIdeal.τ).loc Cert.ReferenceStatesIdeal.main_arg2)
      ∧ r.2.mem ((c.tc : Thread Cert.ReferenceStatesIdeal.nD Cert.ReferenceStatesIdeal.τ).loc Cert.ReferenceStatesIdeal.main_arg3) = m ((c.tc : Thread Cert.ReferenceStatesIdeal.nD Cert.ReferenceStatesIdeal.τ).loc Cert.ReferenceStatesIdeal.main_arg3)
      ∧ r.2.mem ((c.tc : Thread Cert.ReferenceStatesIdeal.nD Cert.ReferenceStatesIdeal.τ).loc Cert.ReferenceStatesIdeal.main_arg4) = m ((c.tc : Thread Cert.ReferenceStatesIdeal.nD Cert.ReferenceStatesIdeal.τ).loc Cert.ReferenceStatesIdeal.main_arg4)
      ∧ r.2.mem ((c.tc : Thread Cert.ReferenceStatesIdeal.nD Cert.ReferenceStatesIdeal.τ).loc Cert.ReferenceStatesIdeal.main_arg5) = m ((c.tc : Thread Cert.ReferenceStatesIdeal.nD Cert.ReferenceStatesIdeal.τ).loc Cert.ReferenceStatesIdeal.main_arg5))
      ∧ r.2.sem = fun _ => 0)

def quiescent_ReferenceStatesIdeal_pre_states_finite [hReferenceStatesIdeal : Cert.ReferenceStatesIdeal.Facts] [hPre_states_finite : Cert.Pre_states_finite.Facts] : Prop :=
  ∀ (m : (ℓ : Loc Cert.ReferenceStatesIdeal.nD Cert.ReferenceStatesIdeal.τ Cert.ReferenceStatesIdeal.sig) → Buf (Elt Ideal) ℓ) (g : Dev Cert.ReferenceStatesIdeal.nD → PrngReg), Pre_ReferenceStatesIdeal_states_finite m →
    θ_run (Cert.ReferenceStatesIdeal.defs (F := Ideal)) (onTc (τ := Cert.ReferenceStatesIdeal.τ) (Cert.ReferenceStatesIdeal.main (F := Ideal))) ⟨m, fun _ => 0, g⟩ (fun r => (∀ c : Dev Cert.ReferenceStatesIdeal.nD,
      r.2.mem ((c.tc : Thread Cert.ReferenceStatesIdeal.nD Cert.ReferenceStatesIdeal.τ).loc Cert.ReferenceStatesIdeal.main_arg0) = m ((c.tc : Thread Cert.ReferenceStatesIdeal.nD Cert.ReferenceStatesIdeal.τ).loc Cert.ReferenceStatesIdeal.main_arg0)
      ∧ r.2.mem ((c.tc : Thread Cert.ReferenceStatesIdeal.nD Cert.ReferenceStatesIdeal.τ).loc Cert.ReferenceStatesIdeal.main_arg1) = m ((c.tc : Thread Cert.ReferenceStatesIdeal.nD Cert.ReferenceStatesIdeal.τ).loc Cert.ReferenceStatesIdeal.main_arg1)
      ∧ r.2.mem ((c.tc : Thread Cert.ReferenceStatesIdeal.nD Cert.ReferenceStatesIdeal.τ).loc Cert.ReferenceStatesIdeal.main_arg2) = m ((c.tc : Thread Cert.ReferenceStatesIdeal.nD Cert.ReferenceStatesIdeal.τ).loc Cert.ReferenceStatesIdeal.main_arg2)
      ∧ r.2.mem ((c.tc : Thread Cert.ReferenceStatesIdeal.nD Cert.ReferenceStatesIdeal.τ).loc Cert.ReferenceStatesIdeal.main_arg3) = m ((c.tc : Thread Cert.ReferenceStatesIdeal.nD Cert.ReferenceStatesIdeal.τ).loc Cert.ReferenceStatesIdeal.main_arg3)
      ∧ r.2.mem ((c.tc : Thread Cert.ReferenceStatesIdeal.nD Cert.ReferenceStatesIdeal.τ).loc Cert.ReferenceStatesIdeal.main_arg4) = m ((c.tc : Thread Cert.ReferenceStatesIdeal.nD Cert.ReferenceStatesIdeal.τ).loc Cert.ReferenceStatesIdeal.main_arg4)
      ∧ r.2.mem ((c.tc : Thread Cert.ReferenceStatesIdeal.nD Cert.ReferenceStatesIdeal.τ).loc Cert.ReferenceStatesIdeal.main_arg5) = m ((c.tc : Thread Cert.ReferenceStatesIdeal.nD Cert.ReferenceStatesIdeal.τ).loc Cert.ReferenceStatesIdeal.main_arg5))
      ∧ r.2.sem = fun _ => 0)

def quiescent_KernelHeads [hKernelHeads : Cert.KernelHeads.Facts] : Prop :=
  ∀ (m : (ℓ : Loc Cert.KernelHeads.nD Cert.KernelHeads.τ Cert.KernelHeads.sig) → Buf (Elt Bits) ℓ) (g : Dev Cert.KernelHeads.nD → PrngReg), Pre_KernelHeads m →
    θ_run (Cert.KernelHeads.defs (F := Bits)) (onTc (τ := Cert.KernelHeads.τ) (Cert.KernelHeads.main (F := Bits))) ⟨m, fun _ => 0, g⟩ (fun r => (∀ c : Dev Cert.KernelHeads.nD,
      r.2.mem ((c.tc : Thread Cert.KernelHeads.nD Cert.KernelHeads.τ).loc Cert.KernelHeads.main_arg0) = m ((c.tc : Thread Cert.KernelHeads.nD Cert.KernelHeads.τ).loc Cert.KernelHeads.main_arg0)
      ∧ r.2.mem ((c.tc : Thread Cert.KernelHeads.nD Cert.KernelHeads.τ).loc Cert.KernelHeads.main_arg1) = m ((c.tc : Thread Cert.KernelHeads.nD Cert.KernelHeads.τ).loc Cert.KernelHeads.main_arg1)
      ∧ r.2.mem ((c.tc : Thread Cert.KernelHeads.nD Cert.KernelHeads.τ).loc Cert.KernelHeads.main_arg2) = m ((c.tc : Thread Cert.KernelHeads.nD Cert.KernelHeads.τ).loc Cert.KernelHeads.main_arg2))
      ∧ r.2.sem = fun _ => 0)

def quiescent_KernelHeadsIdeal [hKernelHeadsIdeal : Cert.KernelHeadsIdeal.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg), Pre_KernelHeadsIdeal m →
    θ_run (Cert.KernelHeadsIdeal.defs (F := Ideal)) (onTc (τ := Cert.KernelHeadsIdeal.τ) (Cert.KernelHeadsIdeal.main (F := Ideal))) ⟨m, fun _ => 0, g⟩ (fun r => (∀ c : Dev Cert.KernelHeadsIdeal.nD,
      r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0)
      ∧ r.2.mem ((c.tc : Thread Cert.KernelHeadsIdeal.nD Cert.KernelHeadsIdeal.τ).loc Cert.KernelHeadsIdeal.main_arg1) = m ((c.tc : Thread Cert.KernelHeadsIdeal.nD Cert.KernelHeadsIdeal.τ).loc Cert.KernelHeadsIdeal.main_arg1)
      ∧ r.2.mem ((c.tc : Thread Cert.KernelHeadsIdeal.nD Cert.KernelHeadsIdeal.τ).loc Cert.KernelHeadsIdeal.main_arg2) = m ((c.tc : Thread Cert.KernelHeadsIdeal.nD Cert.KernelHeadsIdeal.τ).loc Cert.KernelHeadsIdeal.main_arg2))
      ∧ r.2.sem = fun _ => 0)

def quiescent_KernelHeadsIdeal_pre_heads_finite [hKernelHeadsIdeal : Cert.KernelHeadsIdeal.Facts] [hPre_heads_finite : Cert.Pre_heads_finite.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg), Pre_KernelHeadsIdeal_heads_finite m →
    θ_run (Cert.KernelHeadsIdeal.defs (F := Ideal)) (onTc (τ := Cert.KernelHeadsIdeal.τ) (Cert.KernelHeadsIdeal.main (F := Ideal))) ⟨m, fun _ => 0, g⟩ (fun r => (∀ c : Dev Cert.KernelHeadsIdeal.nD,
      r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0)
      ∧ r.2.mem ((c.tc : Thread Cert.KernelHeadsIdeal.nD Cert.KernelHeadsIdeal.τ).loc Cert.KernelHeadsIdeal.main_arg1) = m ((c.tc : Thread Cert.KernelHeadsIdeal.nD Cert.KernelHeadsIdeal.τ).loc Cert.KernelHeadsIdeal.main_arg1)
      ∧ r.2.mem ((c.tc : Thread Cert.KernelHeadsIdeal.nD Cert.KernelHeadsIdeal.τ).loc Cert.KernelHeadsIdeal.main_arg2) = m ((c.tc : Thread Cert.KernelHeadsIdeal.nD Cert.KernelHeadsIdeal.τ).loc Cert.KernelHeadsIdeal.main_arg2))
      ∧ r.2.sem = fun _ => 0)

def quiescent_ReferenceHeadsIdeal [hReferenceHeadsIdeal : Cert.ReferenceHeadsIdeal.Facts] : Prop :=
  ∀ (m : (ℓ : Loc Cert.ReferenceHeadsIdeal.nD Cert.ReferenceHeadsIdeal.τ Cert.ReferenceHeadsIdeal.sig) → Buf (Elt Ideal) ℓ) (g : Dev Cert.ReferenceHeadsIdeal.nD → PrngReg), Pre_ReferenceHeadsIdeal m →
    θ_run (Cert.ReferenceHeadsIdeal.defs (F := Ideal)) (onTc (τ := Cert.ReferenceHeadsIdeal.τ) (Cert.ReferenceHeadsIdeal.main (F := Ideal))) ⟨m, fun _ => 0, g⟩ (fun r => (∀ c : Dev Cert.ReferenceHeadsIdeal.nD,
      r.2.mem ((c.tc : Thread Cert.ReferenceHeadsIdeal.nD Cert.ReferenceHeadsIdeal.τ).loc Cert.ReferenceHeadsIdeal.main_arg0) = m ((c.tc : Thread Cert.ReferenceHeadsIdeal.nD Cert.ReferenceHeadsIdeal.τ).loc Cert.ReferenceHeadsIdeal.main_arg0)
      ∧ r.2.mem ((c.tc : Thread Cert.ReferenceHeadsIdeal.nD Cert.ReferenceHeadsIdeal.τ).loc Cert.ReferenceHeadsIdeal.main_arg1) = m ((c.tc : Thread Cert.ReferenceHeadsIdeal.nD Cert.ReferenceHeadsIdeal.τ).loc Cert.ReferenceHeadsIdeal.main_arg1)
      ∧ r.2.mem ((c.tc : Thread Cert.ReferenceHeadsIdeal.nD Cert.ReferenceHeadsIdeal.τ).loc Cert.ReferenceHeadsIdeal.main_arg2) = m ((c.tc : Thread Cert.ReferenceHeadsIdeal.nD Cert.ReferenceHeadsIdeal.τ).loc Cert.ReferenceHeadsIdeal.main_arg2))
      ∧ r.2.sem = fun _ => 0)

def quiescent_ReferenceHeadsIdeal_pre_heads_finite [hReferenceHeadsIdeal : Cert.ReferenceHeadsIdeal.Facts] [hPre_heads_finite : Cert.Pre_heads_finite.Facts] : Prop :=
  ∀ (m : (ℓ : Loc Cert.ReferenceHeadsIdeal.nD Cert.ReferenceHeadsIdeal.τ Cert.ReferenceHeadsIdeal.sig) → Buf (Elt Ideal) ℓ) (g : Dev Cert.ReferenceHeadsIdeal.nD → PrngReg), Pre_ReferenceHeadsIdeal_heads_finite m →
    θ_run (Cert.ReferenceHeadsIdeal.defs (F := Ideal)) (onTc (τ := Cert.ReferenceHeadsIdeal.τ) (Cert.ReferenceHeadsIdeal.main (F := Ideal))) ⟨m, fun _ => 0, g⟩ (fun r => (∀ c : Dev Cert.ReferenceHeadsIdeal.nD,
      r.2.mem ((c.tc : Thread Cert.ReferenceHeadsIdeal.nD Cert.ReferenceHeadsIdeal.τ).loc Cert.ReferenceHeadsIdeal.main_arg0) = m ((c.tc : Thread Cert.ReferenceHeadsIdeal.nD Cert.ReferenceHeadsIdeal.τ).loc Cert.ReferenceHeadsIdeal.main_arg0)
      ∧ r.2.mem ((c.tc : Thread Cert.ReferenceHeadsIdeal.nD Cert.ReferenceHeadsIdeal.τ).loc Cert.ReferenceHeadsIdeal.main_arg1) = m ((c.tc : Thread Cert.ReferenceHeadsIdeal.nD Cert.ReferenceHeadsIdeal.τ).loc Cert.ReferenceHeadsIdeal.main_arg1)
      ∧ r.2.mem ((c.tc : Thread Cert.ReferenceHeadsIdeal.nD Cert.ReferenceHeadsIdeal.τ).loc Cert.ReferenceHeadsIdeal.main_arg2) = m ((c.tc : Thread Cert.ReferenceHeadsIdeal.nD Cert.ReferenceHeadsIdeal.τ).loc Cert.ReferenceHeadsIdeal.main_arg2))
      ∧ r.2.sem = fun _ => 0)

def preserves_KernelZoh_KernelZohIdeal : Prop :=
  True

def algebraic_KernelZohIdeal_ReferenceZohIdeal_pre_zoh_finite [hKernelZohIdeal : Cert.KernelZohIdeal.Facts] [hReferenceZohIdeal : Cert.ReferenceZohIdeal.Facts] [hPre_zoh_finite : Cert.Pre_zoh_finite.Facts] : Prop :=
  ∀ (m : (ℓ : Loc Cert.KernelZohIdeal.nD Cert.KernelZohIdeal.τ Cert.KernelZohIdeal.sig) → Buf (Elt Ideal) ℓ) (g : Dev Cert.KernelZohIdeal.nD → PrngReg)
    (m' : (ℓ : Loc Cert.ReferenceZohIdeal.nD Cert.ReferenceZohIdeal.τ Cert.ReferenceZohIdeal.sig) → Buf (Elt Ideal) ℓ) (g' : Dev Cert.ReferenceZohIdeal.nD → PrngReg), Pre_KernelZohIdeal_zoh_finite m →
    (∀ c : Dev Cert.KernelZohIdeal.nD,
      m' ((c.tc : Thread Cert.ReferenceZohIdeal.nD Cert.ReferenceZohIdeal.τ).loc Cert.ReferenceZohIdeal.main_arg0) = m ((c.tc : Thread Cert.KernelZohIdeal.nD Cert.KernelZohIdeal.τ).loc Cert.KernelZohIdeal.main_arg0)
      ∧ m' ((c.tc : Thread Cert.ReferenceZohIdeal.nD Cert.ReferenceZohIdeal.τ).loc Cert.ReferenceZohIdeal.main_arg1) = m ((c.tc : Thread Cert.KernelZohIdeal.nD Cert.KernelZohIdeal.τ).loc Cert.KernelZohIdeal.main_arg1)
      ∧ m' ((c.tc : Thread Cert.ReferenceZohIdeal.nD Cert.ReferenceZohIdeal.τ).loc Cert.ReferenceZohIdeal.main_arg2) = m ((c.tc : Thread Cert.KernelZohIdeal.nD Cert.KernelZohIdeal.τ).loc Cert.KernelZohIdeal.main_arg2)
      ∧ m' ((c.tc : Thread Cert.ReferenceZohIdeal.nD Cert.ReferenceZohIdeal.τ).loc Cert.ReferenceZohIdeal.main_arg3) = m ((c.tc : Thread Cert.KernelZohIdeal.nD Cert.KernelZohIdeal.τ).loc Cert.KernelZohIdeal.main_arg3)
      ∧ m' ((c.tc : Thread Cert.ReferenceZohIdeal.nD Cert.ReferenceZohIdeal.τ).loc Cert.ReferenceZohIdeal.main_arg4) = m ((c.tc : Thread Cert.KernelZohIdeal.nD Cert.KernelZohIdeal.τ).loc Cert.KernelZohIdeal.main_arg4)
      ∧ m' ((c.tc : Thread Cert.ReferenceZohIdeal.nD Cert.ReferenceZohIdeal.τ).loc Cert.ReferenceZohIdeal.main_arg5) = m ((c.tc : Thread Cert.KernelZohIdeal.nD Cert.KernelZohIdeal.τ).loc Cert.KernelZohIdeal.main_arg5)
      ∧ m' ((c.tc : Thread Cert.ReferenceZohIdeal.nD Cert.ReferenceZohIdeal.τ).loc Cert.ReferenceZohIdeal.main_arg6) = m ((c.tc : Thread Cert.KernelZohIdeal.nD Cert.KernelZohIdeal.τ).loc Cert.KernelZohIdeal.main_arg6)
      ∧ m' ((c.tc : Thread Cert.ReferenceZohIdeal.nD Cert.ReferenceZohIdeal.τ).loc Cert.ReferenceZohIdeal.main_arg7) = m ((c.tc : Thread Cert.KernelZohIdeal.nD Cert.KernelZohIdeal.τ).loc Cert.KernelZohIdeal.main_arg7)
      ∧ m' ((c.tc : Thread Cert.ReferenceZohIdeal.nD Cert.ReferenceZohIdeal.τ).loc Cert.ReferenceZohIdeal.main_arg8) = m ((c.tc : Thread Cert.KernelZohIdeal.nD Cert.KernelZohIdeal.τ).loc Cert.KernelZohIdeal.main_arg8)) →
    ∃ (v0 : (c : Dev Cert.KernelZohIdeal.nD) → Buf (Elt Ideal) ((c.tc : Thread Cert.KernelZohIdeal.nD Cert.KernelZohIdeal.τ).loc Cert.KernelZohIdeal.main_v11_0)) (v1 : (c : Dev Cert.KernelZohIdeal.nD) → Buf (Elt Ideal) ((c.tc : Thread Cert.KernelZohIdeal.nD Cert.KernelZohIdeal.τ).loc Cert.KernelZohIdeal.main_v11_1)) (v2 : (c : Dev Cert.KernelZohIdeal.nD) → Buf (Elt Ideal) ((c.tc : Thread Cert.KernelZohIdeal.nD Cert.KernelZohIdeal.τ).loc Cert.KernelZohIdeal.main_v11_2)) (v3 : (c : Dev Cert.KernelZohIdeal.nD) → Buf (Elt Ideal) ((c.tc : Thread Cert.KernelZohIdeal.nD Cert.KernelZohIdeal.τ).loc Cert.KernelZohIdeal.main_v11_3)) (v4 : (c : Dev Cert.KernelZohIdeal.nD) → Buf (Elt Ideal) ((c.tc : Thread Cert.KernelZohIdeal.nD Cert.KernelZohIdeal.τ).loc Cert.KernelZohIdeal.main_v11_4)),
      θ_run (Cert.KernelZohIdeal.defs (F := Ideal)) (onTc (τ := Cert.KernelZohIdeal.τ) (Cert.KernelZohIdeal.main (F := Ideal))) ⟨m, fun _ => 0, g⟩ (fun r => ∀ c : Dev Cert.KernelZohIdeal.nD,
          r.2.mem ((c.tc : Thread Cert.KernelZohIdeal.nD Cert.KernelZohIdeal.τ).loc Cert.KernelZohIdeal.main_v11_0) = v0 c
          ∧ r.2.mem ((c.tc : Thread Cert.KernelZohIdeal.nD Cert.KernelZohIdeal.τ).loc Cert.KernelZohIdeal.main_v11_1) = v1 c
          ∧ r.2.mem ((c.tc : Thread Cert.KernelZohIdeal.nD Cert.KernelZohIdeal.τ).loc Cert.KernelZohIdeal.main_v11_2) = v2 c
          ∧ r.2.mem ((c.tc : Thread Cert.KernelZohIdeal.nD Cert.KernelZohIdeal.τ).loc Cert.KernelZohIdeal.main_v11_3) = v3 c
          ∧ r.2.mem ((c.tc : Thread Cert.KernelZohIdeal.nD Cert.KernelZohIdeal.τ).loc Cert.KernelZohIdeal.main_v11_4) = v4 c
          ∧ r.2.mem ((c.tc : Thread Cert.KernelZohIdeal.nD Cert.KernelZohIdeal.τ).loc Cert.KernelZohIdeal.main_arg0) = m ((c.tc : Thread Cert.KernelZohIdeal.nD Cert.KernelZohIdeal.τ).loc Cert.KernelZohIdeal.main_arg0)
          ∧ r.2.mem ((c.tc : Thread Cert.KernelZohIdeal.nD Cert.KernelZohIdeal.τ).loc Cert.KernelZohIdeal.main_arg1) = m ((c.tc : Thread Cert.KernelZohIdeal.nD Cert.KernelZohIdeal.τ).loc Cert.KernelZohIdeal.main_arg1)
          ∧ r.2.mem ((c.tc : Thread Cert.KernelZohIdeal.nD Cert.KernelZohIdeal.τ).loc Cert.KernelZohIdeal.main_arg2) = m ((c.tc : Thread Cert.KernelZohIdeal.nD Cert.KernelZohIdeal.τ).loc Cert.KernelZohIdeal.main_arg2)
          ∧ r.2.mem ((c.tc : Thread Cert.KernelZohIdeal.nD Cert.KernelZohIdeal.τ).loc Cert.KernelZohIdeal.main_arg3) = m ((c.tc : Thread Cert.KernelZohIdeal.nD Cert.KernelZohIdeal.τ).loc Cert.KernelZohIdeal.main_arg3)
          ∧ r.2.mem ((c.tc : Thread Cert.KernelZohIdeal.nD Cert.KernelZohIdeal.τ).loc Cert.KernelZohIdeal.main_arg4) = m ((c.tc : Thread Cert.KernelZohIdeal.nD Cert.KernelZohIdeal.τ).loc Cert.KernelZohIdeal.main_arg4)
          ∧ r.2.mem ((c.tc : Thread Cert.KernelZohIdeal.nD Cert.KernelZohIdeal.τ).loc Cert.KernelZohIdeal.main_arg5) = m ((c.tc : Thread Cert.KernelZohIdeal.nD Cert.KernelZohIdeal.τ).loc Cert.KernelZohIdeal.main_arg5)
          ∧ r.2.mem ((c.tc : Thread Cert.KernelZohIdeal.nD Cert.KernelZohIdeal.τ).loc Cert.KernelZohIdeal.main_arg6) = m ((c.tc : Thread Cert.KernelZohIdeal.nD Cert.KernelZohIdeal.τ).loc Cert.KernelZohIdeal.main_arg6)
          ∧ r.2.mem ((c.tc : Thread Cert.KernelZohIdeal.nD Cert.KernelZohIdeal.τ).loc Cert.KernelZohIdeal.main_arg7) = m ((c.tc : Thread Cert.KernelZohIdeal.nD Cert.KernelZohIdeal.τ).loc Cert.KernelZohIdeal.main_arg7)
          ∧ r.2.mem ((c.tc : Thread Cert.KernelZohIdeal.nD Cert.KernelZohIdeal.τ).loc Cert.KernelZohIdeal.main_arg8) = m ((c.tc : Thread Cert.KernelZohIdeal.nD Cert.KernelZohIdeal.τ).loc Cert.KernelZohIdeal.main_arg8))
      ∧ θ_run (Cert.ReferenceZohIdeal.defs (F := Ideal)) (onTc (τ := Cert.ReferenceZohIdeal.τ) (Cert.ReferenceZohIdeal.main (F := Ideal))) ⟨m', fun _ => 0, g'⟩ (fun r => ∀ c : Dev Cert.ReferenceZohIdeal.nD,
          r.2.mem ((c.tc : Thread Cert.ReferenceZohIdeal.nD Cert.ReferenceZohIdeal.τ).loc Cert.ReferenceZohIdeal.main_v141) = v0 c
          ∧ r.2.mem ((c.tc : Thread Cert.ReferenceZohIdeal.nD Cert.ReferenceZohIdeal.τ).loc Cert.ReferenceZohIdeal.main_v142) = v1 c
          ∧ r.2.mem ((c.tc : Thread Cert.ReferenceZohIdeal.nD Cert.ReferenceZohIdeal.τ).loc Cert.ReferenceZohIdeal.main_v143) = v2 c
          ∧ r.2.mem ((c.tc : Thread Cert.ReferenceZohIdeal.nD Cert.ReferenceZohIdeal.τ).loc Cert.ReferenceZohIdeal.main_v144) = v3 c
          ∧ r.2.mem ((c.tc : Thread Cert.ReferenceZohIdeal.nD Cert.ReferenceZohIdeal.τ).loc Cert.ReferenceZohIdeal.main_v145) = v4 c
          ∧ r.2.mem ((c.tc : Thread Cert.ReferenceZohIdeal.nD Cert.ReferenceZohIdeal.τ).loc Cert.ReferenceZohIdeal.main_arg0) = m' ((c.tc : Thread Cert.ReferenceZohIdeal.nD Cert.ReferenceZohIdeal.τ).loc Cert.ReferenceZohIdeal.main_arg0)
          ∧ r.2.mem ((c.tc : Thread Cert.ReferenceZohIdeal.nD Cert.ReferenceZohIdeal.τ).loc Cert.ReferenceZohIdeal.main_arg1) = m' ((c.tc : Thread Cert.ReferenceZohIdeal.nD Cert.ReferenceZohIdeal.τ).loc Cert.ReferenceZohIdeal.main_arg1)
          ∧ r.2.mem ((c.tc : Thread Cert.ReferenceZohIdeal.nD Cert.ReferenceZohIdeal.τ).loc Cert.ReferenceZohIdeal.main_arg2) = m' ((c.tc : Thread Cert.ReferenceZohIdeal.nD Cert.ReferenceZohIdeal.τ).loc Cert.ReferenceZohIdeal.main_arg2)
          ∧ r.2.mem ((c.tc : Thread Cert.ReferenceZohIdeal.nD Cert.ReferenceZohIdeal.τ).loc Cert.ReferenceZohIdeal.main_arg3) = m' ((c.tc : Thread Cert.ReferenceZohIdeal.nD Cert.ReferenceZohIdeal.τ).loc Cert.ReferenceZohIdeal.main_arg3)
          ∧ r.2.mem ((c.tc : Thread Cert.ReferenceZohIdeal.nD Cert.ReferenceZohIdeal.τ).loc Cert.ReferenceZohIdeal.main_arg4) = m' ((c.tc : Thread Cert.ReferenceZohIdeal.nD Cert.ReferenceZohIdeal.τ).loc Cert.ReferenceZohIdeal.main_arg4)
          ∧ r.2.mem ((c.tc : Thread Cert.ReferenceZohIdeal.nD Cert.ReferenceZohIdeal.τ).loc Cert.ReferenceZohIdeal.main_arg5) = m' ((c.tc : Thread Cert.ReferenceZohIdeal.nD Cert.ReferenceZohIdeal.τ).loc Cert.ReferenceZohIdeal.main_arg5)
          ∧ r.2.mem ((c.tc : Thread Cert.ReferenceZohIdeal.nD Cert.ReferenceZohIdeal.τ).loc Cert.ReferenceZohIdeal.main_arg6) = m' ((c.tc : Thread Cert.ReferenceZohIdeal.nD Cert.ReferenceZohIdeal.τ).loc Cert.ReferenceZohIdeal.main_arg6)
          ∧ r.2.mem ((c.tc : Thread Cert.ReferenceZohIdeal.nD Cert.ReferenceZohIdeal.τ).loc Cert.ReferenceZohIdeal.main_arg7) = m' ((c.tc : Thread Cert.ReferenceZohIdeal.nD Cert.ReferenceZohIdeal.τ).loc Cert.ReferenceZohIdeal.main_arg7)
          ∧ r.2.mem ((c.tc : Thread Cert.ReferenceZohIdeal.nD Cert.ReferenceZohIdeal.τ).loc Cert.ReferenceZohIdeal.main_arg8) = m' ((c.tc : Thread Cert.ReferenceZohIdeal.nD Cert.ReferenceZohIdeal.τ).loc Cert.ReferenceZohIdeal.main_arg8))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v5)) (v1 : (c : Dev Cert.KernelFfnIdeal.nD) → Buf (Elt Ideal) ((c.tc : Thread Cert.KernelFfnIdeal.nD Cert.KernelFfnIdeal.τ).loc Cert.KernelFfnIdeal.main_v6_2)) (v2 : (c : Dev Cert.KernelFfnIdeal.nD) → Buf (Elt Ideal) ((c.tc : Thread Cert.KernelFfnIdeal.nD Cert.KernelFfnIdeal.τ).loc Cert.KernelFfnIdeal.main_v8_0)) (v3 : (c : Dev Cert.KernelFfnIdeal.nD) → Buf (Elt Ideal) ((c.tc : Thread Cert.KernelFfnIdeal.nD Cert.KernelFfnIdeal.τ).loc Cert.KernelFfnIdeal.main_v8_1)) (v4 : (c : Dev Cert.KernelFfnIdeal.nD) → Buf (Elt Ideal) ((c.tc : Thread Cert.KernelFfnIdeal.nD Cert.KernelFfnIdeal.τ).loc Cert.KernelFfnIdeal.main_v9_0)) (v5 : (c : Dev Cert.KernelFfnIdeal.nD) → Buf (Elt Ideal) ((c.tc : Thread Cert.KernelFfnIdeal.nD Cert.KernelFfnIdeal.τ).loc Cert.KernelFfnIdeal.main_v9_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5) = v0 c
          ∧ r.2.mem ((c.tc : Thread Cert.KernelFfnIdeal.nD Cert.KernelFfnIdeal.τ).loc Cert.KernelFfnIdeal.main_v6_2) = v1 c
          ∧ r.2.mem ((c.tc : Thread Cert.KernelFfnIdeal.nD Cert.KernelFfnIdeal.τ).loc Cert.KernelFfnIdeal.main_v8_0) = v2 c
          ∧ r.2.mem ((c.tc : Thread Cert.KernelFfnIdeal.nD Cert.KernelFfnIdeal.τ).loc Cert.KernelFfnIdeal.main_v8_1) = v3 c
          ∧ r.2.mem ((c.tc : Thread Cert.KernelFfnIdeal.nD Cert.KernelFfnIdeal.τ).loc Cert.KernelFfnIdeal.main_v9_0) = v4 c
          ∧ r.2.mem ((c.tc : Thread Cert.KernelFfnIdeal.nD Cert.KernelFfnIdeal.τ).loc Cert.KernelFfnIdeal.main_v9_1) = v5 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v33) = v0 c
          ∧ r.2.mem ((c.tc : Thread Cert.ReferenceFfnIdeal.nD Cert.ReferenceFfnIdeal.τ).loc Cert.ReferenceFfnIdeal.main_v36) = v1 c
          ∧ r.2.mem ((c.tc : Thread Cert.ReferenceFfnIdeal.nD Cert.ReferenceFfnIdeal.τ).loc Cert.ReferenceFfnIdeal.main_v21) = v2 c
          ∧ r.2.mem ((c.tc : Thread Cert.ReferenceFfnIdeal.nD Cert.ReferenceFfnIdeal.τ).loc Cert.ReferenceFfnIdeal.main_v50) = v3 c
          ∧ r.2.mem ((c.tc : Thread Cert.ReferenceFfnIdeal.nD Cert.ReferenceFfnIdeal.τ).loc Cert.ReferenceFfnIdeal.main_v51) = v4 c
          ∧ r.2.mem ((c.tc : Thread Cert.ReferenceFfnIdeal.nD Cert.ReferenceFfnIdeal.τ).loc Cert.ReferenceFfnIdeal.main_v52) = v5 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelIndx_KernelIndxIdeal : Prop :=
  True

def algebraic_KernelIndxIdeal_ReferenceIndxIdeal_pre_indx_finite [hKernelIndxIdeal : Cert.KernelIndxIdeal.Facts] [hReferenceIndxIdeal : Cert.ReferenceIndxIdeal.Facts] [hPre_indx_finite : Cert.Pre_indx_finite.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg)
    (m' : (ℓ : Loc Cert.ReferenceIndxIdeal.nD Cert.ReferenceIndxIdeal.τ Cert.ReferenceIndxIdeal.sig) → Buf (Elt Ideal) ℓ) (g' : Dev Cert.ReferenceIndxIdeal.nD → PrngReg), Pre_KernelIndxIdeal_indx_finite m →
    (∀ c : Dev Cert.KernelIndxIdeal.nD,
      m' ((c.tc : Thread Cert.ReferenceIndxIdeal.nD Cert.ReferenceIndxIdeal.τ).loc Cert.ReferenceIndxIdeal.main_arg0) = m ((c.tc : Thread Cert.KernelIndxIdeal.nD Cert.KernelIndxIdeal.τ).loc Cert.KernelIndxIdeal.main_arg0)
      ∧ m' ((c.tc : Thread Cert.ReferenceIndxIdeal.nD Cert.ReferenceIndxIdeal.τ).loc Cert.ReferenceIndxIdeal.main_arg1) = m ((c.tc : Thread Cert.KernelIndxIdeal.nD Cert.KernelIndxIdeal.τ).loc Cert.KernelIndxIdeal.main_arg1)
      ∧ m' ((c.tc : Thread Cert.ReferenceIndxIdeal.nD Cert.ReferenceIndxIdeal.τ).loc Cert.ReferenceIndxIdeal.main_arg2) = m ((c.tc : Thread Cert.KernelIndxIdeal.nD Cert.KernelIndxIdeal.τ).loc Cert.KernelIndxIdeal.main_arg2)
      ∧ m' ((c.tc : Thread Cert.ReferenceIndxIdeal.nD Cert.ReferenceIndxIdeal.τ).loc Cert.ReferenceIndxIdeal.main_arg3) = m ((c.tc : Thread Cert.KernelIndxIdeal.nD Cert.KernelIndxIdeal.τ).loc Cert.KernelIndxIdeal.main_arg3)
      ∧ m' ((c.tc : Thread Cert.ReferenceIndxIdeal.nD Cert.ReferenceIndxIdeal.τ).loc Cert.ReferenceIndxIdeal.main_arg4) = m ((c.tc : Thread Cert.KernelIndxIdeal.nD Cert.KernelIndxIdeal.τ).loc Cert.KernelIndxIdeal.main_arg4)
      ∧ m' ((c.tc : Thread Cert.ReferenceIndxIdeal.nD Cert.ReferenceIndxIdeal.τ).loc Cert.ReferenceIndxIdeal.main_arg5) = m ((c.tc : Thread Cert.KernelIndxIdeal.nD Cert.KernelIndxIdeal.τ).loc Cert.KernelIndxIdeal.main_arg5)) →
    ∃ (v0 : (c : Dev Cert.KernelIndxIdeal.nD) → Buf (Elt Ideal) ((c.tc : Thread Cert.KernelIndxIdeal.nD Cert.KernelIndxIdeal.τ).loc Cert.KernelIndxIdeal.main_v4_0)) (v1 : (c : Dev Cert.KernelIndxIdeal.nD) → Buf (Elt Ideal) ((c.tc : Thread Cert.KernelIndxIdeal.nD Cert.KernelIndxIdeal.τ).loc Cert.KernelIndxIdeal.main_v4_1)),
      θ_run (Cert.KernelIndxIdeal.defs (F := Ideal)) (onTc (τ := Cert.KernelIndxIdeal.τ) (Cert.KernelIndxIdeal.main (F := Ideal))) ⟨m, fun _ => 0, g⟩ (fun r => ∀ c : Dev Cert.KernelIndxIdeal.nD,
          r.2.mem ((c.tc : Thread Cert.KernelIndxIdeal.nD Cert.KernelIndxIdeal.τ).loc Cert.KernelIndxIdeal.main_v4_0) = v0 c
          ∧ r.2.mem ((c.tc : Thread Cert.KernelIndxIdeal.nD Cert.KernelIndxIdeal.τ).loc Cert.KernelIndxIdeal.main_v4_1) = v1 c
          ∧ r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
          ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
          ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
          ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
          ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4)
          ∧ r.2.mem ((c.tc : Thread Cert.KernelIndxIdeal.nD Cert.KernelIndxIdeal.τ).loc Cert.KernelIndxIdeal.main_arg5) = m ((c.tc : Thread Cert.KernelIndxIdeal.nD Cert.KernelIndxIdeal.τ).loc Cert.KernelIndxIdeal.main_arg5))
      ∧ θ_run (Cert.ReferenceIndxIdeal.defs (F := Ideal)) (onTc (τ := Cert.ReferenceIndxIdeal.τ) (Cert.ReferenceIndxIdeal.main (F := Ideal))) ⟨m', fun _ => 0, g'⟩ (fun r => ∀ c : Dev Cert.ReferenceIndxIdeal.nD,
          r.2.mem ((c.tc : Thread Cert.ReferenceIndxIdeal.nD Cert.ReferenceIndxIdeal.τ).loc Cert.ReferenceIndxIdeal.main_v45) = v0 c
          ∧ r.2.mem ((c.tc : Thread Cert.ReferenceIndxIdeal.nD Cert.ReferenceIndxIdeal.τ).loc Cert.ReferenceIndxIdeal.main_v46) = v1 c
          ∧ r.2.mem ((c.tc : Thread Cert.ReferenceIndxIdeal.nD Cert.ReferenceIndxIdeal.τ).loc Cert.ReferenceIndxIdeal.main_arg0) = m' ((c.tc : Thread Cert.ReferenceIndxIdeal.nD Cert.ReferenceIndxIdeal.τ).loc Cert.ReferenceIndxIdeal.main_arg0)
          ∧ r.2.mem ((c.tc : Thread Cert.ReferenceIndxIdeal.nD Cert.ReferenceIndxIdeal.τ).loc Cert.ReferenceIndxIdeal.main_arg1) = m' ((c.tc : Thread Cert.ReferenceIndxIdeal.nD Cert.ReferenceIndxIdeal.τ).loc Cert.ReferenceIndxIdeal.main_arg1)
          ∧ r.2.mem ((c.tc : Thread Cert.ReferenceIndxIdeal.nD Cert.ReferenceIndxIdeal.τ).loc Cert.ReferenceIndxIdeal.main_arg2) = m' ((c.tc : Thread Cert.ReferenceIndxIdeal.nD Cert.ReferenceIndxIdeal.τ).loc Cert.ReferenceIndxIdeal.main_arg2)
          ∧ r.2.mem ((c.tc : Thread Cert.ReferenceIndxIdeal.nD Cert.ReferenceIndxIdeal.τ).loc Cert.ReferenceIndxIdeal.main_arg3) = m' ((c.tc : Thread Cert.ReferenceIndxIdeal.nD Cert.ReferenceIndxIdeal.τ).loc Cert.ReferenceIndxIdeal.main_arg3)
          ∧ r.2.mem ((c.tc : Thread Cert.ReferenceIndxIdeal.nD Cert.ReferenceIndxIdeal.τ).loc Cert.ReferenceIndxIdeal.main_arg4) = m' ((c.tc : Thread Cert.ReferenceIndxIdeal.nD Cert.ReferenceIndxIdeal.τ).loc Cert.ReferenceIndxIdeal.main_arg4)
          ∧ r.2.mem ((c.tc : Thread Cert.ReferenceIndxIdeal.nD Cert.ReferenceIndxIdeal.τ).loc Cert.ReferenceIndxIdeal.main_arg5) = m' ((c.tc : Thread Cert.ReferenceIndxIdeal.nD Cert.ReferenceIndxIdeal.τ).loc Cert.ReferenceIndxIdeal.main_arg5))

def preserves_KernelLoss_KernelLossIdeal : Prop :=
  True

def algebraic_KernelLossIdeal_ReferenceLossIdeal_pre_loss_finite [hKernelLossIdeal : Cert.KernelLossIdeal.Facts] [hReferenceLossIdeal : Cert.ReferenceLossIdeal.Facts] [hPre_loss_finite : Cert.Pre_loss_finite.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_loss_finite m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v9_3)) (v1 : (c : Dev Cert.KernelLossIdeal.nD) → Buf (Elt Ideal) ((c.tc : Thread Cert.KernelLossIdeal.nD Cert.KernelLossIdeal.τ).loc Cert.KernelLossIdeal.main_v9_0)) (v2 : (c : Dev Cert.KernelLossIdeal.nD) → Buf (Elt Ideal) ((c.tc : Thread Cert.KernelLossIdeal.nD Cert.KernelLossIdeal.τ).loc Cert.KernelLossIdeal.main_v9_1)) (v3 : (c : Dev Cert.KernelLossIdeal.nD) → Buf (Elt Ideal) ((c.tc : Thread Cert.KernelLossIdeal.nD Cert.KernelLossIdeal.τ).loc Cert.KernelLossIdeal.main_v9_2)) (v4 : (c : Dev Cert.KernelLossIdeal.nD) → Buf (Elt Ideal) ((c.tc : Thread Cert.KernelLossIdeal.nD Cert.KernelLossIdeal.τ).loc Cert.KernelLossIdeal.main_v9_4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v9_3) = v0 c
          ∧ r.2.mem ((c.tc : Thread Cert.KernelLossIdeal.nD Cert.KernelLossIdeal.τ).loc Cert.KernelLossIdeal.main_v9_0) = v1 c
          ∧ r.2.mem ((c.tc : Thread Cert.KernelLossIdeal.nD Cert.KernelLossIdeal.τ).loc Cert.KernelLossIdeal.main_v9_1) = v2 c
          ∧ r.2.mem ((c.tc : Thread Cert.KernelLossIdeal.nD Cert.KernelLossIdeal.τ).loc Cert.KernelLossIdeal.main_v9_2) = v3 c
          ∧ r.2.mem ((c.tc : Thread Cert.KernelLossIdeal.nD Cert.KernelLossIdeal.τ).loc Cert.KernelLossIdeal.main_v9_4) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v65) = v0 c
          ∧ r.2.mem ((c.tc : Thread Cert.ReferenceLossIdeal.nD Cert.ReferenceLossIdeal.τ).loc Cert.ReferenceLossIdeal.main_v61) = v1 c
          ∧ r.2.mem ((c.tc : Thread Cert.ReferenceLossIdeal.nD Cert.ReferenceLossIdeal.τ).loc Cert.ReferenceLossIdeal.main_v66) = v2 c
          ∧ r.2.mem ((c.tc : Thread Cert.ReferenceLossIdeal.nD Cert.ReferenceLossIdeal.τ).loc Cert.ReferenceLossIdeal.main_v67) = v3 c
          ∧ r.2.mem ((c.tc : Thread Cert.ReferenceLossIdeal.nD Cert.ReferenceLossIdeal.τ).loc Cert.ReferenceLossIdeal.main_v68) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelGatedx_KernelGatedxIdeal : Prop :=
  True

def algebraic_KernelGatedxIdeal_ReferenceGatedxIdeal_pre_gatedx_finite [hKernelGatedxIdeal : Cert.KernelGatedxIdeal.Facts] [hReferenceGatedxIdeal : Cert.ReferenceGatedxIdeal.Facts] [hPre_gatedx_finite : Cert.Pre_gatedx_finite.Facts] : Prop :=
  ∀ (m : (ℓ : Loc Cert.KernelGatedxIdeal.nD Cert.KernelGatedxIdeal.τ Cert.KernelGatedxIdeal.sig) → Buf (Elt Ideal) ℓ) (g : Dev Cert.KernelGatedxIdeal.nD → PrngReg)
    (m' : (ℓ : Loc Cert.ReferenceGatedxIdeal.nD Cert.ReferenceGatedxIdeal.τ Cert.ReferenceGatedxIdeal.sig) → Buf (Elt Ideal) ℓ) (g' : Dev Cert.ReferenceGatedxIdeal.nD → PrngReg), Pre_KernelGatedxIdeal_gatedx_finite m →
    (∀ c : Dev Cert.KernelGatedxIdeal.nD,
      m' ((c.tc : Thread Cert.ReferenceGatedxIdeal.nD Cert.ReferenceGatedxIdeal.τ).loc Cert.ReferenceGatedxIdeal.main_arg0) = m ((c.tc : Thread Cert.KernelGatedxIdeal.nD Cert.KernelGatedxIdeal.τ).loc Cert.KernelGatedxIdeal.main_arg0)
      ∧ m' ((c.tc : Thread Cert.ReferenceGatedxIdeal.nD Cert.ReferenceGatedxIdeal.τ).loc Cert.ReferenceGatedxIdeal.main_arg1) = m ((c.tc : Thread Cert.KernelGatedxIdeal.nD Cert.KernelGatedxIdeal.τ).loc Cert.KernelGatedxIdeal.main_arg1)
      ∧ m' ((c.tc : Thread Cert.ReferenceGatedxIdeal.nD Cert.ReferenceGatedxIdeal.τ).loc Cert.ReferenceGatedxIdeal.main_arg2) = m ((c.tc : Thread Cert.KernelGatedxIdeal.nD Cert.KernelGatedxIdeal.τ).loc Cert.KernelGatedxIdeal.main_arg2)
      ∧ m' ((c.tc : Thread Cert.ReferenceGatedxIdeal.nD Cert.ReferenceGatedxIdeal.τ).loc Cert.ReferenceGatedxIdeal.main_arg3) = m ((c.tc : Thread Cert.KernelGatedxIdeal.nD Cert.KernelGatedxIdeal.τ).loc Cert.KernelGatedxIdeal.main_arg3)
      ∧ m' ((c.tc : Thread Cert.ReferenceGatedxIdeal.nD Cert.ReferenceGatedxIdeal.τ).loc Cert.ReferenceGatedxIdeal.main_arg4) = m ((c.tc : Thread Cert.KernelGatedxIdeal.nD Cert.KernelGatedxIdeal.τ).loc Cert.KernelGatedxIdeal.main_arg4)) →
    ∃ (v0 : (c : Dev Cert.KernelGatedxIdeal.nD) → Buf (Elt Ideal) ((c.tc : Thread Cert.KernelGatedxIdeal.nD Cert.KernelGatedxIdeal.τ).loc Cert.KernelGatedxIdeal.main_v2_0)) (v1 : (c : Dev Cert.KernelGatedxIdeal.nD) → Buf (Elt Ideal) ((c.tc : Thread Cert.KernelGatedxIdeal.nD Cert.KernelGatedxIdeal.τ).loc Cert.KernelGatedxIdeal.main_v2_1)),
      θ_run (Cert.KernelGatedxIdeal.defs (F := Ideal)) (onTc (τ := Cert.KernelGatedxIdeal.τ) (Cert.KernelGatedxIdeal.main (F := Ideal))) ⟨m, fun _ => 0, g⟩ (fun r => ∀ c : Dev Cert.KernelGatedxIdeal.nD,
          r.2.mem ((c.tc : Thread Cert.KernelGatedxIdeal.nD Cert.KernelGatedxIdeal.τ).loc Cert.KernelGatedxIdeal.main_v2_0) = v0 c
          ∧ r.2.mem ((c.tc : Thread Cert.KernelGatedxIdeal.nD Cert.KernelGatedxIdeal.τ).loc Cert.KernelGatedxIdeal.main_v2_1) = v1 c
          ∧ r.2.mem ((c.tc : Thread Cert.KernelGatedxIdeal.nD Cert.KernelGatedxIdeal.τ).loc Cert.KernelGatedxIdeal.main_arg0) = m ((c.tc : Thread Cert.KernelGatedxIdeal.nD Cert.KernelGatedxIdeal.τ).loc Cert.KernelGatedxIdeal.main_arg0)
          ∧ r.2.mem ((c.tc : Thread Cert.KernelGatedxIdeal.nD Cert.KernelGatedxIdeal.τ).loc Cert.KernelGatedxIdeal.main_arg1) = m ((c.tc : Thread Cert.KernelGatedxIdeal.nD Cert.KernelGatedxIdeal.τ).loc Cert.KernelGatedxIdeal.main_arg1)
          ∧ r.2.mem ((c.tc : Thread Cert.KernelGatedxIdeal.nD Cert.KernelGatedxIdeal.τ).loc Cert.KernelGatedxIdeal.main_arg2) = m ((c.tc : Thread Cert.KernelGatedxIdeal.nD Cert.KernelGatedxIdeal.τ).loc Cert.KernelGatedxIdeal.main_arg2)
          ∧ r.2.mem ((c.tc : Thread Cert.KernelGatedxIdeal.nD Cert.KernelGatedxIdeal.τ).loc Cert.KernelGatedxIdeal.main_arg3) = m ((c.tc : Thread Cert.KernelGatedxIdeal.nD Cert.KernelGatedxIdeal.τ).loc Cert.KernelGatedxIdeal.main_arg3)
          ∧ r.2.mem ((c.tc : Thread Cert.KernelGatedxIdeal.nD Cert.KernelGatedxIdeal.τ).loc Cert.KernelGatedxIdeal.main_arg4) = m ((c.tc : Thread Cert.KernelGatedxIdeal.nD Cert.KernelGatedxIdeal.τ).loc Cert.KernelGatedxIdeal.main_arg4))
      ∧ θ_run (Cert.ReferenceGatedxIdeal.defs (F := Ideal)) (onTc (τ := Cert.ReferenceGatedxIdeal.τ) (Cert.ReferenceGatedxIdeal.main (F := Ideal))) ⟨m', fun _ => 0, g'⟩ (fun r => ∀ c : Dev Cert.ReferenceGatedxIdeal.nD,
          r.2.mem ((c.tc : Thread Cert.ReferenceGatedxIdeal.nD Cert.ReferenceGatedxIdeal.τ).loc Cert.ReferenceGatedxIdeal.main_v39) = v0 c
          ∧ r.2.mem ((c.tc : Thread Cert.ReferenceGatedxIdeal.nD Cert.ReferenceGatedxIdeal.τ).loc Cert.ReferenceGatedxIdeal.main_v40) = v1 c
          ∧ r.2.mem ((c.tc : Thread Cert.ReferenceGatedxIdeal.nD Cert.ReferenceGatedxIdeal.τ).loc Cert.ReferenceGatedxIdeal.main_arg0) = m' ((c.tc : Thread Cert.ReferenceGatedxIdeal.nD Cert.ReferenceGatedxIdeal.τ).loc Cert.ReferenceGatedxIdeal.main_arg0)
          ∧ r.2.mem ((c.tc : Thread Cert.ReferenceGatedxIdeal.nD Cert.ReferenceGatedxIdeal.τ).loc Cert.ReferenceGatedxIdeal.main_arg1) = m' ((c.tc : Thread Cert.ReferenceGatedxIdeal.nD Cert.ReferenceGatedxIdeal.τ).loc Cert.ReferenceGatedxIdeal.main_arg1)
          ∧ r.2.mem ((c.tc : Thread Cert.ReferenceGatedxIdeal.nD Cert.ReferenceGatedxIdeal.τ).loc Cert.ReferenceGatedxIdeal.main_arg2) = m' ((c.tc : Thread Cert.ReferenceGatedxIdeal.nD Cert.ReferenceGatedxIdeal.τ).loc Cert.ReferenceGatedxIdeal.main_arg2)
          ∧ r.2.mem ((c.tc : Thread Cert.ReferenceGatedxIdeal.nD Cert.ReferenceGatedxIdeal.τ).loc Cert.ReferenceGatedxIdeal.main_arg3) = m' ((c.tc : Thread Cert.ReferenceGatedxIdeal.nD Cert.ReferenceGatedxIdeal.τ).loc Cert.ReferenceGatedxIdeal.main_arg3)
          ∧ r.2.mem ((c.tc : Thread Cert.ReferenceGatedxIdeal.nD Cert.ReferenceGatedxIdeal.τ).loc Cert.ReferenceGatedxIdeal.main_arg4) = m' ((c.tc : Thread Cert.ReferenceGatedxIdeal.nD Cert.ReferenceGatedxIdeal.τ).loc Cert.ReferenceGatedxIdeal.main_arg4))

def preserves_KernelMixin_KernelMixinIdeal : Prop :=
  True

def algebraic_KernelMixinIdeal_ReferenceMixinIdeal_pre_mixin_finite [hKernelMixinIdeal : Cert.KernelMixinIdeal.Facts] [hReferenceMixinIdeal : Cert.ReferenceMixinIdeal.Facts] [hPre_mixin_finite : Cert.Pre_mixin_finite.Facts] : Prop :=
  ∀ (m : (ℓ : Loc Cert.KernelMixinIdeal.nD Cert.KernelMixinIdeal.τ Cert.KernelMixinIdeal.sig) → Buf (Elt Ideal) ℓ) (g : Dev Cert.KernelMixinIdeal.nD → PrngReg)
    (m' : (ℓ : Loc Cert.ReferenceMixinIdeal.nD Cert.ReferenceMixinIdeal.τ Cert.ReferenceMixinIdeal.sig) → Buf (Elt Ideal) ℓ) (g' : Dev Cert.ReferenceMixinIdeal.nD → PrngReg), Pre_KernelMixinIdeal_mixin_finite m →
    (∀ c : Dev Cert.KernelMixinIdeal.nD,
      m' ((c.tc : Thread Cert.ReferenceMixinIdeal.nD Cert.ReferenceMixinIdeal.τ).loc Cert.ReferenceMixinIdeal.main_arg0) = m ((c.tc : Thread Cert.KernelMixinIdeal.nD Cert.KernelMixinIdeal.τ).loc Cert.KernelMixinIdeal.main_arg0)
      ∧ m' ((c.tc : Thread Cert.ReferenceMixinIdeal.nD Cert.ReferenceMixinIdeal.τ).loc Cert.ReferenceMixinIdeal.main_arg1) = m ((c.tc : Thread Cert.KernelMixinIdeal.nD Cert.KernelMixinIdeal.τ).loc Cert.KernelMixinIdeal.main_arg1)
      ∧ m' ((c.tc : Thread Cert.ReferenceMixinIdeal.nD Cert.ReferenceMixinIdeal.τ).loc Cert.ReferenceMixinIdeal.main_arg2) = m ((c.tc : Thread Cert.KernelMixinIdeal.nD Cert.KernelMixinIdeal.τ).loc Cert.KernelMixinIdeal.main_arg2)
      ∧ m' ((c.tc : Thread Cert.ReferenceMixinIdeal.nD Cert.ReferenceMixinIdeal.τ).loc Cert.ReferenceMixinIdeal.main_arg3) = m ((c.tc : Thread Cert.KernelMixinIdeal.nD Cert.KernelMixinIdeal.τ).loc Cert.KernelMixinIdeal.main_arg3)
      ∧ m' ((c.tc : Thread Cert.ReferenceMixinIdeal.nD Cert.ReferenceMixinIdeal.τ).loc Cert.ReferenceMixinIdeal.main_arg4) = m ((c.tc : Thread Cert.KernelMixinIdeal.nD Cert.KernelMixinIdeal.τ).loc Cert.KernelMixinIdeal.main_arg4)
      ∧ m' ((c.tc : Thread Cert.ReferenceMixinIdeal.nD Cert.ReferenceMixinIdeal.τ).loc Cert.ReferenceMixinIdeal.main_arg5) = m ((c.tc : Thread Cert.KernelMixinIdeal.nD Cert.KernelMixinIdeal.τ).loc Cert.KernelMixinIdeal.main_arg5)) →
    ∃ (v0 : (c : Dev Cert.KernelMixinIdeal.nD) → Buf (Elt Ideal) ((c.tc : Thread Cert.KernelMixinIdeal.nD Cert.KernelMixinIdeal.τ).loc Cert.KernelMixinIdeal.main_v4_0)) (v1 : (c : Dev Cert.KernelMixinIdeal.nD) → Buf (Elt Ideal) ((c.tc : Thread Cert.KernelMixinIdeal.nD Cert.KernelMixinIdeal.τ).loc Cert.KernelMixinIdeal.main_v4_1)),
      θ_run (Cert.KernelMixinIdeal.defs (F := Ideal)) (onTc (τ := Cert.KernelMixinIdeal.τ) (Cert.KernelMixinIdeal.main (F := Ideal))) ⟨m, fun _ => 0, g⟩ (fun r => ∀ c : Dev Cert.KernelMixinIdeal.nD,
          r.2.mem ((c.tc : Thread Cert.KernelMixinIdeal.nD Cert.KernelMixinIdeal.τ).loc Cert.KernelMixinIdeal.main_v4_0) = v0 c
          ∧ r.2.mem ((c.tc : Thread Cert.KernelMixinIdeal.nD Cert.KernelMixinIdeal.τ).loc Cert.KernelMixinIdeal.main_v4_1) = v1 c
          ∧ r.2.mem ((c.tc : Thread Cert.KernelMixinIdeal.nD Cert.KernelMixinIdeal.τ).loc Cert.KernelMixinIdeal.main_arg0) = m ((c.tc : Thread Cert.KernelMixinIdeal.nD Cert.KernelMixinIdeal.τ).loc Cert.KernelMixinIdeal.main_arg0)
          ∧ r.2.mem ((c.tc : Thread Cert.KernelMixinIdeal.nD Cert.KernelMixinIdeal.τ).loc Cert.KernelMixinIdeal.main_arg1) = m ((c.tc : Thread Cert.KernelMixinIdeal.nD Cert.KernelMixinIdeal.τ).loc Cert.KernelMixinIdeal.main_arg1)
          ∧ r.2.mem ((c.tc : Thread Cert.KernelMixinIdeal.nD Cert.KernelMixinIdeal.τ).loc Cert.KernelMixinIdeal.main_arg2) = m ((c.tc : Thread Cert.KernelMixinIdeal.nD Cert.KernelMixinIdeal.τ).loc Cert.KernelMixinIdeal.main_arg2)
          ∧ r.2.mem ((c.tc : Thread Cert.KernelMixinIdeal.nD Cert.KernelMixinIdeal.τ).loc Cert.KernelMixinIdeal.main_arg3) = m ((c.tc : Thread Cert.KernelMixinIdeal.nD Cert.KernelMixinIdeal.τ).loc Cert.KernelMixinIdeal.main_arg3)
          ∧ r.2.mem ((c.tc : Thread Cert.KernelMixinIdeal.nD Cert.KernelMixinIdeal.τ).loc Cert.KernelMixinIdeal.main_arg4) = m ((c.tc : Thread Cert.KernelMixinIdeal.nD Cert.KernelMixinIdeal.τ).loc Cert.KernelMixinIdeal.main_arg4)
          ∧ r.2.mem ((c.tc : Thread Cert.KernelMixinIdeal.nD Cert.KernelMixinIdeal.τ).loc Cert.KernelMixinIdeal.main_arg5) = m ((c.tc : Thread Cert.KernelMixinIdeal.nD Cert.KernelMixinIdeal.τ).loc Cert.KernelMixinIdeal.main_arg5))
      ∧ θ_run (Cert.ReferenceMixinIdeal.defs (F := Ideal)) (onTc (τ := Cert.ReferenceMixinIdeal.τ) (Cert.ReferenceMixinIdeal.main (F := Ideal))) ⟨m', fun _ => 0, g'⟩ (fun r => ∀ c : Dev Cert.ReferenceMixinIdeal.nD,
          r.2.mem ((c.tc : Thread Cert.ReferenceMixinIdeal.nD Cert.ReferenceMixinIdeal.τ).loc Cert.ReferenceMixinIdeal.main_v43) = v0 c
          ∧ r.2.mem ((c.tc : Thread Cert.ReferenceMixinIdeal.nD Cert.ReferenceMixinIdeal.τ).loc Cert.ReferenceMixinIdeal.main_v44) = v1 c
          ∧ r.2.mem ((c.tc : Thread Cert.ReferenceMixinIdeal.nD Cert.ReferenceMixinIdeal.τ).loc Cert.ReferenceMixinIdeal.main_arg0) = m' ((c.tc : Thread Cert.ReferenceMixinIdeal.nD Cert.ReferenceMixinIdeal.τ).loc Cert.ReferenceMixinIdeal.main_arg0)
          ∧ r.2.mem ((c.tc : Thread Cert.ReferenceMixinIdeal.nD Cert.ReferenceMixinIdeal.τ).loc Cert.ReferenceMixinIdeal.main_arg1) = m' ((c.tc : Thread Cert.ReferenceMixinIdeal.nD Cert.ReferenceMixinIdeal.τ).loc Cert.ReferenceMixinIdeal.main_arg1)
          ∧ r.2.mem ((c.tc : Thread Cert.ReferenceMixinIdeal.nD Cert.ReferenceMixinIdeal.τ).loc Cert.ReferenceMixinIdeal.main_arg2) = m' ((c.tc : Thread Cert.ReferenceMixinIdeal.nD Cert.ReferenceMixinIdeal.τ).loc Cert.ReferenceMixinIdeal.main_arg2)
          ∧ r.2.mem ((c.tc : Thread Cert.ReferenceMixinIdeal.nD Cert.ReferenceMixinIdeal.τ).loc Cert.ReferenceMixinIdeal.main_arg3) = m' ((c.tc : Thread Cert.ReferenceMixinIdeal.nD Cert.ReferenceMixinIdeal.τ).loc Cert.ReferenceMixinIdeal.main_arg3)
          ∧ r.2.mem ((c.tc : Thread Cert.ReferenceMixinIdeal.nD Cert.ReferenceMixinIdeal.τ).loc Cert.ReferenceMixinIdeal.main_arg4) = m' ((c.tc : Thread Cert.ReferenceMixinIdeal.nD Cert.ReferenceMixinIdeal.τ).loc Cert.ReferenceMixinIdeal.main_arg4)
          ∧ r.2.mem ((c.tc : Thread Cert.ReferenceMixinIdeal.nD Cert.ReferenceMixinIdeal.τ).loc Cert.ReferenceMixinIdeal.main_arg5) = m' ((c.tc : Thread Cert.ReferenceMixinIdeal.nD Cert.ReferenceMixinIdeal.τ).loc Cert.ReferenceMixinIdeal.main_arg5))

def preserves_KernelGlu_KernelGluIdeal : Prop :=
  IdealRules.named_const.Statement Cert.KernelGluIdeal.κ "cubic" .f32 0x3D372713#32 ((8943 / 200000 : ℝ) : EReal)
  ∧ IdealRules.named_const.Statement Cert.KernelGluIdeal.κ "cubic_grad" .f32 0x3E095D4F#32 ((26829 / 200000 : ℝ) : EReal)

def algebraic_KernelGluIdeal_ReferenceGluIdeal_pre_glu_finite [hKernelGluIdeal : Cert.KernelGluIdeal.Facts] [hReferenceGluIdeal : Cert.ReferenceGluIdeal.Facts] [hPre_glu_finite : Cert.Pre_glu_finite.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal_glu_finite m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)) →
    ∃ (v0 : (c : Dev Cert.KernelGluIdeal.nD) → Buf (Elt Ideal) ((c.tc : Thread Cert.KernelGluIdeal.nD Cert.KernelGluIdeal.τ).loc Cert.KernelGluIdeal.main_v37_0)) (v1 : (c : Dev Cert.KernelGluIdeal.nD) → Buf (Elt Ideal) ((c.tc : Thread Cert.KernelGluIdeal.nD Cert.KernelGluIdeal.τ).loc Cert.KernelGluIdeal.main_v37_1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v37_0) = v0 c
          ∧ r.2.mem ((c.tc : Thread Cert.KernelGluIdeal.nD Cert.KernelGluIdeal.τ).loc Cert.KernelGluIdeal.main_v37_1) = v1 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v56) = v0 c
          ∧ r.2.mem ((c.tc : Thread Cert.ReferenceGluIdeal.nD Cert.ReferenceGluIdeal.τ).loc Cert.ReferenceGluIdeal.main_v61) = v1 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4))

def preserves_KernelMixout_KernelMixoutIdeal : Prop :=
  True

def algebraic_KernelMixoutIdeal_ReferenceMixoutIdeal [hKernelMixoutIdeal : Cert.KernelMixoutIdeal.Facts] [hReferenceMixoutIdeal : Cert.ReferenceMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg)
    (m' : (ℓ : Loc Cert.ReferenceMixoutIdeal.nD Cert.ReferenceMixoutIdeal.τ Cert.ReferenceMixoutIdeal.sig) → Buf (Elt Ideal) ℓ) (g' : Dev Cert.ReferenceMixoutIdeal.nD → PrngReg), Pre_KernelMixoutIdeal m →
    (∀ c : Dev Cert.KernelMixoutIdeal.nD,
      m' ((c.tc : Thread Cert.ReferenceMixoutIdeal.nD Cert.ReferenceMixoutIdeal.τ).loc Cert.ReferenceMixoutIdeal.main_arg0) = m ((c.tc : Thread Cert.KernelMixoutIdeal.nD Cert.KernelMixoutIdeal.τ).loc Cert.KernelMixoutIdeal.main_arg0)
      ∧ m' ((c.tc : Thread Cert.ReferenceMixoutIdeal.nD Cert.ReferenceMixoutIdeal.τ).loc Cert.ReferenceMixoutIdeal.main_arg1) = m ((c.tc : Thread Cert.KernelMixoutIdeal.nD Cert.KernelMixoutIdeal.τ).loc Cert.KernelMixoutIdeal.main_arg1)
      ∧ m' ((c.tc : Thread Cert.ReferenceMixoutIdeal.nD Cert.ReferenceMixoutIdeal.τ).loc Cert.ReferenceMixoutIdeal.main_arg2) = m ((c.tc : Thread Cert.KernelMixoutIdeal.nD Cert.KernelMixoutIdeal.τ).loc Cert.KernelMixoutIdeal.main_arg2)
      ∧ m' ((c.tc : Thread Cert.ReferenceMixoutIdeal.nD Cert.ReferenceMixoutIdeal.τ).loc Cert.ReferenceMixoutIdeal.main_arg3) = m ((c.tc : Thread Cert.KernelMixoutIdeal.nD Cert.KernelMixoutIdeal.τ).loc Cert.KernelMixoutIdeal.main_arg3)
      ∧ m' ((c.tc : Thread Cert.ReferenceMixoutIdeal.nD Cert.ReferenceMixoutIdeal.τ).loc Cert.ReferenceMixoutIdeal.main_arg4) = m ((c.tc : Thread Cert.KernelMixoutIdeal.nD Cert.KernelMixoutIdeal.τ).loc Cert.KernelMixoutIdeal.main_arg4)
      ∧ m' ((c.tc : Thread Cert.ReferenceMixoutIdeal.nD Cert.ReferenceMixoutIdeal.τ).loc Cert.ReferenceMixoutIdeal.main_arg5) = m ((c.tc : Thread Cert.KernelMixoutIdeal.nD Cert.KernelMixoutIdeal.τ).loc Cert.KernelMixoutIdeal.main_arg5)
      ∧ m' ((c.tc : Thread Cert.ReferenceMixoutIdeal.nD Cert.ReferenceMixoutIdeal.τ).loc Cert.ReferenceMixoutIdeal.main_arg6) = m ((c.tc : Thread Cert.KernelMixoutIdeal.nD Cert.KernelMixoutIdeal.τ).loc Cert.KernelMixoutIdeal.main_arg6)
      ∧ m' ((c.tc : Thread Cert.ReferenceMixoutIdeal.nD Cert.ReferenceMixoutIdeal.τ).loc Cert.ReferenceMixoutIdeal.main_arg7) = m ((c.tc : Thread Cert.KernelMixoutIdeal.nD Cert.KernelMixoutIdeal.τ).loc Cert.KernelMixoutIdeal.main_arg7)
      ∧ m' ((c.tc : Thread Cert.ReferenceMixoutIdeal.nD Cert.ReferenceMixoutIdeal.τ).loc Cert.ReferenceMixoutIdeal.main_arg8) = m ((c.tc : Thread Cert.KernelMixoutIdeal.nD Cert.KernelMixoutIdeal.τ).loc Cert.KernelMixoutIdeal.main_arg8)) →
    ∃ (v0 : (c : Dev Cert.KernelMixoutIdeal.nD) → Buf (Elt Ideal) ((c.tc : Thread Cert.KernelMixoutIdeal.nD Cert.KernelMixoutIdeal.τ).loc Cert.KernelMixoutIdeal.main_v21_0)) (v1 : (c : Dev Cert.KernelMixoutIdeal.nD) → Buf (Elt Ideal) ((c.tc : Thread Cert.KernelMixoutIdeal.nD Cert.KernelMixoutIdeal.τ).loc Cert.KernelMixoutIdeal.main_v25_0)) (v2 : (c : Dev Cert.KernelMixoutIdeal.nD) → Buf (Elt Ideal) ((c.tc : Thread Cert.KernelMixoutIdeal.nD Cert.KernelMixoutIdeal.τ).loc Cert.KernelMixoutIdeal.main_v25_1)) (v3 : (c : Dev Cert.KernelMixoutIdeal.nD) → Buf (Elt Ideal) ((c.tc : Thread Cert.KernelMixoutIdeal.nD Cert.KernelMixoutIdeal.τ).loc Cert.KernelMixoutIdeal.main_v28_0)) (v4 : (c : Dev Cert.KernelMixoutIdeal.nD) → Buf (Elt Ideal) ((c.tc : Thread Cert.KernelMixoutIdeal.nD Cert.KernelMixoutIdeal.τ).loc Cert.KernelMixoutIdeal.main_v28_1)) (v5 : (c : Dev Cert.KernelMixoutIdeal.nD) → Buf (Elt Ideal) ((c.tc : Thread Cert.KernelMixoutIdeal.nD Cert.KernelMixoutIdeal.τ).loc Cert.KernelMixoutIdeal.main_v28_2)),
      θ_run (Cert.KernelMixoutIdeal.defs (F := Ideal)) (onTc (τ := Cert.KernelMixoutIdeal.τ) (Cert.KernelMixoutIdeal.main (F := Ideal))) ⟨m, fun _ => 0, g⟩ (fun r => ∀ c : Dev Cert.KernelMixoutIdeal.nD,
          r.2.mem ((c.tc : Thread Cert.KernelMixoutIdeal.nD Cert.KernelMixoutIdeal.τ).loc Cert.KernelMixoutIdeal.main_v21_0) = v0 c
          ∧ r.2.mem ((c.tc : Thread Cert.KernelMixoutIdeal.nD Cert.KernelMixoutIdeal.τ).loc Cert.KernelMixoutIdeal.main_v25_0) = v1 c
          ∧ r.2.mem ((c.tc : Thread Cert.KernelMixoutIdeal.nD Cert.KernelMixoutIdeal.τ).loc Cert.KernelMixoutIdeal.main_v25_1) = v2 c
          ∧ r.2.mem ((c.tc : Thread Cert.KernelMixoutIdeal.nD Cert.KernelMixoutIdeal.τ).loc Cert.KernelMixoutIdeal.main_v28_0) = v3 c
          ∧ r.2.mem ((c.tc : Thread Cert.KernelMixoutIdeal.nD Cert.KernelMixoutIdeal.τ).loc Cert.KernelMixoutIdeal.main_v28_1) = v4 c
          ∧ r.2.mem ((c.tc : Thread Cert.KernelMixoutIdeal.nD Cert.KernelMixoutIdeal.τ).loc Cert.KernelMixoutIdeal.main_v28_2) = v5 c
          ∧ r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
          ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
          ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
          ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3)
          ∧ r.2.mem ((c.tc : Thread Cert.KernelMixoutIdeal.nD Cert.KernelMixoutIdeal.τ).loc Cert.KernelMixoutIdeal.main_arg4) = m ((c.tc : Thread Cert.KernelMixoutIdeal.nD Cert.KernelMixoutIdeal.τ).loc Cert.KernelMixoutIdeal.main_arg4)
          ∧ r.2.mem ((c.tc : Thread Cert.KernelMixoutIdeal.nD Cert.KernelMixoutIdeal.τ).loc Cert.KernelMixoutIdeal.main_arg5) = m ((c.tc : Thread Cert.KernelMixoutIdeal.nD Cert.KernelMixoutIdeal.τ).loc Cert.KernelMixoutIdeal.main_arg5)
          ∧ r.2.mem ((c.tc : Thread Cert.KernelMixoutIdeal.nD Cert.KernelMixoutIdeal.τ).loc Cert.KernelMixoutIdeal.main_arg6) = m ((c.tc : Thread Cert.KernelMixoutIdeal.nD Cert.KernelMixoutIdeal.τ).loc Cert.KernelMixoutIdeal.main_arg6)
          ∧ r.2.mem ((c.tc : Thread Cert.KernelMixoutIdeal.nD Cert.KernelMixoutIdeal.τ).loc Cert.KernelMixoutIdeal.main_arg7) = m ((c.tc : Thread Cert.KernelMixoutIdeal.nD Cert.KernelMixoutIdeal.τ).loc Cert.KernelMixoutIdeal.main_arg7)
          ∧ r.2.mem ((c.tc : Thread Cert.KernelMixoutIdeal.nD Cert.KernelMixoutIdeal.τ).loc Cert.KernelMixoutIdeal.main_arg8) = m ((c.tc : Thread Cert.KernelMixoutIdeal.nD Cert.KernelMixoutIdeal.τ).loc Cert.KernelMixoutIdeal.main_arg8))
      ∧ θ_run (Cert.ReferenceMixoutIdeal.defs (F := Ideal)) (onTc (τ := Cert.ReferenceMixoutIdeal.τ) (Cert.ReferenceMixoutIdeal.main (F := Ideal))) ⟨m', fun _ => 0, g'⟩ (fun r => ∀ c : Dev Cert.ReferenceMixoutIdeal.nD,
          r.2.mem ((c.tc : Thread Cert.ReferenceMixoutIdeal.nD Cert.ReferenceMixoutIdeal.τ).loc Cert.ReferenceMixoutIdeal.main_v59) = v0 c
          ∧ r.2.mem ((c.tc : Thread Cert.ReferenceMixoutIdeal.nD Cert.ReferenceMixoutIdeal.τ).loc Cert.ReferenceMixoutIdeal.main_v27) = v1 c
          ∧ r.2.mem ((c.tc : Thread Cert.ReferenceMixoutIdeal.nD Cert.ReferenceMixoutIdeal.τ).loc Cert.ReferenceMixoutIdeal.main_v73) = v2 c
          ∧ r.2.mem ((c.tc : Thread Cert.ReferenceMixoutIdeal.nD Cert.ReferenceMixoutIdeal.τ).loc Cert.ReferenceMixoutIdeal.main_v38) = v3 c
          ∧ r.2.mem ((c.tc : Thread Cert.ReferenceMixoutIdeal.nD Cert.ReferenceMixoutIdeal.τ).loc Cert.ReferenceMixoutIdeal.main_v39) = v4 c
          ∧ r.2.mem ((c.tc : Thread Cert.ReferenceMixoutIdeal.nD Cert.ReferenceMixoutIdeal.τ).loc Cert.ReferenceMixoutIdeal.main_v74) = v5 c
          ∧ r.2.mem ((c.tc : Thread Cert.ReferenceMixoutIdeal.nD Cert.ReferenceMixoutIdeal.τ).loc Cert.ReferenceMixoutIdeal.main_arg0) = m' ((c.tc : Thread Cert.ReferenceMixoutIdeal.nD Cert.ReferenceMixoutIdeal.τ).loc Cert.ReferenceMixoutIdeal.main_arg0)
          ∧ r.2.mem ((c.tc : Thread Cert.ReferenceMixoutIdeal.nD Cert.ReferenceMixoutIdeal.τ).loc Cert.ReferenceMixoutIdeal.main_arg1) = m' ((c.tc : Thread Cert.ReferenceMixoutIdeal.nD Cert.ReferenceMixoutIdeal.τ).loc Cert.ReferenceMixoutIdeal.main_arg1)
          ∧ r.2.mem ((c.tc : Thread Cert.ReferenceMixoutIdeal.nD Cert.ReferenceMixoutIdeal.τ).loc Cert.ReferenceMixoutIdeal.main_arg2) = m' ((c.tc : Thread Cert.ReferenceMixoutIdeal.nD Cert.ReferenceMixoutIdeal.τ).loc Cert.ReferenceMixoutIdeal.main_arg2)
          ∧ r.2.mem ((c.tc : Thread Cert.ReferenceMixoutIdeal.nD Cert.ReferenceMixoutIdeal.τ).loc Cert.ReferenceMixoutIdeal.main_arg3) = m' ((c.tc : Thread Cert.ReferenceMixoutIdeal.nD Cert.ReferenceMixoutIdeal.τ).loc Cert.ReferenceMixoutIdeal.main_arg3)
          ∧ r.2.mem ((c.tc : Thread Cert.ReferenceMixoutIdeal.nD Cert.ReferenceMixoutIdeal.τ).loc Cert.ReferenceMixoutIdeal.main_arg4) = m' ((c.tc : Thread Cert.ReferenceMixoutIdeal.nD Cert.ReferenceMixoutIdeal.τ).loc Cert.ReferenceMixoutIdeal.main_arg4)
          ∧ r.2.mem ((c.tc : Thread Cert.ReferenceMixoutIdeal.nD Cert.ReferenceMixoutIdeal.τ).loc Cert.ReferenceMixoutIdeal.main_arg5) = m' ((c.tc : Thread Cert.ReferenceMixoutIdeal.nD Cert.ReferenceMixoutIdeal.τ).loc Cert.ReferenceMixoutIdeal.main_arg5)
          ∧ r.2.mem ((c.tc : Thread Cert.ReferenceMixoutIdeal.nD Cert.ReferenceMixoutIdeal.τ).loc Cert.ReferenceMixoutIdeal.main_arg6) = m' ((c.tc : Thread Cert.ReferenceMixoutIdeal.nD Cert.ReferenceMixoutIdeal.τ).loc Cert.ReferenceMixoutIdeal.main_arg6)
          ∧ r.2.mem ((c.tc : Thread Cert.ReferenceMixoutIdeal.nD Cert.ReferenceMixoutIdeal.τ).loc Cert.ReferenceMixoutIdeal.main_arg7) = m' ((c.tc : Thread Cert.ReferenceMixoutIdeal.nD Cert.ReferenceMixoutIdeal.τ).loc Cert.ReferenceMixoutIdeal.main_arg7)
          ∧ r.2.mem ((c.tc : Thread Cert.ReferenceMixoutIdeal.nD Cert.ReferenceMixoutIdeal.τ).loc Cert.ReferenceMixoutIdeal.main_arg8) = m' ((c.tc : Thread Cert.ReferenceMixoutIdeal.nD Cert.ReferenceMixoutIdeal.τ).loc Cert.ReferenceMixoutIdeal.main_arg8))

def preserves_KernelIndxg_KernelIndxgIdeal : Prop :=
  True

def algebraic_KernelIndxgIdeal_ReferenceIndxgIdeal_pre_indxg_finite [hKernelIndxgIdeal : Cert.KernelIndxgIdeal.Facts] [hReferenceIndxgIdeal : Cert.ReferenceIndxgIdeal.Facts] [hPre_indxg_finite : Cert.Pre_indxg_finite.Facts] : Prop :=
  ∀ (m : (ℓ : Loc Cert.KernelIndxgIdeal.nD Cert.KernelIndxgIdeal.τ Cert.KernelIndxgIdeal.sig) → Buf (Elt Ideal) ℓ) (g : Dev Cert.KernelIndxgIdeal.nD → PrngReg)
    (m' : (ℓ : Loc Cert.ReferenceIndxgIdeal.nD Cert.ReferenceIndxgIdeal.τ Cert.ReferenceIndxgIdeal.sig) → Buf (Elt Ideal) ℓ) (g' : Dev Cert.ReferenceIndxgIdeal.nD → PrngReg), Pre_KernelIndxgIdeal_indxg_finite m →
    (∀ c : Dev Cert.KernelIndxgIdeal.nD,
      m' ((c.tc : Thread Cert.ReferenceIndxgIdeal.nD Cert.ReferenceIndxgIdeal.τ).loc Cert.ReferenceIndxgIdeal.main_arg0) = m ((c.tc : Thread Cert.KernelIndxgIdeal.nD Cert.KernelIndxgIdeal.τ).loc Cert.KernelIndxgIdeal.main_arg0)
      ∧ m' ((c.tc : Thread Cert.ReferenceIndxgIdeal.nD Cert.ReferenceIndxgIdeal.τ).loc Cert.ReferenceIndxgIdeal.main_arg1) = m ((c.tc : Thread Cert.KernelIndxgIdeal.nD Cert.KernelIndxgIdeal.τ).loc Cert.KernelIndxgIdeal.main_arg1)
      ∧ m' ((c.tc : Thread Cert.ReferenceIndxgIdeal.nD Cert.ReferenceIndxgIdeal.τ).loc Cert.ReferenceIndxgIdeal.main_arg2) = m ((c.tc : Thread Cert.KernelIndxgIdeal.nD Cert.KernelIndxgIdeal.τ).loc Cert.KernelIndxgIdeal.main_arg2)
      ∧ m' ((c.tc : Thread Cert.ReferenceIndxgIdeal.nD Cert.ReferenceIndxgIdeal.τ).loc Cert.ReferenceIndxgIdeal.main_arg3) = m ((c.tc : Thread Cert.KernelIndxgIdeal.nD Cert.KernelIndxgIdeal.τ).loc Cert.KernelIndxgIdeal.main_arg3)
      ∧ m' ((c.tc : Thread Cert.ReferenceIndxgIdeal.nD Cert.ReferenceIndxgIdeal.τ).loc Cert.ReferenceIndxgIdeal.main_arg4) = m ((c.tc : Thread Cert.KernelIndxgIdeal.nD Cert.KernelIndxgIdeal.τ).loc Cert.KernelIndxgIdeal.main_arg4)
      ∧ m' ((c.tc : Thread Cert.ReferenceIndxgIdeal.nD Cert.ReferenceIndxgIdeal.τ).loc Cert.ReferenceIndxgIdeal.main_arg5) = m ((c.tc : Thread Cert.KernelIndxgIdeal.nD Cert.KernelIndxgIdeal.τ).loc Cert.KernelIndxgIdeal.main_arg5)
      ∧ m' ((c.tc : Thread Cert.ReferenceIndxgIdeal.nD Cert.ReferenceIndxgIdeal.τ).loc Cert.ReferenceIndxgIdeal.main_arg6) = m ((c.tc : Thread Cert.KernelIndxgIdeal.nD Cert.KernelIndxgIdeal.τ).loc Cert.KernelIndxgIdeal.main_arg6)
      ∧ m' ((c.tc : Thread Cert.ReferenceIndxgIdeal.nD Cert.ReferenceIndxgIdeal.τ).loc Cert.ReferenceIndxgIdeal.main_arg7) = m ((c.tc : Thread Cert.KernelIndxgIdeal.nD Cert.KernelIndxgIdeal.τ).loc Cert.KernelIndxgIdeal.main_arg7)) →
    ∃ (v0 : (c : Dev Cert.KernelIndxgIdeal.nD) → Buf (Elt Ideal) ((c.tc : Thread Cert.KernelIndxgIdeal.nD Cert.KernelIndxgIdeal.τ).loc Cert.KernelIndxgIdeal.main_v4_0)) (v1 : (c : Dev Cert.KernelIndxgIdeal.nD) → Buf (Elt Ideal) ((c.tc : Thread Cert.KernelIndxgIdeal.nD Cert.KernelIndxgIdeal.τ).loc Cert.KernelIndxgIdeal.main_v4_1)) (v2 : (c : Dev Cert.KernelIndxgIdeal.nD) → Buf (Elt Ideal) ((c.tc : Thread Cert.KernelIndxgIdeal.nD Cert.KernelIndxgIdeal.τ).loc Cert.KernelIndxgIdeal.main_v4_2)) (v3 : (c : Dev Cert.KernelIndxgIdeal.nD) → Buf (Elt Ideal) ((c.tc : Thread Cert.KernelIndxgIdeal.nD Cert.KernelIndxgIdeal.τ).loc Cert.KernelIndxgIdeal.main_v4_3)),
      θ_run (Cert.KernelIndxgIdeal.defs (F := Ideal)) (onTc (τ := Cert.KernelIndxgIdeal.τ) (Cert.KernelIndxgIdeal.main (F := Ideal))) ⟨m, fun _ => 0, g⟩ (fun r => ∀ c : Dev Cert.KernelIndxgIdeal.nD,
          r.2.mem ((c.tc : Thread Cert.KernelIndxgIdeal.nD Cert.KernelIndxgIdeal.τ).loc Cert.KernelIndxgIdeal.main_v4_0) = v0 c
          ∧ r.2.mem ((c.tc : Thread Cert.KernelIndxgIdeal.nD Cert.KernelIndxgIdeal.τ).loc Cert.KernelIndxgIdeal.main_v4_1) = v1 c
          ∧ r.2.mem ((c.tc : Thread Cert.KernelIndxgIdeal.nD Cert.KernelIndxgIdeal.τ).loc Cert.KernelIndxgIdeal.main_v4_2) = v2 c
          ∧ r.2.mem ((c.tc : Thread Cert.KernelIndxgIdeal.nD Cert.KernelIndxgIdeal.τ).loc Cert.KernelIndxgIdeal.main_v4_3) = v3 c
          ∧ r.2.mem ((c.tc : Thread Cert.KernelIndxgIdeal.nD Cert.KernelIndxgIdeal.τ).loc Cert.KernelIndxgIdeal.main_arg0) = m ((c.tc : Thread Cert.KernelIndxgIdeal.nD Cert.KernelIndxgIdeal.τ).loc Cert.KernelIndxgIdeal.main_arg0)
          ∧ r.2.mem ((c.tc : Thread Cert.KernelIndxgIdeal.nD Cert.KernelIndxgIdeal.τ).loc Cert.KernelIndxgIdeal.main_arg1) = m ((c.tc : Thread Cert.KernelIndxgIdeal.nD Cert.KernelIndxgIdeal.τ).loc Cert.KernelIndxgIdeal.main_arg1)
          ∧ r.2.mem ((c.tc : Thread Cert.KernelIndxgIdeal.nD Cert.KernelIndxgIdeal.τ).loc Cert.KernelIndxgIdeal.main_arg2) = m ((c.tc : Thread Cert.KernelIndxgIdeal.nD Cert.KernelIndxgIdeal.τ).loc Cert.KernelIndxgIdeal.main_arg2)
          ∧ r.2.mem ((c.tc : Thread Cert.KernelIndxgIdeal.nD Cert.KernelIndxgIdeal.τ).loc Cert.KernelIndxgIdeal.main_arg3) = m ((c.tc : Thread Cert.KernelIndxgIdeal.nD Cert.KernelIndxgIdeal.τ).loc Cert.KernelIndxgIdeal.main_arg3)
          ∧ r.2.mem ((c.tc : Thread Cert.KernelIndxgIdeal.nD Cert.KernelIndxgIdeal.τ).loc Cert.KernelIndxgIdeal.main_arg4) = m ((c.tc : Thread Cert.KernelIndxgIdeal.nD Cert.KernelIndxgIdeal.τ).loc Cert.KernelIndxgIdeal.main_arg4)
          ∧ r.2.mem ((c.tc : Thread Cert.KernelIndxgIdeal.nD Cert.KernelIndxgIdeal.τ).loc Cert.KernelIndxgIdeal.main_arg5) = m ((c.tc : Thread Cert.KernelIndxgIdeal.nD Cert.KernelIndxgIdeal.τ).loc Cert.KernelIndxgIdeal.main_arg5)
          ∧ r.2.mem ((c.tc : Thread Cert.KernelIndxgIdeal.nD Cert.KernelIndxgIdeal.τ).loc Cert.KernelIndxgIdeal.main_arg6) = m ((c.tc : Thread Cert.KernelIndxgIdeal.nD Cert.KernelIndxgIdeal.τ).loc Cert.KernelIndxgIdeal.main_arg6)
          ∧ r.2.mem ((c.tc : Thread Cert.KernelIndxgIdeal.nD Cert.KernelIndxgIdeal.τ).loc Cert.KernelIndxgIdeal.main_arg7) = m ((c.tc : Thread Cert.KernelIndxgIdeal.nD Cert.KernelIndxgIdeal.τ).loc Cert.KernelIndxgIdeal.main_arg7))
      ∧ θ_run (Cert.ReferenceIndxgIdeal.defs (F := Ideal)) (onTc (τ := Cert.ReferenceIndxgIdeal.τ) (Cert.ReferenceIndxgIdeal.main (F := Ideal))) ⟨m', fun _ => 0, g'⟩ (fun r => ∀ c : Dev Cert.ReferenceIndxgIdeal.nD,
          r.2.mem ((c.tc : Thread Cert.ReferenceIndxgIdeal.nD Cert.ReferenceIndxgIdeal.τ).loc Cert.ReferenceIndxgIdeal.main_v45) = v0 c
          ∧ r.2.mem ((c.tc : Thread Cert.ReferenceIndxgIdeal.nD Cert.ReferenceIndxgIdeal.τ).loc Cert.ReferenceIndxgIdeal.main_v59) = v1 c
          ∧ r.2.mem ((c.tc : Thread Cert.ReferenceIndxgIdeal.nD Cert.ReferenceIndxgIdeal.τ).loc Cert.ReferenceIndxgIdeal.main_v60) = v2 c
          ∧ r.2.mem ((c.tc : Thread Cert.ReferenceIndxgIdeal.nD Cert.ReferenceIndxgIdeal.τ).loc Cert.ReferenceIndxgIdeal.main_v61) = v3 c
          ∧ r.2.mem ((c.tc : Thread Cert.ReferenceIndxgIdeal.nD Cert.ReferenceIndxgIdeal.τ).loc Cert.ReferenceIndxgIdeal.main_arg0) = m' ((c.tc : Thread Cert.ReferenceIndxgIdeal.nD Cert.ReferenceIndxgIdeal.τ).loc Cert.ReferenceIndxgIdeal.main_arg0)
          ∧ r.2.mem ((c.tc : Thread Cert.ReferenceIndxgIdeal.nD Cert.ReferenceIndxgIdeal.τ).loc Cert.ReferenceIndxgIdeal.main_arg1) = m' ((c.tc : Thread Cert.ReferenceIndxgIdeal.nD Cert.ReferenceIndxgIdeal.τ).loc Cert.ReferenceIndxgIdeal.main_arg1)
          ∧ r.2.mem ((c.tc : Thread Cert.ReferenceIndxgIdeal.nD Cert.ReferenceIndxgIdeal.τ).loc Cert.ReferenceIndxgIdeal.main_arg2) = m' ((c.tc : Thread Cert.ReferenceIndxgIdeal.nD Cert.ReferenceIndxgIdeal.τ).loc Cert.ReferenceIndxgIdeal.main_arg2)
          ∧ r.2.mem ((c.tc : Thread Cert.ReferenceIndxgIdeal.nD Cert.ReferenceIndxgIdeal.τ).loc Cert.ReferenceIndxgIdeal.main_arg3) = m' ((c.tc : Thread Cert.ReferenceIndxgIdeal.nD Cert.ReferenceIndxgIdeal.τ).loc Cert.ReferenceIndxgIdeal.main_arg3)
          ∧ r.2.mem ((c.tc : Thread Cert.ReferenceIndxgIdeal.nD Cert.ReferenceIndxgIdeal.τ).loc Cert.ReferenceIndxgIdeal.main_arg4) = m' ((c.tc : Thread Cert.ReferenceIndxgIdeal.nD Cert.ReferenceIndxgIdeal.τ).loc Cert.ReferenceIndxgIdeal.main_arg4)
          ∧ r.2.mem ((c.tc : Thread Cert.ReferenceIndxgIdeal.nD Cert.ReferenceIndxgIdeal.τ).loc Cert.ReferenceIndxgIdeal.main_arg5) = m' ((c.tc : Thread Cert.ReferenceIndxgIdeal.nD Cert.ReferenceIndxgIdeal.τ).loc Cert.ReferenceIndxgIdeal.main_arg5)
          ∧ r.2.mem ((c.tc : Thread Cert.ReferenceIndxgIdeal.nD Cert.ReferenceIndxgIdeal.τ).loc Cert.ReferenceIndxgIdeal.main_arg6) = m' ((c.tc : Thread Cert.ReferenceIndxgIdeal.nD Cert.ReferenceIndxgIdeal.τ).loc Cert.ReferenceIndxgIdeal.main_arg6)
          ∧ r.2.mem ((c.tc : Thread Cert.ReferenceIndxgIdeal.nD Cert.ReferenceIndxgIdeal.τ).loc Cert.ReferenceIndxgIdeal.main_arg7) = m' ((c.tc : Thread Cert.ReferenceIndxgIdeal.nD Cert.ReferenceIndxgIdeal.τ).loc Cert.ReferenceIndxgIdeal.main_arg7))

def preserves_KernelBudx_KernelBudxIdeal : Prop :=
  True

def algebraic_KernelBudxIdeal_ReferenceBudxIdeal [hKernelBudxIdeal : Cert.KernelBudxIdeal.Facts] [hReferenceBudxIdeal : Cert.ReferenceBudxIdeal.Facts] : Prop :=
  ∀ (m : (ℓ : Loc Cert.KernelBudxIdeal.nD Cert.KernelBudxIdeal.τ Cert.KernelBudxIdeal.sig) → Buf (Elt Ideal) ℓ) (g : Dev Cert.KernelBudxIdeal.nD → PrngReg)
    (m' : (ℓ : Loc Cert.ReferenceBudxIdeal.nD Cert.ReferenceBudxIdeal.τ Cert.ReferenceBudxIdeal.sig) → Buf (Elt Ideal) ℓ) (g' : Dev Cert.ReferenceBudxIdeal.nD → PrngReg), Pre_KernelBudxIdeal m →
    (∀ c : Dev Cert.KernelBudxIdeal.nD,
      m' ((c.tc : Thread Cert.ReferenceBudxIdeal.nD Cert.ReferenceBudxIdeal.τ).loc Cert.ReferenceBudxIdeal.main_arg0) = m ((c.tc : Thread Cert.KernelBudxIdeal.nD Cert.KernelBudxIdeal.τ).loc Cert.KernelBudxIdeal.main_arg0)
      ∧ m' ((c.tc : Thread Cert.ReferenceBudxIdeal.nD Cert.ReferenceBudxIdeal.τ).loc Cert.ReferenceBudxIdeal.main_arg1) = m ((c.tc : Thread Cert.KernelBudxIdeal.nD Cert.KernelBudxIdeal.τ).loc Cert.KernelBudxIdeal.main_arg1)
      ∧ m' ((c.tc : Thread Cert.ReferenceBudxIdeal.nD Cert.ReferenceBudxIdeal.τ).loc Cert.ReferenceBudxIdeal.main_arg2) = m ((c.tc : Thread Cert.KernelBudxIdeal.nD Cert.KernelBudxIdeal.τ).loc Cert.KernelBudxIdeal.main_arg2)
      ∧ m' ((c.tc : Thread Cert.ReferenceBudxIdeal.nD Cert.ReferenceBudxIdeal.τ).loc Cert.ReferenceBudxIdeal.main_arg3) = m ((c.tc : Thread Cert.KernelBudxIdeal.nD Cert.KernelBudxIdeal.τ).loc Cert.KernelBudxIdeal.main_arg3)
      ∧ m' ((c.tc : Thread Cert.ReferenceBudxIdeal.nD Cert.ReferenceBudxIdeal.τ).loc Cert.ReferenceBudxIdeal.main_arg4) = m ((c.tc : Thread Cert.KernelBudxIdeal.nD Cert.KernelBudxIdeal.τ).loc Cert.KernelBudxIdeal.main_arg4)
      ∧ m' ((c.tc : Thread Cert.ReferenceBudxIdeal.nD Cert.ReferenceBudxIdeal.τ).loc Cert.ReferenceBudxIdeal.main_arg5) = m ((c.tc : Thread Cert.KernelBudxIdeal.nD Cert.KernelBudxIdeal.τ).loc Cert.KernelBudxIdeal.main_arg5)) →
    ∃ (v0 : (c : Dev Cert.KernelBudxIdeal.nD) → Buf (Elt Ideal) ((c.tc : Thread Cert.KernelBudxIdeal.nD Cert.KernelBudxIdeal.τ).loc Cert.KernelBudxIdeal.main_v29)),
      θ_run (Cert.KernelBudxIdeal.defs (F := Ideal)) (onTc (τ := Cert.KernelBudxIdeal.τ) (Cert.KernelBudxIdeal.main (F := Ideal))) ⟨m, fun _ => 0, g⟩ (fun r => ∀ c : Dev Cert.KernelBudxIdeal.nD,
          r.2.mem ((c.tc : Thread Cert.KernelBudxIdeal.nD Cert.KernelBudxIdeal.τ).loc Cert.KernelBudxIdeal.main_v29) = v0 c
          ∧ r.2.mem ((c.tc : Thread Cert.KernelBudxIdeal.nD Cert.KernelBudxIdeal.τ).loc Cert.KernelBudxIdeal.main_arg0) = m ((c.tc : Thread Cert.KernelBudxIdeal.nD Cert.KernelBudxIdeal.τ).loc Cert.KernelBudxIdeal.main_arg0)
          ∧ r.2.mem ((c.tc : Thread Cert.KernelBudxIdeal.nD Cert.KernelBudxIdeal.τ).loc Cert.KernelBudxIdeal.main_arg1) = m ((c.tc : Thread Cert.KernelBudxIdeal.nD Cert.KernelBudxIdeal.τ).loc Cert.KernelBudxIdeal.main_arg1)
          ∧ r.2.mem ((c.tc : Thread Cert.KernelBudxIdeal.nD Cert.KernelBudxIdeal.τ).loc Cert.KernelBudxIdeal.main_arg2) = m ((c.tc : Thread Cert.KernelBudxIdeal.nD Cert.KernelBudxIdeal.τ).loc Cert.KernelBudxIdeal.main_arg2)
          ∧ r.2.mem ((c.tc : Thread Cert.KernelBudxIdeal.nD Cert.KernelBudxIdeal.τ).loc Cert.KernelBudxIdeal.main_arg3) = m ((c.tc : Thread Cert.KernelBudxIdeal.nD Cert.KernelBudxIdeal.τ).loc Cert.KernelBudxIdeal.main_arg3)
          ∧ r.2.mem ((c.tc : Thread Cert.KernelBudxIdeal.nD Cert.KernelBudxIdeal.τ).loc Cert.KernelBudxIdeal.main_arg4) = m ((c.tc : Thread Cert.KernelBudxIdeal.nD Cert.KernelBudxIdeal.τ).loc Cert.KernelBudxIdeal.main_arg4)
          ∧ r.2.mem ((c.tc : Thread Cert.KernelBudxIdeal.nD Cert.KernelBudxIdeal.τ).loc Cert.KernelBudxIdeal.main_arg5) = m ((c.tc : Thread Cert.KernelBudxIdeal.nD Cert.KernelBudxIdeal.τ).loc Cert.KernelBudxIdeal.main_arg5))
      ∧ θ_run (Cert.ReferenceBudxIdeal.defs (F := Ideal)) (onTc (τ := Cert.ReferenceBudxIdeal.τ) (Cert.ReferenceBudxIdeal.main (F := Ideal))) ⟨m', fun _ => 0, g'⟩ (fun r => ∀ c : Dev Cert.ReferenceBudxIdeal.nD,
          r.2.mem ((c.tc : Thread Cert.ReferenceBudxIdeal.nD Cert.ReferenceBudxIdeal.τ).loc Cert.ReferenceBudxIdeal.main_v25) = v0 c
          ∧ r.2.mem ((c.tc : Thread Cert.ReferenceBudxIdeal.nD Cert.ReferenceBudxIdeal.τ).loc Cert.ReferenceBudxIdeal.main_arg0) = m' ((c.tc : Thread Cert.ReferenceBudxIdeal.nD Cert.ReferenceBudxIdeal.τ).loc Cert.ReferenceBudxIdeal.main_arg0)
          ∧ r.2.mem ((c.tc : Thread Cert.ReferenceBudxIdeal.nD Cert.ReferenceBudxIdeal.τ).loc Cert.ReferenceBudxIdeal.main_arg1) = m' ((c.tc : Thread Cert.ReferenceBudxIdeal.nD Cert.ReferenceBudxIdeal.τ).loc Cert.ReferenceBudxIdeal.main_arg1)
          ∧ r.2.mem ((c.tc : Thread Cert.ReferenceBudxIdeal.nD Cert.ReferenceBudxIdeal.τ).loc Cert.ReferenceBudxIdeal.main_arg2) = m' ((c.tc : Thread Cert.ReferenceBudxIdeal.nD Cert.ReferenceBudxIdeal.τ).loc Cert.ReferenceBudxIdeal.main_arg2)
          ∧ r.2.mem ((c.tc : Thread Cert.ReferenceBudxIdeal.nD Cert.ReferenceBudxIdeal.τ).loc Cert.ReferenceBudxIdeal.main_arg3) = m' ((c.tc : Thread Cert.ReferenceBudxIdeal.nD Cert.ReferenceBudxIdeal.τ).loc Cert.ReferenceBudxIdeal.main_arg3)
          ∧ r.2.mem ((c.tc : Thread Cert.ReferenceBudxIdeal.nD Cert.ReferenceBudxIdeal.τ).loc Cert.ReferenceBudxIdeal.main_arg4) = m' ((c.tc : Thread Cert.ReferenceBudxIdeal.nD Cert.ReferenceBudxIdeal.τ).loc Cert.ReferenceBudxIdeal.main_arg4)
          ∧ r.2.mem ((c.tc : Thread Cert.ReferenceBudxIdeal.nD Cert.ReferenceBudxIdeal.τ).loc Cert.ReferenceBudxIdeal.main_arg5) = m' ((c.tc : Thread Cert.ReferenceBudxIdeal.nD Cert.ReferenceBudxIdeal.τ).loc Cert.ReferenceBudxIdeal.main_arg5))

def preserves_KernelPool_KernelPoolIdeal : Prop :=
  True

def algebraic_KernelPoolIdeal_ReferencePoolIdeal_pre_pool_finite [hKernelPoolIdeal : Cert.KernelPoolIdeal.Facts] [hReferencePoolIdeal : Cert.ReferencePoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_pool_finite m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v58_0)) (v1 : (c : Dev Cert.KernelPoolIdeal.nD) → Buf (Elt Ideal) ((c.tc : Thread Cert.KernelPoolIdeal.nD Cert.KernelPoolIdeal.τ).loc Cert.KernelPoolIdeal.main_v58_1)) (v2 : (c : Dev Cert.KernelPoolIdeal.nD) → Buf (Elt Ideal) ((c.tc : Thread Cert.KernelPoolIdeal.nD Cert.KernelPoolIdeal.τ).loc Cert.KernelPoolIdeal.main_v58_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v58_0) = v0 c
          ∧ r.2.mem ((c.tc : Thread Cert.KernelPoolIdeal.nD Cert.KernelPoolIdeal.τ).loc Cert.KernelPoolIdeal.main_v58_1) = v1 c
          ∧ r.2.mem ((c.tc : Thread Cert.KernelPoolIdeal.nD Cert.KernelPoolIdeal.τ).loc Cert.KernelPoolIdeal.main_v58_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v154) = v0 c
          ∧ r.2.mem ((c.tc : Thread Cert.ReferencePoolIdeal.nD Cert.ReferencePoolIdeal.τ).loc Cert.ReferencePoolIdeal.main_v139) = v1 c
          ∧ r.2.mem ((c.tc : Thread Cert.ReferencePoolIdeal.nD Cert.ReferencePoolIdeal.τ).loc Cert.ReferencePoolIdeal.main_v155) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelScanBwd_KernelScanBwdIdeal : Prop :=
  True

def preserves_KernelScan_KernelScanIdeal : Prop :=
  True

def algebraic_KernelScanIdeal_ReferenceScanIdeal_pre_scan_finite [hKernelScanIdeal : Cert.KernelScanIdeal.Facts] [hReferenceScanIdeal : Cert.ReferenceScanIdeal.Facts] [hPre_scan_finite : Cert.Pre_scan_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal_scan_finite m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)
      ∧ m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)
      ∧ m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)) →
    ∃ (v0 : (c : Dev Cert.KernelScanIdeal.nD) → Buf (Elt Ideal) ((c.tc : Thread Cert.KernelScanIdeal.nD Cert.KernelScanIdeal.τ).loc Cert.KernelScanIdeal.main_v0_0)) (v1 : (c : Dev Cert.KernelScanIdeal.nD) → Buf (Elt Ideal) ((c.tc : Thread Cert.KernelScanIdeal.nD Cert.KernelScanIdeal.τ).loc Cert.KernelScanIdeal.main_v0_1)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v0_0) = v0 c
          ∧ r.2.mem ((c.tc : Thread Cert.KernelScanIdeal.nD Cert.KernelScanIdeal.τ).loc Cert.KernelScanIdeal.main_v0_1) = v1 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v12) = v0 c
          ∧ r.2.mem ((c.tc : Thread Cert.ReferenceScanIdeal.nD Cert.ReferenceScanIdeal.τ).loc Cert.ReferenceScanIdeal.main_v15) = v1 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1)
          ∧ r.2.mem ((c.tc : Thread Cert.ReferenceScanIdeal.nD Cert.ReferenceScanIdeal.τ).loc Cert.ReferenceScanIdeal.main_arg2) = m' ((c.tc : Thread Cert.ReferenceScanIdeal.nD Cert.ReferenceScanIdeal.τ).loc Cert.ReferenceScanIdeal.main_arg2)
          ∧ r.2.mem ((c.tc : Thread Cert.ReferenceScanIdeal.nD Cert.ReferenceScanIdeal.τ).loc Cert.ReferenceScanIdeal.main_arg3) = m' ((c.tc : Thread Cert.ReferenceScanIdeal.nD Cert.ReferenceScanIdeal.τ).loc Cert.ReferenceScanIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)) →
    ∃ (v0 : (c : Dev Cert.KernelGateIdeal.nD) → Buf (Elt Ideal) ((c.tc : Thread Cert.KernelGateIdeal.nD Cert.KernelGateIdeal.τ).loc Cert.KernelGateIdeal.main_v21_0)) (v1 : (c : Dev Cert.KernelGateIdeal.nD) → Buf (Elt Ideal) ((c.tc : Thread Cert.KernelGateIdeal.nD Cert.KernelGateIdeal.τ).loc Cert.KernelGateIdeal.main_v21_1)) (v2 : (c : Dev Cert.KernelGateIdeal.nD) → Buf (Elt Ideal) ((c.tc : Thread Cert.KernelGateIdeal.nD Cert.KernelGateIdeal.τ).loc Cert.KernelGateIdeal.main_v21_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v21_0) = v0 c
          ∧ r.2.mem ((c.tc : Thread Cert.KernelGateIdeal.nD Cert.KernelGateIdeal.τ).loc Cert.KernelGateIdeal.main_v21_1) = v1 c
          ∧ r.2.mem ((c.tc : Thread Cert.KernelGateIdeal.nD Cert.KernelGateIdeal.τ).loc Cert.KernelGateIdeal.main_v21_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v22) = v0 c
          ∧ r.2.mem ((c.tc : Thread Cert.ReferenceGateIdeal.nD Cert.ReferenceGateIdeal.τ).loc Cert.ReferenceGateIdeal.main_v13) = v1 c
          ∧ r.2.mem ((c.tc : Thread Cert.ReferenceGateIdeal.nD Cert.ReferenceGateIdeal.τ).loc Cert.ReferenceGateIdeal.main_v36) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5))

def preserves_KernelHold_KernelHoldIdeal : Prop :=
  True

def algebraic_KernelHoldIdeal_ReferenceHoldIdeal [hKernelHoldIdeal : Cert.KernelHoldIdeal.Facts] [hReferenceHoldIdeal : Cert.ReferenceHoldIdeal.Facts] : Prop :=
  ∀ (m : (ℓ : Loc Cert.KernelHoldIdeal.nD Cert.KernelHoldIdeal.τ Cert.KernelHoldIdeal.sig) → Buf (Elt Ideal) ℓ) (g : Dev Cert.KernelHoldIdeal.nD → PrngReg)
    (m' : (ℓ : Loc Cert.ReferenceHoldIdeal.nD Cert.ReferenceHoldIdeal.τ Cert.ReferenceHoldIdeal.sig) → Buf (Elt Ideal) ℓ) (g' : Dev Cert.ReferenceHoldIdeal.nD → PrngReg), Pre_KernelHoldIdeal m →
    (∀ c : Dev Cert.KernelHoldIdeal.nD,
      m' ((c.tc : Thread Cert.ReferenceHoldIdeal.nD Cert.ReferenceHoldIdeal.τ).loc Cert.ReferenceHoldIdeal.main_arg0) = m ((c.tc : Thread Cert.KernelHoldIdeal.nD Cert.KernelHoldIdeal.τ).loc Cert.KernelHoldIdeal.main_arg0)
      ∧ m' ((c.tc : Thread Cert.ReferenceHoldIdeal.nD Cert.ReferenceHoldIdeal.τ).loc Cert.ReferenceHoldIdeal.main_arg1) = m ((c.tc : Thread Cert.KernelHoldIdeal.nD Cert.KernelHoldIdeal.τ).loc Cert.KernelHoldIdeal.main_arg1)
      ∧ m' ((c.tc : Thread Cert.ReferenceHoldIdeal.nD Cert.ReferenceHoldIdeal.τ).loc Cert.ReferenceHoldIdeal.main_arg2) = m ((c.tc : Thread Cert.KernelHoldIdeal.nD Cert.KernelHoldIdeal.τ).loc Cert.KernelHoldIdeal.main_arg2)
      ∧ m' ((c.tc : Thread Cert.ReferenceHoldIdeal.nD Cert.ReferenceHoldIdeal.τ).loc Cert.ReferenceHoldIdeal.main_arg3) = m ((c.tc : Thread Cert.KernelHoldIdeal.nD Cert.KernelHoldIdeal.τ).loc Cert.KernelHoldIdeal.main_arg3)
      ∧ m' ((c.tc : Thread Cert.ReferenceHoldIdeal.nD Cert.ReferenceHoldIdeal.τ).loc Cert.ReferenceHoldIdeal.main_arg4) = m ((c.tc : Thread Cert.KernelHoldIdeal.nD Cert.KernelHoldIdeal.τ).loc Cert.KernelHoldIdeal.main_arg4)) →
    ∃ (v0 : (c : Dev Cert.KernelHoldIdeal.nD) → Buf (Elt Ideal) ((c.tc : Thread Cert.KernelHoldIdeal.nD Cert.KernelHoldIdeal.τ).loc Cert.KernelHoldIdeal.main_v8_0)) (v1 : (c : Dev Cert.KernelHoldIdeal.nD) → Buf (Elt Ideal) ((c.tc : Thread Cert.KernelHoldIdeal.nD Cert.KernelHoldIdeal.τ).loc Cert.KernelHoldIdeal.main_v8_1)) (v2 : (c : Dev Cert.KernelHoldIdeal.nD) → Buf (Elt Ideal) ((c.tc : Thread Cert.KernelHoldIdeal.nD Cert.KernelHoldIdeal.τ).loc Cert.KernelHoldIdeal.main_v8_2)) (v3 : (c : Dev Cert.KernelHoldIdeal.nD) → Buf (Elt Ideal) ((c.tc : Thread Cert.KernelHoldIdeal.nD Cert.KernelHoldIdeal.τ).loc Cert.KernelHoldIdeal.main_v8_3)),
      θ_run (Cert.KernelHoldIdeal.defs (F := Ideal)) (onTc (τ := Cert.KernelHoldIdeal.τ) (Cert.KernelHoldIdeal.main (F := Ideal))) ⟨m, fun _ => 0, g⟩ (fun r => ∀ c : Dev Cert.KernelHoldIdeal.nD,
          r.2.mem ((c.tc : Thread Cert.KernelHoldIdeal.nD Cert.KernelHoldIdeal.τ).loc Cert.KernelHoldIdeal.main_v8_0) = v0 c
          ∧ r.2.mem ((c.tc : Thread Cert.KernelHoldIdeal.nD Cert.KernelHoldIdeal.τ).loc Cert.KernelHoldIdeal.main_v8_1) = v1 c
          ∧ r.2.mem ((c.tc : Thread Cert.KernelHoldIdeal.nD Cert.KernelHoldIdeal.τ).loc Cert.KernelHoldIdeal.main_v8_2) = v2 c
          ∧ r.2.mem ((c.tc : Thread Cert.KernelHoldIdeal.nD Cert.KernelHoldIdeal.τ).loc Cert.KernelHoldIdeal.main_v8_3) = v3 c
          ∧ r.2.mem ((c.tc : Thread Cert.KernelHoldIdeal.nD Cert.KernelHoldIdeal.τ).loc Cert.KernelHoldIdeal.main_arg0) = m ((c.tc : Thread Cert.KernelHoldIdeal.nD Cert.KernelHoldIdeal.τ).loc Cert.KernelHoldIdeal.main_arg0)
          ∧ r.2.mem ((c.tc : Thread Cert.KernelHoldIdeal.nD Cert.KernelHoldIdeal.τ).loc Cert.KernelHoldIdeal.main_arg1) = m ((c.tc : Thread Cert.KernelHoldIdeal.nD Cert.KernelHoldIdeal.τ).loc Cert.KernelHoldIdeal.main_arg1)
          ∧ r.2.mem ((c.tc : Thread Cert.KernelHoldIdeal.nD Cert.KernelHoldIdeal.τ).loc Cert.KernelHoldIdeal.main_arg2) = m ((c.tc : Thread Cert.KernelHoldIdeal.nD Cert.KernelHoldIdeal.τ).loc Cert.KernelHoldIdeal.main_arg2)
          ∧ r.2.mem ((c.tc : Thread Cert.KernelHoldIdeal.nD Cert.KernelHoldIdeal.τ).loc Cert.KernelHoldIdeal.main_arg3) = m ((c.tc : Thread Cert.KernelHoldIdeal.nD Cert.KernelHoldIdeal.τ).loc Cert.KernelHoldIdeal.main_arg3)
          ∧ r.2.mem ((c.tc : Thread Cert.KernelHoldIdeal.nD Cert.KernelHoldIdeal.τ).loc Cert.KernelHoldIdeal.main_arg4) = m ((c.tc : Thread Cert.KernelHoldIdeal.nD Cert.KernelHoldIdeal.τ).loc Cert.KernelHoldIdeal.main_arg4))
      ∧ θ_run (Cert.ReferenceHoldIdeal.defs (F := Ideal)) (onTc (τ := Cert.ReferenceHoldIdeal.τ) (Cert.ReferenceHoldIdeal.main (F := Ideal))) ⟨m', fun _ => 0, g'⟩ (fun r => ∀ c : Dev Cert.ReferenceHoldIdeal.nD,
          r.2.mem ((c.tc : Thread Cert.ReferenceHoldIdeal.nD Cert.ReferenceHoldIdeal.τ).loc Cert.ReferenceHoldIdeal.main_v30) = v0 c
          ∧ r.2.mem ((c.tc : Thread Cert.ReferenceHoldIdeal.nD Cert.ReferenceHoldIdeal.τ).loc Cert.ReferenceHoldIdeal.main_v31) = v1 c
          ∧ r.2.mem ((c.tc : Thread Cert.ReferenceHoldIdeal.nD Cert.ReferenceHoldIdeal.τ).loc Cert.ReferenceHoldIdeal.main_v37) = v2 c
          ∧ r.2.mem ((c.tc : Thread Cert.ReferenceHoldIdeal.nD Cert.ReferenceHoldIdeal.τ).loc Cert.ReferenceHoldIdeal.main_v43) = v3 c
          ∧ r.2.mem ((c.tc : Thread Cert.ReferenceHoldIdeal.nD Cert.ReferenceHoldIdeal.τ).loc Cert.ReferenceHoldIdeal.main_arg0) = m' ((c.tc : Thread Cert.ReferenceHoldIdeal.nD Cert.ReferenceHoldIdeal.τ).loc Cert.ReferenceHoldIdeal.main_arg0)
          ∧ r.2.mem ((c.tc : Thread Cert.ReferenceHoldIdeal.nD Cert.ReferenceHoldIdeal.τ).loc Cert.ReferenceHoldIdeal.main_arg1) = m' ((c.tc : Thread Cert.ReferenceHoldIdeal.nD Cert.ReferenceHoldIdeal.τ).loc Cert.ReferenceHoldIdeal.main_arg1)
          ∧ r.2.mem ((c.tc : Thread Cert.ReferenceHoldIdeal.nD Cert.ReferenceHoldIdeal.τ).loc Cert.ReferenceHoldIdeal.main_arg2) = m' ((c.tc : Thread Cert.ReferenceHoldIdeal.nD Cert.ReferenceHoldIdeal.τ).loc Cert.ReferenceHoldIdeal.main_arg2)
          ∧ r.2.mem ((c.tc : Thread Cert.ReferenceHoldIdeal.nD Cert.ReferenceHoldIdeal.τ).loc Cert.ReferenceHoldIdeal.main_arg3) = m' ((c.tc : Thread Cert.ReferenceHoldIdeal.nD Cert.ReferenceHoldIdeal.τ).loc Cert.ReferenceHoldIdeal.main_arg3)
          ∧ r.2.mem ((c.tc : Thread Cert.ReferenceHoldIdeal.nD Cert.ReferenceHoldIdeal.τ).loc Cert.ReferenceHoldIdeal.main_arg4) = m' ((c.tc : Thread Cert.ReferenceHoldIdeal.nD Cert.ReferenceHoldIdeal.τ).loc Cert.ReferenceHoldIdeal.main_arg4))

def preserves_KernelStates_KernelStatesIdeal : Prop :=
  True

def algebraic_KernelStatesIdeal_ReferenceStatesIdeal_pre_states_finite [hKernelStatesIdeal : Cert.KernelStatesIdeal.Facts] [hReferenceStatesIdeal : Cert.ReferenceStatesIdeal.Facts] [hPre_states_finite : Cert.Pre_states_finite.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg)
    (m' : (ℓ : Loc Cert.ReferenceStatesIdeal.nD Cert.ReferenceStatesIdeal.τ Cert.ReferenceStatesIdeal.sig) → Buf (Elt Ideal) ℓ) (g' : Dev Cert.ReferenceStatesIdeal.nD → PrngReg), Pre_KernelStatesIdeal_states_finite m →
    (∀ c : Dev Cert.KernelStatesIdeal.nD,
      m' ((c.tc : Thread Cert.ReferenceStatesIdeal.nD Cert.ReferenceStatesIdeal.τ).loc Cert.ReferenceStatesIdeal.main_arg0) = m ((c.tc : Thread Cert.KernelStatesIdeal.nD Cert.KernelStatesIdeal.τ).loc Cert.KernelStatesIdeal.main_arg0)
      ∧ m' ((c.tc : Thread Cert.ReferenceStatesIdeal.nD Cert.ReferenceStatesIdeal.τ).loc Cert.ReferenceStatesIdeal.main_arg1) = m ((c.tc : Thread Cert.KernelStatesIdeal.nD Cert.KernelStatesIdeal.τ).loc Cert.KernelStatesIdeal.main_arg1)
      ∧ m' ((c.tc : Thread Cert.ReferenceStatesIdeal.nD Cert.ReferenceStatesIdeal.τ).loc Cert.ReferenceStatesIdeal.main_arg2) = m ((c.tc : Thread Cert.KernelStatesIdeal.nD Cert.KernelStatesIdeal.τ).loc Cert.KernelStatesIdeal.main_arg2)
      ∧ m' ((c.tc : Thread Cert.ReferenceStatesIdeal.nD Cert.ReferenceStatesIdeal.τ).loc Cert.ReferenceStatesIdeal.main_arg3) = m ((c.tc : Thread Cert.KernelStatesIdeal.nD Cert.KernelStatesIdeal.τ).loc Cert.KernelStatesIdeal.main_arg3)
      ∧ m' ((c.tc : Thread Cert.ReferenceStatesIdeal.nD Cert.ReferenceStatesIdeal.τ).loc Cert.ReferenceStatesIdeal.main_arg4) = m ((c.tc : Thread Cert.KernelStatesIdeal.nD Cert.KernelStatesIdeal.τ).loc Cert.KernelStatesIdeal.main_arg4)
      ∧ m' ((c.tc : Thread Cert.ReferenceStatesIdeal.nD Cert.ReferenceStatesIdeal.τ).loc Cert.ReferenceStatesIdeal.main_arg5) = m ((c.tc : Thread Cert.KernelStatesIdeal.nD Cert.KernelStatesIdeal.τ).loc Cert.KernelStatesIdeal.main_arg5)) →
    ∃ (v0 : (c : Dev Cert.KernelStatesIdeal.nD) → Buf (Elt Ideal) ((c.tc : Thread Cert.KernelStatesIdeal.nD Cert.KernelStatesIdeal.τ).loc Cert.KernelStatesIdeal.main_v28_0)) (v1 : (c : Dev Cert.KernelStatesIdeal.nD) → Buf (Elt Ideal) ((c.tc : Thread Cert.KernelStatesIdeal.nD Cert.KernelStatesIdeal.τ).loc Cert.KernelStatesIdeal.main_v28_1)),
      θ_run (Cert.KernelStatesIdeal.defs (F := Ideal)) (onTc (τ := Cert.KernelStatesIdeal.τ) (Cert.KernelStatesIdeal.main (F := Ideal))) ⟨m, fun _ => 0, g⟩ (fun r => ∀ c : Dev Cert.KernelStatesIdeal.nD,
          r.2.mem ((c.tc : Thread Cert.KernelStatesIdeal.nD Cert.KernelStatesIdeal.τ).loc Cert.KernelStatesIdeal.main_v28_0) = v0 c
          ∧ r.2.mem ((c.tc : Thread Cert.KernelStatesIdeal.nD Cert.KernelStatesIdeal.τ).loc Cert.KernelStatesIdeal.main_v28_1) = v1 c
          ∧ r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
          ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
          ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
          ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3)
          ∧ r.2.mem ((c.tc : Thread Cert.KernelStatesIdeal.nD Cert.KernelStatesIdeal.τ).loc Cert.KernelStatesIdeal.main_arg4) = m ((c.tc : Thread Cert.KernelStatesIdeal.nD Cert.KernelStatesIdeal.τ).loc Cert.KernelStatesIdeal.main_arg4)
          ∧ r.2.mem ((c.tc : Thread Cert.KernelStatesIdeal.nD Cert.KernelStatesIdeal.τ).loc Cert.KernelStatesIdeal.main_arg5) = m ((c.tc : Thread Cert.KernelStatesIdeal.nD Cert.KernelStatesIdeal.τ).loc Cert.KernelStatesIdeal.main_arg5))
      ∧ θ_run (Cert.ReferenceStatesIdeal.defs (F := Ideal)) (onTc (τ := Cert.ReferenceStatesIdeal.τ) (Cert.ReferenceStatesIdeal.main (F := Ideal))) ⟨m', fun _ => 0, g'⟩ (fun r => ∀ c : Dev Cert.ReferenceStatesIdeal.nD,
          r.2.mem ((c.tc : Thread Cert.ReferenceStatesIdeal.nD Cert.ReferenceStatesIdeal.τ).loc Cert.ReferenceStatesIdeal.main_v13) = v0 c
          ∧ r.2.mem ((c.tc : Thread Cert.ReferenceStatesIdeal.nD Cert.ReferenceStatesIdeal.τ).loc Cert.ReferenceStatesIdeal.main_v27) = v1 c
          ∧ r.2.mem ((c.tc : Thread Cert.ReferenceStatesIdeal.nD Cert.ReferenceStatesIdeal.τ).loc Cert.ReferenceStatesIdeal.main_arg0) = m' ((c.tc : Thread Cert.ReferenceStatesIdeal.nD Cert.ReferenceStatesIdeal.τ).loc Cert.ReferenceStatesIdeal.main_arg0)
          ∧ r.2.mem ((c.tc : Thread Cert.ReferenceStatesIdeal.nD Cert.ReferenceStatesIdeal.τ).loc Cert.ReferenceStatesIdeal.main_arg1) = m' ((c.tc : Thread Cert.ReferenceStatesIdeal.nD Cert.ReferenceStatesIdeal.τ).loc Cert.ReferenceStatesIdeal.main_arg1)
          ∧ r.2.mem ((c.tc : Thread Cert.ReferenceStatesIdeal.nD Cert.ReferenceStatesIdeal.τ).loc Cert.ReferenceStatesIdeal.main_arg2) = m' ((c.tc : Thread Cert.ReferenceStatesIdeal.nD Cert.ReferenceStatesIdeal.τ).loc Cert.ReferenceStatesIdeal.main_arg2)
          ∧ r.2.mem ((c.tc : Thread Cert.ReferenceStatesIdeal.nD Cert.ReferenceStatesIdeal.τ).loc Cert.ReferenceStatesIdeal.main_arg3) = m' ((c.tc : Thread Cert.ReferenceStatesIdeal.nD Cert.ReferenceStatesIdeal.τ).loc Cert.ReferenceStatesIdeal.main_arg3)
          ∧ r.2.mem ((c.tc : Thread Cert.ReferenceStatesIdeal.nD Cert.ReferenceStatesIdeal.τ).loc Cert.ReferenceStatesIdeal.main_arg4) = m' ((c.tc : Thread Cert.ReferenceStatesIdeal.nD Cert.ReferenceStatesIdeal.τ).loc Cert.ReferenceStatesIdeal.main_arg4)
          ∧ r.2.mem ((c.tc : Thread Cert.ReferenceStatesIdeal.nD Cert.ReferenceStatesIdeal.τ).loc Cert.ReferenceStatesIdeal.main_arg5) = m' ((c.tc : Thread Cert.ReferenceStatesIdeal.nD Cert.ReferenceStatesIdeal.τ).loc Cert.ReferenceStatesIdeal.main_arg5))

def preserves_KernelHeads_KernelHeadsIdeal : Prop :=
  True

def algebraic_KernelHeadsIdeal_ReferenceHeadsIdeal_pre_heads_finite [hKernelHeadsIdeal : Cert.KernelHeadsIdeal.Facts] [hReferenceHeadsIdeal : Cert.ReferenceHeadsIdeal.Facts] [hPre_heads_finite : Cert.Pre_heads_finite.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg)
    (m' : (ℓ : Loc Cert.ReferenceHeadsIdeal.nD Cert.ReferenceHeadsIdeal.τ Cert.ReferenceHeadsIdeal.sig) → Buf (Elt Ideal) ℓ) (g' : Dev Cert.ReferenceHeadsIdeal.nD → PrngReg), Pre_KernelHeadsIdeal_heads_finite m →
    (∀ c : Dev Cert.KernelHeadsIdeal.nD,
      m' ((c.tc : Thread Cert.ReferenceHeadsIdeal.nD Cert.ReferenceHeadsIdeal.τ).loc Cert.ReferenceHeadsIdeal.main_arg0) = m ((c.tc : Thread Cert.KernelHeadsIdeal.nD Cert.KernelHeadsIdeal.τ).loc Cert.KernelHeadsIdeal.main_arg0)
      ∧ m' ((c.tc : Thread Cert.ReferenceHeadsIdeal.nD Cert.ReferenceHeadsIdeal.τ).loc Cert.ReferenceHeadsIdeal.main_arg1) = m ((c.tc : Thread Cert.KernelHeadsIdeal.nD Cert.KernelHeadsIdeal.τ).loc Cert.KernelHeadsIdeal.main_arg1)
      ∧ m' ((c.tc : Thread Cert.ReferenceHeadsIdeal.nD Cert.ReferenceHeadsIdeal.τ).loc Cert.ReferenceHeadsIdeal.main_arg2) = m ((c.tc : Thread Cert.KernelHeadsIdeal.nD Cert.KernelHeadsIdeal.τ).loc Cert.KernelHeadsIdeal.main_arg2)) →
    ∃ (v0 : (c : Dev Cert.KernelHeadsIdeal.nD) → Buf (Elt Ideal) ((c.tc : Thread Cert.KernelHeadsIdeal.nD Cert.KernelHeadsIdeal.τ).loc Cert.KernelHeadsIdeal.main_v2_0)) (v1 : (c : Dev Cert.KernelHeadsIdeal.nD) → Buf (Elt Ideal) ((c.tc : Thread Cert.KernelHeadsIdeal.nD Cert.KernelHeadsIdeal.τ).loc Cert.KernelHeadsIdeal.main_v2_1)),
      θ_run (Cert.KernelHeadsIdeal.defs (F := Ideal)) (onTc (τ := Cert.KernelHeadsIdeal.τ) (Cert.KernelHeadsIdeal.main (F := Ideal))) ⟨m, fun _ => 0, g⟩ (fun r => ∀ c : Dev Cert.KernelHeadsIdeal.nD,
          r.2.mem ((c.tc : Thread Cert.KernelHeadsIdeal.nD Cert.KernelHeadsIdeal.τ).loc Cert.KernelHeadsIdeal.main_v2_0) = v0 c
          ∧ r.2.mem ((c.tc : Thread Cert.KernelHeadsIdeal.nD Cert.KernelHeadsIdeal.τ).loc Cert.KernelHeadsIdeal.main_v2_1) = v1 c
          ∧ r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0)
          ∧ r.2.mem ((c.tc : Thread Cert.KernelHeadsIdeal.nD Cert.KernelHeadsIdeal.τ).loc Cert.KernelHeadsIdeal.main_arg1) = m ((c.tc : Thread Cert.KernelHeadsIdeal.nD Cert.KernelHeadsIdeal.τ).loc Cert.KernelHeadsIdeal.main_arg1)
          ∧ r.2.mem ((c.tc : Thread Cert.KernelHeadsIdeal.nD Cert.KernelHeadsIdeal.τ).loc Cert.KernelHeadsIdeal.main_arg2) = m ((c.tc : Thread Cert.KernelHeadsIdeal.nD Cert.KernelHeadsIdeal.τ).loc Cert.KernelHeadsIdeal.main_arg2))
      ∧ θ_run (Cert.ReferenceHeadsIdeal.defs (F := Ideal)) (onTc (τ := Cert.ReferenceHeadsIdeal.τ) (Cert.ReferenceHeadsIdeal.main (F := Ideal))) ⟨m', fun _ => 0, g'⟩ (fun r => ∀ c : Dev Cert.ReferenceHeadsIdeal.nD,
          r.2.mem ((c.tc : Thread Cert.ReferenceHeadsIdeal.nD Cert.ReferenceHeadsIdeal.τ).loc Cert.ReferenceHeadsIdeal.main_v70) = v0 c
          ∧ r.2.mem ((c.tc : Thread Cert.ReferenceHeadsIdeal.nD Cert.ReferenceHeadsIdeal.τ).loc Cert.ReferenceHeadsIdeal.main_v73) = v1 c
          ∧ r.2.mem ((c.tc : Thread Cert.ReferenceHeadsIdeal.nD Cert.ReferenceHeadsIdeal.τ).loc Cert.ReferenceHeadsIdeal.main_arg0) = m' ((c.tc : Thread Cert.ReferenceHeadsIdeal.nD Cert.ReferenceHeadsIdeal.τ).loc Cert.ReferenceHeadsIdeal.main_arg0)
          ∧ r.2.mem ((c.tc : Thread Cert.ReferenceHeadsIdeal.nD Cert.ReferenceHeadsIdeal.τ).loc Cert.ReferenceHeadsIdeal.main_arg1) = m' ((c.tc : Thread Cert.ReferenceHeadsIdeal.nD Cert.ReferenceHeadsIdeal.τ).loc Cert.ReferenceHeadsIdeal.main_arg1)
          ∧ r.2.mem ((c.tc : Thread Cert.ReferenceHeadsIdeal.nD Cert.ReferenceHeadsIdeal.τ).loc Cert.ReferenceHeadsIdeal.main_arg2) = m' ((c.tc : Thread Cert.ReferenceHeadsIdeal.nD Cert.ReferenceHeadsIdeal.τ).loc Cert.ReferenceHeadsIdeal.main_arg2))

def Claim : Prop :=
  ∃ (hKernelZoh : Cert.KernelZoh.Facts) (hKernelZohIdeal : Cert.KernelZohIdeal.Facts) (hReferenceZohIdeal : Cert.ReferenceZohIdeal.Facts) (hKernelFfn : Cert.KernelFfn.Facts) (hKernelFfnIdeal : Cert.KernelFfnIdeal.Facts) (hReferenceFfnIdeal : Cert.ReferenceFfnIdeal.Facts) (hKernelIndx : Cert.KernelIndx.Facts) (hKernelIndxIdeal : Cert.KernelIndxIdeal.Facts) (hReferenceIndxIdeal : Cert.ReferenceIndxIdeal.Facts) (hKernelLoss : Cert.KernelLoss.Facts) (hKernelLossIdeal : Cert.KernelLossIdeal.Facts) (hReferenceLossIdeal : Cert.ReferenceLossIdeal.Facts) (hKernelGatedx : Cert.KernelGatedx.Facts) (hKernelGatedxIdeal : Cert.KernelGatedxIdeal.Facts) (hReferenceGatedxIdeal : Cert.ReferenceGatedxIdeal.Facts) (hKernelMixin : Cert.KernelMixin.Facts) (hKernelMixinIdeal : Cert.KernelMixinIdeal.Facts) (hReferenceMixinIdeal : Cert.ReferenceMixinIdeal.Facts) (hKernelGlu : Cert.KernelGlu.Facts) (hKernelGluIdeal : Cert.KernelGluIdeal.Facts) (hReferenceGluIdeal : Cert.ReferenceGluIdeal.Facts) (hKernelMixout : Cert.KernelMixout.Facts) (hKernelMixoutIdeal : Cert.KernelMixoutIdeal.Facts) (hReferenceMixoutIdeal : Cert.ReferenceMixoutIdeal.Facts) (hKernelIndxg : Cert.KernelIndxg.Facts) (hKernelIndxgIdeal : Cert.KernelIndxgIdeal.Facts) (hReferenceIndxgIdeal : Cert.ReferenceIndxgIdeal.Facts) (hKernelBudx : Cert.KernelBudx.Facts) (hKernelBudxIdeal : Cert.KernelBudxIdeal.Facts) (hReferenceBudxIdeal : Cert.ReferenceBudxIdeal.Facts) (hKernelPool : Cert.KernelPool.Facts) (hKernelPoolIdeal : Cert.KernelPoolIdeal.Facts) (hReferencePoolIdeal : Cert.ReferencePoolIdeal.Facts) (hKernelScanBwd : Cert.KernelScanBwd.Facts) (hKernelScanBwdIdeal : Cert.KernelScanBwdIdeal.Facts) (hKernelScan : Cert.KernelScan.Facts) (hKernelScanIdeal : Cert.KernelScanIdeal.Facts) (hReferenceScanIdeal : Cert.ReferenceScanIdeal.Facts) (hKernelGate : Cert.KernelGate.Facts) (hKernelGateIdeal : Cert.KernelGateIdeal.Facts) (hReferenceGateIdeal : Cert.ReferenceGateIdeal.Facts) (hKernelHold : Cert.KernelHold.Facts) (hKernelHoldIdeal : Cert.KernelHoldIdeal.Facts) (hReferenceHoldIdeal : Cert.ReferenceHoldIdeal.Facts) (hKernelStates : Cert.KernelStates.Facts) (hKernelStatesIdeal : Cert.KernelStatesIdeal.Facts) (hReferenceStatesIdeal : Cert.ReferenceStatesIdeal.Facts) (hKernelHeads : Cert.KernelHeads.Facts) (hKernelHeadsIdeal : Cert.KernelHeadsIdeal.Facts) (hReferenceHeadsIdeal : Cert.ReferenceHeadsIdeal.Facts) (hPre_zoh_finite : Cert.Pre_zoh_finite.Facts) (hPre_ffn_finite : Cert.Pre_ffn_finite.Facts) (hPre_indx_finite : Cert.Pre_indx_finite.Facts) (hPre_loss_finite : Cert.Pre_loss_finite.Facts) (hPre_gatedx_finite : Cert.Pre_gatedx_finite.Facts) (hPre_mixin_finite : Cert.Pre_mixin_finite.Facts) (hPre_glu_finite : Cert.Pre_glu_finite.Facts) (hPre_indxg_finite : Cert.Pre_indxg_finite.Facts) (hPre_pool_finite : Cert.Pre_pool_finite.Facts) (hPre_scan_finite : Cert.Pre_scan_finite.Facts) (hPre_states_finite : Cert.Pre_states_finite.Facts) (hPre_heads_finite : Cert.Pre_heads_finite.Facts),
    quiescent_KernelZoh (hKernelZoh := hKernelZoh)
    ∧ quiescent_KernelZohIdeal (hKernelZohIdeal := hKernelZohIdeal)
    ∧ quiescent_KernelZohIdeal_pre_zoh_finite (hKernelZohIdeal := hKernelZohIdeal) (hPre_zoh_finite := hPre_zoh_finite)
    ∧ quiescent_ReferenceZohIdeal (hReferenceZohIdeal := hReferenceZohIdeal)
    ∧ quiescent_ReferenceZohIdeal_pre_zoh_finite (hReferenceZohIdeal := hReferenceZohIdeal) (hPre_zoh_finite := hPre_zoh_finite)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelIndx (hKernelIndx := hKernelIndx)
    ∧ quiescent_KernelIndxIdeal (hKernelIndxIdeal := hKernelIndxIdeal)
    ∧ quiescent_KernelIndxIdeal_pre_indx_finite (hKernelIndxIdeal := hKernelIndxIdeal) (hPre_indx_finite := hPre_indx_finite)
    ∧ quiescent_ReferenceIndxIdeal (hReferenceIndxIdeal := hReferenceIndxIdeal)
    ∧ quiescent_ReferenceIndxIdeal_pre_indx_finite (hReferenceIndxIdeal := hReferenceIndxIdeal) (hPre_indx_finite := hPre_indx_finite)
    ∧ quiescent_KernelLoss (hKernelLoss := hKernelLoss)
    ∧ quiescent_KernelLossIdeal (hKernelLossIdeal := hKernelLossIdeal)
    ∧ quiescent_KernelLossIdeal_pre_loss_finite (hKernelLossIdeal := hKernelLossIdeal) (hPre_loss_finite := hPre_loss_finite)
    ∧ quiescent_ReferenceLossIdeal (hReferenceLossIdeal := hReferenceLossIdeal)
    ∧ quiescent_ReferenceLossIdeal_pre_loss_finite (hReferenceLossIdeal := hReferenceLossIdeal) (hPre_loss_finite := hPre_loss_finite)
    ∧ quiescent_KernelGatedx (hKernelGatedx := hKernelGatedx)
    ∧ quiescent_KernelGatedxIdeal (hKernelGatedxIdeal := hKernelGatedxIdeal)
    ∧ quiescent_KernelGatedxIdeal_pre_gatedx_finite (hKernelGatedxIdeal := hKernelGatedxIdeal) (hPre_gatedx_finite := hPre_gatedx_finite)
    ∧ quiescent_ReferenceGatedxIdeal (hReferenceGatedxIdeal := hReferenceGatedxIdeal)
    ∧ quiescent_ReferenceGatedxIdeal_pre_gatedx_finite (hReferenceGatedxIdeal := hReferenceGatedxIdeal) (hPre_gatedx_finite := hPre_gatedx_finite)
    ∧ quiescent_KernelMixin (hKernelMixin := hKernelMixin)
    ∧ quiescent_KernelMixinIdeal (hKernelMixinIdeal := hKernelMixinIdeal)
    ∧ quiescent_KernelMixinIdeal_pre_mixin_finite (hKernelMixinIdeal := hKernelMixinIdeal) (hPre_mixin_finite := hPre_mixin_finite)
    ∧ quiescent_ReferenceMixinIdeal (hReferenceMixinIdeal := hReferenceMixinIdeal)
    ∧ quiescent_ReferenceMixinIdeal_pre_mixin_finite (hReferenceMixinIdeal := hReferenceMixinIdeal) (hPre_mixin_finite := hPre_mixin_finite)
    ∧ quiescent_KernelGlu (hKernelGlu := hKernelGlu)
    ∧ quiescent_KernelGluIdeal (hKernelGluIdeal := hKernelGluIdeal)
    ∧ quiescent_KernelGluIdeal_pre_glu_finite (hKernelGluIdeal := hKernelGluIdeal) (hPre_glu_finite := hPre_glu_finite)
    ∧ quiescent_ReferenceGluIdeal (hReferenceGluIdeal := hReferenceGluIdeal)
    ∧ quiescent_ReferenceGluIdeal_pre_glu_finite (hReferenceGluIdeal := hReferenceGluIdeal) (hPre_glu_finite := hPre_glu_finite)
    ∧ quiescent_KernelMixout (hKernelMixout := hKernelMixout)
    ∧ quiescent_KernelMixoutIdeal (hKernelMixoutIdeal := hKernelMixoutIdeal)
    ∧ quiescent_ReferenceMixoutIdeal (hReferenceMixoutIdeal := hReferenceMixoutIdeal)
    ∧ quiescent_KernelIndxg (hKernelIndxg := hKernelIndxg)
    ∧ quiescent_KernelIndxgIdeal (hKernelIndxgIdeal := hKernelIndxgIdeal)
    ∧ quiescent_KernelIndxgIdeal_pre_indxg_finite (hKernelIndxgIdeal := hKernelIndxgIdeal) (hPre_indxg_finite := hPre_indxg_finite)
    ∧ quiescent_ReferenceIndxgIdeal (hReferenceIndxgIdeal := hReferenceIndxgIdeal)
    ∧ quiescent_ReferenceIndxgIdeal_pre_indxg_finite (hReferenceIndxgIdeal := hReferenceIndxgIdeal) (hPre_indxg_finite := hPre_indxg_finite)
    ∧ quiescent_KernelBudx (hKernelBudx := hKernelBudx)
    ∧ quiescent_KernelBudxIdeal (hKernelBudxIdeal := hKernelBudxIdeal)
    ∧ quiescent_ReferenceBudxIdeal (hReferenceBudxIdeal := hReferenceBudxIdeal)
    ∧ quiescent_KernelPool (hKernelPool := hKernelPool)
    ∧ quiescent_KernelPoolIdeal (hKernelPoolIdeal := hKernelPoolIdeal)
    ∧ quiescent_KernelPoolIdeal_pre_pool_finite (hKernelPoolIdeal := hKernelPoolIdeal) (hPre_pool_finite := hPre_pool_finite)
    ∧ quiescent_ReferencePoolIdeal (hReferencePoolIdeal := hReferencePoolIdeal)
    ∧ quiescent_ReferencePoolIdeal_pre_pool_finite (hReferencePoolIdeal := hReferencePoolIdeal) (hPre_pool_finite := hPre_pool_finite)
    ∧ quiescent_KernelScanBwd (hKernelScanBwd := hKernelScanBwd)
    ∧ quiescent_KernelScanBwdIdeal (hKernelScanBwdIdeal := hKernelScanBwdIdeal)
    ∧ quiescent_KernelScan (hKernelScan := hKernelScan)
    ∧ quiescent_KernelScanIdeal (hKernelScanIdeal := hKernelScanIdeal)
    ∧ quiescent_KernelScanIdeal_pre_scan_finite (hKernelScanIdeal := hKernelScanIdeal) (hPre_scan_finite := hPre_scan_finite)
    ∧ quiescent_ReferenceScanIdeal (hReferenceScanIdeal := hReferenceScanIdeal)
    ∧ quiescent_ReferenceScanIdeal_pre_scan_finite (hReferenceScanIdeal := hReferenceScanIdeal) (hPre_scan_finite := hPre_scan_finite)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelHold (hKernelHold := hKernelHold)
    ∧ quiescent_KernelHoldIdeal (hKernelHoldIdeal := hKernelHoldIdeal)
    ∧ quiescent_ReferenceHoldIdeal (hReferenceHoldIdeal := hReferenceHoldIdeal)
    ∧ quiescent_KernelStates (hKernelStates := hKernelStates)
    ∧ quiescent_KernelStatesIdeal (hKernelStatesIdeal := hKernelStatesIdeal)
    ∧ quiescent_KernelStatesIdeal_pre_states_finite (hKernelStatesIdeal := hKernelStatesIdeal) (hPre_states_finite := hPre_states_finite)
    ∧ quiescent_ReferenceStatesIdeal (hReferenceStatesIdeal := hReferenceStatesIdeal)
    ∧ quiescent_ReferenceStatesIdeal_pre_states_finite (hReferenceStatesIdeal := hReferenceStatesIdeal) (hPre_states_finite := hPre_states_finite)
    ∧ quiescent_KernelHeads (hKernelHeads := hKernelHeads)
    ∧ quiescent_KernelHeadsIdeal (hKernelHeadsIdeal := hKernelHeadsIdeal)
    ∧ quiescent_KernelHeadsIdeal_pre_heads_finite (hKernelHeadsIdeal := hKernelHeadsIdeal) (hPre_heads_finite := hPre_heads_finite)
    ∧ quiescent_ReferenceHeadsIdeal (hReferenceHeadsIdeal := hReferenceHeadsIdeal)
    ∧ quiescent_ReferenceHeadsIdeal_pre_heads_finite (hReferenceHeadsIdeal := hReferenceHeadsIdeal) (hPre_heads_finite := hPre_heads_finite)
    ∧ preserves_KernelZoh_KernelZohIdeal
    ∧ algebraic_KernelZohIdeal_ReferenceZohIdeal_pre_zoh_finite (hKernelZohIdeal := hKernelZohIdeal) (hReferenceZohIdeal := hReferenceZohIdeal) (hPre_zoh_finite := hPre_zoh_finite)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelIndx_KernelIndxIdeal
    ∧ algebraic_KernelIndxIdeal_ReferenceIndxIdeal_pre_indx_finite (hKernelIndxIdeal := hKernelIndxIdeal) (hReferenceIndxIdeal := hReferenceIndxIdeal) (hPre_indx_finite := hPre_indx_finite)
    ∧ preserves_KernelLoss_KernelLossIdeal
    ∧ algebraic_KernelLossIdeal_ReferenceLossIdeal_pre_loss_finite (hKernelLossIdeal := hKernelLossIdeal) (hReferenceLossIdeal := hReferenceLossIdeal) (hPre_loss_finite := hPre_loss_finite)
    ∧ preserves_KernelGatedx_KernelGatedxIdeal
    ∧ algebraic_KernelGatedxIdeal_ReferenceGatedxIdeal_pre_gatedx_finite (hKernelGatedxIdeal := hKernelGatedxIdeal) (hReferenceGatedxIdeal := hReferenceGatedxIdeal) (hPre_gatedx_finite := hPre_gatedx_finite)
    ∧ preserves_KernelMixin_KernelMixinIdeal
    ∧ algebraic_KernelMixinIdeal_ReferenceMixinIdeal_pre_mixin_finite (hKernelMixinIdeal := hKernelMixinIdeal) (hReferenceMixinIdeal := hReferenceMixinIdeal) (hPre_mixin_finite := hPre_mixin_finite)
    ∧ preserves_KernelGlu_KernelGluIdeal
    ∧ algebraic_KernelGluIdeal_ReferenceGluIdeal_pre_glu_finite (hKernelGluIdeal := hKernelGluIdeal) (hReferenceGluIdeal := hReferenceGluIdeal) (hPre_glu_finite := hPre_glu_finite)
    ∧ preserves_KernelMixout_KernelMixoutIdeal
    ∧ algebraic_KernelMixoutIdeal_ReferenceMixoutIdeal (hKernelMixoutIdeal := hKernelMixoutIdeal) (hReferenceMixoutIdeal := hReferenceMixoutIdeal)
    ∧ preserves_KernelIndxg_KernelIndxgIdeal
    ∧ algebraic_KernelIndxgIdeal_ReferenceIndxgIdeal_pre_indxg_finite (hKernelIndxgIdeal := hKernelIndxgIdeal) (hReferenceIndxgIdeal := hReferenceIndxgIdeal) (hPre_indxg_finite := hPre_indxg_finite)
    ∧ preserves_KernelBudx_KernelBudxIdeal
    ∧ algebraic_KernelBudxIdeal_ReferenceBudxIdeal (hKernelBudxIdeal := hKernelBudxIdeal) (hReferenceBudxIdeal := hReferenceBudxIdeal)
    ∧ preserves_KernelPool_KernelPoolIdeal
    ∧ algebraic_KernelPoolIdeal_ReferencePoolIdeal_pre_pool_finite (hKernelPoolIdeal := hKernelPoolIdeal) (hReferencePoolIdeal := hReferencePoolIdeal) (hPre_pool_finite := hPre_pool_finite)
    ∧ preserves_KernelScanBwd_KernelScanBwdIdeal
    ∧ preserves_KernelScan_KernelScanIdeal
    ∧ algebraic_KernelScanIdeal_ReferenceScanIdeal_pre_scan_finite (hKernelScanIdeal := hKernelScanIdeal) (hReferenceScanIdeal := hReferenceScanIdeal) (hPre_scan_finite := hPre_scan_finite)
    ∧ preserves_KernelGate_KernelGateIdeal
    ∧ algebraic_KernelGateIdeal_ReferenceGateIdeal (hKernelGateIdeal := hKernelGateIdeal) (hReferenceGateIdeal := hReferenceGateIdeal)
    ∧ preserves_KernelHold_KernelHoldIdeal
    ∧ algebraic_KernelHoldIdeal_ReferenceHoldIdeal (hKernelHoldIdeal := hKernelHoldIdeal) (hReferenceHoldIdeal := hReferenceHoldIdeal)
    ∧ preserves_KernelStates_KernelStatesIdeal
    ∧ algebraic_KernelStatesIdeal_ReferenceStatesIdeal_pre_states_finite (hKernelStatesIdeal := hKernelStatesIdeal) (hReferenceStatesIdeal := hReferenceStatesIdeal) (hPre_states_finite := hPre_states_finite)
    ∧ preserves_KernelHeads_KernelHeadsIdeal
    ∧ algebraic_KernelHeadsIdeal_ReferenceHeadsIdeal_pre_heads_finite (hKernelHeadsIdeal := hKernelHeadsIdeal) (hReferenceHeadsIdeal := hReferenceHeadsIdeal) (hPre_heads_finite := hPre_heads_finite)
-- ==== Pre_ffn_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S1024 .f32) (main_arg5 : FVec F S8192x1024 .f32) : IVec S8192x1024 1 × IVec S1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_gatedx_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024x1024 .f32) (main_arg3 : FVec F S8192x1024 .bf16) (main_arg4 : FVec F S8192x1024 .f32) : IVec S8192x1024 1 × IVec S1024 1 × IVec S1024x1024 1 × IVec S8192x1024 1 :=
  let main_v0 : FVec F S8192x1024 .f32 := (extf .f32 · bitsLt_bf16_f32) main_arg3
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x1024 .f32 := Host.absf main_arg2
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S8192x1024 .f32 := Host.absf main_v0
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v3, main_v6, main_v9, main_v12)
-- ==== Pre_glu_finite.lean ====
abbrev S8192x512 : Shape := ⟨2, ![8192, 512]⟩
abbrev S512 : Shape := ⟨1, ![512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  bcast_S_S512 : S_.BroadcastsInDim S512 (![] : Fin 0 → Fin S512.rank)
  bcast_S_S512x512 : S_.BroadcastsInDim S512x512 (![] : Fin 0 → Fin S512x512.rank)

variable [Facts]

def fn {F : FTy → Type} [FloatOps F] (main_arg0 : FVec F S8192x512 .f32) (main_arg1 : FVec F S8192x512 .f32) (main_arg2 : FVec F S512 .f32) (main_arg3 : FVec F S512x512 .f32) (main_arg4 : FVec F S8192x512 .f32) : IVec S8192x512 1 × IVec S8192x512 1 × IVec S512 1 × IVec S512x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_heads_finite.lean ====
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)

variable [Facts]

def fn {F : FTy → Type} [FloatOps F] (main_arg0 : FVec F S2x4096x512 .f32) (main_arg1 : FVec F S4x128x128 .f32) (main_arg2 : FVec F S512 .f32) : IVec S2x4096x512 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  main_v2
-- ==== Pre_indx_finite.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024 .f32) (main_arg2 : FVec F S1024x5632 .f32) (main_arg3 : FVec F S8192x2816 .bf16) (main_arg4 : FVec F S8192x2816 .bf16) (main_arg5 : FVec F S8192x1024 .f32) : IVec S8192x1024 1 × IVec S1024 1 × IVec S1024x5632 1 × IVec S8192x2816 1 × IVec S8192x2816 1 :=
  let main_v0 : FVec F S8192x2816 .f32 := (extf .f32 · bitsLt_bf16_f32) main_arg3
  let main_v1 : FVec F S8192x2816 .f32 := (extf .f32 · bitsLt_bf16_f32) main_arg4
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x5632 .f32 := Host.absf main_arg2
  let main_cst_1 : FVec F S_ .f32 := constant S_ .f32 0x7F800000#32
  let main_v9 : FVec F S1024x5632 .f32 := broadcastInDim S1024x5632 ![] bcast_S_S1024x5632 main_cst_1
  let main_v10 : IVec S1024x5632 1 := cmpf .olt main_v8 main_v9
  let main_v11 : FVec F S8192x2816 .f32 := Host.absf main_v0
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_v14 : FVec F S8192x2816 .f32 := Host.absf main_v1
  let main_cst_3 : FVec F S_ .f32 := constant S_ .f32 0x7F800000#32
  let main_v15 : FVec F S8192x2816 .f32 := broadcastInDim S8192x2816 ![] bcast_S_S8192x2816 main_cst_3
  let main_v16 : IVec S8192x2816 1 := cmpf .olt main_v14 main_v15
  (main_v4, main_v7, main_v10, main_v13, main_v16)
-- ==== Pre_indxg_finite.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024 .f32) (main_arg2 : FVec F S1024x5632 .f32) (main_arg3 : FVec F S8192x2816 .bf16) (main_arg4 : FVec F S8192x2816 .bf16) (main_arg5 : FVec F S8192x1024 .f32) (main_arg6 : FVec F S8192x1024 .f32) (main_arg7 : FVec F S8192x1024 .f32) : IVec S8192x1024 1 × IVec S1024 1 × IVec S1024x5632 1 × IVec S8192x2816 1 × IVec S8192x2816 1 :=
  let main_v0 : FVec F S8192x2816 .f32 := (extf .f32 · bitsLt_bf16_f32) main_arg3
  let main_v1 : FVec F S8192x2816 .f32 := (extf .f32 · bitsLt_bf16_f32) main_arg4
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x5632 .f32 := Host.absf main_arg2
  let main_cst_1 : FVec F S_ .f32 := constant S_ .f32 0x7F800000#32
  let main_v9 : FVec F S1024x5632 .f32 := broadcastInDim S1024x5632 ![] bcast_S_S1024x5632 main_cst_1
  let main_v10 : IVec S1024x5632 1 := cmpf .olt main_v8 main_v9
  let main_v11 : FVec F S8192x2816 .f32 := Host.absf main_v0
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_v14 : FVec F S8192x2816 .f32 := Host.absf main_v1
  let main_cst_3 : FVec F S_ .f32 := constant S_ .f32 0x7F800000#32
  let main_v15 : FVec F S8192x2816 .f32 := broadcastInDim S8192x2816 ![] bcast_S_S8192x2816 main_cst_3
  let main_v16 : IVec S8192x2816 1 := cmpf .olt main_v14 main_v15
  (main_v4, main_v7, main_v10, main_v13, main_v16)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) (main_arg4 : FVec F S8192x1024 .f32) : IVec S8192x1024 1 × IVec S8192x1024 1 × IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_mixin_finite.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S1024 .f32) (main_arg2 : FVec F S1024x1024 .f32) (main_arg3 : FVec F S8192x512 .f32) (main_arg4 : FVec F S8192x512 .f32) (main_arg5 : FVec F S8192x1024 .f32) : IVec S8192x1024 1 × IVec S1024 1 × IVec S1024x1024 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_pool_finite.lean ====
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩

class Facts : Prop where
  bcast_S_S4x128x128 : S_.BroadcastsInDim S4x128x128 (![] : Fin 0 → Fin S4x128x128.rank)
  bcast_S_S512 : S_.BroadcastsInDim S512 (![] : Fin 0 → Fin S512.rank)
  bcast_S_S2x4096x512 : S_.BroadcastsInDim S2x4096x512 (![] : Fin 0 → Fin S2x4096x512.rank)

variable [Facts]

def fn {F : FTy → Type} [FloatOps F] (main_arg0 : FVec F S2x4096x512 .f32) (main_arg1 : FVec F S4x128x128 .f32) (main_arg2 : FVec F S512 .f32) (main_arg3 : FVec F S2x4096x512 .f32) : IVec S4x128x128 1 × IVec S512 1 × IVec S2x4096x512 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S512 .f32 := Host.absf main_arg2
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S2x4096x512 .f32 := Host.absf main_arg3
  let main_cst_1 : FVec F S_ .f32 := constant S_ .f32 0x7F800000#32
  let main_v7 : FVec F S2x4096x512 .f32 := broadcastInDim S2x4096x512 ![] bcast_S_S2x4096x512 main_cst_1
  let main_v8 : IVec S2x4096x512 1 := cmpf .olt main_v6 main_v7
  (main_v2, main_v5, main_v8)
-- ==== Pre_scan_finite.lean ====
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .bf16) (main_arg1 : FVec F S8192x2048 .bf16) (main_arg2 : FVec F S1x2048 .f32) (main_arg3 : FVec F S1x2048 .f32) : IVec S8192x2048 1 × IVec S8192x2048 1 × IVec S1x2048 1 × IVec S1x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S1x2048 .f32 := Host.absf main_arg2
  let main_cst_1 : FVec F S_ .f32 := constant S_ .f32 0x7F800000#32
  let main_v9 : FVec F S1x2048 .f32 := broadcastInDim S1x2048 ![] bcast_S_S1x2048 main_cst_1
  let main_v10 : IVec S1x2048 1 := cmpf .olt main_v8 main_v9
  let main_v11 : FVec F S1x2048 .f32 := Host.absf main_arg3
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  (main_v3, main_v7, main_v10, main_v13)
-- ==== Pre_states_finite.lean ====
abbrev S8192x2048 : Shape := ⟨2, ![8192, 2048]⟩
abbrev S32x16x64 : Shape := ⟨3, ![32, 16, 64]⟩
abbrev S8192x512 : Shape := ⟨2, ![8192, 512]⟩
abbrev S512 : Shape := ⟨1, ![512]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S32x16x64 : S_.BroadcastsInDim S32x16x64 (![] : Fin 0 → Fin S32x16x64.rank)

variable [Facts]

def fn {F : FTy → Type} [FloatOps F] (main_arg0 : FVec F S8192x2048 .bf16) (main_arg1 : FVec F S8192x2048 .bf16) (main_arg2 : FVec F S32x16x64 .f32) (main_arg3 : FVec F S32x16x64 .f32) (main_arg4 : FVec F S8192x512 .f32) (main_arg5 : FVec F S512 .f32) : IVec S8192x2048 1 × IVec S32x16x64 1 :=
  let main_v0 : FVec F S8192x2048 .f32 := (extf .f32 · bitsLt_bf16_f32) main_arg1
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S32x16x64 .f32 := Host.absf main_arg3
  let main_cst_0 : FVec F S_ .f32 := constant S_ .f32 0x7F800000#32
  let main_v5 : FVec F S32x16x64 .f32 := broadcastInDim S32x16x64 ![] bcast_S_S32x16x64 main_cst_0
  let main_v6 : IVec S32x16x64 1 := cmpf .olt main_v4 main_v5
  (main_v3, main_v6)
-- ==== Pre_zoh_finite.lean ====
abbrev S32x64 : Shape := ⟨2, ![32, 64]⟩
abbrev S32 : Shape := ⟨1, ![32]⟩
abbrev S32x64x16 : Shape := ⟨3, ![32, 64, 16]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S32x64x16 : S_.BroadcastsInDim S32x64x16 (![] : Fin 0 → Fin S32x64x16.rank)

variable [Facts]

def fn_part1 {F : FTy → Type} [FloatOps F] (main_arg0 : FVec F S32x64 .f32) (main_arg1 : FVec F S32x64 .f32) (main_arg6 : FVec F S32x64 .f32) (main_arg7 : FVec F S32x64x16 .f32) (main_arg8 : FVec F S32x64x16 .f32) (main_v2 : IVec S32x64 1) (main_v5 : IVec S32x64 1) (main_v8 : IVec S32 1) (main_v11 : IVec S32x64x16 1) (main_v14 : IVec S32x64x16 1) (main_v17 : IVec S32x64 1) : IVec S32x64 1 × IVec S32x64 1 × IVec S32 1 × IVec S32x64x16 1 × IVec S32x64x16 1 × IVec S32x64 1 × IVec S32x64 1 × IVec S32x64x16 1 × IVec S32x64x16 1 × IVec S32x64 1 :=
  let main_v18 : FVec F S32x64 .f32 := Host.absf main_arg6
  let main_cst_5 : FVec F S_ .f32 := constant S_ .f32 0x7F800000#32
  let main_v19 : FVec F S32x64 .f32 := broadcastInDim S32x64 ![] bcast_S_S32x64 main_cst_5
  let main_v20 : IVec S32x64 1 := cmpf .olt main_v18 main_v19
  let main_v21 : FVec F S32x64x16 .f32 := Host.absf main_arg7
  let main_cst_6 : FVec F S_ .f32 := constant S_ .f32 0x7F800000#32
  let main_v22 : FVec F S32x64x16 .f32 := broadcastInDim S32x64x16 ![] bcast_S_S32x64x16 main_cst_6
  let main_v23 : IVec S32x64x16 1 := cmpf .olt main_v21 main_v22
  let main_v24 : FVec F S32x64x16 .f32 := Host.absf main_arg8
  let main_cst_7 : FVec F S_ .f32 := constant S_ .f32 0x7F800000#32
  let main_v25 : FVec F S32x64x16 .f32 := broadcastInDim S32x64x16 ![] bcast_S_S32x64x16 main_cst_7
  let main_v26 : IVec S32x64x16 1 := cmpf .olt main_v24 main_v25
  let main_v27 : FVec F S32x64 .f32 := mulf main_arg0 main_arg0
  let main_v28 : FVec F S32x64 .f32 := mulf main_arg1 main_arg1
  let main_v29 : FVec F S32x64 .f32 := addf main_v27 main_v28
  let main_cst_8 : FVec F S_ .f32 := constant S_ .f32 0x00000000#32
  let main_v30 : FVec F S32x64 .f32 := broadcastInDim S32x64 ![] bcast_S_S32x64 main_cst_8
  let main_v31 : IVec S32x64 1 := cmpf .ogt main_v29 main_v30
  (main_v2, main_v5, main_v8, main_v11, main_v14, main_v17, main_v20, main_v23, main_v26, main_v31)

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x64 .f32) (main_arg6 : FVec F S32x64 .f32) (main_arg7 : FVec F S32x64x16 .f32) (main_arg8 : FVec F S32x64x16 .f32) : IVec S32x64 1 × IVec S32x64 1 × IVec S32 1 × IVec S32x64x16 1 × IVec S32x64x16 1 × IVec S32x64 1 × IVec S32x64 1 × IVec S32x64x16 1 × IVec S32x64x16 1 × IVec S32x64 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg1
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32x64x16 .f32 := Host.absf main_arg3
  let main_cst_2 : FVec F S_ .f32 := constant S_ .f32 0x7F800000#32
  let main_v10 : FVec F S32x64x16 .f32 := broadcastInDim S32x64x16 ![] bcast_S_S32x64x16 main_cst_2
  let main_v11 : IVec S32x64x16 1 := cmpf .olt main_v9 main_v10
  let main_v12 : FVec F S32x64x16 .f32 := Host.absf main_arg4
  let main_cst_3 : FVec F S_ .f32 := constant S_ .f32 0x7F800000#32
  let main_v13 : FVec F S32x64x16 .f32 := broadcastInDim S32x64x16 ![] bcast_S_S32x64x16 main_cst_3
  let main_v14 : IVec S32x64x16 1 := cmpf .olt main_v12 main_v13
  let main_v15 : FVec F S32x64 .f32 := Host.absf main_arg5
  let main_cst_4 : FVec F S_ .f32 := constant S_ .f32 0x7F800000#32
  let main_v16 : FVec F S32x64 .f32 := broadcastInDim S32x64 ![] bcast_S_S32x64 main_cst_4
  let main_v17 : IVec S32x64 1 := cmpf .olt main_v15 main_v16
  fn_part1 (F := F) main_arg0 main_arg1 main_arg6 main_arg7 main_arg8 main_v2 main_v5 main_v8 main_v11 main_v14 main_v17
-- ==== KernelZoh.lean ====
abbrev S32x64 : Shape := ⟨2, ![32, 64]⟩
abbrev S32 : Shape := ⟨1, ![32]⟩
abbrev S32x64x16 : Shape := ⟨3, ![32, 64, 16]⟩
abbrev S2048x1 : Shape := ⟨2, ![2048, 1]⟩
abbrev S2048 : Shape := ⟨1, ![2048]⟩
abbrev S2048x16 : Shape := ⟨2, ![2048, 16]⟩
abbrev S1x32 : Shape := ⟨2, ![1, 32]⟩
abbrev S2048x32 : Shape := ⟨2, ![2048, 32]⟩

abbrev nBuf : Space → Nat
  | .hbm => 25
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S2048x1, .f32⟩
  | .hbm, ⟨10, _⟩ => ⟨S2048x1, .f32⟩
  | .hbm, ⟨11, _⟩ => ⟨S32x64, .f32⟩
  | .hbm, ⟨12, _⟩ => ⟨S2048, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S2048x1, .f32⟩
  | .hbm, ⟨17, _⟩ => ⟨S2048x1, .f32⟩
  | .hbm, ⟨18, _⟩ => ⟨S2048x16, .f32⟩
  | .hbm, ⟨19, _⟩ => ⟨S2048x16, .f32⟩
  | .hbm, ⟨20, _⟩ => ⟨S2048x1, .f32⟩
  | .hbm, ⟨21, _⟩ => ⟨S2048x1, .f32⟩
  | .hbm, ⟨22, _⟩ => ⟨S1x32, .f32⟩
  | .hbm, ⟨23, _⟩ => ⟨S2048x16, .f32⟩
  | .hbm, ⟨24, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x1, .f32⟩
  | .local _ .vmem, ⟨6, _⟩ => ⟨S2048x1, .f32⟩
  | .local _ .vmem, ⟨7, _⟩ => ⟨S2048x16, .f32⟩
  | .local _ .vmem, ⟨8, _⟩ => ⟨S2048x16, .f32⟩
  | .local _ .vmem, ⟨9, _⟩ => ⟨S2048x1, .f32⟩
  | .local _ .vmem, ⟨10, _⟩ => ⟨S2048x1, .f32⟩
  | .local _ .vmem, ⟨11, _⟩ => ⟨S1x32, .f32⟩
  | .local _ .vmem, ⟨12, _⟩ => ⟨S2048x16, .f32⟩
  | .local _ .vmem, ⟨13, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceZohIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S2048x1 : Shape := ⟨2, ![2048, 1]⟩
abbrev S1x32 : Shape := ⟨2, ![1, 32]⟩
abbrev S2048x16 : Shape := ⟨2, ![2048, 16]⟩

abbrev nBuf : Space → Nat
  | .hbm => 169
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S_, .f32⟩
  | 67 => ⟨S32x64, .f32⟩
  | 68 => ⟨S32x64x1, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S32x64x16, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S_, .f32⟩
  | 82 => ⟨S32x64, .f32⟩
  | 83 => ⟨S32x64x1, .f32⟩
  | 84 => ⟨S32x64x1, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S32x64x1, .f32⟩
  | 93 => ⟨S_, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S_, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S_, .f32⟩
  | 18 => ⟨S32, .f32⟩
  | 19 => ⟨S32x1, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x1, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32, .f32⟩
  | 36 => ⟨S2048x1, .f32⟩
  | 37 => ⟨S2048x1, .f32⟩
  | 38 => ⟨S1x32, .f32⟩
  | 39 => ⟨S2048x16, .f32⟩
  | 40 => ⟨S2048x16, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩

abbrev nD : Nat := 1
abbrev τ : Topo := Topo.v7x

variable {F : FTy → Type} [FloatOps F]
-- ==== KernelFfn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x2x2816 : Shape := ⟨3, ![1024, 2, 2816]⟩
abbrev S2x1024x2816 : Shape := ⟨3, ![2, 1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x2816 : Shape := ⟨2, ![8192, 2816]⟩
abbrev S1x1024x2816 : Shape := ⟨3, ![1, 1024, 2816]⟩
abbrev S512x2816 : Shape := ⟨2, ![512, 2816]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 20
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S1024x5632, .bf16⟩
  | .hbm, ⟨7, _⟩ => ⟨S1024x2x2816, .bf16⟩
  | .hbm, ⟨8, _⟩ => ⟨S2x1024x2816, .bf16⟩
  | .hbm, ⟨9, _⟩ => ⟨S2816x1024, .bf16⟩
  | .hbm, ⟨10, _⟩ => ⟨S1x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S1x1024, .f32⟩
  | .hbm, ⟨16, _⟩ => ⟨S8192x1024, .f32⟩
  | .hbm, ⟨17, _⟩ => ⟨S8192x1024, .bf16⟩
  | .hbm, ⟨18, _⟩ => ⟨S8192x2816, .bf16⟩
  | .hbm, ⟨19, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x2816, .bf16⟩
  | .local _ .vmem, ⟨8, _⟩ => ⟨S1x1024x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | .local _ .vmem, ⟨27, _⟩ => ⟨S2816x1024, .bf16⟩
  | .local _ .vmem, ⟨28, _⟩ => ⟨S512x2816, .bf16⟩
  | .local _ .vmem, ⟨29, _⟩ => ⟨S512x2816, .bf16⟩
  | .local _ .vmem, ⟨30, _⟩ => ⟨S512x2816, .bf16⟩
  | .local _ .vmem, ⟨31, _⟩ => ⟨S512x2816, .bf16⟩
  | .local _ .vmem, ⟨32, _⟩ => ⟨S512x2816, .bf16⟩
  | .local _ .vmem, ⟨33, _⟩ => ⟨S512x2816, .bf16⟩
  | .local _ .vmem, ⟨34, _⟩ => ⟨S512x2816, .bf16⟩
  | .local _ .vmem, ⟨35, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  let c0_i32_7 : BitVec 32 := 0#32
  ![c0_i32_6.toNat, v18.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  ![c1_i32_6.toNat, v18.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S1x1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x1024x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x2816 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S512x2816 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S512x2816 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]
-- ==== ReferenceFfnIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x1024, .bf16⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S8192x2816, .f32⟩
  | .hbm, ⟨73, _⟩ => ⟨S8192x2816, .f32⟩
  | .hbm, ⟨74, _⟩ => ⟨S_, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S8192x2816, .bf16⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | .hbm, ⟨97, _⟩ => ⟨S8192x2816, .bf16⟩
  | .hbm, ⟨98, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_v22_2 : Ref sig .tc := ⟨.hbm, 47, rfl⟩
abbrev main_call1_cst_1 : Ref sig .tc := ⟨.hbm, 48, rfl⟩
abbrev main_call1_v6 : Ref sig .tc := ⟨.hbm, 49, rfl⟩
abbrev main_call1_v7 : Ref sig .tc := ⟨.hbm, 50, rfl⟩
abbrev main_v22_1 : Ref sig .tc := ⟨.hbm, 51, rfl⟩
abbrev main_v22_0 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v32 : Ref sig .tc := ⟨.hbm, 67, rfl⟩
abbrev main_v33 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_5 : Ref sig .tc := ⟨.hbm, 81, rfl⟩
abbrev main_v38 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_v41 : Ref sig .tc := ⟨.hbm, 86, rfl⟩
abbrev main_cst_7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩

abbrev nD : Nat := 1
abbrev τ : Topo := Topo.v7x

variable {F : FTy → Type} [FloatOps F]
-- ==== KernelIndx.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S1024x2x2816 : Shape := ⟨3, ![1024, 2, 2816]⟩
abbrev S2x1024x2816 : Shape := ⟨3, ![2, 1024, 2816]⟩
abbrev S1x1024 : Shape := ⟨2, ![1, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S1024x5632, .bf16⟩
  | .hbm, ⟨7, _⟩ => ⟨S1024x2x2816, .bf16⟩
  | .hbm, ⟨8, _⟩ => ⟨S2x1024x2816, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  let c0_i32_7 : BitVec 32 := 0#32
  ![c0_i32_6.toNat, arg1.toNat, v18.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  ![c1_i32_6.toNat, arg1.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== ReferenceIndxIdeal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S8192x2816, .f32⟩
  | .hbm, ⟨28, _⟩ => ⟨S1024x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== KernelLoss.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S1x1, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1x1, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_28 : BitVec 32 := 0#32
  let v70 : BitVec 1 := Scalar.cmpi .ne v69 c0_i32_28
  v70

def k0_cond2 (i : grid0.Coords) : BitVec 1 :=
  let arg0 : BitVec 32 := BitVec.ofNat 32 (i 0).val
  let c0_i32_29 : BitVec 32 := 0#32
  let v71 : BitVec 1 := Scalar.cmpi .sgt arg0 c0_i32_29
  let v72 : BitVec 32 := Scalar.extui v71
  let c0_i32_30 : BitVec 32 := 0#32
  let v73 : BitVec 1 := Scalar.cmpi .ne v72 c0_i32_30
  v73

def k0_cond3 (i : grid0.Coords) : BitVec 1 :=
  let arg0 : BitVec 32 := BitVec.ofNat 32 (i 0).val
  let c0_i32_31 : BitVec 32 := 0#32
  let v74 : BitVec 1 := Scalar.cmpi .eq arg0 c0_i32_31
  let v75 : BitVec 32 := Scalar.extui v74
  let c0_i32_32 : BitVec 32 := 0#32
  let v76 : BitVec 1 := Scalar.cmpi .ne v75 c0_i32_32
  v76

def k0_cond4 (i : grid0.Coords) : BitVec 1 :=
  let arg0 : BitVec 32 := BitVec.ofNat 32 (i 0).val
  let c0_i32_33 : BitVec 32 := 0#32
  let v77 : BitVec 1 := Scalar.cmpi .sgt arg0 c0_i32_33
  let v78 : BitVec 32 := Scalar.extui v77
  let c0_i32_34 : BitVec 32 := 0#32
  let v79 : BitVec 1 := Scalar.cmpi .ne v78 c0_i32_34
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLossIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1x1, .f32⟩
  | .hbm, ⟨91, _⟩ => ⟨S8192x1024, .bf16⟩
  | .hbm, ⟨92, _⟩ => ⟨S8192x1024, .bf16⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== KernelGatedx.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .bf16⟩
  | .hbm, ⟨4, _⟩ => ⟨S8192x1024, .f32⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== ReferenceGatedxIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelMixin.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S1024x512 : Shape := ⟨2, ![1024, 512]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1024x1024, .bf16⟩
  | .hbm, ⟨7, _⟩ => ⟨S1024x512, .bf16⟩
  | .hbm, ⟨8, _⟩ => ⟨S1024x512, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_22 : BitVec 32 := 0#32
  let v48 : BitVec 1 := Scalar.cmpi .ne v47 c0_i32_22
  v48

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v49 : BitVec 1 := Scalar.xori v46 v_true
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== ReferenceMixinIdeal.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== KernelGlu.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S1024x512 : Shape := ⟨2, ![1024, 512]⟩

abbrev nBuf : Space → Nat
  | .hbm => 52
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .bf16⟩
  | .hbm, ⟨30, _⟩ => ⟨S8192x512, .f32⟩
  | .hbm, ⟨31, _⟩ => ⟨S512x512, .bf16⟩
  | .hbm, ⟨32, _⟩ => ⟨S512x512, .f32⟩
  | .hbm, ⟨33, _⟩ => ⟨S8192x512, .f32⟩
  | .hbm, ⟨34, _⟩ => ⟨S512x512, .bf16⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .bf16⟩
  | .hbm, ⟨50, _⟩ => ⟨S8192x512, .f32⟩
  | .hbm, ⟨51, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_26 : BitVec 32 := 0#32
  let v54 : BitVec 1 := Scalar.cmpi .ne v53 c0_i32_26
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== KernelGluIdeal.lean ====
variable {F : FTy → Type} [FloatOps F] [Named F]
def κ : String → Option EReal := fun
  | "cubic" => some ((8943 / 200000 : ℝ) : EReal)
  | "cubic_grad" => some ((26829 / 200000 : ℝ) : EReal)
  | _ => none
-- ==== ReferenceGluIdeal.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S512, .f32⟩
  | .hbm, ⟨83, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== KernelMixout.lean ====
abbrev S8192x1024 : Shape := ⟨2, ![8192, 1024]⟩
abbrev S8192x512 : Shape := ⟨2, ![8192, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1x512 : Shape := ⟨2, ![1, 512]⟩
abbrev S_ : Shape := ⟨0, ![]⟩
abbrev S1024x512 : Shape := ⟨2, ![1024, 512]⟩
abbrev S1x1024 : Shape := ⟨2, ![1, 1024]⟩
abbrev S512x1024 : Shape := ⟨2, ![512, 1024]⟩
abbrev S1024x1 : Shape := ⟨2, ![1024, 1]⟩

abbrev nBuf : Space → Nat
  | .hbm => 46
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512x512, .f32⟩
  | .hbm, ⟨5, _⟩ => ⟨S8192x512, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x512, .bf16⟩
  | .hbm, ⟨10, _⟩ => ⟨S512x512, .bf16⟩
  | .hbm, ⟨11, _⟩ => ⟨S1024x1024, .bf16⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .bf16⟩
  | .hbm, ⟨34, _⟩ => ⟨S8192x512, .bf16⟩
  | .hbm, ⟨35, _⟩ => ⟨S8192x512, .f32⟩
  | .hbm, ⟨36, _⟩ => ⟨S1x1024, .f32⟩
  | .hbm, ⟨37, _⟩ => ⟨S512x1024, .bf16⟩
  | .hbm, ⟨38, _⟩ => ⟨S512x1024, .bf16⟩
  | .hbm, ⟨39, _⟩ => ⟨S8192x1024, .f32⟩
  | .hbm, ⟨40, _⟩ => ⟨S8192x1024, .bf16⟩
  | .hbm, ⟨41, _⟩ => ⟨S512x1024, .bf16⟩
  | .hbm, ⟨42, _⟩ => ⟨S512x1024, .bf16⟩
  | .hbm, ⟨43, _⟩ => ⟨S8192x512, .f32⟩
  | .hbm, ⟨44, _⟩ => ⟨S8192x512, .f32⟩
  | .hbm, ⟨45, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | .local _ .vmem, ⟨24, _⟩ => ⟨S512x1024, .bf16⟩
  | .local _ .vmem, ⟨25, _⟩ => ⟨S512x1024, .bf16⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .bf16⟩
  | .local _ .vmem, ⟨35, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, true]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, true, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]
-- ==== ReferenceMixoutIdeal.lean ====
abbrev S8192x1024 : Shape := ⟨2, ![8192, 1024]⟩
abbrev S8192x512 : Shape := ⟨2, ![8192, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512x512, .f32⟩
  | .hbm, ⟨5, _⟩ => ⟨S8192x512, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .bf16⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | .hbm, ⟨99, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== KernelIndxg.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S1024x2x2816 : Shape := ⟨3, ![1024, 2, 2816]⟩
abbrev S2x1024x2816 : Shape := ⟨3, ![2, 1024, 2816]⟩
abbrev S1x1024 : Shape := ⟨2, ![1, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x5632, .bf16⟩
  | .hbm, ⟨9, _⟩ => ⟨S1024x2x2816, .bf16⟩
  | .hbm, ⟨10, _⟩ => ⟨S2x1024x2816, .bf16⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_36 : BitVec 32 := 0#32
  let v65 : BitVec 1 := Scalar.cmpi .ne v64 c0_i32_36
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_37 : BitVec 32 := 0#32
  let v68 : BitVec 1 := Scalar.cmpi .ne v67 c0_i32_37
  v68

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  let c0_i32_7 : BitVec 32 := 0#32
  ![c0_i32_6.toNat, arg1.toNat, v18.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  ![c1_i32_6.toNat, arg1.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true, false]
-- ==== ReferenceIndxgIdeal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S8192x2816, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S8192x1024, .bf16⟩
  | .hbm, ⟨81, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== KernelBudx.lean ====
abbrev S8192x2048 : Shape := ⟨2, ![8192, 2048]⟩
abbrev S2048x16 : Shape := ⟨2, ![2048, 16]⟩
abbrev S8192x512 : Shape := ⟨2, ![8192, 512]⟩
abbrev S512 : Shape := ⟨1, ![512]⟩
abbrev S32x64x16 : Shape := ⟨3, ![32, 64, 16]⟩
abbrev S32x16x64 : Shape := ⟨3, ![32, 16, 64]⟩
abbrev S512x64 : Shape := ⟨2, ![512, 64]⟩
abbrev S1x512x1x64 : Shape := ⟨4, ![1, 512, 1, 64]⟩
abbrev S1x512x32x64 : Shape := ⟨4, ![1, 512, 32, 64]⟩
abbrev S512x2048 : Shape := ⟨2, ![512, 2048]⟩
abbrev S_ : Shape := ⟨0, ![]⟩
abbrev S1x512 : Shape := ⟨2, ![1, 512]⟩
abbrev S1024x1024 : Shape := ⟨2, ![1024, 1024]⟩
abbrev S256x1024 : Shape := ⟨2, ![256, 1024]⟩
abbrev S1024x256 : Shape := ⟨2, ![1024, 256]⟩
abbrev S1x256 : Shape := ⟨2, ![1, 256]⟩

abbrev nBuf : Space → Nat
  | .hbm => 106
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x16, .f32⟩
  | .hbm, ⟨3, _⟩ => ⟨S2048x16, .f32⟩
  | .hbm, ⟨4, _⟩ => ⟨S8192x512, .f32⟩
  | .hbm, ⟨5, _⟩ => ⟨S512, .f32⟩
  | .hbm, ⟨6, _⟩ => ⟨S32x64x16, .f32⟩
  | .hbm, ⟨7, _⟩ => ⟨S32x16x64, .f32⟩
  | .hbm, ⟨8, _⟩ => ⟨S32x16x64, .bf16⟩
  | .hbm, ⟨9, _⟩ => ⟨S512x64, .bf16⟩
  | .hbm, ⟨10, _⟩ => ⟨S1x512x1x64, .bf16⟩
  | .hbm, ⟨11, _⟩ => ⟨S1x512x32x64, .bf16⟩
  | .hbm, ⟨12, _⟩ => ⟨S512x2048, .bf16⟩
  | .hbm, ⟨13, _⟩ => ⟨S512x2048, .i32⟩
  | .hbm, ⟨14, _⟩ => ⟨S_, .i32⟩
  | .hbm, ⟨15, _⟩ => ⟨S_, .i32⟩
  | .hbm, ⟨16, _⟩ => ⟨S512x2048, .i32⟩
  | .hbm, ⟨17, _⟩ => ⟨S512x2048, .i32⟩
  | .hbm, ⟨18, _⟩ => ⟨S512x2048, .i32⟩
  | .hbm, ⟨19, _⟩ => ⟨S_, .i32⟩
  | .hbm, ⟨20, _⟩ => ⟨S512x2048, .i32⟩
  | .hbm, ⟨21, _⟩ => ⟨S512x2048, .i1⟩
  | .hbm, ⟨22, _⟩ => ⟨S512x2048, .i32⟩
  | .hbm, ⟨23, _⟩ => ⟨S512x2048, .i32⟩
  | .hbm, ⟨24, _⟩ => ⟨S_, .i32⟩
  | .hbm, ⟨25, _⟩ => ⟨S512x2048, .i32⟩
  | .hbm, ⟨26, _⟩ => ⟨S512x2048, .i1⟩
  | .hbm, ⟨27, _⟩ => ⟨S512x2048, .i1⟩
  | .hbm, ⟨28, _⟩ => ⟨S_, .i32⟩
  | .hbm, ⟨29, _⟩ => ⟨S512x2048, .i32⟩
  | .hbm, ⟨30, _⟩ => ⟨S512x2048, .i32⟩
  | .hbm, ⟨31, _⟩ => ⟨S512x2048, .i32⟩
  | .hbm, ⟨32, _⟩ => ⟨S512x2048, .i32⟩
  | .hbm, ⟨33, _⟩ => ⟨S_, .i32⟩
  | .hbm, ⟨34, _⟩ => ⟨S_, .i32⟩
  | .hbm, ⟨35, _⟩ => ⟨S512x2048, .i32⟩
  | .hbm, ⟨36, _⟩ => ⟨S512x2048, .i32⟩
  | .hbm, ⟨37, _⟩ => ⟨S512x2048, .i32⟩
  | .hbm, ⟨38, _⟩ => ⟨S_, .i32⟩
  | .hbm, ⟨39, _⟩ => ⟨S512x2048, .i32⟩
  | .hbm, ⟨40, _⟩ => ⟨S512x2048, .i1⟩
  | .hbm, ⟨41, _⟩ => ⟨S512x2048, .i32⟩
  | .hbm, ⟨42, _⟩ => ⟨S512x2048, .i32⟩
  | .hbm, ⟨43, _⟩ => ⟨S_, .i32⟩
  | .hbm, ⟨44, _⟩ => ⟨S512x2048, .i32⟩
  | .hbm, ⟨45, _⟩ => ⟨S512x2048, .i1⟩
  | .hbm, ⟨46, _⟩ => ⟨S512x2048, .i1⟩
  | .hbm, ⟨47, _⟩ => ⟨S_, .i32⟩
  | .hbm, ⟨48, _⟩ => ⟨S512x2048, .i32⟩
  | .hbm, ⟨49, _⟩ => ⟨S512x2048, .i32⟩
  | .hbm, ⟨50, _⟩ => ⟨S512x2048, .i32⟩
  | .hbm, ⟨51, _⟩ => ⟨S512x2048, .i1⟩
  | .hbm, ⟨52, _⟩ => ⟨S_, .bf16⟩
  | .hbm, ⟨53, _⟩ => ⟨S512x2048, .bf16⟩
  | .hbm, ⟨54, _⟩ => ⟨S512x2048, .bf16⟩
  | .hbm, ⟨55, _⟩ => ⟨S32x64x16, .f32⟩
  | .hbm, ⟨56, _⟩ => ⟨S32x16x64, .f32⟩
  | .hbm, ⟨57, _⟩ => ⟨S32x16x64, .bf16⟩
  | .hbm, ⟨58, _⟩ => ⟨S512x64, .bf16⟩
  | .hbm, ⟨59, _⟩ => ⟨S1x512x1x64, .bf16⟩
  | .hbm, ⟨60, _⟩ => ⟨S1x512x32x64, .bf16⟩
  | .hbm, ⟨61, _⟩ => ⟨S512x2048, .bf16⟩
  | .hbm, ⟨62, _⟩ => ⟨S512x2048, .i32⟩
  | .hbm, ⟨63, _⟩ => ⟨S_, .i32⟩
  | .hbm, ⟨64, _⟩ => ⟨S_, .i32⟩
  | .hbm, ⟨65, _⟩ => ⟨S512x2048, .i32⟩
  | .hbm, ⟨66, _⟩ => ⟨S512x2048, .i32⟩
  | .hbm, ⟨67, _⟩ => ⟨S512x2048, .i32⟩
  | .hbm, ⟨68, _⟩ => ⟨S_, .i32⟩
  | .hbm, ⟨69, _⟩ => ⟨S512x2048, .i32⟩
  | .hbm, ⟨70, _⟩ => ⟨S512x2048, .i1⟩
  | .hbm, ⟨71, _⟩ => ⟨S512x2048, .i32⟩
  | .hbm, ⟨72, _⟩ => ⟨S512x2048, .i32⟩
  | .hbm, ⟨73, _⟩ => ⟨S_, .i32⟩
  | .hbm, ⟨74, _⟩ => ⟨S512x2048, .i32⟩
  | .hbm, ⟨75, _⟩ => ⟨S512x2048, .i1⟩
  | .hbm, ⟨76, _⟩ => ⟨S512x2048, .i1⟩
  | .hbm, ⟨77, _⟩ => ⟨S_, .i32⟩
  | .hbm, ⟨78, _⟩ => ⟨S512x2048, .i32⟩
  | .hbm, ⟨79, _⟩ => ⟨S512x2048, .i32⟩
  | .hbm, ⟨80, _⟩ => ⟨S512x2048, .i32⟩
  | .hbm, ⟨81, _⟩ => ⟨S512x2048, .i32⟩
  | .hbm, ⟨82, _⟩ => ⟨S_, .i32⟩
  | .hbm, ⟨83, _⟩ => ⟨S_, .i32⟩
  | .hbm, ⟨84, _⟩ => ⟨S512x2048, .i32⟩
  | .hbm, ⟨85, _⟩ => ⟨S512x2048, .i32⟩
  | .hbm, ⟨86, _⟩ => ⟨S512x2048, .i32⟩
  | .hbm, ⟨87, _⟩ => ⟨S_, .i32⟩
  | .hbm, ⟨88, _⟩ => ⟨S512x2048, .i32⟩
  | .hbm, ⟨89, _⟩ => ⟨S512x2048, .i1⟩
  | .hbm, ⟨90, _⟩ => ⟨S512x2048, .i32⟩
  | .hbm, ⟨91, _⟩ => ⟨S512x2048, .i32⟩
  | .hbm, ⟨92, _⟩ => ⟨S_, .i32⟩
  | .hbm, ⟨93, _⟩ => ⟨S512x2048, .i32⟩
  | .hbm, ⟨94, _⟩ => ⟨S512x2048, .i1⟩
  | .hbm, ⟨95, _⟩ => ⟨S512x2048, .i1⟩
  | .hbm, ⟨96, _⟩ => ⟨S_, .i32⟩
  | .hbm, ⟨97, _⟩ => ⟨S512x2048, .i32⟩
  | .hbm, ⟨98, _⟩ => ⟨S512x2048, .i32⟩
  | .hbm, ⟨99, _⟩ => ⟨S512x2048, .i32⟩
  | .hbm, ⟨100, _⟩ => ⟨S512x2048, .i1⟩
  | .hbm, ⟨101, _⟩ => ⟨S_, .bf16⟩
  | .hbm, ⟨102, _⟩ => ⟨S512x2048, .bf16⟩
  | .hbm, ⟨103, _⟩ => ⟨S512x2048, .bf16⟩
  | .hbm, ⟨104, _⟩ => ⟨S1x512, .f32⟩
  | .hbm, ⟨105, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x256, .f32⟩
  | .local _ .vmem, ⟨9, _⟩ => ⟨S1024x256, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v22 : Ref sig .tc := ⟨.hbm, 80, rfl⟩
abbrev main_v23 : Ref sig .tc := ⟨.hbm, 81, rfl⟩
abbrev main_c_2 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_c : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_0 : Ref sig .tc := ⟨.hbm, 96, rfl⟩
abbrev main_call4_v12 : Ref sig .tc := ⟨.hbm, 97, rfl⟩
abbrev main_call4_v13 : Ref sig .tc := ⟨.hbm, 98, rfl⟩
abbrev main_v24 : Ref sig .tc := ⟨.hbm, 99, rfl⟩
abbrev main_v25 : Ref sig .tc := ⟨.hbm, 100, rfl⟩
abbrev main_cst_3 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg1.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceBudxIdeal.lean ====
abbrev S8192x2048 : Shape := ⟨2, ![8192, 2048]⟩
abbrev S2048x16 : Shape := ⟨2, ![2048, 16]⟩
abbrev S8192x512 : Shape := ⟨2, ![8192, 512]⟩
abbrev S512 : Shape := ⟨1, ![512]⟩
abbrev S32x64x16 : Shape := ⟨3, ![32, 64, 16]⟩
abbrev S8192x32x64 : Shape := ⟨3, ![8192, 32, 64]⟩
abbrev S_ : Shape := ⟨0, ![]⟩
abbrev S8192x32x16 : Shape := ⟨3, ![8192, 32, 16]⟩
abbrev S32x64x8192 : Shape := ⟨3, ![32, 64, 8192]⟩
abbrev S1x512 : Shape := ⟨2, ![1, 512]⟩
abbrev S32x8192x16 : Shape := ⟨3, ![32, 8192, 16]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x16, .f32⟩
  | .hbm, ⟨3, _⟩ => ⟨S2048x16, .f32⟩
  | .hbm, ⟨4, _⟩ => ⟨S8192x512, .f32⟩
  | .hbm, ⟨5, _⟩ => ⟨S512, .f32⟩
  | .hbm, ⟨6, _⟩ => ⟨S32x64x16, .f32⟩
  | .hbm, ⟨7, _⟩ => ⟨S32x64x16, .f32⟩
  | .hbm, ⟨8, _⟩ => ⟨S8192x2048, .f32⟩
  | .hbm, ⟨9, _⟩ => ⟨S8192x32x64, .f32⟩
  | .hbm, ⟨10, _⟩ => ⟨S8192x2048, .f32⟩
  | .hbm, ⟨11, _⟩ => ⟨S8192x32x64, .f32⟩
  | .hbm, ⟨12, _⟩ => ⟨S_, .f32⟩
  | .hbm, ⟨13, _⟩ => ⟨S8192x512, .f32⟩
  | .hbm, ⟨14, _⟩ => ⟨S8192x32x16, .f32⟩
  | .hbm, ⟨15, _⟩ => ⟨S32x64x8192, .f32⟩
  | .hbm, ⟨16, _⟩ => ⟨S8192x32x64, .f32⟩
  | .hbm, ⟨17, _⟩ => ⟨S32x64x8192, .f32⟩
  | .hbm, ⟨18, _⟩ => ⟨S8192x32x64, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S32x64x8192, .f32⟩
  | .hbm, ⟨25, _⟩ => ⟨S32x8192x16, .f32⟩
  | .hbm, ⟨26, _⟩ => ⟨S8192x32x16, .f32⟩
  | .hbm, ⟨27, _⟩ => ⟨S32x64x8192, .f32⟩
  | .hbm, ⟨28, _⟩ => ⟨S32x8192x16, .f32⟩
  | .hbm, ⟨29, _⟩ => ⟨S8192x32x16, .f32⟩
  | .hbm, ⟨30, _⟩ => ⟨S8192x32x16, .f32⟩
  | .hbm, ⟨31, _⟩ => ⟨S8192x512, .f32⟩
  | .hbm, ⟨32, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelPool.lean ====
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩
abbrev S4096 : Shape := ⟨1, ![4096]⟩
abbrev S4096x1 : Shape := ⟨2, ![4096, 1]⟩
abbrev S2x4096x128 : Shape := ⟨3, ![2, 4096, 128]⟩
abbrev S2x2x128 : Shape := ⟨3, ![2, 2, 128]⟩
abbrev S2x4094x128 : Shape := ⟨3, ![2, 4094, 128]⟩
abbrev S1x4096x1 : Shape := ⟨3, ![1, 4096, 1]⟩
abbrev S2x4x128 : Shape := ⟨3, ![2, 4, 128]⟩
abbrev S2x4092x128 : Shape := ⟨3, ![2, 4092, 128]⟩
abbrev S2x8x128 : Shape := ⟨3, ![2, 8, 128]⟩
abbrev S2x4088x128 : Shape := ⟨3, ![2, 4088, 128]⟩
abbrev S2x16x128 : Shape := ⟨3, ![2, 16, 128]⟩
abbrev S2x4080x128 : Shape := ⟨3, ![2, 4080, 128]⟩
abbrev S8192x512 : Shape := ⟨2, ![8192, 512]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x128 : Shape := ⟨2, ![512, 128]⟩
abbrev S128 : Shape := ⟨1, ![128]⟩

abbrev nBuf : Space → Nat
  | .hbm => 76
  | .vmem => 12
  | .smem => 0
  | _ => 0

abbrev bufTy : (tb : Table) → Fin (tcTables nBuf tb) → BufTy
  | .hbm, ⟨0, _⟩ => ⟨S2x4096x512, .f32⟩
  | .hbm, ⟨1, _⟩ => ⟨S4x128x128, .f32⟩
  | .hbm, ⟨2, _⟩ => ⟨S512, .f32⟩
  | .hbm, ⟨3, _⟩ => ⟨S2x4096x512, .f32⟩
  | .hbm, ⟨4, _⟩ => ⟨S_, .f32⟩
  | .hbm, ⟨5, _⟩ => ⟨S_, .f32⟩
  | .hbm, ⟨6, _⟩ => ⟨S2x4096x512, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S2x4096x128, .f32⟩
  | .hbm, ⟨13, _⟩ => ⟨S_, .f32⟩
  | .hbm, ⟨14, _⟩ => ⟨S2x2x128, .f32⟩
  | .hbm, ⟨15, _⟩ => ⟨S2x4094x128, .f32⟩
  | .hbm, ⟨16, _⟩ => ⟨S2x4096x128, .f32⟩
  | .hbm, ⟨17, _⟩ => ⟨S2x4096x128, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S1x4096x1, .f32⟩
  | .hbm, ⟨22, _⟩ => ⟨S2x4096x128, .f32⟩
  | .hbm, ⟨23, _⟩ => ⟨S2x4096x128, .f32⟩
  | .hbm, ⟨24, _⟩ => ⟨S2x4096x128, .f32⟩
  | .hbm, ⟨25, _⟩ => ⟨S2x4096x128, .f32⟩
  | .hbm, ⟨26, _⟩ => ⟨S2x4096x128, .f32⟩
  | .hbm, ⟨27, _⟩ => ⟨S_, .f32⟩
  | .hbm, ⟨28, _⟩ => ⟨S2x4x128, .f32⟩
  | .hbm, ⟨29, _⟩ => ⟨S2x4092x128, .f32⟩
  | .hbm, ⟨30, _⟩ => ⟨S2x4096x128, .f32⟩
  | .hbm, ⟨31, _⟩ => ⟨S2x4096x128, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S1x4096x1, .f32⟩
  | .hbm, ⟨36, _⟩ => ⟨S2x4096x128, .f32⟩
  | .hbm, ⟨37, _⟩ => ⟨S2x4096x128, .f32⟩
  | .hbm, ⟨38, _⟩ => ⟨S2x4096x128, .f32⟩
  | .hbm, ⟨39, _⟩ => ⟨S2x4096x128, .f32⟩
  | .hbm, ⟨40, _⟩ => ⟨S2x4096x128, .f32⟩
  | .hbm, ⟨41, _⟩ => ⟨S_, .f32⟩
  | .hbm, ⟨42, _⟩ => ⟨S2x8x128, .f32⟩
  | .hbm, ⟨43, _⟩ => ⟨S2x4088x128, .f32⟩
  | .hbm, ⟨44, _⟩ => ⟨S2x4096x128, .f32⟩
  | .hbm, ⟨45, _⟩ => ⟨S2x4096x128, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S1x4096x1, .f32⟩
  | .hbm, ⟨50, _⟩ => ⟨S2x4096x128, .f32⟩
  | .hbm, ⟨51, _⟩ => ⟨S2x4096x128, .f32⟩
  | .hbm, ⟨52, _⟩ => ⟨S2x4096x128, .f32⟩
  | .hbm, ⟨53, _⟩ => ⟨S2x4096x128, .f32⟩
  | .hbm, ⟨54, _⟩ => ⟨S2x4096x128, .f32⟩
  | .hbm, ⟨55, _⟩ => ⟨S_, .f32⟩
  | .hbm, ⟨56, _⟩ => ⟨S2x16x128, .f32⟩
  | .hbm, ⟨57, _⟩ => ⟨S2x4080x128, .f32⟩
  | .hbm, ⟨58, _⟩ => ⟨S2x4096x128, .f32⟩
  | .hbm, ⟨59, _⟩ => ⟨S2x4096x128, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S1x4096x1, .f32⟩
  | .hbm, ⟨64, _⟩ => ⟨S2x4096x128, .f32⟩
  | .hbm, ⟨65, _⟩ => ⟨S2x4096x128, .f32⟩
  | .hbm, ⟨66, _⟩ => ⟨S2x4096x128, .f32⟩
  | .hbm, ⟨67, _⟩ => ⟨S2x4096x128, .f32⟩
  | .hbm, ⟨68, _⟩ => ⟨S2x4096x512, .f32⟩
  | .hbm, ⟨69, _⟩ => ⟨S2x4096x512, .bf16⟩
  | .hbm, ⟨70, _⟩ => ⟨S8192x512, .bf16⟩
  | .hbm, ⟨71, _⟩ => ⟨S8192x512, .f32⟩
  | .hbm, ⟨72, _⟩ => ⟨S1x512, .f32⟩
  | .hbm, ⟨73, _⟩ => ⟨S8192x512, .f32⟩
  | .hbm, ⟨74, _⟩ => ⟨S4x128x128, .f32⟩
  | .hbm, ⟨75, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S4x128x128, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S4x128x128, .f32⟩
  | .local _ .vmem, ⟨11, _⟩ => ⟨S1x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58_0 : Ref sig .tc := ⟨.hbm, 73, rfl⟩
abbrev main_v58_1 : Ref sig .tc := ⟨.hbm, 74, rfl⟩
abbrev main_v58_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let v48 : BitVec 32 := Scalar.extui v16
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let v_true : BitVec 1 := 1#1
  let v50 : BitVec 1 := Scalar.xori v16 v_true
  let v51 : BitVec 32 := Scalar.extui v50
  let c0_i32_20 : BitVec 32 := 0#32
  let v52 : BitVec 1 := Scalar.cmpi .ne v51 c0_i32_20
  v52

def k0_cond3 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let v86 : BitVec 32 := Scalar.extui v16
  let c0_i32_35 : BitVec 32 := 0#32
  let v87 : BitVec 1 := Scalar.cmpi .ne v86 c0_i32_35
  v87

def k0_cond4 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let true_36 : BitVec 1 := 1#1
  let v88 : BitVec 1 := Scalar.xori v16 true_36
  let v89 : BitVec 32 := Scalar.extui v88
  let c0_i32_37 : BitVec 32 := 0#32
  let v90 : BitVec 1 := Scalar.cmpi .ne v89 c0_i32_37
  v90

def k0_cond5 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let v126 : BitVec 32 := Scalar.extui v16
  let c0_i32_53 : BitVec 32 := 0#32
  let v127 : BitVec 1 := Scalar.cmpi .ne v126 c0_i32_53
  v127

def k0_cond6 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let true_54 : BitVec 1 := 1#1
  let v128 : BitVec 1 := Scalar.xori v16 true_54
  let v129 : BitVec 32 := Scalar.extui v128
  let c0_i32_55 : BitVec 32 := 0#32
  let v130 : BitVec 1 := Scalar.cmpi .ne v129 c0_i32_55
  v130

def k0_cond7 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let v168 : BitVec 32 := Scalar.extui v16
  let c0_i32_72 : BitVec 32 := 0#32
  let v169 : BitVec 1 := Scalar.cmpi .ne v168 c0_i32_72
  v169

def k0_cond8 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_3 : BitVec 32 := 0#32
  let v15 : BitVec 1 := Scalar.cmpi .eq arg1 c0_i32_3
  let v16 : BitVec 1 := Scalar.andi v14 v15
  let true_73 : BitVec 1 := 1#1
  let v170 : BitVec 1 := Scalar.xori v16 true_73
  let v171 : BitVec 32 := Scalar.extui v170
  let c0_i32_74 : BitVec 32 := 0#32
  let v172 : BitVec 1 := Scalar.cmpi .ne v171 c0_i32_74
  v172

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferencePoolIdeal.lean ====
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩
abbrev S4096 : Shape := ⟨1, ![4096]⟩
abbrev S4096x1 : Shape := ⟨2, ![4096, 1]⟩
abbrev S2x4096x128 : Shape := ⟨3, ![2, 4096, 128]⟩
abbrev S2x2x128 : Shape := ⟨3, ![2, 2, 128]⟩
abbrev S2x4094x128 : Shape := ⟨3, ![2, 4094, 128]⟩
abbrev S1x4096x1 : Shape := ⟨3, ![1, 4096, 1]⟩
abbrev S1x128x128 : Shape := ⟨3, ![1, 128, 128]⟩
abbrev S128x128 : Shape := ⟨2, ![128, 128]⟩
abbrev S2x4x128 : Shape := ⟨3, ![2, 4, 128]⟩
abbrev S2x4092x128 : Shape := ⟨3, ![2, 4092, 128]⟩
abbrev S2x8x128 : Shape := ⟨3, ![2, 8, 128]⟩
abbrev S2x4088x128 : Shape := ⟨3, ![2, 4088, 128]⟩
abbrev S2x16x128 : Shape := ⟨3, ![2, 16, 128]⟩
abbrev S2x4080x128 : Shape := ⟨3, ![2, 4080, 128]⟩
abbrev S1x1x512 : Shape := ⟨3, ![1, 1, 512]⟩
abbrev S8192x512 : Shape := ⟨2, ![8192, 512]⟩
abbrev S1x512 : Shape := ⟨2, ![1, 512]⟩

abbrev nBuf : Space → Nat
  | .hbm => 195
  | .vmem => 0
  | .smem => 0
  | _ => 0

abbrev hbmTy0_0 (i : Nat) : BufTy := match i % 128 with
  | 0 => ⟨S2x4096x512, .f32⟩
  | 1 => ⟨S4x128x128, .f32⟩
  | 2 => ⟨S512, .f32⟩
  | 3 => ⟨S2x4096x512, .f32⟩
  | 4 => ⟨S_, .f32⟩
  | 5 => ⟨S_, .f32⟩
  | 6 => ⟨S2x4096x512, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S2x4096x128, .f32⟩
  | 13 => ⟨S_, .f32⟩
  | 14 => ⟨S2x2x128, .f32⟩
  | 15 => ⟨S2x4094x128, .f32⟩
  | 16 => ⟨S2x4096x128, .f32⟩
  | 17 => ⟨S_, .f32⟩
  | 18 => ⟨S2x2x128, .f32⟩
  | 19 => ⟨S2x4096x128, .f32⟩
  | 20 => ⟨S_, .f32⟩
  | 21 => ⟨S4096x1, .f32⟩
  | 22 => ⟨S4096x1, .f32⟩
  | 23 => ⟨S1x4096x1, .f32⟩
  | 24 => ⟨S2x4096x128, .f32⟩
  | 25 => ⟨S2x4096x128, .f32⟩
  | 26 => ⟨S2x4096x128, .f32⟩
  | 27 => ⟨S2x4096x128, .f32⟩
  | 28 => ⟨S1x128x128, .f32⟩
  | 29 => ⟨S128x128, .f32⟩
  | 30 => ⟨S2x4096x128, .f32⟩
  | 31 => ⟨S2x4096x128, .f32⟩
  | 32 => ⟨S_, .f32⟩
  | 33 => ⟨S2x4x128, .f32⟩
  | 34 => ⟨S2x4092x128, .f32⟩
  | 35 => ⟨S2x4096x128, .f32⟩
  | 36 => ⟨S_, .f32⟩
  | 37 => ⟨S2x4x128, .f32⟩
  | 38 => ⟨S2x4096x128, .f32⟩
  | 39 => ⟨S_, .f32⟩
  | 40 => ⟨S4096x1, .f32⟩
  | 41 => ⟨S4096x1, .f32⟩
  | 42 => ⟨S1x4096x1, .f32⟩
  | 43 => ⟨S2x4096x128, .f32⟩
  | 44 => ⟨S2x4096x128, .f32⟩
  | 45 => ⟨S2x4096x128, .f32⟩
  | 46 => ⟨S2x4096x128, .f32⟩
  | 47 => ⟨S1x128x128, .f32⟩
  | 48 => ⟨S128x128, .f32⟩
  | 49 => ⟨S2x4096x128, .f32⟩
  | 50 => ⟨S2x4096x128, .f32⟩
  | 51 => ⟨S_, .f32⟩
  | 52 => ⟨S2x8x128, .f32⟩
  | 53 => ⟨S2x4088x128, .f32⟩
  | 54 => ⟨S2x4096x128, .f32⟩
  | 55 => ⟨S_, .f32⟩
  | 56 => ⟨S2x8x128, .f32⟩
  | 57 => ⟨S2x4096x128, .f32⟩
  | 58 => ⟨S_, .f32⟩
  | 59 => ⟨S4096x1, .f32⟩
  | 60 => ⟨S4096x1, .f32⟩
  | 61 => ⟨S1x4096x1, .f32⟩
  | 62 => ⟨S2x4096x128, .f32⟩
  | 63 => ⟨S2x4096x128, .f32⟩
  | 64 => ⟨S2x4096x128, .f32⟩
  | 65 => ⟨S2x4096x128, .f32⟩
  | 66 => ⟨S1x128x128, .f32⟩
  | 67 => ⟨S128x128, .f32⟩
  | 68 => ⟨S2x4096x128, .f32⟩
  | 69 => ⟨S2x4096x128, .f32⟩
  | 70 => ⟨S_, .f32⟩
  | 71 => ⟨S2x16x128, .f32⟩
  | 72 => ⟨S2x4080x128, .f32⟩
  | 73 => ⟨S2x4096x128, .f32⟩
  | 74 => ⟨S_, .f32⟩
  | 75 => ⟨S2x16x128, .f32⟩
  | 76 => ⟨S2x4096x128, .f32⟩
  | 77 => ⟨S_, .f32⟩
  | 78 => ⟨S4096x1, .f32⟩
  | 79 => ⟨S4096x1, .f32⟩
  | 80 => ⟨S1x4096x1, .f32⟩
  | 81 => ⟨S2x4096x128, .f32⟩
  | 82 => ⟨S2x4096x128, .f32⟩
  | 83 => ⟨S2x4096x128, .f32⟩
  | 84 => ⟨S2x4096x128, .f32⟩
  | 85 => ⟨S1x128x128, .f32⟩
  | 86 => ⟨S128x128, .f32⟩
  | 87 => ⟨S2x4096x128, .f32⟩
  | 88 => ⟨S2x4096x512, .f32⟩
  | 89 => ⟨S1x1x512, .f32⟩
  | 90 => ⟨S2x4096x512, .f32⟩
  | 91 => ⟨S2x4096x512, .f32⟩
  | 92 => ⟨S2x4096x512, .f32⟩
  | 93 => ⟨S_, .f32⟩
  | 94 => ⟨S512, .f32⟩
  | 95 => ⟨S1x1x512, .f32⟩
  | 96 => ⟨S2x4096x512, .f32⟩
  | 97 => ⟨S2x4096x512, .f32⟩
  | 98 => ⟨S_, .f32⟩
  | 99 => ⟨S512, .f32⟩
  | 100 => ⟨S2x4096x128, .f32⟩
  | 101 => ⟨S2x4096x128, .f32⟩
  | 102 => ⟨S2x4096x128, .f32⟩
  | 103 => ⟨S2x4096x128, .f32⟩
  | 104 => ⟨S128x128, .f32⟩
  | 105 => ⟨S128x128, .f32⟩
  | 106 => ⟨S2x4096x128, .f32⟩
  | 107 => ⟨S1x128x128, .f32⟩
  | 108 => ⟨S_, .f32⟩
  | 109 => ⟨S4x128x128, .f32⟩
  | 110 => ⟨S2x4096x128, .f32⟩
  | 111 => ⟨S_, .f32⟩
  | 112 => ⟨S2x4096x512, .f32⟩
  | 113 => ⟨S2x4096x128, .f32⟩
  | 114 => ⟨S2x4096x128, .f32⟩
  | 115 => ⟨S2x4096x128, .f32⟩
  | 116 => ⟨S2x16x128, .f32⟩
  | 117 => ⟨S2x4080x128, .f32⟩
  | 118 => ⟨S_, .f32⟩
  | 119 => ⟨S2x4096x128, .f32⟩
  | 120 => ⟨S2x4096x128, .f32⟩
  | 121 => ⟨S_, .f32⟩
  | 122 => ⟨S2x4096x512, .f32⟩
  | 123 => ⟨S128x128, .f32⟩
  | 124 => ⟨S128x128, .f32⟩
  | 125 => ⟨S2x4096x128, .f32⟩
  | 126 => ⟨S1x128x128, .f32⟩
  | 127 => ⟨S_, .f32⟩
  | _ => ⟨S2x4096x512, .f32⟩

abbrev hbmTy0_1 (i : Nat) : BufTy := match i % 128 with
  | 0 => ⟨S4x128x128, .f32⟩
  | 1 => ⟨S4x128x128, .f32⟩
  | 2 => ⟨S2x4096x128, .f32⟩
  | 3 => ⟨S_, .f32⟩
  | 4 => ⟨S2x4096x512, .f32⟩
  | 5 => ⟨S2x4096x512, .f32⟩
  | 6 => ⟨S2x4096x128, .f32⟩
  | 7 => ⟨S2x4096x128, .f32⟩
  | 8 => ⟨S2x4096x128, .f32⟩
  | 9 => ⟨S2x8x128, .f32⟩
  | 10 => ⟨S2x4088x128, .f32⟩
  | 11 => ⟨S_, .f32⟩
  | 12 => ⟨S2x4096x128, .f32⟩
  | 13 => ⟨S2x4096x128, .f32⟩
  | 14 => ⟨S_, .f32⟩
  | 15 => ⟨S2x4096x512, .f32⟩
  | 16 => ⟨S2x4096x512, .f32⟩
  | 17 => ⟨S128x128, .f32⟩
  | 18 => ⟨S128x128, .f32⟩
  | 19 => ⟨S2x4096x128, .f32⟩
  | 20 => ⟨S1x128x128, .f32⟩
  | 21 => ⟨S_, .f32⟩
  | 22 => ⟨S4x128x128, .f32⟩
  | 23 => ⟨S4x128x128, .f32⟩
  | 24 => ⟨S2x4096x128, .f32⟩
  | 25 => ⟨S_, .f32⟩
  | 26 => ⟨S2x4096x512, .f32⟩
  | 27 => ⟨S2x4096x512, .f32⟩
  | 28 => ⟨S2x4096x128, .f32⟩
  | 29 => ⟨S2x4096x128, .f32⟩
  | 30 => ⟨S2x4096x128, .f32⟩
  | 31 => ⟨S2x4x128, .f32⟩
  | 32 => ⟨S2x4092x128, .f32⟩
  | 33 => ⟨S_, .f32⟩
  | 34 => ⟨S2x4096x128, .f32⟩
  | 35 => ⟨S2x4096x128, .f32⟩
  | 36 => ⟨S_, .f32⟩
  | 37 => ⟨S2x4096x512, .f32⟩
  | 38 => ⟨S2x4096x512, .f32⟩
  | 39 => ⟨S128x128, .f32⟩
  | 40 => ⟨S128x128, .f32⟩
  | 41 => ⟨S2x4096x128, .f32⟩
  | 42 => ⟨S1x128x128, .f32⟩
  | 43 => ⟨S_, .f32⟩
  | 44 => ⟨S4x128x128, .f32⟩
  | 45 => ⟨S4x128x128, .f32⟩
  | 46 => ⟨S2x4096x128, .f32⟩
  | 47 => ⟨S_, .f32⟩
  | 48 => ⟨S2x4096x512, .f32⟩
  | 49 => ⟨S2x4096x512, .f32⟩
  | 50 => ⟨S2x4096x128, .f32⟩
  | 51 => ⟨S2x4096x128, .f32⟩
  | 52 => ⟨S2x4096x128, .f32⟩
  | 53 => ⟨S2x2x128, .f32⟩
  | 54 => ⟨S2x4094x128, .f32⟩
  | 55 => ⟨S_, .f32⟩
  | 56 => ⟨S2x4096x128, .f32⟩
  | 57 => ⟨S2x4096x128, .f32⟩
  | 58 => ⟨S_, .f32⟩
  | 59 => ⟨S2x4096x512, .f32⟩
  | 60 => ⟨S2x4096x512, .f32⟩
  | 61 => ⟨S_, .f32⟩
  | 62 => ⟨S_, .f32⟩
  | 63 => ⟨S2x4096x512, .f32⟩
  | 64 => ⟨S2x4096x512, .f32⟩
  | 65 => ⟨S8192x512, .f32⟩
  | 66 => ⟨S1x512, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_cst_17 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_19 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_cst_21 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_23 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_24 : Ref sig .tc := ⟨.hbm, 161, rfl⟩
abbrev main_v130 : Ref sig .tc := ⟨.hbm, 162, rfl⟩
abbrev main_v131 : Ref sig .tc := ⟨.hbm, 163, rfl⟩
abbrev main_cst_25 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_26 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_27 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_28 : Ref sig .tc := ⟨.hbm, 183, rfl⟩
abbrev main_v148 : Ref sig .tc := ⟨.hbm, 184, rfl⟩
abbrev main_v149 : Ref sig .tc := ⟨.hbm, 185, rfl⟩
abbrev main_cst_29 : Ref sig .tc := ⟨.hbm, 186, rfl⟩
abbrev main_v150 : Ref sig .tc := ⟨.hbm, 187, rfl⟩
abbrev main_v151 : Ref sig .tc := ⟨.hbm, 188, rfl⟩
abbrev main_call1_cst : Ref sig .tc := ⟨.hbm, 189, rfl⟩
abbrev main_call1_v0 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩

abbrev nD : Nat := 1
abbrev τ : Topo := Topo.v7x

variable {F : FTy → Type} [FloatOps F]
-- ==== KernelScanBwd.lean ====
abbrev S8192x2048 : Shape := ⟨2, ![8192, 2048]⟩
abbrev S1x2048 : Shape := ⟨2, ![1, 2048]⟩
abbrev S256x512 : Shape := ⟨2, ![256, 512]⟩
abbrev S16x512 : Shape := ⟨2, ![16, 512]⟩
abbrev S1x512 : Shape := ⟨2, ![1, 512]⟩
abbrev S32x8x512 : Shape := ⟨3, ![32, 8, 512]⟩
abbrev S1x8x512 : Shape := ⟨3, ![1, 8, 512]⟩
abbrev S1x1x512 : Shape := ⟨3, ![1, 1, 512]⟩
abbrev S8x512 : Shape := ⟨2, ![8, 512]⟩
abbrev S512 : Shape := ⟨1, ![512]⟩

abbrev nBuf : Space → Nat
  | .hbm => 10
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S32x8x512, .f32⟩
  | .local _ .vmem, ⟨27, _⟩ => ⟨S32x8x512, .f32⟩
  | .local _ .vmem, ⟨28, _⟩ => ⟨S256x512, .f32⟩
  | .local _ .vmem, ⟨29, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32_35 : BitVec 32 := 0#32
  let c32_i32 : BitVec 32 := 32#32
  let v171 : BitVec 32 := Scalar.addi c0_i32_35 c32_i32
  let c1_i32_36 : BitVec 32 := 1#32
  ⟨c0_i32_35, v171, c1_i32_36⟩
def k0_off1 (k0_t1 : Fin k0_t1_loop.trips) : Fin 3 → Nat :=
  let c31_i32 : BitVec 32 := 31#32
  let c0_i32_35 : BitVec 32 := 0#32
  let c1_i32_36 : BitVec 32 := 1#32
  let arg21 : BitVec 32 := Scf.iv c0_i32_35 c1_i32_36 k0_t1
  let v231 : BitVec 32 := Scalar.subi c31_i32 arg21
  let v232 : Index := Scalar.indexCast v231
  let c0_70 : Index := 0#32
  let c0_71 : Index := 0#32
  ![v232.toNat, 0, 0]
def k0_mult1 (k0_t1 : Fin k0_t1_loop.trips) : BitVec 32 :=
  let c31_i32 : BitVec 32 := 31#32
  let c0_i32_35 : BitVec 32 := 0#32
  let c1_i32_36 : BitVec 32 := 1#32
  let arg21 : BitVec 32 := Scf.iv c0_i32_35 c1_i32_36 k0_t1
  let v231 : BitVec 32 := Scalar.subi c31_i32 arg21
  let c8_i32 : BitVec 32 := 8#32
  let v250 : BitVec 32 := Scalar.muli v231 c8_i32
  v250
def k0_off2 (k0_t1 : Fin k0_t1_loop.trips) : Fin 2 → Nat :=
  let c31_i32 : BitVec 32 := 31#32
  let c0_i32_35 : BitVec 32 := 0#32
  let c1_i32_36 : BitVec 32 := 1#32
  let arg21 : BitVec 32 := Scf.iv c0_i32_35 c1_i32_36 k0_t1
  let v231 : BitVec 32 := Scalar.subi c31_i32 arg21
  let c8_i32 : BitVec 32 := 8#32
  let v250 : BitVec 32 := Scalar.muli v231 c8_i32
  let v251 : BitVec 32 := v250
  let v252 : Index := Scalar.indexCast v251
  let c0_74 : Index := 0#32
  ![v252.toNat, 0]
def k0_cond2 (i : grid0.Coords) : BitVec 1 :=
  let arg1 : BitVec 32 := BitVec.ofNat 32 (i 1).val
  let c0_i32_66 : BitVec 32 := 0#32
  let v223 : BitVec 1 := Scalar.cmpi .eq arg1 c0_i32_66
  let arg2 : BitVec 32 := BitVec.ofNat 32 (i 2).val
  let c0_i32_67 : BitVec 32 := 0#32
  let v224 : BitVec 1 := Scalar.cmpi .eq arg2 c0_i32_67
  let v225 : BitVec 1 := Scalar.andi v223 v224
  let v226 : BitVec 32 := Scalar.extui v225
  let c0_i32_68 : BitVec 32 := 0#32
  let v227 : BitVec 1 := Scalar.cmpi .ne v226 c0_i32_68
  v227

def k0_cond3 (i : grid0.Coords) : BitVec 1 :=
  let arg1 : BitVec 32 := BitVec.ofNat 32 (i 1).val
  let c0_i32_66 : BitVec 32 := 0#32
  let v223 : BitVec 1 := Scalar.cmpi .eq arg1 c0_i32_66
  let arg2 : BitVec 32 := BitVec.ofNat 32 (i 2).val
  let c0_i32_67 : BitVec 32 := 0#32
  let v224 : BitVec 1 := Scalar.cmpi .eq arg2 c0_i32_67
  let v225 : BitVec 1 := Scalar.andi v223 v224
  let v_true : BitVec 1 := 1#1
  let v228 : BitVec 1 := Scalar.xori v225 v_true
  let v229 : BitVec 32 := Scalar.extui v228
  let c0_i32_69 : BitVec 32 := 0#32
  let v230 : BitVec 1 := Scalar.cmpi .ne v229 c0_i32_69
  v230

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c16_i32_0 : BitVec 32 := 16#32
  let v3 : BitVec 32 := Scalar.muli v2 c16_i32_0
  let c1_i32 : BitVec 32 := 1#32
  let v4 : BitVec 32 := Scalar.subi v3 c1_i32
  let c0_i32 : BitVec 32 := 0#32
  let v5 : BitVec 32 := Scalar.maxsi v4 c0_i32
  let c0_i32_1 : BitVec 32 := 0#32
  ![v5.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c16_i32_0 : BitVec 32 := 16#32
  let v3 : BitVec 32 := Scalar.muli v2 c16_i32_0
  let c1_i32 : BitVec 32 := 1#32
  let v4 : BitVec 32 := Scalar.subi v3 c1_i32
  let c0_i32 : BitVec 32 := 0#32
  let v5 : BitVec 32 := Scalar.maxsi v4 c0_i32
  let c0_i32_1 : BitVec 32 := 0#32
  ![v5.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelScan.lean ====
abbrev S8192x2048 : Shape := ⟨2, ![8192, 2048]⟩
abbrev S1x2048 : Shape := ⟨2, ![1, 2048]⟩
abbrev S256x512 : Shape := ⟨2, ![256, 512]⟩
abbrev S1x512 : Shape := ⟨2, ![1, 512]⟩
abbrev S32x8x512 : Shape := ⟨3, ![32, 8, 512]⟩
abbrev S1x8x512 : Shape := ⟨3, ![1, 8, 512]⟩
abbrev S1x1x512 : Shape := ⟨3, ![1, 1, 512]⟩
abbrev S8x512 : Shape := ⟨2, ![8, 512]⟩

abbrev nBuf : Space → Nat
  | .hbm => 6
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | .local _ .vmem, ⟨14, _⟩ => ⟨S32x8x512, .f32⟩
  | .local _ .vmem, ⟨15, _⟩ => ⟨S32x8x512, .f32⟩
  | .local _ .vmem, ⟨16, _⟩ => ⟨S256x512, .f32⟩
  | .local _ .vmem, ⟨17, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32_35 : BitVec 32 := 0#32
  let c32_i32 : BitVec 32 := 32#32
  let v167 : BitVec 32 := Scalar.addi c0_i32_35 c32_i32
  let c1_i32_36 : BitVec 32 := 1#32
  ⟨c0_i32_35, v167, c1_i32_36⟩
def k0_off1 (k0_t1 : Fin k0_t1_loop.trips) : Fin 3 → Nat :=
  let c0_i32_35 : BitVec 32 := 0#32
  let c1_i32_36 : BitVec 32 := 1#32
  let arg15 : BitVec 32 := Scf.iv c0_i32_35 c1_i32_36 k0_t1
  let v181 : Index := Scalar.indexCast arg15
  let c0_50 : Index := 0#32
  let c0_51 : Index := 0#32
  ![v181.toNat, 0, 0]
def k0_mult1 (k0_t1 : Fin k0_t1_loop.trips) : BitVec 32 :=
  let c0_i32_35 : BitVec 32 := 0#32
  let c1_i32_36 : BitVec 32 := 1#32
  let arg15 : BitVec 32 := Scf.iv c0_i32_35 c1_i32_36 k0_t1
  let c8_i32 : BitVec 32 := 8#32
  let v199 : BitVec 32 := Scalar.muli arg15 c8_i32
  v199
def k0_off2 (k0_t1 : Fin k0_t1_loop.trips) : Fin 2 → Nat :=
  let c0_i32_35 : BitVec 32 := 0#32
  let c1_i32_36 : BitVec 32 := 1#32
  let arg15 : BitVec 32 := Scf.iv c0_i32_35 c1_i32_36 k0_t1
  let c8_i32 : BitVec 32 := 8#32
  let v199 : BitVec 32 := Scalar.muli arg15 c8_i32
  let v200 : BitVec 32 := v199
  let v201 : Index := Scalar.indexCast v200
  let c0_54 : Index := 0#32
  ![v201.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceScanIdeal.lean ====
abbrev S8192x2048 : Shape := ⟨2, ![8192, 2048]⟩
abbrev S1x2048 : Shape := ⟨2, ![1, 2048]⟩
abbrev S_ : Shape := ⟨0, ![]⟩
abbrev S2x2048 : Shape := ⟨2, ![2, 2048]⟩
abbrev S2x4096x2048 : Shape := ⟨3, ![2, 4096, 2048]⟩
abbrev S4096x2x2048 : Shape := ⟨3, ![4096, 2, 2048]⟩
abbrev S1x2x2048 : Shape := ⟨3, ![1, 2, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2x2048, .f32⟩
  | .hbm, ⟨6, _⟩ => ⟨S8192x2048, .f32⟩
  | .hbm, ⟨7, _⟩ => ⟨S2x4096x2048, .f32⟩
  | .hbm, ⟨8, _⟩ => ⟨S4096x2x2048, .f32⟩
  | .hbm, ⟨9, _⟩ => ⟨S8192x2048, .f32⟩
  | .hbm, ⟨10, _⟩ => ⟨S2x4096x2048, .f32⟩
  | .hbm, ⟨11, _⟩ => ⟨S4096x2x2048, .f32⟩
  | .hbm, ⟨12, _⟩ => ⟨S_, .f32⟩
  | .hbm, ⟨13, _⟩ => ⟨S4096x2x2048, .f32⟩
  | .hbm, ⟨14, _⟩ => ⟨S_, .f32⟩
  | .hbm, ⟨15, _⟩ => ⟨S4096x2x2048, .f32⟩
  | .hbm, ⟨16, _⟩ => ⟨S_, .i32⟩
  | .hbm, ⟨17, _⟩ => ⟨S4096x2x2048, .f32⟩
  | .hbm, ⟨18, _⟩ => ⟨S4096x2x2048, .f32⟩
  | .hbm, ⟨19, _⟩ => ⟨S1x2048, .f32⟩
  | .hbm, ⟨20, _⟩ => ⟨S1x2048, .f32⟩
  | .hbm, ⟨21, _⟩ => ⟨S_, .i32⟩
  | .hbm, ⟨22, _⟩ => ⟨S2x2048, .f32⟩
  | .hbm, ⟨23, _⟩ => ⟨S2x2048, .f32⟩
  | .hbm, ⟨24, _⟩ => ⟨S4096x2x2048, .f32⟩
  | .hbm, ⟨25, _⟩ => ⟨S4096x2x2048, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x2x2048, .f32⟩
  | .hbm, ⟨31, _⟩ => ⟨S2x2048, .f32⟩
  | .hbm, ⟨32, _⟩ => ⟨S_, .i32⟩
  | .hbm, ⟨33, _⟩ => ⟨S_, .i32⟩
  | .hbm, ⟨34, _⟩ => ⟨S1x2x2048, .f32⟩
  | .hbm, ⟨35, _⟩ => ⟨S2x2048, .f32⟩
  | .hbm, ⟨36, _⟩ => ⟨S2x2048, .f32⟩
  | .hbm, ⟨37, _⟩ => ⟨S2x2048, .f32⟩
  | .hbm, ⟨38, _⟩ => ⟨S2x2048, .f32⟩
  | .hbm, ⟨39, _⟩ => ⟨S2x2048, .f32⟩
  | .hbm, ⟨40, _⟩ => ⟨S2x2048, .f32⟩
  | .hbm, ⟨41, _⟩ => ⟨S2x2048, .f32⟩
  | .hbm, ⟨42, _⟩ => ⟨S2x2048, .f32⟩
  | .hbm, ⟨43, _⟩ => ⟨S2x2048, .f32⟩
  | .hbm, ⟨44, _⟩ => ⟨S2x2048, .f32⟩
  | .hbm, ⟨45, _⟩ => ⟨S2x2048, .f32⟩
  | .hbm, ⟨46, _⟩ => ⟨S2x2048, .f32⟩
  | .hbm, ⟨47, _⟩ => ⟨S2x2048, .f32⟩
  | .hbm, ⟨48, _⟩ => ⟨S1x2x2048, .f32⟩
  | .hbm, ⟨49, _⟩ => ⟨S_, .i32⟩
  | .hbm, ⟨50, _⟩ => ⟨S_, .i32⟩
  | .hbm, ⟨51, _⟩ => ⟨S4096x2x2048, .f32⟩
  | .hbm, ⟨52, _⟩ => ⟨S1x2x2048, .f32⟩
  | .hbm, ⟨53, _⟩ => ⟨S_, .i32⟩
  | .hbm, ⟨54, _⟩ => ⟨S_, .i32⟩
  | .hbm, ⟨55, _⟩ => ⟨S4096x2x2048, .f32⟩
  | .hbm, ⟨56, _⟩ => ⟨S_, .i32⟩
  | .hbm, ⟨57, _⟩ => ⟨S_, .i32⟩
  | .hbm, ⟨58, _⟩ => ⟨S2x4096x2048, .f32⟩
  | .hbm, ⟨59, _⟩ => ⟨S8192x2048, .f32⟩
  | .hbm, ⟨60, _⟩ => ⟨S8192x2048, .bf16⟩
  | .hbm, ⟨61, _⟩ => ⟨S2x4096x2048, .f32⟩
  | .hbm, ⟨62, _⟩ => ⟨S8192x2048, .f32⟩
  | .hbm, ⟨63, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_c : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_v9_8 : Ref sig .tc := ⟨.hbm, 25, rfl⟩
abbrev main_while0c_c_10 : Ref sig .tc := ⟨.hbm, 26, rfl⟩
abbrev main_while0c_v16 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v16 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_v0 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_v29 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v30 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v31 : Ref sig .tc := ⟨.hbm, 55, rfl⟩
abbrev main_while0b_c_10 : Ref sig .tc := ⟨.hbm, 56, rfl⟩
abbrev main_while0b_v32 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

abbrev main_while0_count : Scf.Loop 32 := ⟨0#32, 4096#32, 1#32⟩
-- ==== KernelGate.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x256, .bf16⟩
  | .hbm, ⟨24, _⟩ => ⟨S8192x256, .f32⟩
  | .hbm, ⟨25, _⟩ => ⟨S256x1024, .bf16⟩
  | .hbm, ⟨26, _⟩ => ⟨S256x1024, .f32⟩
  | .hbm, ⟨27, _⟩ => ⟨S8192x1024, .f32⟩
  | .hbm, ⟨28, _⟩ => ⟨S1024x1024, .bf16⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceGateIdeal.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== KernelHold.lean ====
abbrev S4x32x64 : Shape := ⟨3, ![4, 32, 64]⟩
abbrev S4x32 : Shape := ⟨2, ![4, 32]⟩
abbrev S4x32x64x16 : Shape := ⟨4, ![4, 32, 64, 16]⟩
abbrev S8192x1 : Shape := ⟨2, ![8192, 1]⟩
abbrev S128 : Shape := ⟨1, ![128]⟩
abbrev S128x64 : Shape := ⟨2, ![128, 64]⟩
abbrev S8192 : Shape := ⟨1, ![8192]⟩
abbrev S8192x16 : Shape := ⟨2, ![8192, 16]⟩
abbrev S2048x1 : Shape := ⟨2, ![2048, 1]⟩
abbrev S2048x16 : Shape := ⟨2, ![2048, 16]⟩

abbrev nBuf : Space → Nat
  | .hbm => 17
  | .vmem => 18
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S8192x1, .f32⟩
  | .hbm, ⟨6, _⟩ => ⟨S8192x1, .f32⟩
  | .hbm, ⟨7, _⟩ => ⟨S128, .f32⟩
  | .hbm, ⟨8, _⟩ => ⟨S128x64, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x1, .f32⟩
  | .hbm, ⟨14, _⟩ => ⟨S8192x1, .f32⟩
  | .hbm, ⟨15, _⟩ => ⟨S8192x16, .f32⟩
  | .hbm, ⟨16, _⟩ => ⟨S8192x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x16, .f32⟩
  | .local _ .vmem, ⟨15, _⟩ => ⟨S2048x16, .f32⟩
  | .local _ .vmem, ⟨16, _⟩ => ⟨S2048x16, .f32⟩
  | .local _ .vmem, ⟨17, _⟩ => ⟨S2048x16, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceHoldIdeal.lean ====
abbrev S4x32x64 : Shape := ⟨3, ![4, 32, 64]⟩
abbrev S4x32 : Shape := ⟨2, ![4, 32]⟩
abbrev S4x32x64x16 : Shape := ⟨4, ![4, 32, 64, 16]⟩
abbrev S4x32x1 : Shape := ⟨3, ![4, 32, 1]⟩
abbrev S_ : Shape := ⟨0, ![]⟩
abbrev S4x32x64x1 : Shape := ⟨4, ![4, 32, 64, 1]⟩
abbrev S8192x1 : Shape := ⟨2, ![8192, 1]⟩
abbrev S8192x16 : Shape := ⟨2, ![8192, 16]⟩

abbrev nBuf : Space → Nat
  | .hbm => 51
  | .vmem => 0
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S4x32, .f32⟩
  | .hbm, ⟨6, _⟩ => ⟨S4x32x1, .f32⟩
  | .hbm, ⟨7, _⟩ => ⟨S4x32x64, .f32⟩
  | .hbm, ⟨8, _⟩ => ⟨S4x32x64, .f32⟩
  | .hbm, ⟨9, _⟩ => ⟨S4x32x64, .f32⟩
  | .hbm, ⟨10, _⟩ => ⟨S4x32x64, .f32⟩
  | .hbm, ⟨11, _⟩ => ⟨S4x32x64, .f32⟩
  | .hbm, ⟨12, _⟩ => ⟨S4x32x64, .f32⟩
  | .hbm, ⟨13, _⟩ => ⟨S4x32x64, .f32⟩
  | .hbm, ⟨14, _⟩ => ⟨S4x32x64, .f32⟩
  | .hbm, ⟨15, _⟩ => ⟨S4x32x64, .f32⟩
  | .hbm, ⟨16, _⟩ => ⟨S4x32x64, .f32⟩
  | .hbm, ⟨17, _⟩ => ⟨S4x32x64, .f32⟩
  | .hbm, ⟨18, _⟩ => ⟨S4x32x64, .f32⟩
  | .hbm, ⟨19, _⟩ => ⟨S4x32x64, .f32⟩
  | .hbm, ⟨20, _⟩ => ⟨S4x32x64, .f32⟩
  | .hbm, ⟨21, _⟩ => ⟨S_, .f32⟩
  | .hbm, ⟨22, _⟩ => ⟨S4x32x64, .f32⟩
  | .hbm, ⟨23, _⟩ => ⟨S4x32x64, .f32⟩
  | .hbm, ⟨24, _⟩ => ⟨S4x32x64, .f32⟩
  | .hbm, ⟨25, _⟩ => ⟨S4x32x64, .f32⟩
  | .hbm, ⟨26, _⟩ => ⟨S4x32x64, .f32⟩
  | .hbm, ⟨27, _⟩ => ⟨S4x32x64, .f32⟩
  | .hbm, ⟨28, _⟩ => ⟨S4x32x64, .f32⟩
  | .hbm, ⟨29, _⟩ => ⟨S_, .f32⟩
  | .hbm, ⟨30, _⟩ => ⟨S4x32x64, .f32⟩
  | .hbm, ⟨31, _⟩ => ⟨S4x32x64, .f32⟩
  | .hbm, ⟨32, _⟩ => ⟨S4x32x64, .f32⟩
  | .hbm, ⟨33, _⟩ => ⟨S4x32x64, .f32⟩
  | .hbm, ⟨34, _⟩ => ⟨S4x32x64, .f32⟩
  | .hbm, ⟨35, _⟩ => ⟨S4x32x64x1, .f32⟩
  | .hbm, ⟨36, _⟩ => ⟨S4x32x64x1, .f32⟩
  | .hbm, ⟨37, _⟩ => ⟨S8192x1, .f32⟩
  | .hbm, ⟨38, _⟩ => ⟨S8192x1, .f32⟩
  | .hbm, ⟨39, _⟩ => ⟨S4x32x64x16, .f32⟩
  | .hbm, ⟨40, _⟩ => ⟨S4x32x64x16, .f32⟩
  | .hbm, ⟨41, _⟩ => ⟨S4x32x64x16, .f32⟩
  | .hbm, ⟨42, _⟩ => ⟨S4x32x64x16, .f32⟩
  | .hbm, ⟨43, _⟩ => ⟨S4x32x64x16, .f32⟩
  | .hbm, ⟨44, _⟩ => ⟨S8192x16, .f32⟩
  | .hbm, ⟨45, _⟩ => ⟨S4x32x64x16, .f32⟩
  | .hbm, ⟨46, _⟩ => ⟨S4x32x64x16, .f32⟩
  | .hbm, ⟨47, _⟩ => ⟨S4x32x64x16, .f32⟩
  | .hbm, ⟨48, _⟩ => ⟨S4x32x64x16, .f32⟩
  | .hbm, ⟨49, _⟩ => ⟨S4x32x64x16, .f32⟩
  | .hbm, ⟨50, _⟩ => ⟨S8192x16, .f32⟩
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== KernelStates.lean ====
abbrev S8192x2048 : Shape := ⟨2, ![8192, 2048]⟩
abbrev S32x16x64 : Shape := ⟨3, ![32, 16, 64]⟩
abbrev S8192x512 : Shape := ⟨2, ![8192, 512]⟩
abbrev S512 : Shape := ⟨1, ![512]⟩
abbrev S32x64x16 : Shape := ⟨3, ![32, 64, 16]⟩
abbrev S2048x16 : Shape := ⟨2, ![2048, 16]⟩
abbrev S1x2048x1x16 : Shape := ⟨4, ![1, 2048, 1, 16]⟩
abbrev S1x2048x32x16 : Shape := ⟨4, ![1, 2048, 32, 16]⟩
abbrev S2048x512 : Shape := ⟨2, ![2048, 512]⟩
abbrev S_ : Shape := ⟨0, ![]⟩
abbrev S1x512 : Shape := ⟨2, ![1, 512]⟩
abbrev S1024x1024 : Shape := ⟨2, ![1024, 1024]⟩
abbrev S1024x256 : Shape := ⟨2, ![1024, 256]⟩
abbrev S1x256 : Shape := ⟨2, ![1, 256]⟩

abbrev nBuf : Space → Nat
  | .hbm => 106
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x16x64, .f32⟩
  | .hbm, ⟨3, _⟩ => ⟨S32x16x64, .f32⟩
  | .hbm, ⟨4, _⟩ => ⟨S8192x512, .f32⟩
  | .hbm, ⟨5, _⟩ => ⟨S512, .f32⟩
  | .hbm, ⟨6, _⟩ => ⟨S32x16x64, .f32⟩
  | .hbm, ⟨7, _⟩ => ⟨S32x64x16, .f32⟩
  | .hbm, ⟨8, _⟩ => ⟨S32x64x16, .bf16⟩
  | .hbm, ⟨9, _⟩ => ⟨S2048x16, .bf16⟩
  | .hbm, ⟨10, _⟩ => ⟨S1x2048x1x16, .bf16⟩
  | .hbm, ⟨11, _⟩ => ⟨S1x2048x32x16, .bf16⟩
  | .hbm, ⟨12, _⟩ => ⟨S2048x512, .bf16⟩
  | .hbm, ⟨13, _⟩ => ⟨S2048x512, .i32⟩
  | .hbm, ⟨14, _⟩ => ⟨S_, .i32⟩
  | .hbm, ⟨15, _⟩ => ⟨S_, .i32⟩
  | .hbm, ⟨16, _⟩ => ⟨S2048x512, .i32⟩
  | .hbm, ⟨17, _⟩ => ⟨S2048x512, .i32⟩
  | .hbm, ⟨18, _⟩ => ⟨S2048x512, .i32⟩
  | .hbm, ⟨19, _⟩ => ⟨S_, .i32⟩
  | .hbm, ⟨20, _⟩ => ⟨S2048x512, .i32⟩
  | .hbm, ⟨21, _⟩ => ⟨S2048x512, .i1⟩
  | .hbm, ⟨22, _⟩ => ⟨S2048x512, .i32⟩
  | .hbm, ⟨23, _⟩ => ⟨S2048x512, .i32⟩
  | .hbm, ⟨24, _⟩ => ⟨S_, .i32⟩
  | .hbm, ⟨25, _⟩ => ⟨S2048x512, .i32⟩
  | .hbm, ⟨26, _⟩ => ⟨S2048x512, .i1⟩
  | .hbm, ⟨27, _⟩ => ⟨S2048x512, .i1⟩
  | .hbm, ⟨28, _⟩ => ⟨S_, .i32⟩
  | .hbm, ⟨29, _⟩ => ⟨S2048x512, .i32⟩
  | .hbm, ⟨30, _⟩ => ⟨S2048x512, .i32⟩
  | .hbm, ⟨31, _⟩ => ⟨S2048x512, .i32⟩
  | .hbm, ⟨32, _⟩ => ⟨S2048x512, .i32⟩
  | .hbm, ⟨33, _⟩ => ⟨S_, .i32⟩
  | .hbm, ⟨34, _⟩ => ⟨S_, .i32⟩
  | .hbm, ⟨35, _⟩ => ⟨S2048x512, .i32⟩
  | .hbm, ⟨36, _⟩ => ⟨S2048x512, .i32⟩
  | .hbm, ⟨37, _⟩ => ⟨S2048x512, .i32⟩
  | .hbm, ⟨38, _⟩ => ⟨S_, .i32⟩
  | .hbm, ⟨39, _⟩ => ⟨S2048x512, .i32⟩
  | .hbm, ⟨40, _⟩ => ⟨S2048x512, .i1⟩
  | .hbm, ⟨41, _⟩ => ⟨S2048x512, .i32⟩
  | .hbm, ⟨42, _⟩ => ⟨S2048x512, .i32⟩
  | .hbm, ⟨43, _⟩ => ⟨S_, .i32⟩
  | .hbm, ⟨44, _⟩ => ⟨S2048x512, .i32⟩
  | .hbm, ⟨45, _⟩ => ⟨S2048x512, .i1⟩
  | .hbm, ⟨46, _⟩ => ⟨S2048x512, .i1⟩
  | .hbm, ⟨47, _⟩ => ⟨S_, .i32⟩
  | .hbm, ⟨48, _⟩ => ⟨S2048x512, .i32⟩
  | .hbm, ⟨49, _⟩ => ⟨S2048x512, .i32⟩
  | .hbm, ⟨50, _⟩ => ⟨S2048x512, .i32⟩
  | .hbm, ⟨51, _⟩ => ⟨S2048x512, .i1⟩
  | .hbm, ⟨52, _⟩ => ⟨S_, .bf16⟩
  | .hbm, ⟨53, _⟩ => ⟨S2048x512, .bf16⟩
  | .hbm, ⟨54, _⟩ => ⟨S2048x512, .bf16⟩
  | .hbm, ⟨55, _⟩ => ⟨S32x64x16, .f32⟩
  | .hbm, ⟨56, _⟩ => ⟨S32x64x16, .bf16⟩
  | .hbm, ⟨57, _⟩ => ⟨S2048x16, .bf16⟩
  | .hbm, ⟨58, _⟩ => ⟨S1x2048x1x16, .bf16⟩
  | .hbm, ⟨59, _⟩ => ⟨S1x2048x32x16, .bf16⟩
  | .hbm, ⟨60, _⟩ => ⟨S2048x512, .bf16⟩
  | .hbm, ⟨61, _⟩ => ⟨S2048x512, .i32⟩
  | .hbm, ⟨62, _⟩ => ⟨S_, .i32⟩
  | .hbm, ⟨63, _⟩ => ⟨S_, .i32⟩
  | .hbm, ⟨64, _⟩ => ⟨S2048x512, .i32⟩
  | .hbm, ⟨65, _⟩ => ⟨S2048x512, .i32⟩
  | .hbm, ⟨66, _⟩ => ⟨S2048x512, .i32⟩
  | .hbm, ⟨67, _⟩ => ⟨S_, .i32⟩
  | .hbm, ⟨68, _⟩ => ⟨S2048x512, .i32⟩
  | .hbm, ⟨69, _⟩ => ⟨S2048x512, .i1⟩
  | .hbm, ⟨70, _⟩ => ⟨S2048x512, .i32⟩
  | .hbm, ⟨71, _⟩ => ⟨S2048x512, .i32⟩
  | .hbm, ⟨72, _⟩ => ⟨S_, .i32⟩
  | .hbm, ⟨73, _⟩ => ⟨S2048x512, .i32⟩
  | .hbm, ⟨74, _⟩ => ⟨S2048x512, .i1⟩
  | .hbm, ⟨75, _⟩ => ⟨S2048x512, .i1⟩
  | .hbm, ⟨76, _⟩ => ⟨S_, .i32⟩
  | .hbm, ⟨77, _⟩ => ⟨S2048x512, .i32⟩
  | .hbm, ⟨78, _⟩ => ⟨S2048x512, .i32⟩
  | .hbm, ⟨79, _⟩ => ⟨S2048x512, .i32⟩
  | .hbm, ⟨80, _⟩ => ⟨S2048x512, .i32⟩
  | .hbm, ⟨81, _⟩ => ⟨S_, .i32⟩
  | .hbm, ⟨82, _⟩ => ⟨S_, .i32⟩
  | .hbm, ⟨83, _⟩ => ⟨S2048x512, .i32⟩
  | .hbm, ⟨84, _⟩ => ⟨S2048x512, .i32⟩
  | .hbm, ⟨85, _⟩ => ⟨S2048x512, .i32⟩
  | .hbm, ⟨86, _⟩ => ⟨S_, .i32⟩
  | .hbm, ⟨87, _⟩ => ⟨S2048x512, .i32⟩
  | .hbm, ⟨88, _⟩ => ⟨S2048x512, .i1⟩
  | .hbm, ⟨89, _⟩ => ⟨S2048x512, .i32⟩
  | .hbm, ⟨90, _⟩ => ⟨S2048x512, .i32⟩
  | .hbm, ⟨91, _⟩ => ⟨S_, .i32⟩
  | .hbm, ⟨92, _⟩ => ⟨S2048x512, .i32⟩
  | .hbm, ⟨93, _⟩ => ⟨S2048x512, .i1⟩
  | .hbm, ⟨94, _⟩ => ⟨S2048x512, .i1⟩
  | .hbm, ⟨95, _⟩ => ⟨S_, .i32⟩
  | .hbm, ⟨96, _⟩ => ⟨S2048x512, .i32⟩
  | .hbm, ⟨97, _⟩ => ⟨S2048x512, .i32⟩
  | .hbm, ⟨98, _⟩ => ⟨S2048x512, .i32⟩
  | .hbm, ⟨99, _⟩ => ⟨S2048x512, .i1⟩
  | .hbm, ⟨100, _⟩ => ⟨S_, .bf16⟩
  | .hbm, ⟨101, _⟩ => ⟨S2048x512, .bf16⟩
  | .hbm, ⟨102, _⟩ => ⟨S2048x512, .bf16⟩
  | .hbm, ⟨103, _⟩ => ⟨S1x512, .f32⟩
  | .hbm, ⟨104, _⟩ => ⟨S8192x512, .f32⟩
  | .hbm, ⟨105, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v21 : Ref sig .tc := ⟨.hbm, 79, rfl⟩
abbrev main_v22 : Ref sig .tc := ⟨.hbm, 80, rfl⟩
abbrev main_c_2 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_c : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_0 : Ref sig .tc := ⟨.hbm, 95, rfl⟩
abbrev main_call4_v12 : Ref sig .tc := ⟨.hbm, 96, rfl⟩
abbrev main_call4_v13 : Ref sig .tc := ⟨.hbm, 97, rfl⟩
abbrev main_v23 : Ref sig .tc := ⟨.hbm, 98, rfl⟩
abbrev main_v24 : Ref sig .tc := ⟨.hbm, 99, rfl⟩
abbrev main_cst_3 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28_0 : Ref sig .tc := ⟨.hbm, 104, rfl⟩
abbrev main_v28_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![v18.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceStatesIdeal.lean ====
abbrev S8192x2048 : Shape := ⟨2, ![8192, 2048]⟩
abbrev S32x16x64 : Shape := ⟨3, ![32, 16, 64]⟩
abbrev S8192x512 : Shape := ⟨2, ![8192, 512]⟩
abbrev S512 : Shape := ⟨1, ![512]⟩
abbrev S8192x32x64 : Shape := ⟨3, ![8192, 32, 64]⟩
abbrev S32x16x8192 : Shape := ⟨3, ![32, 16, 8192]⟩
abbrev S8192x32x16 : Shape := ⟨3, ![8192, 32, 16]⟩
abbrev S1x512 : Shape := ⟨2, ![1, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x16x64, .f32⟩
  | .hbm, ⟨3, _⟩ => ⟨S32x16x64, .f32⟩
  | .hbm, ⟨4, _⟩ => ⟨S8192x512, .f32⟩
  | .hbm, ⟨5, _⟩ => ⟨S512, .f32⟩
  | .hbm, ⟨6, _⟩ => ⟨S8192x2048, .f32⟩
  | .hbm, ⟨7, _⟩ => ⟨S8192x32x64, .f32⟩
  | .hbm, ⟨8, _⟩ => ⟨S8192x2048, .f32⟩
  | .hbm, ⟨9, _⟩ => ⟨S8192x32x64, .f32⟩
  | .hbm, ⟨10, _⟩ => ⟨S32x16x8192, .f32⟩
  | .hbm, ⟨11, _⟩ => ⟨S8192x32x16, .f32⟩
  | .hbm, ⟨12, _⟩ => ⟨S32x16x8192, .f32⟩
  | .hbm, ⟨13, _⟩ => ⟨S8192x32x16, .f32⟩
  | .hbm, ⟨14, _⟩ => ⟨S8192x32x16, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelHeads.lean ====
abbrev S2x4096x512 : Shape := ⟨3, ![2, 4096, 512]⟩
abbrev S4x128x128 : Shape := ⟨3, ![4, 128, 128]⟩
abbrev S512 : Shape := ⟨1, ![512]⟩
abbrev S8192x512 : Shape := ⟨2, ![8192, 512]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S512x128 : Shape := ⟨2, ![512, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .bf16⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceHeadsIdeal.lean ====
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩
abbrev S4096 : Shape := ⟨1, ![4096]⟩
abbrev S4096x1 : Shape := ⟨2, ![4096, 1]⟩
abbrev S2x4096x128 : Shape := ⟨3, ![2, 4096, 128]⟩
abbrev S2x2x128 : Shape := ⟨3, ![2, 2, 128]⟩
abbrev S2x4094x128 : Shape := ⟨3, ![2, 4094, 128]⟩
abbrev S1x4096x1 : Shape := ⟨3, ![1, 4096, 1]⟩
abbrev S1x128x128 : Shape := ⟨3, ![1, 128, 128]⟩
abbrev S128x128 : Shape := ⟨2, ![128, 128]⟩
abbrev S2x4x128 : Shape := ⟨3, ![2, 4, 128]⟩
abbrev S2x4092x128 : Shape := ⟨3, ![2, 4092, 128]⟩
abbrev S2x8x128 : Shape := ⟨3, ![2, 8, 128]⟩
abbrev S2x4088x128 : Shape := ⟨3, ![2, 4088, 128]⟩
abbrev S2x16x128 : Shape := ⟨3, ![2, 16, 128]⟩
abbrev S2x4080x128 : Shape := ⟨3, ![2, 4080, 128]⟩
abbrev S1x1x512 : Shape := ⟨3, ![1, 1, 512]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S2x4096x512, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S2x4096x128, .f32⟩
  | .hbm, ⟨12, _⟩ => ⟨S_, .f32⟩
  | .hbm, ⟨13, _⟩ => ⟨S2x2x128, .f32⟩
  | .hbm, ⟨14, _⟩ => ⟨S2x4094x128, .f32⟩
  | .hbm, ⟨15, _⟩ => ⟨S2x4096x128, .f32⟩
  | .hbm, ⟨16, _⟩ => ⟨S2x4096x128, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S1x4096x1, .f32⟩
  | .hbm, ⟨21, _⟩ => ⟨S2x4096x128, .f32⟩
  | .hbm, ⟨22, _⟩ => ⟨S2x4096x128, .f32⟩
  | .hbm, ⟨23, _⟩ => ⟨S2x4096x128, .f32⟩
  | .hbm, ⟨24, _⟩ => ⟨S2x4096x128, .f32⟩
  | .hbm, ⟨25, _⟩ => ⟨S1x128x128, .f32⟩
  | .hbm, ⟨26, _⟩ => ⟨S128x128, .f32⟩
  | .hbm, ⟨27, _⟩ => ⟨S2x4096x128, .f32⟩
  | .hbm, ⟨28, _⟩ => ⟨S2x4096x128, .f32⟩
  | .hbm, ⟨29, _⟩ => ⟨S_, .f32⟩
  | .hbm, ⟨30, _⟩ => ⟨S2x4x128, .f32⟩
  | .hbm, ⟨31, _⟩ => ⟨S2x4092x128, .f32⟩
  | .hbm, ⟨32, _⟩ => ⟨S2x4096x128, .f32⟩
  | .hbm, ⟨33, _⟩ => ⟨S2x4096x128, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S1x4096x1, .f32⟩
  | .hbm, ⟨38, _⟩ => ⟨S2x4096x128, .f32⟩
  | .hbm, ⟨39, _⟩ => ⟨S2x4096x128, .f32⟩
  | .hbm, ⟨40, _⟩ => ⟨S2x4096x128, .f32⟩
  | .hbm, ⟨41, _⟩ => ⟨S2x4096x128, .f32⟩
  | .hbm, ⟨42, _⟩ => ⟨S1x128x128, .f32⟩
  | .hbm, ⟨43, _⟩ => ⟨S128x128, .f32⟩
  | .hbm, ⟨44, _⟩ => ⟨S2x4096x128, .f32⟩
  | .hbm, ⟨45, _⟩ => ⟨S2x4096x128, .f32⟩
  | .hbm, ⟨46, _⟩ => ⟨S_, .f32⟩
  | .hbm, ⟨47, _⟩ => ⟨S2x8x128, .f32⟩
  | .hbm, ⟨48, _⟩ => ⟨S2x4088x128, .f32⟩
  | .hbm, ⟨49, _⟩ => ⟨S2x4096x128, .f32⟩
  | .hbm, ⟨50, _⟩ => ⟨S2x4096x128, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S1x4096x1, .f32⟩
  | .hbm, ⟨55, _⟩ => ⟨S2x4096x128, .f32⟩
  | .hbm, ⟨56, _⟩ => ⟨S2x4096x128, .f32⟩
  | .hbm, ⟨57, _⟩ => ⟨S2x4096x128, .f32⟩
  | .hbm, ⟨58, _⟩ => ⟨S2x4096x128, .f32⟩
  | .hbm, ⟨59, _⟩ => ⟨S1x128x128, .f32⟩
  | .hbm, ⟨60, _⟩ => ⟨S128x128, .f32⟩
  | .hbm, ⟨61, _⟩ => ⟨S2x4096x128, .f32⟩
  | .hbm, ⟨62, _⟩ => ⟨S2x4096x128, .f32⟩
  | .hbm, ⟨63, _⟩ => ⟨S_, .f32⟩
  | .hbm, ⟨64, _⟩ => ⟨S2x16x128, .f32⟩
  | .hbm, ⟨65, _⟩ => ⟨S2x4080x128, .f32⟩
  | .hbm, ⟨66, _⟩ => ⟨S2x4096x128, .f32⟩
  | .hbm, ⟨67, _⟩ => ⟨S2x4096x128, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S1x4096x1, .f32⟩
  | .hbm, ⟨72, _⟩ => ⟨S2x4096x128, .f32⟩
  | .hbm, ⟨73, _⟩ => ⟨S2x4096x128, .f32⟩
  | .hbm, ⟨74, _⟩ => ⟨S2x4096x128, .f32⟩
  | .hbm, ⟨75, _⟩ => ⟨S2x4096x128, .f32⟩
  | .hbm, ⟨76, _⟩ => ⟨S1x128x128, .f32⟩
  | .hbm, ⟨77, _⟩ => ⟨S128x128, .f32⟩
  | .hbm, ⟨78, _⟩ => ⟨S2x4096x128, .f32⟩
  | .hbm, ⟨79, _⟩ => ⟨S2x4096x512, .f32⟩
  | .hbm, ⟨80, _⟩ => ⟨S1x1x512, .f32⟩
  | .hbm, ⟨81, _⟩ => ⟨S2x4096x512, .f32⟩
  | .hbm, ⟨82, _⟩ => ⟨S2x4096x512, .f32⟩
  | .hbm, ⟨83, _⟩ => ⟨S8192x512, .f32⟩
  | .hbm, ⟨84, _⟩ => ⟨S8192x512, .bf16⟩
  | .hbm, ⟨85, _⟩ => ⟨S2x4096x512, .f32⟩
  | .hbm, ⟨86, _⟩ => ⟨S8192x512, .f32⟩
  | .hbm, ⟨87, _⟩ => ⟨S8192x512, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Proof.Tools.lean ====
/- Hand-written, untrusted: general facts that the value proofs share. Real numbers inside the extended reals (sums,
   products, quotients and the elementary functions of real numbers are real numbers); a window whose block is its whole
   array (its elements keep their coordinates). -/
module

public import Idealize.ShloMosaic.Lib.Pipeline.Value
public import Idealize.ShloMosaic.Lib.Pointwise
public import Idealize.ShloMosaic.Lib.Claim
public import Idealize.ShloMosaic.PureOps.Ideal.Laws

@[expose] public section

noncomputable section

namespace Cert.Proof.Tools

open Idealize.ShloMosaic Idealize.ShloMosaic.Pipeline Idealize.SL.Sem

/-- The load and store offset of a whole rectangle of rank two. -/
theorem hz2 : (![0, 0] : Fin 2 → Nat) = fun _ => 0 := funext fun a => by fin_cases a <;> rfl

/-- The load and store offset of a whole rectangle of rank three. -/
theorem hz3 : (![0, 0, 0] : Fin 3 → Nat) = fun _ => 0 := funext fun a => by fin_cases a <;> rfl

/-- A finite sum of real numbers, as an extended real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real below infinity in absolute value is a real number. -/
theorem exists_real_of_abs_lt (x : EReal) (h : x.abs < ⊤) : ∃ r : ℝ, x = (r : EReal) := by
  induction x with
  | bot => simp at h
  | top => simp at h
  | coe r => exact ⟨r, rfl⟩

/-- The word of infinity, and the word of zero. -/
theorem inf_word : Ideal.ofBits .f32 0x7F800000#32 = (⊤ : EReal) := by simp [Ideal.ofBits, Ideal.ieee]
theorem zero_word : Ideal.ofBits .f32 0#32 = (0 : EReal) := Ideal.ofBits_zero_f32

/-- An array of real numbers. -/
def up {S : Shape} (X : S.Idx → ℝ) : Vec Ideal S .f32 := fun i => ((X i : ℝ) : EReal)

/-- An array that passes the test `|x| < ∞` at every element is an array of real numbers. -/
theorem exists_up {S : Shape} (x c : FVec Ideal S .f32) (hc : ∀ i, c i = (⊤ : EReal))
    (h : cmpf .olt (Host.absf x) c = fun _ => 1#1) : ∃ X : S.Idx → ℝ, x = up X := by
  refine ⟨fun i => EReal.toReal (x i), funext fun i => ?_⟩
  have e : BitVec.ofBool (decide (max (x i : EReal) (-(x i : EReal)) < c i)) = 1#1 := congrFun h i
  rw [hc i] at e
  have e' : max (x i : EReal) (-(x i : EReal)) < ⊤ := by
    by_contra hn
    rw [decide_eq_false hn] at e
    exact absurd e (by decide)
  have h1 : (x i : EReal) ≠ ⊤ := (lt_of_le_of_lt (le_max_left _ _) e').ne
  have h2 : (x i : EReal) ≠ ⊥ := fun hb => by
    have := lt_of_le_of_lt (le_max_right _ _) e'
    rw [hb] at this
    simp at this
  exact (EReal.coe_toReal h1 h2).symm

/-- An extended real that is a real number; sums and products of such are such. -/
abbrev IsR (x : EReal) : Prop := ∃ r : ℝ, x = (r : EReal)

theorem IsR.mul {x y : EReal} : IsR x → IsR y → IsR (x * y)
  | ⟨a, ha⟩, ⟨b, hb⟩ => ⟨a * b, by rw [ha, hb, EReal.coe_mul]⟩

theorem IsR.add {x y : EReal} : IsR x → IsR y → IsR (x + y)
  | ⟨a, ha⟩, ⟨b, hb⟩ => ⟨a + b, by rw [ha, hb, EReal.coe_add]⟩

theorem IsR.sum {n : ℕ} {f : Fin n → EReal} (h : ∀ i, IsR (f i)) : IsR (∑ i, f i) := by
  choose g hg using h
  exact ⟨∑ i, g i, by rw [← coe_sum]; exact Finset.sum_congr rfl fun i _ => hg i⟩

/-- An array of any float type that passes the test `|x| < ∞` at every element has real elements. -/
theorem isR_of_test {S : Shape} {t : FTy} (x c : FVec Ideal S t) (hc : ∀ i, c i = (⊤ : EReal))
    (h : cmpf .olt (Host.absf x) c = fun _ => 1#1) (i : S.Idx) : IsR (x i) := by
  obtain ⟨X, rfl⟩ := exists_up (S := S) (x : S.Idx → EReal) c hc h
  exact ⟨X i, rfl⟩

end Cert.Proof.Tools

end
-- ==== Proof.Zoh.Arrays.lean ====
/- Hand-written, untrusted: THE RUN OF THE DISCRETISATION GRADIENT'S KERNEL, at any float values. The kernel has no grid:
   every window's block is its whole array. So each of the five result arrays ends holding what the body leaves of the
   nine argument arrays, reshaped to columns and matrices by the host lines before the call (`run`). -/
module

public import proofs.«01_k».proof.Proof.Tools
public import proofs.«01_k».proof.Proof.Gen.KernelZohIdeal.Frame

@[expose] public section

noncomputable section

namespace Cert.Proof.Zoh

open Cert.KernelZohIdeal Cert.KernelZohIdeal.Gen Idealize.ShloMosaic Idealize.ShloMosaic.TcCoe Idealize.SL.Sem
open Cert.Proof.Tools

/-- An argument array on one device. -/
local notation "arg[" m ", " c ", " a "]" => m (Thread.loc (c : Thread nD τ) a)

variable {F : FTy → Type} [FloatOps F]
variable (m : (ℓ : Loc nD τ sig) → Buf (Elt F) ℓ) (ρ : Dev nD → PrngReg)

/-- A table over (group, state) as one column over all states. -/
abbrev asCol (x : Vec F S32x64 .f32) : Vec F S2048x1 .f32 := shapeCast S2048x1 x shapeCasts_S32x64_S2048x1

/-- A table over (group, state, channel) as a matrix over all states and the channels. -/
abbrev asMat (x : Vec F S32x64x16 .f32) : Vec F S2048x16 .f32 := shapeCast S2048x16 x shapeCasts_S32x64x16_S2048x16

/-- A table over groups, repeated for each state of a group, as one column over all states. -/
abbrev asCol' (x : Vec F S32 .f32) : Vec F S2048x1 .f32 :=
  shapeCast S2048x1 (shapeCast S2048 (broadcastInDim S32x64 ![0] bcast_S32_S32x64_0 x) shapeCasts_S32x64_S2048) shapeCasts_S2048_S2048x1

/-- Each input window's block is its array as the region finds it, and that is the argument, reshaped. -/
theorem iblk0_eq (c : Dev nD) (t : Fin cfg0.N) : iblk m c 0 t = asCol arg[m, c, main_arg0] := by
  have e : V m c main_v0 = asCol arg[m, c, main_arg0] := by
    show StableHlo.after hostOps0 _ main_v0 = _
    after_results_simp <;> rfl
  rw [← e]
  funext j
  exact congrArg (V m c main_v0) (funext fun a => Fin.ext (Pipeline.Window.rect_emb_val_of_index_zero (cfg0.win 0) t a (by revert a t; decide +kernel) j))

theorem iblk1_eq (c : Dev nD) (t : Fin cfg0.N) : iblk m c 1 t = asCol arg[m, c, main_arg1] := by
  have e : V m c main_v1 = asCol arg[m, c, main_arg1] := by
    show StableHlo.after hostOps0 _ main_v1 = _
    after_results_simp <;> rfl
  rw [← e]
  funext j
  exact congrArg (V m c main_v1) (funext fun a => Fin.ext (Pipeline.Window.rect_emb_val_of_index_zero (cfg0.win 1) t a (by revert a t; decide +kernel) j))

theorem iblk2_eq (c : Dev nD) (t : Fin cfg0.N) : iblk m c 2 t = asCol' arg[m, c, main_arg2] := by
  have e : V m c main_v4 = asCol' arg[m, c, main_arg2] := by
    show StableHlo.after hostOps0 _ main_v4 = _
    after_results_simp <;> rfl
  rw [← e]
  funext j
  exact congrArg (V m c main_v4) (funext fun a => Fin.ext (Pipeline.Window.rect_emb_val_of_index_zero (cfg0.win 2) t a (by revert a t; decide +kernel) j))

theorem iblk3_eq (c : Dev nD) (t : Fin cfg0.N) : iblk m c 3 t = asMat arg[m, c, main_arg3] := by
  have e : V m c main_v5 = asMat arg[m, c, main_arg3] := by
    show StableHlo.after hostOps0 _ main_v5 = _
    after_results_simp <;> rfl
  rw [← e]
  funext j
  exact congrArg (V m c main_v5) (funext fun a => Fin.ext (Pipeline.Window.rect_emb_val_of_index_zero (cfg0.win 3) t a (by revert a t; decide +kernel) j))

theorem iblk4_eq (c : Dev nD) (t : Fin cfg0.N) : iblk m c 4 t = asMat arg[m, c, main_arg4] := by
  have e : V m c main_v6 = asMat arg[m, c, main_arg4] := by
    show StableHlo.after hostOps0 _ main_v6 = _
    after_results_simp <;> rfl
  rw [← e]
  funext j
  exact congrArg (V m c main_v6) (funext fun a => Fin.ext (Pipeline.Window.rect_emb_val_of_index_zero (cfg0.win 4) t a (by revert a t; decide +kernel) j))

theorem iblk5_eq (c : Dev nD) (t : Fin cfg0.N) : iblk m c 5 t = asCol arg[m, c, main_arg5] := by
  have e : V m c main_v7 = asCol arg[m, c, main_arg5] := by
    show StableHlo.after hostOps0 _ main_v7 = _
    after_results_simp <;> rfl
  rw [← e]
  funext j
  exact congrArg (V m c main_v7) (funext fun a => Fin.ext (Pipeline.Window.rect_emb_val_of_index_zero (cfg0.win 5) t a (by revert a t; decide +kernel) j))

theorem iblk6_eq (c : Dev nD) (t : Fin cfg0.N) : iblk m c 6 t = asCol arg[m, c, main_arg6] := by
  have e : V m c main_v8 = asCol arg[m, c, main_arg6] := by
    show StableHlo.after hostOps0 _ main_v8 = _
    after_results_simp <;> rfl
  rw [← e]
  funext j
  exact congrArg (V m c main_v8) (funext fun a => Fin.ext (Pipeline.Window.rect_emb_val_of_index_zero (cfg0.win 6) t a (by revert a t; decide +kernel) j))

theorem iblk7_eq (c : Dev nD) (t : Fin cfg0.N) : iblk m c 7 t = asMat arg[m, c, main_arg7] := by
  have e : V m c main_v9 = asMat arg[m, c, main_arg7] := by
    show StableHlo.after hostOps0 _ main_v9 = _
    after_results_simp <;> rfl
  rw [← e]
  funext j
  exact congrArg (V m c main_v9) (funext fun a => Fin.ext (Pipeline.Window.rect_emb_val_of_index_zero (cfg0.win 7) t a (by revert a t; decide +kernel) j))

theorem iblk8_eq (c : Dev nD) (t : Fin cfg0.N) : iblk m c 8 t = asMat arg[m, c, main_arg8] := by
  have e : V m c main_v10 = asMat arg[m, c, main_arg8] := by
    show StableHlo.after hostOps0 _ main_v10 = _
    after_results_simp <;> rfl
  rw [← e]
  funext j
  exact congrArg (V m c main_v10) (funext fun a => Fin.ext (Pipeline.Window.rect_emb_val_of_index_zero (cfg0.win 8) t a (by revert a t; decide +kernel) j))

variable (x0 x1 : Vec F S32x64 .f32) (x2 : Vec F S32 .f32) (x3 x4 : Vec F S32x64x16 .f32) (x5 x6 : Vec F S32x64 .f32) (x7 x8 : Vec F S32x64x16 .f32)

/-- Result 0 as a function of the arguments. -/
abbrev G9 : Vec F S2048x1 .f32 :=
  out0_9 (asCol x0) (asCol x1) (asCol' x2) (asMat x3) (asMat x4) (asCol x5) (asCol x6) (asMat x7) (asMat x8)

/-- Result 1 as a function of the arguments. -/
abbrev G10 : Vec F S2048x1 .f32 :=
  out0_10 (asCol x0) (asCol x1) (asCol' x2) (asMat x3) (asMat x4) (asCol x5) (asCol x6) (asMat x7) (asMat x8)

/-- Result 2 as a function of the arguments. -/
abbrev G11 : Vec F S1x32 .f32 :=
  out0_11 (asCol x0) (asCol x1) (asCol' x2) (asMat x3) (asMat x4) (asCol x5) (asCol x6) (asMat x7) (asMat x8)

/-- Result 3 as a function of the arguments. -/
abbrev G12 : Vec F S2048x16 .f32 :=
  out0_12 (asCol x0) (asCol x1) (asCol' x2) (asMat x3) (asMat x4) (asCol x5) (asCol x6) (asMat x7) (asMat x8)

/-- Result 4 as a function of the arguments. -/
abbrev G13 : Vec F S2048x16 .f32 :=
  out0_13 (asCol x0) (asCol x1) (asCol' x2) (asMat x3) (asMat x4) (asCol x5) (asCol x6) (asMat x7) (asMat x8)

theorem final9 (c : Dev nD) : (dats m 0 c).arrAt 9 cfg0.N = G9
    arg[m, c, main_arg0] arg[m, c, main_arg1] arg[m, c, main_arg2] arg[m, c, main_arg3] arg[m, c, main_arg4] arg[m, c, main_arg5] arg[m, c, main_arg6] arg[m, c, main_arg7] arg[m, c, main_arg8] := by
  have emb : ∀ (t : Fin cfg0.N) (j : S2048x1.Idx), ((cfg0.win 9).blk t).view.emb j = j := fun t j =>
    funext fun a => Fin.ext (Pipeline.Window.rect_emb_val_of_index_zero (cfg0.win 9) t a (by revert a t; decide +kernel) j)
  have cut : ∀ (t : Fin cfg0.N) (X : Vec F S2048x1 .f32),
      (cfg0.win 9).cut (grid0.coords t) X = ((cfg0.win 9).blk t).view.read (Elt F) X := fun t X => by
    funext j
    show X j = X (((cfg0.win 9).blk t).view.emb j)
    rw [emb]
  refine (dats m 0 c).arrAt_eq_of_cover 9 _ (fun t _ => ?_) (fun i => ?_)
  · show (cfg0.win 9).cut (grid0.coords t) ((dats m 0 c).after 9 t) = _
    rw [after0_9, iblk0_eq, iblk1_eq, iblk2_eq, iblk3_eq, iblk4_eq, iblk5_eq, iblk6_eq, iblk7_eq, iblk8_eq]
    exact cut t _
  · refine ⟨(⟨0, by decide⟩ : Fin cfg0.N), flush0_9 _, ?_⟩
    have h := ((cfg0.win 9).blk (⟨0, by decide⟩ : Fin cfg0.N)).view.emb_mem_set i
    rwa [emb] at h

theorem final10 (c : Dev nD) : (dats m 0 c).arrAt 10 cfg0.N = G10
    arg[m, c, main_arg0] arg[m, c, main_arg1] arg[m, c, main_arg2] arg[m, c, main_arg3] arg[m, c, main_arg4] arg[m, c, main_arg5] arg[m, c, main_arg6] arg[m, c, main_arg7] arg[m, c, main_arg8] := by
  have emb : ∀ (t : Fin cfg0.N) (j : S2048x1.Idx), ((cfg0.win 10).blk t).view.emb j = j := fun t j =>
    funext fun a => Fin.ext (Pipeline.Window.rect_emb_val_of_index_zero (cfg0.win 10) t a (by revert a t; decide +kernel) j)
  have cut : ∀ (t : Fin cfg0.N) (X : Vec F S2048x1 .f32),
      (cfg0.win 10).cut (grid0.coords t) X = ((cfg0.win 10).blk t).view.read (Elt F) X := fun t X => by
    funext j
    show X j = X (((cfg0.win 10).blk t).view.emb j)
    rw [emb]
  refine (dats m 0 c).arrAt_eq_of_cover 10 _ (fun t _ => ?_) (fun i => ?_)
  · show (cfg0.win 10).cut (grid0.coords t) ((dats m 0 c).after 10 t) = _
    rw [after0_10, iblk0_eq, iblk1_eq, iblk2_eq, iblk3_eq, iblk4_eq, iblk5_eq, iblk6_eq, iblk7_eq, iblk8_eq]
    exact cut t _
  · refine ⟨(⟨0, by decide⟩ : Fin cfg0.N), flush0_10 _, ?_⟩
    have h := ((cfg0.win 10).blk (⟨0, by decide⟩ : Fin cfg0.N)).view.emb_mem_set i
    rwa [emb] at h

theorem final11 (c : Dev nD) : (dats m 0 c).arrAt 11 cfg0.N = G11
    arg[m, c, main_arg0] arg[m, c, main_arg1] arg[m, c, main_arg2] arg[m, c, main_arg3] arg[m, c, main_arg4] arg[m, c, main_arg5] arg[m, c, main_arg6] arg[m, c, main_arg7] arg[m, c, main_arg8] := by
  have emb : ∀ (t : Fin cfg0.N) (j : S1x32.Idx), ((cfg0.win 11).blk t).view.emb j = j := fun t j =>
    funext fun a => Fin.ext (Pipeline.Window.rect_emb_val_of_index_zero (cfg0.win 11) t a (by revert a t; decide +kernel) j)
  have cut : ∀ (t : Fin cfg0.N) (X : Vec F S1x32 .f32),
      (cfg0.win 11).cut (grid0.coords t) X = ((cfg0.win 11).blk t).view.read (Elt F) X := fun t X => by
    funext j
    show X j = X (((cfg0.win 11).blk t).view.emb j)
    rw [emb]
  refine (dats m 0 c).arrAt_eq_of_cover 11 _ (fun t _ => ?_) (fun i => ?_)
  · show (cfg0.win 11).cut (grid0.coords t) ((dats m 0 c).after 11 t) = _
    rw [after0_11, iblk0_eq, iblk1_eq, iblk2_eq, iblk3_eq, iblk4_eq, iblk5_eq, iblk6_eq, iblk7_eq, iblk8_eq]
    exact cut t _
  · refine ⟨(⟨0, by decide⟩ : Fin cfg0.N), flush0_11 _, ?_⟩
    have h := ((cfg0.win 11).blk (⟨0, by decide⟩ : Fin cfg0.N)).view.emb_mem_set i
    rwa [emb] at h

theorem final12 (c : Dev nD) : (dats m 0 c).arrAt 12 cfg0.N = G12
    arg[m, c, main_arg0] arg[m, c, main_arg1] arg[m, c, main_arg2] arg[m, c, main_arg3] arg[m, c, main_arg4] arg[m, c, main_arg5] arg[m, c, main_arg6] arg[m, c, main_arg7] arg[m, c, main_arg8] := by
  have emb : ∀ (t : Fin cfg0.N) (j : S2048x16.Idx), ((cfg0.win 12).blk t).view.emb j = j := fun t j =>
    funext fun a => Fin.ext (Pipeline.Window.rect_emb_val_of_index_zero (cfg0.win 12) t a (by revert a t; decide +kernel) j)
  have cut : ∀ (t : Fin cfg0.N) (X : Vec F S2048x16 .f32),
      (cfg0.win 12).cut (grid0.coords t) X = ((cfg0.win 12).blk t).view.read (Elt F) X := fun t X => by
    funext j
    show X j = X (((cfg0.win 12).blk t).view.emb j)
    rw [emb]
  refine (dats m 0 c).arrAt_eq_of_cover 12 _ (fun t _ => ?_) (fun i => ?_)
  · show (cfg0.win 12).cut (grid0.coords t) ((dats m 0 c).after 12 t) = _
    rw [after0_12, iblk0_eq, iblk1_eq, iblk2_eq, iblk3_eq, iblk4_eq, iblk5_eq, iblk6_eq, iblk7_eq, iblk8_eq]
    exact cut t _
  · refine ⟨(⟨0, by decide⟩ : Fin cfg0.N), flush0_12 _, ?_⟩
    have h := ((cfg0.win 12).blk (⟨0, by decide⟩ : Fin cfg0.N)).view.emb_mem_set i
    rwa [emb] at h

theorem final13 (c : Dev nD) : (dats m 0 c).arrAt 13 cfg0.N = G13
    arg[m, c, main_arg0] arg[m, c, main_arg1] arg[m, c, main_arg2] arg[m, c, main_arg3] arg[m, c, main_arg4] arg[m, c, main_arg5] arg[m, c, main_arg6] arg[m, c, main_arg7] arg[m, c, main_arg8] := by
  have emb : ∀ (t : Fin cfg0.N) (j : S2048x16.Idx), ((cfg0.win 13).blk t).view.emb j = j := fun t j =>
    funext fun a => Fin.ext (Pipeline.Window.rect_emb_val_of_index_zero (cfg0.win 13) t a (by revert a t; decide +kernel) j)
  have cut : ∀ (t : Fin cfg0.N) (X : Vec F S2048x16 .f32),
      (cfg0.win 13).cut (grid0.coords t) X = ((cfg0.win 13).blk t).view.read (Elt F) X := fun t X => by
    funext j
    show X j = X (((cfg0.win 13).blk t).view.emb j)
    rw [emb]
  refine (dats m 0 c).arrAt_eq_of_cover 13 _ (fun t _ => ?_) (fun i => ?_)
  · show (cfg0.win 13).cut (grid0.coords t) ((dats m 0 c).after 13 t) = _
    rw [after0_13, iblk0_eq, iblk1_eq, iblk2_eq, iblk3_eq, iblk4_eq, iblk5_eq, iblk6_eq, iblk7_eq, iblk8_eq]
    exact cut t _
  · refine ⟨(⟨0, by decide⟩ : Fin cfg0.N), flush0_13 _, ?_⟩
    have h := ((cfg0.win 13).blk (⟨0, by decide⟩ : Fin cfg0.N)).view.emb_mem_set i
    rwa [emb] at h

/-- The run: every result array at its function of the arguments, every argument as launched. -/
theorem run : θ_run defs (onTc (τ := τ) (main (F := F))) ⟨m, fun _ => 0, ρ⟩ fun r => ∀ c : Dev nD,
      r.2.mem ((c : Thread nD τ).loc main_v11_0) = G9
        arg[m, c, main_arg0] arg[m, c, main_arg1] arg[m, c, main_arg2] arg[m, c, main_arg3] arg[m, c, main_arg4] arg[m, c, main_arg5] arg[m, c, main_arg6] arg[m, c, main_arg7] arg[m, c, main_arg8]
      ∧ r.2.mem ((c : Thread nD τ).loc main_v11_1) = G10
        arg[m, c, main_arg0] arg[m, c, main_arg1] arg[m, c, main_arg2] arg[m, c, main_arg3] arg[m, c, main_arg4] arg[m, c, main_arg5] arg[m, c, main_arg6] arg[m, c, main_arg7] arg[m, c, main_arg8]
      ∧ r.2.mem ((c : Thread nD τ).loc main_v11_2) = G11
        arg[m, c, main_arg0] arg[m, c, main_arg1] arg[m, c, main_arg2] arg[m, c, main_arg3] arg[m, c, main_arg4] arg[m, c, main_arg5] arg[m, c, main_arg6] arg[m, c, main_arg7] arg[m, c, main_arg8]
      ∧ r.2.mem ((c : Thread nD τ).loc main_v11_3) = G12
        arg[m, c, main_arg0] arg[m, c, main_arg1] arg[m, c, main_arg2] arg[m, c, main_arg3] arg[m, c, main_arg4] arg[m, c, main_arg5] arg[m, c, main_arg6] arg[m, c, main_arg7] arg[m, c, main_arg8]
      ∧ r.2.mem ((c : Thread nD τ).loc main_v11_4) = G13
        arg[m, c, main_arg0] arg[m, c, main_arg1] arg[m, c, main_arg2] arg[m, c, main_arg3] arg[m, c, main_arg4] arg[m, c, main_arg5] arg[m, c, main_arg6] arg[m, c, main_arg7] arg[m, c, main_arg8]
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 9).trans (final9 m c), ((h.1 c).1 10).trans (final10 m c), ((h.1 c).1 11).trans (final11 m c), ((h.1 c).1 12).trans (final12 m c), ((h.1 c).1 13).trans (final13 m c),
    h.2.1 c⟩)
    (θ_run_and (run_main m ρ) (frame m ρ))

end Cert.Proof.Zoh

end
-- ==== Proof.Zoh.Real.lean ====
module

public import proofs.«01_k».proof.Proof.Tools
public import proofs.«01_k».proof.Proof.Zoh.Arrays
public import proofs.«01_k».proof.Proof.Gen.ReferenceZohIdeal.Read

@[expose] public section

set_option maxRecDepth 16384

noncomputable section

namespace Cert.Proof.Zoh

open Idealize.ShloMosaic Idealize.ShloMosaic.TcCoe Idealize.SL.Sem
open Cert.Proof.Tools Cert.KernelZohIdeal Cert.KernelZohIdeal.Gen

theorem ld_col (X : Vec Ideal S2048x1 .f32) : View.ld X r0_0 = X := View.ld_unit_zero (S := S2048x1) hz2 _ X
theorem ld_mat (X : Vec Ideal S2048x16 .f32) : View.ld X r0_1 = X := View.ld_unit_zero (S := S2048x16) hz2 _ X

variable (X0 X1 : S32x64.Idx → ℝ) (X2 : S32.Idx → ℝ) (X3 X4 : S32x64x16.Idx → ℝ) (X5 X6 : S32x64.Idx → ℝ)
  (X7 X8 : S32x64x16.Idx → ℝ)

/-- The kernel's forms of arrays of real numbers. -/
abbrev col (X : S32x64.Idx → ℝ) : Vec Ideal S2048x1 .f32 := asCol (up X)
abbrev mat (X : S32x64x16.Idx → ℝ) : Vec Ideal S2048x16 .f32 := asMat (up X)
abbrev dts (X : S32.Idx → ℝ) : Vec Ideal S2048x1 .f32 := asCol' (up X)

set_option maxHeartbeats 4000000 in
/-- The gradient of the real part of lambda. -/
theorem out9_eq (hd : ∀ i, X0 i * X0 i + X1 i * X1 i ≠ 0) (r : Fin 2048) :
    out0_9 (col X0) (col X1) (dts X2) (mat X3) (mat X4) (col X5) (col X6) (mat X7) (mat X8) (ix2 r 0)
      = Cert.ReferenceZohIdeal.Read.val_main_v141 (F := Ideal) (up X0) (up X1) (up X2) (up X3) (up X4) (up X5) (up X6) (up X7) (up X8) (ix2 r 0) := by
  unfold out0_9
  rw [View.canon_unit_zero (S := S2048x1) hz2]
  simp only [k0_pay44, k0_pay43, k0_pay42, k0_pay41, k0_pay40, k0_pay39, k0_pay38, k0_pay37, k0_pay36, k0_pay35, k0_pay34, k0_pay33, k0_pay32, k0_pay31, ld_col, ld_mat]
  unfold_payloads
  open Cert.ReferenceZohIdeal.Read in
  pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_cst, val_main_v18, val_main_v19, val_main_v20, val_main_v21, val_main_v22,
      val_main_v23, val_main_v24, val_main_cst_0, val_main_v25, val_main_v26, val_main_v27, val_main_cst_1, val_main_v28,
      val_main_v29, val_main_v30, val_main_v31, val_main_v32, val_main_v33, val_main_cst_2, val_main_v34, val_main_v35,
      val_main_v36, val_main_v37, val_main_v38, val_main_v39, val_main_v40, val_main_v41, val_main_v42, val_main_v43,
      val_main_v44, val_main_v45, val_main_v46, val_main_v47, val_main_v48, val_main_v49, val_main_v50, val_main_v51,
      val_main_v52, val_main_cst_3, val_main_v53, val_main_v54, val_main_v55, val_main_v56, val_main_v57, val_main_cst_4,
      val_main_v58, val_main_v59, val_main_v60, val_main_v61, val_main_v62, val_main_v63, val_main_v64, val_main_v65,
      val_main_cst_5, val_main_v66, val_main_v67, val_main_v68, val_main_v69, val_main_v70, val_main_v71, val_main_v72,
      val_main_cst_6, val_main_v73, val_main_v74, val_main_v75, val_main_cst_7, val_main_v76, val_main_cst_8, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_cst_9, val_main_v114, val_main_v115, val_main_v116,
      val_main_v117, val_main_v118, val_main_v119, val_main_v120, val_main_v121, val_main_v122, val_main_v123, val_main_v124,
      val_main_cst_10, val_main_v125, val_main_v126, val_main_v127, val_main_v128, val_main_v129, val_main_v130, val_main_v131,
      val_main_v132, val_main_cst_11, val_main_v133, val_main_v134, val_main_v135, val_main_v136, val_main_v137, val_main_v138,
      val_main_cst_12, val_main_v139, val_main_v140, val_main_v141, val_main_v142, val_main_v143, val_main_v144, val_main_v145]
  obtain ⟨g, hg⟩ : ∃ g : Fin 32, ⟨r.val / 64, by omega⟩ = g := ⟨_, rfl⟩
  obtain ⟨p, hp⟩ : ∃ p : Fin 64, ⟨r.val % 64, by omega⟩ = p := ⟨_, rfl⟩
  simp only [hg, hp]
  have hd' := hd (ix2 g p)
  have hd2 : (X0 (ix2 g p) * X0 (ix2 g p) + X1 (ix2 g p) * X1 (ix2 g p)) * (X0 (ix2 g p) * X0 (ix2 g p) + X1 (ix2 g p) * X1 (ix2 g p)) ≠ 0 := mul_ne_zero hd' hd'
  simp only [up, zero_sub, ← EReal.coe_one, ← EReal.coe_mul, ← EReal.coe_add, ← EReal.coe_sub, ← EReal.coe_neg, Ideal.exp_coe, Ideal.sin_coe, Ideal.cos_coe,
    coe_sum, Ideal.div_coe hd', Ideal.div_coe hd2]
  refine congrArg _ ?_
  simp only [Finset.sum_add_distrib, Finset.sum_sub_distrib, neg_mul, Finset.sum_neg_distrib, Finset.univ_unique, Finset.sum_singleton, one_mul,
    mul_comm (X7 _), mul_comm (X8 _)]
  generalize (∑ i, X3 (ix3 g p i) * X7 (ix3 g p i)) = s37
  generalize (∑ i, X3 (ix3 g p i) * X8 (ix3 g p i)) = s38
  generalize (∑ i, X4 (ix3 g p i) * X7 (ix3 g p i)) = s47
  generalize (∑ i, X4 (ix3 g p i) * X8 (ix3 g p i)) = s48
  generalize hD : X0 (ix2 g p) * X0 (ix2 g p) + X1 (ix2 g p) * X1 (ix2 g p) = D at hd'
  field_simp
  try simp only [← hD]
  try ring

set_option maxHeartbeats 4000000 in
/-- The gradient of the imaginary part of lambda. -/
theorem out10_eq (hd : ∀ i, X0 i * X0 i + X1 i * X1 i ≠ 0) (r : Fin 2048) :
    out0_10 (col X0) (col X1) (dts X2) (mat X3) (mat X4) (col X5) (col X6) (mat X7) (mat X8) (ix2 r 0)
      = Cert.ReferenceZohIdeal.Read.val_main_v142 (F := Ideal) (up X0) (up X1) (up X2) (up X3) (up X4) (up X5) (up X6) (up X7) (up X8) (ix2 r 0) := by
  unfold out0_10
  rw [View.canon_unit_zero (S := S2048x1) hz2]
  simp only [k0_pay44, k0_pay43, k0_pay42, k0_pay41, k0_pay40, k0_pay39, k0_pay38, k0_pay37, k0_pay36, k0_pay35, k0_pay34, k0_pay33, k0_pay32, k0_pay31, ld_col, ld_mat]
  unfold_payloads
  open Cert.ReferenceZohIdeal.Read in
  pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_cst, val_main_v18, val_main_v19, val_main_v20, val_main_v21, val_main_v22,
      val_main_v23, val_main_v24, val_main_cst_0, val_main_v25, val_main_v26, val_main_v27, val_main_cst_1, val_main_v28,
      val_main_v29, val_main_v30, val_main_v31, val_main_v32, val_main_v33, val_main_cst_2, val_main_v34, val_main_v35,
      val_main_v36, val_main_v37, val_main_v38, val_main_v39, val_main_v40, val_main_v41, val_main_v42, val_main_v43,
      val_main_v44, val_main_v45, val_main_v46, val_main_v47, val_main_v48, val_main_v49, val_main_v50, val_main_v51,
      val_main_v52, val_main_cst_3, val_main_v53, val_main_v54, val_main_v55, val_main_v56, val_main_v57, val_main_cst_4,
      val_main_v58, val_main_v59, val_main_v60, val_main_v61, val_main_v62, val_main_v63, val_main_v64, val_main_v65,
      val_main_cst_5, val_main_v66, val_main_v67, val_main_v68, val_main_v69, val_main_v70, val_main_v71, val_main_v72,
      val_main_cst_6, val_main_v73, val_main_v74, val_main_v75, val_main_cst_7, val_main_v76, val_main_cst_8, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_cst_9, val_main_v114, val_main_v115, val_main_v116,
      val_main_v117, val_main_v118, val_main_v119, val_main_v120, val_main_v121, val_main_v122, val_main_v123, val_main_v124,
      val_main_cst_10, val_main_v125, val_main_v126, val_main_v127, val_main_v128, val_main_v129, val_main_v130, val_main_v131,
      val_main_v132, val_main_cst_11, val_main_v133, val_main_v134, val_main_v135, val_main_v136, val_main_v137, val_main_v138,
      val_main_cst_12, val_main_v139, val_main_v140, val_main_v141, val_main_v142, val_main_v143, val_main_v144, val_main_v145]
  obtain ⟨g, hg⟩ : ∃ g : Fin 32, ⟨r.val / 64, by omega⟩ = g := ⟨_, rfl⟩
  obtain ⟨p, hp⟩ : ∃ p : Fin 64, ⟨r.val % 64, by omega⟩ = p := ⟨_, rfl⟩
  simp only [hg, hp]
  have hd' := hd (ix2 g p)
  have hd2 : (X0 (ix2 g p) * X0 (ix2 g p) + X1 (ix2 g p) * X1 (ix2 g p)) * (X0 (ix2 g p) * X0 (ix2 g p) + X1 (ix2 g p) * X1 (ix2 g p)) ≠ 0 := mul_ne_zero hd' hd'
  simp only [up, zero_sub, ← EReal.coe_one, ← EReal.coe_mul, ← EReal.coe_add, ← EReal.coe_sub, ← EReal.coe_neg, Ideal.exp_coe, Ideal.sin_coe, Ideal.cos_coe,
    coe_sum, Ideal.div_coe hd', Ideal.div_coe hd2]
  refine congrArg _ ?_
  simp only [Finset.sum_add_distrib, Finset.sum_sub_distrib, neg_mul, Finset.sum_neg_distrib, Finset.univ_unique, Finset.sum_singleton, one_mul,
    mul_comm (X7 _), mul_comm (X8 _)]
  generalize (∑ i, X3 (ix3 g p i) * X7 (ix3 g p i)) = s37
  generalize (∑ i, X3 (ix3 g p i) * X8 (ix3 g p i)) = s38
  generalize (∑ i, X4 (ix3 g p i) * X7 (ix3 g p i)) = s47
  generalize (∑ i, X4 (ix3 g p i) * X8 (ix3 g p i)) = s48
  generalize hD : X0 (ix2 g p) * X0 (ix2 g p) + X1 (ix2 g p) * X1 (ix2 g p) = D at hd'
  field_simp
  try simp only [← hD]
  try ring

set_option maxHeartbeats 4000000 in
/-- The gradient of the real part of B. -/
theorem out12_eq (hd : ∀ i, X0 i * X0 i + X1 i * X1 i ≠ 0) (r : Fin 2048) (l : Fin 16) :
    out0_12 (col X0) (col X1) (dts X2) (mat X3) (mat X4) (col X5) (col X6) (mat X7) (mat X8) (ix2 r l)
      = Cert.ReferenceZohIdeal.Read.val_main_v144 (F := Ideal) (up X0) (up X1) (up X2) (up X7) (up X8) (ix2 r l) := by
  unfold out0_12
  rw [View.canon_unit_zero (S := S2048x16) hz2]
  simp only [k0_pay44, k0_pay43, k0_pay42, k0_pay41, k0_pay40, k0_pay39, k0_pay38, k0_pay37, k0_pay36, k0_pay35, k0_pay34, k0_pay33, k0_pay32, k0_pay31, ld_col, ld_mat]
  unfold_payloads
  open Cert.ReferenceZohIdeal.Read in
  pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_cst, val_main_v18, val_main_v19, val_main_v20, val_main_v21, val_main_v22,
      val_main_v23, val_main_v24, val_main_cst_0, val_main_v25, val_main_v26, val_main_v27, val_main_cst_1, val_main_v28,
      val_main_v29, val_main_v30, val_main_v31, val_main_v32, val_main_v33, val_main_cst_2, val_main_v34, val_main_v35,
      val_main_v36, val_main_v37, val_main_v38, val_main_v39, val_main_v40, val_main_v41, val_main_v42, val_main_v43,
      val_main_v44, val_main_v45, val_main_v46, val_main_v47, val_main_v48, val_main_v49, val_main_v50, val_main_v51,
      val_main_v52, val_main_cst_3, val_main_v53, val_main_v54, val_main_v55, val_main_v56, val_main_v57, val_main_cst_4,
      val_main_v58, val_main_v59, val_main_v60, val_main_v61, val_main_v62, val_main_v63, val_main_v64, val_main_v65,
      val_main_cst_5, val_main_v66, val_main_v67, val_main_v68, val_main_v69, val_main_v70, val_main_v71, val_main_v72,
      val_main_cst_6, val_main_v73, val_main_v74, val_main_v75, val_main_cst_7, val_main_v76, val_main_cst_8, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_cst_9, val_main_v114, val_main_v115, val_main_v116,
      val_main_v117, val_main_v118, val_main_v119, val_main_v120, val_main_v121, val_main_v122, val_main_v123, val_main_v124,
      val_main_cst_10, val_main_v125, val_main_v126, val_main_v127, val_main_v128, val_main_v129, val_main_v130, val_main_v131,
      val_main_v132, val_main_cst_11, val_main_v133, val_main_v134, val_main_v135, val_main_v136, val_main_v137, val_main_v138,
      val_main_cst_12, val_main_v139, val_main_v140, val_main_v141, val_main_v142, val_main_v143, val_main_v144, val_main_v145]
  obtain ⟨g, hg⟩ : ∃ g : Fin 32, ⟨r.val / 64, by omega⟩ = g := ⟨_, rfl⟩
  obtain ⟨p, hp⟩ : ∃ p : Fin 64, ⟨r.val % 64, by omega⟩ = p := ⟨_, rfl⟩
  simp only [hg, hp]
  have hd' := hd (ix2 g p)
  have hd2 : (X0 (ix2 g p) * X0 (ix2 g p) + X1 (ix2 g p) * X1 (ix2 g p)) * (X0 (ix2 g p) * X0 (ix2 g p) + X1 (ix2 g p) * X1 (ix2 g p)) ≠ 0 := mul_ne_zero hd' hd'
  simp only [up, zero_sub, ← EReal.coe_one, ← EReal.coe_mul, ← EReal.coe_add, ← EReal.coe_sub, ← EReal.coe_neg, Ideal.exp_coe, Ideal.sin_coe, Ideal.cos_coe,
    coe_sum, Ideal.div_coe hd', Ideal.div_coe hd2]
  refine congrArg _ ?_
  generalize hD : X0 (ix2 g p) * X0 (ix2 g p) + X1 (ix2 g p) * X1 (ix2 g p) = D at hd'
  field_simp
  try simp only [← hD]
  try ring

set_option maxHeartbeats 4000000 in
/-- The gradient of the imaginary part of B. -/
theorem out13_eq (hd : ∀ i, X0 i * X0 i + X1 i * X1 i ≠ 0) (r : Fin 2048) (l : Fin 16) :
    out0_13 (col X0) (col X1) (dts X2) (mat X3) (mat X4) (col X5) (col X6) (mat X7) (mat X8) (ix2 r l)
      = Cert.ReferenceZohIdeal.Read.val_main_v145 (F := Ideal) (up X0) (up X1) (up X2) (up X7) (up X8) (ix2 r l) := by
  unfold out0_13
  rw [View.canon_unit_zero (S := S2048x16) hz2]
  simp only [k0_pay44, k0_pay43, k0_pay42, k0_pay41, k0_pay40, k0_pay39, k0_pay38, k0_pay37, k0_pay36, k0_pay35, k0_pay34, k0_pay33, k0_pay32, k0_pay31, ld_col, ld_mat]
  unfold_payloads
  open Cert.ReferenceZohIdeal.Read in
  pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_cst, val_main_v18, val_main_v19, val_main_v20, val_main_v21, val_main_v22,
      val_main_v23, val_main_v24, val_main_cst_0, val_main_v25, val_main_v26, val_main_v27, val_main_cst_1, val_main_v28,
      val_main_v29, val_main_v30, val_main_v31, val_main_v32, val_main_v33, val_main_cst_2, val_main_v34, val_main_v35,
      val_main_v36, val_main_v37, val_main_v38, val_main_v39, val_main_v40, val_main_v41, val_main_v42, val_main_v43,
      val_main_v44, val_main_v45, val_main_v46, val_main_v47, val_main_v48, val_main_v49, val_main_v50, val_main_v51,
      val_main_v52, val_main_cst_3, val_main_v53, val_main_v54, val_main_v55, val_main_v56, val_main_v57, val_main_cst_4,
      val_main_v58, val_main_v59, val_main_v60, val_main_v61, val_main_v62, val_main_v63, val_main_v64, val_main_v65,
      val_main_cst_5, val_main_v66, val_main_v67, val_main_v68, val_main_v69, val_main_v70, val_main_v71, val_main_v72,
      val_main_cst_6, val_main_v73, val_main_v74, val_main_v75, val_main_cst_7, val_main_v76, val_main_cst_8, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_cst_9, val_main_v114, val_main_v115, val_main_v116,
      val_main_v117, val_main_v118, val_main_v119, val_main_v120, val_main_v121, val_main_v122, val_main_v123, val_main_v124,
      val_main_cst_10, val_main_v125, val_main_v126, val_main_v127, val_main_v128, val_main_v129, val_main_v130, val_main_v131,
      val_main_v132, val_main_cst_11, val_main_v133, val_main_v134, val_main_v135, val_main_v136, val_main_v137, val_main_v138,
      val_main_cst_12, val_main_v139, val_main_v140, val_main_v141, val_main_v142, val_main_v143, val_main_v144, val_main_v145]
  obtain ⟨g, hg⟩ : ∃ g : Fin 32, ⟨r.val / 64, by omega⟩ = g := ⟨_, rfl⟩
  obtain ⟨p, hp⟩ : ∃ p : Fin 64, ⟨r.val % 64, by omega⟩ = p := ⟨_, rfl⟩
  simp only [hg, hp]
  have hd' := hd (ix2 g p)
  have hd2 : (X0 (ix2 g p) * X0 (ix2 g p) + X1 (ix2 g p) * X1 (ix2 g p)) * (X0 (ix2 g p) * X0 (ix2 g p) + X1 (ix2 g p) * X1 (ix2 g p)) ≠ 0 := mul_ne_zero hd' hd'
  simp only [up, zero_sub, ← EReal.coe_one, ← EReal.coe_mul, ← EReal.coe_add, ← EReal.coe_sub, ← EReal.coe_neg, Ideal.exp_coe, Ideal.sin_coe, Ideal.cos_coe,
    coe_sum, Ideal.div_coe hd', Ideal.div_coe hd2]
  refine congrArg _ ?_
  generalize hD : X0 (ix2 g p) * X0 (ix2 g p) + X1 (ix2 g p) * X1 (ix2 g p) = D at hd'
  field_simp
  try simp only [← hD]
  try ring

theorem quot_apply (r : Fin 2048) (q : Fin 32) :
    select (k0_pay29) (subi k0_pay28 k0_pay30) k0_pay28 (ix2 r q) = BitVec.ofNat 32 (r.val / 64) := by
  pointwise [k0_pay28, k0_pay29, k0_pay30]
  revert r
  decide +kernel

theorem mask_apply (r : Fin 2048) (q : Fin 32) :
    IntOp.cmpi .eq (Scalar.select (k0_pay29 (ix2 r q)) (IntOp.subi (k0_pay28 (ix2 r q)) (k0_pay30 (ix2 r q))) (k0_pay28 (ix2 r q)))
      (BitVec.ofNat 32 q.val) = if r.val / 64 = q.val then 1#1 else 0#1 := by
  refine (congrArg (fun w => IntOp.cmpi .eq w (BitVec.ofNat 32 q.val)) (quot_apply r q)).trans ?_
  revert q
  have h : r.val / 64 < 32 := by omega
  generalize r.val / 64 = n at h
  revert n
  decide +kernel

/-- The row of state `p` of group `q`. -/
def rowOf (q : Fin 32) (p : Fin 64) : Fin 2048 := ⟨q.val * 64 + p.val, by omega⟩

theorem rowOf_div (q : Fin 32) (p : Fin 64) (h : (rowOf q p).val / 64 < 32) : (⟨(rowOf q p).val / 64, h⟩ : Fin 32) = q :=
  Fin.ext (by show (q.val * 64 + p.val) / 64 = q.val; omega)

theorem rowOf_mod (q : Fin 32) (p : Fin 64) (h : (rowOf q p).val % 64 < 64) : (⟨(rowOf q p).val % 64, h⟩ : Fin 64) = p :=
  Fin.ext (by show (q.val * 64 + p.val) % 64 = p.val; omega)

/-- A sum over the rows of group `q`, picked out of all rows by a mask, is the sum over the states of the group. -/
theorem sum_group (f : Fin 2048 → EReal) (q : Fin 32) :
    ∑ r : Fin 2048, (if r.val / 64 = q.val then f r else 0) = ∑ p : Fin 64, f (rowOf q p) := by
  rw [← (finProdFinEquiv (m := 32) (n := 64)).sum_comp, Fintype.sum_prod_type, Finset.sum_eq_single q]
  · refine Finset.sum_congr rfl fun p _ => ?_
    have h : (finProdFinEquiv (m := 32) (n := 64) (q, p)).val = q.val * 64 + p.val := by simp [finProdFinEquiv]; omega
    rw [if_pos (by rw [h]; omega)]
    exact congrArg f (Fin.ext h)
  · intro g _ hg
    refine Finset.sum_eq_zero fun p _ => if_neg ?_
    have h : (finProdFinEquiv (m := 32) (n := 64) (g, p)).val = g.val * 64 + p.val := by simp [finProdFinEquiv]; omega
    rw [h]
    intro e
    exact hg (Fin.ext (by omega))
  · simp

/-- The kernel's last row: the masked column sum of the per-state derivative `v`. -/
theorem pay1_apply (v : FVec Ideal S2048x1 .f32) (q : Fin 32) :
    k0_pay1 v k0_pay28 k0_pay29 k0_pay30 (ix2 0 q) = ∑ p : Fin 64, v (ix2 (rowOf q p) 0) := by
  rw [← sum_group fun r => v (ix2 r 0)]
  unfold k0_pay1
  pointwise
  refine Finset.sum_congr rfl fun r _ => ?_
  rw [mask_apply r q]
  by_cases h : r.val / 64 = q.val
  · rw [if_pos h, if_pos h]; rfl
  · rw [if_neg h, if_neg h]; rfl

set_option maxHeartbeats 4000000 in
/-- The gradient of log dt. -/
theorem out11_eq (hd : ∀ i, X0 i * X0 i + X1 i * X1 i ≠ 0) (q : Fin 32) :
    out0_11 (col X0) (col X1) (dts X2) (mat X3) (mat X4) (col X5) (col X6) (mat X7) (mat X8) (ix2 0 q)
      = Cert.ReferenceZohIdeal.Read.val_main_v143 (F := Ideal) (up X0) (up X1) (up X2) (up X3) (up X4) (up X5) (up X6) (up X7) (up X8) (ix2 0 q) := by
  unfold out0_11
  rw [View.canon_unit_zero (S := S1x32) hz2, pay1_apply]
  simp only [k0_pay44, k0_pay43, k0_pay42, k0_pay41, k0_pay40, k0_pay39, k0_pay38, k0_pay37, k0_pay36, k0_pay35, k0_pay34, k0_pay33, k0_pay32, k0_pay31, ld_col, ld_mat]
  unfold_payloads
  open Cert.ReferenceZohIdeal.Read in
  pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_cst, val_main_v18, val_main_v19, val_main_v20, val_main_v21, val_main_v22,
      val_main_v23, val_main_v24, val_main_cst_0, val_main_v25, val_main_v26, val_main_v27, val_main_cst_1, val_main_v28,
      val_main_v29, val_main_v30, val_main_v31, val_main_v32, val_main_v33, val_main_cst_2, val_main_v34, val_main_v35,
      val_main_v36, val_main_v37, val_main_v38, val_main_v39, val_main_v40, val_main_v41, val_main_v42, val_main_v43,
      val_main_v44, val_main_v45, val_main_v46, val_main_v47, val_main_v48, val_main_v49, val_main_v50, val_main_v51,
      val_main_v52, val_main_cst_3, val_main_v53, val_main_v54, val_main_v55, val_main_v56, val_main_v57, val_main_cst_4,
      val_main_v58, val_main_v59, val_main_v60, val_main_v61, val_main_v62, val_main_v63, val_main_v64, val_main_v65,
      val_main_cst_5, val_main_v66, val_main_v67, val_main_v68, val_main_v69, val_main_v70, val_main_v71, val_main_v72,
      val_main_cst_6, val_main_v73, val_main_v74, val_main_v75, val_main_cst_7, val_main_v76, val_main_cst_8, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_cst_9, val_main_v114, val_main_v115, val_main_v116,
      val_main_v117, val_main_v118, val_main_v119, val_main_v120, val_main_v121, val_main_v122, val_main_v123, val_main_v124,
      val_main_cst_10, val_main_v125, val_main_v126, val_main_v127, val_main_v128, val_main_v129, val_main_v130, val_main_v131,
      val_main_v132, val_main_cst_11, val_main_v133, val_main_v134, val_main_v135, val_main_v136, val_main_v137, val_main_v138,
      val_main_cst_12, val_main_v139, val_main_v140, val_main_v141, val_main_v142, val_main_v143, val_main_v144, val_main_v145]
  have hdiv := fun i x => Ideal.div_coe (hd i) x
  simp only [rowOf_div, rowOf_mod]
  simp only [up, zero_sub, ← EReal.coe_one, ← EReal.coe_mul, ← EReal.coe_add, ← EReal.coe_sub, ← EReal.coe_neg, Ideal.exp_coe, Ideal.sin_coe, Ideal.cos_coe,
    coe_sum, hdiv]
  refine congrArg _ ?_
  simp only [← Finset.sum_add_distrib]
  simp only [Finset.univ_unique, Finset.sum_singleton]
  rw [Finset.sum_mul]
  refine Finset.sum_congr rfl fun p _ => ?_
  simp only [← Finset.sum_mul, Finset.sum_add_distrib, Finset.sum_sub_distrib, neg_mul, Finset.sum_neg_distrib, Finset.univ_unique, Finset.sum_singleton, one_mul,
    mul_comm (X7 _), mul_comm (X8 _)]
  generalize (∑ i, X3 (ix3 q p i) * X7 (ix3 q p i)) = s37
  generalize (∑ i, X3 (ix3 q p i) * X8 (ix3 q p i)) = s38
  generalize (∑ i, X4 (ix3 q p i) * X7 (ix3 q p i)) = s47
  generalize (∑ i, X4 (ix3 q p i) * X8 (ix3 q p i)) = s48
  have hd' := hd (ix2 q p)
  generalize hD : X0 (ix2 q p) * X0 (ix2 q p) + X1 (ix2 q p) * X1 (ix2 q p) = D at hd'
  field_simp
  ring

end Cert.Proof.Zoh

end
-- ==== Proof.Zoh.Claim.lean ====
/- Hand-written, untrusted: THE CLAIM ABOUT THE DISCRETISATION GRADIENT. The precondition makes every argument an array of
   real numbers with no decay rate at zero (`reals`); on such arguments the kernel's five functions are the reference's
   (Zoh/Real.lean); so the two runs leave the same arrays (`algebraic`). -/
module

public import proofs.«01_k».proof.Defs
public import proofs.«01_k».proof.Proof.Zoh.Real
public import proofs.«01_k».proof.Proof.Gen.KernelZoh.Frame
public import proofs.«01_k».proof.Proof.Gen.Pre_zoh_finite

@[expose] public section

noncomputable section

namespace Cert.Proof.Zoh

open Idealize.ShloMosaic Idealize.ShloMosaic.TcCoe Idealize.SL.Sem
open Cert.Proof.Tools
open Cert.KernelZohIdeal (main_arg0 main_arg1 main_arg2 main_arg3 main_arg4 main_arg5 main_arg6 main_arg7 main_arg8)

/-- A kernel's argument array on one device. -/
local notation "arg[" m ", " c ", " a "]" => m (Thread.loc (Dev.tc c : Thread Cert.KernelZohIdeal.nD Cert.KernelZohIdeal.τ) a)

/-- The precondition of one device's arguments, read: real numbers, and no decay rate at zero. -/
theorem reals (x0 x1 : Vec Ideal Cert.KernelZohIdeal.S32x64 .f32) (x2 : Vec Ideal Cert.KernelZohIdeal.S32 .f32) (x3 x4 : Vec Ideal Cert.KernelZohIdeal.S32x64x16 .f32)
    (x5 x6 : Vec Ideal Cert.KernelZohIdeal.S32x64 .f32) (x7 x8 : Vec Ideal Cert.KernelZohIdeal.S32x64x16 .f32)
    (h : Cert.Pre_zoh_finite.fn (F := Ideal) x0 x1 x2 x3 x4 x5 x6 x7 x8 = (fun _ => 1#1, fun _ => 1#1, fun _ => 1#1, fun _ => 1#1, fun _ => 1#1, fun _ => 1#1,
      fun _ => 1#1, fun _ => 1#1, fun _ => 1#1, fun _ => 1#1)) :
    ∃ (X0 X1 : Cert.KernelZohIdeal.S32x64.Idx → ℝ) (X2 : Cert.KernelZohIdeal.S32.Idx → ℝ) (X3 X4 : Cert.KernelZohIdeal.S32x64x16.Idx → ℝ) (X5 X6 : Cert.KernelZohIdeal.S32x64.Idx → ℝ)
      (X7 X8 : Cert.KernelZohIdeal.S32x64x16.Idx → ℝ), (∀ i, X0 i * X0 i + X1 i * X1 i ≠ 0) ∧ x0 = up X0 ∧ x1 = up X1 ∧ x2 = up X2 ∧ x3 = up X3 ∧ x4 = up X4 ∧ x5 = up X5 ∧ x6 = up X6 ∧ x7 = up X7 ∧ x8 = up X8 := by
  simp only [Cert.Pre_zoh_finite.fn, Cert.Pre_zoh_finite.fn_part1, Prod.mk.injEq] at h
  obtain ⟨h0, h1, h2, h3, h4, h5, h6, h7, h8, h9⟩ := h
  obtain ⟨X0, rfl⟩ := exists_up _ _ (fun _ => inf_word) h0
  obtain ⟨X1, rfl⟩ := exists_up _ _ (fun _ => inf_word) h1
  obtain ⟨X2, rfl⟩ := exists_up _ _ (fun _ => inf_word) h2
  obtain ⟨X3, rfl⟩ := exists_up _ _ (fun _ => inf_word) h3
  obtain ⟨X4, rfl⟩ := exists_up _ _ (fun _ => inf_word) h4
  obtain ⟨X5, rfl⟩ := exists_up _ _ (fun _ => inf_word) h5
  obtain ⟨X6, rfl⟩ := exists_up _ _ (fun _ => inf_word) h6
  obtain ⟨X7, rfl⟩ := exists_up _ _ (fun _ => inf_word) h7
  obtain ⟨X8, rfl⟩ := exists_up _ _ (fun _ => inf_word) h8
  refine ⟨X0, X1, X2, X3, X4, X5, X6, X7, X8, fun i e => ?_, rfl, rfl, rfl, rfl, rfl, rfl, rfl, rfl, rfl⟩
  have e' : BitVec.ofBool (decide (((X0 i : ℝ) : EReal) * ((X0 i : ℝ) : EReal) + ((X1 i : ℝ) : EReal) * ((X1 i : ℝ) : EReal)
      > Ideal.ofBits .f32 0#32)) = 1#1 := congrFun h9 i
  rw [← EReal.coe_mul, ← EReal.coe_mul, ← EReal.coe_add, e, zero_word] at e'
  simp at e'

variable (X0 X1 : Cert.KernelZohIdeal.S32x64.Idx → ℝ) (X2 : Cert.KernelZohIdeal.S32.Idx → ℝ) (X3 X4 : Cert.KernelZohIdeal.S32x64x16.Idx → ℝ) (X5 X6 : Cert.KernelZohIdeal.S32x64.Idx → ℝ)
  (X7 X8 : Cert.KernelZohIdeal.S32x64x16.Idx → ℝ)

/-- Each result array of the kernel is the reference's. -/
theorem G9_eq (hd : ∀ i, X0 i * X0 i + X1 i * X1 i ≠ 0) :
    G9 (F := Ideal) (up X0) (up X1) (up X2) (up X3) (up X4) (up X5) (up X6) (up X7) (up X8) = Cert.ReferenceZohIdeal.Read.val_main_v141 (F := Ideal) (up X0) (up X1) (up X2) (up X3) (up X4) (up X5) (up X6) (up X7) (up X8) := funext fun i => by
  obtain ⟨a, b, rfl⟩ : ∃ a b, i = ix2 a b := ⟨_, _, eq_ix2 i⟩
  obtain rfl : b = 0 := Subsingleton.elim _ _
  exact out9_eq X0 X1 X2 X3 X4 X5 X6 X7 X8 hd a

theorem G10_eq (hd : ∀ i, X0 i * X0 i + X1 i * X1 i ≠ 0) :
    G10 (F := Ideal) (up X0) (up X1) (up X2) (up X3) (up X4) (up X5) (up X6) (up X7) (up X8) = Cert.ReferenceZohIdeal.Read.val_main_v142 (F := Ideal) (up X0) (up X1) (up X2) (up X3) (up X4) (up X5) (up X6) (up X7) (up X8) := funext fun i => by
  obtain ⟨a, b, rfl⟩ : ∃ a b, i = ix2 a b := ⟨_, _, eq_ix2 i⟩
  obtain rfl : b = 0 := Subsingleton.elim _ _
  exact out10_eq X0 X1 X2 X3 X4 X5 X6 X7 X8 hd a

theorem G11_eq (hd : ∀ i, X0 i * X0 i + X1 i * X1 i ≠ 0) :
    G11 (F := Ideal) (up X0) (up X1) (up X2) (up X3) (up X4) (up X5) (up X6) (up X7) (up X8) = Cert.ReferenceZohIdeal.Read.val_main_v143 (F := Ideal) (up X0) (up X1) (up X2) (up X3) (up X4) (up X5) (up X6) (up X7) (up X8) := funext fun i => by
  obtain ⟨a, b, rfl⟩ : ∃ a b, i = ix2 a b := ⟨_, _, eq_ix2 i⟩
  obtain rfl : a = 0 := Subsingleton.elim _ _
  exact out11_eq X0 X1 X2 X3 X4 X5 X6 X7 X8 hd b

theorem G12_eq (hd : ∀ i, X0 i * X0 i + X1 i * X1 i ≠ 0) :
    G12 (F := Ideal) (up X0) (up X1) (up X2) (up X3) (up X4) (up X5) (up X6) (up X7) (up X8) = Cert.ReferenceZohIdeal.Read.val_main_v144 (F := Ideal) (up X0) (up X1) (up X2) (up X7) (up X8) := funext fun i => by
  obtain ⟨a, b, rfl⟩ : ∃ a b, i = ix2 a b := ⟨_, _, eq_ix2 i⟩
  exact out12_eq X0 X1 X2 X3 X4 X5 X6 X7 X8 hd a b

theorem G13_eq (hd : ∀ i, X0 i * X0 i + X1 i * X1 i ≠ 0) :
    G13 (F := Ideal) (up X0) (up X1) (up X2) (up X3) (up X4) (up X5) (up X6) (up X7) (up X8) = Cert.ReferenceZohIdeal.Read.val_main_v145 (F := Ideal) (up X0) (up X1) (up X2) (up X7) (up X8) := funext fun i => by
  obtain ⟨a, b, rfl⟩ : ∃ a b, i = ix2 a b := ⟨_, _, eq_ix2 i⟩
  exact out13_eq X0 X1 X2 X3 X4 X5 X6 X7 X8 hd a b

/-- The reference's run leaves its arguments as they were; it has no semaphore. -/
theorem frame_reference : Cert.quiescent_ReferenceZohIdeal (hReferenceZohIdeal := Cert.ReferenceZohIdeal.Gen.facts) := fun m g _ =>
  (θ_run Cert.ReferenceZohIdeal.defs _ _).mono (fun r h => ⟨fun c => (h c).2.2.2.2.2, sem_eq_zero_of_no_sems (by decide) r.2⟩)
    (Cert.ReferenceZohIdeal.Value.run (F := Ideal) m g)

/-- The two programs end at the same arrays. -/
theorem algebraic : Cert.algebraic_KernelZohIdeal_ReferenceZohIdeal_pre_zoh_finite (hKernelZohIdeal := Cert.KernelZohIdeal.Gen.facts)
    (hReferenceZohIdeal := Cert.ReferenceZohIdeal.Gen.facts) (hPre_zoh_finite := Cert.Pre_zoh_finite.Gen.facts) := by
  intro m g m' g' hpre hagree
  have hval : ∀ c : Dev Cert.KernelZohIdeal.nD, (G9 (F := Ideal) arg[m, c, main_arg0] arg[m, c, main_arg1] arg[m, c, main_arg2] arg[m, c, main_arg3] arg[m, c, main_arg4] arg[m, c, main_arg5] arg[m, c, main_arg6] arg[m, c, main_arg7] arg[m, c, main_arg8] = Cert.ReferenceZohIdeal.Read.val_main_v141 (F := Ideal) (m' ((c.tc : Thread Cert.ReferenceZohIdeal.nD Cert.ReferenceZohIdeal.τ).loc Cert.ReferenceZohIdeal.main_arg0)) (m' ((c.tc : Thread Cert.ReferenceZohIdeal.nD Cert.ReferenceZohIdeal.τ).loc Cert.ReferenceZohIdeal.main_arg1)) (m' ((c.tc : Thread Cert.ReferenceZohIdeal.nD Cert.ReferenceZohIdeal.τ).loc Cert.ReferenceZohIdeal.main_arg2)) (m' ((c.tc : Thread Cert.ReferenceZohIdeal.nD Cert.ReferenceZohIdeal.τ).loc Cert.ReferenceZohIdeal.main_arg3)) (m' ((c.tc : Thread Cert.ReferenceZohIdeal.nD Cert.ReferenceZohIdeal.τ).loc Cert.ReferenceZohIdeal.main_arg4)) (m' ((c.tc : Thread Cert.ReferenceZohIdeal.nD Cert.ReferenceZohIdeal.τ).loc Cert.ReferenceZohIdeal.main_arg5)) (m' ((c.tc : Thread Cert.ReferenceZohIdeal.nD Cert.ReferenceZohIdeal.τ).loc Cert.ReferenceZohIdeal.main_arg6)) (m' ((c.tc : Thread Cert.ReferenceZohIdeal.nD Cert.ReferenceZohIdeal.τ).loc Cert.ReferenceZohIdeal.main_arg7)) (m' ((c.tc : Thread Cert.ReferenceZohIdeal.nD Cert.ReferenceZohIdeal.τ).loc Cert.ReferenceZohIdeal.main_arg8)) ∧ G10 (F := Ideal) arg[m, c, main_arg0] arg[m, c, main_arg1] arg[m, c, main_arg2] arg[m, c, main_arg3] arg[m, c, main_arg4] arg[m, c, main_arg5] arg[m, c, main_arg6] arg[m, c, main_arg7] arg[m, c, main_arg8] = Cert.ReferenceZohIdeal.Read.val_main_v142 (F := Ideal) (m' ((c.tc : Thread Cert.ReferenceZohIdeal.nD Cert.ReferenceZohIdeal.τ).loc Cert.ReferenceZohIdeal.main_arg0)) (m' ((c.tc : Thread Cert.ReferenceZohIdeal.nD Cert.ReferenceZohIdeal.τ).loc Cert.ReferenceZohIdeal.main_arg1)) (m' ((c.tc : Thread Cert.ReferenceZohIdeal.nD Cert.ReferenceZohIdeal.τ).loc Cert.ReferenceZohIdeal.main_arg2)) (m' ((c.tc : Thread Cert.ReferenceZohIdeal.nD Cert.ReferenceZohIdeal.τ).loc Cert.ReferenceZohIdeal.main_arg3)) (m' ((c.tc : Thread Cert.ReferenceZohIdeal.nD Cert.ReferenceZohIdeal.τ).loc Cert.ReferenceZohIdeal.main_arg4)) (m' ((c.tc : Thread Cert.ReferenceZohIdeal.nD Cert.ReferenceZohIdeal.τ).loc Cert.ReferenceZohIdeal.main_arg5)) (m' ((c.tc : Thread Cert.ReferenceZohIdeal.nD Cert.ReferenceZohIdeal.τ).loc Cert.ReferenceZohIdeal.main_arg6)) (m' ((c.tc : Thread Cert.ReferenceZohIdeal.nD Cert.ReferenceZohIdeal.τ).loc Cert.ReferenceZohIdeal.main_arg7)) (m' ((c.tc : Thread Cert.ReferenceZohIdeal.nD Cert.ReferenceZohIdeal.τ).loc Cert.ReferenceZohIdeal.main_arg8)) ∧ G11 (F := Ideal) arg[m, c, main_arg0] arg[m, c, main_arg1] arg[m, c, main_arg2] arg[m, c, main_arg3] arg[m, c, main_arg4] arg[m, c, main_arg5] arg[m, c, main_arg6] arg[m, c, main_arg7] arg[m, c, main_arg8] = Cert.ReferenceZohIdeal.Read.val_main_v143 (F := Ideal) (m' ((c.tc : Thread Cert.ReferenceZohIdeal.nD Cert.ReferenceZohIdeal.τ).loc Cert.ReferenceZohIdeal.main_arg0)) (m' ((c.tc : Thread Cert.ReferenceZohIdeal.nD Cert.ReferenceZohIdeal.τ).loc Cert.ReferenceZohIdeal.main_arg1)) (m' ((c.tc : Thread Cert.ReferenceZohIdeal.nD Cert.ReferenceZohIdeal.τ).loc Cert.ReferenceZohIdeal.main_arg2)) (m' ((c.tc : Thread Cert.ReferenceZohIdeal.nD Cert.ReferenceZohIdeal.τ).loc Cert.ReferenceZohIdeal.main_arg3)) (m' ((c.tc : Thread Cert.ReferenceZohIdeal.nD Cert.ReferenceZohIdeal.τ).loc Cert.ReferenceZohIdeal.main_arg4)) (m' ((c.tc : Thread Cert.ReferenceZohIdeal.nD Cert.ReferenceZohIdeal.τ).loc Cert.ReferenceZohIdeal.main_arg5)) (m' ((c.tc : Thread Cert.ReferenceZohIdeal.nD Cert.ReferenceZohIdeal.τ).loc Cert.ReferenceZohIdeal.main_arg6)) (m' ((c.tc : Thread Cert.ReferenceZohIdeal.nD Cert.ReferenceZohIdeal.τ).loc Cert.ReferenceZohIdeal.main_arg7)) (m' ((c.tc : Thread Cert.ReferenceZohIdeal.nD Cert.ReferenceZohIdeal.τ).loc Cert.ReferenceZohIdeal.main_arg8)) ∧ G12 (F := Ideal) arg[m, c, main_arg0] arg[m, c, main_arg1] arg[m, c, main_arg2] arg[m, c, main_arg3] arg[m, c, main_arg4] arg[m, c, main_arg5] arg[m, c, main_arg6] arg[m, c, main_arg7] arg[m, c, main_arg8] = Cert.ReferenceZohIdeal.Read.val_main_v144 (F := Ideal) (m' ((c.tc : Thread Cert.ReferenceZohIdeal.nD Cert.ReferenceZohIdeal.τ).loc Cert.ReferenceZohIdeal.main_arg0)) (m' ((c.tc : Thread Cert.ReferenceZohIdeal.nD Cert.ReferenceZohIdeal.τ).loc Cert.ReferenceZohIdeal.main_arg1)) (m' ((c.tc : Thread Cert.ReferenceZohIdeal.nD Cert.ReferenceZohIdeal.τ).loc Cert.ReferenceZohIdeal.main_arg2)) (m' ((c.tc : Thread Cert.ReferenceZohIdeal.nD Cert.ReferenceZohIdeal.τ).loc Cert.ReferenceZohIdeal.main_arg7)) (m' ((c.tc : Thread Cert.ReferenceZohIdeal.nD Cert.ReferenceZohIdeal.τ).loc Cert.ReferenceZohIdeal.main_arg8)) ∧ G13 (F := Ideal) arg[m, c, main_arg0] arg[m, c, main_arg1] arg[m, c, main_arg2] arg[m, c, main_arg3] arg[m, c, main_arg4] arg[m, c, main_arg5] arg[m, c, main_arg6] arg[m, c, main_arg7] arg[m, c, main_arg8] = Cert.ReferenceZohIdeal.Read.val_main_v145 (F := Ideal) (m' ((c.tc : Thread Cert.ReferenceZohIdeal.nD Cert.ReferenceZohIdeal.τ).loc Cert.ReferenceZohIdeal.main_arg0)) (m' ((c.tc : Thread Cert.ReferenceZohIdeal.nD Cert.ReferenceZohIdeal.τ).loc Cert.ReferenceZohIdeal.main_arg1)) (m' ((c.tc : Thread Cert.ReferenceZohIdeal.nD Cert.ReferenceZohIdeal.τ).loc Cert.ReferenceZohIdeal.main_arg2)) (m' ((c.tc : Thread Cert.ReferenceZohIdeal.nD Cert.ReferenceZohIdeal.τ).loc Cert.ReferenceZohIdeal.main_arg7)) (m' ((c.tc : Thread Cert.ReferenceZohIdeal.nD Cert.ReferenceZohIdeal.τ).loc Cert.ReferenceZohIdeal.main_arg8))) := by
    intro c
    obtain ⟨a0, a1, a2, a3, a4, a5, a6, a7, a8⟩ := hagree c
    obtain ⟨p0, p1, p2, p3, p4, p5, p6, p7, p8, p9⟩ := hpre c
    obtain ⟨X0, X1, X2, X3, X4, X5, X6, X7, X8, hd, e0, e1, e2, e3, e4, e5, e6, e7, e8⟩ := reals _ _ _ _ _ _ _ _ _
      (Prod.ext p0 (Prod.ext p1 (Prod.ext p2 (Prod.ext p3 (Prod.ext p4 (Prod.ext p5 (Prod.ext p6 (Prod.ext p7 (Prod.ext p8 p9)))))))))
    rw [a0, a1, a2, a3, a4, a5, a6, a7, a8, e0, e1, e2, e3, e4, e5, e6, e7, e8]
    exact ⟨G9_eq X0 X1 X2 X3 X4 X5 X6 X7 X8 hd, G10_eq X0 X1 X2 X3 X4 X5 X6 X7 X8 hd, G11_eq X0 X1 X2 X3 X4 X5 X6 X7 X8 hd, G12_eq X0 X1 X2 X3 X4 X5 X6 X7 X8 hd, G13_eq X0 X1 X2 X3 X4 X5 X6 X7 X8 hd⟩
  refine ⟨_, _, _, _, _, run (F := Ideal) m g, ?_⟩
  refine (θ_run Cert.ReferenceZohIdeal.defs _ _).mono (fun r h c => ?_) (Cert.ReferenceZohIdeal.Value.run (F := Ideal) m' g')
  obtain ⟨h0, h1, h2, h3, h4, hrest⟩ := h c
  obtain ⟨v0, v1, v2, v3, v4⟩ := hval c
  exact ⟨(h0.trans (Cert.ReferenceZohIdeal.Read.val_main_v141_eq m' c)).trans v0.symm, (h1.trans (Cert.ReferenceZohIdeal.Read.val_main_v142_eq m' c)).trans v1.symm,
    (h2.trans (Cert.ReferenceZohIdeal.Read.val_main_v143_eq m' c)).trans v2.symm, (h3.trans (Cert.ReferenceZohIdeal.Read.val_main_v144_eq _ _ _ _ _)).trans v3.symm,
    (h4.trans (Cert.ReferenceZohIdeal.Read.val_main_v145_eq _ _ _ _ _)).trans v4.symm, hrest⟩

end Cert.Proof.Zoh

end
-- ==== Proof.Rms.lean ====
/- Hand-written, untrusted: the gradient of `x ↦ x / √(mean x² + ε)` on real numbers, in the form the kernels compute it and
   in the form differentiation line by line gives; and sums over an array's rows taken block by block. -/
module

public import proofs.«01_k».proof.Proof.Tools

@[expose] public section

noncomputable section

namespace Cert.Proof.Rms

open Idealize.ShloMosaic Cert.Proof.Tools

/-- The number of a row's elements, as the programs write it. -/
theorem width_word : Ideal.ofBits .f32 1149239296#32 = ((1024 : ℝ) : EReal) := by
  simp [Ideal.ofBits, Ideal.ieee]; rw [← EReal.coe_mul]; norm_num

/-- The word of minus one half. -/
theorem neg_half_word : Ideal.ofBits .f32 3204448256#32 = ((-(1 / 2) : ℝ) : EReal) := by
  simp [Ideal.ofBits, Ideal.ieee]; rw [← EReal.coe_mul]; norm_num

/-- The norm's epsilon is a positive real number. -/
theorem eps_word : ∃ e : ℝ, 0 < e ∧ Ideal.ofBits .f32 897988541#32 = (e : EReal) := by
  refine ⟨8796093 / 8796093022208, by norm_num, ?_⟩
  simp [Ideal.ofBits, Ideal.ieee]; rw [← EReal.coe_mul]; norm_num

/-- The mean of squares with epsilon, and the reciprocal of its root: a positive real number, whose square times the mean
    is one. -/
theorem exists_rsqrt (x : Fin 1024 → ℝ) : ∃ m r : ℝ, 0 < m ∧ 0 < r ∧ r * r * m = 1
    ∧ Ideal.div (∑ k, (x k : EReal) * (x k : EReal)) (Ideal.ofBits .f32 1149239296#32) + Ideal.ofBits .f32 897988541#32 = (m : EReal)
    ∧ Ideal.rsqrt (m : EReal) = (r : EReal) := by
  obtain ⟨e, he, hw⟩ := eps_word
  have hm : 0 < (∑ k, x k * x k) * (1 / 1024) + e :=
    add_pos_of_nonneg_of_pos (mul_nonneg (Finset.sum_nonneg fun k _ => mul_self_nonneg _) (by norm_num)) he
  refine ⟨_, (Real.sqrt ((∑ k, x k * x k) * (1 / 1024) + e))⁻¹, hm, inv_pos.mpr (Real.sqrt_pos.mpr hm), ?_, ?_, ?_⟩
  · rw [← mul_inv, Real.mul_self_sqrt hm.le, inv_mul_cancel₀ hm.ne']
  · rw [width_word, hw, Ideal.div_coe (by norm_num : (1024 : ℝ) ≠ 0)]
    simp only [← EReal.coe_mul, ← EReal.coe_add, coe_sum]
  · rw [Ideal.rsqrt_coe, if_neg hm.not_gt, if_neg hm.ne']

/-- A row's mean square with epsilon, and the reciprocal of its root, as the programs write them. -/
abbrev ms (x : Fin 1024 → EReal) : EReal := Ideal.div (∑ k, x k * x k) (Ideal.ofBits .f32 1149239296#32) + Ideal.ofBits .f32 897988541#32
abbrev rs (x : Fin 1024 → EReal) : EReal := Ideal.rsqrt (ms x)

/-- The kernels' gradient at one element: of the row `x`, with `w` the cotangent times the gain, and `d` the residual's
    cotangent: `d + (r·w − x·r³·mean(x·w))`. -/
abbrev kernelGrad (x w : Fin 1024 → EReal) (d : EReal) (j : Fin 1024) : EReal :=
  d + (rs x * w j - x j * (rs x * rs x * rs x) * Ideal.div (∑ k, x k * w k) (Ideal.ofBits .f32 1149239296#32))

/-- What differentiation of the forward line sends through the square: the cotangent of the root, over the row's length. -/
abbrev squareGrad (x w : Fin 1024 → EReal) : EReal :=
  ∑ _i : Fin 1, Ideal.div ((∑ k, x k * w k) * (Ideal.ofBits .f32 3204448256#32 * Ideal.div (rs x) (ms x))) (Ideal.ofBits .f32 1149239296#32)

/-- What differentiation of the forward line gives: through the product, and through the square once for each factor. -/
abbrev referenceGrad (x w : Fin 1024 → EReal) (d : EReal) (j : Fin 1024) : EReal :=
  d + w j * rs x + x j * squareGrad x w + squareGrad x w * x j

/-- THE NORM'S GRADIENT: the two forms agree where the row and the weighted cotangent are real numbers. The residual's
    cotangent `d` may be infinite. -/
theorem grad_eq (x w : Fin 1024 → EReal) (hx : ∀ k, IsR (x k)) (hw : ∀ k, IsR (w k)) (d : EReal) (j : Fin 1024) :
    kernelGrad x w d j = referenceGrad x w d j := by
  choose X hX using hx
  choose W hW using hw
  obtain ⟨m, r, hm, hr, hrm, em, er⟩ := exists_rsqrt X
  simp only [kernelGrad, referenceGrad, squareGrad, rs, ms, hX, hW]
  rw [em, er, width_word, neg_half_word, Ideal.div_coe (by norm_num : (1024 : ℝ) ≠ 0), Ideal.div_coe hm.ne']
  simp only [Finset.univ_unique, Finset.sum_singleton, Ideal.div_coe (by norm_num : (1024 : ℝ) ≠ 0), ← EReal.coe_mul, coe_sum]
  generalize (∑ k, X k * W k) = s
  rw [add_assoc, add_assoc, ← EReal.coe_add, ← EReal.coe_sub, ← EReal.coe_add]
  refine congrArg (fun y : ℝ => d + (y : EReal)) ?_
  have e : 1 / m = r * r := by rw [one_div]; exact (eq_inv_of_mul_eq_one_left hrm).symm
  rw [e]
  ring

/-- A row function, extended by zero beyond the array's rows. -/
def ext {n : ℕ} (f : Fin n → EReal) (i : ℕ) : EReal := if h : i < n then f ⟨i, h⟩ else 0

theorem ext_of_lt {n : ℕ} (f : Fin n → EReal) {i : ℕ} (h : i < n) : ext f i = f ⟨i, h⟩ := dif_pos h

/-- The sum over all rows. -/
theorem sum_ext {n : ℕ} (f : Fin n → EReal) : ∑ i ∈ Finset.range n, ext f i = ∑ i, f i := by
  rw [Finset.sum_range]
  exact Finset.sum_congr rfl fun i _ => ext_of_lt f i.isLt

/-- The rows below one block more: the rows below, and the block's. -/
theorem sum_block {n : ℕ} (f : Fin n → EReal) (b t : ℕ) (h : b * t + b ≤ n) :
    ∑ i ∈ Finset.range (b * (t + 1)), ext f i
      = ∑ i ∈ Finset.range (b * t), ext f i + ∑ r : Fin b, f ⟨b * t + r.val, by have := r.isLt; omega⟩ := by
  rw [Nat.mul_succ, Finset.sum_range_add, Finset.sum_range (fun x => ext f (b * t + x))]
  exact congrArg _ (Finset.sum_congr rfl fun r _ => ext_of_lt f (by have := r.isLt; omega))

/-- The first block's rows. -/
theorem sum_block_zero {n : ℕ} (f : Fin n → EReal) (b : ℕ) (h : b * 0 + b ≤ n) :
    ∑ i ∈ Finset.range (b * (0 + 1)), ext f i = ∑ r : Fin b, f ⟨b * 0 + r.val, by have := r.isLt; omega⟩ := by
  rw [sum_block f b 0 h]
  simp

end Cert.Proof.Rms

end
-- ==== Proof.Reals.lean ====
/- Hand-written, untrusted: more real numbers inside the extended reals: the norm's factor, differences, the logistic
   function; a real factor taken into a sum. -/
module

public import proofs.«01_k».proof.Proof.Rms

@[expose] public section

noncomputable section

namespace Cert.Proof.Rms

open Idealize.ShloMosaic Cert.Proof.Tools

/-- The word of one half. -/
theorem half_word : Ideal.ofBits .f32 1056964608#32 = ((1 / 2 : ℝ) : EReal) := by
  simp [Ideal.ofBits, Ideal.ieee]; rw [← EReal.coe_mul]; norm_num

/-- The norm's factor of a real row. -/
theorem isR_rs (x : Fin 1024 → EReal) (hx : ∀ k, IsR (x k)) : IsR (rs x) := by
  choose X hX using hx
  obtain rfl : x = fun k => (X k : EReal) := funext hX
  obtain ⟨m, r, -, -, -, em, er⟩ := exists_rsqrt X
  exact ⟨r, by rw [rs, ms, em, er]⟩

theorem isR_sub {x y : EReal} : IsR x → IsR y → IsR (x - y)
  | ⟨a, ha⟩, ⟨b, hb⟩ => ⟨a - b, by rw [ha, hb, EReal.coe_sub]⟩

/-- The logistic function of a real number. -/
theorem isR_sigmoid (x : EReal) (h : IsR x) : IsR (Ideal.div 1 (1 + Ideal.exp (-x))) := by
  obtain ⟨a, rfl⟩ := h
  have hp : 0 < 1 + Real.exp (-a) := by positivity
  refine ⟨1 * (1 / (1 + Real.exp (-a))), ?_⟩
  rw [← EReal.coe_neg, Ideal.exp_coe, ← EReal.coe_one, ← EReal.coe_add, Ideal.div_coe hp.ne', EReal.coe_mul]

/-- A real factor taken into a sum. -/
theorem mul_sum {n : ℕ} (a : ℝ) (f : Fin n → EReal) (h : ∀ i, IsR (f i)) : (a : EReal) * ∑ i, f i = ∑ i, (a : EReal) * f i := by
  choose g hg using h
  simp only [hg, coe_sum, ← EReal.coe_mul, Finset.mul_sum]

end Cert.Proof.Rms

end
-- ==== Proof.Ffn.Run.lean ====
/- Hand-written, untrusted: THE RUN OF THE FEED-FORWARD HALF STEP, at any float values: after it every array of
   the machine's memory is what the fold over the program's stretches and regions says (`Gen.W6`). -/
module

public import proofs.«01_k».proof.Proof.Gen.KernelFfnIdeal.Frame

@[expose] public section

noncomputable section

namespace Cert.Proof.Ffn

open Cert.KernelFfnIdeal Cert.KernelFfnIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and every unscoped array then holds the fold's contents. -/
theorem run : θ_run defs (onTc (τ := τ) (main (F := F))) ⟨m, fun _ => 0, ρ⟩ (fun r => ∀ c : Dev nD,
    ∀ b ∈ Pipeline.ucRefs τ sig, r.2.mem ((c : Thread nD τ).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbuf, -, Howe, -, Hreg, -⟩, -⟩
      imodintro
      isplitl [Hbuf]
      · iexact Hbuf
      isplitl [Hreg]
      · iexists _
        iexact Hreg
      · iexists ∅
        iexact Howe)
    (QY := fun c s => ∀ b ∈ Pipeline.ucRefs τ sig, s.mem ((c : Thread nD τ).1, b) = W6 m ρ c b)
    (hfin := fun c s => by
      iintro ⟨⟨Hbuf, -⟩, Hst⟩
      unfold StableHlo.held
      imodintro
      iapply (pointsTo_read_all (Pipeline.ucRefs τ sig) (fun b => ((c : Thread nD τ).1, b)) (W6 m ρ c) s)
      isplitl [Hbuf] <;> iassumption)
    (hQ := fun _ h _ => h)

end Cert.Proof.Ffn

end
-- ==== Proof.Ffn.Arrays.lean ====
/- Hand-written, untrusted: WHAT EACH REGION OF THE FEED-FORWARD HALF STEP READS AND LEAVES, at the contents its arrays hold on entry. -/
module

public import proofs.«01_k».proof.Proof.Rms
public import proofs.«01_k».proof.Proof.Ffn.Run
public import Idealize.ShloMosaic.Lib.Pipeline.ValueKit.Geometry

@[expose] public section

noncomputable section

namespace Cert.Proof.Ffn

open Cert.KernelFfnIdeal Cert.KernelFfnIdeal.Gen Idealize.ShloMosaic Idealize.ShloMosaic.TcCoe Idealize.SL.Sem
open Cert.Proof.Tools Cert.Proof.Rms

variable (V : (c : Dev nD) → (b : Ref sig .tc) → Buf (Elt Ideal) ((c : Thread nD τ).loc b))

/-! ### Region 0: 16 points of 512 rows -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

/-- A point's row of the whole array. -/
def row0 (t : Fin cfg0.N) (r : Fin 512) : Fin 8192 := ⟨512 * t.val + r.val, by have := t.isLt; have : cfg0.N = 16 := N_0; have := r.isLt; omega⟩

/-- What each input window's block holds at an index: the entry contents' element there. -/
theorem iblk0_0_apply (c : Dev nD) (t : Fin cfg0.N) (r : Fin 512) (l : Fin 1024) :
    (iblk0 V c 0 t : Vec Ideal S512x1024 .f32) (ix2 r l) = V c main_arg0 (ix2 (row0 t r) l) := by
  blk_simp [iblk0]
  refine congrArg (V c main_arg0) (?_ : _ = ix2 (row0 t r) l)
  blk_ext [index0_0, row0]

theorem iblk0_1_apply (c : Dev nD) (t : Fin cfg0.N) (r : Fin 1) (l : Fin 1024) :
    (iblk0 V c 1 t : Vec Ideal S1x1024 .f32) (ix2 r l) = V c main_v4 (ix2 r l) := by
  blk_simp [iblk0]
  refine congrArg (V c main_v4) (?_ : _ = ix2 r l)
  blk_ext [index0_1]

/-- The array that output window 2 leaves, by its points' blocks. -/
theorem array0_2 (c : Dev nD) (G : Vec Ideal S8192x1024 .bf16)
    (h : ∀ t r l, k0_pay1 (iblk0 V c 0 t) (iblk0 V c 1 t) (ix2 r l) = G (ix2 (row0 t r) l)) :
    (dat0 V c).arrAt 2 cfg0.N = G := by
  refine (dat0 V c).arrAt_eq_of_covers 2 _ (by decide +kernel) fun t hf y => ?_
  blk_simp
  rw [after0_2]
  unfold out0_2
  rw [View.canon_unit_zero (S := S512x1024) hz2]
  simp only [View.ld_unit_zero (S := S1x1024) hz2, View.ld_unit_zero (S := S512x1024) hz2]
  obtain ⟨r, l, rfl⟩ : ∃ (r : Fin 512) (l : Fin 1024), y = ix2 r l := ⟨_, _, eq_ix2 (n0 := 512) (n1 := 1024) y⟩
  have e : (win0_2.blk t).view.emb (ix2 r l) = ix2 (row0 t r) l := by blk_ext [index0_2, row0]
  rw [e]
  exact h t r l

/-! ### Region 1: 16 points of 512 rows -/

theorem index1_0 : ∀ t : Fin cfg1.N, win1_0.index t = ![t.val, 0] := (by decide +kernel : ∀ t : Fin grid1.N, _)
theorem index1_1 : ∀ t : Fin cfg1.N, win1_1.index t = ![0, 0, 0] := (by decide +kernel : ∀ t : Fin grid1.N, _)
theorem index1_2 : ∀ t : Fin cfg1.N, win1_2.index t = ![1, 0, 0] := (by decide +kernel : ∀ t : Fin grid1.N, _)
theorem index1_3 : ∀ t : Fin cfg1.N, win1_3.index t = ![t.val, 0] := (by decide +kernel : ∀ t : Fin grid1.N, _)
theorem index1_4 : ∀ t : Fin cfg1.N, win1_4.index t = ![t.val, 0] := (by decide +kernel : ∀ t : Fin grid1.N, _)
theorem index1_5 : ∀ t : Fin cfg1.N, win1_5.index t = ![t.val, 0] := (by decide +kernel : ∀ t : Fin grid1.N, _)

/-- A point's row of the whole array. -/
def row1 (t : Fin cfg1.N) (r : Fin 512) : Fin 8192 := ⟨512 * t.val + r.val, by have := t.isLt; have : cfg1.N = 16 := N_1; have := r.isLt; omega⟩

/-- What each input window's block holds at an index: the entry contents' element there. -/
theorem iblk1_0_apply (c : Dev nD) (t : Fin cfg1.N) (r : Fin 512) (l : Fin 1024) :
    (iblk1 V c 0 t : Vec Ideal S512x1024 .bf16) (ix2 r l) = V c main_v5 (ix2 (row1 t r) l) := by
  blk_simp [iblk1]
  refine congrArg (V c main_v5) (?_ : _ = ix2 (row1 t r) l)
  blk_ext [index1_0, row1]

theorem iblk1_1_apply (c : Dev nD) (t : Fin cfg1.N) (r : Fin 1024) (l : Fin 2816) :
    (iblk1 V c 1 t : Vec Ideal S1x1024x2816 .bf16) (ix3 0 r l) = V c main_v2 (ix3 0 r l) := by
  blk_simp [iblk1]
  refine congrArg (V c main_v2) (?_ : _ = ix3 0 r l)
  blk_ext [index1_1]

theorem iblk1_2_apply (c : Dev nD) (t : Fin cfg1.N) (r : Fin 1024) (l : Fin 2816) :
    (iblk1 V c 2 t : Vec Ideal S1x1024x2816 .bf16) (ix3 0 r l) = V c main_v2 (ix3 1 r l) := by
  blk_simp [iblk1]
  refine congrArg (V c main_v2) (?_ : _ = ix3 1 r l)
  blk_ext [index1_2]

/-- The array that output window 3 leaves, by its points' blocks. -/
theorem array1_3 (c : Dev nD) (G : Vec Ideal S8192x2816 .bf16)
    (h : ∀ t r l, k1_pay6 (iblk1 V c 0 t) (iblk1 V c 1 t) (iblk1 V c 2 t) (ix2 r l) = G (ix2 (row1 t r) l)) :
    (dat1 V c).arrAt 3 cfg1.N = G := by
  refine (dat1 V c).arrAt_eq_of_covers 3 _ (by decide +kernel) fun t hf y => ?_
  blk_simp
  rw [after1_3]
  unfold out1_3
  rw [View.canon_unit_zero (S := S512x2816) hz2]
  simp only [View.ld_unit_zero (S := S512x1024) hz2, View.ld_unit_zero (S := S1x1024x2816) hz3]
  obtain ⟨r, l, rfl⟩ : ∃ (r : Fin 512) (l : Fin 2816), y = ix2 r l := ⟨_, _, eq_ix2 (n0 := 512) (n1 := 2816) y⟩
  have e : (win1_3.blk t).view.emb (ix2 r l) = ix2 (row1 t r) l := by blk_ext [index1_3, row1]
  rw [e]
  exact h t r l

/-- The array that output window 4 leaves, by its points' blocks. -/
theorem array1_4 (c : Dev nD) (G : Vec Ideal S8192x2816 .bf16)
    (h : ∀ t r l, k1_pay7 (iblk1 V c 0 t) (iblk1 V c 1 t) (ix2 r l) = G (ix2 (row1 t r) l)) :
    (dat1 V c).arrAt 4 cfg1.N = G := by
  refine (dat1 V c).arrAt_eq_of_covers 4 _ (by decide +kernel) fun t hf y => ?_
  blk_simp
  rw [after1_4]
  unfold out1_4
  rw [View.canon_unit_zero (S := S512x2816) hz2]
  simp only [View.ld_unit_zero (S := S512x1024) hz2, View.ld_unit_zero (S := S1x1024x2816) hz3]
  obtain ⟨r, l, rfl⟩ : ∃ (r : Fin 512) (l : Fin 2816), y = ix2 r l := ⟨_, _, eq_ix2 (n0 := 512) (n1 := 2816) y⟩
  have e : (win1_4.blk t).view.emb (ix2 r l) = ix2 (row1 t r) l := by blk_ext [index1_4, row1]
  rw [e]
  exact h t r l

/-- The array that output window 5 leaves, by its points' blocks. -/
theorem array1_5 (c : Dev nD) (G : Vec Ideal S8192x2816 .bf16)
    (h : ∀ t r l, k1_pay8 (iblk1 V c 0 t) (iblk1 V c 1 t) (iblk1 V c 2 t) (ix2 r l) = G (ix2 (row1 t r) l)) :
    (dat1 V c).arrAt 5 cfg1.N = G := by
  refine (dat1 V c).arrAt_eq_of_covers 5 _ (by decide +kernel) fun t hf y => ?_
  blk_simp
  rw [after1_5]
  unfold out1_5
  rw [View.canon_unit_zero (S := S512x2816) hz2]
  simp only [View.ld_unit_zero (S := S512x1024) hz2, View.ld_unit_zero (S := S1x1024x2816) hz3]
  obtain ⟨r, l, rfl⟩ : ∃ (r : Fin 512) (l : Fin 2816), y = ix2 r l := ⟨_, _, eq_ix2 (n0 := 512) (n1 := 2816) y⟩
  have e : (win1_5.blk t).view.emb (ix2 r l) = ix2 (row1 t r) l := by blk_ext [index1_5, row1]
  rw [e]
  exact h t r l

/-! ### Region 2: 8 points of 1024 rows -/

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![t.val, 0] := (by decide +kernel : ∀ t : Fin grid2.N, _)
theorem index2_5 : ∀ t : Fin cfg2.N, win2_5.index t = ![t.val, 0] := (by decide +kernel : ∀ t : Fin grid2.N, _)

/-- A point's row of the whole array. -/
def row2 (t : Fin cfg2.N) (r : Fin 1024) : Fin 8192 := ⟨1024 * t.val + r.val, by have := t.isLt; have : cfg2.N = 8 := N_2; have := r.isLt; omega⟩

/-- What each input window's block holds at an index: the entry contents' element there. -/
theorem iblk2_0_apply (c : Dev nD) (t : Fin cfg2.N) (r : Fin 1024) (l : Fin 2816) :
    (iblk2 V c 0 t : Vec Ideal S1024x2816 .bf16) (ix2 r l) = V c main_v6_2 (ix2 (row2 t r) l) := by
  blk_simp [iblk2]
  refine congrArg (V c main_v6_2) (?_ : _ = ix2 (row2 t r) l)
  blk_ext [index2_0, row2]

theorem iblk2_1_apply (c : Dev nD) (t : Fin cfg2.N) (r : Fin 2816) (l : Fin 1024) :
    (iblk2 V c 1 t : Vec Ideal S2816x1024 .bf16) (ix2 r l) = V c main_v3 (ix2 r l) := by
  blk_simp [iblk2]
  refine congrArg (V c main_v3) (?_ : _ = ix2 r l)
  blk_ext [index2_1]

theorem iblk2_2_apply (c : Dev nD) (t : Fin cfg2.N) (r : Fin 1024) (l : Fin 1024) :
    (iblk2 V c 2 t : Vec Ideal S1024x1024 .f32) (ix2 r l) = V c main_arg0 (ix2 (row2 t r) l) := by
  blk_simp [iblk2]
  refine congrArg (V c main_arg0) (?_ : _ = ix2 (row2 t r) l)
  blk_ext [index2_2, row2]

theorem iblk2_3_apply (c : Dev nD) (t : Fin cfg2.N) (r : Fin 1) (l : Fin 1024) :
    (iblk2 V c 3 t : Vec Ideal S1x1024 .f32) (ix2 r l) = V c main_v7 (ix2 r l) := by
  blk_simp [iblk2]
  refine congrArg (V c main_v7) (?_ : _ = ix2 r l)
  blk_ext [index2_3]

/-- The array that output window 4 leaves, by its points' blocks. -/
theorem array2_4 (c : Dev nD) (G : Vec Ideal S8192x1024 .f32)
    (h : ∀ t r l, k2_pay1 (iblk2 V c 0 t) (iblk2 V c 1 t) (iblk2 V c 2 t) (ix2 r l) = G (ix2 (row2 t r) l)) :
    (dat2 V c).arrAt 4 cfg2.N = G := by
  refine (dat2 V c).arrAt_eq_of_covers 4 _ (by decide +kernel) fun t hf y => ?_
  blk_simp
  rw [after2_4]
  unfold out2_4
  rw [View.canon_unit_zero (S := S1024x1024) hz2]
  simp only [View.ld_unit_zero (S := S1x1024) hz2, View.ld_unit_zero (S := S1024x1024) hz2, View.ld_unit_zero (S := S1024x2816) hz2, View.ld_unit_zero (S := S2816x1024) hz2]
  obtain ⟨r, l, rfl⟩ : ∃ (r : Fin 1024) (l : Fin 1024), y = ix2 r l := ⟨_, _, eq_ix2 (n0 := 1024) (n1 := 1024) y⟩
  have e : (win2_4.blk t).view.emb (ix2 r l) = ix2 (row2 t r) l := by blk_ext [index2_4, row2]
  rw [e]
  exact h t r l

/-- The array that output window 5 leaves, by its points' blocks. -/
theorem array2_5 (c : Dev nD) (G : Vec Ideal S8192x1024 .bf16)
    (h : ∀ t r l, k2_pay2 (iblk2 V c 0 t) (iblk2 V c 1 t) (iblk2 V c 2 t) (iblk2 V c 3 t) (ix2 r l) = G (ix2 (row2 t r) l)) :
    (dat2 V c).arrAt 5 cfg2.N = G := by
  refine (dat2 V c).arrAt_eq_of_covers 5 _ (by decide +kernel) fun t hf y => ?_
  blk_simp
  rw [after2_5]
  unfold out2_5
  rw [View.canon_unit_zero (S := S1024x1024) hz2]
  simp only [View.ld_unit_zero (S := S1x1024) hz2, View.ld_unit_zero (S := S1024x1024) hz2, View.ld_unit_zero (S := S1024x2816) hz2, View.ld_unit_zero (S := S2816x1024) hz2]
  obtain ⟨r, l, rfl⟩ : ∃ (r : Fin 1024) (l : Fin 1024), y = ix2 r l := ⟨_, _, eq_ix2 (n0 := 1024) (n1 := 1024) y⟩
  have e : (win2_5.blk t).view.emb (ix2 r l) = ix2 (row2 t r) l := by blk_ext [index2_5, row2]
  rw [e]
  exact h t r l

/-! ### Region 3: 16 points of 512 rows -/

theorem index3_0 : ∀ t : Fin cfg3.N, win3_0.index t = ![t.val, 0] := (by decide +kernel : ∀ t : Fin grid3.N, _)
theorem index3_1 : ∀ t : Fin cfg3.N, win3_1.index t = ![0, 0] := (by decide +kernel : ∀ t : Fin grid3.N, _)
theorem index3_2 : ∀ t : Fin cfg3.N, win3_2.index t = ![t.val, 0] := (by decide +kernel : ∀ t : Fin grid3.N, _)
theorem index3_3 : ∀ t : Fin cfg3.N, win3_3.index t = ![t.val, 0] := (by decide +kernel : ∀ t : Fin grid3.N, _)
theorem index3_4 : ∀ t : Fin cfg3.N, win3_4.index t = ![t.val, 0] := (by decide +kernel : ∀ t : Fin grid3.N, _)
theorem index3_5 : ∀ t : Fin cfg3.N, win3_5.index t = ![t.val, 0] := (by decide +kernel : ∀ t : Fin grid3.N, _)

/-- A point's row of the whole array. -/
def row3 (t : Fin cfg3.N) (r : Fin 512) : Fin 8192 := ⟨512 * t.val + r.val, by have := t.isLt; have : cfg3.N = 16 := N_3; have := r.isLt; omega⟩

/-- What each input window's block holds at an index: the entry contents' element there. -/
theorem iblk3_0_apply (c : Dev nD) (t : Fin cfg3.N) (r : Fin 512) (l : Fin 1024) :
    (iblk3 V c 0 t : Vec Ideal S512x1024 .f32) (ix2 r l) = V c main_arg5 (ix2 (row3 t r) l) := by
  blk_simp [iblk3]
  refine congrArg (V c main_arg5) (?_ : _ = ix2 (row3 t r) l)
  blk_ext [index3_0, row3]

theorem iblk3_1_apply (c : Dev nD) (t : Fin cfg3.N) (r : Fin 2816) (l : Fin 1024) :
    (iblk3 V c 1 t : Vec Ideal S2816x1024 .bf16) (ix2 r l) = V c main_v3 (ix2 r l) := by
  blk_simp [iblk3]
  refine congrArg (V c main_v3) (?_ : _ = ix2 r l)
  blk_ext [index3_1]

theorem iblk3_2_apply (c : Dev nD) (t : Fin cfg3.N) (r : Fin 512) (l : Fin 2816) :
    (iblk3 V c 2 t : Vec Ideal S512x2816 .bf16) (ix2 r l) = V c main_v6_0 (ix2 (row3 t r) l) := by
  blk_simp [iblk3]
  refine congrArg (V c main_v6_0) (?_ : _ = ix2 (row3 t r) l)
  blk_ext [index3_2, row3]

theorem iblk3_3_apply (c : Dev nD) (t : Fin cfg3.N) (r : Fin 512) (l : Fin 2816) :
    (iblk3 V c 3 t : Vec Ideal S512x2816 .bf16) (ix2 r l) = V c main_v6_1 (ix2 (row3 t r) l) := by
  blk_simp [iblk3]
  refine congrArg (V c main_v6_1) (?_ : _ = ix2 (row3 t r) l)
  blk_ext [index3_3, row3]

/-- The array that output window 4 leaves, by its points' blocks. -/
theorem array3_4 (c : Dev nD) (G : Vec Ideal S8192x2816 .bf16)
    (h : ∀ t r l, k3_pay2 (iblk3 V c 0 t) (iblk3 V c 1 t) (iblk3 V c 2 t) (ix2 r l) = G (ix2 (row3 t r) l)) :
    (dat3 V c).arrAt 4 cfg3.N = G := by
  refine (dat3 V c).arrAt_eq_of_covers 4 _ (by decide +kernel) fun t hf y => ?_
  blk_simp
  rw [after3_4]
  unfold out3_4
  rw [View.canon_unit_zero (S := S512x2816) hz2]
  simp only [View.ld_unit_zero (S := S512x1024) hz2, View.ld_unit_zero (S := S512x2816) hz2, View.ld_unit_zero (S := S2816x1024) hz2]
  obtain ⟨r, l, rfl⟩ : ∃ (r : Fin 512) (l : Fin 2816), y = ix2 r l := ⟨_, _, eq_ix2 (n0 := 512) (n1 := 2816) y⟩
  have e : (win3_4.blk t).view.emb (ix2 r l) = ix2 (row3 t r) l := by blk_ext [index3_4, row3]
  rw [e]
  exact h t r l

/-- The array that output window 5 leaves, by its points' blocks. -/
theorem array3_5 (c : Dev nD) (G : Vec Ideal S8192x2816 .bf16)
    (h : ∀ t r l, k3_pay3 (iblk3 V c 0 t) (iblk3 V c 1 t) (iblk3 V c 3 t) (ix2 r l) = G (ix2 (row3 t r) l)) :
    (dat3 V c).arrAt 5 cfg3.N = G := by
  refine (dat3 V c).arrAt_eq_of_covers 5 _ (by decide +kernel) fun t hf y => ?_
  blk_simp
  rw [after3_5]
  unfold out3_5
  rw [View.canon_unit_zero (S := S512x2816) hz2]
  simp only [View.ld_unit_zero (S := S512x1024) hz2, View.ld_unit_zero (S := S512x2816) hz2, View.ld_unit_zero (S := S2816x1024) hz2]
  obtain ⟨r, l, rfl⟩ : ∃ (r : Fin 512) (l : Fin 2816), y = ix2 r l := ⟨_, _, eq_ix2 (n0 := 512) (n1 := 2816) y⟩
  have e : (win3_5.blk t).view.emb (ix2 r l) = ix2 (row3 t r) l := by blk_ext [index3_5, row3]
  rw [e]
  exact h t r l

end Cert.Proof.Ffn

end
-- ==== Proof.Ffn.Value.lean ====
/- Hand-written, untrusted: THE VALUES OF THE FEED-FORWARD HALF STEP, on extended reals: what each block holds, element by
   element, and what the reference's results are, element by element. -/
module

public import proofs.«01_k».proof.Proof.Reals
public import proofs.«01_k».proof.Proof.Ffn.Arrays
public import proofs.«01_k».proof.Proof.Gen.ReferenceFfnIdeal.Read

@[expose] public section

noncomputable section

namespace Cert.Proof.Ffn

open Cert.KernelFfnIdeal Cert.KernelFfnIdeal.Gen Idealize.ShloMosaic Idealize.ShloMosaic.TcCoe Idealize.SL.Sem
open Cert.Proof.Tools Cert.Proof.Rms Cert.ReferenceFfnIdeal.Read

/-- One half, as the programs write it; and the logistic function. -/
abbrev half : EReal := Ideal.ofBits .f32 1056964608#32
abbrev sg (g : EReal) : EReal := Ideal.div 1 (1 + Ideal.exp (-g))

/-- The normed row. -/
def hn (x0 : Vec Ideal S8192x1024 .f32) (x1 : Vec Ideal S1024 .f32) (r : Fin 8192) (k : Fin 1024) : EReal :=
  x0 (ix2 r k) * rs (fun k => x0 (ix2 r k)) * x1 (ix1 k)

section Forms

variable (x0 : Vec Ideal S8192x1024 .f32) (x1 : Vec Ideal S1024 .f32) (x2 : Vec Ideal S1024x5632 .f32) (x3 : Vec Ideal S2816x1024 .f32) (x4 : Vec Ideal S1024 .f32) (x5 : Vec Ideal S8192x1024 .f32)

/-- The two halves of the up projection. -/
def pg (r : Fin 8192) (l : Fin 2816) : EReal := ∑ x, hn x0 x1 r x * x2 (ix2 x ⟨l.val, by omega⟩)
def pu (r : Fin 8192) (l : Fin 2816) : EReal := ∑ x, hn x0 x1 r x * x2 (ix2 x ⟨2816 + l.val, by omega⟩)

/-- The gated product, the residual sum after the half step, and its norm with the next gain. -/
def act (r : Fin 8192) (l : Fin 2816) : EReal := pg x0 x1 x2 r l * sg (pg x0 x1 x2 r l) * pu x0 x1 x2 r l
def hout (r : Fin 8192) (l : Fin 1024) : EReal := x0 (ix2 r l) + half * ∑ x, act x0 x1 x2 r x * x3 (ix2 x l)
def hnext (r : Fin 8192) (l : Fin 1024) : EReal := hout x0 x1 x2 x3 r l * rs (fun k => hout x0 x1 x2 x3 r k) * x4 (ix1 l)

/-- The gated product's cotangent, scaled after the sum (the kernel) or before (the reference). -/
def da (r : Fin 8192) (l : Fin 2816) : EReal := half * ∑ x, x5 (ix2 r x) * x3 (ix2 l x)
def da' (r : Fin 8192) (l : Fin 2816) : EReal := ∑ x, half * x5 (ix2 r x) * x3 (ix2 l x)

/-- The two derivatives that the forward kernel saves: of the gated product by the gate's argument, and by the other factor. -/
def sgu (r : Fin 8192) (l : Fin 2816) : EReal :=
  pu x0 x1 x2 r l * (sg (pg x0 x1 x2 r l) * (1 + pg x0 x1 x2 r l * (1 - sg (pg x0 x1 x2 r l))))
def si (r : Fin 8192) (l : Fin 2816) : EReal := pg x0 x1 x2 r l * sg (pg x0 x1 x2 r l)

/-- The reference's two gradients. -/
def dg' (r : Fin 8192) (l : Fin 2816) : EReal :=
  da' x3 x5 r l * pu x0 x1 x2 r l * sg (pg x0 x1 x2 r l)
    + pg x0 x1 x2 r l * (da' x3 x5 r l * pu x0 x1 x2 r l) * (sg (pg x0 x1 x2 r l) * (1 - sg (pg x0 x1 x2 r l)))
def du' (r : Fin 8192) (l : Fin 2816) : EReal := pg x0 x1 x2 r l * sg (pg x0 x1 x2 r l) * da' x3 x5 r l

variable {x0 x1 x2 x3 x4 x5}

theorem isR_hn (h0 : ∀ i, IsR (x0 i)) (h1 : ∀ i, IsR (x1 i)) (r : Fin 8192) (k : Fin 1024) : IsR (hn x0 x1 r k) :=
  ((h0 _).mul (isR_rs _ fun _ => h0 _)).mul (h1 _)

theorem isR_pg (h0 : ∀ i, IsR (x0 i)) (h1 : ∀ i, IsR (x1 i)) (h2 : ∀ i, IsR (x2 i)) (r : Fin 8192) (l : Fin 2816) : IsR (pg x0 x1 x2 r l) :=
  IsR.sum fun _ => (isR_hn h0 h1 _ _).mul (h2 _)

theorem isR_pu (h0 : ∀ i, IsR (x0 i)) (h1 : ∀ i, IsR (x1 i)) (h2 : ∀ i, IsR (x2 i)) (r : Fin 8192) (l : Fin 2816) : IsR (pu x0 x1 x2 r l) :=
  IsR.sum fun _ => (isR_hn h0 h1 _ _).mul (h2 _)

theorem isR_da (h3 : ∀ i, IsR (x3 i)) (h5 : ∀ i, IsR (x5 i)) (r : Fin 8192) (l : Fin 2816) : IsR (da x3 x5 r l) :=
  IsR.mul ⟨_, half_word⟩ (IsR.sum fun _ => (h5 _).mul (h3 _))

/-- The scale may be taken before the sum or after it, on real numbers. -/
theorem da_eq (h3 : ∀ i, IsR (x3 i)) (h5 : ∀ i, IsR (x5 i)) (r : Fin 8192) (l : Fin 2816) : da x3 x5 r l = da' x3 x5 r l := by
  unfold da da' half
  rw [half_word, mul_sum _ _ fun _ => (h5 _).mul (h3 _)]
  exact Finset.sum_congr rfl fun _ _ => (mul_assoc ..).symm

/-- The saved derivatives times the cotangent are the reference's gradients. -/
theorem du_eq (h3 : ∀ i, IsR (x3 i)) (h5 : ∀ i, IsR (x5 i)) (r : Fin 8192) (l : Fin 2816) :
    da x3 x5 r l * si x0 x1 x2 r l = du' x0 x1 x2 x3 x5 r l := by
  rw [da_eq h3 h5, mul_comm]
  rfl

theorem dg_eq (h0 : ∀ i, IsR (x0 i)) (h1 : ∀ i, IsR (x1 i)) (h2 : ∀ i, IsR (x2 i)) (h3 : ∀ i, IsR (x3 i)) (h5 : ∀ i, IsR (x5 i)) (r : Fin 8192) (l : Fin 2816) :
    da x3 x5 r l * sgu x0 x1 x2 r l = dg' x0 x1 x2 x3 x5 r l := by
  unfold sgu dg'
  rw [← da_eq h3 h5]
  obtain ⟨D, hD⟩ := isR_da h3 h5 r l
  obtain ⟨G, hG⟩ := isR_pg h0 h1 h2 r l
  obtain ⟨U, hU⟩ := isR_pu h0 h1 h2 r l
  obtain ⟨s, hs⟩ := isR_sigmoid _ (isR_pg h0 h1 h2 r l)
  unfold sg
  rw [hs, hD, hG, hU]
  norm_cast
  ring

end Forms

section Block

/-- What each region's body stores, element by element. -/
theorem block0 (b0 : Vec Ideal S512x1024 .f32) (b1 : Vec Ideal S1x1024 .f32) (r : Fin 512) (l : Fin 1024) :
    k0_pay1 b0 b1 (ix2 r l) = b0 (ix2 r l) * rs (fun k => b0 (ix2 r k)) * b1 (ix2 0 l) := by
  simp only [k0_pay1]
  pointwise

variable (b0 : Vec Ideal S512x1024 .bf16) (b1 b2 : Vec Ideal S1x1024x2816 .bf16) (r : Fin 512) (l : Fin 2816)

/-- The two products of a row with a plane of the weight. -/
abbrev rg : EReal := ∑ x, b0 (ix2 r x) * b1 (ix3 0 x l)

theorem block1_6 : k1_pay6 b0 b1 b2 (ix2 r l)
    = rg b0 b2 r l * (sg (rg b0 b1 r l) * (1 + rg b0 b1 r l * (1 - sg (rg b0 b1 r l)))) := by
  simp only [k1_pay1, k1_pay2, k1_pay3, k1_pay4, k1_pay5, k1_pay6, k1_pay7, k1_pay8, rg, sg, ← zero_sub]
  pointwise

theorem block1_7 : k1_pay7 b0 b1 (ix2 r l) = rg b0 b1 r l * sg (rg b0 b1 r l) := by
  simp only [k1_pay1, k1_pay2, k1_pay3, k1_pay4, k1_pay5, k1_pay6, k1_pay7, k1_pay8, rg, sg, ← zero_sub]
  pointwise

theorem block1_8 : k1_pay8 b0 b1 b2 (ix2 r l) = rg b0 b1 r l * sg (rg b0 b1 r l) * rg b0 b2 r l := by
  simp only [k1_pay1, k1_pay2, k1_pay3, k1_pay4, k1_pay5, k1_pay6, k1_pay7, k1_pay8, rg, sg, ← zero_sub]
  pointwise

end Block

section Block

variable (b0 : Vec Ideal S1024x2816 .bf16) (b1 : Vec Ideal S2816x1024 .bf16) (b2 : Vec Ideal S1024x1024 .f32) (b3 : Vec Ideal S1x1024 .f32)

/-- The residual row after the half step. -/
def rh (r l : Fin 1024) : EReal := b2 (ix2 r l) + half * ∑ x, b0 (ix2 r x) * b1 (ix2 x l)

theorem block2_1 (r l : Fin 1024) : k2_pay1 b0 b1 b2 (ix2 r l) = rh b0 b1 b2 r l := by
  simp only [k2_pay1, rh]
  pointwise

theorem block2_2 (r l : Fin 1024) : k2_pay2 b0 b1 b2 b3 (ix2 r l) = rh b0 b1 b2 r l * rs (fun k => rh b0 b1 b2 r k) * b3 (ix2 0 l) := by
  simp only [k2_pay1, k2_pay2, rh]
  pointwise

variable (c0 : Vec Ideal S512x1024 .f32) (c2 c3 : Vec Ideal S512x2816 .bf16)

/-- The scaled product of a row of the cotangent with the down weight. -/
def dq (r : Fin 512) (l : Fin 2816) : EReal := half * ∑ x, c0 (ix2 r x) * b1 (ix2 l x)

theorem block3_2 (r : Fin 512) (l : Fin 2816) : k3_pay2 c0 b1 c2 (ix2 r l) = dq b1 c0 r l * c2 (ix2 r l) := by
  simp only [k3_pay1, k3_pay2, k3_pay3, dq]
  pointwise

theorem block3_3 (r : Fin 512) (l : Fin 2816) : k3_pay3 c0 b1 c3 (ix2 r l) = dq b1 c0 r l * c3 (ix2 r l) := by
  simp only [k3_pay1, k3_pay2, k3_pay3, dq]
  pointwise

end Block

section Reference

variable (x0 : Vec Ideal S8192x1024 .f32) (x1 : Vec Ideal S1024 .f32) (x2 : Vec Ideal S1024x5632 .f32) (x3 : Vec Ideal S2816x1024 .f32) (x4 : Vec Ideal S1024 .f32) (x5 : Vec Ideal S8192x1024 .f32)

theorem reference_hn (r : Fin 8192) (l : Fin 1024) : val_main_v33 (F := Ideal) x0 x1 (ix2 r l) = hn x0 x1 r l := by
  unfold hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

theorem reference_act (r : Fin 8192) (l : Fin 2816) : val_main_v36 (F := Ideal) x0 x1 x2 (ix2 r l) = act x0 x1 x2 r l := by
  unfold act pg pu sg hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

theorem reference_hout (r : Fin 8192) (l : Fin 1024) : val_main_v21 (F := Ideal) x0 x1 x2 x3 (ix2 r l) = hout x0 x1 x2 x3 r l := by
  unfold hout act pg pu sg hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

theorem reference_hnext (r : Fin 8192) (l : Fin 1024) : val_main_v50 (F := Ideal) x0 x1 x2 x3 x4 (ix2 r l) = hnext x0 x1 x2 x3 x4 r l := by
  unfold hnext hout act pg pu sg hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

theorem reference_dg (r : Fin 8192) (l : Fin 2816) : val_main_v51 (F := Ideal) x0 x1 x2 x3 x5 (ix2 r l) = dg' x0 x1 x2 x3 x5 r l := by
  unfold dg' da' pg pu sg hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

theorem reference_du (r : Fin 8192) (l : Fin 2816) : val_main_v52 (F := Ideal) x0 x1 x2 x3 x5 (ix2 r l) = du' x0 x1 x2 x3 x5 r l := by
  unfold du' da' pg sg hn
  pointwise [val_main_v0, val_main_cst, val_main_v1, val_main_v2, val_main_cst_0, val_main_v3, val_main_v4, val_main_cst_1,
      val_main_v5, val_main_v6, val_main_v7, val_main_v8, val_main_v9, val_main_v10, val_main_v11, val_main_v12,
      val_main_v13, val_main_v14, val_main_v15, val_main_call0_v0, val_main_call0_v1, val_main_call0_cst,
      val_main_call0_v2, val_main_call0_v3, val_main_call0_cst_0, val_main_call0_v4, val_main_call0_v5, val_main_v16,
      val_main_v17, val_main_v18, val_main_cst_2, val_main_v19, val_main_v20, val_main_v21, val_main_call1_v0,
      val_main_call1_v1, val_main_call1_cst, val_main_call1_v2, val_main_call1_v3, val_main_call1_cst_0,
      val_main_call1_v4, val_main_v22_2, val_main_call1_cst_1, val_main_call1_v6, val_main_call1_v7, val_main_v22_1,
      val_main_v22_0, val_main_v23, val_main_v24, val_main_cst_3, val_main_v25, val_main_v26, val_main_cst_4,
      val_main_v27, val_main_v28, val_main_v29, val_main_v30, val_main_v31, val_main_call2_v0, val_main_call2_v1,
      val_main_call2_v2, val_main_v32, val_main_v33, val_main_call3_v0, val_main_call3_v1, val_main_call3_cst,
      val_main_call3_v2, val_main_call3_v3, val_main_call3_cst_0, val_main_call3_v4, val_main_call3_v5, val_main_v34,
      val_main_v35, val_main_v36, val_main_v37, val_main_cst_5, val_main_v38, val_main_v39, val_main_cst_6,
      val_main_v40, val_main_v41, val_main_cst_7, val_main_v42, val_main_v43, val_main_v44, val_main_v45,
      val_main_v46, val_main_v47, val_main_v48, val_main_v49, val_main_v50, val_main_v51, val_main_v52]

end Reference

end Cert.Proof.Ffn

end
-- ==== Proof.Ffn.Final.lean ====
/- Hand-written, untrusted: WHAT THE RUN OF THE FEED-FORWARD HALF STEP LEAVES, on extended reals: through the program's
   regions in order, every array as the reference's result (`final_…`). -/
module

public import proofs.«01_k».proof.Proof.Ffn.Value

@[expose] public section

noncomputable section

namespace Cert.Proof.Ffn

open Cert.KernelFfnIdeal Cert.KernelFfnIdeal.Gen Idealize.ShloMosaic Idealize.ShloMosaic.TcCoe Idealize.SL.Sem
open Cert.Proof.Tools Cert.Proof.Rms

/-- An argument array on one device. -/
local notation "arg[" m ", " c ", " a "]" => m (Thread.loc (c : Thread nD τ) a)

variable (m : (ℓ : Loc nD τ sig) → Buf (Elt Ideal) ℓ) (ρ : Dev nD → PrngReg) (c : Dev nD)

/-- The weight's two halves, one plane each; a gain as one row. -/
abbrev planes (w : Vec Ideal S1024x5632 .f32) : Vec Ideal S2x1024x2816 .bf16 :=
  transpose S2x1024x2816 [1, 0, 2] (shapeCast S1024x2x2816 (truncf (F := Ideal) .bf16 w bitsLt_bf16_f32) shapeCasts_S1024x5632_S1024x2x2816) transposes_S1024x2x2816_S2x1024x2816_1_0_2
abbrev line (g : Vec Ideal S1024 .f32) : Vec Ideal S1x1024 .f32 := shapeCast S1x1024 g shapeCasts_S1024_S1x1024

theorem planes0 (w : Vec Ideal S1024x5632 .f32) (k : Fin 1024) (l : Fin 2816) : planes w (ix3 0 k l) = w (ix2 k ⟨l.val, by omega⟩) := by
  unfold planes
  pointwise

theorem planes1 (w : Vec Ideal S1024x5632 .f32) (k : Fin 1024) (l : Fin 2816) : planes w (ix3 1 k l) = w (ix2 k ⟨2816 + l.val, by omega⟩) := by
  unfold planes
  pointwise

theorem line_apply (g : Vec Ideal S1024 .f32) (l : Fin 1024) : line g (ix2 0 l) = g (ix1 l) := by
  unfold line
  pointwise

/-- What the host's first lines leave: the weight's planes, the down weight rounded (which on extended reals changes
    nothing), the first gain; and its later line, the next gain. -/
theorem at1_v2 : W1 m ρ c main_v2 = planes arg[m, c, main_arg2] := by
  show StableHlo.after hostOps0 _ main_v2 = _
  after_results_simp <;> rfl
theorem at1_v3 : W1 m ρ c main_v3 = truncf (F := Ideal) .bf16 arg[m, c, main_arg3] bitsLt_bf16_f32 := by
  show StableHlo.after hostOps0 _ main_v3 = _
  after_results_simp <;> rfl
theorem at1_v4 : W1 m ρ c main_v4 = line arg[m, c, main_arg1] := by
  show StableHlo.after hostOps0 _ main_v4 = _
  after_results_simp <;> rfl

/-- Arrays that a region's entry finds as an earlier item left them. -/
theorem at2_v2 : W2 m ρ c main_v2 = planes arg[m, c, main_arg2] := (W2_of m ρ c main_v2 (by decide)).trans (at1_v2 m ρ c)
theorem at4_v3 : W4 m ρ c main_v3 = truncf (F := Ideal) .bf16 arg[m, c, main_arg3] bitsLt_bf16_f32 :=
  (W4_of m ρ c main_v3 (by decide)).trans ((W3_of m ρ c main_v3 (by decide)).trans ((W2_of m ρ c main_v3 (by decide)).trans (at1_v3 m ρ c)))
theorem at5_v3 : W5 m ρ c main_v3 = truncf (F := Ideal) .bf16 arg[m, c, main_arg3] bitsLt_bf16_f32 :=
  (W5_of m ρ c main_v3 (by decide)).trans (at4_v3 m ρ c)

/-- The normed rows, from the first region on. -/
theorem at2_v5 : W2 m ρ c main_v5 = Cert.ReferenceFfnIdeal.Read.val_main_v33 (F := Ideal) arg[m, c, main_arg0] arg[m, c, main_arg1] :=
  (W2_arr m ρ c 2).trans (array0_2 (V1 m ρ) c _ fun t r l => by
    rw [block0, reference_hn]
    simp only [iblk0_0_apply, iblk0_1_apply]
    rw [show V1 m ρ c main_arg0 = m ((c : Thread nD τ).loc main_arg0) from W1_args m ρ c main_arg0 (by decide), show V1 m ρ c main_v4 = _ from at1_v4 m ρ c, line_apply]
    rfl)

/-- Row by row: the second region's two products. -/
theorem rg0 (t : Fin cfg1.N) (r : Fin 512) (l : Fin 2816) :
    rg (iblk1 (V2 m ρ) c 0 t) (iblk1 (V2 m ρ) c 1 t) r l = pg arg[m, c, main_arg0] arg[m, c, main_arg1] arg[m, c, main_arg2] (row1 t r) l :=
  Finset.sum_congr rfl fun x _ => by
    rw [iblk1_0_apply, iblk1_1_apply, show V2 m ρ c main_v5 = _ from at2_v5 m ρ c, show V2 m ρ c main_v2 = _ from at2_v2 m ρ c, reference_hn, planes0]
theorem rg1 (t : Fin cfg1.N) (r : Fin 512) (l : Fin 2816) :
    rg (iblk1 (V2 m ρ) c 0 t) (iblk1 (V2 m ρ) c 2 t) r l = pu arg[m, c, main_arg0] arg[m, c, main_arg1] arg[m, c, main_arg2] (row1 t r) l :=
  Finset.sum_congr rfl fun x _ => by
    rw [iblk1_0_apply, iblk1_2_apply, show V2 m ρ c main_v5 = _ from at2_v5 m ρ c, show V2 m ρ c main_v2 = _ from at2_v2 m ρ c, reference_hn, planes1]

/-- The arrays the second region leaves: the two saved derivatives, and the gated product. -/
theorem at3_v6_0 : W3 m ρ c main_v6_0 = fun i => sgu arg[m, c, main_arg0] arg[m, c, main_arg1] arg[m, c, main_arg2] (i 0) (i 1) :=
  (W3_arr m ρ c 3).trans (array1_3 (V2 m ρ) c _ fun t r l => by rw [block1_6, rg0, rg1]; rfl)
theorem at3_v6_1 : W3 m ρ c main_v6_1 = fun i => si arg[m, c, main_arg0] arg[m, c, main_arg1] arg[m, c, main_arg2] (i 0) (i 1) :=
  (W3_arr m ρ c 4).trans (array1_4 (V2 m ρ) c _ fun t r l => by rw [block1_7, rg0]; rfl)
theorem at3_v6_2 : W3 m ρ c main_v6_2 = Cert.ReferenceFfnIdeal.Read.val_main_v36 (F := Ideal) arg[m, c, main_arg0] arg[m, c, main_arg1] arg[m, c, main_arg2] :=
  (W3_arr m ρ c 5).trans (array1_5 (V2 m ρ) c _ fun t r l => by rw [block1_8, rg0, rg1, reference_act]; rfl)

theorem at4_v6_2 : W4 m ρ c main_v6_2 = Cert.ReferenceFfnIdeal.Read.val_main_v36 (F := Ideal) arg[m, c, main_arg0] arg[m, c, main_arg1] arg[m, c, main_arg2] :=
  (W4_of m ρ c main_v6_2 (by decide)).trans (at3_v6_2 m ρ c)
theorem at4_v7 : W4 m ρ c main_v7 = line arg[m, c, main_arg4] := by
  have e : W3 m ρ c main_arg4 = m ((c : Thread nD τ).loc main_arg4) := W3_args m ρ c main_arg4 (by decide)
  rw [← e]
  show StableHlo.after hostOps2 _ main_v7 = _
  after_results_simp <;> rfl
theorem at5_v6_0 : W5 m ρ c main_v6_0 = fun i => sgu arg[m, c, main_arg0] arg[m, c, main_arg1] arg[m, c, main_arg2] (i 0) (i 1) :=
  (W5_of m ρ c main_v6_0 (by decide)).trans ((W4_of m ρ c main_v6_0 (by decide)).trans (at3_v6_0 m ρ c))
theorem at5_v6_1 : W5 m ρ c main_v6_1 = fun i => si arg[m, c, main_arg0] arg[m, c, main_arg1] arg[m, c, main_arg2] (i 0) (i 1) :=
  (W5_of m ρ c main_v6_1 (by decide)).trans ((W4_of m ρ c main_v6_1 (by decide)).trans (at3_v6_1 m ρ c))

/-- Row by row: the third region's residual sum, and the last region's scaled product. -/
theorem rh0 (t : Fin cfg2.N) (r l : Fin 1024) :
    rh (iblk2 (V4 m ρ) c 0 t) (iblk2 (V4 m ρ) c 1 t) (iblk2 (V4 m ρ) c 2 t) r l = hout arg[m, c, main_arg0] arg[m, c, main_arg1] arg[m, c, main_arg2] arg[m, c, main_arg3] (row2 t r) l := by
  unfold rh hout
  rw [iblk2_2_apply, show V4 m ρ c main_arg0 = m ((c : Thread nD τ).loc main_arg0) from W4_args m ρ c main_arg0 (by decide)]
  refine congrArg₂ (fun a y : EReal => a + half * y) rfl (Finset.sum_congr rfl fun x _ => ?_)
  rw [iblk2_0_apply, iblk2_1_apply, show V4 m ρ c main_v6_2 = _ from at4_v6_2 m ρ c, show V4 m ρ c main_v3 = _ from at4_v3 m ρ c, reference_act]
  rfl

theorem da0 (t : Fin cfg3.N) (r : Fin 512) (l : Fin 2816) :
    dq (iblk3 (V5 m ρ) c 1 t) (iblk3 (V5 m ρ) c 0 t) r l = da arg[m, c, main_arg3] arg[m, c, main_arg5] (row3 t r) l := by
  refine congrArg (fun y : EReal => half * y) (Finset.sum_congr rfl fun x _ => ?_)
  rw [iblk3_0_apply, iblk3_1_apply, show V5 m ρ c main_arg5 = m ((c : Thread nD τ).loc main_arg5) from W5_args m ρ c main_arg5 (by decide), show V5 m ρ c main_v3 = _ from at5_v3 m ρ c]
  rfl

theorem at5_v8_0 : W5 m ρ c main_v8_0 = Cert.ReferenceFfnIdeal.Read.val_main_v21 (F := Ideal) arg[m, c, main_arg0] arg[m, c, main_arg1] arg[m, c, main_arg2] arg[m, c, main_arg3] :=
  (W5_arr m ρ c 4).trans (array2_4 (V4 m ρ) c _ fun t r l => by rw [block2_1, rh0, reference_hout])
theorem at5_v8_1 : W5 m ρ c main_v8_1 = Cert.ReferenceFfnIdeal.Read.val_main_v50 (F := Ideal) arg[m, c, main_arg0] arg[m, c, main_arg1] arg[m, c, main_arg2] arg[m, c, main_arg3] arg[m, c, main_arg4] :=
  (W5_arr m ρ c 5).trans (array2_5 (V4 m ρ) c _ fun t r l => by
    rw [block2_2, reference_hnext]
    rw [rh0, show (fun k => rh (iblk2 (V4 m ρ) c 0 t) (iblk2 (V4 m ρ) c 1 t) (iblk2 (V4 m ρ) c 2 t) r k) = _ from funext fun k => rh0 m ρ c t r k]
    rw [iblk2_3_apply, show V4 m ρ c main_v7 = _ from at4_v7 m ρ c, line_apply]
    rfl)

/-- THE RESULTS: the normed rows, the gated product, the residual sum and its norm, on any arguments. -/
theorem final_hn : W6 m ρ c main_v5 = Cert.ReferenceFfnIdeal.Read.val_main_v33 (F := Ideal) arg[m, c, main_arg0] arg[m, c, main_arg1] :=
  (W6_of m ρ c main_v5 (by decide)).trans ((W5_of m ρ c main_v5 (by decide)).trans ((W4_of m ρ c main_v5 (by decide)).trans
    ((W3_of m ρ c main_v5 (by decide)).trans (at2_v5 m ρ c))))
theorem final_act : W6 m ρ c main_v6_2 = Cert.ReferenceFfnIdeal.Read.val_main_v36 (F := Ideal) arg[m, c, main_arg0] arg[m, c, main_arg1] arg[m, c, main_arg2] :=
  (W6_of m ρ c main_v6_2 (by decide)).trans ((W5_of m ρ c main_v6_2 (by decide)).trans (at4_v6_2 m ρ c))
theorem final_hout : W6 m ρ c main_v8_0 = Cert.ReferenceFfnIdeal.Read.val_main_v21 (F := Ideal) arg[m, c, main_arg0] arg[m, c, main_arg1] arg[m, c, main_arg2] arg[m, c, main_arg3] :=
  (W6_of m ρ c main_v8_0 (by decide)).trans (at5_v8_0 m ρ c)
theorem final_hnext : W6 m ρ c main_v8_1 = Cert.ReferenceFfnIdeal.Read.val_main_v50 (F := Ideal) arg[m, c, main_arg0] arg[m, c, main_arg1] arg[m, c, main_arg2] arg[m, c, main_arg3] arg[m, c, main_arg4] :=
  (W6_of m ρ c main_v8_1 (by decide)).trans (at5_v8_1 m ρ c)

/-- The gate's two gradients, on real arguments. -/
theorem final_dg (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h5 : ∀ i, IsR (m ((c : Thread nD τ).loc main_arg5) i)) :
    W6 m ρ c main_v9_0 = Cert.ReferenceFfnIdeal.Read.val_main_v51 (F := Ideal) arg[m, c, main_arg0] arg[m, c, main_arg1] arg[m, c, main_arg2] arg[m, c, main_arg3] arg[m, c, main_arg5] :=
  (W6_arr m ρ c 4).trans (array3_4 (V5 m ρ) c _ fun t r l => by
    rw [block3_2, reference_dg, da0, iblk3_2_apply, show V5 m ρ c main_v6_0 = _ from at5_v6_0 m ρ c]
    exact dg_eq h0 h1 h2 h3 h5 (row3 t r) l)
theorem final_du (h3 : ∀ i, IsR (m ((c : Thread nD τ).loc main_arg3) i)) (h5 : ∀ i, IsR (m ((c : Thread nD τ).loc main_arg5) i)) :
    W6 m ρ c main_v9_1 = Cert.ReferenceFfnIdeal.Read.val_main_v52 (F := Ideal) arg[m, c, main_arg0] arg[m, c, main_arg1] arg[m, c, main_arg2] arg[m, c, main_arg3] arg[m, c, main_arg5] :=
  (W6_arr m ρ c 5).trans (array3_5 (V5 m ρ) c _ fun t r l => by
    rw [block3_3, reference_du, da0, iblk3_3_apply, show V5 m ρ c main_v6_1 = _ from at5_v6_1 m ρ c]
    exact du_eq h3 h5 (row3 t r) l)

end Cert.Proof.Ffn

end
-- ==== Proof.Ffn.Claim.lean ====
/- Hand-written, untrusted: THE CLAIMS OF THE FEED-FORWARD HALF STEP: the reference's frame, and the value claim. -/
module

public import proofs.«01_k».proof.Defs
public import proofs.«01_k».proof.Proof.Ffn.Final
public import proofs.«01_k».proof.Proof.Gen.KernelFfn.Frame
public import proofs.«01_k».proof.Proof.Gen.Pre_ffn_finite

@[expose] public section

noncomputable section

namespace Cert.Proof.Ffn

open Idealize.ShloMosaic Idealize.ShloMosaic.TcCoe Idealize.SL.Sem
open Cert.Proof.Tools
open Cert.KernelFfnIdeal (main_arg0 main_arg1 main_arg2 main_arg3 main_arg4 main_arg5)

/-- A kernel's argument array on one device. -/
local notation "arg[" m ", " c ", " a "]" => m (Thread.loc (Dev.tc c : Thread Cert.KernelFfnIdeal.nD Cert.KernelFfnIdeal.τ) a)

/-- The reference's run leaves its arguments as they were; it has no semaphore. -/
theorem frame_reference : Cert.quiescent_ReferenceFfnIdeal (hReferenceFfnIdeal := Cert.ReferenceFfnIdeal.Gen.facts) := fun m g _ =>
  (θ_run Cert.ReferenceFfnIdeal.defs _ _).mono (fun r h => ⟨fun c => (h c).2.2.2.2.2.2, sem_eq_zero_of_no_sems (by decide) r.2⟩)
    (Cert.ReferenceFfnIdeal.Value.run (F := Ideal) m g)

/-- The two programs end at the same arrays. -/
theorem algebraic : Cert.algebraic_KernelFfnIdeal_ReferenceFfnIdeal_pre_ffn_finite (hKernelFfnIdeal := Cert.KernelFfnIdeal.Gen.facts)
    (hReferenceFfnIdeal := Cert.ReferenceFfnIdeal.Gen.facts) (hPre_ffn_finite := Cert.Pre_ffn_finite.Gen.facts) := by
  intro m g m' g' hpre hagree
  refine ⟨_, _, _, _, _, _, (θ_run Cert.KernelFfnIdeal.defs _ _).mono (fun r h c => ⟨h c _ (Cert.KernelFfnIdeal.Gen.mem_uc Cert.KernelFfnIdeal.main_v5 (by decide)),
    h c _ (Cert.KernelFfnIdeal.Gen.mem_uc Cert.KernelFfnIdeal.main_v6_2 (by decide)),
    h c _ (Cert.KernelFfnIdeal.Gen.mem_uc Cert.KernelFfnIdeal.main_v8_0 (by decide)),
    h c _ (Cert.KernelFfnIdeal.Gen.mem_uc Cert.KernelFfnIdeal.main_v8_1 (by decide)),
    h c _ (Cert.KernelFfnIdeal.Gen.mem_uc Cert.KernelFfnIdeal.main_v9_0 (by decide)),
    h c _ (Cert.KernelFfnIdeal.Gen.mem_uc Cert.KernelFfnIdeal.main_v9_1 (by decide)),
    (h c _ (Cert.KernelFfnIdeal.Gen.mem_uc Cert.KernelFfnIdeal.main_arg0 (by decide))).trans (Cert.KernelFfnIdeal.Gen.W6_main_arg0 m g c),
    (h c _ (Cert.KernelFfnIdeal.Gen.mem_uc Cert.KernelFfnIdeal.main_arg1 (by decide))).trans (Cert.KernelFfnIdeal.Gen.W6_main_arg1 m g c),
    (h c _ (Cert.KernelFfnIdeal.Gen.mem_uc Cert.KernelFfnIdeal.main_arg2 (by decide))).trans (Cert.KernelFfnIdeal.Gen.W6_main_arg2 m g c),
    (h c _ (Cert.KernelFfnIdeal.Gen.mem_uc Cert.KernelFfnIdeal.main_arg3 (by decide))).trans (Cert.KernelFfnIdeal.Gen.W6_main_arg3 m g c),
    (h c _ (Cert.KernelFfnIdeal.Gen.mem_uc Cert.KernelFfnIdeal.main_arg4 (by decide))).trans (Cert.KernelFfnIdeal.Gen.W6_main_arg4 m g c),
    (h c _ (Cert.KernelFfnIdeal.Gen.mem_uc Cert.KernelFfnIdeal.main_arg5 (by decide))).trans (Cert.KernelFfnIdeal.Gen.W6_main_arg5 m g c)⟩) (run (F := Ideal) m g), ?_⟩
  refine (θ_run Cert.ReferenceFfnIdeal.defs _ _).mono (fun r h c => ?_) (Cert.ReferenceFfnIdeal.Value.run (F := Ideal) m' g')
  obtain ⟨a0, a1, a2, a3, a4, a5⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h5 : ∀ i, IsR (arg[m, c, main_arg5] i) := isR_of_test _ _ (fun _ => inf_word) p4
  obtain ⟨v0, v1, v2, v3, v4, v5, hrest⟩ := h c
  refine ⟨(v0.trans (?_ : _ = Cert.ReferenceFfnIdeal.Read.val_main_v33 (F := Ideal) arg[m, c, main_arg0] arg[m, c, main_arg1])).trans (final_hn m g c).symm, (v1.trans (?_ : _ = Cert.ReferenceFfnIdeal.Read.val_main_v36 (F := Ideal) arg[m, c, main_arg0] arg[m, c, main_arg1] arg[m, c, main_arg2])).trans (final_act m g c).symm, (v2.trans (?_ : _ = Cert.ReferenceFfnIdeal.Read.val_main_v21 (F := Ideal) arg[m, c, main_arg0] arg[m, c, main_arg1] arg[m, c, main_arg2] arg[m, c, main_arg3])).trans (final_hout m g c).symm, (v3.trans (?_ : _ = Cert.ReferenceFfnIdeal.Read.val_main_v50 (F := Ideal) arg[m, c, main_arg0] arg[m, c, main_arg1] arg[m, c, main_arg2] arg[m, c, main_arg3] arg[m, c, main_arg4])).trans (final_hnext m g c).symm, (v4.trans (?_ : _ = Cert.ReferenceFfnIdeal.Read.val_main_v51 (F := Ideal) arg[m, c, main_arg0] arg[m, c, main_arg1] arg[m, c, main_arg2] arg[m, c, main_arg3] arg[m, c, main_arg5])).trans (final_dg m g c h0 h1 h2 h3 h5).symm, (v5.trans (?_ : _ = Cert.ReferenceFfnIdeal.Read.val_main_v52 (F := Ideal) arg[m, c, main_arg0] arg[m, c, main_arg1] arg[m, c, main_arg2] arg[m, c, main_arg3] arg[m, c, main_arg5])).trans (final_du m g c h3 h5).symm, hrest⟩
  · rw [← a0, ← a1]
    first | exact Cert.ReferenceFfnIdeal.Read.val_main_v33_eq m' c | exact Cert.ReferenceFfnIdeal.Read.val_main_v33_eq _ _
  · rw [← a0, ← a1, ← a2]
    first | exact Cert.ReferenceFfnIdeal.Read.val_main_v36_eq m' c | exact Cert.ReferenceFfnIdeal.Read.val_main_v36_eq _ _ _
  · rw [← a0, ← a1, ← a2, ← a3]
    first | exact Cert.ReferenceFfnIdeal.Read.val_main_v21_eq m' c | exact Cert.ReferenceFfnIdeal.Read.val_main_v21_eq _ _ _ _
  · rw [← a0, ← a1, ← a2, ← a3, ← a4]
    first | exact Cert.ReferenceFfnIdeal.Read.val_main_v50_eq m' c | exact Cert.ReferenceFfnIdeal.Read.val_main_v50_eq _ _ _ _ _
  · rw [← a0, ← a1, ← a2, ← a3, ← a5]
    first | exact Cert.ReferenceFfnIdeal.Read.val_main_v51_eq m' c | exact Cert.ReferenceFfnIdeal.Read.val_main_v51_eq _ _ _ _ _
  · rw [← a0, ← a1, ← a2, ← a3, ← a5]
    first | exact Cert.ReferenceFfnIdeal.Read.val_main_v52_eq m' c | exact Cert.ReferenceFfnIdeal.Read.val_main_v52_eq _ _ _ _ _

end Cert.Proof.Ffn

end
-- ==== Proof.Indx.Arrays.lean ====
/- Hand-written, untrusted: THE RUN OF THE FEED-FORWARD HALF STEP'S LAST BACKWARD KERNEL, at any float values. What each point's body leaves in the
   two result windows (`outs_first`, `outs_next`): the point's rows of the input's gradient, and the running sum of the
   gain's gradient; and what the input windows hold. -/
module

public import proofs.«01_k».proof.Proof.Rms
public import proofs.«01_k».proof.Proof.Gen.KernelIndxIdeal.Value
public import Idealize.ShloMosaic.Lib.Pipeline.ValueKit.Geometry

@[expose] public section

noncomputable section

namespace Cert.Proof.Indx

open Cert.KernelIndxIdeal Cert.KernelIndxIdeal.Gen Idealize.ShloMosaic Idealize.ShloMosaic.TcCoe Idealize.SL.Sem
open Cert.Proof.Tools

section Outs

variable {F : FTy → Type} [FloatOps F]
variable (m : (ℓ : Loc nD τ sig) → Buf (Elt F) ℓ)

/-- The first point: the rows of the input's gradient, and the rows' part of the gain's gradient. -/
theorem outs_first (c : Dev nD) (t : Fin cfg0.N) (h0 : t.val % 16 = 0) (h1 : ¬1 ≤ t.val) :
    outsAt0 m c t.val t.isLt = (k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)),
      k0_pay2 (k0_pay4 (iblk m c 0 t) (iblk m c 1 t) (iblk m c 2 t) (iblk m c 3 t)) (iblk m c 4 t) (k0_pay5 (iblk m c 4 t))) := by
  rw [outsAt0_A m c t h0 h1]
  refine Prod.ext ?_ ?_
  · dsimp only
    unfold out0_A_7
    rw [View.read_writes_eq_canon _ _ _ (fun _ => cover0_A_7 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_A_8
    rw [View.read_writes_eq_canon _ _ _ (fun _ => cover0_A_8 ..)]
    unfold kernelRun0_A
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S1x1024x2816) hz3, View.ld_unit_zero (S := S1x1024) hz2, shapeCast_self]

/-- A later point: the same rows, and their part of the gain's gradient added to the sum so far. -/
theorem outs_next (c : Dev nD) (t : Fin cfg0.N) (h0 : ¬t.val % 16 = 0) (h1 : 1 ≤ t.val) :
    outsAt0 m c t.val t.isLt = (k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)),
      k0_pay3 (k0_pay4 (iblk m c 0 t) (iblk m c 1 t) (iblk m c 2 t) (iblk m c 3 t)) (iblk m c 4 t) (k0_pay5 (iblk m c 4 t)) (outsAt0 m c (t.val - 1) (by omega)).2) := by
  rw [outsAt0_B m c t h0 h1]
  refine Prod.ext ?_ ?_
  · dsimp only
    unfold out0_B_7
    rw [View.read_writes_eq_canon _ _ _ (fun _ => cover0_B_7 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_B_8
    rw [View.read_writes_eq_canon _ _ _ (fun _ => cover0_B_8 ..)]
    unfold kernelRun0_B
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![1, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- What each input window's block holds at an index: the argument's element there (the weight rounded to the narrow type, which on extended reals is the identity, and its two halves put on two planes; the gain read as one row). -/
theorem iblk0_apply (c : Dev nD) (t : Fin cfg0.N) (r : Fin 512) (l : Fin 2816) :
    (iblk m c 0 t : Vec Ideal S512x2816 .bf16) (ix2 r l) = m ((c : Thread nD τ).loc main_arg3) (ix2 (row t r) l) := by
  blk_simp [iblk, V_main_arg3]
  refine congrArg _ ?_
  blk_ext [index0, row]

theorem iblk1_apply (c : Dev nD) (t : Fin cfg0.N) (r : Fin 512) (l : Fin 2816) :
    (iblk m c 1 t : Vec Ideal S512x2816 .bf16) (ix2 r l) = m ((c : Thread nD τ).loc main_arg4) (ix2 (row t r) l) := by
  blk_simp [iblk, V_main_arg4]
  refine congrArg _ ?_
  blk_ext [index1, row]

/-- The weight's two halves, one plane each. -/
abbrev planes (w : Vec Ideal S1024x5632 .f32) : Vec Ideal S2x1024x2816 .bf16 :=
  transpose S2x1024x2816 [1, 0, 2] (shapeCast S1024x2x2816 (truncf (F := Ideal) .bf16 w bitsLt_bf16_f32) shapeCasts_S1024x5632_S1024x2x2816) transposes_S1024x2x2816_S2x1024x2816_1_0_2

theorem planes_eq (c : Dev nD) : V m c main_v2 = planes (m ((c : Thread nD τ).loc main_arg2)) := by
  show StableHlo.after hostOps0 _ main_v2 = _
  after_results_simp <;> rfl

theorem planes0 (w : Vec Ideal S1024x5632 .f32) (k : Fin 1024) (l : Fin 2816) : planes w (ix3 0 k l) = w (ix2 k ⟨l.val, by omega⟩) := by
  unfold planes
  pointwise

theorem planes1 (w : Vec Ideal S1024x5632 .f32) (k : Fin 1024) (l : Fin 2816) : planes w (ix3 1 k l) = w (ix2 k ⟨2816 + l.val, by omega⟩) := by
  unfold planes
  pointwise

theorem iblk2_apply (c : Dev nD) (t : Fin cfg0.N) (k : Fin 1024) (l : Fin 2816) :
    (iblk m c 2 t : Vec Ideal S1x1024x2816 .bf16) (ix3 0 k l) = m ((c : Thread nD τ).loc main_arg2) (ix2 k ⟨l.val, by omega⟩) := by
  blk_simp [iblk, planes_eq]
  refine Eq.trans (congrArg (planes (m ((c : Thread nD τ).loc main_arg2))) (?_ : _ = ix3 0 k l)) (planes0 _ k l)
  blk_ext [index2]

theorem iblk3_apply (c : Dev nD) (t : Fin cfg0.N) (k : Fin 1024) (l : Fin 2816) :
    (iblk m c 3 t : Vec Ideal S1x1024x2816 .bf16) (ix3 0 k l) = m ((c : Thread nD τ).loc main_arg2) (ix2 k ⟨2816 + l.val, by omega⟩) := by
  blk_simp [iblk, planes_eq]
  refine Eq.trans (congrArg (planes (m ((c : Thread nD τ).loc main_arg2))) (?_ : _ = ix3 1 k l)) (planes1 _ k l)
  blk_ext [index3]

theorem iblk4_apply (c : Dev nD) (t : Fin cfg0.N) (r : Fin 512) (l : Fin 1024) :
    (iblk m c 4 t : Vec Ideal S512x1024 .f32) (ix2 r l) = m ((c : Thread nD τ).loc main_arg0) (ix2 (row t r) l) := by
  blk_simp [iblk, V_main_arg0]
  refine congrArg _ ?_
  blk_ext [index4, row]

theorem iblk5_apply (c : Dev nD) (t : Fin cfg0.N) (l : Fin 1024) :
    (iblk m c 5 t : Vec Ideal S1x1024 .f32) (ix2 0 l) = m ((c : Thread nD τ).loc main_arg1) (ix1 l) := by
  have e : V m c main_v3 = shapeCast S1x1024 (m ((c : Thread nD τ).loc main_arg1)) shapeCasts_S1024_S1x1024 := by
    show StableHlo.after hostOps0 _ main_v3 = _
    after_results_simp <;> rfl
  blk_simp [iblk, e]
  refine Eq.trans (congrArg _ (?_ : _ = ix2 0 l)) ?_
  · blk_ext [index5]
  · pointwise

theorem iblk6_apply (c : Dev nD) (t : Fin cfg0.N) (r : Fin 512) (l : Fin 1024) :
    (iblk m c 6 t : Vec Ideal S512x1024 .f32) (ix2 r l) = m ((c : Thread nD τ).loc main_arg5) (ix2 (row t r) l) := by
  blk_simp [iblk, V_main_arg5]
  refine congrArg _ ?_
  blk_ext [index6, row]

end Cert.Proof.Indx

end
-- ==== Proof.Indx.Value.lean ====
/- Hand-written, untrusted: THE VALUES OF THE FEED-FORWARD HALF STEP'S LAST BACKWARD KERNEL, on extended reals: its two result arrays are the
   reference's (`final_dx` on real arguments, `final_gain` on any). -/
module

public import proofs.«01_k».proof.Proof.Indx.Arrays
public import proofs.«01_k».proof.Proof.Gen.ReferenceIndxIdeal.Read

@[expose] public section

noncomputable section

namespace Cert.Proof.Indx

open Cert.KernelIndxIdeal Cert.KernelIndxIdeal.Gen Idealize.ShloMosaic Idealize.ShloMosaic.TcCoe Idealize.SL.Sem
open Cert.Proof.Tools Cert.Proof.Rms Cert.ReferenceIndxIdeal.Read

/-- An argument array on one device. -/
local notation "arg[" m ", " c ", " a "]" => m (Thread.loc (c : Thread nD τ) a)

section Block

variable (b0 : Vec Ideal S512x2816 .bf16) (b1 : Vec Ideal S512x2816 .bf16) (b2 : Vec Ideal S1x1024x2816 .bf16) (b3 : Vec Ideal S1x1024x2816 .bf16) (b4 : Vec Ideal S512x1024 .f32) (b5 : Vec Ideal S1x1024 .f32) (b6 : Vec Ideal S512x1024 .f32)

/-- A block of the kernel's gradient, element by element. -/
theorem block_dx (r : Fin 512) (l : Fin 1024) :
    k0_pay1 b6 (k0_pay7 b0 b1 b2 b3 b4 b5) (k0_pay8 b4) (k0_pay9 b0 b1 b2 b3 b4 b5) (ix2 r l)
      = kernelGrad (fun k => b4 (ix2 r k)) (fun k => (∑ x, b0 (ix2 r x) * b2 (ix3 0 k x) + ∑ x, b1 (ix2 r x) * b3 (ix3 0 k x)) * b5 (ix2 0 k)) (b6 (ix2 r l)) l := by
  simp only [k0_pay1, k0_pay4, k0_pay5, k0_pay6, k0_pay7, k0_pay8, k0_pay9]
  pointwise

/-- A block's part of the gain's gradient. -/
theorem block_gain (l : Fin 1024) :
    k0_pay2 (k0_pay4 b0 b1 b2 b3) b4 (k0_pay5 b4) (ix2 0 l) = ∑ r, (∑ x, b0 (ix2 r x) * b2 (ix3 0 l x) + ∑ x, b1 (ix2 r x) * b3 (ix3 0 l x)) * (b4 (ix2 r l) * rs (fun k => b4 (ix2 r k))) := by
  simp only [k0_pay2, k0_pay4, k0_pay5]
  pointwise

/-- Adding a block's part to the sum so far. -/
theorem add_gain (y : Vec Ideal S1x1024 .f32) (l : Fin 1024) :
    k0_pay3 (k0_pay4 b0 b1 b2 b3) b4 (k0_pay5 b4) y (ix2 0 l) = y (ix2 0 l) + k0_pay2 (k0_pay4 b0 b1 b2 b3) b4 (k0_pay5 b4) (ix2 0 l) := by
  simp only [k0_pay3]
  pointwise

end Block

/-- The norm's cotangent at one element, through the two halves of the weight. -/
def cot (x2 : Vec Ideal S1024x5632 .f32) (x3 : Vec Ideal S8192x2816 .bf16) (x4 : Vec Ideal S8192x2816 .bf16) (r : Fin 8192) (k : Fin 1024) : EReal :=
  ∑ x, x3 (ix2 r x) * x2 (ix2 k ⟨x.val, by omega⟩) + ∑ x, x4 (ix2 r x) * x2 (ix2 k ⟨2816 + x.val, by omega⟩)

/-- The same as differentiation of the forward line gives it. -/
def cot' (x2 : Vec Ideal S1024x5632 .f32) (x3 x4 : Vec Ideal S8192x2816 .bf16) (r : Fin 8192) (k : Fin 1024) : EReal :=
  ∑ x : Fin 2816, x4 (ix2 r x) * x2 (ix2 k ⟨2816 + x.val, by omega⟩) + ∑ x : Fin 2816, x3 (ix2 r x) * x2 (ix2 k ⟨x.val, by omega⟩)

theorem cot_eq (x2 : Vec Ideal S1024x5632 .f32) (x3 x4 : Vec Ideal S8192x2816 .bf16) (r : Fin 8192) (k : Fin 1024) :
    cot x2 x3 x4 r k = cot' x2 x3 x4 r k := add_comm _ _

section Reference

variable (x0 : Vec Ideal S8192x1024 .f32) (x1 : Vec Ideal S1024 .f32) (x2 : Vec Ideal S1024x5632 .f32) (x3 : Vec Ideal S8192x2816 .bf16) (x4 : Vec Ideal S8192x2816 .bf16) (x5 : Vec Ideal S8192x1024 .f32)

/-- The reference's gradient, element by element. -/
theorem reference_dx (r : Fin 8192) (l : Fin 1024) :
    val_main_v45 (F := Ideal) x0 x1 x2 x3 x4 x5 (ix2 r l)
      = referenceGrad (fun k => x0 (ix2 r k)) (fun k => cot x2 x3 x4 r k * x1 (ix1 k)) (x5 (ix2 r l)) l := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_v20, val_main_v21, val_main_v22, val_main_v23, val_main_v24, val_main_v25, val_main_cst_3,
      val_main_v26, val_main_v27, val_main_v28, val_main_v29, val_main_cst_4, val_main_v30, val_main_v31,
      val_main_cst_5, val_main_v32, val_main_v33, val_main_v34, val_main_v35, val_main_v36, val_main_v37,
      val_main_cst_6, val_main_v38, val_main_v39, val_main_cst_7, val_main_v40, val_main_v41, val_main_v42,
      val_main_v43, val_main_v44, val_main_v45, val_main_v46]

/-- The reference's gradient of the gain. -/
theorem reference_gain (l : Fin 1024) :
    val_main_v46 (F := Ideal) x0 x2 x3 x4 (ix2 0 l) = ∑ r, cot x2 x3 x4 r l * (x0 (ix2 r l) * rs (fun k => x0 (ix2 r k))) := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_v20, val_main_v21, val_main_v22, val_main_v23, val_main_v24, val_main_v25, val_main_cst_3,
      val_main_v26, val_main_v27, val_main_v28, val_main_v29, val_main_cst_4, val_main_v30, val_main_v31,
      val_main_cst_5, val_main_v32, val_main_v33, val_main_v34, val_main_v35, val_main_v36, val_main_v37,
      val_main_cst_6, val_main_v38, val_main_v39, val_main_cst_7, val_main_v40, val_main_v41, val_main_v42,
      val_main_v43, val_main_v44, val_main_v45, val_main_v46]
  rw [Finset.univ_unique, Finset.sum_singleton]
  exact Finset.sum_congr rfl fun r _ => mul_comm _ _

variable (t : Fin cfg0.N) (b0 : Vec Ideal S512x2816 .bf16) (b1 : Vec Ideal S512x2816 .bf16) (b2 : Vec Ideal S1x1024x2816 .bf16) (b3 : Vec Ideal S1x1024x2816 .bf16) (b4 : Vec Ideal S512x1024 .f32) (b5 : Vec Ideal S1x1024 .f32) (b6 : Vec Ideal S512x1024 .f32)

/-- The kernel's gradient of one block of rows is the reference's at those rows. -/
theorem rows_dx (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = x3 (ix2 (row t r) l)) (e1 : ∀ r l, b1 (ix2 r l) = x4 (ix2 (row t r) l)) (e2 : ∀ k l, b2 (ix3 0 k l) = x2 (ix2 k ⟨l.val, by omega⟩)) (e3 : ∀ k l, b3 (ix3 0 k l) = x2 (ix2 k ⟨2816 + l.val, by omega⟩)) (e4 : ∀ r l, b4 (ix2 r l) = x0 (ix2 (row t r) l)) (e5 : ∀ l, b5 (ix2 0 l) = x1 (ix1 l)) (e6 : ∀ r l, b6 (ix2 r l) = x5 (ix2 (row t r) l)) (r : Fin 512) (l : Fin 1024) :
    k0_pay1 b6 (k0_pay7 b0 b1 b2 b3 b4 b5) (k0_pay8 b4) (k0_pay9 b0 b1 b2 b3 b4 b5) (ix2 r l) = val_main_v45 (F := Ideal) x0 x1 x2 x3 x4 x5 (ix2 (row t r) l) := by
  rw [reference_dx, block_dx]
  simp only [e0, e1, e2, e3, e4, e5, e6]
  exact grad_eq (fun k => x0 (ix2 (row t r) k)) (fun k => cot x2 x3 x4 (row t r) k * x1 (ix1 k))
    (fun _ => h0 _) (fun _ => ((IsR.sum fun _ => (h3 _).mul (h2 _)).add (IsR.sum fun _ => (h4 _).mul (h2 _))).mul (h1 _)) (x5 (ix2 (row t r) l)) l

/-- One row's term of the gain's gradient. -/
def term (l : Fin 1024) (r : Fin 8192) : EReal := cot x2 x3 x4 r l * (x0 (ix2 r l) * rs (fun k => x0 (ix2 r k)))

/-- A block's part of the gain's gradient: its rows' terms. -/
theorem rows_gain (e0 : ∀ r l, b0 (ix2 r l) = x3 (ix2 (row t r) l)) (e1 : ∀ r l, b1 (ix2 r l) = x4 (ix2 (row t r) l)) (e2 : ∀ k l, b2 (ix3 0 k l) = x2 (ix2 k ⟨l.val, by omega⟩)) (e3 : ∀ k l, b3 (ix3 0 k l) = x2 (ix2 k ⟨2816 + l.val, by omega⟩)) (e4 : ∀ r l, b4 (ix2 r l) = x0 (ix2 (row t r) l)) (l : Fin 1024) :
    k0_pay2 (k0_pay4 b0 b1 b2 b3) b4 (k0_pay5 b4) (ix2 0 l) = ∑ r : Fin 512, term x0 x2 x3 x4 l (row t r) := by
  rw [block_gain]
  simp only [e0, e1, e2, e3, e4]
  rfl

end Reference

variable (m : (ℓ : Loc nD τ sig) → Buf (Elt Ideal) ℓ) (c : Dev nD)

/-- What any point leaves in the gradient's window. -/
theorem outs_dx (t : Fin cfg0.N) :
    (outsAt0 m c t.val t.isLt).1 = k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)) := by
  have hN : cfg0.N = 16 := N_0
  have := t.isLt
  by_cases h : t.val % 16 = 0
  · rw [outs_first m c t h (by omega)]
  · rw [outs_next m c t h (by omega)]

/-- The gradient's array after the run is the reference's. -/
theorem final_dx (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 7 cfg0.N = val_main_v45 (F := Ideal) arg[m, c, main_arg0] arg[m, c, main_arg1] arg[m, c, main_arg2] arg[m, c, main_arg3] arg[m, c, main_arg4] arg[m, c, main_arg5] := by
  refine (dats m 0 c).arrAt_eq_of_covers 7 _ (by decide +kernel) fun t hf y => ?_
  blk_simp
  rw [after0_7, outs_dx]
  obtain ⟨r, l, rfl⟩ : ∃ (r : Fin 512) (l : Fin 1024), y = ix2 r l := ⟨_, _, eq_ix2 (n0 := 512) (n1 := 1024) y⟩
  have e : (win0_7.blk t).view.emb (ix2 r l) = ix2 (row t r) l := by blk_ext [index7, row]
  rw [e]
  exact rows_dx _ _ _ _ _ _ t _ _ _ _ _ _ _ h0 h1 h2 h3 h4 (iblk0_apply m c t) (iblk1_apply m c t) (iblk2_apply m c t) (iblk3_apply m c t) (iblk4_apply m c t) (iblk5_apply m c t) (iblk6_apply m c t) r l

/-- One row's term, of the arguments as the run finds them. -/
abbrev term' (l : Fin 1024) : Fin 8192 → EReal :=
  term arg[m, c, main_arg0] arg[m, c, main_arg2] arg[m, c, main_arg3] arg[m, c, main_arg4] l

/-- A point's part of the gain's gradient. -/
theorem point_gain (t : Fin cfg0.N) (l : Fin 1024) : k0_pay2 (k0_pay4 (iblk m c 0 t) (iblk m c 1 t) (iblk m c 2 t) (iblk m c 3 t)) (iblk m c 4 t) (k0_pay5 (iblk m c 4 t)) (ix2 0 l) = ∑ r : Fin 512, term' m c l (row t r) :=
  rows_gain _ _ _ _ t _ _ _ _ _ (iblk0_apply m c t) (iblk1_apply m c t) (iblk2_apply m c t) (iblk3_apply m c t) (iblk4_apply m c t) l

/-- What point `n` leaves in the gain's window: the terms of all rows up to the point's. -/
theorem outs_gain (l : Fin 1024) : ∀ (n : ℕ) (h : n < cfg0.N),
    (outsAt0 m c n h).2 (ix2 0 l) = ∑ i ∈ Finset.range (512 * (n + 1)), ext (term' m c l) i
  | 0, h => by
    have e := outs_first m c ⟨0, h⟩ rfl (by simp)
    dsimp only at e
    rw [e, sum_block_zero (term' m c l) 512 (by omega)]
    exact point_gain m c ⟨0, h⟩ l
  | n + 1, h => by
    have hN : cfg0.N = 16 := N_0
    have e := outs_next m c ⟨n + 1, h⟩ (by dsimp only; omega) (by simp)
    dsimp only [Nat.add_sub_cancel] at e
    rw [e, sum_block (term' m c l) 512 (n + 1) (by omega), ← outs_gain l n (by omega)]
    exact (add_gain _ _ _ _ _ _ l).trans (congrArg _ (point_gain m c ⟨n + 1, h⟩ l))

/-- The last point. -/
abbrev last : Fin cfg0.N := ⟨15, by decide⟩

/-- The gain's gradient after the run is the reference's. -/
theorem final_gain :
    (dats m 0 c).arrAt 8 cfg0.N = val_main_v46 (F := Ideal) arg[m, c, main_arg0] arg[m, c, main_arg2] arg[m, c, main_arg3] arg[m, c, main_arg4] := by
  refine (dats m 0 c).arrAt_eq_of_after_last 8 last (by decide +kernel) _ fun y => ?_
  obtain ⟨i, l, rfl⟩ : ∃ (i : Fin 1) (l : Fin 1024), y = ix2 i l := ⟨_, _, eq_ix2 (n0 := 1) (n1 := 1024) y⟩
  obtain rfl : i = 0 := Subsingleton.elim _ _
  have e : (dats m 0 c).after 8 last (ix2 0 l) = ∑ i, term' m c l i := by
    rw [after0_8, outs_gain]
    exact sum_ext (term' m c l)
  exact e.trans (reference_gain _ _ _ _ l).symm

end Cert.Proof.Indx

end
-- ==== Proof.Indx.Claim.lean ====
/- Hand-written, untrusted: THE CLAIM ABOUT THE FEED-FORWARD HALF STEP'S LAST BACKWARD KERNEL. The precondition makes the arguments that meet in a
   product's subtraction real numbers; then both result arrays are the reference's (Indx/Value.lean). -/
module

public import proofs.«01_k».proof.Defs
public import proofs.«01_k».proof.Proof.Indx.Value
public import proofs.«01_k».proof.Proof.Gen.KernelIndx.Frame
public import proofs.«01_k».proof.Proof.Gen.Pre_indx_finite

@[expose] public section

noncomputable section

namespace Cert.Proof.Indx

open Idealize.ShloMosaic Idealize.ShloMosaic.TcCoe Idealize.SL.Sem
open Cert.Proof.Tools
open Cert.KernelIndxIdeal (main_arg0 main_arg1 main_arg2 main_arg3 main_arg4 main_arg5)

/-- A kernel's argument array on one device. -/
local notation "arg[" m ", " c ", " a "]" => m (Thread.loc (Dev.tc c : Thread Cert.KernelIndxIdeal.nD Cert.KernelIndxIdeal.τ) a)

/-- The reference's run leaves its arguments as they were; it has no semaphore. -/
theorem frame_reference : Cert.quiescent_ReferenceIndxIdeal (hReferenceIndxIdeal := Cert.ReferenceIndxIdeal.Gen.facts) := fun m g _ =>
  (θ_run Cert.ReferenceIndxIdeal.defs _ _).mono (fun r h => ⟨fun c => (h c).2.2, sem_eq_zero_of_no_sems (by decide) r.2⟩)
    (Cert.ReferenceIndxIdeal.Value.run (F := Ideal) m g)

/-- The two programs end at the same arrays. -/
theorem algebraic : Cert.algebraic_KernelIndxIdeal_ReferenceIndxIdeal_pre_indx_finite (hKernelIndxIdeal := Cert.KernelIndxIdeal.Gen.facts)
    (hReferenceIndxIdeal := Cert.ReferenceIndxIdeal.Gen.facts) (hPre_indx_finite := Cert.Pre_indx_finite.Gen.facts) := by
  intro m g m' g' hpre hagree
  refine ⟨_, _, Cert.KernelIndxIdeal.Value.run_blocks (F := Ideal) m g, ?_⟩
  refine (θ_run Cert.ReferenceIndxIdeal.defs _ _).mono (fun r h c => ?_) (Cert.ReferenceIndxIdeal.Value.run (F := Ideal) m' g')
  obtain ⟨a0, a1, a2, a3, a4, a5⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h4 : ∀ i, IsR (arg[m, c, main_arg4] i) := isR_of_test _ _ (fun _ => inf_word) p4
  obtain ⟨v0, v1, hrest⟩ := h c
  refine ⟨(v0.trans (?_ : _ = Cert.ReferenceIndxIdeal.Read.val_main_v45 (F := Ideal) arg[m, c, main_arg0] arg[m, c, main_arg1] arg[m, c, main_arg2] arg[m, c, main_arg3] arg[m, c, main_arg4] arg[m, c, main_arg5])).trans (final_dx m c h0 h1 h2 h3 h4).symm, (v1.trans (?_ : _ = Cert.ReferenceIndxIdeal.Read.val_main_v46 (F := Ideal) arg[m, c, main_arg0] arg[m, c, main_arg2] arg[m, c, main_arg3] arg[m, c, main_arg4])).trans (final_gain m c).symm, hrest⟩
  · rw [← a0, ← a1, ← a2, ← a3, ← a4, ← a5]
    first | exact Cert.ReferenceIndxIdeal.Read.val_main_v45_eq m' c | exact Cert.ReferenceIndxIdeal.Read.val_main_v45_eq _ _ _ _ _ _
  · rw [← a0, ← a2, ← a3, ← a4]
    first | exact Cert.ReferenceIndxIdeal.Read.val_main_v46_eq m' c | exact Cert.ReferenceIndxIdeal.Read.val_main_v46_eq _ _ _ _

end Cert.Proof.Indx

end
-- ==== Proof.Loss.Arrays.lean ====
/- Hand-written, untrusted: THE RUN OF THE LOSS KERNEL, at any float values. What each point's body leaves in the five result
   windows (`outs_first`, `outs_next`): the point's rows of three gradients, and the running sums of the loss and of the
   gain's gradient; and what the input windows hold. -/
module

public import proofs.«01_k».proof.Proof.Rms
public import proofs.«01_k».proof.Proof.Gen.KernelLossIdeal.Value
public import Idealize.ShloMosaic.Lib.Pipeline.ValueKit.Geometry

@[expose] public section

noncomputable section

namespace Cert.Proof.Loss

open Cert.KernelLossIdeal Cert.KernelLossIdeal.Gen Idealize.ShloMosaic Idealize.ShloMosaic.TcCoe Idealize.SL.Sem
open Cert.Proof.Tools

/-- An argument array on one device. -/
local notation "arg[" m ", " c ", " a "]" => m (Thread.loc (c : Thread nD τ) a)

section Outs

variable {F : FTy → Type} [FloatOps F]
variable (m : (ℓ : Loc nD τ sig) → Buf (Elt F) ℓ)

/-- The first point: the rows of the three gradients, and the rows' parts of the loss and of the gain's gradient. -/
theorem outs_first (c : Dev nD) (t : Fin cfg0.N) (h0 : t.val % 32 = 0) (h1 : ¬1 ≤ t.val) :
    outsAt0 m c t.val t.isLt = (k0_pay12 (k0_pay9 (iblk m c 0 t) (iblk m c 1 t) (iblk m c 2 t)) (k0_pay10 (iblk m c 0 t)) (k0_pay11 (iblk m c 0 t) (iblk m c 1 t) (iblk m c 2 t)),
      k0_pay16 (iblk m c 3 t) (iblk m c 4 t) (k0_pay9 (iblk m c 0 t) (iblk m c 1 t) (iblk m c 2 t)) (k0_pay10 (iblk m c 0 t)) (k0_pay11 (iblk m c 0 t) (iblk m c 1 t) (iblk m c 2 t)),
      k0_pay17 (iblk m c 4 t) (k0_pay9 (iblk m c 0 t) (iblk m c 1 t) (iblk m c 2 t)) (k0_pay10 (iblk m c 0 t)) (k0_pay11 (iblk m c 0 t) (iblk m c 1 t) (iblk m c 2 t)),
      k0_pay14 (k0_pay6 (iblk m c 0 t) (iblk m c 1 t) (iblk m c 2 t)),
      k0_pay15 (k0_pay2 (iblk m c 0 t)) (k0_pay4 (iblk m c 0 t)) (k0_pay7 (iblk m c 0 t) (iblk m c 1 t) (iblk m c 2 t))) := by
  rw [outsAt0_A m c t h0 h1 h0 h1]
  refine Prod.ext ?_ (Prod.ext ?_ (Prod.ext ?_ (Prod.ext ?_ ?_)))
  · dsimp only
    unfold out0_A_5
    rw [View.read_writes_eq_canon _ _ _ (fun _ => cover0_A_5 ..)]
    unfold kernelRun0_A
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_A_6
    rw [View.read_writes_eq_canon _ _ _ (fun _ => cover0_A_6 ..)]
    unfold kernelRun0_A
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_A_7
    rw [View.read_writes_eq_canon _ _ _ (fun _ => cover0_A_7 ..)]
    unfold kernelRun0_A
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_A_8
    rw [View.read_writes_eq_canon _ _ _ (fun _ => cover0_A_8 ..)]
    unfold kernelRun0_A
    dsimp only
    try sl_unfold_words
    rw [View.canon_unit_zero (S := S1x1) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_A_9
    rw [View.read_writes_eq_canon _ _ _ (fun _ => cover0_A_9 ..)]
    unfold kernelRun0_A
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]

/-- A later point: the same rows, and their parts added to the sums so far. -/
theorem outs_next (c : Dev nD) (t : Fin cfg0.N) (h0 : ¬t.val % 32 = 0) (h1 : 1 ≤ t.val) :
    outsAt0 m c t.val t.isLt = (k0_pay12 (k0_pay9 (iblk m c 0 t) (iblk m c 1 t) (iblk m c 2 t)) (k0_pay10 (iblk m c 0 t)) (k0_pay11 (iblk m c 0 t) (iblk m c 1 t) (iblk m c 2 t)),
      k0_pay16 (iblk m c 3 t) (iblk m c 4 t) (k0_pay9 (iblk m c 0 t) (iblk m c 1 t) (iblk m c 2 t)) (k0_pay10 (iblk m c 0 t)) (k0_pay11 (iblk m c 0 t) (iblk m c 1 t) (iblk m c 2 t)),
      k0_pay17 (iblk m c 4 t) (k0_pay9 (iblk m c 0 t) (iblk m c 1 t) (iblk m c 2 t)) (k0_pay10 (iblk m c 0 t)) (k0_pay11 (iblk m c 0 t) (iblk m c 1 t) (iblk m c 2 t)),
      k0_pay18 (k0_pay6 (iblk m c 0 t) (iblk m c 1 t) (iblk m c 2 t)) (outsAt0 m c (t.val - 1) (by omega)).2.2.2.1,
      k0_pay1 (k0_pay15 (k0_pay2 (iblk m c 0 t)) (k0_pay4 (iblk m c 0 t)) (k0_pay7 (iblk m c 0 t) (iblk m c 1 t) (iblk m c 2 t))) (outsAt0 m c (t.val - 1) (by omega)).2.2.2.2) := by
  rw [outsAt0_B m c t h0 h1 h0 h1]
  refine Prod.ext ?_ (Prod.ext ?_ (Prod.ext ?_ (Prod.ext ?_ ?_)))
  · dsimp only
    unfold out0_B_5
    rw [View.read_writes_eq_canon _ _ _ (fun _ => cover0_B_5 ..)]
    unfold kernelRun0_B
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_B_6
    rw [View.read_writes_eq_canon _ _ _ (fun _ => cover0_B_6 ..)]
    unfold kernelRun0_B
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_B_7
    rw [View.read_writes_eq_canon _ _ _ (fun _ => cover0_B_7 ..)]
    unfold kernelRun0_B
    dsimp only
    try sl_unfold_words
    rw [View.canon_unit_zero (S := S256x1024) hz2]
    simp only [View.readAt_eq_ld, (hs0_0 t).read_unread, (hs0_1 t).read_unread, (hs0_2 t).read_unread, (hs0_3 t).read_unread, (hs0_4 t).read_unread,
      View.ld_unit_zero (S := S256x1024) hz2, View.ld_unit_zero (S := S1x1024) hz2, View.ld_unit_zero (S := S1x1) hz2, shapeCast_self]
  · dsimp only
    unfold out0_B_8
    rw [View.read_writes_eq_canon _ _ _ (fun _ => cover0_B_8 ..)]
    unfold kernelRun0_B
    dsimp only
    try sl_unfold_words
    rw [View.canon_unit_zero (S := S1x1) hz2]
    simp only [View.readAt_eq_ld, (hs0_0 t).read_unread, (hs0_1 t).read_unread, (hs0_2 t).read_unread, (hs0_3 t).read_unread, (hs0_4 t).read_unread, (hs0_8 t).read_unread,
      View.ld_unit_zero (S := S256x1024) hz2, View.ld_unit_zero (S := S1x1024) hz2, View.ld_unit_zero (S := S1x1) hz2, shapeCast_self]
  · dsimp only
    unfold out0_B_9
    rw [View.read_writes_eq_canon _ _ _ (fun _ => cover0_B_9 ..)]
    unfold kernelRun0_B
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_9 t).read_unread,
      View.ld_unit_zero (S := S256x1024) hz2, View.ld_unit_zero (S := S1x1024) hz2, View.ld_unit_zero (S := S1x1) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- A point's row of the whole array. -/
def row (t : Fin cfg0.N) (r : Fin 256) : Fin 8192 := ⟨256 * t.val + r.val, by have := t.isLt; have : cfg0.N = 32 := N_0; have := r.isLt; omega⟩

/-- The gated residual stream, element by element. -/
abbrev hid (x0 x1 x2 : Vec Ideal S8192x1024 .f32) (r : Fin 8192) (k : Fin 1024) : EReal :=
  x0 (ix2 r k) + Ideal.div 1 (1 + Ideal.exp (-x1 (ix2 r k))) * x2 (ix2 r k)

/-- The same array, as the host computes it. -/
abbrev gated (x0 x1 x2 : Vec Ideal S8192x1024 .f32) : Vec Ideal S8192x1024 .f32 :=
  addf x0 (mulf (Host.divf (broadcastInDim S8192x1024 ![] bcast_S_S8192x1024 (constant (F := Ideal) S_ .f32 0x3F800000#32))
    (addf (broadcastInDim S8192x1024 ![] bcast_S_S8192x1024 (constant (F := Ideal) S_ .f32 0x3F800000#32)) (Host.exp (Host.negf x1)))) x2)

theorem gated_apply (x0 x1 x2 : Vec Ideal S8192x1024 .f32) (r : Fin 8192) (l : Fin 1024) : gated x0 x1 x2 (ix2 r l) = hid x0 x1 x2 r l := by
  unfold gated
  pointwise

variable (m : (ℓ : Loc nD τ sig) → Buf (Elt Ideal) ℓ)

/-- What each input window's block holds at an index: the host's gated stream, the gain read as one row, and the arguments' elements there. -/
theorem iblk0_apply (c : Dev nD) (t : Fin cfg0.N) (r : Fin 256) (l : Fin 1024) :
    (iblk m c 0 t : Vec Ideal S256x1024 .f32) (ix2 r l) = hid arg[m, c, main_arg0] arg[m, c, main_arg1] arg[m, c, main_arg2] (row t r) l := by
  have e : V m c main_v7 = gated arg[m, c, main_arg0] arg[m, c, main_arg1] arg[m, c, main_arg2] := by
    show StableHlo.after hostOps0 _ main_v7 = _
    after_results_simp <;> rfl
  blk_simp [iblk, e]
  refine Eq.trans (congrArg (gated _ _ _) (?_ : _ = ix2 (row t r) l)) (gated_apply _ _ _ _ l)
  blk_ext [index0, row]

theorem iblk1_apply (c : Dev nD) (t : Fin cfg0.N) (l : Fin 1024) :
    (iblk m c 1 t : Vec Ideal S1x1024 .f32) (ix2 0 l) = m ((c : Thread nD τ).loc main_arg3) (ix1 l) := by
  have e : V m c main_v8 = shapeCast S1x1024 arg[m, c, main_arg3] shapeCasts_S1024_S1x1024 := by
    show StableHlo.after hostOps0 _ main_v8 = _
    after_results_simp <;> rfl
  blk_simp [iblk, e]
  refine Eq.trans (congrArg _ (?_ : _ = ix2 0 l)) ?_
  · blk_ext [index1]
  · pointwise

theorem iblk2_apply (c : Dev nD) (t : Fin cfg0.N) (r : Fin 256) (l : Fin 1024) :
    (iblk m c 2 t : Vec Ideal S256x1024 .f32) (ix2 r l) = m ((c : Thread nD τ).loc main_arg4) (ix2 (row t r) l) := by
  blk_simp [iblk, V_main_arg4]
  refine congrArg _ ?_
  blk_ext [index2, row]

theorem iblk3_apply (c : Dev nD) (t : Fin cfg0.N) (r : Fin 256) (l : Fin 1024) :
    (iblk m c 3 t : Vec Ideal S256x1024 .f32) (ix2 r l) = m ((c : Thread nD τ).loc main_arg2) (ix2 (row t r) l) := by
  blk_simp [iblk, V_main_arg2]
  refine congrArg _ ?_
  blk_ext [index3, row]

theorem iblk4_apply (c : Dev nD) (t : Fin cfg0.N) (r : Fin 256) (l : Fin 1024) :
    (iblk m c 4 t : Vec Ideal S256x1024 .f32) (ix2 r l) = m ((c : Thread nD τ).loc main_arg1) (ix2 (row t r) l) := by
  blk_simp [iblk, V_main_arg1]
  refine congrArg _ ?_
  blk_ext [index4, row]

end Cert.Proof.Loss

end
-- ==== Proof.Loss.Value.lean ====
/- Hand-written, untrusted: THE VALUES OF THE LOSS KERNEL, on extended reals: its five result arrays are the reference's on real
   arguments: the loss, and its gradients by the residual stream, the gate's input, the gated rows and the gain. -/
module

public import proofs.«01_k».proof.Proof.Reals
public import proofs.«01_k».proof.Proof.Loss.Arrays
public import proofs.«01_k».proof.Proof.Gen.ReferenceLossIdeal.Read

@[expose] public section

noncomputable section

namespace Cert.Proof.Loss

open Cert.KernelLossIdeal Cert.KernelLossIdeal.Gen Idealize.ShloMosaic Idealize.ShloMosaic.TcCoe Idealize.SL.Sem
open Cert.Proof.Tools Cert.Proof.Rms Cert.ReferenceLossIdeal.Read

/-- An argument array on one device. -/
local notation "arg[" m ", " c ", " a "]" => m (Thread.loc (c : Thread nD τ) a)

/-- The words of 1/1024, 1/2048 and 2. -/
theorem word10 : Ideal.ofBits .f32 981467136#32 = ((1 / 1024 : ℝ) : EReal) := by
  simp [Ideal.ofBits, Ideal.ieee]; rw [← EReal.coe_mul]; norm_num
theorem word11 : Ideal.ofBits .f32 973078528#32 = ((1 / 2048 : ℝ) : EReal) := by
  simp [Ideal.ofBits, Ideal.ieee]; rw [← EReal.coe_mul]; norm_num
theorem two_word : Ideal.ofBits .f32 1073741824#32 = ((2 : ℝ) : EReal) := by
  simp [Ideal.ofBits, Ideal.ieee]; rw [← EReal.coe_mul]; norm_num

/-- The normed row times the gain, less the target; and its cotangent, as the kernel scales it. -/
abbrev diff (x g y : Fin 1024 → EReal) (k : Fin 1024) : EReal := x k * rs x * g k - y k
abbrev cot (x g y : Fin 1024 → EReal) (k : Fin 1024) : EReal := diff x g y k * Ideal.ofBits .f32 981467136#32

/-- The same cotangent as differentiation of the square and the mean gives it. -/
abbrev cot' (x g y : Fin 1024 → EReal) (k : Fin 1024) : EReal :=
  Ideal.div (Ideal.ofBits .f32 1056964608#32) (Ideal.ofBits .f32 1149239296#32) * (Ideal.ofBits .f32 1073741824#32 * diff x g y k)

theorem cot_eq (x g y : Fin 1024 → EReal) (k : Fin 1024) : cot x g y k = cot' x g y k := by
  rw [cot, cot', word10, half_word, two_word, width_word, Ideal.div_coe (by norm_num : (1024 : ℝ) ≠ 0), ← EReal.coe_mul, ← mul_assoc,
    ← EReal.coe_mul, mul_comm]
  norm_num

/-- The kernel's gradient of the hidden row. -/
abbrev dh (x g y : Fin 1024 → EReal) (j : Fin 1024) : EReal :=
  rs x * (cot x g y j * g j) - x j * (rs x * rs x * rs x) * Ideal.div (∑ k, x k * (cot x g y k * g k)) (Ideal.ofBits .f32 1149239296#32)

/-- What differentiation gives. -/
abbrev dh' (x g y : Fin 1024 → EReal) (j : Fin 1024) : EReal :=
  cot' x g y j * g j * rs x + x j * squareGrad x (fun k => cot' x g y k * g k) + squareGrad x (fun k => cot' x g y k * g k) * x j

/-- A real row's mean root is real, and so is the difference from the target. -/
theorem isR_diff (x g y : Fin 1024 → EReal) (hx : ∀ k, IsR (x k)) (hg : ∀ k, IsR (g k)) (hy : ∀ k, IsR (y k)) (k : Fin 1024) :
    IsR (diff x g y k) := isR_sub (((hx k).mul (isR_rs x hx)).mul (hg k)) (hy k)

theorem dh_eq (x g y : Fin 1024 → EReal) (hx : ∀ k, IsR (x k)) (hg : ∀ k, IsR (g k)) (hy : ∀ k, IsR (y k)) (j : Fin 1024) :
    dh x g y j = dh' x g y j := by
  have e := grad_eq x (fun k => cot x g y k * g k) hx (fun k => ((isR_diff x g y hx hg hy k).mul ⟨_, word10⟩).mul (hg k)) 0 j
  simp only [kernelGrad, referenceGrad, zero_add] at e
  have e' : (fun k => cot x g y k * g k) = fun k => cot' x g y k * g k := funext fun k => by rw [cot_eq]
  rw [dh, e, e', cot_eq]

/-- The sigmoid of a real number is real. -/
theorem isR_hid (x0 x1 x2 : Vec Ideal S8192x1024 .f32) (h0 : ∀ i, IsR (x0 i)) (h1 : ∀ i, IsR (x1 i)) (h2 : ∀ i, IsR (x2 i))
    (r : Fin 8192) (k : Fin 1024) : IsR (hid x0 x1 x2 r k) := (h0 _).add ((isR_sigmoid _ (h1 _)).mul (h2 _))

section Block

variable (b0 : Vec Ideal S256x1024 .f32) (b1 : Vec Ideal S1x1024 .f32) (b2 b3 b4 : Vec Ideal S256x1024 .f32)

/-- A block's rows of the three gradients, element by element. -/
theorem block_dh (r : Fin 256) (l : Fin 1024) :
    k0_pay12 (k0_pay9 b0 b1 b2) (k0_pay10 b0) (k0_pay11 b0 b1 b2) (ix2 r l) = dh (fun k => b0 (ix2 r k)) (fun k => b1 (ix2 0 k)) (fun k => b2 (ix2 r k)) l := by
  simp only [k0_pay1, k0_pay2, k0_pay3, k0_pay4, k0_pay5, k0_pay6, k0_pay7, k0_pay8, k0_pay9, k0_pay10, k0_pay11, k0_pay12]
  pointwise

theorem block_dpre (r : Fin 256) (l : Fin 1024) :
    k0_pay16 b3 b4 (k0_pay9 b0 b1 b2) (k0_pay10 b0) (k0_pay11 b0 b1 b2) (ix2 r l) = dh (fun k => b0 (ix2 r k)) (fun k => b1 (ix2 0 k)) (fun k => b2 (ix2 r k)) l * b3 (ix2 r l)
      * Ideal.div 1 (1 + Ideal.exp (0 - b4 (ix2 r l))) * (1 - Ideal.div 1 (1 + Ideal.exp (0 - b4 (ix2 r l)))) := by
  simp only [k0_pay1, k0_pay2, k0_pay3, k0_pay4, k0_pay5, k0_pay6, k0_pay7, k0_pay8, k0_pay9, k0_pay10, k0_pay11, k0_pay12, k0_pay13, k0_pay16]
  pointwise

theorem block_de (r : Fin 256) (l : Fin 1024) :
    k0_pay17 b4 (k0_pay9 b0 b1 b2) (k0_pay10 b0) (k0_pay11 b0 b1 b2) (ix2 r l) = dh (fun k => b0 (ix2 r k)) (fun k => b1 (ix2 0 k)) (fun k => b2 (ix2 r k)) l
      * Ideal.div 1 (1 + Ideal.exp (0 - b4 (ix2 r l))) := by
  simp only [k0_pay1, k0_pay2, k0_pay3, k0_pay4, k0_pay5, k0_pay6, k0_pay7, k0_pay8, k0_pay9, k0_pay10, k0_pay11, k0_pay12, k0_pay13, k0_pay17]
  pointwise

/-- A block's part of the loss, and of the gain's gradient. -/
theorem block_loss : k0_pay14 (k0_pay6 b0 b1 b2) (ix2 0 0) = Ideal.ofBits .f32 973078528#32
    * ∑ r, ∑ k, diff (fun k => b0 (ix2 r k)) (fun k => b1 (ix2 0 k)) (fun k => b2 (ix2 r k)) k * diff (fun k => b0 (ix2 r k)) (fun k => b1 (ix2 0 k)) (fun k => b2 (ix2 r k)) k := by
  simp only [k0_pay2, k0_pay3, k0_pay4, k0_pay5, k0_pay6, k0_pay14]
  pointwise

theorem block_gain (l : Fin 1024) : k0_pay15 (k0_pay2 b0) (k0_pay4 b0) (k0_pay7 b0 b1 b2) (ix2 0 l)
    = ∑ r, cot (fun k => b0 (ix2 r k)) (fun k => b1 (ix2 0 k)) (fun k => b2 (ix2 r k)) l * (b0 (ix2 r l) * rs (fun k => b0 (ix2 r k))) := by
  simp only [k0_pay2, k0_pay3, k0_pay4, k0_pay5, k0_pay6, k0_pay7, k0_pay15]
  pointwise

/-- Adding a block's part to the sum so far. -/
theorem add_loss (y : Vec Ideal S1x1 .f32) :
    k0_pay18 (k0_pay6 b0 b1 b2) y (ix2 0 0) = y (ix2 0 0) + k0_pay14 (k0_pay6 b0 b1 b2) (ix2 0 0) := by
  simp only [k0_pay18]
  pointwise

theorem add_gain (y : Vec Ideal S1x1024 .f32) (l : Fin 1024) :
    k0_pay1 (k0_pay15 (k0_pay2 b0) (k0_pay4 b0) (k0_pay7 b0 b1 b2)) y (ix2 0 l) = y (ix2 0 l) + k0_pay15 (k0_pay2 b0) (k0_pay4 b0) (k0_pay7 b0 b1 b2) (ix2 0 l) := by
  simp only [k0_pay1]
  pointwise

end Block

section Reference

variable (x0 x1 x2 : Vec Ideal S8192x1024 .f32) (x3 : Vec Ideal S1024 .f32) (x4 : Vec Ideal S8192x1024 .f32)

/-- The reference's gradients, element by element, and its loss. -/
theorem reference_dh (r : Fin 8192) (l : Fin 1024) : val_main_v61 (F := Ideal) x0 x1 x2 x3 x4 (ix2 r l)
    = dh' (fun k => hid x0 x1 x2 r k) (fun k => x3 (ix1 k)) (fun k => x4 (ix2 r k)) l := by
  pointwise [val_main_v0, val_main_v1, val_main_cst, val_main_v2, val_main_v3, val_main_cst_0, val_main_v4, val_main_v5,
      val_main_cst_1, val_main_v6, val_main_v7, val_main_v8, val_main_v9, val_main_v10, val_main_v11, val_main_cst_2,
      val_main_v12, val_main_v13, val_main_cst_3, val_main_v14, val_main_v15, val_main_cst_4, val_main_v16,
      val_main_v17, val_main_v18, val_main_v19, val_main_cst_5, val_main_v20, val_main_v21, val_main_v22,
      val_main_v23, val_main_v24, val_main_v25, val_main_v26, val_main_v27, val_main_v28, val_main_cst_6,
      val_main_v29, val_main_v30, val_main_cst_7, val_main_v31, val_main_cst_8, val_main_v32, val_main_v33,
      val_main_cst_9, val_main_v34, val_main_cst_10, val_main_v35, val_main_cst_11, val_main_cst_12, val_main_v36,
      val_main_v37, val_main_cst_13, val_main_v38, val_main_v39, val_main_v40, val_main_v41, val_main_v42,
      val_main_cst_14, val_main_v43, val_main_v44, val_main_v45, val_main_v46, val_main_cst_15, val_main_v47,
      val_main_v48, val_main_cst_16, val_main_v49, val_main_v50, val_main_v51, val_main_v52, val_main_v53,
      val_main_cst_17, val_main_v54, val_main_v55, val_main_cst_18, val_main_v56, val_main_v57, val_main_v58,
      val_main_v59, val_main_v60, val_main_v61, val_main_v62, val_main_v63, val_main_v64, val_main_v65, val_main_v66,
      val_main_v67, val_main_v68]

theorem reference_dpre (r : Fin 8192) (l : Fin 1024) : val_main_v66 (F := Ideal) x0 x1 x2 x3 x4 (ix2 r l)
    = dh' (fun k => hid x0 x1 x2 r k) (fun k => x3 (ix1 k)) (fun k => x4 (ix2 r k)) l * x2 (ix2 r l)
      * (Ideal.div 1 (1 + Ideal.exp (-x1 (ix2 r l))) * (1 - Ideal.div 1 (1 + Ideal.exp (-x1 (ix2 r l))))) := by
  pointwise [val_main_v0, val_main_v1, val_main_cst, val_main_v2, val_main_v3, val_main_cst_0, val_main_v4, val_main_v5,
      val_main_cst_1, val_main_v6, val_main_v7, val_main_v8, val_main_v9, val_main_v10, val_main_v11, val_main_cst_2,
      val_main_v12, val_main_v13, val_main_cst_3, val_main_v14, val_main_v15, val_main_cst_4, val_main_v16,
      val_main_v17, val_main_v18, val_main_v19, val_main_cst_5, val_main_v20, val_main_v21, val_main_v22,
      val_main_v23, val_main_v24, val_main_v25, val_main_v26, val_main_v27, val_main_v28, val_main_cst_6,
      val_main_v29, val_main_v30, val_main_cst_7, val_main_v31, val_main_cst_8, val_main_v32, val_main_v33,
      val_main_cst_9, val_main_v34, val_main_cst_10, val_main_v35, val_main_cst_11, val_main_cst_12, val_main_v36,
      val_main_v37, val_main_cst_13, val_main_v38, val_main_v39, val_main_v40, val_main_v41, val_main_v42,
      val_main_cst_14, val_main_v43, val_main_v44, val_main_v45, val_main_v46, val_main_cst_15, val_main_v47,
      val_main_v48, val_main_cst_16, val_main_v49, val_main_v50, val_main_v51, val_main_v52, val_main_v53,
      val_main_cst_17, val_main_v54, val_main_v55, val_main_cst_18, val_main_v56, val_main_v57, val_main_v58,
      val_main_v59, val_main_v60, val_main_v61, val_main_v62, val_main_v63, val_main_v64, val_main_v65, val_main_v66,
      val_main_v67, val_main_v68]

theorem reference_de (r : Fin 8192) (l : Fin 1024) : val_main_v67 (F := Ideal) x0 x1 x2 x3 x4 (ix2 r l)
    = Ideal.div 1 (1 + Ideal.exp (-x1 (ix2 r l)))
      * dh' (fun k => hid x0 x1 x2 r k) (fun k => x3 (ix1 k)) (fun k => x4 (ix2 r k)) l := by
  pointwise [val_main_v0, val_main_v1, val_main_cst, val_main_v2, val_main_v3, val_main_cst_0, val_main_v4, val_main_v5,
      val_main_cst_1, val_main_v6, val_main_v7, val_main_v8, val_main_v9, val_main_v10, val_main_v11, val_main_cst_2,
      val_main_v12, val_main_v13, val_main_cst_3, val_main_v14, val_main_v15, val_main_cst_4, val_main_v16,
      val_main_v17, val_main_v18, val_main_v19, val_main_cst_5, val_main_v20, val_main_v21, val_main_v22,
      val_main_v23, val_main_v24, val_main_v25, val_main_v26, val_main_v27, val_main_v28, val_main_cst_6,
      val_main_v29, val_main_v30, val_main_cst_7, val_main_v31, val_main_cst_8, val_main_v32, val_main_v33,
      val_main_cst_9, val_main_v34, val_main_cst_10, val_main_v35, val_main_cst_11, val_main_cst_12, val_main_v36,
      val_main_v37, val_main_cst_13, val_main_v38, val_main_v39, val_main_v40, val_main_v41, val_main_v42,
      val_main_cst_14, val_main_v43, val_main_v44, val_main_v45, val_main_v46, val_main_cst_15, val_main_v47,
      val_main_v48, val_main_cst_16, val_main_v49, val_main_v50, val_main_v51, val_main_v52, val_main_v53,
      val_main_cst_17, val_main_v54, val_main_v55, val_main_cst_18, val_main_v56, val_main_v57, val_main_v58,
      val_main_v59, val_main_v60, val_main_v61, val_main_v62, val_main_v63, val_main_v64, val_main_v65, val_main_v66,
      val_main_v67, val_main_v68]

theorem reference_loss : val_main_v65 (F := Ideal) x0 x1 x2 x3 x4 (ix2 0 0) = Ideal.ofBits .f32 1056964608#32 * ∑ r,
    Ideal.div (∑ k, diff (fun k => hid x0 x1 x2 r k) (fun k => x3 (ix1 k)) (fun k => x4 (ix2 r k)) k * diff (fun k => hid x0 x1 x2 r k) (fun k => x3 (ix1 k)) (fun k => x4 (ix2 r k)) k)
      (Ideal.ofBits .f32 1149239296#32) := by
  pointwise [val_main_v0, val_main_v1, val_main_cst, val_main_v2, val_main_v3, val_main_cst_0, val_main_v4, val_main_v5,
      val_main_cst_1, val_main_v6, val_main_v7, val_main_v8, val_main_v9, val_main_v10, val_main_v11, val_main_cst_2,
      val_main_v12, val_main_v13, val_main_cst_3, val_main_v14, val_main_v15, val_main_cst_4, val_main_v16,
      val_main_v17, val_main_v18, val_main_v19, val_main_cst_5, val_main_v20, val_main_v21, val_main_v22,
      val_main_v23, val_main_v24, val_main_v25, val_main_v26, val_main_v27, val_main_v28, val_main_cst_6,
      val_main_v29, val_main_v30, val_main_cst_7, val_main_v31, val_main_cst_8, val_main_v32, val_main_v33,
      val_main_cst_9, val_main_v34, val_main_cst_10, val_main_v35, val_main_cst_11, val_main_cst_12, val_main_v36,
      val_main_v37, val_main_cst_13, val_main_v38, val_main_v39, val_main_v40, val_main_v41, val_main_v42,
      val_main_cst_14, val_main_v43, val_main_v44, val_main_v45, val_main_v46, val_main_cst_15, val_main_v47,
      val_main_v48, val_main_cst_16, val_main_v49, val_main_v50, val_main_v51, val_main_v52, val_main_v53,
      val_main_cst_17, val_main_v54, val_main_v55, val_main_cst_18, val_main_v56, val_main_v57, val_main_v58,
      val_main_v59, val_main_v60, val_main_v61, val_main_v62, val_main_v63, val_main_v64, val_main_v65, val_main_v66,
      val_main_v67, val_main_v68]

theorem reference_gain (l : Fin 1024) : val_main_v68 (F := Ideal) x0 x1 x2 x3 x4 (ix2 0 l) = ∑ r,
    cot' (fun k => hid x0 x1 x2 r k) (fun k => x3 (ix1 k)) (fun k => x4 (ix2 r k)) l * (hid x0 x1 x2 r l * rs (fun k => hid x0 x1 x2 r k)) := by
  pointwise [val_main_v0, val_main_v1, val_main_cst, val_main_v2, val_main_v3, val_main_cst_0, val_main_v4, val_main_v5,
      val_main_cst_1, val_main_v6, val_main_v7, val_main_v8, val_main_v9, val_main_v10, val_main_v11, val_main_cst_2,
      val_main_v12, val_main_v13, val_main_cst_3, val_main_v14, val_main_v15, val_main_cst_4, val_main_v16,
      val_main_v17, val_main_v18, val_main_v19, val_main_cst_5, val_main_v20, val_main_v21, val_main_v22,
      val_main_v23, val_main_v24, val_main_v25, val_main_v26, val_main_v27, val_main_v28, val_main_cst_6,
      val_main_v29, val_main_v30, val_main_cst_7, val_main_v31, val_main_cst_8, val_main_v32, val_main_v33,
      val_main_cst_9, val_main_v34, val_main_cst_10, val_main_v35, val_main_cst_11, val_main_cst_12, val_main_v36,
      val_main_v37, val_main_cst_13, val_main_v38, val_main_v39, val_main_v40, val_main_v41, val_main_v42,
      val_main_cst_14, val_main_v43, val_main_v44, val_main_v45, val_main_v46, val_main_cst_15, val_main_v47,
      val_main_v48, val_main_cst_16, val_main_v49, val_main_v50, val_main_v51, val_main_v52, val_main_v53,
      val_main_cst_17, val_main_v54, val_main_v55, val_main_cst_18, val_main_v56, val_main_v57, val_main_v58,
      val_main_v59, val_main_v60, val_main_v61, val_main_v62, val_main_v63, val_main_v64, val_main_v65, val_main_v66,
      val_main_v67, val_main_v68]
  rw [Finset.univ_unique, Finset.sum_singleton]
  exact Finset.sum_congr rfl fun r _ => mul_comm _ _

variable (t : Fin cfg0.N) (b0 : Vec Ideal S256x1024 .f32) (b1 : Vec Ideal S1x1024 .f32) (b2 b3 b4 : Vec Ideal S256x1024 .f32)

/-- The kernel's gradients of one block of rows are the reference's at those rows. -/
theorem rows_dh (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = hid x0 x1 x2 (row t r) l) (e1 : ∀ l, b1 (ix2 0 l) = x3 (ix1 l)) (e2 : ∀ r l, b2 (ix2 r l) = x4 (ix2 (row t r) l)) (r : Fin 256) (l : Fin 1024) :
    k0_pay12 (k0_pay9 b0 b1 b2) (k0_pay10 b0) (k0_pay11 b0 b1 b2) (ix2 r l) = val_main_v61 (F := Ideal) x0 x1 x2 x3 x4 (ix2 (row t r) l) := by
  rw [reference_dh, block_dh]
  simp only [e0, e1, e2]
  exact dh_eq _ _ _ (isR_hid x0 x1 x2 h0 h1 h2 _) (fun _ => h3 _) (fun _ => h4 _) l

theorem rows_dpre (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = hid x0 x1 x2 (row t r) l) (e1 : ∀ l, b1 (ix2 0 l) = x3 (ix1 l)) (e2 : ∀ r l, b2 (ix2 r l) = x4 (ix2 (row t r) l)) (e3 : ∀ r l, b3 (ix2 r l) = x2 (ix2 (row t r) l)) (e4 : ∀ r l, b4 (ix2 r l) = x1 (ix2 (row t r) l)) (r : Fin 256) (l : Fin 1024) :
    k0_pay16 b3 b4 (k0_pay9 b0 b1 b2) (k0_pay10 b0) (k0_pay11 b0 b1 b2) (ix2 r l) = val_main_v66 (F := Ideal) x0 x1 x2 x3 x4 (ix2 (row t r) l) := by
  rw [reference_dpre, block_dpre]
  simp only [e0, e1, e2, e3, e4, zero_sub]
  rw [dh_eq _ _ _ (isR_hid x0 x1 x2 h0 h1 h2 _) (fun _ => h3 _) (fun _ => h4 _) l, mul_assoc _ (Ideal.div _ _)]

theorem rows_de (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = hid x0 x1 x2 (row t r) l) (e1 : ∀ l, b1 (ix2 0 l) = x3 (ix1 l)) (e2 : ∀ r l, b2 (ix2 r l) = x4 (ix2 (row t r) l)) (e4 : ∀ r l, b4 (ix2 r l) = x1 (ix2 (row t r) l)) (r : Fin 256) (l : Fin 1024) :
    k0_pay17 b4 (k0_pay9 b0 b1 b2) (k0_pay10 b0) (k0_pay11 b0 b1 b2) (ix2 r l) = val_main_v67 (F := Ideal) x0 x1 x2 x3 x4 (ix2 (row t r) l) := by
  rw [reference_de, block_de]
  simp only [e0, e1, e2, e4, zero_sub]
  rw [dh_eq _ _ _ (isR_hid x0 x1 x2 h0 h1 h2 _) (fun _ => h3 _) (fun _ => h4 _) l, mul_comm]

/-- One row's term of the loss, and of the gain's gradient. -/
def termLoss (r : Fin 8192) : EReal := Ideal.ofBits .f32 973078528#32 * ∑ k, diff (fun k => hid x0 x1 x2 r k) (fun k => x3 (ix1 k)) (fun k => x4 (ix2 r k)) k
  * diff (fun k => hid x0 x1 x2 r k) (fun k => x3 (ix1 k)) (fun k => x4 (ix2 r k)) k
def termGain (l : Fin 1024) (r : Fin 8192) : EReal :=
  cot' (fun k => hid x0 x1 x2 r k) (fun k => x3 (ix1 k)) (fun k => x4 (ix2 r k)) l * (hid x0 x1 x2 r l * rs (fun k => hid x0 x1 x2 r k))

/-- A row's squared difference is real. -/
theorem isR_square (h0 : ∀ i, IsR (x0 i)) (h1 : ∀ i, IsR (x1 i)) (h2 : ∀ i, IsR (x2 i)) (h3 : ∀ i, IsR (x3 i)) (h4 : ∀ i, IsR (x4 i)) (r : Fin 8192) : IsR (∑ k, diff (fun k => hid x0 x1 x2 r k) (fun k => x3 (ix1 k)) (fun k => x4 (ix2 r k)) k
    * diff (fun k => hid x0 x1 x2 r k) (fun k => x3 (ix1 k)) (fun k => x4 (ix2 r k)) k) :=
  IsR.sum fun k => have h := isR_diff _ _ _ (isR_hid x0 x1 x2 h0 h1 h2 r) (fun _ => h3 _) (fun _ => h4 _) k
    h.mul h

/-- A block's part of the loss and of the gain's gradient: its rows' terms. -/
theorem rows_loss (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = hid x0 x1 x2 (row t r) l) (e1 : ∀ l, b1 (ix2 0 l) = x3 (ix1 l)) (e2 : ∀ r l, b2 (ix2 r l) = x4 (ix2 (row t r) l)) : k0_pay14 (k0_pay6 b0 b1 b2) (ix2 0 0) = ∑ r : Fin 256, termLoss x0 x1 x2 x3 x4 (row t r) := by
  rw [block_loss]
  simp only [e0, e1, e2]
  rw [word11, mul_sum _ _ fun r => isR_square x0 x1 x2 x3 x4 h0 h1 h2 h3 h4 (row t r)]
  simp only [termLoss, word11]

theorem rows_gain (e0 : ∀ r l, b0 (ix2 r l) = hid x0 x1 x2 (row t r) l) (e1 : ∀ l, b1 (ix2 0 l) = x3 (ix1 l)) (e2 : ∀ r l, b2 (ix2 r l) = x4 (ix2 (row t r) l)) (l : Fin 1024) : k0_pay15 (k0_pay2 b0) (k0_pay4 b0) (k0_pay7 b0 b1 b2) (ix2 0 l) = ∑ r : Fin 256, termGain x0 x1 x2 x3 x4 l (row t r) := by
  rw [block_gain]
  simp only [e0, e1, e2, cot_eq]
  rfl

/-- The reference's loss is the sum of all rows' terms. -/
theorem loss_terms (h0 : ∀ i, IsR (x0 i)) (h1 : ∀ i, IsR (x1 i)) (h2 : ∀ i, IsR (x2 i)) (h3 : ∀ i, IsR (x3 i)) (h4 : ∀ i, IsR (x4 i)) : val_main_v65 (F := Ideal) x0 x1 x2 x3 x4 (ix2 0 0) = ∑ r, termLoss x0 x1 x2 x3 x4 r := by
  rw [reference_loss, half_word, width_word]
  simp only [termLoss, word11]
  have h := isR_square x0 x1 x2 x3 x4 h0 h1 h2 h3 h4
  choose g hg using h
  simp only [hg, Ideal.div_coe (by norm_num : (1024 : ℝ) ≠ 0), ← EReal.coe_mul, coe_sum, Finset.mul_sum]
  exact congrArg _ (Finset.sum_congr rfl fun r _ => by ring)

end Reference

variable (m : (ℓ : Loc nD τ sig) → Buf (Elt Ideal) ℓ) (c : Dev nD)

/-- What any point leaves in the three gradients' windows. -/
theorem outs_rows (t : Fin cfg0.N) :
    (outsAt0 m c t.val t.isLt).1 = k0_pay12 (k0_pay9 (iblk m c 0 t) (iblk m c 1 t) (iblk m c 2 t)) (k0_pay10 (iblk m c 0 t)) (k0_pay11 (iblk m c 0 t) (iblk m c 1 t) (iblk m c 2 t))
    ∧ (outsAt0 m c t.val t.isLt).2.1 = k0_pay16 (iblk m c 3 t) (iblk m c 4 t) (k0_pay9 (iblk m c 0 t) (iblk m c 1 t) (iblk m c 2 t)) (k0_pay10 (iblk m c 0 t)) (k0_pay11 (iblk m c 0 t) (iblk m c 1 t) (iblk m c 2 t))
    ∧ (outsAt0 m c t.val t.isLt).2.2.1 = k0_pay17 (iblk m c 4 t) (k0_pay9 (iblk m c 0 t) (iblk m c 1 t) (iblk m c 2 t)) (k0_pay10 (iblk m c 0 t)) (k0_pay11 (iblk m c 0 t) (iblk m c 1 t) (iblk m c 2 t)) := by
  have hN : cfg0.N = 32 := N_0
  have := t.isLt
  by_cases h : t.val % 32 = 0
  · rw [outs_first m c t h (by omega)]
    exact ⟨rfl, rfl, rfl⟩
  · rw [outs_next m c t h (by omega)]
    exact ⟨rfl, rfl, rfl⟩

/-- A gradient's array after the run is the reference's. -/
theorem final_dh (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) :
    (dats m 0 c).arrAt 5 cfg0.N = val_main_v61 (F := Ideal) arg[m, c, main_arg0] arg[m, c, main_arg1] arg[m, c, main_arg2] arg[m, c, main_arg3] arg[m, c, main_arg4] := by
  refine (dats m 0 c).arrAt_eq_of_covers 5 _ (by decide +kernel) fun t hf y => ?_
  blk_simp
  rw [after0_5, (outs_rows m c t).1]
  obtain ⟨r, l, rfl⟩ : ∃ (r : Fin 256) (l : Fin 1024), y = ix2 r l := ⟨_, _, eq_ix2 (n0 := 256) (n1 := 1024) y⟩
  have e : (win0_5.blk t).view.emb (ix2 r l) = ix2 (row t r) l := by blk_ext [index5, row]
  rw [e]
  exact rows_dh _ _ _ _ _ t _ _ _ h0 h1 h2 h3 h4 (iblk0_apply m c t) (iblk1_apply m c t) (iblk2_apply m c t) r l

/-- A gradient's array after the run is the reference's. -/
theorem final_dpre (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) :
    (dats m 0 c).arrAt 6 cfg0.N = val_main_v66 (F := Ideal) arg[m, c, main_arg0] arg[m, c, main_arg1] arg[m, c, main_arg2] arg[m, c, main_arg3] arg[m, c, main_arg4] := by
  refine (dats m 0 c).arrAt_eq_of_covers 6 _ (by decide +kernel) fun t hf y => ?_
  blk_simp
  rw [after0_6, (outs_rows m c t).2.1]
  obtain ⟨r, l, rfl⟩ : ∃ (r : Fin 256) (l : Fin 1024), y = ix2 r l := ⟨_, _, eq_ix2 (n0 := 256) (n1 := 1024) y⟩
  have e : (win0_6.blk t).view.emb (ix2 r l) = ix2 (row t r) l := by blk_ext [index6, row]
  rw [e]
  exact rows_dpre _ _ _ _ _ t _ _ _ _ _ h0 h1 h2 h3 h4 (iblk0_apply m c t) (iblk1_apply m c t) (iblk2_apply m c t) (iblk3_apply m c t) (iblk4_apply m c t) r l

/-- A gradient's array after the run is the reference's. -/
theorem final_de (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) :
    (dats m 0 c).arrAt 7 cfg0.N = val_main_v67 (F := Ideal) arg[m, c, main_arg0] arg[m, c, main_arg1] arg[m, c, main_arg2] arg[m, c, main_arg3] arg[m, c, main_arg4] := by
  refine (dats m 0 c).arrAt_eq_of_covers 7 _ (by decide +kernel) fun t hf y => ?_
  blk_simp
  rw [after0_7, (outs_rows m c t).2.2]
  obtain ⟨r, l, rfl⟩ : ∃ (r : Fin 256) (l : Fin 1024), y = ix2 r l := ⟨_, _, eq_ix2 (n0 := 256) (n1 := 1024) y⟩
  have e : (win0_7.blk t).view.emb (ix2 r l) = ix2 (row t r) l := by blk_ext [index7, row]
  rw [e]
  exact rows_de _ _ _ _ _ t _ _ _ _ h0 h1 h2 h3 h4 (iblk0_apply m c t) (iblk1_apply m c t) (iblk2_apply m c t) (iblk4_apply m c t) r l

/-- One row's terms, of the arguments as the run finds them. -/
abbrev termLoss' : Fin 8192 → EReal := termLoss arg[m, c, main_arg0] arg[m, c, main_arg1] arg[m, c, main_arg2] arg[m, c, main_arg3] arg[m, c, main_arg4]
abbrev termGain' (l : Fin 1024) : Fin 8192 → EReal := termGain arg[m, c, main_arg0] arg[m, c, main_arg1] arg[m, c, main_arg2] arg[m, c, main_arg3] arg[m, c, main_arg4] l

/-- A point's part of the loss, and of the gain's gradient. -/
theorem point_loss (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) (t : Fin cfg0.N) : k0_pay14 (k0_pay6 (iblk m c 0 t) (iblk m c 1 t) (iblk m c 2 t)) (ix2 0 0) = ∑ r : Fin 256, termLoss' m c (row t r) :=
  rows_loss _ _ _ _ _ t _ _ _ h0 h1 h2 h3 h4 (iblk0_apply m c t) (iblk1_apply m c t) (iblk2_apply m c t)

theorem point_gain (t : Fin cfg0.N) (l : Fin 1024) : k0_pay15 (k0_pay2 (iblk m c 0 t)) (k0_pay4 (iblk m c 0 t)) (k0_pay7 (iblk m c 0 t) (iblk m c 1 t) (iblk m c 2 t)) (ix2 0 l) = ∑ r : Fin 256, termGain' m c l (row t r) :=
  rows_gain _ _ _ _ _ t _ _ _ (iblk0_apply m c t) (iblk1_apply m c t) (iblk2_apply m c t) l

/-- What point `n` leaves in the loss's window, and in the gain's: the terms of all rows up to the point's. -/
theorem outs_loss (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) : ∀ (n : ℕ) (h : n < cfg0.N),
    (outsAt0 m c n h).2.2.2.1 (ix2 0 0) = ∑ i ∈ Finset.range (256 * (n + 1)), ext (termLoss' m c) i
  | 0, h => by
    have e := outs_first m c ⟨0, h⟩ rfl (by simp)
    dsimp only at e
    rw [e, sum_block_zero (termLoss' m c) 256 (by omega)]
    exact point_loss m c h0 h1 h2 h3 h4 ⟨0, h⟩
  | n + 1, h => by
    have hN : cfg0.N = 32 := N_0
    have e := outs_next m c ⟨n + 1, h⟩ (by dsimp only; omega) (by simp)
    dsimp only [Nat.add_sub_cancel] at e
    rw [e, sum_block (termLoss' m c) 256 (n + 1) (by omega), ← outs_loss h0 h1 h2 h3 h4 n (by omega)]
    exact (add_loss _ _ _ _).trans (congrArg _ (point_loss m c h0 h1 h2 h3 h4 ⟨n + 1, h⟩))

theorem outs_gain (l : Fin 1024) : ∀ (n : ℕ) (h : n < cfg0.N),
    (outsAt0 m c n h).2.2.2.2 (ix2 0 l) = ∑ i ∈ Finset.range (256 * (n + 1)), ext (termGain' m c l) i
  | 0, h => by
    have e := outs_first m c ⟨0, h⟩ rfl (by simp)
    dsimp only at e
    rw [e, sum_block_zero (termGain' m c l) 256 (by omega)]
    exact point_gain m c ⟨0, h⟩ l
  | n + 1, h => by
    have hN : cfg0.N = 32 := N_0
    have e := outs_next m c ⟨n + 1, h⟩ (by dsimp only; omega) (by simp)
    dsimp only [Nat.add_sub_cancel] at e
    rw [e, sum_block (termGain' m c l) 256 (n + 1) (by omega), ← outs_gain l n (by omega)]
    exact (add_gain _ _ _ _ l).trans (congrArg _ (point_gain m c ⟨n + 1, h⟩ l))

/-- The last point. -/
abbrev last : Fin cfg0.N := ⟨31, by decide⟩

/-- The loss after the run is the reference's. -/
theorem final_loss (h0 : ∀ i, IsR (arg[m, c, main_arg0] i)) (h1 : ∀ i, IsR (arg[m, c, main_arg1] i)) (h2 : ∀ i, IsR (arg[m, c, main_arg2] i)) (h3 : ∀ i, IsR (arg[m, c, main_arg3] i)) (h4 : ∀ i, IsR (arg[m, c, main_arg4] i)) : (dats m 0 c).arrAt 8 cfg0.N = val_main_v65 (F := Ideal) arg[m, c, main_arg0] arg[m, c, main_arg1] arg[m, c, main_arg2] arg[m, c, main_arg3] arg[m, c, main_arg4] := by
  refine (dats m 0 c).arrAt_eq_of_after_last 8 last (by decide +kernel) _ fun y => ?_
  obtain ⟨i, l, rfl⟩ : ∃ (i : Fin 1) (l : Fin 1), y = ix2 i l := ⟨_, _, eq_ix2 (n0 := 1) (n1 := 1) y⟩
  obtain rfl : i = 0 := Subsingleton.elim _ _
  obtain rfl : l = 0 := Subsingleton.elim _ _
  have e : (dats m 0 c).after 8 last (ix2 0 0) = ∑ i, termLoss' m c i := by
    rw [after0_8, outs_loss m c h0 h1 h2 h3 h4]
    exact sum_ext (termLoss' m c)
  exact e.trans (loss_terms _ _ _ _ _ h0 h1 h2 h3 h4).symm

/-- The gain's gradient after the run is the reference's. -/
theorem final_gain : (dats m 0 c).arrAt 9 cfg0.N = val_main_v68 (F := Ideal) arg[m, c, main_arg0] arg[m, c, main_arg1] arg[m, c, main_arg2] arg[m, c, main_arg3] arg[m, c, main_arg4] := by
  refine (dats m 0 c).arrAt_eq_of_after_last 9 last (by decide +kernel) _ fun y => ?_
  obtain ⟨i, l, rfl⟩ : ∃ (i : Fin 1) (l : Fin 1024), y = ix2 i l := ⟨_, _, eq_ix2 (n0 := 1) (n1 := 1024) y⟩
  obtain rfl : i = 0 := Subsingleton.elim _ _
  have e : (dats m 0 c).after 9 last (ix2 0 l) = ∑ i, termGain' m c l i := by
    rw [after0_9, outs_gain]
    exact sum_ext (termGain' m c l)
  exact e.trans (reference_gain _ _ _ _ _ l).symm

end Cert.Proof.Loss

end
-- ==== Proof.Loss.Claim.lean ====
/- Hand-written, untrusted: THE CLAIM ABOUT THE LOSS KERNEL. The precondition makes the arguments real numbers; then all five result
   arrays are the reference's (Loss/Value.lean). -/
module

public import proofs.«01_k».proof.Defs
public import proofs.«01_k».proof.Proof.Loss.Value
public import proofs.«01_k».proof.Proof.Gen.KernelLoss.Frame
public import proofs.«01_k».proof.Proof.Gen.Pre_loss_finite

@[expose] public section

noncomputable section

namespace Cert.Proof.Loss

open Idealize.ShloMosaic Idealize.ShloMosaic.TcCoe Idealize.SL.Sem
open Cert.Proof.Tools
open Cert.KernelLossIdeal (main_arg0 main_arg1 main_arg2 main_arg3 main_arg4)

/-- A kernel's argument array on one device. -/
local notation "arg[" m ", " c ", " a "]" => m (Thread.loc (Dev.tc c : Thread Cert.KernelLossIdeal.nD Cert.KernelLossIdeal.τ) a)

/-- The reference's run leaves its arguments as they were; it has no semaphore. -/
theorem frame_reference : Cert.quiescent_ReferenceLossIdeal (hReferenceLossIdeal := Cert.ReferenceLossIdeal.Gen.facts) := fun m g _ =>
  (θ_run Cert.ReferenceLossIdeal.defs _ _).mono (fun r h => ⟨fun c => (h c).2.2.2.2.2, sem_eq_zero_of_no_sems (by decide) r.2⟩)
    (Cert.ReferenceLossIdeal.Value.run (F := Ideal) m g)

/-- The two programs end at the same arrays. -/
theorem algebraic : Cert.algebraic_KernelLossIdeal_ReferenceLossIdeal_pre_loss_finite (hKernelLossIdeal := Cert.KernelLossIdeal.Gen.facts)
    (hReferenceLossIdeal := Cert.ReferenceLossIdeal.Gen.facts) (hPre_loss_finite := Cert.Pre_loss_finite.Gen.facts) := by
  intro m g m' g' hpre hagree
  refine ⟨_, _, _, _, _, (θ_run Cert.KernelLossIdeal.defs _ _).mono (fun r h c => ⟨(h c).2.2.2.1, (h c).1, (h c).2.1, (h c).2.2.1, (h c).2.2.2.2⟩) (Cert.KernelLossIdeal.Value.run_blocks (F := Ideal) m g), ?_⟩
  refine (θ_run Cert.ReferenceLossIdeal.defs _ _).mono (fun r h c => ?_) (Cert.ReferenceLossIdeal.Value.run (F := Ideal) m' g')
  obtain ⟨a0, a1, a2, a3, a4⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h4 : ∀ i, IsR (arg[m, c, main_arg4] i) := isR_of_test _ _ (fun _ => inf_word) p4
  obtain ⟨v0, v1, v2, v3, v4, hrest⟩ := h c
  refine ⟨(v0.trans (?_ : _ = Cert.ReferenceLossIdeal.Read.val_main_v65 (F := Ideal) arg[m, c, main_arg0] arg[m, c, main_arg1] arg[m, c, main_arg2] arg[m, c, main_arg3] arg[m, c, main_arg4])).trans (final_loss m c h0 h1 h2 h3 h4).symm, (v1.trans (?_ : _ = Cert.ReferenceLossIdeal.Read.val_main_v61 (F := Ideal) arg[m, c, main_arg0] arg[m, c, main_arg1] arg[m, c, main_arg2] arg[m, c, main_arg3] arg[m, c, main_arg4])).trans (final_dh m c h0 h1 h2 h3 h4).symm, (v2.trans (?_ : _ = Cert.ReferenceLossIdeal.Read.val_main_v66 (F := Ideal) arg[m, c, main_arg0] arg[m, c, main_arg1] arg[m, c, main_arg2] arg[m, c, main_arg3] arg[m, c, main_arg4])).trans (final_dpre m c h0 h1 h2 h3 h4).symm, (v3.trans (?_ : _ = Cert.ReferenceLossIdeal.Read.val_main_v67 (F := Ideal) arg[m, c, main_arg0] arg[m, c, main_arg1] arg[m, c, main_arg2] arg[m, c, main_arg3] arg[m, c, main_arg4])).trans (final_de m c h0 h1 h2 h3 h4).symm, (v4.trans (?_ : _ = Cert.ReferenceLossIdeal.Read.val_main_v68 (F := Ideal) arg[m, c, main_arg0] arg[m, c, main_arg1] arg[m, c, main_arg2] arg[m, c, main_arg3] arg[m, c, main_arg4])).trans (final_gain m c).symm, hrest⟩
  · rw [← a0, ← a1, ← a2, ← a3, ← a4]
    first | exact Cert.ReferenceLossIdeal.Read.val_main_v65_eq m' c | exact Cert.ReferenceLossIdeal.Read.val_main_v65_eq _ _ _ _ _
  · rw [← a0, ← a1, ← a2, ← a3, ← a4]
    first | exact Cert.ReferenceLossIdeal.Read.val_main_v61_eq m' c | exact Cert.ReferenceLossIdeal.Read.val_main_v61_eq _ _ _ _ _
  · rw [← a0, ← a1, ← a2, ← a3, ← a4]
    first | exact Cert.ReferenceLossIdeal.Read.val_main_v66_eq m' c | exact Cert.ReferenceLossIdeal.Read.val_main_v66_eq _ _ _ _ _
  · rw [← a0, ← a1, ← a2, ← a3, ← a4]
    first | exact Cert.ReferenceLossIdeal.Read.val_main_v67_eq m' c | exact Cert.ReferenceLossIdeal.Read.val_main_v67_eq _ _ _ _ _
  · rw [← a0, ← a1, ← a2, ← a3, ← a4]
    first | exact Cert.ReferenceLossIdeal.Read.val_main_v68_eq m' c | exact Cert.ReferenceLossIdeal.Read.val_main_v68_eq _ _ _ _ _

end Cert.Proof.Loss

end
-- ==== Proof.Gatedx.Arrays.lean ====
/- Hand-written, untrusted: THE RUN OF THE GATE'S BACKWARD KERNEL, at any float values. What each point's body leaves in the
   two result windows (`outs_first`, `outs_next`): the point's rows of the input's gradient, and the running sum of the
   gain's gradient; and what the input windows hold. -/
module

public import proofs.«01_k».proof.Proof.Rms
public import proofs.«01_k».proof.Proof.Gen.KernelGatedxIdeal.Value
public import Idealize.ShloMosaic.Lib.Pipeline.ValueKit.Geometry

@[expose] public section

noncomputable section

namespace Cert.Proof.Gatedx

open Cert.KernelGatedxIdeal Cert.KernelGatedxIdeal.Gen Idealize.ShloMosaic Idealize.ShloMosaic.TcCoe Idealize.SL.Sem
open Cert.Proof.Tools

section Outs

variable {F : FTy → Type} [FloatOps F]
variable (m : (ℓ : Loc nD τ sig) → Buf (Elt F) ℓ)

/-- The first point: the rows of the input's gradient, and the rows' part of the gain's gradient. -/
theorem outs_first (c : Dev nD) (t : Fin cfg0.N) (h0 : t.val % 16 = 0) (h1 : ¬1 ≤ t.val) :
    outsAt0 m c t.val t.isLt = (k0_pay4 (iblk m c 0 t) (iblk m c 1 t) (iblk m c 2 t) (iblk m c 3 t) (iblk m c 4 t),
      k0_pay5 (iblk m c 0 t) (iblk m c 1 t) (iblk m c 2 t)) := by
  rw [outsAt0_A m c t h0 h1]
  refine Prod.ext ?_ ?_
  · dsimp only
    unfold out0_A_5
    rw [View.read_writes_eq_canon _ _ _ (fun _ => cover0_A_5 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread,
      View.ld_unit_zero (S := S512x1024) hz2, View.ld_unit_zero (S := S1024x1024) hz2, View.ld_unit_zero (S := S1x1024) hz2, shapeCast_self]
  · dsimp only
    unfold out0_A_6
    rw [View.read_writes_eq_canon _ _ _ (fun _ => cover0_A_6 ..)]
    unfold kernelRun0_A
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread,
      View.ld_unit_zero (S := S512x1024) hz2, View.ld_unit_zero (S := S1024x1024) hz2, View.ld_unit_zero (S := S1x1024) hz2, shapeCast_self]

/-- A later point: the same rows, and their part of the gain's gradient added to the sum so far. -/
theorem outs_next (c : Dev nD) (t : Fin cfg0.N) (h0 : ¬t.val % 16 = 0) (h1 : 1 ≤ t.val) :
    outsAt0 m c t.val t.isLt = (k0_pay4 (iblk m c 0 t) (iblk m c 1 t) (iblk m c 2 t) (iblk m c 3 t) (iblk m c 4 t),
      k0_pay1 (k0_pay5 (iblk m c 0 t) (iblk m c 1 t) (iblk m c 2 t)) (outsAt0 m c (t.val - 1) (by omega)).2) := by
  rw [outsAt0_B m c t h0 h1]
  refine Prod.ext ?_ ?_
  · dsimp only
    unfold out0_B_5
    rw [View.read_writes_eq_canon _ _ _ (fun _ => cover0_B_5 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread,
      View.ld_unit_zero (S := S512x1024) hz2, View.ld_unit_zero (S := S1024x1024) hz2, View.ld_unit_zero (S := S1x1024) hz2, shapeCast_self]
  · dsimp only
    unfold out0_B_6
    rw [View.read_writes_eq_canon _ _ _ (fun _ => cover0_B_6 ..)]
    unfold kernelRun0_B
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_6 t).read_unread,
      View.ld_unit_zero (S := S512x1024) hz2, View.ld_unit_zero (S := S1024x1024) hz2, View.ld_unit_zero (S := S1x1024) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- What each input window's block holds at an index: the argument's element there (the weight rounded to the narrow type, which on extended reals is the identity, and the gain read as one row). -/
theorem iblk0_apply (c : Dev nD) (t : Fin cfg0.N) (r : Fin 512) (l : Fin 1024) :
    (iblk m c 0 t : Vec Ideal S512x1024 .bf16) (ix2 r l) = m ((c : Thread nD τ).loc main_arg3) (ix2 (row t r) l) := by
  blk_simp [iblk, V_main_arg3]
  refine congrArg _ ?_
  blk_ext [index0, row]

theorem iblk1_apply (c : Dev nD) (t : Fin cfg0.N) (r l : Fin 1024) :
    (iblk m c 1 t : Vec Ideal S1024x1024 .bf16) (ix2 r l) = m ((c : Thread nD τ).loc main_arg2) (ix2 r l) := by
  have e : V m c main_v0 = truncf (F := Ideal) .bf16 (m ((c : Thread nD τ).loc main_arg2)) bitsLt_bf16_f32 := by
    show StableHlo.after hostOps0 _ main_v0 = _
    after_results_simp <;> rfl
  blk_simp [iblk, e]
  refine congrArg (m ((c : Thread nD τ).loc main_arg2)) (?_ : _ = ix2 r l)
  blk_ext [index1]

theorem iblk2_apply (c : Dev nD) (t : Fin cfg0.N) (r : Fin 512) (l : Fin 1024) :
    (iblk m c 2 t : Vec Ideal S512x1024 .f32) (ix2 r l) = m ((c : Thread nD τ).loc main_arg0) (ix2 (row t r) l) := by
  blk_simp [iblk, V_main_arg0]
  refine congrArg _ ?_
  blk_ext [index2, row]

theorem iblk3_apply (c : Dev nD) (t : Fin cfg0.N) (l : Fin 1024) :
    (iblk m c 3 t : Vec Ideal S1x1024 .f32) (ix2 0 l) = m ((c : Thread nD τ).loc main_arg1) (ix1 l) := by
  have e : V m c main_v1 = shapeCast S1x1024 (m ((c : Thread nD τ).loc main_arg1)) shapeCasts_S1024_S1x1024 := by
    show StableHlo.after hostOps0 _ main_v1 = _
    after_results_simp <;> rfl
  blk_simp [iblk, e]
  refine Eq.trans (congrArg _ (?_ : _ = ix2 0 l)) ?_
  · blk_ext [index3]
  · pointwise

theorem iblk4_apply (c : Dev nD) (t : Fin cfg0.N) (r : Fin 512) (l : Fin 1024) :
    (iblk m c 4 t : Vec Ideal S512x1024 .f32) (ix2 r l) = m ((c : Thread nD τ).loc main_arg4) (ix2 (row t r) l) := by
  blk_simp [iblk, V_main_arg4]
  refine congrArg _ ?_
  blk_ext [index4, row]

end Cert.Proof.Gatedx

end
-- ==== Proof.Gatedx.Value.lean ====
/- Hand-written, untrusted: THE VALUES OF THE GATE'S BACKWARD KERNEL, on extended reals: its two result arrays are the
   reference's (`final_dx` on real arguments, `final_gain` on any). -/
module

public import proofs.«01_k».proof.Proof.Gatedx.Arrays
public import proofs.«01_k».proof.Proof.Gen.ReferenceGatedxIdeal.Read

@[expose] public section

noncomputable section

namespace Cert.Proof.Gatedx

open Cert.KernelGatedxIdeal Cert.KernelGatedxIdeal.Gen Idealize.ShloMosaic Idealize.ShloMosaic.TcCoe Idealize.SL.Sem
open Cert.Proof.Tools Cert.Proof.Rms Cert.ReferenceGatedxIdeal.Read

/-- An argument array on one device. -/
local notation "arg[" m ", " c ", " a "]" => m (Thread.loc (c : Thread nD τ) a)

section Block

variable (b0 : Vec Ideal S512x1024 .bf16) (b1 : Vec Ideal S1024x1024 .bf16) (b2 : Vec Ideal S512x1024 .f32) (b3 : Vec Ideal S1x1024 .f32) (b4 : Vec Ideal S512x1024 .f32)

/-- A block of the kernel's gradient, element by element. -/
theorem block_dx (r : Fin 512) (l : Fin 1024) :
    k0_pay4 b0 b1 b2 b3 b4 (ix2 r l)
      = kernelGrad (fun k => b2 (ix2 r k)) (fun k => (∑ x, b0 (ix2 r x) * b1 (ix2 k x)) * b3 (ix2 0 k)) (b4 (ix2 r l)) l := by
  simp only [k0_pay4, k0_pay2, k0_pay3]
  pointwise

/-- A block's part of the gain's gradient. -/
theorem block_gain (l : Fin 1024) :
    k0_pay5 b0 b1 b2 (ix2 0 l) = ∑ r, (∑ x, b0 (ix2 r x) * b1 (ix2 l x)) * (b2 (ix2 r l) * rs (fun k => b2 (ix2 r k))) := by
  simp only [k0_pay5, k0_pay2, k0_pay3]
  pointwise

/-- Adding a block's part to the sum so far. -/
theorem add_gain (y : Vec Ideal S1x1024 .f32) (l : Fin 1024) :
    k0_pay1 (k0_pay5 b0 b1 b2) y (ix2 0 l) = y (ix2 0 l) + k0_pay5 b0 b1 b2 (ix2 0 l) := by
  simp only [k0_pay1]
  pointwise

end Block

/-- The norm's cotangent at one element, through the gate's weight. -/
def cot (x2 : Vec Ideal S1024x1024 .f32) (x3 : Vec Ideal S8192x1024 .bf16) (r : Fin 8192) (k : Fin 1024) : EReal :=
  ∑ x, x3 (ix2 r x) * x2 (ix2 k x)

section Reference

variable (x0 : Vec Ideal S8192x1024 .f32) (x1 : Vec Ideal S1024 .f32) (x2 : Vec Ideal S1024x1024 .f32) (x3 : Vec Ideal S8192x1024 .bf16) (x4 : Vec Ideal S8192x1024 .f32)

/-- The reference's gradient, element by element. -/
theorem reference_dx (r : Fin 8192) (l : Fin 1024) :
    val_main_v39 (F := Ideal) x0 x1 x2 x3 x4 (ix2 r l)
      = referenceGrad (fun k => x0 (ix2 r k)) (fun k => cot x2 x3 r k * x1 (ix1 k)) (x4 (ix2 r l)) l := by
  simp only [cot]
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_cst_3, val_main_v20, val_main_v21, val_main_v22, val_main_v23, val_main_cst_4, val_main_v24,
      val_main_v25, val_main_cst_5, val_main_v26, val_main_v27, val_main_v28, val_main_v29, val_main_v30,
      val_main_v31, val_main_cst_6, val_main_v32, val_main_v33, val_main_cst_7, val_main_v34, val_main_v35,
      val_main_v36, val_main_v37, val_main_v38, val_main_v39, val_main_v40]

/-- The reference's gradient of the gain. -/
theorem reference_gain (l : Fin 1024) :
    val_main_v40 (F := Ideal) x0 x2 x3 (ix2 0 l) = ∑ r, cot x2 x3 r l * (x0 (ix2 r l) * rs (fun k => x0 (ix2 r k))) := by
  simp only [cot]
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_cst_3, val_main_v20, val_main_v21, val_main_v22, val_main_v23, val_main_cst_4, val_main_v24,
      val_main_v25, val_main_cst_5, val_main_v26, val_main_v27, val_main_v28, val_main_v29, val_main_v30,
      val_main_v31, val_main_cst_6, val_main_v32, val_main_v33, val_main_cst_7, val_main_v34, val_main_v35,
      val_main_v36, val_main_v37, val_main_v38, val_main_v39, val_main_v40]
  rw [Finset.univ_unique, Finset.sum_singleton]
  exact Finset.sum_congr rfl fun r _ => mul_comm _ _

variable (t : Fin cfg0.N) (b0 : Vec Ideal S512x1024 .bf16) (b1 : Vec Ideal S1024x1024 .bf16) (b2 : Vec Ideal S512x1024 .f32) (b3 : Vec Ideal S1x1024 .f32) (b4 : Vec Ideal S512x1024 .f32)

/-- The kernel's gradient of one block of rows is the reference's at those rows. -/
theorem rows_dx (h0 : ∀ i, IsR (x0 i)) (h1 : ∀ i, IsR (x1 i)) (h2 : ∀ i, IsR (x2 i)) (h3 : ∀ i, IsR (x3 i))
    (e0 : ∀ r l, b0 (ix2 r l) = x3 (ix2 (row t r) l)) (e1 : ∀ r l, b1 (ix2 r l) = x2 (ix2 r l)) (e2 : ∀ r l, b2 (ix2 r l) = x0 (ix2 (row t r) l)) (e3 : ∀ l, b3 (ix2 0 l) = x1 (ix1 l)) (e4 : ∀ r l, b4 (ix2 r l) = x4 (ix2 (row t r) l)) (r : Fin 512) (l : Fin 1024) :
    k0_pay4 b0 b1 b2 b3 b4 (ix2 r l) = val_main_v39 (F := Ideal) x0 x1 x2 x3 x4 (ix2 (row t r) l) := by
  rw [reference_dx, block_dx]
  simp only [e0, e1, e2, e3, e4]
  exact grad_eq (fun k => x0 (ix2 (row t r) k)) (fun k => cot x2 x3 (row t r) k * x1 (ix1 k))
    (fun _ => h0 _) (fun _ => (IsR.sum fun _ => (h3 _).mul (h2 _)).mul (h1 _)) (x4 (ix2 (row t r) l)) l

/-- One row's term of the gain's gradient. -/
def term (l : Fin 1024) (r : Fin 8192) : EReal := cot x2 x3 r l * (x0 (ix2 r l) * rs (fun k => x0 (ix2 r k)))

/-- A block's part of the gain's gradient: its rows' terms. -/
theorem rows_gain (e0 : ∀ r l, b0 (ix2 r l) = x3 (ix2 (row t r) l)) (e1 : ∀ r l, b1 (ix2 r l) = x2 (ix2 r l)) (e2 : ∀ r l, b2 (ix2 r l) = x0 (ix2 (row t r) l)) (l : Fin 1024) :
    k0_pay5 b0 b1 b2 (ix2 0 l) = ∑ r : Fin 512, term x0 x2 x3 l (row t r) := by
  rw [block_gain]
  simp only [e0, e1, e2]
  rfl

end Reference

variable (m : (ℓ : Loc nD τ sig) → Buf (Elt Ideal) ℓ) (c : Dev nD)

/-- What any point leaves in the gradient's window. -/
theorem outs_dx (t : Fin cfg0.N) :
    (outsAt0 m c t.val t.isLt).1 = k0_pay4 (iblk m c 0 t) (iblk m c 1 t) (iblk m c 2 t) (iblk m c 3 t) (iblk m c 4 t) := by
  have hN : cfg0.N = 16 := N_0
  have := t.isLt
  by_cases h : t.val % 16 = 0
  · rw [outs_first m c t h (by omega)]
  · rw [outs_next m c t h (by omega)]

/-- The gradient's array after the run is the reference's. -/
theorem final_dx (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) :
    (dats m 0 c).arrAt 5 cfg0.N = val_main_v39 (F := Ideal) arg[m, c, main_arg0] arg[m, c, main_arg1] arg[m, c, main_arg2] arg[m, c, main_arg3] arg[m, c, main_arg4] := by
  refine (dats m 0 c).arrAt_eq_of_covers 5 _ (by decide +kernel) fun t hf y => ?_
  blk_simp
  rw [after0_5, outs_dx]
  obtain ⟨r, l, rfl⟩ : ∃ (r : Fin 512) (l : Fin 1024), y = ix2 r l := ⟨_, _, eq_ix2 (n0 := 512) (n1 := 1024) y⟩
  have e : (win0_5.blk t).view.emb (ix2 r l) = ix2 (row t r) l := by blk_ext [index5, row]
  rw [e]
  exact rows_dx _ _ _ _ _ t _ _ _ _ _ h0 h1 h2 h3 (iblk0_apply m c t) (iblk1_apply m c t) (iblk2_apply m c t) (iblk3_apply m c t) (iblk4_apply m c t) r l

/-- One row's term, of the arguments as the run finds them. -/
abbrev term' (l : Fin 1024) : Fin 8192 → EReal :=
  term arg[m, c, main_arg0] arg[m, c, main_arg2] arg[m, c, main_arg3] l

/-- A point's part of the gain's gradient. -/
theorem point_gain (t : Fin cfg0.N) (l : Fin 1024) : k0_pay5 (iblk m c 0 t) (iblk m c 1 t) (iblk m c 2 t) (ix2 0 l) = ∑ r : Fin 512, term' m c l (row t r) :=
  rows_gain _ _ _ t _ _ _ (iblk0_apply m c t) (iblk1_apply m c t) (iblk2_apply m c t) l

/-- What point `n` leaves in the gain's window: the terms of all rows up to the point's. -/
theorem outs_gain (l : Fin 1024) : ∀ (n : ℕ) (h : n < cfg0.N),
    (outsAt0 m c n h).2 (ix2 0 l) = ∑ i ∈ Finset.range (512 * (n + 1)), ext (term' m c l) i
  | 0, h => by
    have e := outs_first m c ⟨0, h⟩ rfl (by simp)
    dsimp only at e
    rw [e, sum_block_zero (term' m c l) 512 (by omega)]
    exact point_gain m c ⟨0, h⟩ l
  | n + 1, h => by
    have hN : cfg0.N = 16 := N_0
    have e := outs_next m c ⟨n + 1, h⟩ (by dsimp only; omega) (by simp)
    dsimp only [Nat.add_sub_cancel] at e
    rw [e, sum_block (term' m c l) 512 (n + 1) (by omega), ← outs_gain l n (by omega)]
    exact (add_gain _ _ _ _ l).trans (congrArg _ (point_gain m c ⟨n + 1, h⟩ l))

/-- The last point. -/
abbrev last : Fin cfg0.N := ⟨15, by decide⟩

/-- The gain's gradient after the run is the reference's. -/
theorem final_gain :
    (dats m 0 c).arrAt 6 cfg0.N = val_main_v40 (F := Ideal) arg[m, c, main_arg0] arg[m, c, main_arg2] arg[m, c, main_arg3] := by
  refine (dats m 0 c).arrAt_eq_of_after_last 6 last (by decide +kernel) _ fun y => ?_
  obtain ⟨i, l, rfl⟩ : ∃ (i : Fin 1) (l : Fin 1024), y = ix2 i l := ⟨_, _, eq_ix2 (n0 := 1) (n1 := 1024) y⟩
  obtain rfl : i = 0 := Subsingleton.elim _ _
  have e : (dats m 0 c).after 6 last (ix2 0 l) = ∑ i, term' m c l i := by
    rw [after0_6, outs_gain]
    exact sum_ext (term' m c l)
  exact e.trans (reference_gain _ _ _ l).symm

end Cert.Proof.Gatedx

end
-- ==== Proof.Gatedx.Claim.lean ====
/- Hand-written, untrusted: THE CLAIM ABOUT THE GATE'S BACKWARD KERNEL. The precondition makes the arguments that meet in a
   product's subtraction real numbers; then both result arrays are the reference's (Gatedx/Value.lean). -/
module

public import proofs.«01_k».proof.Defs
public import proofs.«01_k».proof.Proof.Gatedx.Value
public import proofs.«01_k».proof.Proof.Gen.KernelGatedx.Frame
public import proofs.«01_k».proof.Proof.Gen.Pre_gatedx_finite

@[expose] public section

noncomputable section

namespace Cert.Proof.Gatedx

open Idealize.ShloMosaic Idealize.ShloMosaic.TcCoe Idealize.SL.Sem
open Cert.Proof.Tools
open Cert.KernelGatedxIdeal (main_arg0 main_arg1 main_arg2 main_arg3 main_arg4)

/-- A kernel's argument array on one device. -/
local notation "arg[" m ", " c ", " a "]" => m (Thread.loc (Dev.tc c : Thread Cert.KernelGatedxIdeal.nD Cert.KernelGatedxIdeal.τ) a)

/-- The reference's run leaves its arguments as they were; it has no semaphore. -/
theorem frame_reference : Cert.quiescent_ReferenceGatedxIdeal (hReferenceGatedxIdeal := Cert.ReferenceGatedxIdeal.Gen.facts) := fun m g _ =>
  (θ_run Cert.ReferenceGatedxIdeal.defs _ _).mono (fun r h => ⟨fun c => (h c).2.2, sem_eq_zero_of_no_sems (by decide) r.2⟩)
    (Cert.ReferenceGatedxIdeal.Value.run (F := Ideal) m g)

/-- The two programs end at the same arrays. -/
theorem algebraic : Cert.algebraic_KernelGatedxIdeal_ReferenceGatedxIdeal_pre_gatedx_finite (hKernelGatedxIdeal := Cert.KernelGatedxIdeal.Gen.facts)
    (hReferenceGatedxIdeal := Cert.ReferenceGatedxIdeal.Gen.facts) (hPre_gatedx_finite := Cert.Pre_gatedx_finite.Gen.facts) := by
  intro m g m' g' hpre hagree
  refine ⟨_, _, Cert.KernelGatedxIdeal.Value.run_blocks (F := Ideal) m g, ?_⟩
  refine (θ_run Cert.ReferenceGatedxIdeal.defs _ _).mono (fun r h c => ?_) (Cert.ReferenceGatedxIdeal.Value.run (F := Ideal) m' g')
  obtain ⟨a0, a1, a2, a3, a4⟩ := hagree c
  obtain ⟨p0, p1, p2, p3⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  obtain ⟨v0, v1, hrest⟩ := h c
  refine ⟨(v0.trans (?_ : _ = Cert.ReferenceGatedxIdeal.Read.val_main_v39 (F := Ideal) arg[m, c, main_arg0] arg[m, c, main_arg1] arg[m, c, main_arg2] arg[m, c, main_arg3] arg[m, c, main_arg4])).trans (final_dx m c h0 h1 h2 h3).symm, (v1.trans (?_ : _ = Cert.ReferenceGatedxIdeal.Read.val_main_v40 (F := Ideal) arg[m, c, main_arg0] arg[m, c, main_arg2] arg[m, c, main_arg3])).trans (final_gain m c).symm, hrest⟩
  · rw [← a0, ← a1, ← a2, ← a3, ← a4]
    first | exact Cert.ReferenceGatedxIdeal.Read.val_main_v39_eq m' c | exact Cert.ReferenceGatedxIdeal.Read.val_main_v39_eq _ _ _ _ _
  · rw [← a0, ← a2, ← a3]
    first | exact Cert.ReferenceGatedxIdeal.Read.val_main_v40_eq m' c | exact Cert.ReferenceGatedxIdeal.Read.val_main_v40_eq _ _ _

end Cert.Proof.Gatedx

end
-- ==== Proof.Mixin.Arrays.lean ====
/- Hand-written, untrusted: THE RUN OF THE MIXING LAYER'S LAST BACKWARD KERNEL, at any float values. What each point's body leaves in the
   two result windows (`outs_first`, `outs_next`): the point's rows of the input's gradient, and the running sum of the
   gain's gradient; and what the input windows hold. -/
module

public import proofs.«01_k».proof.Proof.Rms
public import proofs.«01_k».proof.Proof.Gen.KernelMixinIdeal.Value
public import Idealize.ShloMosaic.Lib.Pipeline.ValueKit.Geometry

@[expose] public section

noncomputable section

namespace Cert.Proof.Mixin

open Cert.KernelMixinIdeal Cert.KernelMixinIdeal.Gen Idealize.ShloMosaic Idealize.ShloMosaic.TcCoe Idealize.SL.Sem
open Cert.Proof.Tools

section Outs

variable {F : FTy → Type} [FloatOps F]
variable (m : (ℓ : Loc nD τ sig) → Buf (Elt F) ℓ)

/-- The first point: the rows of the input's gradient, and the rows' part of the gain's gradient. -/
theorem outs_first (c : Dev nD) (t : Fin cfg0.N) (h0 : t.val % 16 = 0) (h1 : ¬1 ≤ t.val) :
    outsAt0 m c t.val t.isLt = (k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)),
      k0_pay2 (k0_pay4 (iblk m c 0 t) (iblk m c 1 t) (iblk m c 2 t) (iblk m c 3 t)) (iblk m c 4 t) (k0_pay5 (iblk m c 4 t))) := by
  rw [outsAt0_A m c t h0 h1]
  refine Prod.ext ?_ ?_
  · dsimp only
    unfold out0_A_7
    rw [View.read_writes_eq_canon _ _ _ (fun _ => cover0_A_7 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x512) hz2, View.ld_unit_zero (S := S1024x512) hz2, View.ld_unit_zero (S := S1x1024) hz2, shapeCast_self]
  · dsimp only
    unfold out0_A_8
    rw [View.read_writes_eq_canon _ _ _ (fun _ => cover0_A_8 ..)]
    unfold kernelRun0_A
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x512) hz2, View.ld_unit_zero (S := S1024x512) hz2, View.ld_unit_zero (S := S1x1024) hz2, shapeCast_self]

/-- A later point: the same rows, and their part of the gain's gradient added to the sum so far. -/
theorem outs_next (c : Dev nD) (t : Fin cfg0.N) (h0 : ¬t.val % 16 = 0) (h1 : 1 ≤ t.val) :
    outsAt0 m c t.val t.isLt = (k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)),
      k0_pay3 (k0_pay4 (iblk m c 0 t) (iblk m c 1 t) (iblk m c 2 t) (iblk m c 3 t)) (iblk m c 4 t) (k0_pay5 (iblk m c 4 t)) (outsAt0 m c (t.val - 1) (by omega)).2) := by
  rw [outsAt0_B m c t h0 h1]
  refine Prod.ext ?_ ?_
  · dsimp only
    unfold out0_B_7
    rw [View.read_writes_eq_canon _ _ _ (fun _ => cover0_B_7 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x512) hz2, View.ld_unit_zero (S := S1024x512) hz2, View.ld_unit_zero (S := S1x1024) hz2, shapeCast_self]
  · dsimp only
    unfold out0_B_8
    rw [View.read_writes_eq_canon _ _ _ (fun _ => cover0_B_8 ..)]
    unfold kernelRun0_B
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread,
      View.ld_unit_zero (S := S512x1024) hz2, View.ld_unit_zero (S := S512x512) hz2, View.ld_unit_zero (S := S1024x512) hz2, View.ld_unit_zero (S := S1x1024) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- What each input window's block holds at an index: the argument's element there (the weight rounded to the narrow type, which on extended reals is the identity, and cut in two halves; the gain read as one row). -/
theorem iblk0_apply (c : Dev nD) (t : Fin cfg0.N) (r : Fin 512) (l : Fin 512) :
    (iblk m c 0 t : Vec Ideal S512x512 .f32) (ix2 r l) = m ((c : Thread nD τ).loc main_arg3) (ix2 (row t r) l) := by
  blk_simp [iblk, V_main_arg3]
  refine congrArg _ ?_
  blk_ext [index0, row]

theorem iblk1_apply (c : Dev nD) (t : Fin cfg0.N) (r : Fin 512) (l : Fin 512) :
    (iblk m c 1 t : Vec Ideal S512x512 .f32) (ix2 r l) = m ((c : Thread nD τ).loc main_arg4) (ix2 (row t r) l) := by
  blk_simp [iblk, V_main_arg4]
  refine congrArg _ ?_
  blk_ext [index1, row]

theorem iblk2_apply (c : Dev nD) (t : Fin cfg0.N) (k : Fin 1024) (l : Fin 512) :
    (iblk m c 2 t : Vec Ideal S1024x512 .bf16) (ix2 k l) = m ((c : Thread nD τ).loc main_arg2) (ix2 k ⟨l.val, by omega⟩) := by
  have e : V m c main_v1 = extractStridedSlice S1024x512 ![0, 0] (truncf (F := Ideal) .bf16 (m ((c : Thread nD τ).loc main_arg2)) bitsLt_bf16_f32) slices_S1024x1024_S1024x512_0_0 := by
    show StableHlo.after hostOps0 _ main_v1 = _
    after_results_simp <;> rfl
  blk_simp [iblk, e]
  refine Eq.trans (congrArg _ (?_ : _ = ix2 k l)) ?_
  · blk_ext [index2]
  · pointwise

theorem iblk3_apply (c : Dev nD) (t : Fin cfg0.N) (k : Fin 1024) (l : Fin 512) :
    (iblk m c 3 t : Vec Ideal S1024x512 .bf16) (ix2 k l) = m ((c : Thread nD τ).loc main_arg2) (ix2 k ⟨512 + l.val, by omega⟩) := by
  have e : V m c main_v2 = extractStridedSlice S1024x512 ![0, 512] (truncf (F := Ideal) .bf16 (m ((c : Thread nD τ).loc main_arg2)) bitsLt_bf16_f32) slices_S1024x1024_S1024x512_0_512 := by
    show StableHlo.after hostOps0 _ main_v2 = _
    after_results_simp <;> rfl
  blk_simp [iblk, e]
  refine Eq.trans (congrArg _ (?_ : _ = ix2 k l)) ?_
  · blk_ext [index3]
  · pointwise

theorem iblk4_apply (c : Dev nD) (t : Fin cfg0.N) (r : Fin 512) (l : Fin 1024) :
    (iblk m c 4 t : Vec Ideal S512x1024 .f32) (ix2 r l) = m ((c : Thread nD τ).loc main_arg0) (ix2 (row t r) l) := by
  blk_simp [iblk, V_main_arg0]
  refine congrArg _ ?_
  blk_ext [index4, row]

theorem iblk5_apply (c : Dev nD) (t : Fin cfg0.N) (l : Fin 1024) :
    (iblk m c 5 t : Vec Ideal S1x1024 .f32) (ix2 0 l) = m ((c : Thread nD τ).loc main_arg1) (ix1 l) := by
  have e : V m c main_v3 = shapeCast S1x1024 (m ((c : Thread nD τ).loc main_arg1)) shapeCasts_S1024_S1x1024 := by
    show StableHlo.after hostOps0 _ main_v3 = _
    after_results_simp <;> rfl
  blk_simp [iblk, e]
  refine Eq.trans (congrArg _ (?_ : _ = ix2 0 l)) ?_
  · blk_ext [index5]
  · pointwise

theorem iblk6_apply (c : Dev nD) (t : Fin cfg0.N) (r : Fin 512) (l : Fin 1024) :
    (iblk m c 6 t : Vec Ideal S512x1024 .f32) (ix2 r l) = m ((c : Thread nD τ).loc main_arg5) (ix2 (row t r) l) := by
  blk_simp [iblk, V_main_arg5]
  refine congrArg _ ?_
  blk_ext [index6, row]

end Cert.Proof.Mixin

end
-- ==== Proof.Mixin.Value.lean ====
/- Hand-written, untrusted: THE VALUES OF THE MIXING LAYER'S LAST BACKWARD KERNEL, on extended reals: its two result arrays are the
   reference's (`final_dx` on real arguments, `final_gain` on any). -/
module

public import proofs.«01_k».proof.Proof.Mixin.Arrays
public import proofs.«01_k».proof.Proof.Gen.ReferenceMixinIdeal.Read

@[expose] public section

noncomputable section

namespace Cert.Proof.Mixin

open Cert.KernelMixinIdeal Cert.KernelMixinIdeal.Gen Idealize.ShloMosaic Idealize.ShloMosaic.TcCoe Idealize.SL.Sem
open Cert.Proof.Tools Cert.Proof.Rms Cert.ReferenceMixinIdeal.Read

/-- An argument array on one device. -/
local notation "arg[" m ", " c ", " a "]" => m (Thread.loc (c : Thread nD τ) a)

section Block

variable (b0 : Vec Ideal S512x512 .f32) (b1 : Vec Ideal S512x512 .f32) (b2 : Vec Ideal S1024x512 .bf16) (b3 : Vec Ideal S1024x512 .bf16) (b4 : Vec Ideal S512x1024 .f32) (b5 : Vec Ideal S1x1024 .f32) (b6 : Vec Ideal S512x1024 .f32)

/-- A block of the kernel's gradient, element by element. -/
theorem block_dx (r : Fin 512) (l : Fin 1024) :
    k0_pay1 b6 (k0_pay7 b0 b1 b2 b3 b4 b5) (k0_pay8 b4) (k0_pay9 b0 b1 b2 b3 b4 b5) (ix2 r l)
      = kernelGrad (fun k => b4 (ix2 r k)) (fun k => (∑ x, b0 (ix2 r x) * b2 (ix2 k x) + ∑ x, b1 (ix2 r x) * b3 (ix2 k x)) * b5 (ix2 0 k)) (b6 (ix2 r l)) l := by
  simp only [k0_pay1, k0_pay4, k0_pay5, k0_pay6, k0_pay7, k0_pay8, k0_pay9]
  pointwise

/-- A block's part of the gain's gradient. -/
theorem block_gain (l : Fin 1024) :
    k0_pay2 (k0_pay4 b0 b1 b2 b3) b4 (k0_pay5 b4) (ix2 0 l) = ∑ r, (∑ x, b0 (ix2 r x) * b2 (ix2 l x) + ∑ x, b1 (ix2 r x) * b3 (ix2 l x)) * (b4 (ix2 r l) * rs (fun k => b4 (ix2 r k))) := by
  simp only [k0_pay2, k0_pay4, k0_pay5]
  pointwise

/-- Adding a block's part to the sum so far. -/
theorem add_gain (y : Vec Ideal S1x1024 .f32) (l : Fin 1024) :
    k0_pay3 (k0_pay4 b0 b1 b2 b3) b4 (k0_pay5 b4) y (ix2 0 l) = y (ix2 0 l) + k0_pay2 (k0_pay4 b0 b1 b2 b3) b4 (k0_pay5 b4) (ix2 0 l) := by
  simp only [k0_pay3]
  pointwise

end Block

/-- The norm's cotangent at one element, through the two halves of the weight's columns. -/
def cot (x2 : Vec Ideal S1024x1024 .f32) (x3 : Vec Ideal S8192x512 .f32) (x4 : Vec Ideal S8192x512 .f32) (r : Fin 8192) (k : Fin 1024) : EReal :=
  ∑ x, x3 (ix2 r x) * x2 (ix2 k ⟨x.val, by omega⟩) + ∑ x, x4 (ix2 r x) * x2 (ix2 k ⟨512 + x.val, by omega⟩)

/-- The same as differentiation of the forward line gives it: one product, of the two mixers' cotangents laid side by side. -/
def cot' (x2 : Vec Ideal S1024x1024 .f32) (x3 x4 : Vec Ideal S8192x512 .f32) (r : Fin 8192) (k : Fin 1024) : EReal :=
    ∑ x : Fin 1024, ((if h : 512 ≤ x.val ∧ x.val - 512 < 512 then x4 (ix2 r ⟨x.val - 512, h.2⟩) else 0)
      + (if h : x.val < 512 then x3 (ix2 r ⟨x.val, h⟩) else 0)) * x2 (ix2 k x)

/-- One product over all columns is the two products over the halves. -/
theorem cot_eq (x2 : Vec Ideal S1024x1024 .f32) (x3 x4 : Vec Ideal S8192x512 .f32) (r : Fin 8192) (k : Fin 1024) :
    cot x2 x3 x4 r k = cot' x2 x3 x4 r k := by
  symm
  unfold cot cot'
  rw [Fin.sum_univ_add (a := 512) (b := 512)]
  refine congrArg₂ _ (Finset.sum_congr rfl fun x _ => ?_) (Finset.sum_congr rfl fun x _ => ?_)
  · rw [dif_neg (by simp), dif_pos (by simp), zero_add]
    rfl
  · rw [dif_pos (by simp), dif_neg (by simp), add_zero]
    refine congrArg (fun i => x4 (ix2 r i) * _) (Fin.ext (by simp))

section Reference

variable (x0 : Vec Ideal S8192x1024 .f32) (x1 : Vec Ideal S1024 .f32) (x2 : Vec Ideal S1024x1024 .f32) (x3 : Vec Ideal S8192x512 .f32) (x4 : Vec Ideal S8192x512 .f32) (x5 : Vec Ideal S8192x1024 .f32)

/-- The reference's gradient, element by element. -/
theorem reference_dx (r : Fin 8192) (l : Fin 1024) :
    val_main_v43 (F := Ideal) x0 x1 x2 x3 x4 x5 (ix2 r l)
      = referenceGrad (fun k => x0 (ix2 r k)) (fun k => cot x2 x3 x4 r k * x1 (ix1 k)) (x5 (ix2 r l)) l := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18,
      val_main_cst_3, val_main_v19, val_main_cst_4, val_main_v20, val_main_v21, val_main_v22, val_main_v23,
      val_main_cst_5, val_main_v24, val_main_v25, val_main_v26, val_main_v27, val_main_cst_6, val_main_v28,
      val_main_v29, val_main_cst_7, val_main_v30, val_main_v31, val_main_v32, val_main_v33, val_main_v34,
      val_main_v35, val_main_cst_8, val_main_v36, val_main_v37, val_main_cst_9, val_main_v38, val_main_v39,
      val_main_v40, val_main_v41, val_main_v42, val_main_v43, val_main_v44]

/-- The reference's gradient of the gain. -/
theorem reference_gain (l : Fin 1024) :
    val_main_v44 (F := Ideal) x0 x2 x3 x4 (ix2 0 l) = ∑ r, cot x2 x3 x4 r l * (x0 (ix2 r l) * rs (fun k => x0 (ix2 r k))) := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18,
      val_main_cst_3, val_main_v19, val_main_cst_4, val_main_v20, val_main_v21, val_main_v22, val_main_v23,
      val_main_cst_5, val_main_v24, val_main_v25, val_main_v26, val_main_v27, val_main_cst_6, val_main_v28,
      val_main_v29, val_main_cst_7, val_main_v30, val_main_v31, val_main_v32, val_main_v33, val_main_v34,
      val_main_v35, val_main_cst_8, val_main_v36, val_main_v37, val_main_cst_9, val_main_v38, val_main_v39,
      val_main_v40, val_main_v41, val_main_v42, val_main_v43, val_main_v44]
  rw [Finset.univ_unique, Finset.sum_singleton]
  exact Finset.sum_congr rfl fun r _ => mul_comm _ _

variable (t : Fin cfg0.N) (b0 : Vec Ideal S512x512 .f32) (b1 : Vec Ideal S512x512 .f32) (b2 : Vec Ideal S1024x512 .bf16) (b3 : Vec Ideal S1024x512 .bf16) (b4 : Vec Ideal S512x1024 .f32) (b5 : Vec Ideal S1x1024 .f32) (b6 : Vec Ideal S512x1024 .f32)

/-- The kernel's gradient of one block of rows is the reference's at those rows. -/
theorem rows_dx (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = x3 (ix2 (row t r) l)) (e1 : ∀ r l, b1 (ix2 r l) = x4 (ix2 (row t r) l)) (e2 : ∀ k l, b2 (ix2 k l) = x2 (ix2 k ⟨l.val, by omega⟩)) (e3 : ∀ k l, b3 (ix2 k l) = x2 (ix2 k ⟨512 + l.val, by omega⟩)) (e4 : ∀ r l, b4 (ix2 r l) = x0 (ix2 (row t r) l)) (e5 : ∀ l, b5 (ix2 0 l) = x1 (ix1 l)) (e6 : ∀ r l, b6 (ix2 r l) = x5 (ix2 (row t r) l)) (r : Fin 512) (l : Fin 1024) :
    k0_pay1 b6 (k0_pay7 b0 b1 b2 b3 b4 b5) (k0_pay8 b4) (k0_pay9 b0 b1 b2 b3 b4 b5) (ix2 r l) = val_main_v43 (F := Ideal) x0 x1 x2 x3 x4 x5 (ix2 (row t r) l) := by
  rw [reference_dx, block_dx]
  simp only [e0, e1, e2, e3, e4, e5, e6]
  exact grad_eq (fun k => x0 (ix2 (row t r) k)) (fun k => cot x2 x3 x4 (row t r) k * x1 (ix1 k))
    (fun _ => h0 _) (fun _ => ((IsR.sum fun _ => (h3 _).mul (h2 _)).add (IsR.sum fun _ => (h4 _).mul (h2 _))).mul (h1 _)) (x5 (ix2 (row t r) l)) l

/-- One row's term of the gain's gradient. -/
def term (l : Fin 1024) (r : Fin 8192) : EReal := cot x2 x3 x4 r l * (x0 (ix2 r l) * rs (fun k => x0 (ix2 r k)))

/-- A block's part of the gain's gradient: its rows' terms. -/
theorem rows_gain (e0 : ∀ r l, b0 (ix2 r l) = x3 (ix2 (row t r) l)) (e1 : ∀ r l, b1 (ix2 r l) = x4 (ix2 (row t r) l)) (e2 : ∀ k l, b2 (ix2 k l) = x2 (ix2 k ⟨l.val, by omega⟩)) (e3 : ∀ k l, b3 (ix2 k l) = x2 (ix2 k ⟨512 + l.val, by omega⟩)) (e4 : ∀ r l, b4 (ix2 r l) = x0 (ix2 (row t r) l)) (l : Fin 1024) :
    k0_pay2 (k0_pay4 b0 b1 b2 b3) b4 (k0_pay5 b4) (ix2 0 l) = ∑ r : Fin 512, term x0 x2 x3 x4 l (row t r) := by
  rw [block_gain]
  simp only [e0, e1, e2, e3, e4]
  rfl

end Reference

variable (m : (ℓ : Loc nD τ sig) → Buf (Elt Ideal) ℓ) (c : Dev nD)

/-- What any point leaves in the gradient's window. -/
theorem outs_dx (t : Fin cfg0.N) :
    (outsAt0 m c t.val t.isLt).1 = k0_pay1 (iblk m c 6 t) (k0_pay7 (iblk m c 0 t) (iblk m c 1 t) (iblk m c 2 t) (iblk m c 3 t) (iblk m c 4 t) (iblk m c 5 t)) (k0_pay8 (iblk m c 4 t)) (k0_pay9 (iblk m c 0 t) (iblk m c 1 t) (iblk m c 2 t) (iblk m c 3 t) (iblk m c 4 t) (iblk m c 5 t)) := by
  have hN : cfg0.N = 16 := N_0
  have := t.isLt
  by_cases h : t.val % 16 = 0
  · rw [outs_first m c t h (by omega)]
  · rw [outs_next m c t h (by omega)]

/-- The gradient's array after the run is the reference's. -/
theorem final_dx (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 7 cfg0.N = val_main_v43 (F := Ideal) arg[m, c, main_arg0] arg[m, c, main_arg1] arg[m, c, main_arg2] arg[m, c, main_arg3] arg[m, c, main_arg4] arg[m, c, main_arg5] := by
  refine (dats m 0 c).arrAt_eq_of_covers 7 _ (by decide +kernel) fun t hf y => ?_
  blk_simp
  rw [after0_7, outs_dx]
  obtain ⟨r, l, rfl⟩ : ∃ (r : Fin 512) (l : Fin 1024), y = ix2 r l := ⟨_, _, eq_ix2 (n0 := 512) (n1 := 1024) y⟩
  have e : (win0_7.blk t).view.emb (ix2 r l) = ix2 (row t r) l := by blk_ext [index7, row]
  rw [e]
  exact rows_dx _ _ _ _ _ _ t _ _ _ _ _ _ _ h0 h1 h2 h3 h4 (iblk0_apply m c t) (iblk1_apply m c t) (iblk2_apply m c t) (iblk3_apply m c t) (iblk4_apply m c t) (iblk5_apply m c t) (iblk6_apply m c t) r l

/-- One row's term, of the arguments as the run finds them. -/
abbrev term' (l : Fin 1024) : Fin 8192 → EReal :=
  term arg[m, c, main_arg0] arg[m, c, main_arg2] arg[m, c, main_arg3] arg[m, c, main_arg4] l

/-- A point's part of the gain's gradient. -/
theorem point_gain (t : Fin cfg0.N) (l : Fin 1024) : k0_pay2 (k0_pay4 (iblk m c 0 t) (iblk m c 1 t) (iblk m c 2 t) (iblk m c 3 t)) (iblk m c 4 t) (k0_pay5 (iblk m c 4 t)) (ix2 0 l) = ∑ r : Fin 512, term' m c l (row t r) :=
  rows_gain _ _ _ _ t _ _ _ _ _ (iblk0_apply m c t) (iblk1_apply m c t) (iblk2_apply m c t) (iblk3_apply m c t) (iblk4_apply m c t) l

/-- What point `n` leaves in the gain's window: the terms of all rows up to the point's. -/
theorem outs_gain (l : Fin 1024) : ∀ (n : ℕ) (h : n < cfg0.N),
    (outsAt0 m c n h).2 (ix2 0 l) = ∑ i ∈ Finset.range (512 * (n + 1)), ext (term' m c l) i
  | 0, h => by
    have e := outs_first m c ⟨0, h⟩ rfl (by simp)
    dsimp only at e
    rw [e, sum_block_zero (term' m c l) 512 (by omega)]
    exact point_gain m c ⟨0, h⟩ l
  | n + 1, h => by
    have hN : cfg0.N = 16 := N_0
    have e := outs_next m c ⟨n + 1, h⟩ (by dsimp only; omega) (by simp)
    dsimp only [Nat.add_sub_cancel] at e
    rw [e, sum_block (term' m c l) 512 (n + 1) (by omega), ← outs_gain l n (by omega)]
    exact (add_gain _ _ _ _ _ _ l).trans (congrArg _ (point_gain m c ⟨n + 1, h⟩ l))

/-- The last point. -/
abbrev last : Fin cfg0.N := ⟨15, by decide⟩

/-- The gain's gradient after the run is the reference's. -/
theorem final_gain :
    (dats m 0 c).arrAt 8 cfg0.N = val_main_v44 (F := Ideal) arg[m, c, main_arg0] arg[m, c, main_arg2] arg[m, c, main_arg3] arg[m, c, main_arg4] := by
  refine (dats m 0 c).arrAt_eq_of_after_last 8 last (by decide +kernel) _ fun y => ?_
  obtain ⟨i, l, rfl⟩ : ∃ (i : Fin 1) (l : Fin 1024), y = ix2 i l := ⟨_, _, eq_ix2 (n0 := 1) (n1 := 1024) y⟩
  obtain rfl : i = 0 := Subsingleton.elim _ _
  have e : (dats m 0 c).after 8 last (ix2 0 l) = ∑ i, term' m c l i := by
    rw [after0_8, outs_gain]
    exact sum_ext (term' m c l)
  exact e.trans (reference_gain _ _ _ _ l).symm

end Cert.Proof.Mixin

end
-- ==== Proof.Mixin.Claim.lean ====
/- Hand-written, untrusted: THE CLAIM ABOUT THE MIXING LAYER'S LAST BACKWARD KERNEL. The precondition makes the arguments that meet in a
   product's subtraction real numbers; then both result arrays are the reference's (Mixin/Value.lean). -/
module

public import proofs.«01_k».proof.Defs
public import proofs.«01_k».proof.Proof.Mixin.Value
public import proofs.«01_k».proof.Proof.Gen.KernelMixin.Frame
public import proofs.«01_k».proof.Proof.Gen.Pre_mixin_finite

@[expose] public section

noncomputable section

namespace Cert.Proof.Mixin

open Idealize.ShloMosaic Idealize.ShloMosaic.TcCoe Idealize.SL.Sem
open Cert.Proof.Tools
open Cert.KernelMixinIdeal (main_arg0 main_arg1 main_arg2 main_arg3 main_arg4 main_arg5)

/-- A kernel's argument array on one device. -/
local notation "arg[" m ", " c ", " a "]" => m (Thread.loc (Dev.tc c : Thread Cert.KernelMixinIdeal.nD Cert.KernelMixinIdeal.τ) a)

/-- The reference's run leaves its arguments as they were; it has no semaphore. -/
theorem frame_reference : Cert.quiescent_ReferenceMixinIdeal (hReferenceMixinIdeal := Cert.ReferenceMixinIdeal.Gen.facts) := fun m g _ =>
  (θ_run Cert.ReferenceMixinIdeal.defs _ _).mono (fun r h => ⟨fun c => (h c).2.2, sem_eq_zero_of_no_sems (by decide) r.2⟩)
    (Cert.ReferenceMixinIdeal.Value.run (F := Ideal) m g)

/-- The two programs end at the same arrays. -/
theorem algebraic : Cert.algebraic_KernelMixinIdeal_ReferenceMixinIdeal_pre_mixin_finite (hKernelMixinIdeal := Cert.KernelMixinIdeal.Gen.facts)
    (hReferenceMixinIdeal := Cert.ReferenceMixinIdeal.Gen.facts) (hPre_mixin_finite := Cert.Pre_mixin_finite.Gen.facts) := by
  intro m g m' g' hpre hagree
  refine ⟨_, _, Cert.KernelMixinIdeal.Value.run_blocks (F := Ideal) m g, ?_⟩
  refine (θ_run Cert.ReferenceMixinIdeal.defs _ _).mono (fun r h c => ?_) (Cert.ReferenceMixinIdeal.Value.run (F := Ideal) m' g')
  obtain ⟨a0, a1, a2, a3, a4, a5⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h4 : ∀ i, IsR (arg[m, c, main_arg4] i) := isR_of_test _ _ (fun _ => inf_word) p4
  obtain ⟨v0, v1, hrest⟩ := h c
  refine ⟨(v0.trans (?_ : _ = Cert.ReferenceMixinIdeal.Read.val_main_v43 (F := Ideal) arg[m, c, main_arg0] arg[m, c, main_arg1] arg[m, c, main_arg2] arg[m, c, main_arg3] arg[m, c, main_arg4] arg[m, c, main_arg5])).trans (final_dx m c h0 h1 h2 h3 h4).symm, (v1.trans (?_ : _ = Cert.ReferenceMixinIdeal.Read.val_main_v44 (F := Ideal) arg[m, c, main_arg0] arg[m, c, main_arg2] arg[m, c, main_arg3] arg[m, c, main_arg4])).trans (final_gain m c).symm, hrest⟩
  · rw [← a0, ← a1, ← a2, ← a3, ← a4, ← a5]
    first | exact Cert.ReferenceMixinIdeal.Read.val_main_v43_eq m' c | exact Cert.ReferenceMixinIdeal.Read.val_main_v43_eq _ _ _ _ _ _
  · rw [← a0, ← a2, ← a3, ← a4]
    first | exact Cert.ReferenceMixinIdeal.Read.val_main_v44_eq m' c | exact Cert.ReferenceMixinIdeal.Read.val_main_v44_eq _ _ _ _

end Cert.Proof.Mixin

end
-- ==== Proof.Glu.Arrays.lean ====
/- Hand-written, untrusted: THE RUN OF THE GATED UNIT'S BACKWARD KERNEL. What each point's body leaves in the two result
   windows (`outs_first`, `outs_next`, at any float values): the point's rows of the input's gradient, and the running sum
   of the skip weight's gradient; and what the input windows hold, on extended reals. -/
module

public import proofs.«01_k».proof.Proof.Rms
public import proofs.«01_k».proof.Proof.Gen.KernelGluIdeal.Value
public import Idealize.ShloMosaic.Lib.Pipeline.ValueKit.Geometry

@[expose] public section

noncomputable section

namespace Cert.Proof.Glu

open Cert.KernelGluIdeal Cert.KernelGluIdeal.Gen Idealize.ShloMosaic Idealize.ShloMosaic.TcCoe Idealize.SL.Sem
open Cert.Proof.Tools

/-- An argument array on one device. -/
local notation "arg[" m ", " c ", " a "]" => m (Thread.loc (c : Thread nD τ) a)

section Outs

variable {F : FTy → Type} [FloatOps F] [Named F]
variable (m : (ℓ : Loc nD τ sig) → Buf (Elt F) ℓ)

/-- The first point: the rows of the input's gradient, and the rows' part of the skip weight's gradient. -/
theorem outs_first (c : Dev nD) (t : Fin cfg0.N) (h0 : t.val % 8 = 0) (h1 : ¬1 ≤ t.val) :
    outsAt0 m c t.val t.isLt = (k0_pay1 (k0_pay4 (iblk m c 4 t)) (k0_pay5 (iblk m c 0 t) (iblk m c 1 t) (iblk m c 2 t) (iblk m c 3 t)) (k0_pay7 (iblk m c 4 t)) (k0_pay8 (iblk m c 4 t)) (k0_pay9 (iblk m c 4 t)) (Scalar.ofBits .f32 0x3F800000#32),
      k0_pay2 (k0_pay4 (iblk m c 4 t)) (iblk m c 5 t) (k0_pay5 (iblk m c 0 t) (iblk m c 1 t) (iblk m c 2 t) (iblk m c 3 t)) (k0_pay7 (iblk m c 4 t)) (k0_pay8 (iblk m c 4 t)) (k0_pay9 (iblk m c 4 t)) (Scalar.ofBits .f32 0x3F800000#32)) := by
  rw [outsAt0_A m c t h0 h1]
  refine Prod.ext ?_ ?_
  · dsimp only
    unfold out0_A_6
    rw [View.read_writes_eq_canon _ _ _ (fun _ => cover0_A_6 ..)]
    unfold kernelRun0_A
    dsimp only
    try sl_unfold_words
    rw [View.canon_unit_zero (S := S1024x512) hz2]
    simp only [View.readAt_eq_ld, (hs0_0 t).read_unread, (hs0_1 t).read_unread, (hs0_2 t).read_unread, (hs0_3 t).read_unread, (hs0_4 t).read_unread, (hs0_5 t).read_unread,
      View.ld_unit_zero (S := S1024x512) hz2, View.ld_unit_zero (S := S512x512) hz2, View.ld_unit_zero (S := S1x512) hz2, shapeCast_self]
  · dsimp only
    unfold out0_A_7
    rw [View.read_writes_eq_canon _ _ _ (fun _ => cover0_A_7 ..)]
    unfold kernelRun0_A
    dsimp only
    try sl_unfold_words
    rw [View.canon_unit_zero (S := S1x512) hz2]
    simp only [View.readAt_eq_ld, (hs0_0 t).read_unread, (hs0_1 t).read_unread, (hs0_2 t).read_unread, (hs0_3 t).read_unread, (hs0_4 t).read_unread, (hs0_5 t).read_unread,
      View.ld_unit_zero (S := S1024x512) hz2, View.ld_unit_zero (S := S512x512) hz2, View.ld_unit_zero (S := S1x512) hz2, shapeCast_self]

/-- A later point: the same rows, and their part of the skip weight's gradient added to the sum so far. -/
theorem outs_next (c : Dev nD) (t : Fin cfg0.N) (h0 : ¬t.val % 8 = 0) (h1 : 1 ≤ t.val) :
    outsAt0 m c t.val t.isLt = (k0_pay1 (k0_pay4 (iblk m c 4 t)) (k0_pay5 (iblk m c 0 t) (iblk m c 1 t) (iblk m c 2 t) (iblk m c 3 t)) (k0_pay7 (iblk m c 4 t)) (k0_pay8 (iblk m c 4 t)) (k0_pay9 (iblk m c 4 t)) (Scalar.ofBits .f32 0x3F800000#32),
      k0_pay3 (k0_pay4 (iblk m c 4 t)) (iblk m c 5 t) (k0_pay5 (iblk m c 0 t) (iblk m c 1 t) (iblk m c 2 t) (iblk m c 3 t)) (k0_pay7 (iblk m c 4 t)) (k0_pay8 (iblk m c 4 t)) (k0_pay9 (iblk m c 4 t)) (Scalar.ofBits .f32 0x3F800000#32) (outsAt0 m c (t.val - 1) (by omega)).2) := by
  rw [outsAt0_B m c t h0 h1]
  refine Prod.ext ?_ ?_
  · dsimp only
    unfold out0_B_6
    rw [View.read_writes_eq_canon _ _ _ (fun _ => cover0_B_6 ..)]
    unfold kernelRun0_B
    dsimp only
    try sl_unfold_words
    rw [View.canon_unit_zero (S := S1024x512) hz2]
    simp only [View.readAt_eq_ld, (hs0_0 t).read_unread, (hs0_1 t).read_unread, (hs0_2 t).read_unread, (hs0_3 t).read_unread, (hs0_4 t).read_unread, (hs0_5 t).read_unread,
      View.ld_unit_zero (S := S1024x512) hz2, View.ld_unit_zero (S := S512x512) hz2, View.ld_unit_zero (S := S1x512) hz2, shapeCast_self]
  · dsimp only
    unfold out0_B_7
    rw [View.read_writes_eq_canon _ _ _ (fun _ => cover0_B_7 ..)]
    unfold kernelRun0_B
    dsimp only
    try sl_unfold_words
    rw [View.canon_unit_zero (S := S1x512) hz2]
    simp only [View.readAt_eq_ld, (hs0_0 t).read_unread, (hs0_1 t).read_unread, (hs0_2 t).read_unread, (hs0_3 t).read_unread, (hs0_4 t).read_unread, (hs0_5 t).read_unread, (hs0_7 t).read_unread,
      View.ld_unit_zero (S := S1024x512) hz2, View.ld_unit_zero (S := S512x512) hz2, View.ld_unit_zero (S := S1x512) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

/-- A point's row of the whole array. -/
def row (t : Fin cfg0.N) (r : Fin 1024) : Fin 8192 := ⟨1024 * t.val + r.val, by have := t.isLt; have : cfg0.N = 8 := N_0; have := r.isLt; omega⟩

/-- The logistic function, and the gated unit's activation as a host line writes it, the cubic term's factor as a quotient. -/
abbrev sg (g : EReal) : EReal := Ideal.div 1 (1 + Ideal.exp (-g))
abbrev th (x : EReal) : EReal :=
  Ideal.tanh (Ideal.ofBits .f32 1061962282#32 * (x + Ideal.div (Ideal.ofBits .f32 1175174144#32 * (x * x * x)) (Ideal.ofBits .f32 1212370944#32)))
abbrev gq (x : EReal) : EReal := Ideal.ofBits .f32 1056964608#32 * x * (1 + th x)

section Host

variable (x0 x1 : Vec Ideal S8192x512 .f32) (x2 : Vec Ideal S512 .f32) (x3 : Vec Ideal S512x512 .f32) (x4 : Vec Ideal S8192x512 .f32)

/-- What the host lines compute from the arguments: the unit's input, the gate's argument, and the gate's cotangent. -/
def hy (r : Fin 8192) (l : Fin 512) : EReal := x0 (ix2 r l) + x2 (ix1 l) * x1 (ix2 r l)
def hl (r : Fin 8192) (l : Fin 512) : EReal := ∑ x, gq (hy x0 x1 x2 r x) * x3 (ix2 x l)
def ht (r : Fin 8192) (l : Fin 512) : EReal :=
  x4 (ix2 r l) * gq (hy x0 x1 x2 r l) * sg (hl x0 x1 x2 x3 r l) * (1 - sg (hl x0 x1 x2 x3 r l))

end Host

variable (m : (ℓ : Loc nD τ sig) → Buf (Elt Ideal) ℓ)

/-- The arrays that the host lines leave, element by element. -/
theorem at_v3 (c : Dev nD) (r : Fin 8192) (l : Fin 512) :
    (V m c main_v3 : Vec Ideal S8192x512 .f32) (ix2 r l) = (hy arg[m, c, main_arg0] arg[m, c, main_arg1] arg[m, c, main_arg2] r l : EReal) := by
  unfold hy
  show StableHlo.after hostOps0 _ main_v3 (ix2 r l) = _
  after_results_simp
  generalize m ((c : Thread nD τ).loc main_arg0) = x0
  generalize m ((c : Thread nD τ).loc main_arg1) = x1
  generalize m ((c : Thread nD τ).loc main_arg2) = x2
  pointwise

theorem at_v23 (c : Dev nD) (r : Fin 8192) (l : Fin 512) :
    (V m c main_v23 : Vec Ideal S8192x512 .f32) (ix2 r l) = (hl arg[m, c, main_arg0] arg[m, c, main_arg1] arg[m, c, main_arg2] arg[m, c, main_arg3] r l : EReal) := by
  unfold hl gq th hy
  show StableHlo.after hostOps0 _ main_v23 (ix2 r l) = _
  after_results_simp
  generalize m ((c : Thread nD τ).loc main_arg0) = x0
  generalize m ((c : Thread nD τ).loc main_arg1) = x1
  generalize m ((c : Thread nD τ).loc main_arg2) = x2
  generalize m ((c : Thread nD τ).loc main_arg3) = x3
  pointwise

theorem at_v36 (c : Dev nD) (r : Fin 8192) (l : Fin 512) :
    (V m c main_v36 : Vec Ideal S8192x512 .bf16) (ix2 r l) = (ht arg[m, c, main_arg0] arg[m, c, main_arg1] arg[m, c, main_arg2] arg[m, c, main_arg3] arg[m, c, main_arg4] r l : EReal) := by
  unfold ht sg hl gq th hy
  show StableHlo.after hostOps0 _ main_v36 (ix2 r l) = _
  after_results_simp
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  pointwise

/-- What each input window's block holds at an index. -/
theorem iblk0_apply (c : Dev nD) (t : Fin cfg0.N) (r : Fin 1024) (l : Fin 512) :
    (iblk m c 0 t : Vec Ideal S1024x512 .bf16) (ix2 r l) = (ht arg[m, c, main_arg0] arg[m, c, main_arg1] arg[m, c, main_arg2] arg[m, c, main_arg3] arg[m, c, main_arg4] (row t r) l : EReal) := by
  blk_simp [iblk]
  refine Eq.trans (congrArg (V m c main_v36) (?_ : _ = ix2 (row t r) l)) (at_v36 m c _ l)
  blk_ext [index0, row]

theorem iblk1_apply (c : Dev nD) (t : Fin cfg0.N) (r l : Fin 512) :
    (iblk m c 1 t : Vec Ideal S512x512 .bf16) (ix2 r l) = m ((c : Thread nD τ).loc main_arg3) (ix2 r l) := by
  have e : V m c main_v24 = truncf (F := Ideal) .bf16 arg[m, c, main_arg3] bitsLt_bf16_f32 := by
    show StableHlo.after hostOps0 _ main_v24 = _
    after_results_simp <;> rfl
  blk_simp [iblk, e]
  refine congrArg arg[m, c, main_arg3] (?_ : _ = ix2 r l)
  blk_ext [index1]

theorem iblk2_apply (c : Dev nD) (t : Fin cfg0.N) (r : Fin 1024) (l : Fin 512) :
    (iblk m c 2 t : Vec Ideal S1024x512 .f32) (ix2 r l) = (m ((c : Thread nD τ).loc main_arg4) (ix2 (row t r) l) : EReal) := by
  blk_simp [iblk, V_main_arg4]
  refine Eq.trans (congrArg (arg[m, c, main_arg4]) (?_ : _ = ix2 (row t r) l)) rfl
  blk_ext [index2, row]

theorem iblk3_apply (c : Dev nD) (t : Fin cfg0.N) (r : Fin 1024) (l : Fin 512) :
    (iblk m c 3 t : Vec Ideal S1024x512 .f32) (ix2 r l) = (hl arg[m, c, main_arg0] arg[m, c, main_arg1] arg[m, c, main_arg2] arg[m, c, main_arg3] (row t r) l : EReal) := by
  blk_simp [iblk]
  refine Eq.trans (congrArg (V m c main_v23) (?_ : _ = ix2 (row t r) l)) (at_v23 m c _ l)
  blk_ext [index3, row]

theorem iblk4_apply (c : Dev nD) (t : Fin cfg0.N) (r : Fin 1024) (l : Fin 512) :
    (iblk m c 4 t : Vec Ideal S1024x512 .f32) (ix2 r l) = (hy arg[m, c, main_arg0] arg[m, c, main_arg1] arg[m, c, main_arg2] (row t r) l : EReal) := by
  blk_simp [iblk]
  refine Eq.trans (congrArg (V m c main_v3) (?_ : _ = ix2 (row t r) l)) (at_v3 m c _ l)
  blk_ext [index4, row]

theorem iblk5_apply (c : Dev nD) (t : Fin cfg0.N) (r : Fin 1024) (l : Fin 512) :
    (iblk m c 5 t : Vec Ideal S1024x512 .f32) (ix2 r l) = (m ((c : Thread nD τ).loc main_arg1) (ix2 (row t r) l) : EReal) := by
  blk_simp [iblk, V_main_arg1]
  refine Eq.trans (congrArg (arg[m, c, main_arg1]) (?_ : _ = ix2 (row t r) l)) rfl
  blk_ext [index5, row]

end Cert.Proof.Glu

end
-- ==== Proof.Glu.Value.lean ====
/- Hand-written, untrusted: THE VALUES OF THE GATED UNIT'S BACKWARD KERNEL, on extended reals. Both programs form the
   same cotangent of the activation, a sum of the gate's part and the direct one (`cot`), from the same activation
   (`th_eq`, `gq_eq`). The activation's derivative is written differently: the kernel multiplies the cotangent into one
   closed form with the cubic term's two decimals, the reference adds what differentiation of each line gives. On real
   numbers the two are equal (`grad_eq`); so both result arrays are the reference's (`final_dy`, `final_dd`). -/
module

public import proofs.«01_k».proof.Proof.Reals
public import proofs.«01_k».proof.Proof.Glu.Arrays
public import proofs.«01_k».proof.Proof.Gen.ReferenceGluIdeal.Read

@[expose] public section

noncomputable section

namespace Cert.Proof.Glu

open Cert.KernelGluIdeal Cert.KernelGluIdeal.Gen Idealize.ShloMosaic Idealize.ShloMosaic.TcCoe Idealize.SL.Sem
open Cert.Proof.Tools Cert.Proof.Rms Cert.ReferenceGluIdeal.Read

/-- An argument array on one device. -/
local notation "arg[" m ", " c ", " a "]" => m (Thread.loc (c : Thread nD τ) a)

/-- The words of the activation's constants: the scale inside the hyperbolic tangent, and the cubic term's integers. -/
abbrev kC : EReal := Ideal.ofBits .f32 1061962282#32
abbrev kH : EReal := Ideal.ofBits .f32 1056964608#32

theorem scale_word : ∃ s : ℝ, kC = (s : EReal) :=
  ⟨13386282 / 16777216, by simp [Ideal.ofBits, Ideal.ieee]; rw [← EReal.coe_mul]; norm_num⟩

theorem num_word : Ideal.ofBits .f32 1175174144#32 = ((8943 : ℝ) : EReal) := by
  simp [Ideal.ofBits, Ideal.ieee]; rw [← EReal.coe_mul]; norm_num

theorem den_word : Ideal.ofBits .f32 1212370944#32 = ((200000 : ℝ) : EReal) := by
  simp [Ideal.ofBits, Ideal.ieee]; rw [← EReal.coe_mul]; norm_num

theorem three_word : Ideal.ofBits .f32 1077936128#32 = ((3 : ℝ) : EReal) := by
  simp [Ideal.ofBits, Ideal.ieee]; rw [← EReal.coe_mul]; norm_num

/-- The two named decimals. -/
abbrev cubic : EReal := Named.named (F := Ideal) κ "cubic" (φ := .f32) 0x3D372713#32
abbrev cubicGrad : EReal := Named.named (F := Ideal) κ "cubic_grad" (φ := .f32) 0x3E095D4F#32

theorem cubic_val : cubic = ((8943 / 200000 : ℝ) : EReal) := IdealRules.named_const.ideal_named_scalar _ _ _ _ rfl
theorem cubicGrad_val : cubicGrad = ((26829 / 200000 : ℝ) : EReal) := IdealRules.named_const.ideal_named_scalar _ _ _ _ rfl

/-- The kernel's hyperbolic tangent, with the cubic term's decimal in place of a quotient. -/
abbrev kth (x : EReal) : EReal := Ideal.tanh (kC * (x + cubic * (x * x * x)))

theorem th_eq (x : EReal) : kth x = th x := by
  unfold kth th
  have e (y : EReal) : ((8943 : ℝ) : EReal) * y * ((1 / 200000 : ℝ) : EReal) = ((8943 / 200000 : ℝ) : EReal) * y := by
    rw [mul_right_comm, ← EReal.coe_mul]
    norm_num
  rw [num_word, den_word, Ideal.div_coe (by norm_num), cubic_val, e]

/-- The activation as the kernel's host lines and as the reference's lines group its factors. -/
theorem gq_eq (x : EReal) : gq x = x * (kH * (1 + th x)) := by
  unfold gq
  rw [mul_comm kH x, mul_assoc]

/-- The activation's gradient for a cotangent `d`: the kernel's closed form, and the reference's sum. -/
def kernelGrad (d x : EReal) : EReal :=
  d * (kH * (1 + kth x) + kH * x * (1 - kth x * kth x) * (kC * (1 + cubicGrad * (x * x))))
def refGrad (d x : EReal) : EReal :=
  d * (kH * (1 + th x)) + kC * (kH * (x * d) * ((1 + th x) * (1 - th x)))
    + Ideal.ofBits .f32 1175174144#32 * Ideal.div (kC * (kH * (x * d) * ((1 + th x) * (1 - th x)))) (Ideal.ofBits .f32 1212370944#32)
      * (Ideal.ofBits .f32 1077936128#32 * (x * x))

/-- A hyperbolic tangent of a real number is one. -/
theorem isR_th (x : EReal) (h : IsR x) : IsR (th x) := by
  obtain ⟨a, rfl⟩ := h
  obtain ⟨s, hs⟩ := scale_word
  exact ⟨Real.tanh (s * (a + 8943 * (a * a * a) * (1 / 200000))), by
    unfold th
    rw [show Ideal.ofBits .f32 1061962282#32 = _ from hs, num_word, den_word, Ideal.div_coe (by norm_num)]
    simp only [← EReal.coe_mul, ← EReal.coe_add]
    rfl⟩

/-- On real numbers the two gradients are equal. -/
theorem grad_eq (d x : EReal) (hd : IsR d) (hx : IsR x) : kernelGrad d x = refGrad d x := by
  obtain ⟨D, rfl⟩ := hd
  obtain ⟨T, hT⟩ := isR_th x hx
  obtain ⟨X, rfl⟩ := hx
  obtain ⟨s, hs⟩ := scale_word
  unfold kernelGrad refGrad
  rw [th_eq, hT, cubicGrad_val, num_word, den_word, three_word, Ideal.div_coe (by norm_num), hs, show kH = _ from half_word, ← EReal.coe_one]
  simp only [← EReal.coe_mul, ← EReal.coe_add, ← EReal.coe_sub]
  congr 1
  ring

section Block

variable (b0 : Vec Ideal S1024x512 .bf16) (b1 : Vec Ideal S512x512 .bf16) (b2 b3 b4 b5 : Vec Ideal S1024x512 .f32)

/-- A block of the kernel's gradient, element by element. -/
def blockGrad (r : Fin 1024) (l : Fin 512) : EReal :=
  kernelGrad ((∑ x, b0 (ix2 r x) * b1 (ix2 l x)) + b2 (ix2 r l) * sg (b3 (ix2 r l))) (b4 (ix2 r l))

theorem block_dy (r : Fin 1024) (l : Fin 512) :
    (k0_pay1 (k0_pay4 b4) (k0_pay5 b0 b1 b2 b3) (k0_pay7 b4) (k0_pay8 b4) (k0_pay9 b4) (Scalar.ofBits .f32 0x3F800000#32) (ix2 r l) : EReal) = blockGrad b0 b1 b2 b3 b4 r l := by
  unfold blockGrad kernelGrad
  simp only [k0_pay1, k0_pay4, k0_pay5, k0_pay6, k0_pay7, k0_pay8, k0_pay9]
  pointwise
  simp only [zero_sub]

/-- A block's part of the skip weight's gradient. -/
theorem block_dd (l : Fin 512) :
    (k0_pay2 (k0_pay4 b4) b5 (k0_pay5 b0 b1 b2 b3) (k0_pay7 b4) (k0_pay8 b4) (k0_pay9 b4) (Scalar.ofBits .f32 0x3F800000#32) (ix2 0 l) : EReal) = ∑ r, blockGrad b0 b1 b2 b3 b4 r l * b5 (ix2 r l) := by
  unfold blockGrad kernelGrad
  simp only [k0_pay2, k0_pay1, k0_pay4, k0_pay5, k0_pay6, k0_pay7, k0_pay8, k0_pay9]
  pointwise
  simp only [zero_sub]

/-- Adding a block's part to the sum so far. -/
theorem add_dd (y : Vec Ideal S1x512 .f32) (l : Fin 512) :
    (k0_pay3 (k0_pay4 b4) b5 (k0_pay5 b0 b1 b2 b3) (k0_pay7 b4) (k0_pay8 b4) (k0_pay9 b4) (Scalar.ofBits .f32 0x3F800000#32) y (ix2 0 l) : EReal) = y (ix2 0 l) + k0_pay2 (k0_pay4 b4) b5 (k0_pay5 b0 b1 b2 b3) (k0_pay7 b4) (k0_pay8 b4) (k0_pay9 b4) (Scalar.ofBits .f32 0x3F800000#32) (ix2 0 l) := by
  simp only [k0_pay3, k0_pay2]
  pointwise

end Block

section Reference

variable (x0 x1 : Vec Ideal S8192x512 .f32) (x2 : Vec Ideal S512 .f32) (x3 : Vec Ideal S512x512 .f32) (x4 : Vec Ideal S8192x512 .f32)

/-- The cotangent of the activation. -/
def cot (r : Fin 8192) (l : Fin 512) : EReal :=
  (∑ x, ht x0 x1 x2 x3 x4 r x * x3 (ix2 l x)) + x4 (ix2 r l) * sg (hl x0 x1 x2 x3 r l)

/-- The gate's argument and the activation's cotangent as the reference writes them, from the unit's input. -/
def refL (Y : Fin 8192 → Fin 512 → EReal) (r : Fin 8192) (l : Fin 512) : EReal := ∑ x, Y r x * (kH * (1 + th (Y r x))) * x3 (ix2 x l)
def refCot (Y : Fin 8192 → Fin 512 → EReal) (r : Fin 8192) (l : Fin 512) : EReal :=
  x4 (ix2 r l) * sg (refL x3 Y r l)
    + ∑ x, Y r x * (kH * (1 + th (Y r x))) * x4 (ix2 r x) * (sg (refL x3 Y r x) * (1 - sg (refL x3 Y r x))) * x3 (ix2 l x)

theorem refL_eq (r : Fin 8192) (l : Fin 512) : refL x3 (hy x0 x1 x2) r l = hl x0 x1 x2 x3 r l := by
  unfold refL hl
  simp only [gq_eq]

theorem refCot_eq (r : Fin 8192) (l : Fin 512) : refCot x3 x4 (hy x0 x1 x2) r l = cot x0 x1 x2 x3 x4 r l := by
  unfold refCot cot ht
  simp only [refL_eq, gq_eq]
  rw [add_comm]
  congr 1
  refine Finset.sum_congr rfl fun x _ => ?_
  rw [mul_comm (x4 (ix2 r x)), mul_assoc (_ * _) (sg _)]

/-- The reference's gradient of the unit's input. -/
theorem reference_dy (r : Fin 8192) (l : Fin 512) :
    (val_main_v56 (F := Ideal) x0 x1 x2 x3 x4 (ix2 r l) : EReal) = refGrad (cot x0 x1 x2 x3 x4 r l) (hy x0 x1 x2 r l) := by
  rw [← refCot_eq]
  unfold refGrad refCot refL sg th hy
  pointwise [val_main_v0, val_main_v1, val_main_v2, val_main_v3, val_main_v4, val_main_v5, val_main_v6, val_main_cst,
      val_main_v7, val_main_v8, val_main_cst_0, val_main_v9, val_main_v10, val_main_cst_1, val_main_v11,
      val_main_v12, val_main_v13, val_main_cst_2, val_main_v14, val_main_v15, val_main_v16, val_main_cst_3,
      val_main_v17, val_main_v18, val_main_cst_4, val_main_v19, val_main_v20, val_main_v21, val_main_cst_5,
      val_main_v22, val_main_v23, val_main_cst_6, val_main_v24, val_main_v25, val_main_v26, val_main_v27,
      val_main_v28, val_main_v29, val_main_cst_7, val_main_v30, val_main_v31, val_main_cst_8, val_main_v32,
      val_main_v33, val_main_cst_9, val_main_v34, val_main_v35, val_main_v36, val_main_v37, val_main_v38,
      val_main_v39, val_main_v40, val_main_v41, val_main_v42, val_main_v43, val_main_v44, val_main_cst_10,
      val_main_v45, val_main_v46, val_main_v47, val_main_cst_11, val_main_v48, val_main_v49, val_main_v50,
      val_main_cst_12, val_main_v51, val_main_v52, val_main_cst_13, val_main_v53, val_main_v54, val_main_v55,
      val_main_v56, val_main_v57, val_main_cst_14, val_main_v58, val_main_v59, val_main_cst_15, val_main_v60,
      val_main_v61]

/-- The reference's gradient of the skip weight. -/
theorem reference_dd (l : Fin 512) :
    (val_main_v61 (F := Ideal) x0 x1 x2 x3 x4 (ix2 0 l) : EReal) = ∑ r, refGrad (cot x0 x1 x2 x3 x4 r l) (hy x0 x1 x2 r l) * x1 (ix2 r l) := by
  simp only [← reference_dy]
  pointwise [val_main_v57, val_main_v58, val_main_v59, val_main_v60, val_main_v61, val_main_cst_14, val_main_cst_15]
  exact Fin.sum_univ_one _

/-- On real arguments, the unit's input and the cotangent are real. -/
theorem isR_hy (h0 : ∀ i, IsR (x0 i)) (h1 : ∀ i, IsR (x1 i)) (h2 : ∀ i, IsR (x2 i)) (r : Fin 8192) (l : Fin 512) : IsR (hy x0 x1 x2 r l) :=
  IsR.add (h0 _) (IsR.mul (h2 _) (h1 _))

theorem isR_cot (h0 : ∀ i, IsR (x0 i)) (h1 : ∀ i, IsR (x1 i)) (h2 : ∀ i, IsR (x2 i)) (h3 : ∀ i, IsR (x3 i)) (h4 : ∀ i, IsR (x4 i))
    (r : Fin 8192) (l : Fin 512) : IsR (cot x0 x1 x2 x3 x4 r l) := by
  have one : IsR (1 : EReal) := ⟨1, EReal.coe_one.symm⟩
  have hg (r : Fin 8192) (l : Fin 512) : IsR (gq (hy x0 x1 x2 r l)) :=
    IsR.mul (IsR.mul ⟨_, half_word⟩ (isR_hy x0 x1 x2 h0 h1 h2 r l)) (IsR.add one (isR_th _ (isR_hy x0 x1 x2 h0 h1 h2 r l)))
  have hL (r : Fin 8192) (l : Fin 512) : IsR (sg (hl x0 x1 x2 x3 r l)) := isR_sigmoid _ (IsR.sum fun x => IsR.mul (hg r x) (h3 _))
  refine IsR.add (IsR.sum fun x => IsR.mul ?_ (h3 _)) (IsR.mul (h4 _) (hL r l))
  exact IsR.mul (IsR.mul (IsR.mul (h4 _) (hg r x)) (hL r x)) (isR_sub one (hL r x))

end Reference

variable (m : (ℓ : Loc nD τ sig) → Buf (Elt Ideal) ℓ) (c : Dev nD)

/-- The gradient's element that the kernel computes, of the arguments as the run finds them, and a row's term of the skip
    weight's gradient. -/
abbrev grad' (r : Fin 8192) (l : Fin 512) : EReal :=
  kernelGrad (cot arg[m, c, main_arg0] arg[m, c, main_arg1] arg[m, c, main_arg2] arg[m, c, main_arg3] arg[m, c, main_arg4] r l)
    (hy arg[m, c, main_arg0] arg[m, c, main_arg1] arg[m, c, main_arg2] r l)
abbrev term' (l : Fin 512) : Fin 8192 → EReal := fun r => grad' m c r l * (m ((c : Thread nD τ).loc main_arg1) (ix2 r l) : EReal)

/-- A block's gradient is the rows' of the whole arrays. -/
theorem point_form (t : Fin cfg0.N) (r : Fin 1024) (l : Fin 512) :
    blockGrad (iblk m c 0 t) (iblk m c 1 t) (iblk m c 2 t) (iblk m c 3 t) (iblk m c 4 t) r l = grad' m c (row t r) l := by
  unfold blockGrad grad' cot
  refine congrArg₂ kernelGrad (congrArg₂ (fun a b : EReal => a + b) (Finset.sum_congr rfl fun x _ => ?_) ?_) (iblk4_apply m c t r l)
  · exact congrArg₂ (fun a b : EReal => a * b) (iblk0_apply m c t r x) (iblk1_apply m c t l x)
  · exact congrArg₂ (fun a b : EReal => a * sg b) (iblk2_apply m c t r l) (iblk3_apply m c t r l)

/-- What any point leaves in the gradient's window. -/
theorem outs_dy (t : Fin cfg0.N) (r : Fin 1024) (l : Fin 512) : (outsAt0 m c t.val t.isLt).1 (ix2 r l) = grad' m c (row t r) l := by
  have hN : cfg0.N = 8 := N_0
  have := t.isLt
  refine Eq.trans ?_ ((block_dy (iblk m c 0 t) (iblk m c 1 t) (iblk m c 2 t) (iblk m c 3 t) (iblk m c 4 t) r l).trans (point_form m c t r l))
  by_cases h : t.val % 8 = 0
  · rw [outs_first m c t h (by omega)]
  · rw [outs_next m c t h (by omega)]

/-- The gradient's array after the run is the reference's. -/
theorem final_dy (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 6 cfg0.N = val_main_v56 (F := Ideal) arg[m, c, main_arg0] arg[m, c, main_arg1] arg[m, c, main_arg2] arg[m, c, main_arg3] arg[m, c, main_arg4] := by
  refine (dats m 0 c).arrAt_eq_of_covers 6 _ (by decide +kernel) fun t hf y => ?_
  blk_simp
  rw [after0_6]
  obtain ⟨r, l, rfl⟩ : ∃ (r : Fin 1024) (l : Fin 512), y = ix2 r l := ⟨_, _, eq_ix2 (n0 := 1024) (n1 := 512) y⟩
  have e : (win0_6.blk t).view.emb (ix2 r l) = ix2 (row t r) l := by blk_ext [index6, row]
  rw [e, outs_dy]
  exact (grad_eq _ _ (isR_cot _ _ _ _ _ h0 h1 h2 h3 h4 _ _) (isR_hy _ _ _ h0 h1 h2 _ _)).trans (reference_dy _ _ _ _ _ _ _).symm

/-- A point's part of the skip weight's gradient. -/
theorem point_dd (t : Fin cfg0.N) (l : Fin 512) :
    (k0_pay2 (k0_pay4 (iblk m c 4 t)) (iblk m c 5 t) (k0_pay5 (iblk m c 0 t) (iblk m c 1 t) (iblk m c 2 t) (iblk m c 3 t)) (k0_pay7 (iblk m c 4 t)) (k0_pay8 (iblk m c 4 t)) (k0_pay9 (iblk m c 4 t)) (Scalar.ofBits .f32 0x3F800000#32) (ix2 0 l) : EReal)
      = ∑ r : Fin 1024, term' m c l (row t r) := by
  refine (block_dd (iblk m c 0 t) (iblk m c 1 t) (iblk m c 2 t) (iblk m c 3 t) (iblk m c 4 t) (iblk m c 5 t) l).trans (Finset.sum_congr rfl fun r _ => ?_)
  exact congrArg₂ (fun a b : EReal => a * b) (point_form m c t r l) (iblk5_apply m c t r l)

/-- What point `n` leaves in the skip weight's window: the terms of all rows up to the point's. -/
theorem outs_dd (l : Fin 512) : ∀ (n : ℕ) (h : n < cfg0.N),
    (outsAt0 m c n h).2 (ix2 0 l) = ∑ i ∈ Finset.range (1024 * (n + 1)), ext (term' m c l) i
  | 0, h => by
    have e := outs_first m c ⟨0, h⟩ rfl (by simp)
    dsimp only at e
    rw [e, sum_block_zero (term' m c l) 1024 (by omega)]
    exact point_dd m c ⟨0, h⟩ l
  | n + 1, h => by
    have hN : cfg0.N = 8 := N_0
    have e := outs_next m c ⟨n + 1, h⟩ (by dsimp only; omega) (by simp)
    dsimp only [Nat.add_sub_cancel] at e
    rw [e, sum_block (term' m c l) 1024 (n + 1) (by omega), ← outs_dd l n (by omega)]
    exact (add_dd _ _ _ _ _ _ _ l).trans (congrArg _ (point_dd m c ⟨n + 1, h⟩ l))

/-- The last point. -/
abbrev last : Fin cfg0.N := ⟨7, by decide⟩

/-- The skip weight's gradient after the run is the reference's. -/
theorem final_dd (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 7 cfg0.N = val_main_v61 (F := Ideal) arg[m, c, main_arg0] arg[m, c, main_arg1] arg[m, c, main_arg2] arg[m, c, main_arg3] arg[m, c, main_arg4] := by
  refine (dats m 0 c).arrAt_eq_of_after_last 7 last (by decide +kernel) _ fun y => ?_
  obtain ⟨i, l, rfl⟩ : ∃ (i : Fin 1) (l : Fin 512), y = ix2 i l := ⟨_, _, eq_ix2 (n0 := 1) (n1 := 512) y⟩
  obtain rfl : i = 0 := Subsingleton.elim _ _
  have e : ((dats m 0 c).after 7 last (ix2 0 l) : EReal) = (∑ i, term' m c l i : EReal) := by
    rw [after0_7, outs_dd]
    exact sum_ext (term' m c l)
  have e' : (∑ i, term' m c l i : EReal) = (val_main_v61 (F := Ideal) arg[m, c, main_arg0] arg[m, c, main_arg1] arg[m, c, main_arg2] arg[m, c, main_arg3] arg[m, c, main_arg4] (ix2 0 l) : EReal) := by
    rw [reference_dd]
    refine Finset.sum_congr rfl fun r _ => ?_
    exact congrArg (fun a : EReal => a * _) (grad_eq _ _ (isR_cot _ _ _ _ _ h0 h1 h2 h3 h4 _ _) (isR_hy _ _ _ h0 h1 h2 _ _))
  exact e.trans e'

end Cert.Proof.Glu

end
-- ==== Proof.Glu.Claim.lean ====
/- Hand-written, untrusted: THE CLAIM ABOUT THE GATED UNIT'S BACKWARD KERNEL. The precondition makes the arguments real numbers;
   then both result arrays are the reference's (Glu/Value.lean). -/
module

public import proofs.«01_k».proof.Defs
public import proofs.«01_k».proof.Proof.Glu.Value
public import proofs.«01_k».proof.Proof.Gen.KernelGlu.Frame
public import proofs.«01_k».proof.Proof.Gen.Pre_glu_finite

@[expose] public section

noncomputable section

namespace Cert.Proof.Glu

open Idealize.ShloMosaic Idealize.ShloMosaic.TcCoe Idealize.SL.Sem
open Cert.Proof.Tools
open Cert.KernelGluIdeal (main_arg0 main_arg1 main_arg2 main_arg3 main_arg4)

/-- A kernel's argument array on one device. -/
local notation "arg[" m ", " c ", " a "]" => m (Thread.loc (Dev.tc c : Thread Cert.KernelGluIdeal.nD Cert.KernelGluIdeal.τ) a)

/-- The reference's run leaves its arguments as they were; it has no semaphore. -/
theorem frame_reference : Cert.quiescent_ReferenceGluIdeal (hReferenceGluIdeal := Cert.ReferenceGluIdeal.Gen.facts) := fun m g _ =>
  (θ_run Cert.ReferenceGluIdeal.defs _ _).mono (fun r h => ⟨fun c => (h c).2.2, sem_eq_zero_of_no_sems (by decide) r.2⟩)
    (Cert.ReferenceGluIdeal.Value.run (F := Ideal) m g)

/-- The two programs end at the same arrays. -/
theorem algebraic : Cert.algebraic_KernelGluIdeal_ReferenceGluIdeal_pre_glu_finite (hKernelGluIdeal := Cert.KernelGluIdeal.Gen.facts)
    (hReferenceGluIdeal := Cert.ReferenceGluIdeal.Gen.facts) (hPre_glu_finite := Cert.Pre_glu_finite.Gen.facts) := by
  intro m g m' g' hpre hagree
  refine ⟨_, _, Cert.KernelGluIdeal.Value.run_blocks (F := Ideal) m g, ?_⟩
  refine (θ_run Cert.ReferenceGluIdeal.defs _ _).mono (fun r h c => ?_) (Cert.ReferenceGluIdeal.Value.run (F := Ideal) m' g')
  obtain ⟨a0, a1, a2, a3, a4⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h4 : ∀ i, IsR (arg[m, c, main_arg4] i) := isR_of_test _ _ (fun _ => inf_word) p4
  obtain ⟨v0, v1, hrest⟩ := h c
  refine ⟨(v0.trans (?_ : _ = Cert.ReferenceGluIdeal.Read.val_main_v56 (F := Ideal) arg[m, c, main_arg0] arg[m, c, main_arg1] arg[m, c, main_arg2] arg[m, c, main_arg3] arg[m, c, main_arg4])).trans (final_dy m c h0 h1 h2 h3 h4).symm, (v1.trans (?_ : _ = Cert.ReferenceGluIdeal.Read.val_main_v61 (F := Ideal) arg[m, c, main_arg0] arg[m, c, main_arg1] arg[m, c, main_arg2] arg[m, c, main_arg3] arg[m, c, main_arg4])).trans (final_dd m c h0 h1 h2 h3 h4).symm, hrest⟩
  · rw [← a0, ← a1, ← a2, ← a3, ← a4]
    first | exact Cert.ReferenceGluIdeal.Read.val_main_v56_eq m' c | exact Cert.ReferenceGluIdeal.Read.val_main_v56_eq _ _ _ _ _
  · rw [← a0, ← a1, ← a2, ← a3, ← a4]
    first | exact Cert.ReferenceGluIdeal.Read.val_main_v61_eq m' c | exact Cert.ReferenceGluIdeal.Read.val_main_v61_eq _ _ _ _ _

end Cert.Proof.Glu

end
-- ==== Proof.Mixout.Run.lean ====
/- Hand-written, untrusted: THE RUN OF THE UNIT AND THE PROJECTION BEHIND THE STATE SPACE LAYER, at any float values: after it every array of
   the machine's memory is what the fold over the program's stretches and regions says (`Gen.W6`). -/
module

public import proofs.«01_k».proof.Proof.Gen.KernelMixoutIdeal.Frame

@[expose] public section

noncomputable section

namespace Cert.Proof.Mixout

open Cert.KernelMixoutIdeal Cert.KernelMixoutIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and every unscoped array then holds the fold's contents. -/
theorem run : θ_run defs (onTc (τ := τ) (main (F := F))) ⟨m, fun _ => 0, ρ⟩ (fun r => ∀ c : Dev nD,
    ∀ b ∈ Pipeline.ucRefs τ sig, r.2.mem ((c : Thread nD τ).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbuf, -, Howe, -, Hreg, -⟩, -⟩
      imodintro
      isplitl [Hbuf]
      · iexact Hbuf
      isplitl [Hreg]
      · iexists _
        iexact Hreg
      · iexists ∅
        iexact Howe)
    (QY := fun c s => ∀ b ∈ Pipeline.ucRefs τ sig, s.mem ((c : Thread nD τ).1, b) = W6 m ρ c b)
    (hfin := fun c s => by
      iintro ⟨⟨Hbuf, -⟩, Hst⟩
      unfold StableHlo.held
      imodintro
      iapply (pointsTo_read_all (Pipeline.ucRefs τ sig) (fun b => ((c : Thread nD τ).1, b)) (W6 m ρ c) s)
      isplitl [Hbuf] <;> iassumption)
    (hQ := fun _ h _ => h)

end Cert.Proof.Mixout

end
-- ==== Proof.Mixout.Arrays.lean ====
/- Hand-written, untrusted: WHAT EACH REGION OF THE PROGRAM BEHIND THE STATE SPACE LAYER READS AND LEAVES, at the contents its arrays hold on entry. -/
module

public import proofs.«01_k».proof.Proof.Rms
public import proofs.«01_k».proof.Proof.Mixout.Run
public import Idealize.ShloMosaic.Lib.Pipeline.ValueKit.Geometry

@[expose] public section

noncomputable section

namespace Cert.Proof.Mixout

open Cert.KernelMixoutIdeal Cert.KernelMixoutIdeal.Gen Idealize.ShloMosaic Idealize.ShloMosaic.TcCoe Idealize.SL.Sem
open Cert.Proof.Tools Cert.Proof.Rms

/-- The gate argument's cotangent of a block, rounded as the body rounds it. -/
abbrev tgate (b0 : Vec Ideal S1024x1024 .f32) (b1 : Vec Ideal S512x1024 .bf16) (b3 b4 : Vec Ideal S1024x512 .f32) : FVec Ideal S1024x512 .bf16 :=
  k2_pay1 (k2_pay5 b0 b1 b3 b4)

variable (V : (c : Dev nD) → (b : Ref sig .tc) → Buf (Elt Ideal) ((c : Thread nD τ).loc b))

/-! ### Region 0: 8 points of 1024 rows -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)

/-- A point's row of the whole array. -/
def row0 (t : Fin cfg0.N) (r : Fin 1024) : Fin 8192 := ⟨1024 * t.val + r.val, by have := t.isLt; have : cfg0.N = 8 := N_0; have := r.isLt; omega⟩

/-- What each input window's block holds at an index: the entry contents' element there. -/
theorem iblk0_0_apply (c : Dev nD) (t : Fin cfg0.N) (r : Fin 1024) (l : Fin 512) :
    (iblk0 V c 0 t : Vec Ideal S1024x512 .bf16) (ix2 r l) = V c main_v20 (ix2 (row0 t r) l) := by
  blk_simp [iblk0]
  refine congrArg (V c main_v20) (?_ : _ = ix2 (row0 t r) l)
  blk_ext [index0_0, row0]

theorem iblk0_1_apply (c : Dev nD) (t : Fin cfg0.N) (r : Fin 512) (l : Fin 512) :
    (iblk0 V c 1 t : Vec Ideal S512x512 .bf16) (ix2 r l) = V c main_v1 (ix2 r l) := by
  blk_simp [iblk0]
  refine congrArg (V c main_v1) (?_ : _ = ix2 r l)
  blk_ext [index0_1]

theorem iblk0_2_apply (c : Dev nD) (t : Fin cfg0.N) (r : Fin 1024) (l : Fin 512) :
    (iblk0 V c 2 t : Vec Ideal S1024x512 .f32) (ix2 r l) = V c main_v6 (ix2 (row0 t r) l) := by
  blk_simp [iblk0]
  refine congrArg (V c main_v6) (?_ : _ = ix2 (row0 t r) l)
  blk_ext [index0_2, row0]

/-- The array that output window 3 leaves, by its points' blocks. -/
theorem array0_3 (c : Dev nD) (G : Vec Ideal S8192x512 .bf16)
    (h : ∀ t r l, k0_pay2 (iblk0 V c 0 t) (iblk0 V c 1 t) (iblk0 V c 2 t) (ix2 r l) = G (ix2 (row0 t r) l)) :
    (dat0 V c).arrAt 3 cfg0.N = G := by
  refine (dat0 V c).arrAt_eq_of_covers 3 _ (by decide +kernel) fun t hf y => ?_
  blk_simp
  rw [after0_3]
  unfold out0_3
  rw [View.canon_unit_zero (S := S1024x512) hz2]
  simp only [View.ld_unit_zero (S := S512x512) hz2, View.ld_unit_zero (S := S1024x512) hz2]
  obtain ⟨r, l, rfl⟩ : ∃ (r : Fin 1024) (l : Fin 512), y = ix2 r l := ⟨_, _, eq_ix2 (n0 := 1024) (n1 := 512) y⟩
  have e : (win0_3.blk t).view.emb (ix2 r l) = ix2 (row0 t r) l := by blk_ext [index0_3, row0]
  rw [e]
  exact h t r l

/-- The array that output window 4 leaves, by its points' blocks. -/
theorem array0_4 (c : Dev nD) (G : Vec Ideal S8192x512 .f32)
    (h : ∀ t r l, k0_pay1 (iblk0 V c 0 t) (iblk0 V c 1 t) (ix2 r l) = G (ix2 (row0 t r) l)) :
    (dat0 V c).arrAt 4 cfg0.N = G := by
  refine (dat0 V c).arrAt_eq_of_covers 4 _ (by decide +kernel) fun t hf y => ?_
  blk_simp
  rw [after0_4]
  unfold out0_4
  rw [View.canon_unit_zero (S := S1024x512) hz2]
  simp only [View.ld_unit_zero (S := S512x512) hz2, View.ld_unit_zero (S := S1024x512) hz2]
  obtain ⟨r, l, rfl⟩ : ∃ (r : Fin 1024) (l : Fin 512), y = ix2 r l := ⟨_, _, eq_ix2 (n0 := 1024) (n1 := 512) y⟩
  have e : (win0_4.blk t).view.emb (ix2 r l) = ix2 (row0 t r) l := by blk_ext [index0_4, row0]
  rw [e]
  exact h t r l

/-! ### Region 1: 8 points of 1024 rows -/

theorem index1_0 : ∀ t : Fin cfg1.N, win1_0.index t = ![t.val, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![t.val, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![t.val, 0] := (by decide +kernel : ∀ t : Fin grid1.N, _)
theorem index1_7 : ∀ t : Fin cfg1.N, win1_7.index t = ![t.val, 0] := (by decide +kernel : ∀ t : Fin grid1.N, _)

/-- A point's row of the whole array. -/
def row1 (t : Fin cfg1.N) (r : Fin 1024) : Fin 8192 := ⟨1024 * t.val + r.val, by have := t.isLt; have : cfg1.N = 8 := N_1; have := r.isLt; omega⟩

/-- What each input window's block holds at an index: the entry contents' element there. -/
theorem iblk1_0_apply (c : Dev nD) (t : Fin cfg1.N) (r : Fin 1024) (l : Fin 512) :
    (iblk1 V c 0 t : Vec Ideal S1024x512 .bf16) (ix2 r l) = V c main_v21_0 (ix2 (row1 t r) l) := by
  blk_simp [iblk1]
  refine congrArg (V c main_v21_0) (?_ : _ = ix2 (row1 t r) l)
  blk_ext [index1_0, row1]

theorem iblk1_1_apply (c : Dev nD) (t : Fin cfg1.N) (r : Fin 1024) (l : Fin 512) :
    (iblk1 V c 1 t : Vec Ideal S1024x512 .bf16) (ix2 r l) = V c main_v0 (ix2 (row1 t r) l) := by
  blk_simp [iblk1]
  refine congrArg (V c main_v0) (?_ : _ = ix2 (row1 t r) l)
  blk_ext [index1_1, row1]

theorem iblk1_2_apply (c : Dev nD) (t : Fin cfg1.N) (r : Fin 512) (l : Fin 1024) :
    (iblk1 V c 2 t : Vec Ideal S512x1024 .bf16) (ix2 r l) = V c main_v23 (ix2 r l) := by
  blk_simp [iblk1]
  refine congrArg (V c main_v23) (?_ : _ = ix2 r l)
  blk_ext [index1_2]

theorem iblk1_3_apply (c : Dev nD) (t : Fin cfg1.N) (r : Fin 512) (l : Fin 1024) :
    (iblk1 V c 3 t : Vec Ideal S512x1024 .bf16) (ix2 r l) = V c main_v24 (ix2 r l) := by
  blk_simp [iblk1]
  refine congrArg (V c main_v24) (?_ : _ = ix2 r l)
  blk_ext [index1_3]

theorem iblk1_4_apply (c : Dev nD) (t : Fin cfg1.N) (r : Fin 1024) (l : Fin 1024) :
    (iblk1 V c 4 t : Vec Ideal S1024x1024 .f32) (ix2 r l) = V c main_arg0 (ix2 (row1 t r) l) := by
  blk_simp [iblk1]
  refine congrArg (V c main_arg0) (?_ : _ = ix2 (row1 t r) l)
  blk_ext [index1_4, row1]

theorem iblk1_5_apply (c : Dev nD) (t : Fin cfg1.N) (r : Fin 1) (l : Fin 1024) :
    (iblk1 V c 5 t : Vec Ideal S1x1024 .f32) (ix2 r l) = V c main_v22 (ix2 r l) := by
  blk_simp [iblk1]
  refine congrArg (V c main_v22) (?_ : _ = ix2 r l)
  blk_ext [index1_5]

/-- The array that output window 6 leaves, by its points' blocks. -/
theorem array1_6 (c : Dev nD) (G : Vec Ideal S8192x1024 .f32)
    (h : ∀ t r l, k1_pay1 (iblk1 V c 0 t) (iblk1 V c 1 t) (iblk1 V c 2 t) (iblk1 V c 3 t) (iblk1 V c 4 t) (ix2 r l) = G (ix2 (row1 t r) l)) :
    (dat1 V c).arrAt 6 cfg1.N = G := by
  refine (dat1 V c).arrAt_eq_of_covers 6 _ (by decide +kernel) fun t hf y => ?_
  blk_simp
  rw [after1_6]
  unfold out1_6
  rw [View.canon_unit_zero (S := S1024x1024) hz2]
  simp only [View.ld_unit_zero (S := S1x1024) hz2, View.ld_unit_zero (S := S512x1024) hz2, View.ld_unit_zero (S := S1024x512) hz2, View.ld_unit_zero (S := S1024x1024) hz2]
  obtain ⟨r, l, rfl⟩ : ∃ (r : Fin 1024) (l : Fin 1024), y = ix2 r l := ⟨_, _, eq_ix2 (n0 := 1024) (n1 := 1024) y⟩
  have e : (win1_6.blk t).view.emb (ix2 r l) = ix2 (row1 t r) l := by blk_ext [index1_6, row1]
  rw [e]
  exact h t r l

/-- The array that output window 7 leaves, by its points' blocks. -/
theorem array1_7 (c : Dev nD) (G : Vec Ideal S8192x1024 .bf16)
    (h : ∀ t r l, k1_pay2 (iblk1 V c 0 t) (iblk1 V c 1 t) (iblk1 V c 2 t) (iblk1 V c 3 t) (iblk1 V c 4 t) (iblk1 V c 5 t) (ix2 r l) = G (ix2 (row1 t r) l)) :
    (dat1 V c).arrAt 7 cfg1.N = G := by
  refine (dat1 V c).arrAt_eq_of_covers 7 _ (by decide +kernel) fun t hf y => ?_
  blk_simp
  rw [after1_7]
  unfold out1_7
  rw [View.canon_unit_zero (S := S1024x1024) hz2]
  simp only [View.ld_unit_zero (S := S1x1024) hz2, View.ld_unit_zero (S := S512x1024) hz2, View.ld_unit_zero (S := S1024x512) hz2, View.ld_unit_zero (S := S1024x1024) hz2]
  obtain ⟨r, l, rfl⟩ : ∃ (r : Fin 1024) (l : Fin 1024), y = ix2 r l := ⟨_, _, eq_ix2 (n0 := 1024) (n1 := 1024) y⟩
  have e : (win1_7.blk t).view.emb (ix2 r l) = ix2 (row1 t r) l := by blk_ext [index1_7, row1]
  rw [e]
  exact h t r l

/-! ### Region 2: 8 points of 1024 rows -/

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![t.val, 0] := (by decide +kernel : ∀ t : Fin grid2.N, _)
theorem index2_4 : ∀ t : Fin cfg2.N, win2_4.index t = ![t.val, 0] := (by decide +kernel : ∀ t : Fin grid2.N, _)
theorem index2_5 : ∀ t : Fin cfg2.N, win2_5.index t = ![t.val, 0] := (by decide +kernel : ∀ t : Fin grid2.N, _)
theorem index2_6 : ∀ t : Fin cfg2.N, win2_6.index t = ![t.val, 0] := (by decide +kernel : ∀ t : Fin grid2.N, _)
theorem index2_7 : ∀ t : Fin cfg2.N, win2_7.index t = ![t.val, 0] := (by decide +kernel : ∀ t : Fin grid2.N, _)

/-- A point's row of the whole array. -/
def row2 (t : Fin cfg2.N) (r : Fin 1024) : Fin 8192 := ⟨1024 * t.val + r.val, by have := t.isLt; have : cfg2.N = 8 := N_2; have := r.isLt; omega⟩

/-- What each input window's block holds at an index: the entry contents' element there. -/
theorem iblk2_0_apply (c : Dev nD) (t : Fin cfg2.N) (r : Fin 1024) (l : Fin 1024) :
    (iblk2 V c 0 t : Vec Ideal S1024x1024 .f32) (ix2 r l) = V c main_arg8 (ix2 (row2 t r) l) := by
  blk_simp [iblk2]
  refine congrArg (V c main_arg8) (?_ : _ = ix2 (row2 t r) l)
  blk_ext [index2_0, row2]

theorem iblk2_1_apply (c : Dev nD) (t : Fin cfg2.N) (r : Fin 512) (l : Fin 1024) :
    (iblk2 V c 1 t : Vec Ideal S512x1024 .bf16) (ix2 r l) = V c main_v26 (ix2 r l) := by
  blk_simp [iblk2]
  refine congrArg (V c main_v26) (?_ : _ = ix2 r l)
  blk_ext [index2_1]

theorem iblk2_2_apply (c : Dev nD) (t : Fin cfg2.N) (r : Fin 512) (l : Fin 1024) :
    (iblk2 V c 2 t : Vec Ideal S512x1024 .bf16) (ix2 r l) = V c main_v27 (ix2 r l) := by
  blk_simp [iblk2]
  refine congrArg (V c main_v27) (?_ : _ = ix2 r l)
  blk_ext [index2_2]

theorem iblk2_3_apply (c : Dev nD) (t : Fin cfg2.N) (r : Fin 1024) (l : Fin 512) :
    (iblk2 V c 3 t : Vec Ideal S1024x512 .f32) (ix2 r l) = V c main_v6 (ix2 (row2 t r) l) := by
  blk_simp [iblk2]
  refine congrArg (V c main_v6) (?_ : _ = ix2 (row2 t r) l)
  blk_ext [index2_3, row2]

theorem iblk2_4_apply (c : Dev nD) (t : Fin cfg2.N) (r : Fin 1024) (l : Fin 512) :
    (iblk2 V c 4 t : Vec Ideal S1024x512 .f32) (ix2 r l) = V c main_v21_1 (ix2 (row2 t r) l) := by
  blk_simp [iblk2]
  refine congrArg (V c main_v21_1) (?_ : _ = ix2 (row2 t r) l)
  blk_ext [index2_4, row2]

/-- The array that output window 5 leaves, by its points' blocks. -/
theorem array2_5 (c : Dev nD) (G : Vec Ideal S8192x512 .f32)
    (h : ∀ t r l, k2_pay3 (iblk2 V c 0 t) (iblk2 V c 1 t) (ix2 r l) = G (ix2 (row2 t r) l)) :
    (dat2 V c).arrAt 5 cfg2.N = G := by
  refine (dat2 V c).arrAt_eq_of_covers 5 _ (by decide +kernel) fun t hf y => ?_
  blk_simp
  rw [after2_5]
  unfold out2_5
  rw [View.canon_unit_zero (S := S1024x512) hz2]
  simp only [View.ld_unit_zero (S := S512x1024) hz2, View.ld_unit_zero (S := S1024x512) hz2, View.ld_unit_zero (S := S1024x1024) hz2]
  obtain ⟨r, l, rfl⟩ : ∃ (r : Fin 1024) (l : Fin 512), y = ix2 r l := ⟨_, _, eq_ix2 (n0 := 1024) (n1 := 512) y⟩
  have e : (win2_5.blk t).view.emb (ix2 r l) = ix2 (row2 t r) l := by blk_ext [index2_5, row2]
  rw [e]
  exact h t r l

/-- The array that output window 6 leaves, by its points' blocks. -/
theorem array2_6 (c : Dev nD) (G : Vec Ideal S8192x512 .f32)
    (h : ∀ t r l, k2_pay4 (iblk2 V c 0 t) (iblk2 V c 2 t) (ix2 r l) = G (ix2 (row2 t r) l)) :
    (dat2 V c).arrAt 6 cfg2.N = G := by
  refine (dat2 V c).arrAt_eq_of_covers 6 _ (by decide +kernel) fun t hf y => ?_
  blk_simp
  rw [after2_6]
  unfold out2_6
  rw [View.canon_unit_zero (S := S1024x512) hz2]
  simp only [View.ld_unit_zero (S := S512x1024) hz2, View.ld_unit_zero (S := S1024x512) hz2, View.ld_unit_zero (S := S1024x1024) hz2]
  obtain ⟨r, l, rfl⟩ : ∃ (r : Fin 1024) (l : Fin 512), y = ix2 r l := ⟨_, _, eq_ix2 (n0 := 1024) (n1 := 512) y⟩
  have e : (win2_6.blk t).view.emb (ix2 r l) = ix2 (row2 t r) l := by blk_ext [index2_6, row2]
  rw [e]
  exact h t r l

/-- The array that output window 7 leaves, by its points' blocks. -/
theorem array2_7 (c : Dev nD) (G : Vec Ideal S8192x512 .bf16)
    (h : ∀ t r l, tgate (iblk2 V c 0 t) (iblk2 V c 1 t) (iblk2 V c 3 t) (iblk2 V c 4 t) (ix2 r l) = G (ix2 (row2 t r) l)) :
    (dat2 V c).arrAt 7 cfg2.N = G := by
  refine (dat2 V c).arrAt_eq_of_covers 7 _ (by decide +kernel) fun t hf y => ?_
  blk_simp
  rw [after2_7]
  unfold out2_7
  rw [View.canon_unit_zero (S := S1024x512) hz2]
  simp only [View.ld_unit_zero (S := S512x1024) hz2, View.ld_unit_zero (S := S1024x512) hz2, View.ld_unit_zero (S := S1024x1024) hz2]
  obtain ⟨r, l, rfl⟩ : ∃ (r : Fin 1024) (l : Fin 512), y = ix2 r l := ⟨_, _, eq_ix2 (n0 := 1024) (n1 := 512) y⟩
  have e : (win2_7.blk t).view.emb (ix2 r l) = ix2 (row2 t r) l := by blk_ext [index2_7, row2]
  rw [e]
  exact h t r l

end Cert.Proof.Mixout

end
-- ==== Proof.Mixout.Value.lean ====
/- Hand-written, untrusted: THE VALUES OF THE UNIT AND THE PROJECTION BEHIND THE STATE SPACE LAYER, on extended reals: what
   each block holds, element by element, and what the reference's results are, element by element. -/
module

public import proofs.«01_k».proof.Proof.Reals
public import proofs.«01_k».proof.Proof.Mixout.Arrays
public import proofs.«01_k».proof.Proof.Gen.ReferenceMixoutIdeal.Read

@[expose] public section

noncomputable section

namespace Cert.Proof.Mixout

open Cert.KernelMixoutIdeal Cert.KernelMixoutIdeal.Gen Idealize.ShloMosaic Idealize.ShloMosaic.TcCoe Idealize.SL.Sem
open Cert.Proof.Tools Cert.Proof.Rms Cert.ReferenceMixoutIdeal.Read

/-- The logistic function. -/
abbrev sg (g : EReal) : EReal := Ideal.div 1 (1 + Ideal.exp (-g))

/-- The activation's hyperbolic tangent; the activation as the kernel groups its factors, and as the reference does. -/
abbrev th (x : EReal) : EReal := Ideal.tanh (Ideal.ofBits .f32 1061962282#32 * (x + Ideal.ofBits .f32 1027024659#32 * (x * x * x)))
abbrev gk (x : EReal) : EReal := Ideal.ofBits .f32 1056964608#32 * x * (1 + th x)
abbrev ga (x : EReal) : EReal := x * (Ideal.ofBits .f32 1056964608#32 * (1 + th x))

theorem gk_eq (x : EReal) : gk x = ga x := by
  unfold gk ga
  rw [mul_comm (Ideal.ofBits .f32 1056964608#32) x, mul_assoc]

section Forms

variable (x0 : Vec Ideal S8192x1024 .f32) (x1 x2 : Vec Ideal S8192x512 .f32) (x3 : Vec Ideal S512 .f32) (x4 : Vec Ideal S512x512 .f32) (x5 : Vec Ideal S8192x512 .f32) (x6 : Vec Ideal S1024x1024 .f32) (x7 : Vec Ideal S1024 .f32) (x8 : Vec Ideal S8192x1024 .f32)

/-- The unit's input and its activation; the gate's argument; the gated product. -/
def hy (r : Fin 8192) (l : Fin 512) : EReal := x1 (ix2 r l) + x3 (ix1 l) * x2 (ix2 r l)
def hl (r : Fin 8192) (l : Fin 512) : EReal := ∑ x, ga (hy x1 x2 x3 r x) * x4 (ix2 x l)
def gated (r : Fin 8192) (l : Fin 512) : EReal := ga (hy x1 x2 x3 r l) * sg (hl x1 x2 x3 x4 r l)

/-- The residual sum after the projection, and its norm with the next gain. -/
def hout (r : Fin 8192) (l : Fin 1024) : EReal :=
  x0 (ix2 r l) + (∑ x : Fin 512, gated x1 x2 x3 x4 r x * x6 (ix2 ⟨x.val, by omega⟩ l) + ∑ x : Fin 512, x5 (ix2 r x) * x6 (ix2 ⟨512 + x.val, by omega⟩ l))
def hnext (r : Fin 8192) (l : Fin 1024) : EReal :=
  hout x0 x1 x2 x3 x4 x5 x6 r l * rs (fun k => hout x0 x1 x2 x3 x4 x5 x6 r k) * x7 (ix1 l)

/-- The cotangents of the projection's two halves, and of the gate's argument. -/
def gs (r : Fin 8192) (l : Fin 512) : EReal := ∑ x, x8 (ix2 r x) * x6 (ix2 ⟨l.val, by omega⟩ x)
def gp (r : Fin 8192) (l : Fin 512) : EReal := ∑ x, x8 (ix2 r x) * x6 (ix2 ⟨512 + l.val, by omega⟩ x)
def gg (r : Fin 8192) (l : Fin 512) : EReal :=
  ga (hy x1 x2 x3 r l) * gs x6 x8 r l * (sg (hl x1 x2 x3 x4 r l) * (1 - sg (hl x1 x2 x3 x4 r l)))

end Forms

section Block

/-! What each region stores, element by element. -/

variable (b0 : Vec Ideal S1024x512 .bf16) (b1 : Vec Ideal S512x512 .bf16) (b2 : Vec Ideal S1024x512 .f32)

theorem block0_1 (r : Fin 1024) (l : Fin 512) : (k0_pay1 b0 b1 (ix2 r l) : EReal) = ∑ x, b0 (ix2 r x) * b1 (ix2 x l) := by
  simp only [k0_pay1]
  pointwise

theorem block0_2 (r : Fin 1024) (l : Fin 512) : (k0_pay2 b0 b1 b2 (ix2 r l) : EReal) = gk (b2 (ix2 r l)) * sg (k0_pay1 b0 b1 (ix2 r l)) := by
  simp only [k0_pay2, k0_pay1]
  pointwise
  simp only [zero_sub]

variable (c0 c1 : Vec Ideal S1024x512 .bf16) (c2 c3 : Vec Ideal S512x1024 .bf16) (c4 : Vec Ideal S1024x1024 .f32) (c5 : Vec Ideal S1x1024 .f32)

theorem block1_1 (r l : Fin 1024) : (k1_pay1 c0 c1 c2 c3 c4 (ix2 r l) : EReal)
    = c4 (ix2 r l) + (∑ x, c0 (ix2 r x) * c2 (ix2 x l) + ∑ x, c1 (ix2 r x) * c3 (ix2 x l)) := by
  simp only [k1_pay1]
  pointwise

theorem block1_2 (r l : Fin 1024) : (k1_pay2 c0 c1 c2 c3 c4 c5 (ix2 r l) : EReal)
    = k1_pay1 c0 c1 c2 c3 c4 (ix2 r l) * rs (fun k => k1_pay1 c0 c1 c2 c3 c4 (ix2 r k)) * c5 (ix2 0 l) := by
  simp only [k1_pay2]
  generalize k1_pay1 c0 c1 c2 c3 c4 = y
  pointwise

variable (d0 : Vec Ideal S1024x1024 .f32) (d1 : Vec Ideal S512x1024 .bf16) (d3 d4 : Vec Ideal S1024x512 .f32)

theorem block2_3 (r : Fin 1024) (l : Fin 512) : (k2_pay3 d0 d1 (ix2 r l) : EReal) = ∑ x, d0 (ix2 r x) * d1 (ix2 l x) := by
  simp only [k2_pay3, k2_pay2]
  pointwise

theorem block2_4 (r : Fin 1024) (l : Fin 512) : (k2_pay4 d0 d1 (ix2 r l) : EReal) = ∑ x, d0 (ix2 r x) * d1 (ix2 l x) := by
  simp only [k2_pay4, k2_pay2]
  pointwise

theorem block2_7 (r : Fin 1024) (l : Fin 512) : (tgate d0 d1 d3 d4 (ix2 r l) : EReal)
    = k2_pay3 d0 d1 (ix2 r l) * gk (d3 (ix2 r l)) * sg (d4 (ix2 r l)) * (1 - sg (d4 (ix2 r l))) := by
  simp only [tgate, k2_pay1, k2_pay5]
  generalize k2_pay3 d0 d1 = y
  pointwise
  simp only [zero_sub]

end Block

section Reference

variable (x0 : Vec Ideal S8192x1024 .f32) (x1 x2 : Vec Ideal S8192x512 .f32) (x3 : Vec Ideal S512 .f32) (x4 : Vec Ideal S512x512 .f32) (x5 : Vec Ideal S8192x512 .f32) (x6 : Vec Ideal S1024x1024 .f32) (x7 : Vec Ideal S1024 .f32) (x8 : Vec Ideal S8192x1024 .f32)

theorem reference_gated (r : Fin 8192) (l : Fin 512) : (val_main_v59 (F := Ideal) x1 x2 x3 x4 (ix2 r l) : EReal) = gated x1 x2 x3 x4 r l := by
  unfold gated hl ga th sg hy
  pointwise [val_main_v0, val_main_v1, val_main_v2, val_main_v3, val_main_v4, val_main_v5, val_main_cst, val_main_v6,
      val_main_v7, val_main_v8, val_main_cst_0, val_main_v9, val_main_v10, val_main_v11, val_main_cst_1,
      val_main_v12, val_main_v13, val_main_cst_2, val_main_v14, val_main_v15, val_main_v16, val_main_v17,
      val_main_v18, val_main_v19, val_main_cst_3, val_main_v20, val_main_v21, val_main_cst_4, val_main_v22,
      val_main_v23, val_main_v24, val_main_v25, val_main_v26, val_main_v27, val_main_v28, val_main_v29,
      val_main_cst_5, val_main_v30, val_main_v31, val_main_cst_6, val_main_v32, val_main_v33, val_main_v34,
      val_main_v35, val_main_v36, val_main_v37, val_main_v38, val_main_v39, val_main_v40, val_main_v41,
      val_main_cst_7, val_main_v42, val_main_v43, val_main_cst_8, val_main_v44, val_main_v45, val_main_cst_9,
      val_main_v46, val_main_v47, val_main_v48, val_main_v49, val_main_v50, val_main_v51, val_main_v52, val_main_v53,
      val_main_cst_10, val_main_v54, val_main_v55, val_main_cst_11, val_main_v56, val_main_v57, val_main_v58,
      val_main_v59, val_main_v60, val_main_cst_12, val_main_v61, val_main_v62, val_main_cst_13, val_main_v63,
      val_main_v64, val_main_cst_14, val_main_v65, val_main_v66, val_main_v67, val_main_v68, val_main_v69,
      val_main_v70, val_main_v71, val_main_v72, val_main_v73, val_main_v74]

theorem reference_hout (r : Fin 8192) (l : Fin 1024) : (val_main_v27 (F := Ideal) x0 x1 x2 x3 x4 x5 x6 (ix2 r l) : EReal) = hout x0 x1 x2 x3 x4 x5 x6 r l := by
  unfold hout gated hl ga th sg hy
  pointwise [val_main_v0, val_main_v1, val_main_v2, val_main_v3, val_main_v4, val_main_v5, val_main_cst, val_main_v6,
      val_main_v7, val_main_v8, val_main_cst_0, val_main_v9, val_main_v10, val_main_v11, val_main_cst_1,
      val_main_v12, val_main_v13, val_main_cst_2, val_main_v14, val_main_v15, val_main_v16, val_main_v17,
      val_main_v18, val_main_v19, val_main_cst_3, val_main_v20, val_main_v21, val_main_cst_4, val_main_v22,
      val_main_v23, val_main_v24, val_main_v25, val_main_v26, val_main_v27, val_main_v28, val_main_v29,
      val_main_cst_5, val_main_v30, val_main_v31, val_main_cst_6, val_main_v32, val_main_v33, val_main_v34,
      val_main_v35, val_main_v36, val_main_v37, val_main_v38, val_main_v39, val_main_v40, val_main_v41,
      val_main_cst_7, val_main_v42, val_main_v43, val_main_cst_8, val_main_v44, val_main_v45, val_main_cst_9,
      val_main_v46, val_main_v47, val_main_v48, val_main_v49, val_main_v50, val_main_v51, val_main_v52, val_main_v53,
      val_main_cst_10, val_main_v54, val_main_v55, val_main_cst_11, val_main_v56, val_main_v57, val_main_v58,
      val_main_v59, val_main_v60, val_main_cst_12, val_main_v61, val_main_v62, val_main_cst_13, val_main_v63,
      val_main_v64, val_main_cst_14, val_main_v65, val_main_v66, val_main_v67, val_main_v68, val_main_v69,
      val_main_v70, val_main_v71, val_main_v72, val_main_v73, val_main_v74]

theorem reference_hnext (r : Fin 8192) (l : Fin 1024) : (val_main_v73 (F := Ideal) x0 x1 x2 x3 x4 x5 x6 x7 (ix2 r l) : EReal) = hnext x0 x1 x2 x3 x4 x5 x6 x7 r l := by
  unfold hnext
  simp only [← reference_hout]
  pointwise [val_main_cst, val_main_cst_0, val_main_cst_1, val_main_cst_2, val_main_cst_3, val_main_cst_4, val_main_v28, val_main_v29, val_main_cst_5, val_main_v30, val_main_v31, val_main_cst_6, val_main_v32, val_main_v33, val_main_v34, val_main_v35, val_main_v36, val_main_v37, val_main_v38, val_main_v39, val_main_v40, val_main_v41, val_main_cst_7, val_main_v42, val_main_v43, val_main_cst_8, val_main_v44, val_main_v45, val_main_cst_9, val_main_v46, val_main_v47, val_main_v48, val_main_v49, val_main_v50, val_main_v51, val_main_v52, val_main_v53, val_main_cst_10, val_main_v54, val_main_v55, val_main_cst_11, val_main_v56, val_main_v57, val_main_v58, val_main_v59, val_main_v60, val_main_cst_12, val_main_v61, val_main_v62, val_main_cst_13, val_main_v63, val_main_v64, val_main_cst_14, val_main_v65, val_main_v66, val_main_v67, val_main_v68, val_main_v69, val_main_v70, val_main_v71, val_main_v72, val_main_v73, val_main_v74]

theorem reference_gs (r : Fin 8192) (l : Fin 512) : (val_main_v38 (F := Ideal) x6 x8 (ix2 r l) : EReal) = gs x6 x8 r l := by
  unfold gs
  pointwise [val_main_v0, val_main_v1, val_main_v2, val_main_v3, val_main_v4, val_main_v5, val_main_cst, val_main_v6,
      val_main_v7, val_main_v8, val_main_cst_0, val_main_v9, val_main_v10, val_main_v11, val_main_cst_1,
      val_main_v12, val_main_v13, val_main_cst_2, val_main_v14, val_main_v15, val_main_v16, val_main_v17,
      val_main_v18, val_main_v19, val_main_cst_3, val_main_v20, val_main_v21, val_main_cst_4, val_main_v22,
      val_main_v23, val_main_v24, val_main_v25, val_main_v26, val_main_v27, val_main_v28, val_main_v29,
      val_main_cst_5, val_main_v30, val_main_v31, val_main_cst_6, val_main_v32, val_main_v33, val_main_v34,
      val_main_v35, val_main_v36, val_main_v37, val_main_v38, val_main_v39, val_main_v40, val_main_v41,
      val_main_cst_7, val_main_v42, val_main_v43, val_main_cst_8, val_main_v44, val_main_v45, val_main_cst_9,
      val_main_v46, val_main_v47, val_main_v48, val_main_v49, val_main_v50, val_main_v51, val_main_v52, val_main_v53,
      val_main_cst_10, val_main_v54, val_main_v55, val_main_cst_11, val_main_v56, val_main_v57, val_main_v58,
      val_main_v59, val_main_v60, val_main_cst_12, val_main_v61, val_main_v62, val_main_cst_13, val_main_v63,
      val_main_v64, val_main_cst_14, val_main_v65, val_main_v66, val_main_v67, val_main_v68, val_main_v69,
      val_main_v70, val_main_v71, val_main_v72, val_main_v73, val_main_v74]

theorem reference_gp (r : Fin 8192) (l : Fin 512) : (val_main_v39 (F := Ideal) x6 x8 (ix2 r l) : EReal) = gp x6 x8 r l := by
  unfold gp
  pointwise [val_main_v0, val_main_v1, val_main_v2, val_main_v3, val_main_v4, val_main_v5, val_main_cst, val_main_v6,
      val_main_v7, val_main_v8, val_main_cst_0, val_main_v9, val_main_v10, val_main_v11, val_main_cst_1,
      val_main_v12, val_main_v13, val_main_cst_2, val_main_v14, val_main_v15, val_main_v16, val_main_v17,
      val_main_v18, val_main_v19, val_main_cst_3, val_main_v20, val_main_v21, val_main_cst_4, val_main_v22,
      val_main_v23, val_main_v24, val_main_v25, val_main_v26, val_main_v27, val_main_v28, val_main_v29,
      val_main_cst_5, val_main_v30, val_main_v31, val_main_cst_6, val_main_v32, val_main_v33, val_main_v34,
      val_main_v35, val_main_v36, val_main_v37, val_main_v38, val_main_v39, val_main_v40, val_main_v41,
      val_main_cst_7, val_main_v42, val_main_v43, val_main_cst_8, val_main_v44, val_main_v45, val_main_cst_9,
      val_main_v46, val_main_v47, val_main_v48, val_main_v49, val_main_v50, val_main_v51, val_main_v52, val_main_v53,
      val_main_cst_10, val_main_v54, val_main_v55, val_main_cst_11, val_main_v56, val_main_v57, val_main_v58,
      val_main_v59, val_main_v60, val_main_cst_12, val_main_v61, val_main_v62, val_main_cst_13, val_main_v63,
      val_main_v64, val_main_cst_14, val_main_v65, val_main_v66, val_main_v67, val_main_v68, val_main_v69,
      val_main_v70, val_main_v71, val_main_v72, val_main_v73, val_main_v74]

theorem reference_gg (r : Fin 8192) (l : Fin 512) : (val_main_v74 (F := Ideal) x1 x2 x3 x4 x6 x8 (ix2 r l) : EReal) = gg x1 x2 x3 x4 x6 x8 r l := by
  unfold gg gs hl ga th sg hy
  pointwise [val_main_v0, val_main_v1, val_main_v2, val_main_v3, val_main_v4, val_main_v5, val_main_cst, val_main_v6,
      val_main_v7, val_main_v8, val_main_cst_0, val_main_v9, val_main_v10, val_main_v11, val_main_cst_1,
      val_main_v12, val_main_v13, val_main_cst_2, val_main_v14, val_main_v15, val_main_v16, val_main_v17,
      val_main_v18, val_main_v19, val_main_cst_3, val_main_v20, val_main_v21, val_main_cst_4, val_main_v22,
      val_main_v23, val_main_v24, val_main_v25, val_main_v26, val_main_v27, val_main_v28, val_main_v29,
      val_main_cst_5, val_main_v30, val_main_v31, val_main_cst_6, val_main_v32, val_main_v33, val_main_v34,
      val_main_v35, val_main_v36, val_main_v37, val_main_v38, val_main_v39, val_main_v40, val_main_v41,
      val_main_cst_7, val_main_v42, val_main_v43, val_main_cst_8, val_main_v44, val_main_v45, val_main_cst_9,
      val_main_v46, val_main_v47, val_main_v48, val_main_v49, val_main_v50, val_main_v51, val_main_v52, val_main_v53,
      val_main_cst_10, val_main_v54, val_main_v55, val_main_cst_11, val_main_v56, val_main_v57, val_main_v58,
      val_main_v59, val_main_v60, val_main_cst_12, val_main_v61, val_main_v62, val_main_cst_13, val_main_v63,
      val_main_v64, val_main_cst_14, val_main_v65, val_main_v66, val_main_v67, val_main_v68, val_main_v69,
      val_main_v70, val_main_v71, val_main_v72, val_main_v73, val_main_v74]

end Reference

end Cert.Proof.Mixout

end
-- ==== Proof.Mixout.Final.lean ====
/- Hand-written, untrusted: WHAT THE RUN BEHIND THE STATE SPACE LAYER LEAVES, on extended reals: through the program's regions
   in order, every result array as the reference's (`final_…`). -/
module

public import proofs.«01_k».proof.Proof.Reals
public import proofs.«01_k».proof.Proof.Mixout.Value

@[expose] public section

noncomputable section

namespace Cert.Proof.Mixout

open Cert.KernelMixoutIdeal Cert.KernelMixoutIdeal.Gen Idealize.ShloMosaic Idealize.ShloMosaic.TcCoe Idealize.SL.Sem
open Cert.Proof.Tools Cert.Proof.Rms Cert.ReferenceMixoutIdeal.Read

/-- An argument array on one device. -/
local notation "arg[" m ", " c ", " a "]" => m (Thread.loc (c : Thread nD τ) a)

variable (m : (ℓ : Loc nD τ sig) → Buf (Elt Ideal) ℓ) (ρ : Dev nD → PrngReg) (c : Dev nD)

/-- An array rounded (which on extended reals changes nothing); the projection's two halves; a gain as one row. -/
abbrev top (w : Vec Ideal S1024x1024 .f32) : Vec Ideal S512x1024 .bf16 :=
  extractStridedSlice S512x1024 ![0, 0] (truncf (F := Ideal) .bf16 w bitsLt_bf16_f32) slices_S1024x1024_S512x1024_0_0
abbrev bottom (w : Vec Ideal S1024x1024 .f32) : Vec Ideal S512x1024 .bf16 :=
  extractStridedSlice S512x1024 ![512, 0] (truncf (F := Ideal) .bf16 w bitsLt_bf16_f32) slices_S1024x1024_S512x1024_512_0
abbrev line (g : Vec Ideal S1024 .f32) : Vec Ideal S1x1024 .f32 := shapeCast S1x1024 g shapeCasts_S1024_S1x1024

theorem top_apply (w : Vec Ideal S1024x1024 .f32) (k : Fin 512) (l : Fin 1024) : (top w (ix2 k l) : EReal) = w (ix2 ⟨k.val, by omega⟩ l) := by
  unfold top
  pointwise
theorem bottom_apply (w : Vec Ideal S1024x1024 .f32) (k : Fin 512) (l : Fin 1024) : (bottom w (ix2 k l) : EReal) = w (ix2 ⟨512 + k.val, by omega⟩ l) := by
  unfold bottom
  pointwise
theorem line_apply (g : Vec Ideal S1024 .f32) (l : Fin 1024) : line g (ix2 0 l) = g (ix1 l) := by
  unfold line
  pointwise

/-- What the host's first lines leave: the rounded arrays, the unit's input and its activation. -/
theorem at1_v0 : W1 m ρ c main_v0 = truncf (F := Ideal) .bf16 arg[m, c, main_arg5] bitsLt_bf16_f32 := by
  show StableHlo.after hostOps0 _ main_v0 = _
  after_results_simp <;> rfl
theorem at1_v1 : W1 m ρ c main_v1 = truncf (F := Ideal) .bf16 arg[m, c, main_arg4] bitsLt_bf16_f32 := by
  show StableHlo.after hostOps0 _ main_v1 = _
  after_results_simp <;> rfl
theorem at1_v2 : W1 m ρ c main_v2 = truncf (F := Ideal) .bf16 arg[m, c, main_arg6] bitsLt_bf16_f32 := by
  show StableHlo.after hostOps0 _ main_v2 = _
  after_results_simp <;> rfl
theorem at1_v6 (r : Fin 8192) (l : Fin 512) : (W1 m ρ c main_v6 (ix2 r l) : EReal) = hy arg[m, c, main_arg1] arg[m, c, main_arg2] arg[m, c, main_arg3] r l := by
  unfold hy
  show StableHlo.after hostOps0 _ main_v6 (ix2 r l) = _
  after_results_simp
  pointwise

theorem at1_v20 (r : Fin 8192) (l : Fin 512) : (W1 m ρ c main_v20 (ix2 r l) : EReal) = gk (hy arg[m, c, main_arg1] arg[m, c, main_arg2] arg[m, c, main_arg3] r l) := by
  unfold gk th hy
  show StableHlo.after hostOps0 _ main_v20 (ix2 r l) = _
  after_results_simp
  pointwise

/-- The first region: the gate's argument and the gated product. -/
theorem rl (t : Fin cfg0.N) (r : Fin 1024) (l : Fin 512) :
    (k0_pay1 (iblk0 (V1 m ρ) c 0 t) (iblk0 (V1 m ρ) c 1 t) (ix2 r l) : EReal) = hl arg[m, c, main_arg1] arg[m, c, main_arg2] arg[m, c, main_arg3] arg[m, c, main_arg4] (row0 t r) l :=
  (block0_1 _ _ r l).trans (Finset.sum_congr rfl fun x _ => congrArg₂ (fun a b : EReal => a * b)
    ((iblk0_0_apply (V1 m ρ) c t r x).trans ((at1_v20 m ρ c _ _).trans (gk_eq _)))
    ((iblk0_1_apply (V1 m ρ) c t x l).trans (congrFun (show V1 m ρ c main_v1 = _ from at1_v1 m ρ c) _)))
theorem at2_v21_0 : W2 m ρ c main_v21_0 = Cert.ReferenceMixoutIdeal.Read.val_main_v59 (F := Ideal) arg[m, c, main_arg1] arg[m, c, main_arg2] arg[m, c, main_arg3] arg[m, c, main_arg4] :=
  (W2_arr m ρ c 3).trans (array0_3 (V1 m ρ) c _ fun t r l => by
    refine (block0_2 _ _ _ r l).trans (Eq.trans ?_ (reference_gated _ _ _ _ _ l).symm)
    exact congrArg₂ (fun a b : EReal => a * sg b) ((congrArg gk ((iblk0_2_apply (V1 m ρ) c t r l).trans (at1_v6 m ρ c _ _))).trans (gk_eq _)) (rl m ρ c t r l))
theorem at2_v21_1 : W2 m ρ c main_v21_1 = fun i => hl arg[m, c, main_arg1] arg[m, c, main_arg2] arg[m, c, main_arg3] arg[m, c, main_arg4] (i 0) (i 1) :=
  (W2_arr m ρ c 4).trans (array0_4 (V1 m ρ) c _ fun t r l => rl m ρ c t r l)

/-- Arrays that a later region's entry finds as an earlier item left them; the host's lines between the regions. -/
theorem at3_v21_0 : W3 m ρ c main_v21_0 = Cert.ReferenceMixoutIdeal.Read.val_main_v59 (F := Ideal) arg[m, c, main_arg1] arg[m, c, main_arg2] arg[m, c, main_arg3] arg[m, c, main_arg4] := (W3_of m ρ c main_v21_0 (by decide)).trans (at2_v21_0 m ρ c)
theorem at3_v0 : W3 m ρ c main_v0 = truncf (F := Ideal) .bf16 arg[m, c, main_arg5] bitsLt_bf16_f32 := (W3_of m ρ c main_v0 (by decide)).trans ((W2_of m ρ c main_v0 (by decide)).trans (at1_v0 m ρ c))
theorem at2_v2 : W2 m ρ c main_v2 = truncf (F := Ideal) .bf16 arg[m, c, main_arg6] bitsLt_bf16_f32 := (W2_of m ρ c main_v2 (by decide)).trans (at1_v2 m ρ c)
theorem at4_v2 : W4 m ρ c main_v2 = truncf (F := Ideal) .bf16 arg[m, c, main_arg6] bitsLt_bf16_f32 := (W4_of m ρ c main_v2 (by decide)).trans ((W3_of m ρ c main_v2 (by decide)).trans (at2_v2 m ρ c))
theorem at3_v22 : W3 m ρ c main_v22 = line arg[m, c, main_arg7] := by
  have e : W2 m ρ c main_arg7 = arg[m, c, main_arg7] := W2_args m ρ c main_arg7 (by decide)
  rw [← e]
  show StableHlo.after hostOps1 _ main_v22 = _
  after_results_simp <;> rfl
theorem at3_v23 : W3 m ρ c main_v23 = top arg[m, c, main_arg6] := by
  unfold top
  rw [← at2_v2 m ρ c]
  show StableHlo.after hostOps1 _ main_v23 = _
  after_results_simp <;> rfl
theorem at3_v24 : W3 m ρ c main_v24 = bottom arg[m, c, main_arg6] := by
  unfold bottom
  rw [← at2_v2 m ρ c]
  show StableHlo.after hostOps1 _ main_v24 = _
  after_results_simp <;> rfl
theorem at5_v26 : W5 m ρ c main_v26 = top arg[m, c, main_arg6] := by
  unfold top
  rw [← at4_v2 m ρ c]
  show StableHlo.after hostOps2 _ main_v26 = _
  after_results_simp <;> rfl
theorem at5_v27 : W5 m ρ c main_v27 = bottom arg[m, c, main_arg6] := by
  unfold bottom
  rw [← at4_v2 m ρ c]
  show StableHlo.after hostOps2 _ main_v27 = _
  after_results_simp <;> rfl
theorem at5_v6 (r : Fin 8192) (l : Fin 512) : (W5 m ρ c main_v6 (ix2 r l) : EReal) = hy arg[m, c, main_arg1] arg[m, c, main_arg2] arg[m, c, main_arg3] r l :=
  (congrFun ((W5_of m ρ c main_v6 (by decide)).trans ((W4_of m ρ c main_v6 (by decide)).trans ((W3_of m ρ c main_v6 (by decide)).trans (W2_of m ρ c main_v6 (by decide))))) _).trans (at1_v6 m ρ c r l)
theorem at5_v21_1 : W5 m ρ c main_v21_1 = fun i => hl arg[m, c, main_arg1] arg[m, c, main_arg2] arg[m, c, main_arg3] arg[m, c, main_arg4] (i 0) (i 1) := (W5_of m ρ c main_v21_1 (by decide)).trans ((W4_of m ρ c main_v21_1 (by decide)).trans ((W3_of m ρ c main_v21_1 (by decide)).trans (at2_v21_1 m ρ c)))

/-- The second region: the residual sum. -/
theorem rh (t : Fin cfg1.N) (r l : Fin 1024) :
    (k1_pay1 (iblk1 (V3 m ρ) c 0 t) (iblk1 (V3 m ρ) c 1 t) (iblk1 (V3 m ρ) c 2 t) (iblk1 (V3 m ρ) c 3 t) (iblk1 (V3 m ρ) c 4 t) (ix2 r l) : EReal)
      = hout arg[m, c, main_arg0] arg[m, c, main_arg1] arg[m, c, main_arg2] arg[m, c, main_arg3] arg[m, c, main_arg4] arg[m, c, main_arg5] arg[m, c, main_arg6] (row1 t r) l := by
  refine (block1_1 _ _ _ _ _ r l).trans (congrArg₂ (fun a b : EReal => a + b)
    ((iblk1_4_apply (V3 m ρ) c t r l).trans (congrFun (show V3 m ρ c main_arg0 = _ from W3_args m ρ c main_arg0 (by decide)) _))
    (congrArg₂ (fun a b : EReal => a + b) (Finset.sum_congr rfl fun x _ => ?_) (Finset.sum_congr rfl fun x _ => ?_)))
  · exact congrArg₂ (fun a b : EReal => a * b)
      ((iblk1_0_apply (V3 m ρ) c t r x).trans ((congrFun (show V3 m ρ c main_v21_0 = _ from at3_v21_0 m ρ c) _).trans (reference_gated _ _ _ _ _ x)))
      ((iblk1_2_apply (V3 m ρ) c t x l).trans ((congrFun (show V3 m ρ c main_v23 = _ from at3_v23 m ρ c) _).trans (top_apply _ x l)))
  · exact congrArg₂ (fun a b : EReal => a * b)
      ((iblk1_1_apply (V3 m ρ) c t r x).trans (congrFun (show V3 m ρ c main_v0 = _ from at3_v0 m ρ c) _))
      ((iblk1_3_apply (V3 m ρ) c t x l).trans ((congrFun (show V3 m ρ c main_v24 = _ from at3_v24 m ρ c) _).trans (bottom_apply _ x l)))
theorem at4_v25_0 : W4 m ρ c main_v25_0 = Cert.ReferenceMixoutIdeal.Read.val_main_v27 (F := Ideal) arg[m, c, main_arg0] arg[m, c, main_arg1] arg[m, c, main_arg2] arg[m, c, main_arg3] arg[m, c, main_arg4] arg[m, c, main_arg5] arg[m, c, main_arg6] :=
  (W4_arr m ρ c 6).trans (array1_6 (V3 m ρ) c _ fun t r l => (rh m ρ c t r l).trans (reference_hout _ _ _ _ _ _ _ _ l).symm)
theorem at4_v25_1 : W4 m ρ c main_v25_1 = Cert.ReferenceMixoutIdeal.Read.val_main_v73 (F := Ideal) arg[m, c, main_arg0] arg[m, c, main_arg1] arg[m, c, main_arg2] arg[m, c, main_arg3] arg[m, c, main_arg4] arg[m, c, main_arg5] arg[m, c, main_arg6] arg[m, c, main_arg7] :=
  (W4_arr m ρ c 7).trans (array1_7 (V3 m ρ) c _ fun t r l => by
    refine (block1_2 _ _ _ _ _ _ r l).trans (Eq.trans ?_ (reference_hnext _ _ _ _ _ _ _ _ _ l).symm)
    exact congrArg₂ (fun a b : EReal => a * b) (congrArg₂ (fun a b : EReal => a * b) (rh m ρ c t r l) (congrArg rs (funext fun k => rh m ρ c t r k)))
      ((iblk1_5_apply (V3 m ρ) c t 0 l).trans ((congrFun (show V3 m ρ c main_v22 = _ from at3_v22 m ρ c) _).trans (line_apply _ l))))

/-- The last region: the cotangents of the projection's halves. -/
theorem rs' (t : Fin cfg2.N) (r : Fin 1024) (l : Fin 512) :
    (k2_pay3 (iblk2 (V5 m ρ) c 0 t) (iblk2 (V5 m ρ) c 1 t) (ix2 r l) : EReal) = gs arg[m, c, main_arg6] arg[m, c, main_arg8] (row2 t r) l :=
  (block2_3 _ _ r l).trans (Finset.sum_congr rfl fun x _ => congrArg₂ (fun a b : EReal => a * b)
    ((iblk2_0_apply (V5 m ρ) c t r x).trans (congrFun (show V5 m ρ c main_arg8 = _ from W5_args m ρ c main_arg8 (by decide)) _))
    ((iblk2_1_apply (V5 m ρ) c t l x).trans ((congrFun (show V5 m ρ c main_v26 = _ from at5_v26 m ρ c) _).trans (top_apply _ l x))))
theorem rp (t : Fin cfg2.N) (r : Fin 1024) (l : Fin 512) :
    (k2_pay4 (iblk2 (V5 m ρ) c 0 t) (iblk2 (V5 m ρ) c 2 t) (ix2 r l) : EReal) = gp arg[m, c, main_arg6] arg[m, c, main_arg8] (row2 t r) l :=
  (block2_4 _ _ r l).trans (Finset.sum_congr rfl fun x _ => congrArg₂ (fun a b : EReal => a * b)
    ((iblk2_0_apply (V5 m ρ) c t r x).trans (congrFun (show V5 m ρ c main_arg8 = _ from W5_args m ρ c main_arg8 (by decide)) _))
    ((iblk2_2_apply (V5 m ρ) c t l x).trans ((congrFun (show V5 m ρ c main_v27 = _ from at5_v27 m ρ c) _).trans (bottom_apply _ l x))))

/-- THE RESULTS, on any arguments: the gated product, the residual sum, its norm; the cotangents of the projection's two
    halves, and of the gate's argument. -/
theorem final_gated : W6 m ρ c main_v21_0 = Cert.ReferenceMixoutIdeal.Read.val_main_v59 (F := Ideal) arg[m, c, main_arg1] arg[m, c, main_arg2] arg[m, c, main_arg3] arg[m, c, main_arg4] := (W6_of m ρ c main_v21_0 (by decide)).trans ((W5_of m ρ c main_v21_0 (by decide)).trans ((W4_of m ρ c main_v21_0 (by decide)).trans ((W3_of m ρ c main_v21_0 (by decide)).trans (at2_v21_0 m ρ c))))
theorem final_hout : W6 m ρ c main_v25_0 = Cert.ReferenceMixoutIdeal.Read.val_main_v27 (F := Ideal) arg[m, c, main_arg0] arg[m, c, main_arg1] arg[m, c, main_arg2] arg[m, c, main_arg3] arg[m, c, main_arg4] arg[m, c, main_arg5] arg[m, c, main_arg6] := (W6_of m ρ c main_v25_0 (by decide)).trans ((W5_of m ρ c main_v25_0 (by decide)).trans (at4_v25_0 m ρ c))
theorem final_hnext : W6 m ρ c main_v25_1 = Cert.ReferenceMixoutIdeal.Read.val_main_v73 (F := Ideal) arg[m, c, main_arg0] arg[m, c, main_arg1] arg[m, c, main_arg2] arg[m, c, main_arg3] arg[m, c, main_arg4] arg[m, c, main_arg5] arg[m, c, main_arg6] arg[m, c, main_arg7] := (W6_of m ρ c main_v25_1 (by decide)).trans ((W5_of m ρ c main_v25_1 (by decide)).trans (at4_v25_1 m ρ c))
theorem final_gs : W6 m ρ c main_v28_0 = Cert.ReferenceMixoutIdeal.Read.val_main_v38 (F := Ideal) arg[m, c, main_arg6] arg[m, c, main_arg8] :=
  (W6_arr m ρ c 5).trans (array2_5 (V5 m ρ) c _ fun t r l => (rs' m ρ c t r l).trans (reference_gs _ _ _ l).symm)
theorem final_gp : W6 m ρ c main_v28_1 = Cert.ReferenceMixoutIdeal.Read.val_main_v39 (F := Ideal) arg[m, c, main_arg6] arg[m, c, main_arg8] :=
  (W6_arr m ρ c 6).trans (array2_6 (V5 m ρ) c _ fun t r l => (rp m ρ c t r l).trans (reference_gp _ _ _ l).symm)
theorem final_gg : W6 m ρ c main_v28_2 = Cert.ReferenceMixoutIdeal.Read.val_main_v74 (F := Ideal) arg[m, c, main_arg1] arg[m, c, main_arg2] arg[m, c, main_arg3] arg[m, c, main_arg4] arg[m, c, main_arg6] arg[m, c, main_arg8] :=
  (W6_arr m ρ c 7).trans (array2_7 (V5 m ρ) c _ fun t r l => by
    refine (block2_7 _ _ _ _ r l).trans (Eq.trans ?_ (reference_gg _ _ _ _ _ _ _ l).symm)
    have el : ((iblk2 (V5 m ρ) c 4 t : Vec Ideal S1024x512 .f32) (ix2 r l) : EReal) = hl arg[m, c, main_arg1] arg[m, c, main_arg2] arg[m, c, main_arg3] arg[m, c, main_arg4] (row2 t r) l :=
      (iblk2_4_apply (V5 m ρ) c t r l).trans (congrFun (show V5 m ρ c main_v21_1 = _ from at5_v21_1 m ρ c) _)
    have ey : gk ((iblk2 (V5 m ρ) c 3 t : Vec Ideal S1024x512 .f32) (ix2 r l)) = ga (hy arg[m, c, main_arg1] arg[m, c, main_arg2] arg[m, c, main_arg3] (row2 t r) l) :=
      (congrArg gk ((iblk2_3_apply (V5 m ρ) c t r l).trans (at5_v6 m ρ c _ _))).trans (gk_eq _)
    refine (congrArg₂ (fun a b : EReal => a * b) (congrArg₂ (fun a b : EReal => a * b) (congrArg₂ (fun a b : EReal => a * b) (rs' m ρ c t r l) ey) (congrArg sg el))
      (congrArg (fun b : EReal => 1 - sg b) el)).trans ?_
    unfold gg
    rw [mul_comm (gs _ _ _ _), mul_assoc])

end Cert.Proof.Mixout

end
-- ==== Proof.Mixout.Claim.lean ====
/- Hand-written, untrusted: THE CLAIMS OF THE UNIT AND THE PROJECTION BEHIND THE STATE SPACE LAYER: the reference's frame, and the value claim. -/
module

public import proofs.«01_k».proof.Defs
public import proofs.«01_k».proof.Proof.Mixout.Final
public import proofs.«01_k».proof.Proof.Gen.KernelMixout.Frame

@[expose] public section

noncomputable section

namespace Cert.Proof.Mixout

open Idealize.ShloMosaic Idealize.ShloMosaic.TcCoe Idealize.SL.Sem
open Cert.KernelMixoutIdeal (main_arg0 main_arg1 main_arg2 main_arg3 main_arg4 main_arg5 main_arg6 main_arg7 main_arg8)

/-- A kernel's argument array on one device. -/
local notation "arg[" m ", " c ", " a "]" => m (Thread.loc (Dev.tc c : Thread Cert.KernelMixoutIdeal.nD Cert.KernelMixoutIdeal.τ) a)

/-- The reference's run leaves its arguments as they were; it has no semaphore. -/
theorem frame_reference : Cert.quiescent_ReferenceMixoutIdeal (hReferenceMixoutIdeal := Cert.ReferenceMixoutIdeal.Gen.facts) := fun m g _ =>
  (θ_run Cert.ReferenceMixoutIdeal.defs _ _).mono (fun r h => ⟨fun c => (h c).2.2.2.2.2.2, sem_eq_zero_of_no_sems (by decide) r.2⟩)
    (Cert.ReferenceMixoutIdeal.Value.run (F := Ideal) m g)

/-- The two programs end at the same arrays. -/
theorem algebraic : Cert.algebraic_KernelMixoutIdeal_ReferenceMixoutIdeal (hKernelMixoutIdeal := Cert.KernelMixoutIdeal.Gen.facts)
    (hReferenceMixoutIdeal := Cert.ReferenceMixoutIdeal.Gen.facts) := by
  intro m g m' g' _ hagree
  refine ⟨_, _, _, _, _, _, (θ_run Cert.KernelMixoutIdeal.defs _ _).mono (fun r h c => ⟨h c _ (Cert.KernelMixoutIdeal.Gen.mem_uc Cert.KernelMixoutIdeal.main_v21_0 (by decide)),
    h c _ (Cert.KernelMixoutIdeal.Gen.mem_uc Cert.KernelMixoutIdeal.main_v25_0 (by decide)),
    h c _ (Cert.KernelMixoutIdeal.Gen.mem_uc Cert.KernelMixoutIdeal.main_v25_1 (by decide)),
    h c _ (Cert.KernelMixoutIdeal.Gen.mem_uc Cert.KernelMixoutIdeal.main_v28_0 (by decide)),
    h c _ (Cert.KernelMixoutIdeal.Gen.mem_uc Cert.KernelMixoutIdeal.main_v28_1 (by decide)),
    h c _ (Cert.KernelMixoutIdeal.Gen.mem_uc Cert.KernelMixoutIdeal.main_v28_2 (by decide)),
    (h c _ (Cert.KernelMixoutIdeal.Gen.mem_uc Cert.KernelMixoutIdeal.main_arg0 (by decide))).trans (Cert.KernelMixoutIdeal.Gen.W6_main_arg0 m g c),
    (h c _ (Cert.KernelMixoutIdeal.Gen.mem_uc Cert.KernelMixoutIdeal.main_arg1 (by decide))).trans (Cert.KernelMixoutIdeal.Gen.W6_main_arg1 m g c),
    (h c _ (Cert.KernelMixoutIdeal.Gen.mem_uc Cert.KernelMixoutIdeal.main_arg2 (by decide))).trans (Cert.KernelMixoutIdeal.Gen.W6_main_arg2 m g c),
    (h c _ (Cert.KernelMixoutIdeal.Gen.mem_uc Cert.KernelMixoutIdeal.main_arg3 (by decide))).trans (Cert.KernelMixoutIdeal.Gen.W6_main_arg3 m g c),
    (h c _ (Cert.KernelMixoutIdeal.Gen.mem_uc Cert.KernelMixoutIdeal.main_arg4 (by decide))).trans (Cert.KernelMixoutIdeal.Gen.W6_main_arg4 m g c),
    (h c _ (Cert.KernelMixoutIdeal.Gen.mem_uc Cert.KernelMixoutIdeal.main_arg5 (by decide))).trans (Cert.KernelMixoutIdeal.Gen.W6_main_arg5 m g c),
    (h c _ (Cert.KernelMixoutIdeal.Gen.mem_uc Cert.KernelMixoutIdeal.main_arg6 (by decide))).trans (Cert.KernelMixoutIdeal.Gen.W6_main_arg6 m g c),
    (h c _ (Cert.KernelMixoutIdeal.Gen.mem_uc Cert.KernelMixoutIdeal.main_arg7 (by decide))).trans (Cert.KernelMixoutIdeal.Gen.W6_main_arg7 m g c),
    (h c _ (Cert.KernelMixoutIdeal.Gen.mem_uc Cert.KernelMixoutIdeal.main_arg8 (by decide))).trans (Cert.KernelMixoutIdeal.Gen.W6_main_arg8 m g c)⟩) (run (F := Ideal) m g), ?_⟩
  refine (θ_run Cert.ReferenceMixoutIdeal.defs _ _).mono (fun r h c => ?_) (Cert.ReferenceMixoutIdeal.Value.run (F := Ideal) m' g')
  obtain ⟨a0, a1, a2, a3, a4, a5, a6, a7, a8⟩ := hagree c
  obtain ⟨v0, v1, v2, v3, v4, v5, hrest⟩ := h c
  refine ⟨(v0.trans (?_ : _ = Cert.ReferenceMixoutIdeal.Read.val_main_v59 (F := Ideal) arg[m, c, main_arg1] arg[m, c, main_arg2] arg[m, c, main_arg3] arg[m, c, main_arg4])).trans (final_gated m g c).symm, (v1.trans (?_ : _ = Cert.ReferenceMixoutIdeal.Read.val_main_v27 (F := Ideal) arg[m, c, main_arg0] arg[m, c, main_arg1] arg[m, c, main_arg2] arg[m, c, main_arg3] arg[m, c, main_arg4] arg[m, c, main_arg5] arg[m, c, main_arg6])).trans (final_hout m g c).symm, (v2.trans (?_ : _ = Cert.ReferenceMixoutIdeal.Read.val_main_v73 (F := Ideal) arg[m, c, main_arg0] arg[m, c, main_arg1] arg[m, c, main_arg2] arg[m, c, main_arg3] arg[m, c, main_arg4] arg[m, c, main_arg5] arg[m, c, main_arg6] arg[m, c, main_arg7])).trans (final_hnext m g c).symm, (v3.trans (?_ : _ = Cert.ReferenceMixoutIdeal.Read.val_main_v38 (F := Ideal) arg[m, c, main_arg6] arg[m, c, main_arg8])).trans (final_gs m g c).symm, (v4.trans (?_ : _ = Cert.ReferenceMixoutIdeal.Read.val_main_v39 (F := Ideal) arg[m, c, main_arg6] arg[m, c, main_arg8])).trans (final_gp m g c).symm, (v5.trans (?_ : _ = Cert.ReferenceMixoutIdeal.Read.val_main_v74 (F := Ideal) arg[m, c, main_arg1] arg[m, c, main_arg2] arg[m, c, main_arg3] arg[m, c, main_arg4] arg[m, c, main_arg6] arg[m, c, main_arg8])).trans (final_gg m g c).symm, hrest⟩
  · rw [← a1, ← a2, ← a3, ← a4]
    first | exact Cert.ReferenceMixoutIdeal.Read.val_main_v59_eq m' c | exact Cert.ReferenceMixoutIdeal.Read.val_main_v59_eq _ _ _ _
  · rw [← a0, ← a1, ← a2, ← a3, ← a4, ← a5, ← a6]
    first | exact Cert.ReferenceMixoutIdeal.Read.val_main_v27_eq m' c | exact Cert.ReferenceMixoutIdeal.Read.val_main_v27_eq _ _ _ _ _ _ _
  · rw [← a0, ← a1, ← a2, ← a3, ← a4, ← a5, ← a6, ← a7]
    first | exact Cert.ReferenceMixoutIdeal.Read.val_main_v73_eq m' c | exact Cert.ReferenceMixoutIdeal.Read.val_main_v73_eq _ _ _ _ _ _ _ _
  · rw [← a6, ← a8]
    first | exact Cert.ReferenceMixoutIdeal.Read.val_main_v38_eq m' c | exact Cert.ReferenceMixoutIdeal.Read.val_main_v38_eq _ _
  · rw [← a6, ← a8]
    first | exact Cert.ReferenceMixoutIdeal.Read.val_main_v39_eq m' c | exact Cert.ReferenceMixoutIdeal.Read.val_main_v39_eq _ _
  · rw [← a1, ← a2, ← a3, ← a4, ← a6, ← a8]
    first | exact Cert.ReferenceMixoutIdeal.Read.val_main_v74_eq m' c | exact Cert.ReferenceMixoutIdeal.Read.val_main_v74_eq _ _ _ _ _ _

end Cert.Proof.Mixout

end
-- ==== Proof.Indxg.Arrays.lean ====
/- Hand-written, untrusted: THE RUN OF THE FIRST HALF STEP'S LAST BACKWARD KERNEL, at any float values. What each point's body leaves in the
   four result windows (`outs_first`, `outs_next`): the point's rows of the input's gradient and of the gate's two cotangents, and
   the running sum of the gain's gradient; and what the input windows hold. -/
module

public import proofs.«01_k».proof.Proof.Rms
public import proofs.«01_k».proof.Proof.Gen.KernelIndxgIdeal.Value
public import Idealize.ShloMosaic.Lib.Pipeline.ValueKit.Geometry

@[expose] public section

noncomputable section

namespace Cert.Proof.Indxg

open Cert.KernelIndxgIdeal Cert.KernelIndxgIdeal.Gen Idealize.ShloMosaic Idealize.ShloMosaic.TcCoe Idealize.SL.Sem
open Cert.Proof.Tools

section Outs

variable {F : FTy → Type} [FloatOps F]
variable (m : (ℓ : Loc nD τ sig) → Buf (Elt F) ℓ)

/-- The first point: the rows of the input's gradient and of the gate's cotangents, and the rows' part of the gain's gradient. -/
theorem outs_first (c : Dev nD) (t : Fin cfg0.N) (h0 : t.val % 16 = 0) (h1 : ¬1 ≤ t.val) :
    outsAt0 m c t.val t.isLt = (k0_pay7 (iblk m c 6 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay10 (iblk m c 6 t) (iblk m c 7 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay11 (iblk m c 6 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay8 (k0_pay1 (iblk m c 0 t) (iblk m c 1 t) (iblk m c 2 t) (iblk m c 3 t)) (iblk m c 4 t) (k0_pay2 (iblk m c 4 t))) := by
  rw [outsAt0_A m c t h0 h1]
  refine Prod.ext ?_ (Prod.ext ?_ (Prod.ext ?_ ?_))
  · dsimp only
    unfold out0_A_9
    rw [View.read_writes_eq_canon _ _ _ (fun _ => cover0_A_9 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_A_10
    rw [View.read_writes_eq_canon _ _ _ (fun _ => cover0_A_10 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_A_11
    rw [View.read_writes_eq_canon _ _ _ (fun _ => cover0_A_11 ..)]
    unfold kernelRun0_A
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_A_12
    rw [View.read_writes_eq_canon _ _ _ (fun _ => cover0_A_12 ..)]
    unfold kernelRun0_A
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]

/-- A later point: the same rows, and their part of the gain's gradient added to the sum so far. -/
theorem outs_next (c : Dev nD) (t : Fin cfg0.N) (h0 : ¬t.val % 16 = 0) (h1 : 1 ≤ t.val) :
    outsAt0 m c t.val t.isLt = (k0_pay7 (iblk m c 6 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay10 (iblk m c 6 t) (iblk m c 7 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay11 (iblk m c 6 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)),
      k0_pay12 (k0_pay1 (iblk m c 0 t) (iblk m c 1 t) (iblk m c 2 t) (iblk m c 3 t)) (iblk m c 4 t) (k0_pay2 (iblk m c 4 t)) (outsAt0 m c (t.val - 1) (by omega)).2.2.2) := by
  rw [outsAt0_B m c t h0 h1]
  refine Prod.ext ?_ (Prod.ext ?_ (Prod.ext ?_ ?_))
  · dsimp only
    unfold out0_B_9
    rw [View.read_writes_eq_canon _ _ _ (fun _ => cover0_B_9 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_B_10
    rw [View.read_writes_eq_canon _ _ _ (fun _ => cover0_B_10 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_B_11
    rw [View.read_writes_eq_canon _ _ _ (fun _ => cover0_B_11 ..)]
    unfold kernelRun0_B
    dsimp only
    try sl_unfold_words
    rw [View.canon_unit_zero (S := S512x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S512x1024) hz2, View.ld_unit_zero (S := S512x2816) hz2, View.ld_unit_zero (S := S1x1024x2816) hz3, View.ld_unit_zero (S := S1x1024) hz2, shapeCast_self]
  · dsimp only
    unfold out0_B_12
    rw [View.read_writes_eq_canon _ _ _ (fun _ => cover0_B_12 ..)]
    unfold kernelRun0_B
    dsimp only
    try sl_unfold_words
    rw [View.canon_unit_zero (S := S1x1024) hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_12 t).read_unread,
      View.ld_unit_zero (S := S512x1024) hz2, View.ld_unit_zero (S := S512x2816) hz2, View.ld_unit_zero (S := S1x1024x2816) hz3, View.ld_unit_zero (S := S1x1024) hz2, shapeCast_self]

end Outs

/-- The block index of each window at each point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![1, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- What each input window's block holds at an index: the argument's element there (the weight rounded to the narrow type, which on extended reals is the identity, and its two halves put on two planes; the gain read as one row). -/
theorem iblk0_apply (c : Dev nD) (t : Fin cfg0.N) (r : Fin 512) (l : Fin 2816) :
    (iblk m c 0 t : Vec Ideal S512x2816 .bf16) (ix2 r l) = m ((c : Thread nD τ).loc main_arg3) (ix2 (row t r) l) := by
  blk_simp [iblk, V_main_arg3]
  refine congrArg _ ?_
  blk_ext [index0, row]

theorem iblk1_apply (c : Dev nD) (t : Fin cfg0.N) (r : Fin 512) (l : Fin 2816) :
    (iblk m c 1 t : Vec Ideal S512x2816 .bf16) (ix2 r l) = m ((c : Thread nD τ).loc main_arg4) (ix2 (row t r) l) := by
  blk_simp [iblk, V_main_arg4]
  refine congrArg _ ?_
  blk_ext [index1, row]

/-- The weight's two halves, one plane each. -/
abbrev planes (w : Vec Ideal S1024x5632 .f32) : Vec Ideal S2x1024x2816 .bf16 :=
  transpose S2x1024x2816 [1, 0, 2] (shapeCast S1024x2x2816 (truncf (F := Ideal) .bf16 w bitsLt_bf16_f32) shapeCasts_S1024x5632_S1024x2x2816) transposes_S1024x2x2816_S2x1024x2816_1_0_2

theorem planes_eq (c : Dev nD) : V m c main_v2 = planes (m ((c : Thread nD τ).loc main_arg2)) := by
  show StableHlo.after hostOps0 _ main_v2 = _
  after_results_simp <;> rfl

theorem planes0 (w : Vec Ideal S1024x5632 .f32) (k : Fin 1024) (l : Fin 2816) : planes w (ix3 0 k l) = w (ix2 k ⟨l.val, by omega⟩) := by
  unfold planes
  pointwise

theorem planes1 (w : Vec Ideal S1024x5632 .f32) (k : Fin 1024) (l : Fin 2816) : planes w (ix3 1 k l) = w (ix2 k ⟨2816 + l.val, by omega⟩) := by
  unfold planes
  pointwise

theorem iblk2_apply (c : Dev nD) (t : Fin cfg0.N) (k : Fin 1024) (l : Fin 2816) :
    (iblk m c 2 t : Vec Ideal S1x1024x2816 .bf16) (ix3 0 k l) = m ((c : Thread nD τ).loc main_arg2) (ix2 k ⟨l.val, by omega⟩) := by
  blk_simp [iblk, planes_eq]
  refine Eq.trans (congrArg (planes (m ((c : Thread nD τ).loc main_arg2))) (?_ : _ = ix3 0 k l)) (planes0 _ k l)
  blk_ext [index2]

theorem iblk3_apply (c : Dev nD) (t : Fin cfg0.N) (k : Fin 1024) (l : Fin 2816) :
    (iblk m c 3 t : Vec Ideal S1x1024x2816 .bf16) (ix3 0 k l) = m ((c : Thread nD τ).loc main_arg2) (ix2 k ⟨2816 + l.val, by omega⟩) := by
  blk_simp [iblk, planes_eq]
  refine Eq.trans (congrArg (planes (m ((c : Thread nD τ).loc main_arg2))) (?_ : _ = ix3 1 k l)) (planes1 _ k l)
  blk_ext [index3]

theorem iblk4_apply (c : Dev nD) (t : Fin cfg0.N) (r : Fin 512) (l : Fin 1024) :
    (iblk m c 4 t : Vec Ideal S512x1024 .f32) (ix2 r l) = m ((c : Thread nD τ).loc main_arg0) (ix2 (row t r) l) := by
  blk_simp [iblk, V_main_arg0]
  refine congrArg _ ?_
  blk_ext [index4, row]

theorem iblk5_apply (c : Dev nD) (t : Fin cfg0.N) (l : Fin 1024) :
    (iblk m c 5 t : Vec Ideal S1x1024 .f32) (ix2 0 l) = m ((c : Thread nD τ).loc main_arg1) (ix1 l) := by
  have e : V m c main_v3 = shapeCast S1x1024 (m ((c : Thread nD τ).loc main_arg1)) shapeCasts_S1024_S1x1024 := by
    show StableHlo.after hostOps0 _ main_v3 = _
    after_results_simp <;> rfl
  blk_simp [iblk, e]
  refine Eq.trans (congrArg _ (?_ : _ = ix2 0 l)) ?_
  · blk_ext [index5]
  · pointwise

theorem iblk6_apply (c : Dev nD) (t : Fin cfg0.N) (r : Fin 512) (l : Fin 1024) :
    (iblk m c 6 t : Vec Ideal S512x1024 .f32) (ix2 r l) = m ((c : Thread nD τ).loc main_arg5) (ix2 (row t r) l) := by
  blk_simp [iblk, V_main_arg5]
  refine congrArg _ ?_
  blk_ext [index6, row]

theorem iblk7_apply (c : Dev nD) (t : Fin cfg0.N) (r : Fin 512) (l : Fin 1024) :
    (iblk m c 7 t : Vec Ideal S512x1024 .f32) (ix2 r l) = m ((c : Thread nD τ).loc main_arg6) (ix2 (row t r) l) := by
  blk_simp [iblk, V_main_arg6]
  refine congrArg _ ?_
  blk_ext [index7, row]

theorem iblk8_apply (c : Dev nD) (t : Fin cfg0.N) (r : Fin 512) (l : Fin 1024) :
    (iblk m c 8 t : Vec Ideal S512x1024 .f32) (ix2 r l) = m ((c : Thread nD τ).loc main_arg7) (ix2 (row t r) l) := by
  blk_simp [iblk, V_main_arg7]
  refine congrArg _ ?_
  blk_ext [index8, row]

end Cert.Proof.Indxg

end
-- ==== Proof.Indxg.Value.lean ====
/- Hand-written, untrusted: THE VALUES OF THE FIRST HALF STEP'S LAST BACKWARD KERNEL, on extended reals: its four result arrays
   are the reference's (`final_dx`, `final_pre`, `final_e` on real arguments, `final_gain` on any). -/
module

public import proofs.«01_k».proof.Proof.Indxg.Arrays
public import proofs.«01_k».proof.Proof.Gen.ReferenceIndxgIdeal.Read

@[expose] public section

noncomputable section

namespace Cert.Proof.Indxg

open Cert.KernelIndxgIdeal Cert.KernelIndxgIdeal.Gen Idealize.ShloMosaic Idealize.ShloMosaic.TcCoe Idealize.SL.Sem
open Cert.Proof.Tools Cert.Proof.Rms Cert.ReferenceIndxgIdeal.Read

/-- An argument array on one device. -/
local notation "arg[" m ", " c ", " a "]" => m (Thread.loc (c : Thread nD τ) a)

section Block

variable (b0 : Vec Ideal S512x2816 .bf16) (b1 : Vec Ideal S512x2816 .bf16) (b2 : Vec Ideal S1x1024x2816 .bf16) (b3 : Vec Ideal S1x1024x2816 .bf16) (b4 : Vec Ideal S512x1024 .f32) (b5 : Vec Ideal S1x1024 .f32) (b6 : Vec Ideal S512x1024 .f32)

/-- A block of the kernel's gradient, element by element. -/
theorem block_dx (r : Fin 512) (l : Fin 1024) :
    k0_pay7 b6 (k0_pay4 b0 b1 b2 b3 b4 b5) (k0_pay5 b4) (k0_pay6 b0 b1 b2 b3 b4 b5) (ix2 r l)
      = kernelGrad (fun k => b4 (ix2 r k)) (fun k => (∑ x, b0 (ix2 r x) * b2 (ix3 0 k x) + ∑ x, b1 (ix2 r x) * b3 (ix3 0 k x)) * b5 (ix2 0 k)) (b6 (ix2 r l)) l := by
  simp only [k0_pay7, k0_pay1, k0_pay2, k0_pay3, k0_pay4, k0_pay5, k0_pay6]
  pointwise

/-- A block's part of the gain's gradient. -/
theorem block_gain (l : Fin 1024) :
    k0_pay8 (k0_pay1 b0 b1 b2 b3) b4 (k0_pay2 b4) (ix2 0 l) = ∑ r, (∑ x, b0 (ix2 r x) * b2 (ix3 0 l x) + ∑ x, b1 (ix2 r x) * b3 (ix3 0 l x)) * (b4 (ix2 r l) * rs (fun k => b4 (ix2 r k))) := by
  simp only [k0_pay8, k0_pay1, k0_pay2]
  pointwise

/-- Adding a block's part to the sum so far. -/
theorem add_gain (y : Vec Ideal S1x1024 .f32) (l : Fin 1024) :
    k0_pay12 (k0_pay1 b0 b1 b2 b3) b4 (k0_pay2 b4) y (ix2 0 l) = y (ix2 0 l) + k0_pay8 (k0_pay1 b0 b1 b2 b3) b4 (k0_pay2 b4) (ix2 0 l) := by
  simp only [k0_pay12]
  pointwise

end Block

/-- The gate: one over one plus the exponential of minus its argument. -/
def gate (x : EReal) : EReal := Ideal.div 1 (1 + Ideal.exp (-x))

section Gate

variable (b6 b7 b8 : Vec Ideal S512x1024 .f32) (p q s : FVec Ideal S512x1024 .f32) (r : Fin 512) (l : Fin 1024)

/-- The kernel's gate. -/
theorem block_gate : (k0_pay9 b8 (ix2 r l) : EReal) = gate (b8 (ix2 r l)) := by
  unfold gate k0_pay9
  pointwise
  simp only [zero_sub]

/-- The cotangent of the gate's argument, from the gradient of the same rows. -/
theorem block_pre : (k0_pay10 b6 b7 b8 p q s (ix2 r l) : EReal)
    = (k0_pay7 b6 p q s (ix2 r l) : EReal) * b7 (ix2 r l) * gate (b8 (ix2 r l)) * (1 - gate (b8 (ix2 r l))) := by
  rw [← block_gate]
  unfold k0_pay10
  pointwise

/-- The cotangent of what the gate multiplies. -/
theorem block_e : (k0_pay11 b6 b8 p q s (ix2 r l) : EReal)
    = (k0_pay7 b6 p q s (ix2 r l) : EReal) * gate (b8 (ix2 r l)) := by
  rw [← block_gate]
  unfold k0_pay11
  pointwise

end Gate

/-- The norm's cotangent at one element, through the two halves of the weight. -/
def cot (x2 : Vec Ideal S1024x5632 .f32) (x3 : Vec Ideal S8192x2816 .bf16) (x4 : Vec Ideal S8192x2816 .bf16) (r : Fin 8192) (k : Fin 1024) : EReal :=
  ∑ x, x3 (ix2 r x) * x2 (ix2 k ⟨x.val, by omega⟩) + ∑ x, x4 (ix2 r x) * x2 (ix2 k ⟨2816 + x.val, by omega⟩)

/-- The same as differentiation of the forward line gives it. -/
def cot' (x2 : Vec Ideal S1024x5632 .f32) (x3 x4 : Vec Ideal S8192x2816 .bf16) (r : Fin 8192) (k : Fin 1024) : EReal :=
  ∑ x : Fin 2816, x4 (ix2 r x) * x2 (ix2 k ⟨2816 + x.val, by omega⟩) + ∑ x : Fin 2816, x3 (ix2 r x) * x2 (ix2 k ⟨x.val, by omega⟩)

theorem cot_eq (x2 : Vec Ideal S1024x5632 .f32) (x3 x4 : Vec Ideal S8192x2816 .bf16) (r : Fin 8192) (k : Fin 1024) :
    cot x2 x3 x4 r k = cot' x2 x3 x4 r k := add_comm _ _

section Reference

variable (x0 : Vec Ideal S8192x1024 .f32) (x1 : Vec Ideal S1024 .f32) (x2 : Vec Ideal S1024x5632 .f32) (x3 : Vec Ideal S8192x2816 .bf16) (x4 : Vec Ideal S8192x2816 .bf16) (x5 : Vec Ideal S8192x1024 .f32)

/-- The reference's gradient, element by element. -/
theorem reference_dx (r : Fin 8192) (l : Fin 1024) :
    val_main_v45 (F := Ideal) x0 x1 x2 x3 x4 x5 (ix2 r l)
      = referenceGrad (fun k => x0 (ix2 r k)) (fun k => cot x2 x3 x4 r k * x1 (ix1 k)) (x5 (ix2 r l)) l := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_v20, val_main_v21, val_main_v22, val_main_v23, val_main_v24, val_main_v25, val_main_cst_3,
      val_main_v26, val_main_v27, val_main_v28, val_main_v29, val_main_cst_4, val_main_v30, val_main_v31,
      val_main_cst_5, val_main_v32, val_main_v33, val_main_v34, val_main_v35, val_main_v36, val_main_v37,
      val_main_cst_6, val_main_v38, val_main_v39, val_main_cst_7, val_main_v40, val_main_v41, val_main_v42,
      val_main_v43, val_main_v44, val_main_v45, val_main_v46, val_main_v47, val_main_cst_8, val_main_v48,
      val_main_v49, val_main_cst_9, val_main_v50, val_main_v51, val_main_cst_10, val_main_v52, val_main_v53,
      val_main_v54, val_main_v55, val_main_v56, val_main_v57, val_main_v58, val_main_v59, val_main_v60, val_main_v61]

/-- The reference's gradient of the gain. -/
theorem reference_gain (l : Fin 1024) :
    val_main_v61 (F := Ideal) x0 x2 x3 x4 (ix2 0 l) = ∑ r, cot x2 x3 x4 r l * (x0 (ix2 r l) * rs (fun k => x0 (ix2 r k))) := by
  simp only [cot_eq]
  simp only [cot']
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_v18, val_main_v19,
      val_main_v20, val_main_v21, val_main_v22, val_main_v23, val_main_v24, val_main_v25, val_main_cst_3,
      val_main_v26, val_main_v27, val_main_v28, val_main_v29, val_main_cst_4, val_main_v30, val_main_v31,
      val_main_cst_5, val_main_v32, val_main_v33, val_main_v34, val_main_v35, val_main_v36, val_main_v37,
      val_main_cst_6, val_main_v38, val_main_v39, val_main_cst_7, val_main_v40, val_main_v41, val_main_v42,
      val_main_v43, val_main_v44, val_main_v45, val_main_v46, val_main_v47, val_main_cst_8, val_main_v48,
      val_main_v49, val_main_cst_9, val_main_v50, val_main_v51, val_main_cst_10, val_main_v52, val_main_v53,
      val_main_v54, val_main_v55, val_main_v56, val_main_v57, val_main_v58, val_main_v59, val_main_v60, val_main_v61]
  rw [Finset.univ_unique, Finset.sum_singleton]
  exact Finset.sum_congr rfl fun r _ => mul_comm _ _

variable (t : Fin cfg0.N) (b0 : Vec Ideal S512x2816 .bf16) (b1 : Vec Ideal S512x2816 .bf16) (b2 : Vec Ideal S1x1024x2816 .bf16) (b3 : Vec Ideal S1x1024x2816 .bf16) (b4 : Vec Ideal S512x1024 .f32) (b5 : Vec Ideal S1x1024 .f32) (b6 : Vec Ideal S512x1024 .f32)

/-- The kernel's gradient of one block of rows is the reference's at those rows. -/
theorem rows_dx (h0 : ∀ i, IsR (x0 i)) (h1 : ∀ i, IsR (x1 i)) (h2 : ∀ i, IsR (x2 i)) (h3 : ∀ i, IsR (x3 i)) (h4 : ∀ i, IsR (x4 i))
    (e0 : ∀ r l, b0 (ix2 r l) = x3 (ix2 (row t r) l)) (e1 : ∀ r l, b1 (ix2 r l) = x4 (ix2 (row t r) l)) (e2 : ∀ k l, b2 (ix3 0 k l) = x2 (ix2 k ⟨l.val, by omega⟩)) (e3 : ∀ k l, b3 (ix3 0 k l) = x2 (ix2 k ⟨2816 + l.val, by omega⟩)) (e4 : ∀ r l, b4 (ix2 r l) = x0 (ix2 (row t r) l)) (e5 : ∀ l, b5 (ix2 0 l) = x1 (ix1 l)) (e6 : ∀ r l, b6 (ix2 r l) = x5 (ix2 (row t r) l)) (r : Fin 512) (l : Fin 1024) :
    k0_pay7 b6 (k0_pay4 b0 b1 b2 b3 b4 b5) (k0_pay5 b4) (k0_pay6 b0 b1 b2 b3 b4 b5) (ix2 r l) = val_main_v45 (F := Ideal) x0 x1 x2 x3 x4 x5 (ix2 (row t r) l) := by
  rw [reference_dx, block_dx]
  simp only [e0, e1, e2, e3, e4, e5, e6]
  exact grad_eq (fun k => x0 (ix2 (row t r) k)) (fun k => cot x2 x3 x4 (row t r) k * x1 (ix1 k))
    (fun _ => h0 _) (fun _ => ((IsR.sum fun _ => (h3 _).mul (h2 _)).add (IsR.sum fun _ => (h4 _).mul (h2 _))).mul (h1 _)) (x5 (ix2 (row t r) l)) l

/-- One row's term of the gain's gradient. -/
def term (l : Fin 1024) (r : Fin 8192) : EReal := cot x2 x3 x4 r l * (x0 (ix2 r l) * rs (fun k => x0 (ix2 r k)))

/-- A block's part of the gain's gradient: its rows' terms. -/
theorem rows_gain (e0 : ∀ r l, b0 (ix2 r l) = x3 (ix2 (row t r) l)) (e1 : ∀ r l, b1 (ix2 r l) = x4 (ix2 (row t r) l)) (e2 : ∀ k l, b2 (ix3 0 k l) = x2 (ix2 k ⟨l.val, by omega⟩)) (e3 : ∀ k l, b3 (ix3 0 k l) = x2 (ix2 k ⟨2816 + l.val, by omega⟩)) (e4 : ∀ r l, b4 (ix2 r l) = x0 (ix2 (row t r) l)) (l : Fin 1024) :
    k0_pay8 (k0_pay1 b0 b1 b2 b3) b4 (k0_pay2 b4) (ix2 0 l) = ∑ r : Fin 512, term x0 x2 x3 x4 l (row t r) := by
  rw [block_gain]
  simp only [e0, e1, e2, e3, e4]
  rfl

variable (x6 x7 : Vec Ideal S8192x1024 .f32)

/-- The reference's gate. -/
theorem reference_gate (r : Fin 8192) (l : Fin 1024) : (val_main_v51 (F := Ideal) x7 (ix2 r l) : EReal) = gate (x7 (ix2 r l)) := by
  unfold gate
  pointwise [val_main_v46, val_main_v47, val_main_cst_8, val_main_v48, val_main_v49, val_main_cst_9, val_main_v50, val_main_v51]

/-- The reference's cotangent of the gate's argument, from its gradient of the same row. -/
theorem reference_pre (r : Fin 8192) (l : Fin 1024) : (val_main_v59 (F := Ideal) x0 x1 x2 x3 x4 x5 x6 x7 (ix2 r l) : EReal)
    = (val_main_v45 (F := Ideal) x0 x1 x2 x3 x4 x5 (ix2 r l) : EReal) * x6 (ix2 r l) * (gate (x7 (ix2 r l)) * (1 - gate (x7 (ix2 r l)))) := by
  rw [← reference_gate]
  pointwise [val_main_cst_10, val_main_v52, val_main_v53, val_main_v54, val_main_v57, val_main_v58, val_main_v59]

/-- The reference's cotangent of what the gate multiplies. -/
theorem reference_e (r : Fin 8192) (l : Fin 1024) : (val_main_v60 (F := Ideal) x0 x1 x2 x3 x4 x5 x7 (ix2 r l) : EReal)
    = gate (x7 (ix2 r l)) * (val_main_v45 (F := Ideal) x0 x1 x2 x3 x4 x5 (ix2 r l) : EReal) := by
  rw [← reference_gate]
  pointwise [val_main_v56, val_main_v60]

end Reference

variable (m : (ℓ : Loc nD τ sig) → Buf (Elt Ideal) ℓ) (c : Dev nD)

/-- What any point leaves in the gradient's window. -/
theorem outs_dx (t : Fin cfg0.N) :
    (outsAt0 m c t.val t.isLt).1 = k0_pay7 (iblk m c 6 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)) := by
  have hN : cfg0.N = 16 := N_0
  have := t.isLt
  by_cases h : t.val % 16 = 0
  · rw [outs_first m c t h (by omega)]
  · rw [outs_next m c t h (by omega)]

/-- The gradient's array after the run is the reference's. -/
theorem final_dx (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 9 cfg0.N = val_main_v45 (F := Ideal) arg[m, c, main_arg0] arg[m, c, main_arg1] arg[m, c, main_arg2] arg[m, c, main_arg3] arg[m, c, main_arg4] arg[m, c, main_arg5] := by
  refine (dats m 0 c).arrAt_eq_of_covers 9 _ (by decide +kernel) fun t hf y => ?_
  blk_simp
  rw [after0_9, outs_dx]
  obtain ⟨r, l, rfl⟩ : ∃ (r : Fin 512) (l : Fin 1024), y = ix2 r l := ⟨_, _, eq_ix2 (n0 := 512) (n1 := 1024) y⟩
  have e : (win0_9.blk t).view.emb (ix2 r l) = ix2 (row t r) l := by blk_ext [index9, row]
  rw [e]
  exact rows_dx _ _ _ _ _ _ t _ _ _ _ _ _ _ h0 h1 h2 h3 h4 (iblk0_apply m c t) (iblk1_apply m c t) (iblk2_apply m c t) (iblk3_apply m c t) (iblk4_apply m c t) (iblk5_apply m c t) (iblk6_apply m c t) r l

/-- What any point leaves in the window of the cotangent of the gate's argument. -/
theorem outs_pre (t : Fin cfg0.N) :
    (outsAt0 m c t.val t.isLt).2.1 = k0_pay10 (iblk m c 6 t) (iblk m c 7 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)) := by
  have hN : cfg0.N = 16 := N_0
  have := t.isLt
  by_cases h : t.val % 16 = 0
  · rw [outs_first m c t h (by omega)]
  · rw [outs_next m c t h (by omega)]

/-- The array of the cotangent of the gate's argument after the run is the reference's. -/
theorem final_pre (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 10 cfg0.N = val_main_v59 (F := Ideal) arg[m, c, main_arg0] arg[m, c, main_arg1] arg[m, c, main_arg2] arg[m, c, main_arg3] arg[m, c, main_arg4] arg[m, c, main_arg5] arg[m, c, main_arg6] arg[m, c, main_arg7] := by
  refine (dats m 0 c).arrAt_eq_of_covers 10 _ (by decide +kernel) fun t hf y => ?_
  blk_simp
  rw [after0_10, outs_pre]
  obtain ⟨r, l, rfl⟩ : ∃ (r : Fin 512) (l : Fin 1024), y = ix2 r l := ⟨_, _, eq_ix2 (n0 := 512) (n1 := 1024) y⟩
  have e : (win0_10.blk t).view.emb (ix2 r l) = ix2 (row t r) l := by blk_ext [index10, row]
  rw [e]
  have d := rows_dx _ _ _ _ _ _ t _ _ _ _ _ _ _ h0 h1 h2 h3 h4 (iblk0_apply m c t) (iblk1_apply m c t) (iblk2_apply m c t) (iblk3_apply m c t) (iblk4_apply m c t) (iblk5_apply m c t) (iblk6_apply m c t) r l
  refine (block_pre _ _ _ _ _ _ r l).trans (Eq.trans ?_ (reference_pre _ _ _ _ _ _ _ _ (row t r) l).symm)
  rw [d, iblk7_apply, iblk8_apply, mul_assoc _ (gate _) _]

/-- What any point leaves in the window of the cotangent of what the gate multiplies. -/
theorem outs_e (t : Fin cfg0.N) :
    (outsAt0 m c t.val t.isLt).2.2.1 = k0_pay11 (iblk m c 6 t) (iblk m c 8 t) (k0_pay4 (iblk m c 0 t) (iblk m c 1 t) (iblk m c 2 t) (iblk m c 3 t) (iblk m c 4 t) (iblk m c 5 t)) (k0_pay5 (iblk m c 4 t)) (k0_pay6 (iblk m c 0 t) (iblk m c 1 t) (iblk m c 2 t) (iblk m c 3 t) (iblk m c 4 t) (iblk m c 5 t)) := by
  have hN : cfg0.N = 16 := N_0
  have := t.isLt
  by_cases h : t.val % 16 = 0
  · rw [outs_first m c t h (by omega)]
  · rw [outs_next m c t h (by omega)]

/-- The array of the cotangent of what the gate multiplies after the run is the reference's. -/
theorem final_e (h0 : ∀ i, IsR (m ((c : Thread nD τ).loc main_arg0) i)) (h1 : ∀ i, IsR (m ((c : Thread nD τ).loc main_arg1) i)) (h2 : ∀ i, IsR (m ((c : Thread nD τ).loc main_arg2) i)) (h3 : ∀ i, IsR (m ((c : Thread nD τ).loc main_arg3) i)) (h4 : ∀ i, IsR (m ((c : Thread nD τ).loc main_arg4) i)) :
    (dats m 0 c).arrAt 11 cfg0.N = val_main_v60 (F := Ideal) arg[m, c, main_arg0] arg[m, c, main_arg1] arg[m, c, main_arg2] arg[m, c, main_arg3] arg[m, c, main_arg4] arg[m, c, main_arg5] arg[m, c, main_arg7] := by
  refine (dats m 0 c).arrAt_eq_of_covers 11 _ (by decide +kernel) fun t hf y => ?_
  blk_simp
  rw [after0_11, outs_e]
  obtain ⟨r, l, rfl⟩ : ∃ (r : Fin 512) (l : Fin 1024), y = ix2 r l := ⟨_, _, eq_ix2 (n0 := 512) (n1 := 1024) y⟩
  have e : (win0_11.blk t).view.emb (ix2 r l) = ix2 (row t r) l := by blk_ext [index11, row]
  rw [e]
  have d := rows_dx _ _ _ _ _ _ t _ _ _ _ _ _ _ h0 h1 h2 h3 h4 (iblk0_apply m c t) (iblk1_apply m c t) (iblk2_apply m c t) (iblk3_apply m c t) (iblk4_apply m c t) (iblk5_apply m c t) (iblk6_apply m c t) r l
  refine (block_e _ _ _ _ _ r l).trans (Eq.trans ?_ (reference_e _ _ _ _ _ _ _ (row t r) l).symm)
  rw [d, iblk8_apply, mul_comm]

/-- One row's term, of the arguments as the run finds them. -/
abbrev term' (l : Fin 1024) : Fin 8192 → EReal :=
  term arg[m, c, main_arg0] arg[m, c, main_arg2] arg[m, c, main_arg3] arg[m, c, main_arg4] l

/-- A point's part of the gain's gradient. -/
theorem point_gain (t : Fin cfg0.N) (l : Fin 1024) : k0_pay8 (k0_pay1 (iblk m c 0 t) (iblk m c 1 t) (iblk m c 2 t) (iblk m c 3 t)) (iblk m c 4 t) (k0_pay2 (iblk m c 4 t)) (ix2 0 l) = ∑ r : Fin 512, term' m c l (row t r) :=
  rows_gain _ _ _ _ t _ _ _ _ _ (iblk0_apply m c t) (iblk1_apply m c t) (iblk2_apply m c t) (iblk3_apply m c t) (iblk4_apply m c t) l

/-- What point `n` leaves in the gain's window: the terms of all rows up to the point's. -/
theorem outs_gain (l : Fin 1024) : ∀ (n : ℕ) (h : n < cfg0.N),
    (outsAt0 m c n h).2.2.2 (ix2 0 l) = ∑ i ∈ Finset.range (512 * (n + 1)), ext (term' m c l) i
  | 0, h => by
    have e := outs_first m c ⟨0, h⟩ rfl (by simp)
    dsimp only at e
    rw [e, sum_block_zero (term' m c l) 512 (by omega)]
    exact point_gain m c ⟨0, h⟩ l
  | n + 1, h => by
    have hN : cfg0.N = 16 := N_0
    have e := outs_next m c ⟨n + 1, h⟩ (by dsimp only; omega) (by simp)
    dsimp only [Nat.add_sub_cancel] at e
    rw [e, sum_block (term' m c l) 512 (n + 1) (by omega), ← outs_gain l n (by omega)]
    exact (add_gain _ _ _ _ _ _ l).trans (congrArg _ (point_gain m c ⟨n + 1, h⟩ l))

/-- The last point. -/
abbrev last : Fin cfg0.N := ⟨15, by decide⟩

/-- The gain's gradient after the run is the reference's. -/
theorem final_gain :
    (dats m 0 c).arrAt 12 cfg0.N = val_main_v61 (F := Ideal) arg[m, c, main_arg0] arg[m, c, main_arg2] arg[m, c, main_arg3] arg[m, c, main_arg4] := by
  refine (dats m 0 c).arrAt_eq_of_after_last 12 last (by decide +kernel) _ fun y => ?_
  obtain ⟨i, l, rfl⟩ : ∃ (i : Fin 1) (l : Fin 1024), y = ix2 i l := ⟨_, _, eq_ix2 (n0 := 1) (n1 := 1024) y⟩
  obtain rfl : i = 0 := Subsingleton.elim _ _
  have e : (dats m 0 c).after 12 last (ix2 0 l) = ∑ i, term' m c l i := by
    rw [after0_12, outs_gain]
    exact sum_ext (term' m c l)
  exact e.trans (reference_gain _ _ _ _ l).symm

end Cert.Proof.Indxg

end
-- ==== Proof.Indxg.Claim.lean ====
/- Hand-written, untrusted: THE CLAIM ABOUT THE FIRST HALF STEP'S LAST BACKWARD KERNEL. The precondition makes the arguments that meet in a
   product's subtraction real numbers; then all four result arrays are the reference's (Indxg/Value.lean). -/
module

public import proofs.«01_k».proof.Defs
public import proofs.«01_k».proof.Proof.Indxg.Value
public import proofs.«01_k».proof.Proof.Gen.KernelIndxg.Frame
public import proofs.«01_k».proof.Proof.Gen.Pre_indxg_finite

@[expose] public section

noncomputable section

namespace Cert.Proof.Indxg

open Idealize.ShloMosaic Idealize.ShloMosaic.TcCoe Idealize.SL.Sem
open Cert.Proof.Tools
open Cert.KernelIndxgIdeal (main_arg0 main_arg1 main_arg2 main_arg3 main_arg4 main_arg5 main_arg6 main_arg7)

/-- A kernel's argument array on one device. -/
local notation "arg[" m ", " c ", " a "]" => m (Thread.loc (Dev.tc c : Thread Cert.KernelIndxgIdeal.nD Cert.KernelIndxgIdeal.τ) a)

/-- The reference's run leaves its arguments as they were; it has no semaphore. -/
theorem frame_reference : Cert.quiescent_ReferenceIndxgIdeal (hReferenceIndxgIdeal := Cert.ReferenceIndxgIdeal.Gen.facts) := fun m g _ =>
  (θ_run Cert.ReferenceIndxgIdeal.defs _ _).mono (fun r h => ⟨fun c => (h c).2.2.2.2, sem_eq_zero_of_no_sems (by decide) r.2⟩)
    (Cert.ReferenceIndxgIdeal.Value.run (F := Ideal) m g)

/-- The two programs end at the same arrays. -/
theorem algebraic : Cert.algebraic_KernelIndxgIdeal_ReferenceIndxgIdeal_pre_indxg_finite (hKernelIndxgIdeal := Cert.KernelIndxgIdeal.Gen.facts)
    (hReferenceIndxgIdeal := Cert.ReferenceIndxgIdeal.Gen.facts) (hPre_indxg_finite := Cert.Pre_indxg_finite.Gen.facts) := by
  intro m g m' g' hpre hagree
  refine ⟨_, _, _, _, Cert.KernelIndxgIdeal.Value.run_blocks (F := Ideal) m g, ?_⟩
  refine (θ_run Cert.ReferenceIndxgIdeal.defs _ _).mono (fun r h c => ?_) (Cert.ReferenceIndxgIdeal.Value.run (F := Ideal) m' g')
  obtain ⟨a0, a1, a2, a3, a4, a5, a6, a7⟩ := hagree c
  obtain ⟨p0, p1, p2, p3, p4⟩ := hpre c
  have h0 : ∀ i, IsR (arg[m, c, main_arg0] i) := isR_of_test _ _ (fun _ => inf_word) p0
  have h1 : ∀ i, IsR (arg[m, c, main_arg1] i) := isR_of_test _ _ (fun _ => inf_word) p1
  have h2 : ∀ i, IsR (arg[m, c, main_arg2] i) := isR_of_test _ _ (fun _ => inf_word) p2
  have h3 : ∀ i, IsR (arg[m, c, main_arg3] i) := isR_of_test _ _ (fun _ => inf_word) p3
  have h4 : ∀ i, IsR (arg[m, c, main_arg4] i) := isR_of_test _ _ (fun _ => inf_word) p4
  obtain ⟨v0, v1, v2, v3, hrest⟩ := h c
  refine ⟨(v0.trans (?_ : _ = Cert.ReferenceIndxgIdeal.Read.val_main_v45 (F := Ideal) arg[m, c, main_arg0] arg[m, c, main_arg1] arg[m, c, main_arg2] arg[m, c, main_arg3] arg[m, c, main_arg4] arg[m, c, main_arg5])).trans (final_dx m c h0 h1 h2 h3 h4).symm, (v1.trans (?_ : _ = Cert.ReferenceIndxgIdeal.Read.val_main_v59 (F := Ideal) arg[m, c, main_arg0] arg[m, c, main_arg1] arg[m, c, main_arg2] arg[m, c, main_arg3] arg[m, c, main_arg4] arg[m, c, main_arg5] arg[m, c, main_arg6] arg[m, c, main_arg7])).trans (final_pre m c h0 h1 h2 h3 h4).symm, (v2.trans (?_ : _ = Cert.ReferenceIndxgIdeal.Read.val_main_v60 (F := Ideal) arg[m, c, main_arg0] arg[m, c, main_arg1] arg[m, c, main_arg2] arg[m, c, main_arg3] arg[m, c, main_arg4] arg[m, c, main_arg5] arg[m, c, main_arg7])).trans (final_e m c h0 h1 h2 h3 h4).symm, (v3.trans (?_ : _ = Cert.ReferenceIndxgIdeal.Read.val_main_v61 (F := Ideal) arg[m, c, main_arg0] arg[m, c, main_arg2] arg[m, c, main_arg3] arg[m, c, main_arg4])).trans (final_gain m c).symm, hrest⟩
  · rw [← a0, ← a1, ← a2, ← a3, ← a4, ← a5]
    first | exact Cert.ReferenceIndxgIdeal.Read.val_main_v45_eq m' c | exact Cert.ReferenceIndxgIdeal.Read.val_main_v45_eq _ _ _ _ _ _
  · rw [← a0, ← a1, ← a2, ← a3, ← a4, ← a5, ← a6, ← a7]
    first | exact Cert.ReferenceIndxgIdeal.Read.val_main_v59_eq m' c | exact Cert.ReferenceIndxgIdeal.Read.val_main_v59_eq _ _ _ _ _ _ _ _
  · rw [← a0, ← a1, ← a2, ← a3, ← a4, ← a5, ← a7]
    first | exact Cert.ReferenceIndxgIdeal.Read.val_main_v60_eq m' c | exact Cert.ReferenceIndxgIdeal.Read.val_main_v60_eq _ _ _ _ _ _ _
  · rw [← a0, ← a2, ← a3, ← a4]
    first | exact Cert.ReferenceIndxgIdeal.Read.val_main_v61_eq m' c | exact Cert.ReferenceIndxgIdeal.Read.val_main_v61_eq _ _ _ _

end Cert.Proof.Indxg

end
-- ==== Proof.Budx.Arrays.lean ====
/- Hand-written, untrusted: WHAT THE INPUT MATRICES' BACKWARD KERNEL READS, on extended reals: the two block diagonal
   matrices that the host lays out (`dense_re`, `dense_im`), and what each input window holds at a grid point. -/
module

public import proofs.«01_k».proof.Proof.Rms
public import proofs.«01_k».proof.Proof.Gen.KernelBudxIdeal.Value
public import Idealize.ShloMosaic.Lib.Pipeline.ValueKit.Geometry
public import Idealize.ShloMosaic.Lib.StableHlo.ReadAt

@[expose] public section

noncomputable section

namespace Cert.Proof.Budx

open Cert.KernelBudxIdeal Cert.KernelBudxIdeal.Gen Idealize.ShloMosaic Idealize.ShloMosaic.TcCoe Idealize.SL.Sem
open Cert.Proof.Tools

/-! ### The block diagonal matrices -/

/-- The sign of a signed word. -/
def sgn (x : BitVec 32) : BitVec 32 := if x = 0 then 0 else if x.msb = true then -1 else 1

/-- The floor of a signed quotient, as the host computes it. -/
def fdiv (x d : BitVec 32) : BitVec 32 :=
  Scalar.select (IntOp.andi (IntOp.cmpi CmpIPredicate.ne (sgn x) (sgn d)) (IntOp.cmpi CmpIPredicate.ne (IntOp.remsi ArithUnit.host x d) 0#32))
    (IntOp.subi (IntOp.divsi ArithUnit.host x d) 1#32) (IntOp.divsi ArithUnit.host x d)

/-- A row's group and a column's group. -/
theorem fdiv_row : ∀ a : Fin 512, fdiv (BitVec.ofNat 32 a.val) 16#32 = BitVec.ofNat 32 (a.val / 16) := by decide +kernel
theorem fdiv_col : ∀ k : Fin 2048, fdiv (BitVec.ofNat 32 k.val) 64#32 = BitVec.ofNat 32 (k.val / 64) := by decide +kernel

/-- Two groups compared. -/
theorem same_group : ∀ p q : Fin 32, IntOp.cmpi CmpIPredicate.eq (BitVec.ofNat 32 p.val) (BitVec.ofNat 32 q.val) = if p.val = q.val then 1#1 else 0#1 := by
  decide +kernel

/-- An element of the block diagonal matrix: the weight's, where row and column belong to one group, else zero. -/
def dense (x : Vec Ideal S2048x16 .f32) (a : Fin 512) (k : Fin 2048) : EReal :=
  if a.val / 16 = k.val / 64 then x (ix2 k ⟨a.val % 16, by omega⟩) else 0

/-- The host's choice between a repeated weight and zero is that element. -/
theorem select_dense (x : Vec Ideal S2048x16 .f32) (a : Fin 512) (k : Fin 2048) :
    (Scalar.select (IntOp.cmpi CmpIPredicate.eq (fdiv (BitVec.ofNat 32 a.val) 16#32) (fdiv (BitVec.ofNat 32 k.val) 64#32))
      (x (ix2 ⟨a.val / 16 * 64 + k.val % 64, by omega⟩ ⟨a.val % 16, by omega⟩)) (0 : EReal) : EReal) = dense x a k := by
  have e := same_group ⟨a.val / 16, by omega⟩ ⟨k.val / 64, by omega⟩
  dsimp only at e
  rw [fdiv_row, fdiv_col, e]
  unfold dense
  by_cases h : a.val / 16 = k.val / 64
  · rw [if_pos h, if_pos h]
    have e : (⟨a.val / 16 * 64 + k.val % 64, by omega⟩ : Fin 2048) = k := Fin.ext (by dsimp only; omega)
    rw [e]
    rfl
  · rw [if_neg h, if_neg h]
    rfl

variable (m : (ℓ : Loc nD τ sig) → Buf (Elt Ideal) ℓ)

theorem dense_re (c : Dev nD) (a : Fin 512) (k : Fin 2048) :
    (V m c main_v13 (ix2 a k) : EReal) = dense (m ((c : Thread nD τ).loc main_arg2)) a k := by
  refine Eq.trans ?_ (select_dense _ a k)
  unfold V
  after_reads_at
  rfl

theorem dense_im (c : Dev nD) (a : Fin 512) (k : Fin 2048) :
    (V m c main_v27 (ix2 a k) : EReal) = dense (m ((c : Thread nD τ).loc main_arg3)) a k := by
  refine Eq.trans ?_ (select_dense _ a k)
  unfold V
  after_reads_at
  rfl

/-- The sum over one diagonal block's columns is the sum over the row's own group. -/
theorem sum_dense (x : Vec Ideal S2048x16 .f32) (f : Fin 2048 → EReal) (j : Fin 2) (l : Fin 256) :
    ∑ k : Fin 1024, f ⟨1024 * j.val + k.val, by omega⟩ * dense x ⟨256 * j.val + l.val, by omega⟩ ⟨1024 * j.val + k.val, by omega⟩
      = ∑ p : Fin 64, f ⟨(256 * j.val + l.val) / 16 * 64 + p.val, by omega⟩
          * x (ix2 ⟨(256 * j.val + l.val) / 16 * 64 + p.val, by omega⟩ ⟨(256 * j.val + l.val) % 16, by omega⟩) := by
  refine (Finset.sum_of_injOn (fun p : Fin 64 => (⟨l.val / 16 * 64 + p.val, by omega⟩ : Fin 1024)) ?_ (fun _ _ => Finset.mem_univ _) ?_ ?_).symm
  · intro p _ q _ h
    have := Fin.val_eq_of_eq h
    exact Fin.ext (by dsimp only at this; omega)
  · intro k _ hk
    unfold dense
    rw [if_neg, mul_zero]
    intro h
    dsimp only at h
    exact hk ⟨⟨k.val % 64, by omega⟩, Finset.mem_coe.2 (Finset.mem_univ _), Fin.ext (by dsimp only; omega)⟩
  · intro p _
    unfold dense
    dsimp only
    have e : (256 * j.val + l.val) / 16 * 64 + p.val = 1024 * j.val + (l.val / 16 * 64 + p.val) := by omega
    rw [if_pos (by omega)]
    simp only [e]

/-! ### The windows -/

/-- The block index of each window at each point: row block and column block of the point. -/
theorem index0 : ∀ t : Fin cfg0.N, win0_0.index t = ![t.val / 2, t.val % 2] := (by decide +kernel : ∀ t : Fin grid0.N, _)
theorem index1 : ∀ t : Fin cfg0.N, win0_1.index t = ![t.val / 2, t.val % 2] := (by decide +kernel : ∀ t : Fin grid0.N, _)
theorem index2 : ∀ t : Fin cfg0.N, win0_2.index t = ![t.val % 2, t.val % 2] := (by decide +kernel : ∀ t : Fin grid0.N, _)
theorem index3 : ∀ t : Fin cfg0.N, win0_3.index t = ![t.val % 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![0, t.val % 2] := (by decide +kernel : ∀ t : Fin grid0.N, _)
theorem index6 : ∀ t : Fin cfg0.N, win0_6.index t = ![t.val / 2, t.val % 2] := (by decide +kernel : ∀ t : Fin grid0.N, _)

/-- A point's row of the whole array; its diagonal block; the block's channel and its state. -/
def row (t : Fin cfg0.N) (r : Fin 1024) : Fin 8192 := ⟨1024 * (t.val / 2) + r.val, by have := t.isLt; have : cfg0.N = 16 := N_0; have := r.isLt; omega⟩
def half (t : Fin cfg0.N) : Fin 2 := ⟨t.val % 2, by omega⟩
def chan (j : Fin 2) (l : Fin 256) : Fin 512 := ⟨256 * j.val + l.val, by omega⟩
def state (j : Fin 2) (k : Fin 1024) : Fin 2048 := ⟨1024 * j.val + k.val, by omega⟩

theorem iblk0_apply (c : Dev nD) (t : Fin cfg0.N) (r : Fin 1024) (k : Fin 1024) :
    (iblk m c 0 t : Vec Ideal S1024x1024 .bf16) (ix2 r k) = m ((c : Thread nD τ).loc main_arg0) (ix2 (row t r) (state (half t) k)) := by
  blk_simp [iblk, V_main_arg0]
  refine congrArg _ ?_
  blk_ext [index0, row, state, half]

theorem iblk1_apply (c : Dev nD) (t : Fin cfg0.N) (r : Fin 1024) (k : Fin 1024) :
    (iblk m c 1 t : Vec Ideal S1024x1024 .bf16) (ix2 r k) = m ((c : Thread nD τ).loc main_arg1) (ix2 (row t r) (state (half t) k)) := by
  blk_simp [iblk, V_main_arg1]
  refine congrArg _ ?_
  blk_ext [index1, row, state, half]

theorem iblk2_apply (c : Dev nD) (t : Fin cfg0.N) (l : Fin 256) (k : Fin 1024) :
    ((iblk m c 2 t : Vec Ideal S256x1024 .bf16) (ix2 l k) : EReal) = dense (m ((c : Thread nD τ).loc main_arg2)) (chan (half t) l) (state (half t) k) := by
  refine Eq.trans ?_ (dense_re m c _ _)
  blk_simp [iblk]
  refine congrArg (V m c main_v13) ?_
  blk_ext [index2, chan, state, half]

theorem iblk3_apply (c : Dev nD) (t : Fin cfg0.N) (l : Fin 256) (k : Fin 1024) :
    ((iblk m c 3 t : Vec Ideal S256x1024 .bf16) (ix2 l k) : EReal) = dense (m ((c : Thread nD τ).loc main_arg3)) (chan (half t) l) (state (half t) k) := by
  refine Eq.trans ?_ (dense_im m c _ _)
  blk_simp [iblk]
  refine congrArg (V m c main_v27) ?_
  blk_ext [index3, chan, state, half]

theorem iblk4_apply (c : Dev nD) (t : Fin cfg0.N) (r : Fin 1024) (l : Fin 256) :
    (iblk m c 4 t : Vec Ideal S1024x256 .f32) (ix2 r l) = m ((c : Thread nD τ).loc main_arg4) (ix2 (row t r) (chan (half t) l)) := by
  blk_simp [iblk, V_main_arg4]
  refine congrArg _ ?_
  blk_ext [index4, row, chan, half]

theorem skip_row (c : Dev nD) (l : Fin 512) : V m c main_v28 (ix2 0 l) = m ((c : Thread nD τ).loc main_arg5) (ix1 l) := by
  unfold V
  after_reads_at

theorem iblk5_apply (c : Dev nD) (t : Fin cfg0.N) (l : Fin 256) :
    (iblk m c 5 t : Vec Ideal S1x256 .f32) (ix2 0 l) = m ((c : Thread nD τ).loc main_arg5) (ix1 (chan (half t) l)) := by
  refine Eq.trans ?_ (skip_row m c _)
  blk_simp [iblk]
  refine congrArg (V m c main_v28) ?_
  blk_ext [index5, chan, half]

end Cert.Proof.Budx

end
-- ==== Proof.Budx.Value.lean ====
/- Hand-written, untrusted: THE VALUE OF THE INPUT MATRICES' BACKWARD KERNEL, on extended reals: its result array is the
   reference's (`final`), whatever the arguments hold. -/
module

public import proofs.«01_k».proof.Proof.Budx.Arrays
public import proofs.«01_k».proof.Proof.Gen.ReferenceBudxIdeal.Read

@[expose] public section

noncomputable section

namespace Cert.Proof.Budx

open Cert.KernelBudxIdeal Cert.KernelBudxIdeal.Gen Idealize.ShloMosaic Idealize.ShloMosaic.TcCoe Idealize.SL.Sem
open Cert.Proof.Tools Cert.ReferenceBudxIdeal.Read

/-- An argument array on one device. -/
local notation "arg[" m ", " c ", " a "]" => m (Thread.loc (c : Thread nD τ) a)

/-- One block of the kernel's result, element by element. -/
theorem block (b0 b1 : Vec Ideal S1024x1024 .bf16) (b2 b3 : Vec Ideal S256x1024 .bf16) (b4 : Vec Ideal S1024x256 .f32) (b5 : Vec Ideal S1x256 .f32)
    (r : Fin 1024) (l : Fin 256) :
    (k0_pay1 b0 b1 b2 b3 b4 b5 (ix2 r l) : EReal) = (∑ k, b0 (ix2 r k) * b2 (ix2 l k) + ∑ k, b1 (ix2 r k) * b3 (ix2 l k)) + b5 (ix2 0 l) * b4 (ix2 r l) := by
  simp only [k0_pay1]
  pointwise

/-- One product of the reference: the sum over the states of the channel's own group. -/
def own (g : Vec Ideal S8192x2048 .bf16) (b : Vec Ideal S2048x16 .f32) (r : Fin 8192) (l : Fin 512) : EReal :=
  ∑ p : Fin 64, g (ix2 r ⟨l.val / 16 * 64 + p.val, by omega⟩) * b (ix2 ⟨l.val / 16 * 64 + p.val, by omega⟩ ⟨l.val % 16, by omega⟩)

/-- The reference, element by element. -/
theorem reference (x0 x1 : Vec Ideal S8192x2048 .bf16) (x2 x3 : Vec Ideal S2048x16 .f32) (x4 : Vec Ideal S8192x512 .f32) (x5 : Vec Ideal S512 .f32)
    (r : Fin 8192) (l : Fin 512) :
    (val_main_v25 (F := Ideal) x0 x1 x2 x3 x4 x5 (ix2 r l) : EReal) = own x0 x2 r l + own x1 x3 r l + x5 (ix1 l) * x4 (ix2 r l) := by
  rw [add_comm (own x0 x2 r l), add_comm (_ + _)]
  unfold own
  pointwise [val_main_v0, val_main_v1, val_main_v2, val_main_v3, val_main_v4, val_main_v5, val_main_cst, val_main_v6,
      val_main_v7, val_main_v8, val_main_v9, val_main_v10, val_main_v11, val_main_v12, val_main_v13, val_main_v14,
      val_main_v15, val_main_v16, val_main_v17, val_main_v18, val_main_v19, val_main_v20, val_main_v21, val_main_v22,
      val_main_v23, val_main_v24, val_main_v25]

variable (m : (ℓ : Loc nD τ sig) → Buf (Elt Ideal) ℓ) (c : Dev nD)

/-- The result array after the run is the reference's. -/
theorem final :
    (dats m 0 c).arrAt 6 cfg0.N = val_main_v25 (F := Ideal) arg[m, c, main_arg0] arg[m, c, main_arg1] arg[m, c, main_arg2] arg[m, c, main_arg3] arg[m, c, main_arg4] arg[m, c, main_arg5] := by
  refine (dats m 0 c).arrAt_eq_of_covers 6 _ (by decide +kernel) fun t hf y => ?_
  blk_simp
  rw [after0_6]
  unfold out0_6
  rw [View.canon_unit_zero (S := S1024x256) hz2]
  simp only [View.ld_unit_zero (S := S1024x1024) hz2, View.ld_unit_zero (S := S256x1024) hz2, View.ld_unit_zero (S := S1024x256) hz2, View.ld_unit_zero (S := S1x256) hz2]
  obtain ⟨r, l, rfl⟩ : ∃ (r : Fin 1024) (l : Fin 256), y = ix2 r l := ⟨_, _, eq_ix2 (n0 := 1024) (n1 := 256) y⟩
  have e : (win0_6.blk t).view.emb (ix2 r l) = ix2 (row t r) (chan (half t) l) := by blk_ext [index6, row, chan, half]
  rw [e]
  refine (block _ _ _ _ _ _ r l).trans (Eq.trans ?_ (reference _ _ _ _ _ _ _ _).symm)
  simp only [iblk0_apply, iblk1_apply, iblk2_apply, iblk3_apply, iblk4_apply, iblk5_apply]
  exact congrArg₂ (fun a b : EReal => a + b) (congrArg₂ (fun a b : EReal => a + b)
    (sum_dense _ (fun k => m ((c : Thread nD τ).loc main_arg0) (ix2 (row t r) k)) (half t) l)
    (sum_dense _ (fun k => m ((c : Thread nD τ).loc main_arg1) (ix2 (row t r) k)) (half t) l)) rfl

end Cert.Proof.Budx

end
-- ==== Proof.Budx.Claim.lean ====
/- Hand-written, untrusted: THE CLAIM ABOUT THE INPUT MATRICES' BACKWARD KERNEL: its result array is the reference's (Budx/Value.lean). -/
module

public import proofs.«01_k».proof.Defs
public import proofs.«01_k».proof.Proof.Budx.Value
public import proofs.«01_k».proof.Proof.Gen.KernelBudx.Frame

@[expose] public section

noncomputable section

namespace Cert.Proof.Budx

open Idealize.ShloMosaic Idealize.ShloMosaic.TcCoe Idealize.SL.Sem
open Cert.KernelBudxIdeal (main_arg0 main_arg1 main_arg2 main_arg3 main_arg4 main_arg5)

/-- A kernel's argument array on one device. -/
local notation "arg[" m ", " c ", " a "]" => m (Thread.loc (Dev.tc c : Thread Cert.KernelBudxIdeal.nD Cert.KernelBudxIdeal.τ) a)

/-- The reference's run leaves its arguments as they were; it has no semaphore. -/
theorem frame_reference : Cert.quiescent_ReferenceBudxIdeal (hReferenceBudxIdeal := Cert.ReferenceBudxIdeal.Gen.facts) := fun m g _ =>
  (θ_run Cert.ReferenceBudxIdeal.defs _ _).mono (fun r h => ⟨fun c => (h c).2, sem_eq_zero_of_no_sems (by decide) r.2⟩)
    (Cert.ReferenceBudxIdeal.Value.run (F := Ideal) m g)

/-- The two programs end at the same arrays. -/
theorem algebraic : Cert.algebraic_KernelBudxIdeal_ReferenceBudxIdeal (hKernelBudxIdeal := Cert.KernelBudxIdeal.Gen.facts)
    (hReferenceBudxIdeal := Cert.ReferenceBudxIdeal.Gen.facts) := by
  intro m g m' g' _ hagree
  refine ⟨_, Cert.KernelBudxIdeal.Value.run_blocks (F := Ideal) m g, ?_⟩
  refine (θ_run Cert.ReferenceBudxIdeal.defs _ _).mono (fun r h c => ?_) (Cert.ReferenceBudxIdeal.Value.run (F := Ideal) m' g')
  obtain ⟨a0, a1, a2, a3, a4, a5⟩ := hagree c
  obtain ⟨v0, hrest⟩ := h c
  refine ⟨(v0.trans (?_ : _ = Cert.ReferenceBudxIdeal.Read.val_main_v25 (F := Ideal) arg[m, c, main_arg0] arg[m, c, main_arg1] arg[m, c, main_arg2] arg[m, c, main_arg3] arg[m, c, main_arg4] arg[m, c, main_arg5])).trans (final m c).symm, hrest⟩
  · rw [← a0, ← a1, ← a2, ← a3, ← a4, ← a5]
    first | exact Cert.ReferenceBudxIdeal.Read.val_main_v25_eq m' c | exact Cert.ReferenceBudxIdeal.Read.val_main_v25_eq _ _ _ _ _ _

end Cert.Proof.Budx

end
-- ==== Proof.Pool.Sums.lean ====
/- Hand-written, untrusted: running sums along the time axis, and windows as their differences. -/
module

public import proofs.«01_k».proof.Proof.Reals
public import Idealize.ShloMosaic.Lib.Pointwise

@[expose] public section

noncomputable section

namespace Cert.Proof.Pool

open Idealize.ShloMosaic Cert.Proof.Tools Cert.Proof.Rms

/-- A left fold of additions is the first value plus the sum. -/
theorem foldl_add {n : ℕ} (f : Fin n → EReal) (v : EReal) : (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- The host's running sum from the end of the time axis: entry `t` holds the sum of the entries from `t` on. -/
theorem sum_from {B N M C : ℕ} (x : (⟨3, ![B, N, C]⟩ : Shape).Idx → EReal) (init : (⟨0, ![]⟩ : Shape).Idx → EReal)
    (h : (⟨3, ![B, N, C]⟩ : Shape).ReduceWindows ![1, N, 1] ![1, 1, 1] ![0, 0, 0] ![0, M, 0] ⟨3, ![B, N, C]⟩)
    (hu : 0 < (⟨0, ![]⟩ : Shape).numel) (hi : ∀ i, init i = 0) (b : Fin B) (t : Fin N) (c : Fin C) :
    Host.reduceWindowAdd (F := Ideal) (φ := .f32) ![1, N, 1] ![1, 1, 1] ![0, 0, 0] ![0, M, 0] x init h hu (ix3 b t c)
      = ∑ s : Fin N, if hs : t.val + s.val < N then x (ix3 b ⟨t.val + s.val, hs⟩ c) else 0 := by
  unfold Host.reduceWindowAdd
  show Host.reduceWindow (fun x y : EReal => x + y) ![1, N, 1] ![1, 1, 1] ![0, 0, 0] ![0, M, 0] x (fun _ : (⟨0, ![]⟩ : Shape).Idx => init (Shape.Idx.first hu)) h hu (ix3 b t c) = _
  unfold Host.reduceWindow
  refine (foldl_add _ _).trans ?_
  rw [hi, zero_add]
  refine (Finset.sum_congr rfl fun n _ => ?_).trans ((Equiv.sum_comp (⟨3, ![1, N, 1]⟩ : Shape).rowMajor.symm
    (fun w : (⟨3, ![1, N, 1]⟩ : Shape).Idx => if hs : t.val + (w 1).val < N then x (ix3 b ⟨t.val + (w 1).val, hs⟩ c) else 0)).trans ?_)
  · let w : (⟨3, ![1, N, 1]⟩ : Shape).Idx := (⟨3, ![1, N, 1]⟩ : Shape).rowMajor.symm n
    have w0 : (w 0).val = 0 := by have : (w 0).val < 1 := (w 0).isLt; omega
    have w2 : (w 2).val = 0 := by have : (w 2).val < 1 := (w 2).isLt; omega
    by_cases hs : t.val + (w 1).val < N
    · refine (dif_pos ?_).trans (Eq.trans ?_ (dif_pos hs).symm)
      rotate_left
      · refine congrArg x (funext fun a => Fin.ext ?_)
        fin_cases a
        · show b.val * 1 + (w 0).val - 0 = b.val; omega
        · show t.val * 1 + (w 1).val - 0 = t.val + (w 1).val; omega
        · show c.val * 1 + (w 2).val - 0 = c.val; omega
      · intro a
        fin_cases a
        · exact ⟨Nat.zero_le _, by show b.val * 1 + (w 0).val - 0 < B; omega⟩
        · exact ⟨Nat.zero_le _, by show t.val * 1 + (w 1).val - 0 < N; omega⟩
        · exact ⟨Nat.zero_le _, by show c.val * 1 + (w 2).val - 0 < C; omega⟩
    · refine (dif_neg ?_).trans (Eq.trans ?_ (dif_neg hs).symm)
      rotate_left
      · rfl
      intro hin
      have h1 : t.val * 1 + (w 1).val - 0 < N := (hin 1).2
      omega
  · rw [sum_idx3, Fin.sum_univ_one]
    exact Finset.sum_congr rfl fun s _ => Fin.sum_univ_one _

/-- Of real numbers, the sum from `t` on of the differences `G s - G (s + w)` (past the end zero) is the window's
    sum `G t + … + G (t + w - 1)`. -/
theorem sum_diff (G : ℕ → ℝ) (w N : ℕ) (hw : ∀ s, N ≤ s → G s = 0) (t : ℕ) :
    ∑ s ∈ Finset.range N, (G (t + s) - G (t + s + w)) = ∑ k ∈ Finset.range w, G (t + k) := by
  have h1 : ∑ s ∈ Finset.range (N + w), G (t + s) = ∑ s ∈ Finset.range N, G (t + s) := by
    rw [Finset.sum_range_add]
    rw [Finset.sum_eq_zero (s := Finset.range w), add_zero]
    intro k _
    exact hw _ (by omega)
  have h2 : ∑ s ∈ Finset.range (N + w), G (t + s) = ∑ k ∈ Finset.range w, G (t + k) + ∑ s ∈ Finset.range N, G (t + s + w) := by
    rw [add_comm N w, Finset.sum_range_add]
    congr 1
    exact Finset.sum_congr rfl fun s _ => by rw [show t + (w + s) = t + s + w by omega]
  rw [Finset.sum_sub_distrib]
  linarith

/-- A host sum over the first two axes of three. -/
theorem reduce_two {A B C : ℕ} (h : (⟨3, ![A, B, C]⟩ : Shape).ReducesTo [0, 1] ⟨1, ![C]⟩) (v : (⟨3, ![A, B, C]⟩ : Shape).Idx → EReal)
    (init : EReal) (j : Fin C) : Ideal.hostReduceAdd h v init (ix1 j) = init + ∑ a : Fin A, ∑ b : Fin B, v (ix3 a b j) := by
  refine congrArg (init + ·) ?_
  refine (Finset.sum_filter_eq_sum_of_fiber _ (fun k : Fin A × Fin B => ix3 k.1 k.2 j) (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  · simp only [Fintype.sum_prod_type]

end Cert.Proof.Pool
-- ==== Proof.Pool.Window.lean ====
/- Hand-written, untrusted: THE POOLING HEADS' WINDOW. The quotients that the windows add up, the counts they are divided by,
   and the sum over the rest of the sequence of two quotients' difference. -/
module

public import proofs.«01_k».proof.Proof.Pool.Sums

@[expose] public section

noncomputable section

namespace Cert.Proof.Pool

open Idealize.ShloMosaic Cert.Proof.Tools Cert.Proof.Rms

/-- The count of a kernel's row: tokens so far, at most the window's length. -/
theorem count_kernel (n t w : ℕ) (hn : n < 528) (ht : t < 8) (hw : w ≤ 16) :
    FloatOps.sitofp (F := Ideal) .f32 (IntOp.minsi (IntOp.addi (IntOp.addi (BitVec.ofNat 32 n) (Scalar.muli (BitVec.ofNat 32 t) 512#32)) 1#32) (BitVec.ofNat 32 w))
      = (((min (512 * t + n + 1) w : ℕ) : ℝ) : EReal) := by
  have e : IntOp.addi (IntOp.addi (BitVec.ofNat 32 n) (Scalar.muli (BitVec.ofNat 32 t) 512#32)) 1#32 = BitVec.ofNat 32 (512 * t + n + 1) := by
    apply BitVec.eq_of_toNat_eq
    simp [IntOp.addi, Scalar.muli, IntOp.muli]
    omega
  have hi : ∀ k : ℕ, k < 10000 → (BitVec.ofNat 32 k).toInt = k := fun k hk => by
    rw [BitVec.toInt_eq_toNat_of_lt] <;> simp <;> omega
  have m : IntOp.minsi (BitVec.ofNat 32 (512 * t + n + 1)) (BitVec.ofNat 32 w) = BitVec.ofNat 32 (min (512 * t + n + 1) w) := by
    unfold IntOp.minsi
    rw [BitVec.slt_eq_decide, hi _ (by omega), hi _ (by omega)]
    by_cases h : 512 * t + n + 1 < w
    · rw [min_eq_left h.le, if_pos (by simpa using (by exact_mod_cast h : ((512 * t + n + 1 : ℕ) : ℤ) < (w : ℤ)))]
    · rw [min_eq_right (by omega), if_neg (by simpa using (by exact_mod_cast not_lt.mp h : (w : ℤ) ≤ ((512 * t + n + 1 : ℕ) : ℤ)))]
  rw [e, m]
  show (((BitVec.ofNat 32 (min (512 * t + n + 1) w)).toInt : ℝ) : EReal) = _
  rw [hi _ (by omega)]
  simp

/-- The same count in the reference, of float numbers. -/
theorem count_reference (t w : ℕ) (c : EReal) (ht : t < 4096) (hc : c = ((w : ℝ) : EReal)) :
    min (1 + FloatOps.sitofp (F := Ideal) .f32 (BitVec.ofNat 32 t)) c = (((min (t + 1) w : ℕ) : ℝ) : EReal) := by
  have hi : (BitVec.ofNat 32 t).toInt = t := by rw [BitVec.toInt_eq_toNat_of_lt] <;> simp <;> omega
  have e : FloatOps.sitofp (F := Ideal) .f32 (BitVec.ofNat 32 t) = ((t : ℝ) : EReal) := by
    show (((BitVec.ofNat 32 t).toInt : ℝ) : EReal) = _
    rw [hi]; simp
  rw [hc, e, Nat.cast_min, show ((1 : EReal)) = ((1 : ℝ) : EReal) from rfl, ← EReal.coe_add, EReal.coe_strictMono.monotone.map_min]
  push_cast
  rw [add_comm]

variable (x1 : Vec Ideal ⟨3, ![4, 128, 128]⟩ .f32) (x2 : Vec Ideal ⟨1, ![512]⟩ .f32) (x3 : Vec Ideal ⟨3, ![2, 4096, 512]⟩ .f32)

/-- Column `l` of a group of 128. -/
abbrev col (g : Fin 4) (l : Fin 128) : Fin 512 := ⟨128 * g.val + l.val, by omega⟩

/-- The cotangent of a token's mean minus the token, in one of the four groups. -/
def dq (b : Fin 2) (t : Fin 4096) (g : Fin 4) (l : Fin 128) : EReal :=
  ∑ x, x3 (ix3 b t (col g x)) * x2 (ix1 (col g x)) * x1 (ix3 g l x)

/-- The length of a group's window. -/
abbrev win (g : Fin 4) : ℕ := ![2, 4, 8, 16] g

/-- The same divided by the count; past the sequence's end zero. -/
def quo (b : Fin 2) (g : Fin 4) (l : Fin 128) (t : ℕ) : EReal :=
  if h : t < 4096 then Ideal.div (dq x1 x2 x3 b ⟨t, h⟩ g l) (((min (t + 1) (win g) : ℕ) : ℝ) : EReal) else 0

theorem isR_dq (h1 : ∀ i, IsR (x1 i)) (h2 : ∀ i, IsR (x2 i)) (h3 : ∀ i, IsR (x3 i)) (b : Fin 2) (t : Fin 4096) (g : Fin 4) (l : Fin 128) :
    IsR (dq x1 x2 x3 b t g l) := IsR.sum fun _ => ((h3 _).mul (h2 _)).mul (h1 _)

/-- On real arguments the quotients are real numbers, zero past the end. -/
theorem exists_quo (h1 : ∀ i, IsR (x1 i)) (h2 : ∀ i, IsR (x2 i)) (h3 : ∀ i, IsR (x3 i)) (b : Fin 2) (g : Fin 4) (l : Fin 128) :
    ∃ G : ℕ → ℝ, (∀ s, 4096 ≤ s → G s = 0) ∧ ∀ s, quo x1 x2 x3 b g l s = ((G s : ℝ) : EReal) := by
  have h : ∀ s, ∃ v : ℝ, (4096 ≤ s → v = 0) ∧ quo x1 x2 x3 b g l s = ((v : ℝ) : EReal) := by
    intro s
    unfold quo
    by_cases hs : s < 4096
    · obtain ⟨d, hd⟩ := isR_dq x1 x2 x3 h1 h2 h3 b ⟨s, hs⟩ g l
      have hw : 0 < win g := by fin_cases g <;> decide
      have hc : ((min (s + 1) (win g) : ℕ) : ℝ) ≠ 0 := by
        have : 0 < min (s + 1) (win g) := by omega
        exact_mod_cast this.ne'
      refine ⟨d * (1 / ((min (s + 1) (win g) : ℕ) : ℝ)), fun h => absurd h (by omega), ?_⟩
      rw [dif_pos hs, hd, Ideal.div_coe hc, EReal.coe_mul]
    · exact ⟨0, fun _ => rfl, by rw [dif_neg hs]; rfl⟩
  choose G hG using h
  exact ⟨G, fun s hs => (hG s).1 hs, fun s => (hG s).2⟩

/-- The sum over the rest of the sequence of a quotient minus the one a window later is the window's sum. -/
theorem sum_rest (h1 : ∀ i, IsR (x1 i)) (h2 : ∀ i, IsR (x2 i)) (h3 : ∀ i, IsR (x3 i)) (b : Fin 2) (g : Fin 4) (l : Fin 128) (t : ℕ) :
    (∑ s : Fin 4096, if t + s.val < 4096 then quo x1 x2 x3 b g l (t + s.val) + -quo x1 x2 x3 b g l (t + s.val + win g) else 0)
      = ∑ k ∈ Finset.range (win g), quo x1 x2 x3 b g l (t + k) := by
  obtain ⟨G, h0, hG⟩ := exists_quo x1 x2 x3 h1 h2 h3 b g l
  simp only [hG]
  rw [coe_sum, ← sum_diff G (win g) 4096 h0 t, Finset.sum_range, ← coe_sum]
  refine Finset.sum_congr rfl fun s _ => ?_
  by_cases h : t + s.val < 4096
  · rw [if_pos h, ← EReal.coe_neg, ← EReal.coe_add, sub_eq_add_neg]
  · rw [if_neg h, h0 _ (by omega), h0 _ (by omega), sub_zero]; rfl

end Cert.Proof.Pool

end
-- ==== Proof.Pool.Blocks.lean ====
/- Hand-written, untrusted: THE POOLING HEADS' GRADIENT, block by block, on extended reals. What the body computes from its
   tile of the cotangent and the sixteen rows after it, group by group, is stated in the quotients of Window.lean. -/
module

public import proofs.«01_k».proof.Proof.Pool.Window
public import proofs.«01_k».proof.Proof.Gen.KernelPoolIdeal.Value
public import Idealize.ShloMosaic.Lib.Pipeline.ValueKit

@[expose] public section

noncomputable section

namespace Cert.Proof.Pool

open Cert.KernelPoolIdeal Cert.KernelPoolIdeal.Gen Idealize.ShloMosaic Idealize.ShloMosaic.TcCoe Idealize.SL.Sem
open Cert.Proof.Tools

variable (x1 : Vec Ideal ⟨3, ![4, 128, 128]⟩ .f32) (x2 : Vec Ideal ⟨1, ![512]⟩ .f32) (x3 : Vec Ideal ⟨3, ![2, 4096, 512]⟩ .f32)
variable (b : Fin 2) (i : grid0.Coords) (v : Vec Ideal S528x512 .f32) (w : Vec Ideal S1x128x128 .f32) (s : Vec Ideal S1x128 .f32)

/-- The cotangent's rows as the body lays them down: the tile's and the next sixteen, zero past the sequence's end. -/
def Rows : Prop := ∀ (n : Fin 528) (k : Fin 512),
  v (ix2 n k) = if h : 512 * (i 1).val + n.val < 4096 then x3 (ix3 b ⟨512 * (i 1).val + n.val, h⟩ k) else 0

variable {x1 x2 x3 b i v w s}

/-- A row's quotient as the body computes it. -/
theorem quotient (hv : Rows x3 b i v) (g : Fin 4) (hs : ∀ x, s (ix2 0 x) = x2 (ix1 (col g x))) (hw : ∀ l x, w (ix3 0 l x) = x1 (ix3 g l x))
    (l : Fin 128) (n : ℕ) (hn : n < 528) :
    Ideal.div (∑ x, v (ix2 ⟨n, hn⟩ (col g x)) * s (ix2 0 x) * w (ix3 0 l x))
      (FloatOps.sitofp (F := Ideal) .f32 (IntOp.minsi (IntOp.addi (IntOp.addi (BitVec.ofNat 32 n) (Scalar.muli (BitVec.ofNat 32 (i 1).val) 512#32)) 1#32) (BitVec.ofNat 32 (win g))))
      = quo x1 x2 x3 b g l (512 * (i 1).val + n) := by
  have hi : (i 1).val < 8 := (i 1).isLt
  have hg : win g ≤ 16 := by fin_cases g <;> decide
  rw [count_kernel n _ _ hn hi hg]
  unfold quo dq
  simp only [hv _ _, hs, hw]
  by_cases h : 512 * (i 1).val + n < 4096
  · simp only [dif_pos h]
  · simp only [dif_neg h, zero_mul, Finset.sum_const_zero]
    have hc : ((min (512 * (i 1).val + n + 1) (win g) : ℕ) : ℝ) ≠ 0 := by
      have : 0 < win g := by fin_cases g <;> decide
      have : 0 < min (512 * (i 1).val + n + 1) (win g) := by omega
      exact_mod_cast this.ne'
    rw [Ideal.div_coe hc, zero_mul]

/-- A row's product with the weight. -/
theorem product (hv : Rows x3 b i v) (g : Fin 4) (hs : ∀ x, s (ix2 0 x) = x2 (ix1 (col g x))) (hw : ∀ l x, w (ix3 0 l x) = x1 (ix3 g l x))
    (l : Fin 128) (r : Fin 512) (hr : r.val < 528) (ht : 512 * (i 1).val + r.val < 4096) :
    (∑ x, v (ix2 ⟨r.val, hr⟩ (col g x)) * s (ix2 0 x) * w (ix3 0 l x)) = dq x1 x2 x3 b ⟨512 * (i 1).val + r.val, ht⟩ g l := by
  unfold dq
  simp only [hv _ _, hs, hw, dif_pos ht]

/-- A tile's array turned up by some rows, read at a row that stays inside. -/
theorem turn1 (A : FVec Ideal S528x128 .f32) (l : Fin 128) (n : ℕ) (hn : n < 528) (h : n + 1 < 528) :
    dynamicRotate 0 527#32 none A rotates_S528x128_d0 (ix2 ⟨n, hn⟩ l) = A (ix2 ⟨n + 1, h⟩ l) := by
  pointwise
  simp only [show (n + 528 - 527) % 528 = n + 1 by omega]

theorem turn2 (A : FVec Ideal S528x128 .f32) (l : Fin 128) (n : ℕ) (hn : n < 528) (h : n + 2 < 528) :
    dynamicRotate 0 526#32 none A rotates_S528x128_d0 (ix2 ⟨n, hn⟩ l) = A (ix2 ⟨n + 2, h⟩ l) := by
  pointwise
  simp only [show (n + 528 - 526) % 528 = n + 2 by omega]

theorem turn4 (A : FVec Ideal S528x128 .f32) (l : Fin 128) (n : ℕ) (hn : n < 528) (h : n + 4 < 528) :
    dynamicRotate 0 524#32 none A rotates_S528x128_d0 (ix2 ⟨n, hn⟩ l) = A (ix2 ⟨n + 4, h⟩ l) := by
  pointwise
  simp only [show (n + 528 - 524) % 528 = n + 4 by omega]

theorem turn8 (A : FVec Ideal S528x128 .f32) (l : Fin 128) (n : ℕ) (hn : n < 528) (h : n + 8 < 528) :
    dynamicRotate 0 520#32 none A rotates_S528x128_d0 (ix2 ⟨n, hn⟩ l) = A (ix2 ⟨n + 8, h⟩ l) := by
  pointwise
  simp only [show (n + 528 - 520) % 528 = n + 8 by omega]

/-- The first rows of a tile's array. -/
theorem rows (A : FVec Ideal S528x128 .f32) (r : Fin 512) (l : Fin 128) :
    extractStridedSlice S512x128 ![0, 0] A slices_S528x128_o0_0_S512x128 (ix2 r l) = A (ix2 ⟨r.val, by omega⟩ l) := by
  pointwise

/-- An array whose rows are sums of the `c` quotients from there on. -/
def Sums (f : ℕ → EReal) (c : ℕ) (l : Fin 128) (A : FVec Ideal S528x128 .f32) : Prop :=
  ∀ (n : ℕ) (hn : n < 528), n + c ≤ 528 → (A (ix2 ⟨n, hn⟩ l) : EReal) = ∑ k ∈ Finset.range c, f (n + k)

/-- Adding the rows `c` further on doubles the number of the quotients. -/
theorem Sums.double {f : ℕ → EReal} {c : ℕ} {l : Fin 128} {A B : FVec Ideal S528x128 .f32} (hA : Sums f c l A) (hc : 0 < c)
    (hB : ∀ (n : ℕ) (hn : n < 528) (h : n + c < 528), B (ix2 ⟨n, hn⟩ l) = A (ix2 ⟨n + c, h⟩ l)) : Sums f (c + c) l (addf A B) := by
  intro n hn h
  have e1 := hA n hn (by omega)
  have e2 := hA (n + c) (by omega) (by omega)
  have e : addf A B (ix2 ⟨n, hn⟩ l) = (A (ix2 ⟨n, hn⟩ l) + B (ix2 ⟨n, hn⟩ l) : EReal) := rfl
  rw [e, hB n hn (by omega), e1, e2, Finset.sum_range_add]
  simp only [add_assoc]

theorem Sums.at {N c : ℕ} {f : ℕ → EReal} {l : Fin 128} {A : FVec Ideal S528x128 .f32} (h : Sums (fun n => f (N + n)) c l A) (r : Fin 512) (hr : r.val + c ≤ 528) :
    (A (ix2 ⟨r.val, by omega⟩ l) : EReal) = ∑ k ∈ Finset.range c, f (N + r.val + k) := by
  rw [h r.val (by omega) hr]
  simp only [add_assoc]

theorem Sums.one {f : ℕ → EReal} {l : Fin 128} {A : FVec Ideal S528x128 .f32} (h : ∀ (n : ℕ) (hn : n < 528), (A (ix2 ⟨n, hn⟩ l) : EReal) = f n) : Sums f 1 l A :=
  fun n hn _ => by rw [h, Finset.sum_range_one, add_zero]

/-- What a tile's row of the input's gradient is to be. -/
def want (x1 : Vec Ideal ⟨3, ![4, 128, 128]⟩ .f32) (x2 : Vec Ideal ⟨1, ![512]⟩ .f32) (x3 : Vec Ideal ⟨3, ![2, 4096, 512]⟩ .f32)
    (b : Fin 2) (g : Fin 4) (l : Fin 128) (t : Fin 4096) : EReal :=
  ∑ k ∈ Finset.range (win g), quo x1 x2 x3 b g l (t.val + k) - dq x1 x2 x3 b t g l

/-- The input's gradient in group 0, element by element. -/
theorem group0 {b0 : Vec Ideal S512x512 .f32} {b1 : Vec Ideal S16x512 .f32} (hv : Rows x3 b i (k0_pay8 i b0 b1)) (hs : ∀ x, s (ix2 0 x) = x2 (ix1 (col 0 x))) (hw : ∀ l x, w (ix3 0 l x) = x1 (ix3 0 l x))
    (r : Fin 512) (l : Fin 128) (ht : 512 * (i 1).val + r.val < 4096) :
    k0_pay12 i b0 b1 w s (ix2 r l) = want x1 x2 x3 b 0 l ⟨512 * (i 1).val + r.val, ht⟩ := by
  have hq := quotient hv 0 hs hw l
  have hp := product hv 0 hs hw l r (by omega) ht
  simp only [k0_pay12, k0_pay11, k0_pay9, k0_pay10]
  generalize k0_pay8 i b0 b1 = v at hq hp
  have h0 : ∀ x : Fin 128, col 0 x = ⟨x.val, by omega⟩ := fun x => Fin.ext (by simp)
  simp only [h0] at hq hp
  refine congrArg₂ (fun a b : EReal => a - b) ?_ ?_
  · rw [rows]
    refine Sums.at (N := 512 * (i 1).val) (f := quo x1 x2 x3 b 0 l) (c := 2) (h := ?_) r (by omega)
    refine Sums.double (c := 1) (Sums.one fun n hn => (Eq.trans ?_ (hq n hn))) (by omega) (turn1 _ l)
    pointwise
  · rw [rows]
    refine Eq.trans ?_ hp
    pointwise

/-- The input's gradient in group 1, element by element. -/
theorem group1 (hv : Rows x3 b i v) (hs : ∀ x, s (ix2 0 x) = x2 (ix1 (col 1 x))) (hw : ∀ l x, w (ix3 0 l x) = x1 (ix3 1 l x))
    (r : Fin 512) (l : Fin 128) (ht : 512 * (i 1).val + r.val < 4096) :
    k0_pay21 v (k0_pay9 i) w s (ix2 r l) = want x1 x2 x3 b 1 l ⟨512 * (i 1).val + r.val, ht⟩ := by
  have hq := quotient hv 1 hs hw l
  have hp := product hv 1 hs hw l r (by omega) ht
  simp only [k0_pay21, k0_pay20, k0_pay9, k0_pay19]
  refine congrArg₂ (fun a b : EReal => a - b) ?_ ?_
  · rw [rows]
    refine Sums.at (N := 512 * (i 1).val) (f := quo x1 x2 x3 b 1 l) (c := 4) (h := ?_) r (by omega)
    refine Sums.double (c := 2) (Sums.double (c := 1) (Sums.one fun n hn => (Eq.trans ?_ (hq n hn))) (by omega) (turn1 _ l)) (by omega) (turn2 _ l)
    pointwise
    rfl
  · rw [rows]
    refine Eq.trans ?_ hp
    pointwise
    rfl

/-- The input's gradient in group 2, element by element. -/
theorem group2 (hv : Rows x3 b i v) (hs : ∀ x, s (ix2 0 x) = x2 (ix1 (col 2 x))) (hw : ∀ l x, w (ix3 0 l x) = x1 (ix3 2 l x))
    (r : Fin 512) (l : Fin 128) (ht : 512 * (i 1).val + r.val < 4096) :
    k0_pay32 (k0_pay30 v w s) (k0_pay31 v (k0_pay9 i) w s) (ix2 r l) = want x1 x2 x3 b 2 l ⟨512 * (i 1).val + r.val, ht⟩ := by
  have hq := quotient hv 2 hs hw l
  have hp := product hv 2 hs hw l r (by omega) ht
  simp only [k0_pay32, k0_pay31, k0_pay30, k0_pay29, k0_pay28, k0_pay9]
  refine congrArg₂ (fun a b : EReal => a - b) ?_ ?_
  · rw [rows]
    refine Sums.at (N := 512 * (i 1).val) (f := quo x1 x2 x3 b 2 l) (c := 8) (h := ?_) r (by omega)
    refine Sums.double (c := 4) (Sums.double (c := 2) (Sums.double (c := 1) (Sums.one fun n hn => (Eq.trans ?_ (hq n hn))) (by omega) (turn1 _ l)) (by omega) (turn2 _ l)) (by omega) (turn4 _ l)
    pointwise
    rfl
  · rw [rows]
    refine Eq.trans ?_ hp
    pointwise
    rfl

/-- The input's gradient in group 3, element by element. -/
theorem group3 (hv : Rows x3 b i v) (hs : ∀ x, s (ix2 0 x) = x2 (ix1 (col 3 x))) (hw : ∀ l x, w (ix3 0 l x) = x1 (ix3 3 l x))
    (r : Fin 512) (l : Fin 128) (ht : 512 * (i 1).val + r.val < 4096) :
    k0_pay1 (k0_pay41 v w s) (k0_pay42 v (k0_pay9 i) w s) 526#32 (ix2 r l) = want x1 x2 x3 b 3 l ⟨512 * (i 1).val + r.val, ht⟩ := by
  have hq := quotient hv 3 hs hw l
  have hp := product hv 3 hs hw l r (by omega) ht
  simp only [k0_pay1, k0_pay41, k0_pay42, k0_pay40, k0_pay39, k0_pay9]
  refine congrArg₂ (fun a b : EReal => a - b) ?_ ?_
  · rw [rows]
    refine Sums.at (N := 512 * (i 1).val) (f := quo x1 x2 x3 b 3 l) (c := 16) (h := ?_) r (by omega)
    refine Sums.double (c := 8) (Sums.double (c := 4) (Sums.double (c := 2) (Sums.double (c := 1) (Sums.one fun n hn => (Eq.trans ?_ (hq n hn))) (by omega) (turn1 _ l)) (by omega) (turn2 _ l)) (by omega) (turn4 _ l)) (by omega) (turn8 _ l)
    pointwise
    rfl
  · rw [rows]
    refine Eq.trans ?_ hp
    pointwise
    rfl

/-- A tile's part of one element of the weights' gradient, and of the scale's. -/
def partW (x2 : Vec Ideal ⟨1, ![512]⟩ .f32) (x3 : Vec Ideal ⟨3, ![2, 4096, 512]⟩ .f32) (q : Fin 2 → Fin 4096 → Fin 128 → EReal) (b : Fin 2) (g : Fin 4) (j k : Fin 128) (t : Fin 4096) : EReal :=
  q b t j * (x3 (ix3 b t (col g k)) * x2 (ix1 (col g k)))
def partS (x1 : Vec Ideal ⟨3, ![4, 128, 128]⟩ .f32) (x3 : Vec Ideal ⟨3, ![2, 4096, 512]⟩ .f32) (q : Fin 2 → Fin 4096 → Fin 128 → EReal) (b : Fin 2) (g : Fin 4) (k : Fin 128) (t : Fin 4096) : EReal :=
  x3 (ix3 b t (col g k)) * ∑ j, q b t j * x1 (ix3 g j k)

variable {q : Fin 2 → Fin 4096 → Fin 128 → EReal} {qb : Vec Ideal S512x128 .bf16} {yb : Vec Ideal S512x128 .f32}

/-- The tile's rows of the sequence. -/
abbrev at_ (i : grid0.Coords) (r : Fin 512) : Fin 4096 := ⟨512 * (i 1).val + r.val, by have : (i 1).val < 8 := (i 1).isLt; omega⟩

/-- The cotangent's row times the scale. -/
theorem scaled (hv : Rows x3 b i v) (r : Fin 512) (hr : r.val < 528) (k : Fin 512) : v (ix2 ⟨r.val, hr⟩ k) = x3 (ix3 b (at_ i r) k) := by
  rw [hv _ _, dif_pos (by have : (i 1).val < 8 := (i 1).isLt; show 512 * (i 1).val + r.val < 4096; omega)]

/-- The weights' gradient in group 0: a tile's part, and the same added to the sum so far. -/
theorem weight0 {b0 : Vec Ideal S512x512 .f32} {b1 : Vec Ideal S16x512 .f32} (hv : Rows x3 b i (k0_pay8 i b0 b1)) (hs : ∀ x, s (ix2 0 x) = x2 (ix1 (col 0 x))) (hq : ∀ r j, qb (ix2 r j) = q b (at_ i r) j) (j k : Fin 128) :
    k0_pay16 (k0_pay11 i b0 b1 s) qb (ix3 0 j k) = ∑ r, partW x2 x3 q b 0 j k (at_ i r) := by
  simp only [k0_pay16, k0_pay14, k0_pay13, k0_pay11]
  generalize k0_pay8 i b0 b1 = v at hv
  pointwise
  refine Finset.sum_congr rfl fun r _ => ?_
  have e : v (ix2 ⟨r.val, by omega⟩ (col 0 k)) = _ := scaled hv r (by omega) (col 0 k)
  unfold partW
  rw [hq, ← e, ← hs]
  rw [show col 0 k = ⟨k.val, by omega⟩ from Fin.ext (by simp)]

theorem weight_next0 {b0 : Vec Ideal S512x512 .f32} {b1 : Vec Ideal S16x512 .f32} (acc : Vec Ideal S1x128x128 .f32) (j k : Fin 128) :
    k0_pay17 (k0_pay11 i b0 b1 s) qb acc (ix3 0 j k) = acc (ix3 0 j k) + k0_pay16 (k0_pay11 i b0 b1 s) qb (ix3 0 j k) := by
  simp only [k0_pay17, k0_pay16]
  pointwise

/-- The scale's gradient in group 0: a tile's part, and the same added to the sum so far. -/
theorem scale0 (hw : ∀ l x, w (ix3 0 l x) = x1 (ix3 0 l x)) (hy : ∀ r k, yb (ix2 r k) = x3 (ix3 b (at_ i r) (col 0 k))) (hq : ∀ r j, qb (ix2 r j) = q b (at_ i r) j) (k : Fin 128) :
    k0_pay15 (k0_pay10 w) qb yb (ix2 0 k) = ∑ r, partS x1 x3 q b 0 k (at_ i r) := by
  simp only [k0_pay15, k0_pay13, k0_pay10]
  pointwise
  unfold partS
  simp only [hw, hy, hq]

theorem scale_next0 (acc : Vec Ideal S1x128 .f32) (k : Fin 128) :
    k0_pay18 (k0_pay10 w) qb yb acc (ix2 0 k) = acc (ix2 0 k) + k0_pay15 (k0_pay10 w) qb yb (ix2 0 k) := by
  simp only [k0_pay18, k0_pay15]
  pointwise

/-- The weights' gradient in group 1: a tile's part, and the same added to the sum so far. -/
theorem weight1 (hv : Rows x3 b i v) (hs : ∀ x, s (ix2 0 x) = x2 (ix1 (col 1 x))) (hq : ∀ r j, qb (ix2 r j) = q b (at_ i r) j) (j k : Fin 128) :
    k0_pay25 (k0_pay20 v s) qb (ix3 0 j k) = ∑ r, partW x2 x3 q b 1 j k (at_ i r) := by
  simp only [k0_pay25, k0_pay23, k0_pay22, k0_pay20]
  pointwise
  refine Finset.sum_congr rfl fun r _ => ?_
  have e : v (ix2 ⟨r.val, by omega⟩ (col 1 k)) = _ := scaled hv r (by omega) (col 1 k)
  unfold partW
  rw [hq, ← e, ← hs]
  rfl

theorem weight_next1 (acc : Vec Ideal S1x128x128 .f32) (j k : Fin 128) :
    k0_pay26 (k0_pay20 v s) qb acc (ix3 0 j k) = acc (ix3 0 j k) + k0_pay25 (k0_pay20 v s) qb (ix3 0 j k) := by
  simp only [k0_pay26, k0_pay25]
  pointwise

/-- The scale's gradient in group 1: a tile's part, and the same added to the sum so far. -/
theorem scale1 (hw : ∀ l x, w (ix3 0 l x) = x1 (ix3 1 l x)) (hy : ∀ r k, yb (ix2 r k) = x3 (ix3 b (at_ i r) (col 1 k))) (hq : ∀ r j, qb (ix2 r j) = q b (at_ i r) j) (k : Fin 128) :
    k0_pay24 (k0_pay19 w) qb yb (ix2 0 k) = ∑ r, partS x1 x3 q b 1 k (at_ i r) := by
  simp only [k0_pay24, k0_pay22, k0_pay19]
  pointwise
  unfold partS
  simp only [hw, hy, hq]

theorem scale_next1 (acc : Vec Ideal S1x128 .f32) (k : Fin 128) :
    k0_pay27 (k0_pay19 w) qb yb acc (ix2 0 k) = acc (ix2 0 k) + k0_pay24 (k0_pay19 w) qb yb (ix2 0 k) := by
  simp only [k0_pay27, k0_pay24]
  pointwise

/-- The weights' gradient in group 2: a tile's part, and the same added to the sum so far. -/
theorem weight2 (hv : Rows x3 b i v) (hs : ∀ x, s (ix2 0 x) = x2 (ix1 (col 2 x))) (hq : ∀ r j, qb (ix2 r j) = q b (at_ i r) j) (j k : Fin 128) :
    k0_pay36 (k0_pay29 v s) qb (ix3 0 j k) = ∑ r, partW x2 x3 q b 2 j k (at_ i r) := by
  simp only [k0_pay36, k0_pay34, k0_pay33, k0_pay29]
  pointwise
  refine Finset.sum_congr rfl fun r _ => ?_
  have e : v (ix2 ⟨r.val, by omega⟩ (col 2 k)) = _ := scaled hv r (by omega) (col 2 k)
  unfold partW
  rw [hq, ← e, ← hs]
  rfl

theorem weight_next2 (acc : Vec Ideal S1x128x128 .f32) (j k : Fin 128) :
    k0_pay37 (k0_pay29 v s) qb acc (ix3 0 j k) = acc (ix3 0 j k) + k0_pay36 (k0_pay29 v s) qb (ix3 0 j k) := by
  simp only [k0_pay37, k0_pay36]
  pointwise

/-- The scale's gradient in group 2: a tile's part, and the same added to the sum so far. -/
theorem scale2 (hw : ∀ l x, w (ix3 0 l x) = x1 (ix3 2 l x)) (hy : ∀ r k, yb (ix2 r k) = x3 (ix3 b (at_ i r) (col 2 k))) (hq : ∀ r j, qb (ix2 r j) = q b (at_ i r) j) (k : Fin 128) :
    k0_pay35 (k0_pay28 w) qb yb (ix2 0 k) = ∑ r, partS x1 x3 q b 2 k (at_ i r) := by
  simp only [k0_pay35, k0_pay33, k0_pay28]
  pointwise
  unfold partS
  simp only [hw, hy, hq]

theorem scale_next2 (acc : Vec Ideal S1x128 .f32) (k : Fin 128) :
    k0_pay38 (k0_pay28 w) qb yb acc (ix2 0 k) = acc (ix2 0 k) + k0_pay35 (k0_pay28 w) qb yb (ix2 0 k) := by
  simp only [k0_pay38, k0_pay35]
  pointwise

/-- The weights' gradient in group 3: a tile's part, and the same added to the sum so far. -/
theorem weight3 (hv : Rows x3 b i v) (hs : ∀ x, s (ix2 0 x) = x2 (ix1 (col 3 x))) (hq : ∀ r j, qb (ix2 r j) = q b (at_ i r) j) (j k : Fin 128) :
    k0_pay5 (k0_pay40 v s) qb (ix3 0 j k) = ∑ r, partW x2 x3 q b 3 j k (at_ i r) := by
  simp only [k0_pay5, k0_pay3, k0_pay2, k0_pay40]
  pointwise
  refine Finset.sum_congr rfl fun r _ => ?_
  have e : v (ix2 ⟨r.val, by omega⟩ (col 3 k)) = _ := scaled hv r (by omega) (col 3 k)
  unfold partW
  rw [hq, ← e, ← hs]
  rfl

theorem weight_next3 (acc : Vec Ideal S1x128x128 .f32) (j k : Fin 128) :
    k0_pay6 (k0_pay40 v s) qb acc (ix3 0 j k) = acc (ix3 0 j k) + k0_pay5 (k0_pay40 v s) qb (ix3 0 j k) := by
  simp only [k0_pay6, k0_pay5]
  pointwise

/-- The scale's gradient in group 3: a tile's part, and the same added to the sum so far. -/
theorem scale3 (hw : ∀ l x, w (ix3 0 l x) = x1 (ix3 3 l x)) (hy : ∀ r k, yb (ix2 r k) = x3 (ix3 b (at_ i r) (col 3 k))) (hq : ∀ r j, qb (ix2 r j) = q b (at_ i r) j) (k : Fin 128) :
    k0_pay4 (k0_pay39 w) qb yb (ix2 0 k) = ∑ r, partS x1 x3 q b 3 k (at_ i r) := by
  simp only [k0_pay4, k0_pay2, k0_pay39]
  pointwise
  unfold partS
  simp only [hw, hy, hq]

theorem scale_next3 (acc : Vec Ideal S1x128 .f32) (k : Fin 128) :
    k0_pay7 (k0_pay39 w) qb yb acc (ix2 0 k) = acc (ix2 0 k) + k0_pay4 (k0_pay39 w) qb yb (ix2 0 k) := by
  simp only [k0_pay7, k0_pay4]
  pointwise

end Cert.Proof.Pool

end
-- ==== Proof.Pool.Reference.lean ====
/- Hand-written, untrusted: THE POOLING HEADS' GRADIENT, the reference element by element on extended reals. The input's
   gradient is the sum, over the rest of the sequence, of a quotient minus the one a window later, less the token's own
   cotangent; the weights' and the scale's are sums over all tokens. -/
module

public import proofs.«01_k».proof.Proof.Pool.Window
public import proofs.«01_k».proof.Proof.Gen.ReferencePoolIdeal.Read

@[expose] public section

noncomputable section

namespace Cert.Proof.Pool

open Cert.ReferencePoolIdeal Cert.ReferencePoolIdeal.Gen Cert.ReferencePoolIdeal.Read Idealize.ShloMosaic Idealize.ShloMosaic.TcCoe Idealize.SL.Sem
open Cert.Proof.Tools Cert.Proof.Rms

variable (x0 : Vec Ideal S2x4096x512 .f32) (x1 : Vec Ideal S4x128x128 .f32) (x2 : Vec Ideal S512 .f32) (x3 : Vec Ideal S2x4096x512 .f32)

/-- A quotient and the one a window later, as the reference writes them. -/
theorem differ (g : Fin 4) (c : EReal) (hc : c = ((win g : ℝ) : EReal)) (b : Fin 2) (t : Fin 4096) (l : Fin 128) (N : ℕ) (hN : N + win g = 4096) :
    Ideal.div (dq x1 x2 x3 b t g l) (min (1 + FloatOps.sitofp (F := Ideal) .f32 (BitVec.ofNat 32 t.val)) c)
      + (if h : t.val < N then -Ideal.div (dq x1 x2 x3 b ⟨win g + t.val, by omega⟩ g l) (min (1 + FloatOps.sitofp (F := Ideal) .f32 (BitVec.ofNat 32 (win g + t.val))) c) else 0)
      = quo x1 x2 x3 b g l t.val + -quo x1 x2 x3 b g l (t.val + win g) := by
  unfold quo
  rw [count_reference _ _ _ t.isLt hc, dif_pos t.isLt]
  refine congrArg₂ (fun a b : EReal => a + b) rfl ?_
  by_cases h : t.val < N
  · rw [dif_pos h, dif_pos (by omega), count_reference _ _ _ (by omega) hc]
    simp only [add_comm (win g) t.val]
  · rw [dif_neg h, dif_neg (by omega), neg_zero]

/-- A window's length as a float word. -/
theorem two : Ideal.ofBits .f32 1073741824#32 = ((2 : ℝ) : EReal) := by simp [Ideal.ofBits, Ideal.ieee, -EReal.coe_mul]; norm_num
theorem four : Ideal.ofBits .f32 1082130432#32 = ((4 : ℝ) : EReal) := by simp [Ideal.ofBits, Ideal.ieee, -EReal.coe_mul]; norm_num
theorem eight : Ideal.ofBits .f32 1090519040#32 = ((8 : ℝ) : EReal) := by simp [Ideal.ofBits, Ideal.ieee, -EReal.coe_mul]; norm_num
theorem sixteen : Ideal.ofBits .f32 1098907648#32 = ((16 : ℝ) : EReal) := by simp [Ideal.ofBits, Ideal.ieee, -EReal.coe_mul]; norm_num

/-- The first group's columns. -/
theorem first_group (x : Fin 128) (h : x.val < 512) : (⟨x.val, h⟩ : Fin 512) = col 0 x := Fin.ext (by simp)

set_option maxHeartbeats 1000000 in
/-- The array that the reference sums along the rest of the sequence. -/
theorem summand (b : Fin 2) (t : Fin 4096) (g : Fin 4) (l : Fin 128) :
    val_main_v151 (F := Ideal) x1 x2 x3 (ix3 b t (col g l)) = quo x1 x2 x3 b g l t.val + -quo x1 x2 x3 b g l (t.val + win g) := by
  pointwise [val_main_v1, val_main_cst, val_main_v2, val_main_v3, val_main_v4, val_main_cst_2, val_main_v11, val_main_v12,
      val_main_v13, val_main_v18, val_main_v19, val_main_cst_5, val_main_v27, val_main_v28, val_main_v29,
      val_main_v34, val_main_v35, val_main_cst_8, val_main_v43, val_main_v44, val_main_v45, val_main_v50,
      val_main_v51, val_main_cst_11, val_main_v59, val_main_v60, val_main_v61, val_main_v66, val_main_v67,
      val_main_v70, val_main_v76, val_main_v77, val_main_v79, val_main_v80, val_main_v81, val_main_v82, val_main_v85,
      val_main_v90, val_main_v91, val_main_v92, val_main_v94, val_main_cst_16, val_main_v95, val_main_v96,
      val_main_cst_17, val_main_v97, val_main_v100, val_main_v107, val_main_v108, val_main_v109, val_main_v111,
      val_main_cst_20, val_main_v112, val_main_v113, val_main_cst_21, val_main_v114, val_main_v115, val_main_v118,
      val_main_v125, val_main_v126, val_main_v127, val_main_v129, val_main_cst_24, val_main_v130, val_main_v131,
      val_main_cst_25, val_main_v132, val_main_v133, val_main_v136, val_main_v143, val_main_v144, val_main_v145,
      val_main_v147, val_main_cst_28, val_main_v148, val_main_v149, val_main_cst_29, val_main_v150, val_main_v151]
  match g with
  | 0 =>
    have e : 128 * ((0 : Fin 4) : ℕ) + l.val = l.val := by omega
    simp (disch := omega) only [dif_neg, dif_pos, true_and, and_true]
    simp only [e, l.isLt, and_true, zero_add, add_zero, first_group]
    exact differ x1 x2 x3 0 _ two b t l 4094 (by decide)
  | 1 =>
    have e : 128 * ((1 : Fin 4) : ℕ) + l.val - 128 = l.val := by omega
    simp (disch := omega) only [dif_neg, dif_pos, true_and, and_true]
    simp only [e, l.isLt, and_true, zero_add, add_zero]
    exact differ x1 x2 x3 1 _ four b t l 4092 (by decide)
  | 2 =>
    have e : 128 * ((2 : Fin 4) : ℕ) + l.val - 128 - 128 = l.val := by omega
    have e' : 128 * ((2 : Fin 4) : ℕ) + l.val - 256 = l.val := by omega
    simp (disch := omega) only [dif_neg, dif_pos, true_and, and_true]
    simp only [e, e', l.isLt, and_true, zero_add, add_zero]
    exact differ x1 x2 x3 2 _ eight b t l 4088 (by decide)
  | 3 =>
    have e : 128 * ((3 : Fin 4) : ℕ) + l.val - 128 - 128 - 128 = l.val := by omega
    have e' : 128 * ((3 : Fin 4) : ℕ) + l.val - 384 = l.val := by omega
    simp (disch := omega) only [dif_neg, dif_pos, true_and, and_true]
    simp only [e, e', l.isLt, and_true, zero_add, add_zero]
    exact differ x1 x2 x3 3 _ sixteen b t l 4080 (by decide)

/-- The token's own part. -/
theorem own (b : Fin 2) (t : Fin 4096) (g : Fin 4) (l : Fin 128) :
    val_main_v142 (F := Ideal) x1 x2 x3 (ix3 b t (col g l)) = -dq x1 x2 x3 b t g l := by
  pointwise [val_main_v18, val_main_v19, val_main_v34, val_main_v35, val_main_v50, val_main_v51, val_main_v66, val_main_v67,
      val_main_v70, val_main_v76, val_main_v77, val_main_v79, val_main_v80, val_main_v81, val_main_v82, val_main_v85,
      val_main_v88, val_main_cst_15, val_main_v89, val_main_v100, val_main_v104, val_main_cst_19, val_main_v105,
      val_main_v106, val_main_v118, val_main_v122, val_main_cst_23, val_main_v123, val_main_v124, val_main_v136,
      val_main_v140, val_main_cst_27, val_main_v141, val_main_v142]
  match g with
  | 0 =>
    have e : 128 * ((0 : Fin 4) : ℕ) + l.val = l.val := by omega
    simp (disch := omega) only [dif_neg, dif_pos, true_and, and_true]
    simp only [e, l.isLt, and_true, zero_add, add_zero, first_group]
    rfl
  | 1 =>
    have e : 128 * ((1 : Fin 4) : ℕ) + l.val - 128 = l.val := by omega
    simp (disch := omega) only [dif_neg, dif_pos, true_and, and_true]
    simp only [e, l.isLt, and_true, zero_add, add_zero]
    rfl
  | 2 =>
    have e : 128 * ((2 : Fin 4) : ℕ) + l.val - 128 - 128 = l.val := by omega
    have e' : 128 * ((2 : Fin 4) : ℕ) + l.val - 256 = l.val := by omega
    simp (disch := omega) only [dif_neg, dif_pos, true_and, and_true]
    simp only [e, e', l.isLt, and_true, zero_add, add_zero]
    rfl
  | 3 =>
    have e : 128 * ((3 : Fin 4) : ℕ) + l.val - 128 - 128 - 128 = l.val := by omega
    have e' : 128 * ((3 : Fin 4) : ℕ) + l.val - 384 = l.val := by omega
    simp (disch := omega) only [dif_neg, dif_pos, true_and, and_true]
    simp only [e, e', l.isLt, and_true, zero_add, add_zero]
    rfl

/-- The reference's gradient of the input: the window's quotients less the token's own. -/
theorem reference_du (h1 : ∀ i, IsR (x1 i)) (h2 : ∀ i, IsR (x2 i)) (h3 : ∀ i, IsR (x3 i)) (n : Fin 8192) (g : Fin 4) (l : Fin 128) :
    val_main_v154 (F := Ideal) x1 x2 x3 (ix2 n (col g l))
      = ∑ k ∈ Finset.range (win g), quo x1 x2 x3 ⟨n.val / 4096, by omega⟩ g l (n.val % 4096 + k) - dq x1 x2 x3 ⟨n.val / 4096, by omega⟩ ⟨n.val % 4096, by omega⟩ g l := by
  have e : val_main_v152 (F := Ideal) x1 x2 x3 (ix3 (⟨n.val / 4096, by omega⟩ : Fin 2) (⟨n.val % 4096, by omega⟩ : Fin 4096) (col g l)) = _ :=
    (sum_from (val_main_v151 (F := Ideal) x1 x2 x3) (val_main_call1_v0 (F := Ideal)) _ _ (fun i => by rw [val_main_call1_v0_apply, val_main_call1_cst_apply]; exact Ideal.ofBits_zero _) _ _ _)
  have e' := own x1 x2 x3 ⟨n.val / 4096, by omega⟩ ⟨n.val % 4096, by omega⟩ g l
  pointwise [val_main_v154, val_main_v153]
  rw [e', e]
  simp only [summand]
  have s := sum_rest x1 x2 x3 h1 h2 h3 ⟨n.val / 4096, by omega⟩ g l (n.val % 4096)
  simp only [dite_eq_ite]
  rw [s, add_comm, ← sub_eq_add_neg]

/-- The means minus the token, group by group, as the reference's forward lines compute them. -/
def mean (g : Fin 4) : Vec Ideal S2x4096x128 .f32 := match g with
  | 0 => val_main_v17 (F := Ideal) x0
  | 1 => val_main_v33 (F := Ideal) x0
  | 2 => val_main_v49 (F := Ideal) x0
  | 3 => val_main_v65 (F := Ideal) x0

/-- The reference's gradient of the weights. -/
theorem reference_dw (g : Fin 4) (i l : Fin 128) : val_main_v139 (F := Ideal) x0 x2 x3 (ix3 g i l)
    = ∑ b, ∑ t, x3 (ix3 b t (col g l)) * x2 (ix1 (col g l)) * mean x0 g (ix3 b t i) := by
  pointwise [val_main_v70, val_main_v76, val_main_v77, val_main_v79, val_main_v80, val_main_v81, val_main_v82, val_main_v83,
      val_main_v84, val_main_v86, val_main_cst_14, val_main_v87, val_main_v98, val_main_v99, val_main_v101,
      val_main_cst_18, val_main_v102, val_main_v103, val_main_v116, val_main_v117, val_main_v119, val_main_cst_22,
      val_main_v120, val_main_v121, val_main_v134, val_main_v135, val_main_v137, val_main_cst_26, val_main_v138,
      val_main_v139]
  match g with
  | 0 =>
    simp (disch := omega) only [dif_neg, dif_pos, true_and, and_true]
    simp only [zero_add, add_zero, first_group]
    rfl
  | 1 =>
    simp (disch := omega) only [dif_neg, dif_pos, true_and, and_true]
    simp only [zero_add, add_zero]
    rfl
  | 2 =>
    simp (disch := omega) only [dif_neg, dif_pos, true_and, and_true]
    simp only [zero_add, add_zero]
    rfl
  | 3 =>
    simp (disch := omega) only [dif_neg, dif_pos, true_and, and_true]
    simp only [zero_add, add_zero]
    rfl

/-- One token's part of the scale's gradient. -/
theorem reference_part (b : Fin 2) (t : Fin 4096) (g : Fin 4) (l : Fin 128) : val_main_v73 (F := Ideal) x0 x1 x3 (ix3 b t (col g l))
    = (∑ x, mean x0 g (ix3 b t x) * x1 (ix3 g x l)) * x3 (ix3 b t (col g l)) := by
  pointwise [val_main_v18, val_main_v19, val_main_v20, val_main_v34, val_main_v35, val_main_v36, val_main_v50, val_main_v51,
      val_main_v52, val_main_v66, val_main_v67, val_main_v68, val_main_v69,
      val_main_v73]
  match g with
  | 0 =>
    have e : 128 * ((0 : Fin 4) : ℕ) + l.val = l.val := by omega
    simp (disch := omega) only [dif_neg, dif_pos, true_and, and_true]
    simp only [e, l.isLt, and_true, zero_add, add_zero, first_group]
    rfl
  | 1 =>
    have e : 128 * ((1 : Fin 4) : ℕ) + l.val - 128 = l.val := by omega
    simp (disch := omega) only [dif_neg, dif_pos, true_and, and_true]
    simp only [e, l.isLt, and_true, zero_add, add_zero]
    rfl
  | 2 =>
    have e : 128 * ((2 : Fin 4) : ℕ) + l.val - 128 - 128 = l.val := by omega
    have e' : 128 * ((2 : Fin 4) : ℕ) + l.val - 256 = l.val := by omega
    simp (disch := omega) only [dif_neg, dif_pos, true_and, and_true]
    simp only [e, e', l.isLt, and_true, zero_add, add_zero]
    rfl
  | 3 =>
    have e : 128 * ((3 : Fin 4) : ℕ) + l.val - 128 - 128 - 128 = l.val := by omega
    have e' : 128 * ((3 : Fin 4) : ℕ) + l.val - 384 = l.val := by omega
    simp (disch := omega) only [dif_neg, dif_pos, true_and, and_true]
    simp only [e, e', l.isLt, and_true, zero_add, add_zero]
    rfl

/-- The reference's gradient of the scale. -/
theorem reference_dsc (g : Fin 4) (l : Fin 128) : val_main_v155 (F := Ideal) x0 x1 x3 (ix2 0 (col g l))
    = ∑ b, ∑ t, (∑ x, mean x0 g (ix3 b t x) * x1 (ix3 g x l)) * x3 (ix3 b t (col g l)) := by
  have e1 : val_main_v78 (F := Ideal) x0 x1 x3 (ix1 (col g l)) = val_main_v75 (F := Ideal) x0 x1 x3 (ix3 0 0 (col g l)) := by
    refine (reduce_two _ _ _ _).trans ?_
    rw [val_main_cst_13_apply]
    refine (congrArg₂ (fun a b : EReal => a + b) (Ideal.ofBits_zero _) ((Fin.sum_univ_one _).trans (Fin.sum_univ_one _))).trans (zero_add _)
  have e2 : val_main_v74 (F := Ideal) x0 x1 x3 (ix1 (col g l)) = ∑ b, ∑ t, val_main_v73 (F := Ideal) x0 x1 x3 (ix3 b t (col g l)) := by
    refine (reduce_two _ _ _ _).trans ?_
    rw [val_main_cst_12_apply]
    exact (congrArg (fun a : EReal => a + _) (Ideal.ofBits_zero _)).trans (zero_add _)
  simp only [reference_part] at e2
  rw [← e2]
  pointwise [val_main_v155]
  rw [e1]
  pointwise [val_main_v75]

end Cert.Proof.Pool

end
-- ==== Proof.Pool.Arrays.lean ====
/- Hand-written, untrusted: THE POOLING HEADS' GRADIENT, its blocks as parts of the arguments, and what a point writes: its rows
   of the input's gradient, and the running sums of the weights' and the scale's gradients. -/
module

public import proofs.«01_k».proof.Proof.Pool.Blocks
public import proofs.«01_k».proof.Proof.Pool.Reference

@[expose] public section

noncomputable section

namespace Cert.Proof.Pool

open Cert.KernelPoolIdeal Cert.KernelPoolIdeal.Gen Idealize.ShloMosaic Idealize.ShloMosaic.TcCoe Idealize.SL.Sem
open Cert.Proof.Tools Cert.ReferencePoolIdeal.Read

/-- The block index of each window at each point, and the grid's second coordinate. -/
theorem index0 : ∀ t : Fin cfg0.N, win0_0.index t = ![t.val, 0] := (by decide +kernel : ∀ t : Fin grid0.N, _)
theorem index1 : ∀ t : Fin cfg0.N, win0_1.index t = ![min (32 * (t.val + 1)) 511, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem coord1 : ∀ t : Fin cfg0.N, ((grid0.coords t) 1 : ℕ) = t.val % 8 := (by decide +kernel : ∀ t : Fin grid0.N, _)

/-- The sequence that a point belongs to. -/
def seq (t : Fin cfg0.N) : Fin 2 := ⟨t.val / 8, by have := t.isLt; have : cfg0.N = 16 := N_0; omega⟩

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- The arguments as the claims name them. -/
abbrev arg0 (c : Dev nD) : Vec Ideal S2x4096x512 .f32 := m ((c : Thread nD τ).loc main_arg0)
abbrev arg1 (c : Dev nD) : Vec Ideal S4x128x128 .f32 := m ((c : Thread nD τ).loc main_arg1)
abbrev arg2 (c : Dev nD) : Vec Ideal S512 .f32 := m ((c : Thread nD τ).loc main_arg2)
abbrev arg3 (c : Dev nD) : Vec Ideal S2x4096x512 .f32 := m ((c : Thread nD τ).loc main_arg3)

theorem host3 (c : Dev nD) : V m c main_v56 = shapeCast S8192x512 (arg3 m c) shapeCasts_S2x4096x512_S8192x512 := by
  show StableHlo.after (hostOps0 (F := Ideal)) _ main_v56 = _
  after_results_simp <;> rfl

theorem host2 (c : Dev nD) : V m c main_v57 = shapeCast S1x512 (arg2 m c) shapeCasts_S512_S1x512 := by
  show StableHlo.after (hostOps0 (F := Ideal)) _ main_v57 = _
  after_results_simp <;> rfl

/-- The forward lines' means side by side, as the host saves them. -/
def means (x0 : Vec Ideal S2x4096x512 .f32) : Vec Ideal S2x4096x512 .f32 :=
  concatenate S2x4096x512 2 [⟨S2x4096x128, val_main_v17 (F := Ideal) x0⟩, ⟨S2x4096x128, val_main_v33 (F := Ideal) x0⟩, ⟨S2x4096x128, val_main_v49 (F := Ideal) x0⟩, ⟨S2x4096x128, val_main_v65 (F := Ideal) x0⟩] concatenates_S2x4096x128_S2x4096x128_S2x4096x128_S2x4096x128_S2x4096x512_d2

theorem host0 (c : Dev nD) : V m c main_v55 = shapeCast S8192x512 (truncf (F := Ideal) .bf16 (means (arg0 m c)) bitsLt_bf16_f32) shapeCasts_S2x4096x512_S8192x512 := by
  show StableHlo.after (hostOps0 (F := Ideal)) _ main_v55 = _
  after_results_simp <;> rfl

theorem means_apply (x0 : Vec Ideal S2x4096x512 .f32) (b : Fin 2) (t : Fin 4096) (g : Fin 4) (j : Fin 128) : means x0 (ix3 b t (col g j)) = mean x0 g (ix3 b t j) := by
  unfold means
  pointwise
  match g with
  | 0 =>
    have e : 128 * ((0 : Fin 4) : ℕ) + j.val = j.val := by omega
    simp (disch := omega) only [dif_neg, dif_pos]
    simp only [e]
    rfl
  | 1 =>
    have e : 128 * ((1 : Fin 4) : ℕ) + j.val - 128 = j.val := by omega
    simp (disch := omega) only [dif_neg, dif_pos]
    simp only [e]
    rfl
  | 2 =>
    have e : 128 * ((2 : Fin 4) : ℕ) + j.val - 128 - 128 = j.val := by omega
    simp (disch := omega) only [dif_neg, dif_pos]
    simp only [e]
    rfl
  | 3 =>
    have e : 128 * ((3 : Fin 4) : ℕ) + j.val - 128 - 128 - 128 = j.val := by omega
    simp (disch := omega) only [dif_neg, dif_pos]
    simp only [e]
    rfl

/-- The cotangent's block: a point's rows of its sequence. -/
theorem iblk0_apply (c : Dev nD) (t : Fin cfg0.N) (r : Fin 512) (l : Fin 512) :
    (iblk m c 0 t : Vec Ideal S512x512 .f32) (ix2 r l) = arg3 m c (ix3 (seq t) (at_ (grid0.coords t) r) l) := by
  have hc := coord1 t
  blk_simp [iblk]
  refine Eq.trans (congrArg _ (?_ : _ = ix2 (row t r) l)) ?_
  · blk_ext [index0, row]
  · rw [host3]
    pointwise
    refine congrArg _ (congrArg₂ (fun a b => ix3 a b l) (Fin.ext ?_) (Fin.ext ?_)) <;> simp only [row, seq, at_, hc] <;> omega

/-- The next sixteen rows. -/
theorem iblk1_apply (c : Dev nD) (t : Fin cfg0.N) (ht : t.val % 8 < 7) (r : Fin 16) (l : Fin 512) :
    (iblk m c 1 t : Vec Ideal S16x512 .f32) (ix2 r l) = arg3 m c (ix3 (seq t) ⟨512 * (t.val % 8) + (512 + r.val), by omega⟩ l) := by
  have hN : t.val < 16 := lt_of_lt_of_eq t.isLt N_0
  blk_simp [iblk]
  refine Eq.trans (congrArg _ (?_ : _ = ix2 (⟨512 * t.val + (512 + r.val), by omega⟩ : Fin 8192) l)) ?_
  · blk_ext [index1]
  · rw [host3]
    pointwise
    refine congrArg _ (congrArg₂ (fun a b => ix3 a b l) (Fin.ext ?_) (Fin.ext ?_)) <;> simp only [seq] <;> omega

/-- The saved means' block. -/
theorem iblk2_apply (c : Dev nD) (t : Fin cfg0.N) (r : Fin 512) (g : Fin 4) (j : Fin 128) :
    (iblk m c 2 t : Vec Ideal S512x512 .bf16) (ix2 r (col g j)) = mean (arg0 m c) g (ix3 (seq t) (at_ (grid0.coords t) r) j) := by
  have hc := coord1 t
  have e : (ix3 (⟨(row t r).val / 4096, by omega⟩ : Fin 2) (⟨(row t r).val % 4096, by omega⟩ : Fin 4096) j : S2x4096x128.Idx) = ix3 (seq t) (at_ (grid0.coords t) r) j := by
    refine congrArg₂ (fun a b => ix3 a b j) (Fin.ext ?_) (Fin.ext ?_) <;> simp only [row, seq, at_, hc] <;> omega
  rw [← e]
  blk_simp [iblk]
  refine Eq.trans (congrArg _ (?_ : _ = ix2 (row t r) (col g j))) ?_
  · blk_ext [index2, row]
  · rw [host0]
    pointwise
    exact means_apply _ _ _ g j

theorem iblk3_apply (c : Dev nD) (t : Fin cfg0.N) (g : Fin 4) (j k : Fin 128) :
    (iblk m c 3 t : Vec Ideal S4x128x128 .f32) (ix3 g j k) = arg1 m c (ix3 g j k) := by
  blk_simp [iblk, V_main_arg1]
  refine congrArg _ ?_
  blk_ext [index3]

theorem iblk4_apply (c : Dev nD) (t : Fin cfg0.N) (k : Fin 512) :
    (iblk m c 4 t : Vec Ideal S1x512 .f32) (ix2 0 k) = arg2 m c (ix1 k) := by
  blk_simp [iblk]
  refine Eq.trans (congrArg _ (?_ : _ = ix2 0 k)) ?_
  · blk_ext [index4]
  · rw [host2]
    pointwise

/-- The body's tile of the cotangent with the rows after it. -/
theorem tile (c : Dev nD) (t : Fin cfg0.N) : Rows (arg3 m c) (seq t) (grid0.coords t) (k0_pay8 (grid0.coords t) (iblk m c 0 t) (iblk m c 1 t)) := by
  intro n k
  have hc := coord1 t
  simp only [k0_pay8]
  pointwise
  by_cases hn : n.val < 512
  · rw [dif_pos hn, dif_pos (by rw [hc]; omega)]
    exact iblk0_apply m c t ⟨n.val, hn⟩ k
  · rw [dif_neg hn, hc]
    by_cases h7 : t.val % 8 < 7
    · rw [dif_pos (by omega)]
      refine Eq.trans ?_ ((iblk1_apply m c t h7 ⟨n.val - 512, by omega⟩ k).trans ?_)
      · interval_cases t.val % 8 <;> rfl
      · refine congrArg _ (congrArg₂ (fun a b => ix3 a b k) rfl (Fin.ext ?_))
        show 512 * (t.val % 8) + (512 + (n.val - 512)) = 512 * (t.val % 8) + n.val
        omega
    · rw [dif_neg (by omega), show t.val % 8 = 7 by omega]
      rfl

/-- Loads from the blocks: a group's weights, scale, saved means and cotangent. -/
theorem ld3 (c : Dev nD) (t : Fin cfg0.N) (g : Fin 4) (inb) (j k : Fin 128) :
    View.ld (iblk m c 3 t : Vec Ideal S4x128x128 .f32) (Rect.unit ![g.val, 0, 0] ![1, 128, 128] inb) (ix3 0 j k) = arg1 m c (ix3 g j k) :=
  (View.ld_unit_apply_of _ _ _ _ _ (ix3 g j k) (fun a => by fin_cases a <;> simp [ix3])).trans (iblk3_apply m c t g j k)

theorem ld4 (c : Dev nD) (t : Fin cfg0.N) (g : Fin 4) (inb) (k : Fin 128) :
    View.ld (iblk m c 4 t : Vec Ideal S1x512 .f32) (Rect.unit ![0, 128 * g.val] ![1, 128] inb) (ix2 0 k) = arg2 m c (ix1 (col g k)) :=
  (View.ld_unit_apply_of _ _ _ _ _ (ix2 0 (col g k)) (fun a => by fin_cases a <;> simp [ix2])).trans (iblk4_apply m c t _)

theorem ld2 (c : Dev nD) (t : Fin cfg0.N) (g : Fin 4) (inb) (r : Fin 512) (k : Fin 128) :
    View.ld (iblk m c 2 t : Vec Ideal S512x512 .bf16) (Rect.unit ![0, 128 * g.val] ![512, 128] inb) (ix2 r k) = mean (arg0 m c) g (ix3 (seq t) (at_ (grid0.coords t) r) k) :=
  (View.ld_unit_apply_of _ _ _ _ _ (ix2 r (col g k)) (fun a => by fin_cases a <;> simp [ix2])).trans (iblk2_apply m c t r g k)

theorem ld0 (c : Dev nD) (t : Fin cfg0.N) (g : Fin 4) (inb) (r : Fin 512) (k : Fin 128) :
    View.ld (iblk m c 0 t : Vec Ideal S512x512 .f32) (Rect.unit ![0, 128 * g.val] ![512, 128] inb) (ix2 r k) = arg3 m c (ix3 (seq t) (at_ (grid0.coords t) r) (col g k)) :=
  (View.ld_unit_apply_of _ _ _ _ _ (ix2 r (col g k)) (fun a => by fin_cases a <;> simp [ix2])).trans (iblk0_apply m c t r _)

/-- An index inside a group's tile. -/
theorem in_tile {n : ℕ} {g : Fin 4} {r : Fin n} {l : Fin 128} (o : Fin 4) {x : (⟨2, ![n, 128]⟩ : Shape).Idx} (h0 : r.val = (x 0).val) (h1 : 128 * g.val + l.val = 128 * o.val + (x 1).val) :
    g = o ∧ x = ix2 r l := by
  have : (x 1).val < 128 := (x 1).isLt
  refine ⟨Fin.ext (by omega), ?_⟩
  rw [eq_ix2 x]
  exact congrArg₂ ix2 (Fin.ext h0.symm) (Fin.ext (by show (x 1).val = l.val; omega))

theorem in_slab {g : Fin 4} {j k : Fin 128} (o : Fin 4) {x : S1x128x128.Idx} (h0 : g.val = o.val + (x 0).val) (h1 : j.val = (x 1).val) (h2 : k.val = (x 2).val) :
    g = o ∧ x = ix3 0 j k := by
  have : (x 0).val < 1 := (x 0).isLt
  refine ⟨Fin.ext (by omega), ?_⟩
  funext a; apply Fin.ext
  match a with
  | ⟨0, _⟩ => show (x 0).val = 0; omega
  | ⟨1, _⟩ => exact h1.symm
  | ⟨2, _⟩ => exact h2.symm

/-- The token that a row of a point's tile is. -/
theorem at_lt (t : Fin cfg0.N) (r : Fin 512) : 512 * ((grid0.coords t) 1).val + r.val < 4096 := by rw [coord1]; omega

/-- A point's rows of the input's gradient. -/
theorem out5 (c : Dev nD) (t : Fin cfg0.N) (r : Fin 512) (g : Fin 4) (l : Fin 128) :
    (outsAt0 m c t.val t.isLt).1 (ix2 r (col g l)) = want (arg1 m c) (arg2 m c) (arg3 m c) (seq t) g l (at_ (grid0.coords t) r) := by
  have hN : t.val < 16 := lt_of_lt_of_eq t.isLt N_0
  have hv := tile m c t
  by_cases h : t.val % 16 = 0
  · rw [outsAt0_A m c t h (by omega) h (by omega) h (by omega) h (by omega)]
    dsimp only
    frame_out
    canon_tiles x hx
    · obtain ⟨rfl, rfl⟩ := in_tile 3 hx0 hx1
      exact group3 hv (ld4 m c t 3 _) (ld3 m c t 3 _) r l (at_lt t r)
    · obtain ⟨rfl, rfl⟩ := in_tile 2 hx0 hx1
      exact group2 hv (ld4 m c t 2 _) (ld3 m c t 2 _) r l (at_lt t r)
    · obtain ⟨rfl, rfl⟩ := in_tile 1 hx0 hx1
      exact group1 hv (ld4 m c t 1 _) (ld3 m c t 1 _) r l (at_lt t r)
    · obtain ⟨rfl, rfl⟩ := in_tile 0 hx0 (by simpa using hx1)
      exact group0 hv (ld4 m c t 0 _) (ld3 m c t 0 _) r l (at_lt t r)
  · rw [outsAt0_B m c t h (by omega) h (by omega) h (by omega) h (by omega)]
    dsimp only
    frame_out
    canon_tiles x hx
    · obtain ⟨rfl, rfl⟩ := in_tile 3 hx0 hx1
      exact group3 hv (ld4 m c t 3 _) (ld3 m c t 3 _) r l (at_lt t r)
    · obtain ⟨rfl, rfl⟩ := in_tile 2 hx0 hx1
      exact group2 hv (ld4 m c t 2 _) (ld3 m c t 2 _) r l (at_lt t r)
    · obtain ⟨rfl, rfl⟩ := in_tile 1 hx0 hx1
      exact group1 hv (ld4 m c t 1 _) (ld3 m c t 1 _) r l (at_lt t r)
    · obtain ⟨rfl, rfl⟩ := in_tile 0 hx0 (by simpa using hx1)
      exact group0 hv (ld4 m c t 0 _) (ld3 m c t 0 _) r l (at_lt t r)

/-- A point's part of the weights' gradient and of the scale's. -/
abbrev pointW (c : Dev nD) (t : Fin cfg0.N) (g : Fin 4) (j k : Fin 128) : EReal :=
  ∑ r, partW (arg2 m c) (arg3 m c) (fun b t j => mean (arg0 m c) g (ix3 b t j)) (seq t) g j k (at_ (grid0.coords t) r)
abbrev pointS (c : Dev nD) (t : Fin cfg0.N) (g : Fin 4) (k : Fin 128) : EReal :=
  ∑ r, partS (arg1 m c) (arg3 m c) (fun b t j => mean (arg0 m c) g (ix3 b t j)) (seq t) g k (at_ (grid0.coords t) r)

/-- The first point stores its part, a later one adds it. -/
theorem first6 (c : Dev nD) (t : Fin cfg0.N) (h : t.val % 16 = 0) (g : Fin 4) (j k : Fin 128) :
    (outsAt0 m c t.val t.isLt).2.1 (ix3 g j k) = pointW m c t g j k := by
  have hN : t.val < 16 := lt_of_lt_of_eq t.isLt N_0
  have hv := tile m c t
  rw [outsAt0_A m c t h (by omega) h (by omega) h (by omega) h (by omega)]
  dsimp only
  frame_out
  canon_tiles x hx
  · obtain ⟨rfl, rfl⟩ := in_slab 3 hx0 hx1 hx2
    exact weight3 hv (ld4 m c t 3 _) (ld2 m c t 3 _) j k
  · obtain ⟨rfl, rfl⟩ := in_slab 2 hx0 hx1 hx2
    exact weight2 hv (ld4 m c t 2 _) (ld2 m c t 2 _) j k
  · obtain ⟨rfl, rfl⟩ := in_slab 1 hx0 hx1 hx2
    exact weight1 hv (ld4 m c t 1 _) (ld2 m c t 1 _) j k
  · obtain ⟨rfl, rfl⟩ := in_slab 0 (by simpa using hx0) hx1 hx2
    exact weight0 hv (ld4 m c t 0 _) (ld2 m c t 0 _) j k

theorem next6 (c : Dev nD) (t : Fin cfg0.N) (h : ¬t.val % 16 = 0) (g : Fin 4) (j k : Fin 128) :
    ((outsAt0 m c t.val t.isLt).2.1 (ix3 g j k) : EReal) = (outsAt0 m c (t.val - 1) (by omega)).2.1 (ix3 g j k) + pointW m c t g j k := by
  have hN : t.val < 16 := lt_of_lt_of_eq t.isLt N_0
  have hv := tile m c t
  rw [outsAt0_B m c t h (by omega) h (by omega) h (by omega) h (by omega)]
  dsimp only
  frame_out
  canon_tiles x hx
  · obtain ⟨rfl, rfl⟩ := in_slab 3 hx0 hx1 hx2
    exact (weight_next3 _ j k).trans (congrArg₂ (fun a b : EReal => a + b) (View.ld_unit_apply_of _ _ _ _ _ (ix3 3 j k) (fun a => by fin_cases a <;> simp [ix3])) (weight3 hv (ld4 m c t 3 _) (ld2 m c t 3 _) j k))
  · obtain ⟨rfl, rfl⟩ := in_slab 2 hx0 hx1 hx2
    exact (weight_next2 _ j k).trans (congrArg₂ (fun a b : EReal => a + b) (View.ld_unit_apply_of _ _ _ _ _ (ix3 2 j k) (fun a => by fin_cases a <;> simp [ix3])) (weight2 hv (ld4 m c t 2 _) (ld2 m c t 2 _) j k))
  · obtain ⟨rfl, rfl⟩ := in_slab 1 hx0 hx1 hx2
    exact (weight_next1 _ j k).trans (congrArg₂ (fun a b : EReal => a + b) (View.ld_unit_apply_of _ _ _ _ _ (ix3 1 j k) (fun a => by fin_cases a <;> simp [ix3])) (weight1 hv (ld4 m c t 1 _) (ld2 m c t 1 _) j k))
  · obtain ⟨rfl, rfl⟩ := in_slab 0 (by simpa using hx0) hx1 hx2
    exact (weight_next0 _ j k).trans (congrArg₂ (fun a b : EReal => a + b) (View.ld_unit_apply_of _ _ _ _ _ (ix3 0 j k) (fun a => by fin_cases a <;> simp [ix3])) (weight0 hv (ld4 m c t 0 _) (ld2 m c t 0 _) j k))

theorem first7 (c : Dev nD) (t : Fin cfg0.N) (h : t.val % 16 = 0) (g : Fin 4) (k : Fin 128) :
    (outsAt0 m c t.val t.isLt).2.2 (ix2 0 (col g k)) = pointS m c t g k := by
  have hN : t.val < 16 := lt_of_lt_of_eq t.isLt N_0
  rw [outsAt0_A m c t h (by omega) h (by omega) h (by omega) h (by omega)]
  dsimp only
  frame_out
  canon_tiles x hx
  · obtain ⟨rfl, rfl⟩ := in_tile 3 hx0 hx1
    exact scale3 (ld3 m c t 3 _) (ld0 m c t 3 _) (ld2 m c t 3 _) k
  · obtain ⟨rfl, rfl⟩ := in_tile 2 hx0 hx1
    exact scale2 (ld3 m c t 2 _) (ld0 m c t 2 _) (ld2 m c t 2 _) k
  · obtain ⟨rfl, rfl⟩ := in_tile 1 hx0 hx1
    exact scale1 (ld3 m c t 1 _) (ld0 m c t 1 _) (ld2 m c t 1 _) k
  · obtain ⟨rfl, rfl⟩ := in_tile 0 hx0 (by simpa using hx1)
    exact scale0 (ld3 m c t 0 _) (ld0 m c t 0 _) (ld2 m c t 0 _) k

theorem next7 (c : Dev nD) (t : Fin cfg0.N) (h : ¬t.val % 16 = 0) (g : Fin 4) (k : Fin 128) :
    ((outsAt0 m c t.val t.isLt).2.2 (ix2 0 (col g k)) : EReal) = (outsAt0 m c (t.val - 1) (by omega)).2.2 (ix2 0 (col g k)) + pointS m c t g k := by
  have hN : t.val < 16 := lt_of_lt_of_eq t.isLt N_0
  rw [outsAt0_B m c t h (by omega) h (by omega) h (by omega) h (by omega)]
  dsimp only
  frame_out
  canon_tiles x hx
  · obtain ⟨rfl, rfl⟩ := in_tile 3 hx0 hx1
    exact (scale_next3 _ k).trans (congrArg₂ (fun a b : EReal => a + b) (View.ld_unit_apply_of _ _ _ _ _ (ix2 0 (col 3 k)) (fun a => by fin_cases a <;> simp [ix2])) (scale3 (ld3 m c t 3 _) (ld0 m c t 3 _) (ld2 m c t 3 _) k))
  · obtain ⟨rfl, rfl⟩ := in_tile 2 hx0 hx1
    exact (scale_next2 _ k).trans (congrArg₂ (fun a b : EReal => a + b) (View.ld_unit_apply_of _ _ _ _ _ (ix2 0 (col 2 k)) (fun a => by fin_cases a <;> simp [ix2])) (scale2 (ld3 m c t 2 _) (ld0 m c t 2 _) (ld2 m c t 2 _) k))
  · obtain ⟨rfl, rfl⟩ := in_tile 1 hx0 hx1
    exact (scale_next1 _ k).trans (congrArg₂ (fun a b : EReal => a + b) (View.ld_unit_apply_of _ _ _ _ _ (ix2 0 (col 1 k)) (fun a => by fin_cases a <;> simp [ix2])) (scale1 (ld3 m c t 1 _) (ld0 m c t 1 _) (ld2 m c t 1 _) k))
  · obtain ⟨rfl, rfl⟩ := in_tile 0 hx0 (by simpa using hx1)
    exact (scale_next0 _ k).trans (congrArg₂ (fun a b : EReal => a + b) (View.ld_unit_apply_of _ _ _ _ _ (ix2 0 (col 0 k)) (fun a => by fin_cases a <;> simp [ix2])) (scale0 (ld3 m c t 0 _) (ld0 m c t 0 _) (ld2 m c t 0 _) k))

end Cert.Proof.Pool

end
-- ==== Proof.Pool.Value.lean ====
/- Hand-written, untrusted: THE VALUES OF THE POOLING HEADS' GRADIENT, on extended reals: its three result arrays are the
   reference's on real weights, scale and cotangent. -/
module

public import proofs.«01_k».proof.Proof.Pool.Arrays

@[expose] public section

noncomputable section

namespace Cert.Proof.Pool

open Cert.KernelPoolIdeal Cert.KernelPoolIdeal.Gen Idealize.ShloMosaic Idealize.ShloMosaic.TcCoe Idealize.SL.Sem
open Cert.Proof.Tools Cert.Proof.Rms Cert.ReferencePoolIdeal.Read

/-- An argument array on one device. -/
local notation "arg[" m ", " c ", " a "]" => m (Thread.loc (c : Thread nD τ) a)

/-- A sum over the tokens of both sequences, laid one after the other. -/
theorem sum_tokens (f : Fin 2 → Fin 4096 → EReal) : ∑ n : Fin 8192, f ⟨n.val / 4096, by omega⟩ ⟨n.val % 4096, by omega⟩ = ∑ b, ∑ t, f b t := by
  rw [← Fintype.sum_prod_type']
  exact Fintype.sum_equiv (finProdFinEquiv (m := 2) (n := 4096)).symm _ _ fun _ => rfl

variable (m : (ℓ : Loc nD τ sig) → Buf (Elt Ideal) ℓ) (c : Dev nD)

/-- A point's tokens are its rows of the whole array. -/
theorem tokens (f : Fin 2 → Fin 4096 → EReal) (t : Fin cfg0.N) (r : Fin 512) :
    f (seq t) (at_ (grid0.coords t) r) = f ⟨(row t r).val / 4096, by omega⟩ ⟨(row t r).val % 4096, by omega⟩ := by
  have hc := coord1 t
  refine congrArg₂ f (Fin.ext ?_) (Fin.ext ?_) <;> simp only [row, seq, hc] <;> omega

/-- One token's part of the weights' gradient and of the scale's. -/
abbrev termW (g : Fin 4) (j k : Fin 128) (b : Fin 2) (t : Fin 4096) : EReal :=
  partW (arg2 m c) (arg3 m c) (fun b t j => mean (arg0 m c) g (ix3 b t j)) b g j k t
abbrev termS (g : Fin 4) (k : Fin 128) (b : Fin 2) (t : Fin 4096) : EReal :=
  partS (arg1 m c) (arg3 m c) (fun b t j => mean (arg0 m c) g (ix3 b t j)) b g k t

/-- A part as a function of the token's place among all. -/
def flat (f : Fin 2 → Fin 4096 → EReal) (n : Fin 8192) : EReal := f ⟨n.val / 4096, by omega⟩ ⟨n.val % 4096, by omega⟩

theorem point_sum (f : Fin 2 → Fin 4096 → EReal) (t : Fin cfg0.N) : ∑ r, f (seq t) (at_ (grid0.coords t) r) = ∑ r, flat f (row t r) :=
  Finset.sum_congr rfl fun r _ => tokens f t r

/-- The running sums after each point. -/
theorem outs6 (g : Fin 4) (j k : Fin 128) : ∀ (n : ℕ) (h : n < cfg0.N),
    (outsAt0 m c n h).2.1 (ix3 g j k) = ∑ i ∈ Finset.range (512 * (n + 1)), ext (flat (termW m c g j k)) i
  | 0, h => by
    rw [first6 m c ⟨0, h⟩ (by simp), sum_block_zero (flat (termW m c g j k)) 512 (by omega)]
    exact point_sum (termW m c g j k) ⟨0, h⟩
  | n + 1, h => by
    have hN : cfg0.N = 16 := N_0
    have e := next6 m c ⟨n + 1, h⟩ (by dsimp only; omega) g j k
    dsimp only [Nat.add_sub_cancel] at e
    rw [sum_block (flat (termW m c g j k)) 512 (n + 1) (by omega), ← outs6 g j k n (by omega)]
    exact e.trans (congrArg (fun a : EReal => _ + a) (point_sum (termW m c g j k) ⟨n + 1, h⟩))

theorem outs7 (g : Fin 4) (k : Fin 128) : ∀ (n : ℕ) (h : n < cfg0.N),
    (outsAt0 m c n h).2.2 (ix2 0 (col g k)) = ∑ i ∈ Finset.range (512 * (n + 1)), ext (flat (termS m c g k)) i
  | 0, h => by
    rw [first7 m c ⟨0, h⟩ (by simp), sum_block_zero (flat (termS m c g k)) 512 (by omega)]
    exact point_sum (termS m c g k) ⟨0, h⟩
  | n + 1, h => by
    have hN : cfg0.N = 16 := N_0
    have e := next7 m c ⟨n + 1, h⟩ (by dsimp only; omega) g k
    dsimp only [Nat.add_sub_cancel] at e
    rw [sum_block (flat (termS m c g k)) 512 (n + 1) (by omega), ← outs7 g k n (by omega)]
    exact e.trans (congrArg (fun a : EReal => _ + a) (point_sum (termS m c g k) ⟨n + 1, h⟩))

/-- A column of 512 is one of a group's. -/
theorem exists_col (k : Fin 512) : ∃ (g : Fin 4) (l : Fin 128), k = col g l :=
  ⟨⟨k.val / 128, by omega⟩, ⟨k.val % 128, by omega⟩, Fin.ext (by show k.val = 128 * (k.val / 128) + k.val % 128; omega)⟩

/-- The input's gradient after the run is the reference's. -/
theorem final_du (h1 : ∀ i, IsR (arg1 m c i)) (h2 : ∀ i, IsR (arg2 m c i)) (h3 : ∀ i, IsR (arg3 m c i)) :
    (dats m 0 c).arrAt 5 cfg0.N = val_main_v154 (F := Ideal) arg[m, c, main_arg1] arg[m, c, main_arg2] arg[m, c, main_arg3] := by
  refine (dats m 0 c).arrAt_eq_of_covers 5 _ (by decide +kernel) fun t hf y => ?_
  blk_simp
  rw [after0_5]
  obtain ⟨r, k, rfl⟩ : ∃ (r : Fin 512) (k : Fin 512), y = ix2 r k := ⟨_, _, eq_ix2 (n0 := 512) (n1 := 512) y⟩
  obtain ⟨g, l, rfl⟩ := exists_col k
  have e : (win0_5.blk t).view.emb (ix2 r (col g l)) = ix2 (row t r) (col g l) := by blk_ext [index5, row]
  rw [e]
  refine (out5 m c t r g l).trans (Eq.trans ?_ (reference_du (arg1 m c) (arg2 m c) (arg3 m c) h1 h2 h3 (row t r) g l).symm)
  exact tokens (fun b u => want (arg1 m c) (arg2 m c) (arg3 m c) b g l u) t r

/-- The last point. -/
abbrev last : Fin cfg0.N := ⟨15, by decide⟩

/-- The weights' gradient after the run is the reference's. -/
theorem final_dw : (dats m 0 c).arrAt 6 cfg0.N = val_main_v139 (F := Ideal) arg[m, c, main_arg0] arg[m, c, main_arg2] arg[m, c, main_arg3] := by
  refine (dats m 0 c).arrAt_eq_of_after_last 6 last (by decide +kernel) _ fun y => ?_
  obtain ⟨g, j, k, rfl⟩ : ∃ (g : Fin 4) (j k : Fin 128), y = ix3 g j k := ⟨y 0, y 1, y 2, by funext a; fin_cases a <;> rfl⟩
  have e : (dats m 0 c).after 6 last (ix3 g j k) = ∑ b, ∑ t, termW m c g j k b t := by
    rw [after0_6, outs6]
    exact (sum_ext (flat (termW m c g j k))).trans (sum_tokens _)
  have e' : ∑ b, ∑ t, termW m c g j k b t = ∑ b, ∑ t, (arg3 m c (ix3 b t (col g k)) * arg2 m c (ix1 (col g k)) * mean (arg0 m c) g (ix3 b t j) : EReal) :=
    Finset.sum_congr rfl fun b _ => Finset.sum_congr rfl fun t _ => mul_comm (_ : EReal) _
  exact e.trans (e'.trans (reference_dw (arg0 m c) (arg2 m c) (arg3 m c) g j k).symm)

/-- The scale's gradient after the run is the reference's. -/
theorem final_dsc : (dats m 0 c).arrAt 7 cfg0.N = val_main_v155 (F := Ideal) arg[m, c, main_arg0] arg[m, c, main_arg1] arg[m, c, main_arg3] := by
  refine (dats m 0 c).arrAt_eq_of_after_last 7 last (by decide +kernel) _ fun y => ?_
  obtain ⟨i, k, rfl⟩ : ∃ (i : Fin 1) (k : Fin 512), y = ix2 i k := ⟨_, _, eq_ix2 (n0 := 1) (n1 := 512) y⟩
  obtain rfl : i = 0 := Subsingleton.elim _ _
  obtain ⟨g, k, rfl⟩ := exists_col k
  have e : (dats m 0 c).after 7 last (ix2 0 (col g k)) = ∑ b, ∑ t, termS m c g k b t := by
    rw [after0_7, outs7]
    exact (sum_ext (flat (termS m c g k))).trans (sum_tokens _)
  have e' : ∑ b, ∑ t, termS m c g k b t = ∑ b, ∑ t, ((∑ x, (mean (arg0 m c) g (ix3 b t x) * arg1 m c (ix3 g x k) : EReal)) * arg3 m c (ix3 b t (col g k)) : EReal) :=
    Finset.sum_congr rfl fun b _ => Finset.sum_congr rfl fun t _ => mul_comm (_ : EReal) _
  exact e.trans (e'.trans (reference_dsc (arg0 m c) (arg1 m c) (arg3 m c) g k).symm)

end Cert.Proof.Pool

end
-- ==== Proof.Pool.Claim.lean ====
/- Hand-written, untrusted: THE CLAIM ABOUT THE POOLING HEADS' GRADIENT. The precondition makes the weights, the scale and the cotangent real numbers;
   then all three result arrays are the reference's (Pool/Value.lean). -/
module

public import proofs.«01_k».proof.Defs
public import proofs.«01_k».proof.Proof.Pool.Value
public import proofs.«01_k».proof.Proof.Gen.KernelPool.Frame
public import proofs.«01_k».proof.Proof.Gen.Pre_pool_finite

@[expose] public section

noncomputable section

namespace Cert.Proof.Pool

open Idealize.ShloMosaic Idealize.ShloMosaic.TcCoe Idealize.SL.Sem
open Cert.Proof.Tools
open Cert.KernelPoolIdeal (main_arg0 main_arg1 main_arg2 main_arg3)

/-- A kernel's argument array on one device. -/
local notation "arg[" m ", " c ", " a "]" => m (Thread.loc (Dev.tc c : Thread Cert.KernelPoolIdeal.nD Cert.KernelPoolIdeal.τ) a)

/-- The reference's run leaves its arguments as they were; it has no semaphore. -/
theorem frame_reference : Cert.quiescent_ReferencePoolIdeal (hReferencePoolIdeal := Cert.ReferencePoolIdeal.Gen.facts) := fun m g _ =>
  (θ_run Cert.ReferencePoolIdeal.defs _ _).mono (fun r h => ⟨fun c => (h c).2.2.2, sem_eq_zero_of_no_sems (by decide) r.2⟩)
    (Cert.ReferencePoolIdeal.Value.run (F := Ideal) m g)

/-- The two programs end at the same arrays. -/
theorem algebraic : Cert.algebraic_KernelPoolIdeal_ReferencePoolIdeal_pre_pool_finite (hKernelPoolIdeal := Cert.KernelPoolIdeal.Gen.facts)
    (hReferencePoolIdeal := Cert.ReferencePoolIdeal.Gen.facts) (hPre_pool_finite := Cert.Pre_pool_finite.Gen.facts) := by
  intro m g m' g' hpre hagree
  refine ⟨_, _, _, Cert.KernelPoolIdeal.Value.run_blocks (F := Ideal) m g, ?_⟩
  refine (θ_run Cert.ReferencePoolIdeal.defs _ _).mono (fun r h c => ?_) (Cert.ReferencePoolIdeal.Value.run (F := Ideal) m' g')
  obtain ⟨a0, a1, a2, a3⟩ := hagree c
  obtain ⟨p0, p1, p2⟩ := hpre c
  have h1 : ∀ i, IsR (arg[m, c, main_arg1] i) := isR_of_test _ _ (fun _ => inf_word) p0
  have h2 : ∀ i, IsR (arg[m, c, main_arg2] i) := isR_of_test _ _ (fun _ => inf_word) p1
  have h3 : ∀ i, IsR (arg[m, c, main_arg3] i) := isR_of_test _ _ (fun _ => inf_word) p2
  obtain ⟨v0, v1, v2, hrest⟩ := h c
  refine ⟨(v0.trans (?_ : _ = Cert.ReferencePoolIdeal.Read.val_main_v154 (F := Ideal) arg[m, c, main_arg1] arg[m, c, main_arg2] arg[m, c, main_arg3])).trans (final_du m c h1 h2 h3).symm, (v1.trans (?_ : _ = Cert.ReferencePoolIdeal.Read.val_main_v139 (F := Ideal) arg[m, c, main_arg0] arg[m, c, main_arg2] arg[m, c, main_arg3])).trans (final_dw m c).symm, (v2.trans (?_ : _ = Cert.ReferencePoolIdeal.Read.val_main_v155 (F := Ideal) arg[m, c, main_arg0] arg[m, c, main_arg1] arg[m, c, main_arg3])).trans (final_dsc m c).symm, hrest⟩
  · rw [← a1, ← a2, ← a3]
    exact Cert.ReferencePoolIdeal.Read.val_main_v154_eq _
  · rw [← a0, ← a2, ← a3]
    exact Cert.ReferencePoolIdeal.Read.val_main_v139_eq _
  · rw [← a0, ← a1, ← a3]
    exact Cert.ReferencePoolIdeal.Read.val_main_v155_eq _

end Cert.Proof.Pool

end
-- ==== Proof.Scan.BwdIdeal.lean ====
/-
  The frame of the idealized scan kernel `cc0_mix_scan_bwd`: it runs to the end, writes none of its arguments and leaves every
  semaphore at zero. Of the values it leaves in its buffers nothing is said, so the proof data constrains no
  staging buffer; the scratch buffers that carry the state from one block of rows to the next are held at any contents.
-/
module

public import proofs.«01_k».proof.Proof.Gen.KernelScanBwdIdeal.Frame
public import proofs.«01_k».proof.Proof.Gen.KernelScanBwdIdeal.Loops
public import proofs.«01_k».proof.Proof.Gen.KernelScanBwdIdeal.Points
public import Idealize.ShloMosaic.Lib.Claim

@[expose] public section

set_option maxRecDepth 16384

noncomputable section

namespace Cert.Proof.ScanBwdIdeal

open Cert.KernelScanBwdIdeal Cert.KernelScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core holds the memref's buffer at some contents. -/
def held (c : Dev nD) {sp : Space} {sh : Shape} {e : EltTy} (M : Memref sig .tc sp sh e) : sProp 𝕄 :=
  iprop(∃ f : BufTy.Contents (Elt F) M.view.ty, (M.view.loc (c : Thread nD τ) ↦[M.view.set]{fullShare} f))

/-- A staging buffer at known contents is held at some. -/
theorem held_of_owns (c : Dev nD) {sp : Space} {sh : Shape} {e : EltTy} (M : Memref sig .tc sp sh e) (X : sh.Idx → Elt F e) :
    (owns (c : Thread nD τ) M fullShare X : sProp 𝕄) ⊢ held (F := F) c M := by
  unfold owns held
  iintro ⟨%f, -, H⟩
  iexists f; iexact H

/-- A buffer held at some contents is a staging buffer at the contents read off it. -/
theorem owns_of_held (c : Dev nD) {sp : Space} {sh : Shape} {e : EltTy} (M : Memref sig .tc sp sh e) (R : (sh.Idx → Elt F e) → Prop) (hR : ∀ X, R X) :
    held (F := F) c M ⊢ (iprop(∃ X, ⌜R X⌝ ∗ owns (c : Thread nD τ) M fullShare X) : sProp 𝕄) := by
  unfold owns held
  iintro ⟨%f, H⟩
  iexists (M.view.read (Elt F) f)
  isplitr; · ipureintro; exact hR _
  iexists f
  isplitr; · ipureintro; rfl
  iexact H

omit [FloatOps F] in
/-- A buffer at some contents, spelled at its location, is its whole memref held. -/
theorem held_whole (c : Dev nD) (b : Ref sig .tc) :
    (iprop(∃ f : Buf (Elt F) ((c : Thread nD τ).loc b), ((c : Thread nD τ).loc b) ↦{fullShare} f) : sProp 𝕄) = held (F := F) c (Memref.whole b) := by
  unfold held; simp only [Memref.view_whole, View.set_whole]

set_option maxHeartbeats 4000000 in
/-- The body runs on whole buffers at any contents and leaves them whole: the branches by cases, the loop by its
    invariant. -/
theorem body_runs (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S16x512 .bf16) (harg7 : arg7.IsWhole) (arg8 : Memref sig .tc .vmem S16x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S32x8x512 .f32) (harg17 : arg17.IsWhole) (arg18 : Memref sig .tc .vmem S32x8x512 .f32) (harg18 : arg18.IsWhole) (arg19 : Memref sig .tc .vmem S256x512 .f32) (harg19 : arg19.IsWhole) (arg20 : Memref sig .tc .vmem S256x512 .f32) (harg20 : arg20.IsWhole) :
    iprop(held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20)
      ⊢ (wp frame (wpE (defs₀ (F := F)) Variants.none c none) Set.univ (cc0_mix_scan_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => iprop(held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20)) : sProp 𝕄) := by
  by_cases hc0 : (Scalar.cmpi .ne (Scalar.extui (Scalar.cmpi .eq (BitVec.ofNat 32 (i 2).val) 0#32) : BitVec 32) 0#32 : BitVec 1) = 1#1
  all_goals by_cases hc1 : k0_cond2 i = 1#1
  all_goals by_cases hc2 : k0_cond3 i = 1#1
  all_goals
    simp only [cc0_mix_scan_bwd_eq_skeleton]; unfold cc0_mix_scan_bwd_skel
    simp only [k0_part1_eq_skeleton, k0_part2_eq_skeleton, k0_part3_eq_skeleton, k0_part4_eq_skeleton, k0_part5_eq_skeleton]
    unfold held
    iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
    sl_exec (disch := first | sl_exact hc0 | sl_exact hc1 | sl_exact hc2)
    sl_step
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- The proof data of the launch: the arrays as the region finds them, no constraint on what the body leaves, the
    scratch buffers at any contents, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The body table's row at point `t` is the body at that point's staging buffers. -/
theorem row (t : Fin cfg0.N) :
    defs₀ (F := F) .tc cfg0.body (cfg0.bodyArgs t (cfg0.slots t)) = bodyAt0 t := by
  unfold defs₀; rw [Defs.onTc_tc]

/-- The body meets its obligation at every point, whatever its staging buffers hold. -/
theorem body_obligation (c : Dev nD) : (rdat (F := F) m c).BodyObligation (defs₀ (F := F)) Variants.none () Set.univ := fun t Y _ => by
  rw [bigSep_W0, bigSep_W0, row]
  rw [show (rdat (F := F) m c).Φ t.castSucc = Pipeline.ΦA spec0 c from rfl, show (rdat (F := F) m c).Φ t.succ = Pipeline.ΦA spec0 c from rfl,
    show (rdat (F := F) m c).owesAt () t.succ = (rdat (F := F) m c).owesAt () t.castSucc from rfl]
  unfold Pipeline.ΦA; rw [scopedRest0_eq]
  iintro ⟨⟨⟨S0, S1, S2, S3, S4, S5⟩, Hr⟩, HO, H0, H1, H2, H3, H4, H5, H6, H7, H8, H9, H10, H11⟩
  iapply (wp_wand_r Idealize.ShloMosaic.frame (wpE (defs₀ (F := F)) Variants.none (c : Thread nD τ) none) Set.univ)
  isplitl [H0 H1 H2 H3 H4 H5 H6 H7 H8 H9 H10 H11 S0 S1 S2 S3 S4 S5]
  · iapply (body_runs c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
    isplitl [H0]; · iapply (held_of_owns c _ _); iexact H0
    isplitl [H1]; · iapply (held_of_owns c _ _); iexact H1
    isplitl [H2]; · iapply (held_of_owns c _ _); iexact H2
    isplitl [H3]; · iapply (held_of_owns c _ _); iexact H3
    isplitl [H4]; · iapply (held_of_owns c _ _); iexact H4
    isplitl [H5]; · iapply (held_of_owns c _ _); iexact H5
    isplitl [H6]; · iapply (held_of_owns c _ _); iexact H6
    isplitl [H7]; · iapply (held_of_owns c _ _); iexact H7
    isplitl [H8]; · iapply (held_of_owns c _ _); iexact H8
    isplitl [H9]; · iapply (held_of_owns c _ _); iexact H9
    isplitl [H10]; · iapply (held_of_owns c _ _); iexact H10
    isplitl [H11]; · iapply (held_of_owns c _ _); iexact H11
    isplitl [S0]; · iapply (Entails.of_eq (held_whole c cc0_scratch0)); iexact S0
    isplitl [S1]; · iapply (Entails.of_eq (held_whole c cc0_scratch1)); iexact S1
    isplitl [S2]; · iapply (Entails.of_eq (held_whole c cc0_scratch2)); iexact S2
    isplitl [S3]; · iapply (Entails.of_eq (held_whole c cc0_scratch3)); iexact S3
    isplitl [S4]; · iapply (Entails.of_eq (held_whole c cc0_scratch4)); iexact S4
    iapply (Entails.of_eq (held_whole c cc0_scratch5)); iexact S5
  iintro %u ⟨H0, H1, H2, H3, H4, H5, H6, H7, H8, H9, H10, H11, S0, S1, S2, S3, S4, S5⟩
  isplitl [S0 S1 S2 S3 S4 S5 Hr]
  · isplitl [S0 S1 S2 S3 S4 S5]
    · isplitl [S0]; · iapply (Entails.of_eq (held_whole c cc0_scratch0).symm); iexact S0
      isplitl [S1]; · iapply (Entails.of_eq (held_whole c cc0_scratch1).symm); iexact S1
      isplitl [S2]; · iapply (Entails.of_eq (held_whole c cc0_scratch2).symm); iexact S2
      isplitl [S3]; · iapply (Entails.of_eq (held_whole c cc0_scratch3).symm); iexact S3
      isplitl [S4]; · iapply (Entails.of_eq (held_whole c cc0_scratch4).symm); iexact S4
      iapply (Entails.of_eq (held_whole c cc0_scratch5).symm); iexact S5
    iexact Hr
  isplitl [HO]; · iexact HO
  isplitl [H0]; · iapply (owns_of_held c _ _ fun _ => trivial); iexact H0
  isplitl [H1]; · iapply (owns_of_held c _ _ fun _ => trivial); iexact H1
  isplitl [H2]; · iapply (owns_of_held c _ _ fun _ => trivial); iexact H2
  isplitl [H3]; · iapply (owns_of_held c _ _ fun _ => trivial); iexact H3
  isplitl [H4]; · iapply (owns_of_held c _ _ fun _ => trivial); iexact H4
  isplitl [H5]; · iapply (owns_of_held c _ _ fun _ => trivial); iexact H5
  isplitl [H6]; · iapply (owns_of_held c _ _ fun _ => trivial); iexact H6
  isplitl [H7]; · iapply (owns_of_held c _ _ fun _ => trivial); iexact H7
  isplitl [H8]; · iapply (owns_of_held c _ _ fun _ => trivial); iexact H8
  isplitl [H9]; · iapply (owns_of_held c _ _ fun _ => trivial); iexact H9
  isplitl [H10]; · iapply (owns_of_held c _ _ fun _ => trivial); iexact H10
  iapply (owns_of_held c _ _ fun _ => trivial); iexact H11

/-- Argument 0 ends as it began: window 0 only reads it. -/
theorem arg_0 (c : Dev nD) (r : PUnit × MemSt nD τ sig (Elt F)) (h : RDat.FramePost cfg0 (rdat m) (V m) r) :
    r.2.mem ((c.tc : Thread nD τ).loc main_arg0) = m ((c.tc : Thread nD τ).loc main_arg0) := by
  have e := (h c).1 0
  rw [(rdat m c).ArrAt_in 0 rfl] at e
  exact e

/-- Argument 1 ends as it began: window 1 only reads it. -/
theorem arg_1 (c : Dev nD) (r : PUnit × MemSt nD τ sig (Elt F)) (h : RDat.FramePost cfg0 (rdat m) (V m) r) :
    r.2.mem ((c.tc : Thread nD τ).loc main_arg1) = m ((c.tc : Thread nD τ).loc main_arg1) := by
  have e := (h c).1 1
  rw [(rdat m c).ArrAt_in 1 rfl] at e
  exact e

/-- Argument 2 ends as it began: window 4 only reads it. -/
theorem arg_2 (c : Dev nD) (r : PUnit × MemSt nD τ sig (Elt F)) (h : RDat.FramePost cfg0 (rdat m) (V m) r) :
    r.2.mem ((c.tc : Thread nD τ).loc main_arg2) = m ((c.tc : Thread nD τ).loc main_arg2) := by
  have e := (h c).1 4
  rw [(rdat m c).ArrAt_in 4 rfl] at e
  exact e

/-- Argument 3 ends as it began: window 5 only reads it. -/
theorem arg_3 (c : Dev nD) (r : PUnit × MemSt nD τ sig (Elt F)) (h : RDat.FramePost cfg0 (rdat m) (V m) r) :
    r.2.mem ((c.tc : Thread nD τ).loc main_arg3) = m ((c.tc : Thread nD τ).loc main_arg3) := by
  have e := (h c).1 5
  rw [(rdat m c).ArrAt_in 5 rfl] at e
  exact e

/-- Argument 4 ends as it began: window 6 only reads it. -/
theorem arg_4 (c : Dev nD) (r : PUnit × MemSt nD τ sig (Elt F)) (h : RDat.FramePost cfg0 (rdat m) (V m) r) :
    r.2.mem ((c.tc : Thread nD τ).loc main_arg4) = m ((c.tc : Thread nD τ).loc main_arg4) := by
  have e := (h c).1 6
  rw [(rdat m c).ArrAt_in 6 rfl] at e
  exact e

/-- Argument 5 ends as it began: window 7 only reads it. -/
theorem arg_5 (c : Dev nD) (r : PUnit × MemSt nD τ sig (Elt F)) (h : RDat.FramePost cfg0 (rdat m) (V m) r) :
    r.2.mem ((c.tc : Thread nD τ).loc main_arg5) = m ((c.tc : Thread nD τ).loc main_arg5) := by
  have e := (h c).1 7
  rw [(rdat m c).ArrAt_in 7 rfl] at e
  exact e

-- the implicit arguments of the launch theorem are found by unifying its conclusion with this one, which takes unfolding
-- plain definitions in a metavariable's type
set_option backward.isDefEq.respectTransparency.types false in
/-- The kernel runs, its argument arrays end unchanged, and every semaphore is at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := fun _ _ => rfl) (hin := fun _ => .rfl) (hout := fun _ => .rfl)
    (hQ' := fun r h => ⟨fun c => ⟨arg_0 m c r h.1, arg_1 m c r h.1, arg_2 m c r h.1, arg_3 m c r h.1, arg_4 m c r h.1, arg_5 m c r h.1⟩, h.2⟩)

end Cert.Proof.ScanBwdIdeal

end
-- ==== Proof.Scan.Bwd.lean ====
/- Hand-written, untrusted: THE BACKWARD SCAN'S FRAME OVER MACHINE NUMBERS, by the run over any numbers (BwdIdeal.lean): the two
   programs have the same text. -/
module

public import proofs.«01_k».proof.Defs
public import proofs.«01_k».proof.Proof.Gen.KernelScanBwd
public import proofs.«01_k».proof.Proof.Scan.BwdIdeal

@[expose] public section

noncomputable section

namespace Cert.Proof.ScanBwd

open Idealize.ShloMosaic Idealize.SL.Sem

/-- The kernel runs, its argument arrays end unchanged, and every semaphore is at zero at the end. -/
theorem frame : Cert.quiescent_KernelScanBwd (hKernelScanBwd := Cert.KernelScanBwd.Gen.facts) := by
  intro m ρ _
  have h := ScanBwdIdeal.frame (F := Bits) m ρ
  refine (?_ : _ = _).mp h
  sl_kernel_rfl

end Cert.Proof.ScanBwd

end
-- ==== Proof.Scan.FwdIdeal.lean ====
/-
  The frame of the idealized scan kernel `cc0_mix_scan`: it runs to the end, writes none of its arguments and leaves every
  semaphore at zero. Of the values it leaves in its buffers nothing is said, so the proof data constrains no
  staging buffer; the scratch buffers that carry the state from one block of rows to the next are held at any contents.
-/
module

public import proofs.«01_k».proof.Proof.Gen.KernelScanIdeal.Frame
public import proofs.«01_k».proof.Proof.Gen.KernelScanIdeal.Loops
public import proofs.«01_k».proof.Proof.Gen.KernelScanIdeal.Points
public import Idealize.ShloMosaic.Lib.Claim

@[expose] public section

set_option maxRecDepth 16384

noncomputable section

namespace Cert.Proof.ScanFwdIdeal

open Cert.KernelScanIdeal Cert.KernelScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core holds the memref's buffer at some contents. -/
def held (c : Dev nD) {sp : Space} {sh : Shape} {e : EltTy} (M : Memref sig .tc sp sh e) : sProp 𝕄 :=
  iprop(∃ f : BufTy.Contents (Elt F) M.view.ty, (M.view.loc (c : Thread nD τ) ↦[M.view.set]{fullShare} f))

/-- A staging buffer at known contents is held at some. -/
theorem held_of_owns (c : Dev nD) {sp : Space} {sh : Shape} {e : EltTy} (M : Memref sig .tc sp sh e) (X : sh.Idx → Elt F e) :
    (owns (c : Thread nD τ) M fullShare X : sProp 𝕄) ⊢ held (F := F) c M := by
  unfold owns held
  iintro ⟨%f, -, H⟩
  iexists f; iexact H

/-- A buffer held at some contents is a staging buffer at the contents read off it. -/
theorem owns_of_held (c : Dev nD) {sp : Space} {sh : Shape} {e : EltTy} (M : Memref sig .tc sp sh e) (R : (sh.Idx → Elt F e) → Prop) (hR : ∀ X, R X) :
    held (F := F) c M ⊢ (iprop(∃ X, ⌜R X⌝ ∗ owns (c : Thread nD τ) M fullShare X) : sProp 𝕄) := by
  unfold owns held
  iintro ⟨%f, H⟩
  iexists (M.view.read (Elt F) f)
  isplitr; · ipureintro; exact hR _
  iexists f
  isplitr; · ipureintro; rfl
  iexact H

omit [FloatOps F] in
/-- A buffer at some contents, spelled at its location, is its whole memref held. -/
theorem held_whole (c : Dev nD) (b : Ref sig .tc) :
    (iprop(∃ f : Buf (Elt F) ((c : Thread nD τ).loc b), ((c : Thread nD τ).loc b) ↦{fullShare} f) : sProp 𝕄) = held (F := F) c (Memref.whole b) := by
  unfold held; simp only [Memref.view_whole, View.set_whole]

set_option maxHeartbeats 4000000 in
/-- The body runs on whole buffers at any contents and leaves them whole: the branches by cases, the loop by its
    invariant. -/
theorem body_runs (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S32x8x512 .f32) (harg11 : arg11.IsWhole) (arg12 : Memref sig .tc .vmem S32x8x512 .f32) (harg12 : arg12.IsWhole) (arg13 : Memref sig .tc .vmem S256x512 .f32) (harg13 : arg13.IsWhole) (arg14 : Memref sig .tc .vmem S256x512 .f32) (harg14 : arg14.IsWhole) :
    iprop(held c arg3 ∗ held c arg4 ∗ held c arg5 ∗ held c arg6 ∗ held c arg7 ∗ held c arg8 ∗ held c arg9 ∗ held c arg10 ∗ held c arg11 ∗ held c arg12 ∗ held c arg13 ∗ held c arg14)
      ⊢ (wp frame (wpE (defs₀ (F := F)) Variants.none c none) Set.univ (cc0_mix_scan i arg3 harg3 arg4 harg4 arg5 harg5 arg6 harg6 arg7 harg7 arg8 harg8 arg9 harg9 arg10 harg10 arg11 harg11 arg12 harg12 arg13 harg13 arg14 harg14) (fun _ => iprop(held c arg3 ∗ held c arg4 ∗ held c arg5 ∗ held c arg6 ∗ held c arg7 ∗ held c arg8 ∗ held c arg9 ∗ held c arg10 ∗ held c arg11 ∗ held c arg12 ∗ held c arg13 ∗ held c arg14)) : sProp 𝕄) := by
  by_cases hc0 : (Scalar.cmpi .ne (Scalar.extui (Scalar.cmpi .eq (BitVec.ofNat 32 (i 2).val) 0#32) : BitVec 32) 0#32 : BitVec 1) = 1#1
  all_goals
    simp only [cc0_mix_scan_eq_skeleton]; unfold cc0_mix_scan_skel
    simp only [k0_part1_eq_skeleton, k0_part2_eq_skeleton, k0_part3_eq_skeleton, k0_part4_eq_skeleton]
    unfold held
    iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
    sl_exec (disch := first | sl_exact hc0)
    sl_step
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- The proof data of the launch: the arrays as the region finds them, no constraint on what the body leaves, the
    scratch buffers at any contents, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at point `t` is the body at that point's staging buffers. -/
theorem row (t : Fin cfg0.N) :
    defs₀ (F := F) .tc cfg0.body (cfg0.bodyArgs t (cfg0.slots t)) = bodyAt0 t := by
  unfold defs₀; rw [Defs.onTc_tc]

/-- The body meets its obligation at every point, whatever its staging buffers hold. -/
theorem body_obligation (c : Dev nD) : (rdat (F := F) m c).BodyObligation (defs₀ (F := F)) Variants.none () Set.univ := fun t Y _ => by
  rw [bigSep_W0, bigSep_W0, row]
  rw [show (rdat (F := F) m c).Φ t.castSucc = Pipeline.ΦA spec0 c from rfl, show (rdat (F := F) m c).Φ t.succ = Pipeline.ΦA spec0 c from rfl,
    show (rdat (F := F) m c).owesAt () t.succ = (rdat (F := F) m c).owesAt () t.castSucc from rfl]
  unfold Pipeline.ΦA; rw [scopedRest0_eq]
  iintro ⟨⟨⟨S0, S1, S2, S3, S4, S5⟩, Hr⟩, HO, H0, H1, H2, H3, H4, H5⟩
  iapply (wp_wand_r Idealize.ShloMosaic.frame (wpE (defs₀ (F := F)) Variants.none (c : Thread nD τ) none) Set.univ)
  isplitl [H0 H1 H2 H3 H4 H5 S0 S1 S2 S3 S4 S5]
  · iapply (body_runs c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
    isplitl [H0]; · iapply (held_of_owns c _ _); iexact H0
    isplitl [H1]; · iapply (held_of_owns c _ _); iexact H1
    isplitl [H2]; · iapply (held_of_owns c _ _); iexact H2
    isplitl [H3]; · iapply (held_of_owns c _ _); iexact H3
    isplitl [H4]; · iapply (held_of_owns c _ _); iexact H4
    isplitl [H5]; · iapply (held_of_owns c _ _); iexact H5
    isplitl [S0]; · iapply (Entails.of_eq (held_whole c cc0_scratch0)); iexact S0
    isplitl [S1]; · iapply (Entails.of_eq (held_whole c cc0_scratch1)); iexact S1
    isplitl [S2]; · iapply (Entails.of_eq (held_whole c cc0_scratch2)); iexact S2
    isplitl [S3]; · iapply (Entails.of_eq (held_whole c cc0_scratch3)); iexact S3
    isplitl [S4]; · iapply (Entails.of_eq (held_whole c cc0_scratch4)); iexact S4
    iapply (Entails.of_eq (held_whole c cc0_scratch5)); iexact S5
  iintro %u ⟨H0, H1, H2, H3, H4, H5, S0, S1, S2, S3, S4, S5⟩
  isplitl [S0 S1 S2 S3 S4 S5 Hr]
  · isplitl [S0 S1 S2 S3 S4 S5]
    · isplitl [S0]; · iapply (Entails.of_eq (held_whole c cc0_scratch0).symm); iexact S0
      isplitl [S1]; · iapply (Entails.of_eq (held_whole c cc0_scratch1).symm); iexact S1
      isplitl [S2]; · iapply (Entails.of_eq (held_whole c cc0_scratch2).symm); iexact S2
      isplitl [S3]; · iapply (Entails.of_eq (held_whole c cc0_scratch3).symm); iexact S3
      isplitl [S4]; · iapply (Entails.of_eq (held_whole c cc0_scratch4).symm); iexact S4
      iapply (Entails.of_eq (held_whole c cc0_scratch5).symm); iexact S5
    iexact Hr
  isplitl [HO]; · iexact HO
  isplitl [H0]; · iapply (owns_of_held c _ _ fun _ => trivial); iexact H0
  isplitl [H1]; · iapply (owns_of_held c _ _ fun _ => trivial); iexact H1
  isplitl [H2]; · iapply (owns_of_held c _ _ fun _ => trivial); iexact H2
  isplitl [H3]; · iapply (owns_of_held c _ _ fun _ => trivial); iexact H3
  isplitl [H4]; · iapply (owns_of_held c _ _ fun _ => trivial); iexact H4
  iapply (owns_of_held c _ _ fun _ => trivial); iexact H5

/-- Argument 0 ends as it began: window 0 only reads it. -/
theorem arg_0 (c : Dev nD) (r : PUnit × MemSt nD τ sig (Elt F)) (h : RDat.FramePost cfg0 (rdat m) (V m) r) :
    r.2.mem ((c.tc : Thread nD τ).loc main_arg0) = m ((c.tc : Thread nD τ).loc main_arg0) := by
  have e := (h c).1 0
  rw [(rdat m c).ArrAt_in 0 rfl] at e
  exact e

/-- Argument 1 ends as it began: window 1 only reads it. -/
theorem arg_1 (c : Dev nD) (r : PUnit × MemSt nD τ sig (Elt F)) (h : RDat.FramePost cfg0 (rdat m) (V m) r) :
    r.2.mem ((c.tc : Thread nD τ).loc main_arg1) = m ((c.tc : Thread nD τ).loc main_arg1) := by
  have e := (h c).1 1
  rw [(rdat m c).ArrAt_in 1 rfl] at e
  exact e

/-- Argument 2 ends as it began: window 2 only reads it. -/
theorem arg_2 (c : Dev nD) (r : PUnit × MemSt nD τ sig (Elt F)) (h : RDat.FramePost cfg0 (rdat m) (V m) r) :
    r.2.mem ((c.tc : Thread nD τ).loc main_arg2) = m ((c.tc : Thread nD τ).loc main_arg2) := by
  have e := (h c).1 2
  rw [(rdat m c).ArrAt_in 2 rfl] at e
  exact e

/-- Argument 3 ends as it began: window 3 only reads it. -/
theorem arg_3 (c : Dev nD) (r : PUnit × MemSt nD τ sig (Elt F)) (h : RDat.FramePost cfg0 (rdat m) (V m) r) :
    r.2.mem ((c.tc : Thread nD τ).loc main_arg3) = m ((c.tc : Thread nD τ).loc main_arg3) := by
  have e := (h c).1 3
  rw [(rdat m c).ArrAt_in 3 rfl] at e
  exact e

-- the implicit arguments of the launch theorem are found by unifying its conclusion with this one, which takes unfolding
-- plain definitions in a metavariable's type
set_option backward.isDefEq.respectTransparency.types false in
/-- The kernel runs, its argument arrays end unchanged, and every semaphore is at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  RDat.θ_run_frame_track (Q' := _) cfgs (0 : Fin 1) launch0 defs₀ Variants.none (rdat m) m ρ main
    (hbody := body_obligation m) (hshare := fun c => (rdat m c).share_full fun _ => rfl) (howed := fun _ _ => rfl) (V := V m)
    (hmain := hmain m Variants.none) (hA := fun _ _ => rfl) (hin := fun _ => .rfl) (hout := fun _ => .rfl)
    (hQ' := fun r h => ⟨fun c => ⟨arg_0 m c r h.1, arg_1 m c r h.1, arg_2 m c r h.1, arg_3 m c r h.1⟩, h.2⟩)

end Cert.Proof.ScanFwdIdeal

end
-- ==== Proof.Scan.Fwd.lean ====
/- Hand-written, untrusted: THE FORWARD SCAN'S FRAME OVER MACHINE NUMBERS, by the run over any numbers (FwdIdeal.lean): the two
   programs have the same text. -/
module

public import proofs.«01_k».proof.Defs
public import proofs.«01_k».proof.Proof.Gen.KernelScan
public import proofs.«01_k».proof.Proof.Scan.FwdIdeal

@[expose] public section

noncomputable section

namespace Cert.Proof.ScanFwd

open Idealize.ShloMosaic Idealize.SL.Sem

/-- The kernel runs, its argument arrays end unchanged, and every semaphore is at zero at the end. -/
theorem frame : Cert.quiescent_KernelScan (hKernelScan := Cert.KernelScan.Gen.facts) := by
  intro m ρ _
  have h := ScanFwdIdeal.frame (F := Bits) m ρ
  refine (?_ : _ = _).mp h
  sl_kernel_rfl

end Cert.Proof.ScanFwd

end
-- ==== Proof.Scan.Loop.lean ====
/-
  The loop over a block's groups of eight rows: from the state before a group each trip leaves the states of the group's
  rows, and carries the last one on.
-/
module

public import proofs.«01_k».proof.Proof.Gen.KernelScanIdeal.Loops
public import Idealize.ShloMosaic.Lib.WritesUnit
public import Idealize.ShloMosaic.Lib.Pipeline.ValueKit

@[expose] public section

set_option maxRecDepth 16384

noncomputable section

namespace Cert.Proof.Scan

open Cert.KernelScanIdeal Cert.KernelScanIdeal.Gen
open Idealize.ShloMosaic Idealize.ShloMosaic.TcCoe

variable {F : FTy → Type} [FloatOps F]

/-- One row of a block's lanes as the row vector that the kernel carries. -/
def lane (f : Fin 512 → F .f32) : Vec F S1x512 .f32 := fun x => f (x 1)

/-- The eight rows after row `n`. -/
def rows8 (R : ℕ → Fin 512 → F .f32) (n : ℕ) : Vec F S8x512 .f32 := fun x => R (n + (x 0).val + 1) (x 1)

section
variable (𝒱 : Variants) (c : Dev nD) (bd : Option 𝒱.V) (i : grid0.Coords) (arg3 : Memref sig .tc .vmem S256x512 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S32x8x512 .f32) (harg11 : arg11.IsWhole) (arg12 : Memref sig .tc .vmem S32x8x512 .f32) (harg12 : arg12.IsWhole) (arg13 : Memref sig .tc .vmem S256x512 .f32) (harg13 : arg13.IsWhole) (arg14 : Memref sig .tc .vmem S256x512 .f32) (harg14 : arg14.IsWhole) (v70 : FVec F S1x1x512 .f32) (v73 : FVec F S1x1x512 .f32) (v104 : IVec S8x512 32) (v127 : FVec F S8x512 .f32) (v128 : FVec F S8x512 .f32) (v135 : FVec F S8x512 .f32) (v140 : FVec F S8x512 .f32) (X_arg11 : BufTy.Contents (Elt F) arg11.view.ty) (X_arg12 : BufTy.Contents (Elt F) arg12.view.ty)

/-- A trip carries the last row of its group on. -/
theorem trip_result (k : Fin k0_t1_loop.trips) (acc : Vec F S1x512 .f32 × Vec F S1x512 .f32) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 k acc =
      (k0_pay57 v70 v73 v104 v127 v128 v135 v140 acc.1 acc.2 (View.readAt (Elt F) arg11.view (Rect.unit (s := S32x8x512) (k0_off1 k) S1x8x512.size (k0_off1_inb k)).toLoadRect X_arg11),
        k0_pay58 v70 v73 v104 v127 v128 v135 v140 acc.1 acc.2 (View.readAt (Elt F) arg12.view (Rect.unit (s := S32x8x512) (k0_off1 k) S1x8x512.size (k0_off1_inb k)).toLoadRect X_arg12)) := by
  unfold tripR_k0_t1 trip_k0_t1
  rfl

/-- A trip stores its group's rows. -/
theorem trip_pieces (k : Fin k0_t1_loop.trips) (acc : Vec F S1x512 .f32 × Vec F S1x512 .f32) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 k acc =
      ([⟨Rect.unit (s := S256x512) (k0_off2 k) S8x512.size (k0_off2_inb k), k0_pay55 v70 v73 v104 v127 v128 v135 v140 acc.1 acc.2 (View.readAt (Elt F) arg11.view (Rect.unit (s := S32x8x512) (k0_off1 k) S1x8x512.size (k0_off1_inb k)).toLoadRect X_arg11)⟩],
        [⟨Rect.unit (s := S256x512) (k0_off2 k) S8x512.size (k0_off2_inb k), k0_pay56 v70 v73 v104 v127 v128 v135 v140 acc.1 acc.2 (View.readAt (Elt F) arg12.view (Rect.unit (s := S32x8x512) (k0_off1 k) S1x8x512.size (k0_off1_inb k)).toLoadRect X_arg12)⟩]) := by
  unfold tripL_k0_t1 trip_k0_t1
  rfl

theorem trips_eq : k0_t1_loop.trips = 32 := by decide

theorem off2_eq (k : Fin k0_t1_loop.trips) : k0_off2 k = ![8 * k.val, 0] :=
  (by decide +kernel : ∀ k : Fin k0_t1_loop.trips, k0_off2 k = ![8 * k.val, 0]) k

theorem off1_eq (k : Fin k0_t1_loop.trips) : k0_off1 k = ![k.val, 0, 0] :=
  (by decide +kernel : ∀ k : Fin k0_t1_loop.trips, k0_off1 k = ![k.val, 0, 0]) k

/-- A group's last row. -/
theorem last_row (R : ℕ → Fin 512 → F .f32) (n : ℕ) : extractStridedSlice S1x512 ![7, 0] (rows8 R n) slices_S8x512_o7_0_S1x512 = lane (R (n + 8)) := by
  funext x
  obtain ⟨a, b, rfl⟩ : ∃ (a : Fin 1) (b : Fin 512), x = ix2 a b := ⟨x 0, x 1, by funext a; fin_cases a <;> rfl⟩
  have ha : a = 0 := Subsingleton.elim _ _
  subst ha
  pointwise
  rfl

/-- A stored row, read where it lies in the block. -/
theorem stored_row (R : ℕ → Fin 512 → F .f32) (k : ℕ) (p : Fin 256) (q : Fin 512) (h : 8 * k ≤ p.val ∧ p.val < 8 * k + 8)
    (x : S8x512.Idx) (hx : x = ix2 ⟨p.val - 8 * k, by omega⟩ q) :
    shapeCast S8x512 (rows8 R (8 * k)) shapeCasts_S8x512_S8x512 x = R (p.val + 1) q := by
  subst hx
  pointwise
  show R (8 * k + (p.val - 8 * k) + 1) q = _
  congr 1
  omega

/-- What the loop leaves before trip `k`, for two families of rows that every trip continues: the carried row, and the rows
    stored so far. -/
theorem loop_rows (R I : ℕ → Fin 512 → F .f32) (init : Vec F S1x512 .f32 × Vec F S1x512 .f32) (h0 : init = (lane (R 0), lane (I 0)))
    (hR : ∀ k : Fin k0_t1_loop.trips, k0_pay53 v70 v73 v104 v127 v128 v135 v140 (lane (R (8 * k.val))) (lane (I (8 * k.val))) (View.readAt (Elt F) arg11.view (Rect.unit (s := S32x8x512) (k0_off1 k) S1x8x512.size (k0_off1_inb k)).toLoadRect X_arg11) = rows8 R (8 * k.val))
    (hI : ∀ k : Fin k0_t1_loop.trips, k0_pay54 v70 v73 v104 v127 v128 v135 v140 (lane (R (8 * k.val))) (lane (I (8 * k.val))) (View.readAt (Elt F) arg12.view (Rect.unit (s := S32x8x512) (k0_off1 k) S1x8x512.size (k0_off1_inb k)).toLoadRect X_arg12) = rows8 I (8 * k.val))
    (k : ℕ) (hk : k ≤ 32) :
    (st_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 init k).1 = (lane (R (8 * k)), lane (I (8 * k))) ∧
    (∀ (f : BufTy.Contents (Elt F) arg13.view.ty) (p : Fin 256) (q : Fin 512), p.val < 8 * k → arg13.view.read (Elt F) (arg13.view.writes (Elt F) f (st_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 init k).2.1) (ix2 p q) = R (p.val + 1) q) ∧
    (∀ (f : BufTy.Contents (Elt F) arg14.view.ty) (p : Fin 256) (q : Fin 512), p.val < 8 * k → arg14.view.read (Elt F) (arg14.view.writes (Elt F) f (st_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 init k).2.2) (ix2 p q) = I (p.val + 1) q) := by
  induction k with
  | zero => exact ⟨h0, fun _ _ _ h => absurd h (by omega), fun _ _ _ h => absurd h (by omega)⟩
  | succ k ih =>
    have hk' : k < k0_t1_loop.trips := lt_of_lt_of_eq (by omega : k < 32) trips_eq.symm
    obtain ⟨e1, e2, e3⟩ := ih (by omega)
    have es := st_k0_t1_succ (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 init ⟨k, hk'⟩
    rw [trip_result, trip_pieces, e1] at es
    have es' : st_k0_t1 (F := F) 𝒱 c bd i arg3 harg3 arg4 harg4 arg5 harg5 arg6 harg6 arg7 harg7 arg8 harg8 arg9 harg9 arg10 harg10 arg11 harg11 arg12 harg12 arg13 harg13 arg14 harg14 v70 v73 v104 v127 v128 v135 v140 X_arg11 X_arg12 init (k + 1) = _ := es
    rw [es']
    have hr := hR ⟨k, hk'⟩
    have hi := hI ⟨k, hk'⟩
    simp only at hr hi
    simp only [k0_pay55, k0_pay56, k0_pay57, k0_pay58, hr, hi]
    refine ⟨?_, fun f p q hp => ?_, fun f p q hp => ?_⟩
    · rw [last_row, last_row]; rfl
    · rw [List.singleton_append]
      refine (View.read_writes_cons_rows (d := S256x512.size) (o := 8 * k) (W := 8) arg13.view f (k0_off2_inb ⟨k, hk'⟩) _ _ (ix2 p q) (off2_eq ⟨k, hk'⟩) rfl rfl).trans ?_
      split
      · rename_i h
        exact stored_row R k p q h _ (by funext a; fin_cases a <;> rfl)
      · rename_i h
        exact e2 f p q (by have : ¬ (8 * k ≤ p.val ∧ p.val < 8 * k + 8) := h; omega)
    · rw [List.singleton_append]
      refine (View.read_writes_cons_rows (d := S256x512.size) (o := 8 * k) (W := 8) arg14.view f (k0_off2_inb ⟨k, hk'⟩) _ _ (ix2 p q) (off2_eq ⟨k, hk'⟩) rfl rfl).trans ?_
      split
      · rename_i h
        exact stored_row I k p q h _ (by funext a; fin_cases a <;> rfl)
      · rename_i h
        exact e3 f p q (by have : ¬ (8 * k ≤ p.val ∧ p.val < 8 * k + 8) := h; omega)
end
end Cert.Proof.Scan
end
-- ==== Proof.Scan.Run.lean ====
/-
  One run of the scan kernel's body: the block it reads, the state it carries in, and what it leaves in the result blocks and
  in the carried state.
-/
module

public import proofs.«01_k».proof.Proof.Scan.FwdIdeal
public import proofs.«01_k».proof.Proof.Scan.Loop
public import Idealize.ShloMosaic.Lib.VecWindow

@[expose] public section

set_option maxRecDepth 16384

noncomputable section

namespace Cert.Proof.Scan

open Cert.KernelScanIdeal Cert.KernelScanIdeal.Gen Cert.Proof.ScanFwdIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer of rows, and one of a single line, as the body loads it. -/
local notation "tile[" a ", " f "]" => View.readAt (Elt F) (Memref.view a) (Rect.toLoadRect (Rect.unit ![0, 0] (Shape.size S256x512) inb_S256x512_S256x512_0_0)) f
local notation "line[" a ", " f "]" => View.readAt (Elt F) (Memref.view a) (Rect.toLoadRect (Rect.unit ![0, 0] (Shape.size S1x512) inb_S1x512_S1x512_0_0)) f

/-- The row numbers inside a group. -/
def ids : IVec S8x512 32 := iota .tc S8x512 32 [0] iota_S8x512_d0_w32
def ids3 : IVec S1x8x512 32 := iota .tc S1x8x512 32 [1] iota_S1x8x512_d1_w32

section
variable (x0 x1 : Vec F S256x512 .bf16) (x2 x3 : Vec F S1x512 .f32)

/-- The groups after the first doubling step. -/
def oneR : FVec F S32x8x512 .f32 := k0_pay13 x0 x1 x2 x3
def oneI : FVec F S32x8x512 .f32 := k0_pay14 x0 x1 x2 x3

/-- The factor's square and its fourth power. -/
def sqR : FVec F S1x1x512 .f32 := k0_pay15 x2 x3
def sqI : FVec F S1x1x512 .f32 := k0_pay16 (k0_pay6 x2) (k0_pay7 x3)
def qdR : FVec F S1x1x512 .f32 := k0_pay24 (k0_pay6 x2) (k0_pay7 x3) (sqR x2 x3)
def qdI : FVec F S1x1x512 .f32 := k0_pay25 (k0_pay6 x2) (k0_pay7 x3) (sqR x2 x3)

/-- The groups after the three doubling steps: each row's state from the group's own rows alone. -/
def locR : FVec F S32x8x512 .f32 :=
  k0_pay32 (k0_pay22 ids3 (k0_pay6 x2) (k0_pay7 x3) (oneR x0 x1 x2 x3) (oneI x0 x1 x2 x3) (sqR x2 x3))
    (k0_pay31 ids3 (k0_pay6 x2) (k0_pay7 x3) (oneR x0 x1 x2 x3) (oneI x0 x1 x2 x3) (sqR x2 x3))
def locI : FVec F S32x8x512 .f32 :=
  k0_pay33 (k0_pay23 ids3 (k0_pay6 x2) (k0_pay7 x3) (oneR x0 x1 x2 x3) (oneI x0 x1 x2 x3) (sqR x2 x3))
    (k0_pay26 ids3 (k0_pay6 x2) (k0_pay7 x3) (oneR x0 x1 x2 x3) (oneI x0 x1 x2 x3) (sqR x2 x3))
    (k0_pay27 ids3 (k0_pay6 x2) (k0_pay7 x3) (oneR x0 x1 x2 x3) (oneI x0 x1 x2 x3) (sqR x2 x3))
    (k0_pay29 ids3 (k0_pay6 x2) (k0_pay7 x3) (sqR x2 x3)) (k0_pay30 ids3 (k0_pay6 x2) (k0_pay7 x3) (sqR x2 x3))

/-- A group of the block. -/
def group (f : FVec F S32x8x512 .f32) (k : Fin k0_t1_loop.trips) : Vec F S1x8x512 .f32 :=
  fun x => f (ix3 ⟨k.val, lt_of_lt_of_eq k.isLt trips_eq⟩ (x 1) (x 2))

/-- What a trip makes of the carried row and its group. -/
def stepR (k : Fin k0_t1_loop.trips) (r i : Fin 512 → F .f32) : FVec F S8x512 .f32 :=
  k0_pay53 (qdR x2 x3) (qdI x2 x3) ids (k0_pay39 (k0_pay6 x2) (k0_pay7 x3)) (k0_pay40 (k0_pay6 x2) (k0_pay7 x3))
    (k0_pay43 (k0_pay6 x2) (k0_pay7 x3) (sqR x2 x3) (sqI x2 x3)) (k0_pay44 (k0_pay6 x2) (k0_pay7 x3) (sqR x2 x3) (sqI x2 x3)) (lane r) (lane i) (group (locR x0 x1 x2 x3) k)
def stepI (k : Fin k0_t1_loop.trips) (r i : Fin 512 → F .f32) : FVec F S8x512 .f32 :=
  k0_pay54 (qdR x2 x3) (qdI x2 x3) ids (k0_pay39 (k0_pay6 x2) (k0_pay7 x3)) (k0_pay40 (k0_pay6 x2) (k0_pay7 x3))
    (k0_pay43 (k0_pay6 x2) (k0_pay7 x3) (sqR x2 x3) (sqI x2 x3)) (k0_pay44 (k0_pay6 x2) (k0_pay7 x3) (sqR x2 x3) (sqI x2 x3)) (lane r) (lane i) (group (locI x0 x1 x2 x3) k)
end

/-- A block's rows. -/
def block (R : ℕ → Fin 512 → F .f32) : Vec F S256x512 .f32 := fun y => R ((y 0).val + 1) (y 1)

/-- A family of rows that a block's run leaves: every trip continues it. -/
def Runs (x0 x1 : Vec F S256x512 .bf16) (x2 x3 : Vec F S1x512 .f32) (R I : ℕ → Fin 512 → F .f32) : Prop :=
  ∀ k : Fin k0_t1_loop.trips, stepR x0 x1 x2 x3 k (R (8 * k.val)) (I (8 * k.val)) = rows8 R (8 * k.val) ∧ stepI x0 x1 x2 x3 k (R (8 * k.val)) (I (8 * k.val)) = rows8 I (8 * k.val)

/-- A stored block, loaded a group at a time. -/
theorem load_group {arg : Memref sig .tc .vmem S32x8x512 .f32} (f : FVec F S32x8x512 .f32) (g : BufTy.Contents (Elt F) arg.view.ty) (k : Fin k0_t1_loop.trips) :
    View.readAt (Elt F) arg.view (Rect.unit (s := S32x8x512) (k0_off1 k) S1x8x512.size (k0_off1_inb k)).toLoadRect
      (arg.view.writes (Elt F) g [⟨Rect.unit (s := S32x8x512) ![0, 0, 0] S32x8x512.size inb_S32x8x512_S32x8x512_0_0_0, f⟩]) = group f k := by
  funext x
  show View.read (Elt F) arg.view _ ((Rect.unit (s := S32x8x512) (k0_off1 k) S1x8x512.size (k0_off1_inb k)).toLoadRect.idx x) = _
  rw [View.read_writes_full]
  refine congrArg f (funext fun a => Fin.ext ?_)
  have e := off1_eq k
  have h0 : (x 0).val = 0 := by have := (x 0).isLt; have h1 : (Rect.unit (s := S32x8x512) (k0_off1 k) S1x8x512.size (k0_off1_inb k)).shape.size 0 = 1 := rfl; omega
  fin_cases a
  · show k0_off1 k 0 + 1 * (x 0).val = k.val
    have e' : k0_off1 k 0 = k.val := congrFun e 0
    omega
  · show k0_off1 k 1 + 1 * (x 1).val = (x 1).val
    have e' : k0_off1 k 1 = 0 := congrFun e 1
    omega
  · show k0_off1 k 2 + 1 * (x 2).val = (x 2).val
    have e' : k0_off1 k 2 = 0 := congrFun e 2
    omega

/-- A reshape to the same shape changes nothing. -/
theorem shapeCast_rfl (x : Vec F S1x512 .f32) : shapeCast S1x512 x shapeCasts_S1x512_S1x512 = x := by
  funext y
  obtain ⟨p, q, rfl⟩ : ∃ (p : Fin 1) (q : Fin 512), y = ix2 p q := ⟨y 0, y 1, by funext a; fin_cases a <;> rfl⟩
  have hp : p = 0 := Subsingleton.elim _ _
  subst hp
  pointwise

/-- The loop at what the body stores before it: after its trips the carried row is the block's last, and every row is
    stored. -/
theorem run_rows (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S32x8x512 .f32) (harg11 : arg11.IsWhole) (arg12 : Memref sig .tc .vmem S32x8x512 .f32) (harg12 : arg12.IsWhole) (arg13 : Memref sig .tc .vmem S256x512 .f32) (harg13 : arg13.IsWhole) (arg14 : Memref sig .tc .vmem S256x512 .f32) (harg14 : arg14.IsWhole) (f0 : BufTy.Contents (Elt F) arg3.view.ty) (f1 : BufTy.Contents (Elt F) arg4.view.ty) (f2 : BufTy.Contents (Elt F) arg5.view.ty) (f3 : BufTy.Contents (Elt F) arg6.view.ty)
    (R I : ℕ → Fin 512 → F .f32) (hrun : Runs tile[arg3, f0] tile[arg4, f1] line[arg5, f2] line[arg6, f3] R I) (init : Vec F S1x512 .f32 × Vec F S1x512 .f32) (h0 : init = (lane (R 0), lane (I 0))) :
    (st_k0_t1 (F := F) Variants.none c none i arg3 harg3 arg4 harg4 arg5 harg5 arg6 harg6 arg7 harg7 arg8 harg8 arg9 harg9 arg10 harg10 arg11 harg11 arg12 harg12 arg13 harg13 arg14 harg14 (qdR line[arg5, f2] line[arg6, f3]) (qdI line[arg5, f2] line[arg6, f3]) ids (k0_pay39 (k0_pay6 line[arg5, f2]) (k0_pay7 line[arg6, f3])) (k0_pay40 (k0_pay6 line[arg5, f2]) (k0_pay7 line[arg6, f3])) (k0_pay43 (k0_pay6 line[arg5, f2]) (k0_pay7 line[arg6, f3]) (sqR line[arg5, f2] line[arg6, f3]) (sqI line[arg5, f2] line[arg6, f3])) (k0_pay44 (k0_pay6 line[arg5, f2]) (k0_pay7 line[arg6, f3]) (sqR line[arg5, f2] line[arg6, f3]) (sqI line[arg5, f2] line[arg6, f3])) (arg11.view.writes (Elt F) arg11.view.junk [⟨Rect.unit (s := S32x8x512) ![0, 0, 0] S32x8x512.size inb_S32x8x512_S32x8x512_0_0_0, locR tile[arg3, f0] tile[arg4, f1] line[arg5, f2] line[arg6, f3]⟩]) (arg12.view.writes (Elt F) arg12.view.junk [⟨Rect.unit (s := S32x8x512) ![0, 0, 0] S32x8x512.size inb_S32x8x512_S32x8x512_0_0_0, locI tile[arg3, f0] tile[arg4, f1] line[arg5, f2] line[arg6, f3]⟩]) init k0_t1_loop.trips).1 = (lane (R 256), lane (I 256)) ∧
    (∀ f, arg13.view.read (Elt F) (arg13.view.writes (Elt F) f (st_k0_t1 (F := F) Variants.none c none i arg3 harg3 arg4 harg4 arg5 harg5 arg6 harg6 arg7 harg7 arg8 harg8 arg9 harg9 arg10 harg10 arg11 harg11 arg12 harg12 arg13 harg13 arg14 harg14 (qdR line[arg5, f2] line[arg6, f3]) (qdI line[arg5, f2] line[arg6, f3]) ids (k0_pay39 (k0_pay6 line[arg5, f2]) (k0_pay7 line[arg6, f3])) (k0_pay40 (k0_pay6 line[arg5, f2]) (k0_pay7 line[arg6, f3])) (k0_pay43 (k0_pay6 line[arg5, f2]) (k0_pay7 line[arg6, f3]) (sqR line[arg5, f2] line[arg6, f3]) (sqI line[arg5, f2] line[arg6, f3])) (k0_pay44 (k0_pay6 line[arg5, f2]) (k0_pay7 line[arg6, f3]) (sqR line[arg5, f2] line[arg6, f3]) (sqI line[arg5, f2] line[arg6, f3])) (arg11.view.writes (Elt F) arg11.view.junk [⟨Rect.unit (s := S32x8x512) ![0, 0, 0] S32x8x512.size inb_S32x8x512_S32x8x512_0_0_0, locR tile[arg3, f0] tile[arg4, f1] line[arg5, f2] line[arg6, f3]⟩]) (arg12.view.writes (Elt F) arg12.view.junk [⟨Rect.unit (s := S32x8x512) ![0, 0, 0] S32x8x512.size inb_S32x8x512_S32x8x512_0_0_0, locI tile[arg3, f0] tile[arg4, f1] line[arg5, f2] line[arg6, f3]⟩]) init k0_t1_loop.trips).2.1) = block R) ∧
    (∀ f, arg14.view.read (Elt F) (arg14.view.writes (Elt F) f (st_k0_t1 (F := F) Variants.none c none i arg3 harg3 arg4 harg4 arg5 harg5 arg6 harg6 arg7 harg7 arg8 harg8 arg9 harg9 arg10 harg10 arg11 harg11 arg12 harg12 arg13 harg13 arg14 harg14 (qdR line[arg5, f2] line[arg6, f3]) (qdI line[arg5, f2] line[arg6, f3]) ids (k0_pay39 (k0_pay6 line[arg5, f2]) (k0_pay7 line[arg6, f3])) (k0_pay40 (k0_pay6 line[arg5, f2]) (k0_pay7 line[arg6, f3])) (k0_pay43 (k0_pay6 line[arg5, f2]) (k0_pay7 line[arg6, f3]) (sqR line[arg5, f2] line[arg6, f3]) (sqI line[arg5, f2] line[arg6, f3])) (k0_pay44 (k0_pay6 line[arg5, f2]) (k0_pay7 line[arg6, f3]) (sqR line[arg5, f2] line[arg6, f3]) (sqI line[arg5, f2] line[arg6, f3])) (arg11.view.writes (Elt F) arg11.view.junk [⟨Rect.unit (s := S32x8x512) ![0, 0, 0] S32x8x512.size inb_S32x8x512_S32x8x512_0_0_0, locR tile[arg3, f0] tile[arg4, f1] line[arg5, f2] line[arg6, f3]⟩]) (arg12.view.writes (Elt F) arg12.view.junk [⟨Rect.unit (s := S32x8x512) ![0, 0, 0] S32x8x512.size inb_S32x8x512_S32x8x512_0_0_0, locI tile[arg3, f0] tile[arg4, f1] line[arg5, f2] line[arg6, f3]⟩]) init k0_t1_loop.trips).2.2) = block I) := by
  have key := loop_rows (F := F) (𝒱 := Variants.none) (c := c) (bd := none) (i := i) (arg3 := arg3) (arg4 := arg4) (arg5 := arg5) (arg6 := arg6) (arg7 := arg7) (arg8 := arg8) (arg9 := arg9) (arg10 := arg10) (arg11 := arg11) (arg12 := arg12) (arg13 := arg13) (arg14 := arg14) (harg3 := harg3) (harg4 := harg4) (harg5 := harg5) (harg6 := harg6) (harg7 := harg7) (harg8 := harg8) (harg9 := harg9) (harg10 := harg10) (harg11 := harg11) (harg12 := harg12) (harg13 := harg13) (harg14 := harg14)
    (v70 := (qdR line[arg5, f2] line[arg6, f3])) (v73 := (qdI line[arg5, f2] line[arg6, f3])) (v104 := ids) (v127 := (k0_pay39 (k0_pay6 line[arg5, f2]) (k0_pay7 line[arg6, f3]))) (v128 := (k0_pay40 (k0_pay6 line[arg5, f2]) (k0_pay7 line[arg6, f3]))) (v135 := (k0_pay43 (k0_pay6 line[arg5, f2]) (k0_pay7 line[arg6, f3]) (sqR line[arg5, f2] line[arg6, f3]) (sqI line[arg5, f2] line[arg6, f3]))) (v140 := (k0_pay44 (k0_pay6 line[arg5, f2]) (k0_pay7 line[arg6, f3]) (sqR line[arg5, f2] line[arg6, f3]) (sqI line[arg5, f2] line[arg6, f3]))) (X_arg11 := (arg11.view.writes (Elt F) arg11.view.junk [⟨Rect.unit (s := S32x8x512) ![0, 0, 0] S32x8x512.size inb_S32x8x512_S32x8x512_0_0_0, locR tile[arg3, f0] tile[arg4, f1] line[arg5, f2] line[arg6, f3]⟩])) (X_arg12 := (arg12.view.writes (Elt F) arg12.view.junk [⟨Rect.unit (s := S32x8x512) ![0, 0, 0] S32x8x512.size inb_S32x8x512_S32x8x512_0_0_0, locI tile[arg3, f0] tile[arg4, f1] line[arg5, f2] line[arg6, f3]⟩])) R I init h0
    (fun k => by rw [load_group]; exact (hrun k).1) (fun k => by rw [load_group]; exact (hrun k).2) 32 le_rfl
  rw [trips_eq]
  refine ⟨key.1, fun f => funext fun y => ?_, fun f => funext fun y => ?_⟩
  · obtain ⟨p, q, rfl⟩ : ∃ (p : Fin 256) (q : Fin 512), y = ix2 p q := ⟨y 0, y 1, by funext a; fin_cases a <;> rfl⟩
    exact key.2.1 f p q p.isLt
  · obtain ⟨p, q, rfl⟩ : ∃ (p : Fin 256) (q : Fin 512), y = ix2 p q := ⟨y 0, y 1, by funext a; fin_cases a <;> rfl⟩
    exact key.2.2 f p q p.isLt

set_option maxHeartbeats 4000000 in
/-- The body's run: the result blocks end at the rows, and the carried state at the last one. -/
theorem body_rows (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S32x8x512 .f32) (harg11 : arg11.IsWhole) (arg12 : Memref sig .tc .vmem S32x8x512 .f32) (harg12 : arg12.IsWhole) (arg13 : Memref sig .tc .vmem S256x512 .f32) (harg13 : arg13.IsWhole) (arg14 : Memref sig .tc .vmem S256x512 .f32) (harg14 : arg14.IsWhole)
    (x0 x1 : Vec F S256x512 .bf16) (x2 x3 : Vec F S1x512 .f32) (y0 y1 : Vec F S1x512 .f32) (R I : ℕ → Fin 512 → F .f32) (hrun : Runs x0 x1 x2 x3 R I)
    (hfirst : (Scalar.cmpi .ne (Scalar.extui (Scalar.cmpi .eq (BitVec.ofNat 32 (i 2).val) 0#32) : BitVec 32) 0#32 : BitVec 1) = 1#1 → lane (R 0) = k0_pay2 ∧ lane (I 0) = k0_pay3) (hnext : ¬ (Scalar.cmpi .ne (Scalar.extui (Scalar.cmpi .eq (BitVec.ofNat 32 (i 2).val) 0#32) : BitVec 32) 0#32 : BitVec 1) = 1#1 → lane (R 0) = y0 ∧ lane (I 0) = y1) :
    iprop(owns (c : Thread nD τ) arg3 fullShare x0 ∗ owns (c : Thread nD τ) arg4 fullShare x1 ∗ owns (c : Thread nD τ) arg5 fullShare x2 ∗ owns (c : Thread nD τ) arg6 fullShare x3 ∗ held c arg7 ∗ held c arg8 ∗ owns (c : Thread nD τ) arg9 fullShare y0 ∗ owns (c : Thread nD τ) arg10 fullShare y1 ∗ held c arg11 ∗ held c arg12 ∗ held c arg13 ∗ held c arg14)
      ⊢ (wp frame (wpE (defs₀ (F := F)) Variants.none c none) Set.univ (cc0_mix_scan i arg3 harg3 arg4 harg4 arg5 harg5 arg6 harg6 arg7 harg7 arg8 harg8 arg9 harg9 arg10 harg10 arg11 harg11 arg12 harg12 arg13 harg13 arg14 harg14) (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay61 (block R)) ∗ owns (c : Thread nD τ) arg8 fullShare (k0_pay1 (block I)) ∗ owns (c : Thread nD τ) arg9 fullShare (lane (R 256)) ∗ owns (c : Thread nD τ) arg10 fullShare (lane (I 256)) ∗ held c arg11 ∗ held c arg12 ∗ held c arg13 ∗ held c arg14)) : sProp 𝕄) := by
  by_cases hc0 : (Scalar.cmpi .ne (Scalar.extui (Scalar.cmpi .eq (BitVec.ofNat 32 (i 2).val) 0#32) : BitVec 32) 0#32 : BitVec 1) = 1#1
  all_goals
    simp only [cc0_mix_scan_eq_skeleton]; unfold cc0_mix_scan_skel
    simp only [k0_part1_eq_skeleton, k0_part2_eq_skeleton, k0_part3_eq_skeleton, k0_part4_eq_skeleton]
    unfold held owns
    iintro ⟨⟨%f0, %e0, H0⟩, ⟨%f1, %e1, H1⟩, ⟨%f2, %e2, H2⟩, ⟨%f3, %e3, H3⟩, ⟨%f4, H4⟩, ⟨%f5, H5⟩, ⟨%f6, %e6, H6⟩, ⟨%f7, %e7, H7⟩, ⟨%f8, H8⟩, ⟨%f9, H9⟩, ⟨%f10, H10⟩, ⟨%f11, H11⟩⟩
    sl_exec (disch := first | sl_exact hc0)
    sl_step
    have key := run_rows c i arg3 harg3 arg4 harg4 arg5 harg5 arg6 harg6 arg7 harg7 arg8 harg8 arg9 harg9 arg10 harg10 arg11 harg11 arg12 harg12 arg13 harg13 arg14 harg14 f0 f1 f2 f3 R I (by rw [View.readAt_full, View.readAt_full, View.readAt_full, View.readAt_full, e0, e1, e2, e3]; exact hrun)
  · isplitl [H0]
    · iexists _
      isplitr
      · ipureintro; exact e0
      iexact H0
    isplitl [H1]
    · iexists _
      isplitr
      · ipureintro; exact e1
      iexact H1
    isplitl [H2]
    · iexists _
      isplitr
      · ipureintro; exact e2
      iexact H2
    isplitl [H3]
    · iexists _
      isplitr
      · ipureintro; exact e3
      iexact H3
    isplitl [H4]
    · iexists _
      isplitr
      swap; iexact H4
      ipureintro
      refine (View.read_writes_full _ _ _ _ _).trans (congrArg k0_pay61 ((View.readAt_full _ _ _).trans ((key _ ?_).2.1 _)))
      refine Prod.ext ?_ ?_
      · unfold body_rows.sl.v165 body_rows.sl.H6_1; dsimp only; refine Eq.trans (View.readCov_full _ _ _ _ _) ?_; exact (hfirst hc0).1.symm
      · unfold body_rows.sl.v166 body_rows.sl.H7_1; dsimp only; refine Eq.trans (View.readCov_full _ _ _ _ _) ?_; exact (hfirst hc0).2.symm
    isplitl [H5]
    · iexists _
      isplitr
      swap; iexact H5
      ipureintro
      refine (View.read_writes_full _ _ _ _ _).trans (congrArg k0_pay1 ((View.readAt_full _ _ _).trans ((key _ ?_).2.2 _)))
      refine Prod.ext ?_ ?_
      · unfold body_rows.sl.v165 body_rows.sl.H6_1; dsimp only; refine Eq.trans (View.readCov_full _ _ _ _ _) ?_; exact (hfirst hc0).1.symm
      · unfold body_rows.sl.v166 body_rows.sl.H7_1; dsimp only; refine Eq.trans (View.readCov_full _ _ _ _ _) ?_; exact (hfirst hc0).2.symm
    isplitl [H6]
    · iexists _
      isplitr
      swap; iexact H6
      ipureintro
      refine (View.read_writes_full _ _ _ _ _).trans ((shapeCast_rfl _).trans (congrArg (fun s : Vec F S1x512 .f32 × Vec F S1x512 .f32 => s.1) (key _ ?_).1))
      refine Prod.ext ?_ ?_
      · unfold body_rows.sl.v165 body_rows.sl.H6_1; dsimp only; refine Eq.trans (View.readCov_full _ _ _ _ _) ?_; exact (hfirst hc0).1.symm
      · unfold body_rows.sl.v166 body_rows.sl.H7_1; dsimp only; refine Eq.trans (View.readCov_full _ _ _ _ _) ?_; exact (hfirst hc0).2.symm
    isplitl [H7]
    · iexists _
      isplitr
      swap; iexact H7
      ipureintro
      refine (View.read_writes_full _ _ _ _ _).trans ((shapeCast_rfl _).trans (congrArg (fun s : Vec F S1x512 .f32 × Vec F S1x512 .f32 => s.2) (key _ ?_).1))
      refine Prod.ext ?_ ?_
      · unfold body_rows.sl.v165 body_rows.sl.H6_1; dsimp only; refine Eq.trans (View.readCov_full _ _ _ _ _) ?_; exact (hfirst hc0).1.symm
      · unfold body_rows.sl.v166 body_rows.sl.H7_1; dsimp only; refine Eq.trans (View.readCov_full _ _ _ _ _) ?_; exact (hfirst hc0).2.symm
    isplitl [H8]; · iexists _; iexact H8
    isplitl [H9]; · iexists _; iexact H9
    isplitl [H10]; · iexists _; iexact H10
    iexists _; iexact H11
  · isplitl [H0]
    · iexists _
      isplitr
      · ipureintro; exact e0
      iexact H0
    isplitl [H1]
    · iexists _
      isplitr
      · ipureintro; exact e1
      iexact H1
    isplitl [H2]
    · iexists _
      isplitr
      · ipureintro; exact e2
      iexact H2
    isplitl [H3]
    · iexists _
      isplitr
      · ipureintro; exact e3
      iexact H3
    isplitl [H4]
    · iexists _
      isplitr
      swap; iexact H4
      ipureintro
      refine (View.read_writes_full _ _ _ _ _).trans (congrArg k0_pay61 ((View.readAt_full _ _ _).trans ((key _ ?_).2.1 _)))
      exact Prod.ext (((View.readAt_full _ _ _).trans e6).trans (hnext hc0).1.symm) (((View.readAt_full _ _ _).trans e7).trans (hnext hc0).2.symm)
    isplitl [H5]
    · iexists _
      isplitr
      swap; iexact H5
      ipureintro
      refine (View.read_writes_full _ _ _ _ _).trans (congrArg k0_pay1 ((View.readAt_full _ _ _).trans ((key _ ?_).2.2 _)))
      exact Prod.ext (((View.readAt_full _ _ _).trans e6).trans (hnext hc0).1.symm) (((View.readAt_full _ _ _).trans e7).trans (hnext hc0).2.symm)
    isplitl [H6]
    · iexists _
      isplitr
      swap; iexact H6
      ipureintro
      refine (View.read_writes_full _ _ _ _ _).trans ((shapeCast_rfl _).trans (congrArg (fun s : Vec F S1x512 .f32 × Vec F S1x512 .f32 => s.1) (key _ ?_).1))
      exact Prod.ext (((View.readAt_full _ _ _).trans e6).trans (hnext hc0).1.symm) (((View.readAt_full _ _ _).trans e7).trans (hnext hc0).2.symm)
    isplitl [H7]
    · iexists _
      isplitr
      swap; iexact H7
      ipureintro
      refine (View.read_writes_full _ _ _ _ _).trans ((shapeCast_rfl _).trans (congrArg (fun s : Vec F S1x512 .f32 × Vec F S1x512 .f32 => s.2) (key _ ?_).1))
      exact Prod.ext (((View.readAt_full _ _ _).trans e6).trans (hnext hc0).1.symm) (((View.readAt_full _ _ _).trans e7).trans (hnext hc0).2.symm)
    isplitl [H8]; · iexists _; iexact H8
    isplitl [H9]; · iexists _; iexact H9
    isplitl [H10]; · iexists _; iexact H10
    iexists _; iexact H11

end Cert.Proof.Scan
end
-- ==== Proof.Scan.Value.lean ====
/-
  The scan kernel's launch at known values: for two families of rows, point by point, that the body continues, the result
  arrays end block by block at the rows.
-/
module

public import proofs.«01_k».proof.Proof.Scan.Run
public import Idealize.ShloMosaic.Lib.Pipeline.Value
public import Idealize.ShloMosaic.Lib.Pipeline.FrameBody
public import Idealize.ShloMosaic.Lib.Claim

@[expose] public section

set_option maxRecDepth 16384

noncomputable section

namespace Cert.Proof.Scan

open Cert.KernelScanIdeal Cert.KernelScanIdeal.Gen Cert.Proof.ScanFwdIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (R I : Dev nD → ℕ → ℕ → Fin 512 → F .f32)

/-- The carried buffers before point `n`: the state that the points of the same sequence left, anything at a sequence's first
    point; the other scratch buffers hold anything. -/
def carried (c : Dev nD) (n : ℕ) : sProp 𝕄 :=
  iprop(∃ y0 y1, ⌜¬ n % 16 = 0 → lane (R c n 0) = y0 ∧ lane (I c n 0) = y1⌝ ∗ owns (c : Thread nD τ) (Memref.whole cc0_scratch0) fullShare y0 ∗ owns (c : Thread nD τ) (Memref.whole cc0_scratch1) fullShare y1
    ∗ held c (Memref.whole cc0_scratch2) ∗ held c (Memref.whole cc0_scratch3) ∗ held c (Memref.whole cc0_scratch4) ∗ held c (Memref.whole cc0_scratch5) ∗ ∃ r, prngReg c r)

/-- At a sequence's first point the buffers may hold anything. -/
theorem carried_of (c : Dev nD) : (Pipeline.ΦA spec0 c : sProp 𝕄) ⊢ carried R I c 0 := by
  unfold Pipeline.ΦA carried; rw [scopedRest0_eq]
  iintro ⟨⟨S0, S1, S2, S3, S4, S5⟩, Hr⟩
  ihave S0 := (Entails.of_eq (held_whole (F := F) c cc0_scratch0)) $$ S0
  ihave S1 := (Entails.of_eq (held_whole (F := F) c cc0_scratch1)) $$ S1
  ihave S0 := (owns_of_held c _ (fun _ => True) fun _ => trivial) $$ S0
  ihave S1 := (owns_of_held c _ (fun _ => True) fun _ => trivial) $$ S1
  icases S0 with ⟨%y0, -, S0⟩
  icases S1 with ⟨%y1, -, S1⟩
  iexists y0, y1
  isplitr; · ipureintro; intro h; exact absurd rfl h
  isplitl [S0]; · iexact S0
  isplitl [S1]; · iexact S1
  isplitl [S2]; · iapply (Entails.of_eq (held_whole (F := F) c cc0_scratch2)); iexact S2
  isplitl [S3]; · iapply (Entails.of_eq (held_whole (F := F) c cc0_scratch3)); iexact S3
  isplitl [S4]; · iapply (Entails.of_eq (held_whole (F := F) c cc0_scratch4)); iexact S4
  isplitl [S5]; · iapply (Entails.of_eq (held_whole (F := F) c cc0_scratch5)); iexact S5
  iexact Hr

/-- And at the end what they hold is forgotten. -/
theorem of_carried (c : Dev nD) (n : ℕ) : carried R I c n ⊢ (Pipeline.ΦA spec0 c : sProp 𝕄) := by
  unfold Pipeline.ΦA carried; rw [scopedRest0_eq]
  iintro ⟨%y0, %y1, -, S0, S1, S2, S3, S4, S5, Hr⟩
  isplitl [S0 S1 S2 S3 S4 S5]
  · isplitl [S0]; · iapply (Entails.of_eq (held_whole (F := F) c cc0_scratch0).symm); iapply (held_of_owns c _ _); iexact S0
    isplitl [S1]; · iapply (Entails.of_eq (held_whole (F := F) c cc0_scratch1).symm); iapply (held_of_owns c _ _); iexact S1
    isplitl [S2]; · iapply (Entails.of_eq (held_whole (F := F) c cc0_scratch2).symm); iexact S2
    isplitl [S3]; · iapply (Entails.of_eq (held_whole (F := F) c cc0_scratch3).symm); iexact S3
    isplitl [S4]; · iapply (Entails.of_eq (held_whole (F := F) c cc0_scratch4).symm); iexact S4
    iapply (Entails.of_eq (held_whole (F := F) c cc0_scratch5).symm); iexact S5
  iexact Hr

/-- The proof data of the launch: the input buffers at their blocks, the result buffers at the rows. -/
def rowData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay61 (block (R c t.val))
    | ⟨5, _⟩ => k0_pay1 (block (I c t.val))
  Φ t := carried R I c t.val
  q _ := fullShare
  owed _ := 0

theorem rowData_A (c : Dev nD) (w : Fin cfg0.W) : (rowData m R I 0 c).A w = V m c (Pipeline.arrRef spec0 w) := by dsimp only [rowData]
theorem after0 (c : Dev nD) (t : Fin cfg0.N) : (rowData m R I 0 c).after 0 t = iblk m c 0 t := by dsimp only [rowData]
theorem after1 (c : Dev nD) (t : Fin cfg0.N) : (rowData m R I 0 c).after 1 t = iblk m c 1 t := by dsimp only [rowData]
theorem after2 (c : Dev nD) (t : Fin cfg0.N) : (rowData m R I 0 c).after 2 t = iblk m c 2 t := by dsimp only [rowData]
theorem after3 (c : Dev nD) (t : Fin cfg0.N) : (rowData m R I 0 c).after 3 t = iblk m c 3 t := by dsimp only [rowData]
theorem after4 (c : Dev nD) (t : Fin cfg0.N) : (rowData m R I 0 c).after 4 t = k0_pay61 (block (R c t.val)) := by dsimp only [rowData]
theorem after5 (c : Dev nD) (t : Fin cfg0.N) : (rowData m R I 0 c).after 5 t = k0_pay1 (block (I c t.val)) := by dsimp only [rowData]
theorem before0 (c : Dev nD) (t : Fin cfg0.N) (d) : (rowData m R I 0 c).before 0 t d = iblk m c 0 t :=
  before0_0_of m (rowData m R I 0 c) (rowData_A m R I c 0) (after0 m R I c) t d
theorem before1 (c : Dev nD) (t : Fin cfg0.N) (d) : (rowData m R I 0 c).before 1 t d = iblk m c 1 t :=
  before0_1_of m (rowData m R I 0 c) (rowData_A m R I c 1) (after1 m R I c) t d
theorem before2 (c : Dev nD) (t : Fin cfg0.N) (d) : (rowData m R I 0 c).before 2 t d = iblk m c 2 t :=
  before0_2_of m (rowData m R I 0 c) (rowData_A m R I c 2) (after2 m R I c) t d
theorem before3 (c : Dev nD) (t : Fin cfg0.N) (d) : (rowData m R I 0 c).before 3 t d = iblk m c 3 t :=
  before0_3_of m (rowData m R I 0 c) (rowData_A m R I c 3) (after3 m R I c) t d

/-- The body's branch is taken at a sequence's first point. -/
theorem first_iff : ∀ t : Fin cfg0.N, (Scalar.cmpi .ne (Scalar.extui (Scalar.cmpi .eq (BitVec.ofNat 32 ((grid0.coords t) 2).val) 0#32) : BitVec 32) 0#32 : BitVec 1) = 1#1 ↔ t.val % 16 = 0 :=
  (by decide +kernel : ∀ t : Fin grid0.N, (Scalar.cmpi .ne (Scalar.extui (Scalar.cmpi .eq (BitVec.ofNat 32 ((grid0.coords t) 2).val) 0#32) : BitVec 32) 0#32 : BitVec 1) = 1#1 ↔ t.val % 16 = 0)

/-- The two families continue each other: inside a block by the body, from block to block of a sequence by the carried rows,
    and each sequence starts at zero. -/
structure Continues : Prop where
  run : ∀ c (t : Fin cfg0.N), Runs (iblk m c 0 t) (iblk m c 1 t) (iblk m c 2 t) (iblk m c 3 t) (R c t.val) (I c t.val)
  start : ∀ c n, n % 16 = 0 → lane (R c n 0) = k0_pay2 ∧ lane (I c n 0) = k0_pay3
  next : ∀ c n, ¬ (n + 1) % 16 = 0 → R c (n + 1) 0 = R c n 256 ∧ I c (n + 1) 0 = I c n 256

variable {R I}

def bodyPre (R I : Dev nD → ℕ → ℕ → Fin 512 → F .f32) (c : Dev nD) (t : Fin cfg0.N) : sProp 𝕄 :=
  iprop((rowData m R I 0 c).Φ t.castSucc ∗ (rowData m R I 0 c).owesAt () t.castSucc ∗ (∃ d, owns (c : Thread nD τ) (st0_0 t) fullShare ((rowData m R I 0 c).before 0 t d)) ∗ (∃ d, owns (c : Thread nD τ) (st0_1 t) fullShare ((rowData m R I 0 c).before 1 t d)) ∗ (∃ d, owns (c : Thread nD τ) (st0_2 t) fullShare ((rowData m R I 0 c).before 2 t d)) ∗ (∃ d, owns (c : Thread nD τ) (st0_3 t) fullShare ((rowData m R I 0 c).before 3 t d)) ∗ (∃ d, owns (c : Thread nD τ) (st0_4 t) fullShare ((rowData m R I 0 c).before 4 t d)) ∗ (∃ d, owns (c : Thread nD τ) (st0_5 t) fullShare ((rowData m R I 0 c).before 5 t d)))
def bodyPost (R I : Dev nD → ℕ → ℕ → Fin 512 → F .f32) (c : Dev nD) (t : Fin cfg0.N) : sProp 𝕄 :=
  iprop((rowData m R I 0 c).Φ t.succ ∗ (rowData m R I 0 c).owesAt () t.succ ∗ owns (c : Thread nD τ) (st0_0 t) fullShare ((rowData m R I 0 c).after 0 t) ∗ owns (c : Thread nD τ) (st0_1 t) fullShare ((rowData m R I 0 c).after 1 t) ∗ owns (c : Thread nD τ) (st0_2 t) fullShare ((rowData m R I 0 c).after 2 t) ∗ owns (c : Thread nD τ) (st0_3 t) fullShare ((rowData m R I 0 c).after 3 t) ∗ owns (c : Thread nD τ) (st0_4 t) fullShare ((rowData m R I 0 c).after 4 t) ∗ owns (c : Thread nD τ) (st0_5 t) fullShare ((rowData m R I 0 c).after 5 t))

set_option maxHeartbeats 1000000 in
/-- The body at any point. -/
theorem sound_body (h : Continues m R I) (c : Dev nD) (t : Fin cfg0.N) :
    bodyPre m R I c t ⊢ wp frame (wpE (defs₀ (F := F)) Variants.none c none) Set.univ (bodyAt0 t) (fun _ => bodyPost m R I c t) := by
  unfold bodyPre bodyPost bodyAt0
  simp only [before0, before1, before2, before3]
  rw [show (rowData m R I 0 c).Φ t.castSucc = carried R I c t.val from rfl, show (rowData m R I 0 c).Φ t.succ = carried R I c (t.val + 1) from rfl,
    show (rowData m R I 0 c).owesAt () t.succ = (rowData m R I 0 c).owesAt () t.castSucc from rfl,
    after0, after1, after2, after3, after4, after5]
  unfold carried
  iintro ⟨⟨%y0, %y1, %hy, S0, S1, S2, S3, S4, S5, Hr⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 S0 S1 S2 S3 S4 S5]
  · iapply (body_rows c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) y0 y1 (R c t.val) (I c t.val) (h.run c t)
      (fun hc => h.start c t.val ((first_iff t).mp hc)) (fun hc => hy fun h0 => hc ((first_iff t).mpr h0)))
    isplitl [H0]; · iexact H0
    isplitl [H1]; · iexact H1
    isplitl [H2]; · iexact H2
    isplitl [H3]; · iexact H3
    isplitl [H4]; · iapply (held_of_owns c _ _); iexact H4
    isplitl [H5]; · iapply (held_of_owns c _ _); iexact H5
    isplitl [S0]; · iexact S0
    isplitl [S1]; · iexact S1
    isplitl [S2]; · iexact S2
    isplitl [S3]; · iexact S3
    isplitl [S4]; · iexact S4
    iexact S5
  iintro %u ⟨H0, H1, H2, H3, H4, H5, S0, S1, S2, S3, S4, S5⟩
  isplitl [S0 S1 S2 S3 S4 S5 Hr]
  · iexists (lane (R c t.val 256)), (lane (I c t.val 256))
    isplitr
    · ipureintro; intro hn; exact ⟨congrArg lane (h.next c t.val hn).1, congrArg lane (h.next c t.val hn).2⟩
    isplitl [S0]; · iexact S0
    isplitl [S1]; · iexact S1
    isplitl [S2]; · iexact S2
    isplitl [S3]; · iexact S3
    isplitl [S4]; · iexact S4
    isplitl [S5]; · iexact S5
    iexact Hr
  isplitl [Ho]; · iexact Ho
  isplitl [H0]; · iexact H0
  isplitl [H1]; · iexact H1
  isplitl [H2]; · iexact H2
  isplitl [H3]; · iexact H3
  isplitl [H4]; · iexact H4
  iexact H5

theorem body_obligation' (h : Continues m R I) (c : Dev nD) : BodyObligation (rowData (F := F) m R I 0 c) (defs₀ (F := F)) Variants.none () Set.univ := fun t => by
  rw [bigSep_W0, bigSep_W0, row]
  exact triple_restated (sound_body m h c t) rfl .rfl fun _ => .rfl

-- the implicit arguments of the launch theorem are found by unifying its conclusion with this one, which takes unfolding
-- plain definitions in a metavariable's type
set_option backward.isDefEq.respectTransparency.types false in
/-- The launch. -/
theorem run_main (h : Continues m R I) : θ_run defs (onTc (τ := τ) (main (F := F))) ⟨m, fun _ => 0, ρ⟩ (Pipeline.FramePost cfgs (rowData m R I) 0 (V m)) :=
  Pipeline.θ_run_frame_track cfgs (rowData m R I) (0 : Fin 1) launch0 defs₀ Variants.none m ρ main
    (hbody := fun c => (body_obligation' m h c).loose) (hshare := fun c => (rowData m R I 0 c).share_full fun _ => rfl)
    (howed := fun _ _ => rfl) (V := V m) (hmain := hmain m Variants.none) (hA := rowData_A m R I) (hin := fun c => carried_of R I c) (hout := fun c => of_carried R I c _)

/-- The arguments end as they began. -/
theorem kept0 (r : PUnit × MemSt nD τ sig (Elt F)) (h : Pipeline.FramePost cfgs (rowData m R I) 0 (V m) r) (c : Dev nD) :
    r.2.mem ((c : Thread nD τ).loc main_arg0) = m ((c : Thread nD τ).loc main_arg0) :=
  ((h c).1 0).trans (((rowData m R I 0 c).arrAt_in 0 rfl _).trans (rowData_A m R I c 0))
theorem kept1 (r : PUnit × MemSt nD τ sig (Elt F)) (h : Pipeline.FramePost cfgs (rowData m R I) 0 (V m) r) (c : Dev nD) :
    r.2.mem ((c : Thread nD τ).loc main_arg1) = m ((c : Thread nD τ).loc main_arg1) :=
  ((h c).1 1).trans (((rowData m R I 0 c).arrAt_in 1 rfl _).trans (rowData_A m R I c 1))
theorem kept2 (r : PUnit × MemSt nD τ sig (Elt F)) (h : Pipeline.FramePost cfgs (rowData m R I) 0 (V m) r) (c : Dev nD) :
    r.2.mem ((c : Thread nD τ).loc main_arg2) = m ((c : Thread nD τ).loc main_arg2) :=
  ((h c).1 2).trans (((rowData m R I 0 c).arrAt_in 2 rfl _).trans (rowData_A m R I c 2))
theorem kept3 (r : PUnit × MemSt nD τ sig (Elt F)) (h : Pipeline.FramePost cfgs (rowData m R I) 0 (V m) r) (c : Dev nD) :
    r.2.mem ((c : Thread nD τ).loc main_arg3) = m ((c : Thread nD τ).loc main_arg3) :=
  ((h c).1 3).trans (((rowData m R I 0 c).arrAt_in 3 rfl _).trans (rowData_A m R I c 3))

/-- The run: the result arrays as the launch leaves them, and the arguments unchanged. -/
theorem run_blocks (h : Continues m R I) : θ_run defs (onTc (τ := τ) (main (F := F))) ⟨m, fun _ => 0, ρ⟩ fun r => ∀ c : Dev nD,
      r.2.mem ((c : Thread nD τ).loc main_v0_0) = (rowData m R I 0 c).arrAt 4 cfg0.N
      ∧ r.2.mem ((c : Thread nD τ).loc main_v0_1) = (rowData m R I 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h' c => ⟨(h' c).1 4, (h' c).1 5, kept0 m r h' c, kept1 m r h' c, kept2 m r h' c, kept3 m r h' c⟩) (run_main m ρ h)

end Cert.Proof.Scan

end
-- ==== Proof.Scan.Complex.lean ====
/-
  Two extended reals that are the real and the imaginary part of one complex number, and the scan of a group of eight rows as
  an identity of complex numbers.
-/
module

public import proofs.«01_k».proof.Proof.Tools
public import Mathlib.Data.Complex.Basic

@[expose] public section

noncomputable section

namespace Cert.Proof.Scan

/-- `x` and `y` are the parts of the complex number `z`. -/
def Rep (x y : EReal) (z : ℂ) : Prop := x = ((z.re : ℝ) : EReal) ∧ y = ((z.im : ℝ) : EReal)

theorem Rep.add {x y x' y' : EReal} {z z' : ℂ} (h : Rep x y z) (h' : Rep x' y' z') : Rep (x + x') (y + y') (z + z') := by
  obtain ⟨rfl, rfl⟩ := h; obtain ⟨rfl, rfl⟩ := h'
  exact ⟨by rw [Complex.add_re, EReal.coe_add], by rw [Complex.add_im, EReal.coe_add]⟩

/-- The product, as the kernel and the reference spell it. -/
theorem Rep.mul {x y x' y' : EReal} {z z' : ℂ} (h : Rep x y z) (h' : Rep x' y' z') :
    Rep (x * x' - y * y') (x * y' + y * x') (z * z') := by
  obtain ⟨rfl, rfl⟩ := h; obtain ⟨rfl, rfl⟩ := h'
  exact ⟨by rw [Complex.mul_re, EReal.coe_sub, EReal.coe_mul, EReal.coe_mul], by rw [Complex.mul_im, EReal.coe_add, EReal.coe_mul, EReal.coe_mul]⟩

theorem Rep.zero : Rep 0 0 0 := ⟨by simp, by simp⟩

theorem Rep.ite {p : Prop} [Decidable p] {x y x' y' : EReal} {z z' : ℂ} (h : Rep x y z) (h' : Rep x' y' z') :
    Rep (if p then x else x') (if p then y else y') (if p then z else z') := by
  split
  exacts [h, h']

/-- One doubling step: every row from `n` on takes the row `m` before it, weighted. -/
def dbl (n : ℕ) (m : Fin 8) (f : ℂ) (w : Fin 8 → ℂ) (r : Fin 8) : ℂ := w r + (if n ≤ r.val then f else 0) * w (r - m)

/-- The group's states from its own rows alone, and the weight of the state before the group. -/
def loc (a : ℂ) (w : Fin 8 → ℂ) : Fin 8 → ℂ := dbl 4 4 (a * a * (a * a)) (dbl 2 2 (a * a) (dbl 1 1 a w))
def wt1 (a : ℂ) (r : Fin 8) : ℂ := if r.val % 2 = 1 then a * a else a
def wt2 (a : ℂ) (r : Fin 8) : ℂ := if r.val / 2 % 2 = 1 then wt1 a r * (a * a) else wt1 a r
def wt (a : ℂ) (r : Fin 8) : ℂ := if r.val / 4 % 2 = 1 then wt2 a r * (a * a * (a * a)) else wt2 a r

/-- The states of a group are what the three doubling steps make of its rows, and the state before it, weighted. -/
theorem loc_eq (a : ℂ) (w : Fin 8 → ℂ) (S : ℕ → ℂ) (h : ∀ r : Fin 8, S (r.val + 1) = a * S r.val + w r) (r : Fin 8) :
    loc a w r + wt a r * S 0 = S (r.val + 1) := by
  have h0 : S 1 = a * S 0 + w 0 := h 0
  have h1 : S 2 = a * S 1 + w 1 := h 1
  have h2 : S 3 = a * S 2 + w 2 := h 2
  have h3 : S 4 = a * S 3 + w 3 := h 3
  have h4 : S 5 = a * S 4 + w 4 := h 4
  have h5 : S 6 = a * S 5 + w 5 := h 5
  have h6 : S 7 = a * S 6 + w 6 := h 6
  have h7 : S 8 = a * S 7 + w 7 := h 7
  have s1 : ∀ x : Fin 8, (x - 1 : Fin 8) = x + 7 := by decide
  have s2 : ∀ x : Fin 8, (x - 2 : Fin 8) = x + 6 := by decide
  have s4 : ∀ x : Fin 8, (x - 4 : Fin 8) = x + 4 := by decide
  fin_cases r <;> simp [loc, dbl, wt, wt1, wt2, s1, s2, s4, h0, h1, h2, h3, h4, h5, h6, h7] <;> ring

end Cert.Proof.Scan

end
-- ==== Proof.Scan.Rows.lean ====
/-
  The scan kernel's block at finite values: its rows are the states of the recurrence.
-/
module

public import proofs.«01_k».proof.Proof.Scan.Run
public import proofs.«01_k».proof.Proof.Scan.Complex
public import Idealize.ShloMosaic.Lib.KernelVsHost

@[expose] public section

set_option maxRecDepth 16384

noncomputable section

namespace Cert.Proof.Scan

open Cert.KernelScanIdeal Cert.KernelScanIdeal.Gen
open Idealize.ShloMosaic Idealize.ShloMosaic.TcCoe

/-- A row of a block: row `r` of group `k`. -/
def row (k : Fin 32) (r : Fin 8) : Fin 256 := ⟨8 * k.val + r.val, by omega⟩

/-- The masks: a row's number against a bound, and its bits. -/
theorem ge1 {α : Type} (r : Fin 8) (a b : α) : Scalar.select (IntOp.cmpi CmpIPredicate.sge (BitVec.ofNat 32 r.val) 1#32) a b = if 1 ≤ r.val then a else b := by
  fin_cases r <;> rfl
theorem ge2 {α : Type} (r : Fin 8) (a b : α) : Scalar.select (IntOp.cmpi CmpIPredicate.sge (BitVec.ofNat 32 r.val) 2#32) a b = if 2 ≤ r.val then a else b := by
  fin_cases r <;> rfl
theorem ge4 {α : Type} (r : Fin 8) (a b : α) : Scalar.select (IntOp.cmpi CmpIPredicate.sge (BitVec.ofNat 32 r.val) 4#32) a b = if 4 ≤ r.val then a else b := by
  fin_cases r <;> rfl
theorem bit1 {α : Type} (r : Fin 8) (a b : α) : Scalar.select (IntOp.cmpi CmpIPredicate.ne (IntOp.andi (BitVec.ofNat 32 r.val) 1#32) 0#32) a b = if r.val % 2 = 1 then a else b := by
  fin_cases r <;> rfl
theorem bit2 {α : Type} (r : Fin 8) (a b : α) : Scalar.select (IntOp.cmpi CmpIPredicate.ne (IntOp.andi (BitVec.ofNat 32 r.val) 2#32) 0#32) a b = if r.val / 2 % 2 = 1 then a else b := by
  fin_cases r <;> rfl
theorem bit4 {α : Type} (r : Fin 8) (a b : α) : Scalar.select (IntOp.cmpi CmpIPredicate.ne (IntOp.andi (BitVec.ofNat 32 r.val) 4#32) 0#32) a b = if r.val / 4 % 2 = 1 then a else b := by
  fin_cases r <;> rfl

/-! The payloads at an index. -/

theorem pay4_at (x : Vec Ideal S256x512 .bf16) (k : Fin 32) (r : Fin 8) (q : Fin 512) : (k0_pay4 (F := Ideal) x (ix3 k r q) : EReal) = x (ix2 (row k r) q) := by
  pointwise [k0_pay4]
  exact congrArg (fun p => x (ix2 p q)) (Fin.ext (by show k.val * 8 + r.val = 8 * k.val + r.val; omega))
theorem pay5_at (x : Vec Ideal S256x512 .bf16) (k : Fin 32) (r : Fin 8) (q : Fin 512) : (k0_pay5 (F := Ideal) x (ix3 k r q) : EReal) = x (ix2 (row k r) q) := by
  pointwise [k0_pay5]
  exact congrArg (fun p => x (ix2 p q)) (Fin.ext (by show k.val * 8 + r.val = 8 * k.val + r.val; omega))
theorem pay6_at (x : Vec Ideal S1x512 .f32) (q : Fin 512) : (k0_pay6 (F := Ideal) x (ix3 0 0 q) : EReal) = x (ix2 0 q) := by
  pointwise [k0_pay6]
theorem pay7_at (x : Vec Ideal S1x512 .f32) (q : Fin 512) : (k0_pay7 (F := Ideal) x (ix3 0 0 q) : EReal) = x (ix2 0 q) := by
  pointwise [k0_pay7]
theorem rot1_at (x : FVec Ideal S32x8x512 .f32) (k : Fin 32) (r : Fin 8) (q : Fin 512) : (dynamicRotate 1 1#32 none x rotates_S32x8x512_d1 (ix3 k r q) : EReal) = x (ix3 k (r - 1) q) := by
  refine dynamicRotate_apply _ _ _ _ _ (ix3 k (r - 1) q) ?_
  intro b
  fin_cases b
  · rfl
  · show (r - 1).val = (r.val + 8 - 1 % 8) % 8; revert r; decide
  · rfl
theorem rot2_at (x : FVec Ideal S32x8x512 .f32) (k : Fin 32) (r : Fin 8) (q : Fin 512) : (dynamicRotate 1 2#32 none x rotates_S32x8x512_d1 (ix3 k r q) : EReal) = x (ix3 k (r - 2) q) := by
  refine dynamicRotate_apply _ _ _ _ _ (ix3 k (r - 2) q) ?_
  intro b
  fin_cases b
  · rfl
  · show (r - 2).val = (r.val + 8 - 2 % 8) % 8; revert r; decide
  · rfl
theorem rot4_at (x : FVec Ideal S32x8x512 .f32) (k : Fin 32) (r : Fin 8) (q : Fin 512) : (dynamicRotate 1 4#32 none x rotates_S32x8x512_d1 (ix3 k r q) : EReal) = x (ix3 k (r - 4) q) := by
  refine dynamicRotate_apply _ _ _ _ _ (ix3 k (r - 4) q) ?_
  intro b
  fin_cases b
  · rfl
  · show (r - 4).val = (r.val + 8 - 4 % 8) % 8; revert r; decide
  · rfl
theorem pay11_at (x : Vec Ideal S1x512 .f32) (r : Fin 8) (q : Fin 512) : (k0_pay11 (F := Ideal) x (ix3 0 r q) : EReal) = if 1 ≤ r.val then x (ix2 0 q) else 0 := by
  pointwise [k0_pay11, k0_pay10, k0_pay6]
  exact ge1 r _ _
theorem pay12_at (x : Vec Ideal S1x512 .f32) (r : Fin 8) (q : Fin 512) : (k0_pay12 (F := Ideal) x (ix3 0 r q) : EReal) = if 1 ≤ r.val then x (ix2 0 q) else 0 := by
  pointwise [k0_pay12, k0_pay10, k0_pay7]
  exact ge1 r _ _
theorem pay16_at (a b : FVec Ideal S1x1x512 .f32) (q : Fin 512) : (k0_pay16 (F := Ideal) a b (ix3 0 0 q) : EReal) = a (ix3 0 0 q) * b (ix3 0 0 q) + b (ix3 0 0 q) * a (ix3 0 0 q) := by
  pointwise [k0_pay16]
theorem pay15_at (x y : Vec Ideal S1x512 .f32) (q : Fin 512) : (k0_pay15 (F := Ideal) x y (ix3 0 0 q) : EReal) = k0_pay6 (F := Ideal) x (ix3 0 0 q) * k0_pay6 (F := Ideal) x (ix3 0 0 q) - k0_pay7 (F := Ideal) y (ix3 0 0 q) * k0_pay7 (F := Ideal) y (ix3 0 0 q) := by
  pointwise [k0_pay15]
theorem pay20_at (x : FVec Ideal S1x1x512 .f32) (r : Fin 8) (q : Fin 512) : (k0_pay20 (F := Ideal) ids3 x (ix3 0 r q) : EReal) = if 2 ≤ r.val then x (ix3 0 0 q) else 0 := by
  pointwise [k0_pay20, k0_pay19, ids3]
  exact ge2 r _ _
theorem pay21_at (a b : FVec Ideal S1x1x512 .f32) (r : Fin 8) (q : Fin 512) : (k0_pay21 (F := Ideal) ids3 a b (ix3 0 r q) : EReal) = if 2 ≤ r.val then k0_pay16 (F := Ideal) a b (ix3 0 0 q) else 0 := by
  pointwise [k0_pay21, k0_pay19, ids3]
  exact ge2 r _ _
theorem pay24_at (a b s : FVec Ideal S1x1x512 .f32) (q : Fin 512) : (k0_pay24 (F := Ideal) a b s (ix3 0 0 q) : EReal) = s (ix3 0 0 q) * s (ix3 0 0 q) - k0_pay16 (F := Ideal) a b (ix3 0 0 q) * k0_pay16 (F := Ideal) a b (ix3 0 0 q) := by
  pointwise [k0_pay24]
theorem pay25_at (a b s : FVec Ideal S1x1x512 .f32) (q : Fin 512) : (k0_pay25 (F := Ideal) a b s (ix3 0 0 q) : EReal) = s (ix3 0 0 q) * k0_pay16 (F := Ideal) a b (ix3 0 0 q) + k0_pay16 (F := Ideal) a b (ix3 0 0 q) * s (ix3 0 0 q) := by
  pointwise [k0_pay25]
theorem pay29_at (a b s : FVec Ideal S1x1x512 .f32) (r : Fin 8) (q : Fin 512) : (k0_pay29 (F := Ideal) ids3 a b s (ix3 0 r q) : EReal) = if 4 ≤ r.val then k0_pay24 (F := Ideal) a b s (ix3 0 0 q) else 0 := by
  pointwise [k0_pay29, k0_pay28, ids3]
  exact ge4 r _ _
theorem pay30_at (a b s : FVec Ideal S1x1x512 .f32) (r : Fin 8) (q : Fin 512) : (k0_pay30 (F := Ideal) ids3 a b s (ix3 0 r q) : EReal) = if 4 ≤ r.val then k0_pay25 (F := Ideal) a b s (ix3 0 0 q) else 0 := by
  pointwise [k0_pay30, k0_pay28, ids3]
  exact ge4 r _ _
theorem pay39_at (a b : FVec Ideal S1x1x512 .f32) (r : Fin 8) (q : Fin 512) : (k0_pay39 (F := Ideal) a b (ix2 r q) : EReal) = if r.val % 2 = 1 then a (ix3 0 0 q) * a (ix3 0 0 q) - b (ix3 0 0 q) * b (ix3 0 0 q) else a (ix3 0 0 q) := by
  pointwise [k0_pay39, k0_pay38, k0_pay34, k0_pay35, k0_pay36, k0_pay37]
  exact bit1 r _ _
theorem pay40_at (a b : FVec Ideal S1x1x512 .f32) (r : Fin 8) (q : Fin 512) : (k0_pay40 (F := Ideal) a b (ix2 r q) : EReal) = if r.val % 2 = 1 then a (ix3 0 0 q) * b (ix3 0 0 q) + b (ix3 0 0 q) * a (ix3 0 0 q) else b (ix3 0 0 q) := by
  pointwise [k0_pay40, k0_pay38, k0_pay34, k0_pay35, k0_pay36, k0_pay37]
  exact bit1 r _ _
theorem pay43_at (a b s t : FVec Ideal S1x1x512 .f32) (r : Fin 8) (q : Fin 512) : (k0_pay43 (F := Ideal) a b s t (ix2 r q) : EReal) = k0_pay39 (F := Ideal) a b (ix2 r q) * s (ix3 0 0 q) - k0_pay40 (F := Ideal) a b (ix2 r q) * t (ix3 0 0 q) := by
  pointwise [k0_pay43, k0_pay41, k0_pay42]
theorem pay44_at (a b s t : FVec Ideal S1x1x512 .f32) (r : Fin 8) (q : Fin 512) : (k0_pay44 (F := Ideal) a b s t (ix2 r q) : EReal) = k0_pay39 (F := Ideal) a b (ix2 r q) * t (ix3 0 0 q) + k0_pay40 (F := Ideal) a b (ix2 r q) * s (ix3 0 0 q) := by
  pointwise [k0_pay44, k0_pay41, k0_pay42]
theorem pay46_at (x y : FVec Ideal S8x512 .f32) (r : Fin 8) (q : Fin 512) : (k0_pay46 (F := Ideal) ids x y (ix2 r q) : EReal) = if r.val / 2 % 2 = 1 then y (ix2 r q) else x (ix2 r q) := by
  pointwise [k0_pay46, k0_pay45, ids]
  exact bit2 r _ _
theorem pay47_at (x y : FVec Ideal S8x512 .f32) (r : Fin 8) (q : Fin 512) : (k0_pay47 (F := Ideal) ids x y (ix2 r q) : EReal) = if r.val / 2 % 2 = 1 then y (ix2 r q) else x (ix2 r q) := by
  pointwise [k0_pay47, k0_pay45, ids]
  exact bit2 r _ _
theorem pay51_at (g h : FVec Ideal S1x1x512 .f32) (x y z w : FVec Ideal S8x512 .f32) (r : Fin 8) (q : Fin 512) : (k0_pay51 (F := Ideal) g h ids x y z w (ix2 r q) : EReal) = if r.val / 4 % 2 = 1 then k0_pay46 (F := Ideal) ids x z (ix2 r q) * g (ix3 0 0 q) - k0_pay47 (F := Ideal) ids y w (ix2 r q) * h (ix3 0 0 q) else k0_pay46 (F := Ideal) ids x z (ix2 r q) := by
  pointwise [k0_pay51, k0_pay50, k0_pay48, k0_pay49, ids]
  exact bit4 r _ _
theorem pay52_at (g h : FVec Ideal S1x1x512 .f32) (x y z w : FVec Ideal S8x512 .f32) (r : Fin 8) (q : Fin 512) : (k0_pay52 (F := Ideal) g h ids x y z w (ix2 r q) : EReal) = if r.val / 4 % 2 = 1 then k0_pay46 (F := Ideal) ids x z (ix2 r q) * h (ix3 0 0 q) + k0_pay47 (F := Ideal) ids y w (ix2 r q) * g (ix3 0 0 q) else k0_pay47 (F := Ideal) ids y w (ix2 r q) := by
  pointwise [k0_pay52, k0_pay50, k0_pay48, k0_pay49, ids]
  exact bit4 r _ _
theorem pay53_at (g h : FVec Ideal S1x1x512 .f32) (x y z w : FVec Ideal S8x512 .f32) (c d : Vec Ideal S1x512 .f32) (v : Vec Ideal S1x8x512 .f32) (r : Fin 8) (q : Fin 512) : (k0_pay53 (F := Ideal) g h ids x y z w c d v (ix2 r q) : EReal) = v (ix3 0 r q) + (k0_pay51 (F := Ideal) g h ids x y z w (ix2 r q) * c (ix2 0 q) - k0_pay52 (F := Ideal) g h ids x y z w (ix2 r q) * d (ix2 0 q)) := by
  pointwise [k0_pay53]
theorem pay54_at (g h : FVec Ideal S1x1x512 .f32) (x y z w : FVec Ideal S8x512 .f32) (c d : Vec Ideal S1x512 .f32) (v : Vec Ideal S1x8x512 .f32) (r : Fin 8) (q : Fin 512) : (k0_pay54 (F := Ideal) g h ids x y z w c d v (ix2 r q) : EReal) = v (ix3 0 r q) + (k0_pay51 (F := Ideal) g h ids x y z w (ix2 r q) * d (ix2 0 q) + k0_pay52 (F := Ideal) g h ids x y z w (ix2 r q) * c (ix2 0 q)) := by
  pointwise [k0_pay54]
theorem one_at (x0 x1 : Vec Ideal S256x512 .bf16) (x2 x3 : Vec Ideal S1x512 .f32) (k : Fin 32) (r : Fin 8) (q : Fin 512) : (oneR (F := Ideal) x0 x1 x2 x3 (ix3 k r q) : EReal) = k0_pay4 (F := Ideal) x0 (ix3 k r q) + (k0_pay11 (F := Ideal) x2 (ix3 0 r q) * k0_pay4 (F := Ideal) x0 (ix3 k (r - 1) q) - k0_pay12 (F := Ideal) x3 (ix3 0 r q) * k0_pay5 (F := Ideal) x1 (ix3 k (r - 1) q)) ∧ (oneI (F := Ideal) x0 x1 x2 x3 (ix3 k r q) : EReal) = k0_pay5 (F := Ideal) x1 (ix3 k r q) + (k0_pay11 (F := Ideal) x2 (ix3 0 r q) * k0_pay5 (F := Ideal) x1 (ix3 k (r - 1) q) + k0_pay12 (F := Ideal) x3 (ix3 0 r q) * k0_pay4 (F := Ideal) x0 (ix3 k (r - 1) q)) := by
  rw [← rot1_at (k0_pay4 (F := Ideal) x0) k r q, ← rot1_at (k0_pay5 (F := Ideal) x1) k r q]
  constructor
  · unfold oneR k0_pay13 k0_pay8 k0_pay9; generalize dynamicRotate 1 1#32 none (k0_pay4 (F := Ideal) x0) rotates_S32x8x512_d1 = a; generalize dynamicRotate 1 1#32 none (k0_pay5 (F := Ideal) x1) rotates_S32x8x512_d1 = b; pointwise
  · unfold oneI k0_pay14 k0_pay8 k0_pay9; generalize dynamicRotate 1 1#32 none (k0_pay4 (F := Ideal) x0) rotates_S32x8x512_d1 = a; generalize dynamicRotate 1 1#32 none (k0_pay5 (F := Ideal) x1) rotates_S32x8x512_d1 = b; pointwise
theorem two_at (a b s : FVec Ideal S1x1x512 .f32) (x y : FVec Ideal S32x8x512 .f32) (k : Fin 32) (r : Fin 8) (q : Fin 512) : (k0_pay22 (F := Ideal) ids3 a b x y s (ix3 k r q) : EReal) = x (ix3 k r q) + (k0_pay20 (F := Ideal) ids3 s (ix3 0 r q) * x (ix3 k (r - 2) q) - k0_pay21 (F := Ideal) ids3 a b (ix3 0 r q) * y (ix3 k (r - 2) q)) ∧ (k0_pay23 (F := Ideal) ids3 a b x y s (ix3 k r q) : EReal) = y (ix3 k r q) + (k0_pay20 (F := Ideal) ids3 s (ix3 0 r q) * y (ix3 k (r - 2) q) + k0_pay21 (F := Ideal) ids3 a b (ix3 0 r q) * x (ix3 k (r - 2) q)) := by
  rw [← rot2_at x k r q, ← rot2_at y k r q]
  constructor
  · unfold k0_pay22 k0_pay17 k0_pay18; generalize dynamicRotate 1 2#32 none x rotates_S32x8x512_d1 = a; generalize dynamicRotate 1 2#32 none y rotates_S32x8x512_d1 = b; pointwise
  · unfold k0_pay23 k0_pay17 k0_pay18; generalize dynamicRotate 1 2#32 none x rotates_S32x8x512_d1 = a; generalize dynamicRotate 1 2#32 none y rotates_S32x8x512_d1 = b; pointwise
theorem four_at (a b s : FVec Ideal S1x1x512 .f32) (x y : FVec Ideal S32x8x512 .f32) (k : Fin 32) (r : Fin 8) (q : Fin 512) : (k0_pay32 (F := Ideal) (k0_pay22 (F := Ideal) ids3 a b x y s) (k0_pay31 (F := Ideal) ids3 a b x y s) (ix3 k r q) : EReal) = k0_pay22 (F := Ideal) ids3 a b x y s (ix3 k r q) + (k0_pay29 (F := Ideal) ids3 a b s (ix3 0 r q) * k0_pay22 (F := Ideal) ids3 a b x y s (ix3 k (r - 4) q) - k0_pay30 (F := Ideal) ids3 a b s (ix3 0 r q) * k0_pay23 (F := Ideal) ids3 a b x y s (ix3 k (r - 4) q)) ∧ (k0_pay33 (F := Ideal) (k0_pay23 (F := Ideal) ids3 a b x y s) (k0_pay26 (F := Ideal) ids3 a b x y s) (k0_pay27 (F := Ideal) ids3 a b x y s) (k0_pay29 (F := Ideal) ids3 a b s) (k0_pay30 (F := Ideal) ids3 a b s) (ix3 k r q) : EReal) = k0_pay23 (F := Ideal) ids3 a b x y s (ix3 k r q) + (k0_pay29 (F := Ideal) ids3 a b s (ix3 0 r q) * k0_pay23 (F := Ideal) ids3 a b x y s (ix3 k (r - 4) q) + k0_pay30 (F := Ideal) ids3 a b s (ix3 0 r q) * k0_pay22 (F := Ideal) ids3 a b x y s (ix3 k (r - 4) q)) := by
  rw [← rot4_at (k0_pay22 (F := Ideal) ids3 a b x y s) k r q, ← rot4_at (k0_pay23 (F := Ideal) ids3 a b x y s) k r q]
  unfold k0_pay31 k0_pay26 k0_pay27
  generalize k0_pay22 (F := Ideal) ids3 a b x y s = p
  generalize k0_pay23 (F := Ideal) ids3 a b x y s = p'
  generalize k0_pay29 (F := Ideal) ids3 a b s = f
  generalize k0_pay30 (F := Ideal) ids3 a b s = f'
  generalize dynamicRotate 1 4#32 none p rotates_S32x8x512_d1 = v; generalize dynamicRotate 1 4#32 none p' rotates_S32x8x512_d1 = v'
  constructor
  · pointwise [k0_pay32]
  · pointwise [k0_pay33]

/-! The block, as complex numbers. -/

section
variable {x0 x1 : Vec Ideal S256x512 .bf16} {x2 x3 : Vec Ideal S1x512 .f32} (l : Fin 512 → ℂ) (u : Fin 256 → Fin 512 → ℂ)
  (hl : ∀ q, Rep (x2 (ix2 0 q)) (x3 (ix2 0 q)) (l q)) (hu : ∀ p q, Rep (x0 (ix2 p q)) (x1 (ix2 p q)) (u p q))

include hl

theorem rep_l (q : Fin 512) : Rep (k0_pay6 (F := Ideal) x2 (ix3 0 0 q)) (k0_pay7 (F := Ideal) x3 (ix3 0 0 q)) (l q) := by
  rw [pay6_at, pay7_at]; exact hl q
theorem rep_sq (q : Fin 512) : Rep (sqR (F := Ideal) x2 x3 (ix3 0 0 q)) (sqI (F := Ideal) x2 x3 (ix3 0 0 q)) (l q * l q) := by
  unfold sqR sqI; rw [pay15_at, pay16_at]; exact (rep_l l hl q).mul (rep_l l hl q)
theorem rep_qd (q : Fin 512) : Rep (qdR (F := Ideal) x2 x3 (ix3 0 0 q)) (qdI (F := Ideal) x2 x3 (ix3 0 0 q)) (l q * l q * (l q * l q)) := by
  unfold qdR qdI; rw [pay24_at, pay25_at]; exact (rep_sq l hl q).mul (rep_sq l hl q)

/-- The weights of the carried row. -/
theorem rep_wt1 (r : Fin 8) (q : Fin 512) : Rep (k0_pay39 (F := Ideal) (k0_pay6 x2) (k0_pay7 x3) (ix2 r q)) (k0_pay40 (F := Ideal) (k0_pay6 x2) (k0_pay7 x3) (ix2 r q)) (wt1 (l q) r) := by
  rw [pay39_at, pay40_at]; exact ((rep_l l hl q).mul (rep_l l hl q)).ite (rep_l l hl q)
theorem rep_wt2 (r : Fin 8) (q : Fin 512) :
    Rep (k0_pay46 (F := Ideal) ids (k0_pay39 (k0_pay6 x2) (k0_pay7 x3)) (k0_pay43 (k0_pay6 x2) (k0_pay7 x3) (sqR x2 x3) (sqI x2 x3)) (ix2 r q))
      (k0_pay47 (F := Ideal) ids (k0_pay40 (k0_pay6 x2) (k0_pay7 x3)) (k0_pay44 (k0_pay6 x2) (k0_pay7 x3) (sqR x2 x3) (sqI x2 x3)) (ix2 r q)) (wt2 (l q) r) := by
  rw [pay46_at, pay47_at, pay43_at, pay44_at]; exact ((rep_wt1 l hl r q).mul (rep_sq l hl q)).ite (rep_wt1 l hl r q)

include hu

/-- The three doubling steps. -/
theorem rep_u (k : Fin 32) (r : Fin 8) (q : Fin 512) : Rep (k0_pay4 (F := Ideal) x0 (ix3 k r q)) (k0_pay5 (F := Ideal) x1 (ix3 k r q)) (u (row k r) q) := by
  rw [pay4_at, pay5_at]; exact hu _ q
theorem rep_one (k : Fin 32) (r : Fin 8) (q : Fin 512) : Rep (oneR (F := Ideal) x0 x1 x2 x3 (ix3 k r q)) (oneI (F := Ideal) x0 x1 x2 x3 (ix3 k r q)) (dbl 1 1 (l q) (fun s => u (row k s) q) r) := by
  rw [(one_at x0 x1 x2 x3 k r q).1, (one_at x0 x1 x2 x3 k r q).2, pay11_at, pay12_at]
  exact (rep_u l u hl hu k r q).add (((hl q).ite Rep.zero).mul (rep_u l u hl hu k (r - 1) q))
theorem rep_two (k : Fin 32) (r : Fin 8) (q : Fin 512) :
    Rep (k0_pay22 (F := Ideal) ids3 (k0_pay6 x2) (k0_pay7 x3) (oneR x0 x1 x2 x3) (oneI x0 x1 x2 x3) (sqR x2 x3) (ix3 k r q))
      (k0_pay23 (F := Ideal) ids3 (k0_pay6 x2) (k0_pay7 x3) (oneR x0 x1 x2 x3) (oneI x0 x1 x2 x3) (sqR x2 x3) (ix3 k r q))
      (dbl 2 2 (l q * l q) (dbl 1 1 (l q) (fun s => u (row k s) q)) r) := by
  rw [(two_at _ _ _ _ _ k r q).1, (two_at _ _ _ _ _ k r q).2, pay20_at, pay21_at]
  exact (rep_one l u hl hu k r q).add (((rep_sq l hl q).ite Rep.zero).mul (rep_one l u hl hu k (r - 2) q))
theorem rep_loc (k : Fin 32) (r : Fin 8) (q : Fin 512) :
    Rep (locR (F := Ideal) x0 x1 x2 x3 (ix3 k r q)) (locI (F := Ideal) x0 x1 x2 x3 (ix3 k r q)) (loc (l q) (fun s => u (row k s) q) r) := by
  unfold locR locI
  rw [(four_at _ _ _ _ _ k r q).1, (four_at _ _ _ _ _ k r q).2, pay29_at, pay30_at]
  exact (rep_two l u hl hu k r q).add (((rep_qd l hl q).ite Rep.zero).mul (rep_two l u hl hu k (r - 4) q))

/-- The block's rows are the states of the recurrence. -/
theorem runs_of (Z : ℕ → Fin 512 → ℂ) (hZ : ∀ (p : Fin 256) q, Z (p.val + 1) q = l q * Z p.val q + u p q) :
    Runs (F := Ideal) x0 x1 x2 x3 (fun n q => (((Z n q).re : ℝ) : EReal)) (fun n q => (((Z n q).im : ℝ) : EReal)) := by
  intro k
  have key : ∀ (r : Fin 8) (q : Fin 512),
      Rep (stepR (F := Ideal) x0 x1 x2 x3 k (fun q => (((Z (8 * k.val) q).re : ℝ) : EReal)) (fun q => (((Z (8 * k.val) q).im : ℝ) : EReal)) (ix2 r q))
        (stepI (F := Ideal) x0 x1 x2 x3 k (fun q => (((Z (8 * k.val) q).re : ℝ) : EReal)) (fun q => (((Z (8 * k.val) q).im : ℝ) : EReal)) (ix2 r q))
        (Z (8 * k.val + r.val + 1) q) := by
    intro r q
    have hk : k.val < 32 := lt_of_lt_of_eq k.isLt trips_eq
    have e := loc_eq (l q) (fun s => u (row ⟨k.val, hk⟩ s) q) (fun n => Z (8 * k.val + n) q) (fun s => hZ (row ⟨k.val, hk⟩ s) q) r
    unfold stepR stepI
    rw [pay53_at, pay54_at, pay51_at, pay52_at]
    have w2 := rep_wt2 l hl r q
    have h := (rep_loc l u hl hu ⟨k.val, hk⟩ r q).add (((w2.mul (rep_qd l hl q)).ite (p := r.val / 4 % 2 = 1) w2).mul (⟨rfl, rfl⟩ : Rep _ _ (Z (8 * k.val) q)))
    exact Eq.mp (congrArg (Rep _ _) e) h
  constructor <;> funext y <;> obtain ⟨r, q, rfl⟩ : ∃ (r : Fin 8) (q : Fin 512), y = ix2 r q := ⟨y 0, y 1, by funext a; fin_cases a <;> rfl⟩
  · exact (key r q).1
  · exact (key r q).2
end

end Cert.Proof.Scan

end
-- ==== Proof.Scan.Spec.lean ====
/-
  What the scan computes: the states of the recurrence `s (n + 1) = l * s n + u n` of complex numbers, each sequence from zero.
-/
module

public import proofs.«01_k».proof.Proof.Scan.Complex

@[expose] public section

noncomputable section

namespace Cert.Proof.Scan

open Cert.Proof.Tools

/-- Row `n` of sequence `b` among all rows. -/
def rowAt (b n : ℕ) : Fin 8192 := Fin.ofNat 8192 (4096 * b + n)

/-- The state of channel `ch` of sequence `b` after `n` rows. -/
def state (l : Fin 2048 → ℂ) (u : Fin 8192 → Fin 2048 → ℂ) (b : ℕ) (ch : Fin 2048) : ℕ → ℂ
  | 0 => 0
  | n + 1 => l ch * state l u b ch n + u (rowAt b n) ch

/-- The state that row `r` ends with. -/
def stateAt (l : Fin 2048 → ℂ) (u : Fin 8192 → Fin 2048 → ℂ) (r : Fin 8192) (ch : Fin 2048) : ℂ := state l u (r.val / 4096) ch (r.val % 4096 + 1)

/-- Two real numbers are the parts of a complex number. -/
theorem exists_rep {x y : EReal} (hx : IsR x) (hy : IsR y) : ∃ z : ℂ, Rep x y z := by
  obtain ⟨a, rfl⟩ := hx; obtain ⟨b, rfl⟩ := hy
  exact ⟨⟨a, b⟩, rfl, rfl⟩

end Cert.Proof.Scan

end
-- ==== Proof.Scan.Kernel.lean ====
/-
  The scan kernel's result arrays: for finite arguments the parts of the recurrence's states.
-/
module

public import proofs.«01_k».proof.Proof.Scan.Value
public import proofs.«01_k».proof.Proof.Scan.Rows
public import proofs.«01_k».proof.Proof.Scan.Spec
public import Idealize.ShloMosaic.Lib.Pipeline.ValueKit

@[expose] public section

noncomputable section

namespace Cert.Proof.Scan

open Cert.KernelScanIdeal Cert.KernelScanIdeal.Gen Idealize.ShloMosaic Idealize.ShloMosaic.TcCoe Idealize.SL.Sem
open Cert.Proof.ScanFwdIdeal Cert.Proof.Tools

/-- The block index of each window at each point. -/
theorem index0 : ∀ t : Fin cfg0.N, win0_0.index t = ![t.val % 32, t.val / 32] := (by decide +kernel : ∀ t : Fin grid0.N, _)
theorem index1 : ∀ t : Fin cfg0.N, win0_1.index t = ![t.val % 32, t.val / 32] := (by decide +kernel : ∀ t : Fin grid0.N, _)
theorem index2 : ∀ t : Fin cfg0.N, win0_2.index t = ![0, t.val / 32] := (by decide +kernel : ∀ t : Fin grid0.N, _)
theorem index3 : ∀ t : Fin cfg0.N, win0_3.index t = ![0, t.val / 32] := (by decide +kernel : ∀ t : Fin grid0.N, _)
theorem index4 : ∀ t : Fin cfg0.N, win0_4.index t = ![t.val % 32, t.val / 32] := (by decide +kernel : ∀ t : Fin grid0.N, _)
theorem index5 : ∀ t : Fin cfg0.N, win0_5.index t = ![t.val % 32, t.val / 32] := (by decide +kernel : ∀ t : Fin grid0.N, _)

variable (m : (ℓ : Loc nD τ sig) → Buf (Elt Ideal) ℓ)

/-- The arguments as the claims name them. -/
abbrev arg0 (c : Dev nD) : Vec Ideal S8192x2048 .bf16 := m ((c : Thread nD τ).loc main_arg0)
abbrev arg1 (c : Dev nD) : Vec Ideal S8192x2048 .bf16 := m ((c : Thread nD τ).loc main_arg1)
abbrev arg2 (c : Dev nD) : Vec Ideal S1x2048 .f32 := m ((c : Thread nD τ).loc main_arg2)
abbrev arg3 (c : Dev nD) : Vec Ideal S1x2048 .f32 := m ((c : Thread nD τ).loc main_arg3)

/-- A point's row and channel among all. -/
def prow (n : ℕ) (r : Fin 256) : Fin 8192 := ⟨256 * (n % 32) + r.val, by have := r.isLt; omega⟩
def pch (n : ℕ) (q : Fin 512) : Fin 2048 := Fin.ofNat 2048 (512 * (n / 32) + q.val)

theorem pch_val (t : Fin cfg0.N) (q : Fin 512) : (pch t.val q).val = 512 * (t.val / 32) + q.val := by
  have := t.isLt; have : cfg0.N = 128 := N_0; have := q.isLt
  show (512 * (t.val / 32) + q.val) % 2048 = _
  omega

/-- The blocks of the arguments. -/
theorem iblk0_apply (c : Dev nD) (t : Fin cfg0.N) (r : Fin 256) (q : Fin 512) : (iblk m c 0 t : Vec Ideal S256x512 .bf16) (ix2 r q) = arg0 m c (ix2 (prow t.val r) (pch t.val q)) := by
  have e := pch_val t q
  blk_simp [iblk]
  refine Eq.trans (congrArg _ (?_ : _ = ix2 (prow t.val r) (pch t.val q))) rfl
  blk_ext [index0, prow, e]
theorem iblk1_apply (c : Dev nD) (t : Fin cfg0.N) (r : Fin 256) (q : Fin 512) : (iblk m c 1 t : Vec Ideal S256x512 .bf16) (ix2 r q) = arg1 m c (ix2 (prow t.val r) (pch t.val q)) := by
  have e := pch_val t q
  blk_simp [iblk]
  refine Eq.trans (congrArg _ (?_ : _ = ix2 (prow t.val r) (pch t.val q))) rfl
  blk_ext [index1, prow, e]
theorem iblk2_apply (c : Dev nD) (t : Fin cfg0.N) (q : Fin 512) : (iblk m c 2 t : Vec Ideal S1x512 .f32) (ix2 0 q) = arg2 m c (ix2 0 (pch t.val q)) := by
  have e := pch_val t q
  blk_simp [iblk]
  refine Eq.trans (congrArg _ (?_ : _ = ix2 0 (pch t.val q))) rfl
  blk_ext [index2, e]
theorem iblk3_apply (c : Dev nD) (t : Fin cfg0.N) (q : Fin 512) : (iblk m c 3 t : Vec Ideal S1x512 .f32) (ix2 0 q) = arg3 m c (ix2 0 (pch t.val q)) := by
  have e := pch_val t q
  blk_simp [iblk]
  refine Eq.trans (congrArg _ (?_ : _ = ix2 0 (pch t.val q))) rfl
  blk_ext [index3, e]

/-- The state at each row of each point. -/
def pstate (l : Dev nD → Fin 2048 → ℂ) (u : Dev nD → Fin 8192 → Fin 2048 → ℂ) (c : Dev nD) (n k : ℕ) (q : Fin 512) : ℂ :=
  state (l c) (u c) (n / 16 % 2) (pch n q) (256 * (n % 16) + k)

/-- Its parts. -/
def re (l : Dev nD → Fin 2048 → ℂ) (u : Dev nD → Fin 8192 → Fin 2048 → ℂ) : Dev nD → ℕ → ℕ → Fin 512 → Ideal .f32 := fun c n k q => (((pstate l u c n k q).re : ℝ) : EReal)
def im (l : Dev nD → Fin 2048 → ℂ) (u : Dev nD → Fin 8192 → Fin 2048 → ℂ) : Dev nD → ℕ → ℕ → Fin 512 → Ideal .f32 := fun c n k q => (((pstate l u c n k q).im : ℝ) : EReal)

variable {m} {l : Dev nD → Fin 2048 → ℂ} {u : Dev nD → Fin 8192 → Fin 2048 → ℂ}

/-- They continue each other as the launch needs. -/
theorem continues (hl : ∀ c ch, Rep (arg2 m c (ix2 0 ch)) (arg3 m c (ix2 0 ch)) (l c ch))
    (hu : ∀ c r ch, Rep (arg0 m c (ix2 r ch)) (arg1 m c (ix2 r ch)) (u c r ch)) : Continues m (re l u) (im l u) where
  run c t := runs_of (fun q => l c (pch t.val q)) (fun r q => u c (prow t.val r) (pch t.val q))
    (fun q => by rw [iblk2_apply, iblk3_apply]; exact hl c _) (fun r q => by rw [iblk0_apply, iblk1_apply]; exact hu c _ _)
    (pstate l u c t.val) fun r q => by
      have e : rowAt (t.val / 16 % 2) (256 * (t.val % 16) + r.val) = prow t.val r := by
        apply Fin.ext
        have := r.isLt
        show (4096 * (t.val / 16 % 2) + (256 * (t.val % 16) + r.val)) % 8192 = 256 * (t.val % 32) + r.val
        omega
      rw [← e]; rfl
  start c n h := by
    have e : ∀ q, pstate l u c n 0 q = 0 := fun q => by unfold pstate; rw [h]; rfl
    refine ⟨funext fun x => ?_, funext fun x => ?_⟩
    · exact (congrArg (fun z : ℂ => ((z.re : ℝ) : EReal)) (e _)).trans (Eq.trans (by simp) zero_word.symm)
    · exact (congrArg (fun z : ℂ => ((z.im : ℝ) : EReal)) (e _)).trans (Eq.trans (by simp) zero_word.symm)
  next c n h := by
    have e : ∀ q, pstate l u c (n + 1) 0 q = pstate l u c n 256 q := fun q => by
      unfold pstate pch
      rw [show (n + 1) / 16 = n / 16 by omega, show (n + 1) / 32 = n / 32 by omega, show 256 * ((n + 1) % 16) + 0 = 256 * (n % 16) + 256 by omega]
    exact ⟨funext fun q => by simp only [re, e], funext fun q => by simp only [im, e]⟩

/-- A point's last row state is the state of its row among all. -/
theorem pstate_eq (c : Dev nD) (t : ℕ) (r : Fin 256) (q : Fin 512) : pstate l u c t (r.val + 1) q = stateAt (l c) (u c) (prow t r) (pch t q) := by
  have := r.isLt
  unfold pstate stateAt prow
  rw [show (256 * (t % 32) + r.val) / 4096 = t / 16 % 2 by omega, show (256 * (t % 32) + r.val) % 4096 + 1 = 256 * (t % 16) + (r.val + 1) by omega]

/-- The first result: the real parts. -/
theorem final4 (c : Dev nD) (A : Vec Ideal S8192x2048 .bf16) (hA : ∀ r ch, A (ix2 r ch) = (((stateAt (l c) (u c) r ch).re : ℝ) : EReal)) :
    (rowData m (re l u) (im l u) 0 c).arrAt 4 cfg0.N = A := by
  refine (rowData m (re l u) (im l u) 0 c).arrAt_eq_of_covers 4 _ (by decide +kernel) fun t hf y => ?_
  blk_simp
  rw [after4]
  obtain ⟨r, q, rfl⟩ : ∃ (r : Fin 256) (q : Fin 512), y = ix2 r q := ⟨_, _, eq_ix2 (n0 := 256) (n1 := 512) y⟩
  have e := pch_val t q
  have e : (win0_4.blk t).view.emb (ix2 r q) = ix2 (prow t.val r) (pch t.val q) := by blk_ext [index4, prow, e]
  rw [e, hA, ← pstate_eq]
  rfl

/-- The second result: the imaginary parts. -/
theorem final5 (c : Dev nD) (A : Vec Ideal S8192x2048 .bf16) (hA : ∀ r ch, A (ix2 r ch) = (((stateAt (l c) (u c) r ch).im : ℝ) : EReal)) :
    (rowData m (re l u) (im l u) 0 c).arrAt 5 cfg0.N = A := by
  refine (rowData m (re l u) (im l u) 0 c).arrAt_eq_of_covers 5 _ (by decide +kernel) fun t hf y => ?_
  blk_simp
  rw [after5]
  obtain ⟨r, q, rfl⟩ : ∃ (r : Fin 256) (q : Fin 512), y = ix2 r q := ⟨_, _, eq_ix2 (n0 := 256) (n1 := 512) y⟩
  have e := pch_val t q
  have e : (win0_5.blk t).view.emb (ix2 r q) = ix2 (prow t.val r) (pch t.val q) := by blk_ext [index5, prow, e]
  rw [e, hA, ← pstate_eq]
  rfl

end Cert.Proof.Scan

end
-- ==== Proof.Scan.Shapes.lean ====
/-
  The layouts of the reference's loop at an index: the inputs with the rows in front, one row taken out, one row put in, and the
  results with the sequences in front again.
-/
module

public import proofs.«01_k».proof.Proof.Gen.ReferenceScanIdeal.Run
public import proofs.«01_k».proof.Proof.Scan.Spec
public import Idealize.ShloMosaic.Lib.Pipeline.ValueKit

@[expose] public section

noncomputable section

namespace Cert.Proof.Scan.Ref

open Cert.ReferenceScanIdeal Cert.ReferenceScanIdeal.Gen Idealize.ShloMosaic Idealize.ShloMosaic.TcCoe Idealize.SL.Sem

/-- An input with the rows in front. -/
theorem input_apply (x : Vec Ideal S8192x2048 .bf16) (n : Fin 4096) (b : Fin 2) (ch : Fin 2048) :
    transpose S4096x2x2048 [1, 0, 2] (shapeCast S2x4096x2048 (extf (F := Ideal) .f32 x bitsLt_bf16_f32) shapeCasts_S8192x2048_S2x4096x2048) transposes_S2x4096x2048_S4096x2x2048_1_0_2 (ix3 n b ch)
      = x (ix2 (rowAt b.val n.val) ch) := by
  pointwise
  refine congrArg x ?_
  refine congrArg (fun r => ix2 r ch) (Fin.ext ?_)
  have := b.isLt
  have := n.isLt
  show b.val * 4096 + n.val = (4096 * b.val + n.val) % 8192
  omega

/-- A result with the sequences in front again. -/
theorem output_apply (x : Vec Ideal S4096x2x2048 .f32) (r : Fin 8192) (ch : Fin 2048) :
    truncf (F := Ideal) .bf16 (shapeCast S8192x2048 (transpose S2x4096x2048 [1, 0, 2] x transposes_S4096x2x2048_S2x4096x2048_1_0_2) shapeCasts_S2x4096x2048_S8192x2048) bitsLt_bf16_f32 (ix2 r ch)
      = x (ix3 ⟨r.val % 4096, by omega⟩ ⟨r.val / 4096, by omega⟩ ch) := by
  pointwise

variable (st : Fin 3 → Int) (j : Fin 4096) (h0 : st 0 = j.val) (h1 : st 1 = 0) (h2 : st 2 = 0)

include h0 h1 h2

/-- The clamped start of row `j`. -/
theorem start_eq (ht : S1x2x2048.rank = S4096x2x2048.rank) : Host.clampedStart S4096x2x2048 S1x2x2048 ht st 0 = j.val ∧ Host.clampedStart S4096x2x2048 S1x2x2048 ht st 1 = 0 ∧ Host.clampedStart S4096x2x2048 S1x2x2048 ht st 2 = 0 := by
  have := j.isLt
  refine ⟨Host.clampedStart_of_le ht st 0 j.val h0 ?_, Host.clampedStart_of_le ht st 1 0 h1 ?_, Host.clampedStart_of_le ht st 2 0 h2 ?_⟩
  · show j.val + 1 ≤ 4096; omega
  · show 0 + 2 ≤ 2; omega
  · show 0 + 2048 ≤ 2048; omega

/-- One row taken out. -/
theorem row_apply (x : Vec Ideal S4096x2x2048 .f32) (b : Fin 2) (ch : Fin 2048) :
    shapeCast S2x2048 (Host.dynamicSlice S1x2x2048 x st sliceFits_S4096x2x2048_S1x2x2048) shapeCasts_S1x2x2048_S2x2048 (ix2 b ch) = x (ix3 j b ch) := by
  obtain ⟨e0, e1, e2⟩ := start_eq st j h0 h1 h2 rfl
  pointwise
  simp only [e0, e1, e2, Nat.zero_add]

/-- One row put in. -/
theorem put_apply (x : Vec Ideal S4096x2x2048 .f32) (y : Vec Ideal S2x2048 .f32) (i : Fin 4096) (b : Fin 2) (ch : Fin 2048) :
    Host.dynamicUpdateSlice x (broadcastInDim S1x2x2048 ![1, 2] bcast_S2x2048_S1x2x2048_1_2 y) st updateFits_S4096x2x2048_S1x2x2048 (ix3 i b ch) = if i = j then y (ix2 b ch) else x (ix3 i b ch) := by
  obtain ⟨e0, e1, e2⟩ := start_eq st j h0 h1 h2 rfl
  pointwise
  simp only [e0, e1, e2, Nat.zero_add, Nat.sub_zero]
  have := b.isLt
  have := ch.isLt
  by_cases h : i = j
  · subst h
    rw [dif_pos (by omega), if_pos rfl]
  · rw [dif_neg (fun h' => h (Fin.ext (by omega))), if_neg h]

end Cert.Proof.Scan.Ref

end
-- ==== Proof.Scan.Reference.lean ====
/-
  The reference's loop over the rows: for finite arguments its results are the parts of the recurrence's states.
-/
module

public import proofs.«01_k».proof.Proof.Scan.Shapes

@[expose] public section

noncomputable section

namespace Cert.Proof.Scan.Ref

open Cert.ReferenceScanIdeal Cert.ReferenceScanIdeal.Gen Cert.ReferenceScanIdeal.Value Idealize.ShloMosaic Idealize.ShloMosaic.TcCoe Idealize.SL.Sem
open Idealize.ShloMosaic.StableHlo
open Cert.Proof.Tools

/-- A counter as a word and back. -/
theorem toInt_ofNat (j : Fin 4096) : (BitVec.ofNat 32 j.val).toInt = (j.val : ℤ) := by
  have := j.isLt
  rw [BitVec.toInt_eq_toNat_of_lt] <;> simp only [BitVec.toNat_ofNat] <;> omega

variable (x0 x1 : Vec Ideal S8192x2048 .bf16) (x2 x3 : Vec Ideal S1x2048 .f32) (l : Fin 2048 → ℂ) (u : Fin 8192 → Fin 2048 → ℂ)

/-- What the loop's buffers hold after `n` rows, each named by its array: the inputs with the rows in front, the rate, the count,
    the two parts of each state, and those of the states before it. -/
structure Rows (a0 a1 : Vec Ideal S4096x2x2048 .f32) (a2 a3 : Vec Ideal S1x2048 .f32) (k : Vec Ideal S_ .i32) (s5 s6 : Vec Ideal S2x2048 .f32) (s7 s8 : Vec Ideal S4096x2x2048 .f32) (n : ℕ) : Prop where
  re : ∀ i b ch, a0 (ix3 i b ch) = x0 (ix2 (rowAt b.val i.val) ch)
  im : ∀ i b ch, a1 (ix3 i b ch) = x1 (ix2 (rowAt b.val i.val) ch)
  lre : a2 = x2
  lim : a3 = x3
  count : k = constantI S_ 32 (BitVec.ofNat 32 n)
  now : ∀ b ch, Rep (s5 (ix2 b ch)) (s6 (ix2 b ch)) (state l u b.val ch n)
  past : ∀ i b ch, i.val < n → Rep (s7 (ix3 i b ch)) (s8 (ix3 i b ch)) (state l u b.val ch (i.val + 1))

/-- The same of a valuation. -/
abbrev Holds (V : Valuation τ sig (Elt Ideal)) (n : ℕ) : Prop :=
  Rows x0 x1 x2 x3 l u (V (Proc.devRef .tc main_v9_0)) (V (Proc.devRef .tc main_v9_1)) (V (Proc.devRef .tc main_v9_2)) (V (Proc.devRef .tc main_v9_3)) (V (Proc.devRef .tc main_v9_4))
    (V (Proc.devRef .tc main_v9_5)) (V (Proc.devRef .tc main_v9_6)) (V (Proc.devRef .tc main_v9_7)) (V (Proc.devRef .tc main_v9_8)) n

/-- The start of row `j` in the words of the loop. -/
abbrev start (k : Vec Ideal S_ .i32) : Fin 3 → Int := fun a => ((![k, constantI S_ 32 0#32, constantI S_ 32 0#32] : Fin 3 → Vec Ideal S_ .i32) a (Shape.Idx.first h_S_)).toInt

/-- The next state's two parts, as the loop spells them. -/
abbrev nextRe (a0 : Vec Ideal S4096x2x2048 .f32) (a2 a3 : Vec Ideal S1x2048 .f32) (k : Vec Ideal S_ .i32) (s5 s6 : Vec Ideal S2x2048 .f32) : FVec Ideal S2x2048 .f32 :=
  addf (F := Ideal) (φ := .f32) (subf (mulf (broadcastInDim S2x2048 ![0, 1] bcast_S1x2048_S2x2048_0_1 a2) s5) (mulf (broadcastInDim S2x2048 ![0, 1] bcast_S1x2048_S2x2048_0_1 a3) s6))
    (shapeCast S2x2048 (Host.dynamicSlice S1x2x2048 a0 (start k) sliceFits_S4096x2x2048_S1x2x2048) shapeCasts_S1x2x2048_S2x2048)
abbrev nextIm (a1 : Vec Ideal S4096x2x2048 .f32) (a2 a3 : Vec Ideal S1x2048 .f32) (k : Vec Ideal S_ .i32) (s5 s6 : Vec Ideal S2x2048 .f32) : FVec Ideal S2x2048 .f32 :=
  addf (F := Ideal) (φ := .f32) (addf (mulf (broadcastInDim S2x2048 ![0, 1] bcast_S1x2048_S2x2048_0_1 a2) s6) (mulf (broadcastInDim S2x2048 ![0, 1] bcast_S1x2048_S2x2048_0_1 a3) s5))
    (shapeCast S2x2048 (Host.dynamicSlice S1x2x2048 a1 (start k) sliceFits_S4096x2x2048_S1x2x2048) shapeCasts_S1x2x2048_S2x2048)

variable {x0 x1 x2 x3 l u}

/-- One trip of the loop. -/
theorem Rows.step (hl : ∀ ch, Rep (x2 (ix2 0 ch)) (x3 (ix2 0 ch)) (l ch)) (hu : ∀ r ch, Rep (x0 (ix2 r ch)) (x1 (ix2 r ch)) (u r ch))
    {a0 a1 : Vec Ideal S4096x2x2048 .f32} {a2 a3 : Vec Ideal S1x2048 .f32} {k : Vec Ideal S_ .i32} {s5 s6 : Vec Ideal S2x2048 .f32} {s7 s8 : Vec Ideal S4096x2x2048 .f32} (j : Fin 4096)
    (h : Rows x0 x1 x2 x3 l u a0 a1 a2 a3 k s5 s6 s7 s8 j.val) :
    Rows x0 x1 x2 x3 l u a0 a1 a2 a3 (addi k (constantI S_ 32 1#32)) (nextRe a0 a2 a3 k s5 s6) (nextIm a1 a2 a3 k s5 s6)
      (Host.dynamicUpdateSlice s7 (broadcastInDim S1x2x2048 ![1, 2] bcast_S2x2048_S1x2x2048_1_2 (nextRe a0 a2 a3 k s5 s6)) (start k) updateFits_S4096x2x2048_S1x2x2048)
      (Host.dynamicUpdateSlice s8 (broadcastInDim S1x2x2048 ![1, 2] bcast_S2x2048_S1x2x2048_1_2 (nextIm a1 a2 a3 k s5 s6)) (start k) updateFits_S4096x2x2048_S1x2x2048) (j.val + 1) := by
  obtain ⟨hre, him, rfl, rfl, rfl, hnow, hpast⟩ := h
  have e0 : start (constantI S_ 32 (BitVec.ofNat 32 j.val)) 0 = j.val := toInt_ofNat j
  have e1 : start (constantI S_ 32 (BitVec.ofNat 32 j.val)) 1 = 0 := rfl
  have e2 : start (constantI S_ 32 (BitVec.ofNat 32 j.val)) 2 = 0 := rfl
  have hnext : ∀ b ch, Rep (nextRe a0 a2 a3 (constantI S_ 32 (BitVec.ofNat 32 j.val)) s5 s6 (ix2 b ch)) (nextIm a1 a2 a3 (constantI S_ 32 (BitVec.ofNat 32 j.val)) s5 s6 (ix2 b ch)) (state l u b.val ch (j.val + 1)) := by
    intro b ch
    have hr := row_apply _ j e0 e1 e2 a0 b ch
    have hi := row_apply _ j e0 e1 e2 a1 b ch
    rw [hre] at hr
    rw [him] at hi
    have hw := hu (rowAt b.val j.val) ch
    rw [← hr, ← hi] at hw
    have hb : ∀ a : Vec Ideal S1x2048 .f32, broadcastInDim S2x2048 ![0, 1] bcast_S1x2048_S2x2048_0_1 a (ix2 b ch) = a (ix2 0 ch) := fun a => by pointwise
    have hl' := hl ch
    rw [← hb a2, ← hb a3] at hl'
    exact (hl'.mul (hnow b ch)).add hw
  refine ⟨hre, him, rfl, rfl, ?_, hnext, fun i b ch hi => ?_⟩
  · funext i
    show BitVec.ofNat 32 j.val + 1#32 = BitVec.ofNat 32 (j.val + 1)
    simp only [BitVec.ofNat_add]
  · rw [put_apply _ j e0 e1 e2, put_apply _ j e0 e1 e2]
    by_cases he : i = j
    · subst he
      rw [if_pos rfl, if_pos rfl]
      exact hnext b ch
    · rw [if_neg he, if_neg he]
      have : i.val ≠ j.val := fun h => he (Fin.ext h)
      exact hpast i b ch (by omega)

theorem holds_step (hl : ∀ ch, Rep (x2 (ix2 0 ch)) (x3 (ix2 0 ch)) (l ch)) (hu : ∀ r ch, Rep (x0 (ix2 r ch)) (x1 (ix2 r ch)) (u r ch)) {V : Valuation τ sig (Elt Ideal)} (j : Fin 4096) (h : Holds x0 x1 x2 x3 l u V j.val) :
    Holds x0 x1 x2 x3 l u (STEP V) (j.val + 1) := by
  unfold Holds
  rw [STEP_main_v9_0, STEP_main_v9_1, STEP_main_v9_2, STEP_main_v9_3, STEP_main_v9_4, STEP_main_v9_5, STEP_main_v9_6, STEP_main_v9_7, STEP_main_v9_8]
  exact Rows.step hl hu j h

/-- The loop's first valuation. -/
theorem holds_entry (m : (ℓ : Loc nD τ sig) → Buf (Elt Ideal) ℓ) (c : Dev nD) :
    Holds (m ((c.tc : Thread nD τ).loc main_arg0)) (m ((c.tc : Thread nD τ).loc main_arg1)) (m ((c.tc : Thread nD τ).loc main_arg2)) (m ((c.tc : Thread nD τ).loc main_arg3)) l u (entryContents preI m c) 0 where
  re := fun i b ch => by
    simp only [entryContents, afterL_cons, afterL_nil]
    after_reads_simp
    exact input_apply _ i b ch
  im := fun i b ch => by
    simp only [entryContents, afterL_cons, afterL_nil]
    after_reads_simp
    exact input_apply _ i b ch
  lre := by simp only [entryContents, afterL_cons, afterL_nil]; after_reads_simp; rfl
  lim := by simp only [entryContents, afterL_cons, afterL_nil]; after_reads_simp; rfl
  count := by simp only [entryContents, afterL_cons, afterL_nil]; after_reads_simp; rfl
  now := fun b ch => by
    simp only [entryContents, afterL_cons, afterL_nil]
    after_reads_simp
    refine ⟨?_, ?_⟩
    · exact Eq.trans zero_word (by simp [state])
    · exact Eq.trans zero_word (by simp [state])
  past := fun i b ch hi => absurd hi (Nat.not_lt_zero _)

/-- Before every condition. -/
theorem holds_iter (m : (ℓ : Loc nD τ sig) → Buf (Elt Ideal) ℓ) (c : Dev nD)
    (hl : ∀ ch, Rep (m ((c.tc : Thread nD τ).loc main_arg2) (ix2 0 ch)) (m ((c.tc : Thread nD τ).loc main_arg3) (ix2 0 ch)) (l ch))
    (hu : ∀ r ch, Rep (m ((c.tc : Thread nD τ).loc main_arg0) (ix2 r ch)) (m ((c.tc : Thread nD τ).loc main_arg1) (ix2 r ch)) (u r ch)) :
    ∀ n, n ≤ 4096 → Holds (m ((c.tc : Thread nD τ).loc main_arg0)) (m ((c.tc : Thread nD τ).loc main_arg1)) (m ((c.tc : Thread nD τ).loc main_arg2)) (m ((c.tc : Thread nD τ).loc main_arg3)) l u (STEP^[n] (entryContents preI m c)) n
  | 0, _ => holds_entry m c
  | n + 1, h => by
    rw [Function.iterate_succ_apply']
    exact holds_step hl hu ⟨n, h⟩ (holds_iter m c hl hu n (by omega))

/-- The results. -/
theorem results (m : (ℓ : Loc nD τ sig) → Buf (Elt Ideal) ℓ) (c : Dev nD)
    (hl : ∀ ch, Rep (m ((c.tc : Thread nD τ).loc main_arg2) (ix2 0 ch)) (m ((c.tc : Thread nD τ).loc main_arg3) (ix2 0 ch)) (l ch))
    (hu : ∀ r ch, Rep (m ((c.tc : Thread nD τ).loc main_arg0) (ix2 r ch)) (m ((c.tc : Thread nD τ).loc main_arg1) (ix2 r ch)) (u r ch)) (r : Fin 8192) (ch : Fin 2048) :
    Rep ((out_main_v12 (F := Ideal) (STEP^[4096] (entryContents preI m c)) : Vec Ideal S8192x2048 .bf16) (ix2 r ch)) ((out_main_v15 (F := Ideal) (STEP^[4096] (entryContents preI m c)) : Vec Ideal S8192x2048 .bf16) (ix2 r ch)) (stateAt l u r ch) := by
  unfold out_main_v12 out_main_v15
  have h := (holds_iter m c hl hu 4096 le_rfl).past ⟨r.val % 4096, by omega⟩ ⟨r.val / 4096, by omega⟩ ch (by show r.val % 4096 < 4096; omega)
  generalize STEP^[4096] (entryContents preI m c) = V at h ⊢
  have e := output_apply (V (Proc.devRef .tc main_v9_7)) r ch
  have e' := output_apply (V (Proc.devRef .tc main_v9_8)) r ch
  rw [← e, ← e'] at h
  exact h

end Cert.Proof.Scan.Ref

end
-- ==== Proof.Scan.Claim.lean ====
/-
  The claim about the forward scan: for finite arguments the kernel and the reference end at the same two arrays, the real and the
  imaginary parts of the recurrence's states.
-/
module

public import proofs.«01_k».proof.Defs
public import proofs.«01_k».proof.Proof.Scan.Kernel
public import proofs.«01_k».proof.Proof.Scan.Reference
public import proofs.«01_k».proof.Proof.Gen.Pre_scan_finite
public import Idealize.ShloMosaic.Lib.Quiescent

@[expose] public section

noncomputable section

namespace Cert.Proof.Scan

open Idealize.ShloMosaic Idealize.ShloMosaic.TcCoe Idealize.SL.Sem
open Cert.Proof.Tools

/-- The reference's run leaves its arguments as they were; it has no semaphore. -/
theorem frame_reference : Cert.quiescent_ReferenceScanIdeal (hReferenceScanIdeal := Cert.ReferenceScanIdeal.Gen.facts) := fun m g _ =>
  (θ_run Cert.ReferenceScanIdeal.defs _ _).mono (fun r h => ⟨fun c => (h c).2.2, sem_eq_zero_of_no_sems (by decide) r.2⟩)
    (Cert.ReferenceScanIdeal.Value.run (F := Ideal) m g)

/-- The two programs end at the same arrays. -/
theorem algebraic : Cert.algebraic_KernelScanIdeal_ReferenceScanIdeal_pre_scan_finite (hKernelScanIdeal := Cert.KernelScanIdeal.Gen.facts)
    (hReferenceScanIdeal := Cert.ReferenceScanIdeal.Gen.facts) (hPre_scan_finite := Cert.Pre_scan_finite.Gen.facts) := by
  intro m g m' g' hpre hagree
  have h0 : ∀ c i, IsR (arg0 m c i) := fun c => isR_of_test _ _ (fun _ => inf_word) (hpre c).1
  have h1 : ∀ c i, IsR (arg1 m c i) := fun c => isR_of_test _ _ (fun _ => inf_word) (hpre c).2.1
  have h2 : ∀ c i, IsR (arg2 m c i) := fun c => isR_of_test _ _ (fun _ => inf_word) (hpre c).2.2.1
  have h3 : ∀ c i, IsR (arg3 m c i) := fun c => isR_of_test _ _ (fun _ => inf_word) (hpre c).2.2.2
  choose l hl using fun c ch => exists_rep (h2 c (ix2 0 ch)) (h3 c (ix2 0 ch))
  choose u hu using fun c (r : Fin 8192) (ch : Fin 2048) => exists_rep (h0 c (ix2 r ch)) (h1 c (ix2 r ch))
  refine ⟨_, _, run_blocks m g (continues hl hu), ?_⟩
  refine (θ_run Cert.ReferenceScanIdeal.defs _ _).mono (fun r h c => ?_) (Cert.ReferenceScanIdeal.Value.run (F := Ideal) m' g')
  obtain ⟨a0, a1, a2, a3⟩ := hagree c
  obtain ⟨v0, v1, hrest⟩ := h c
  have hout := Ref.results (l := l c) (u := u c) m' c (fun ch => by rw [a2, a3]; exact hl c ch) (fun r ch => by rw [a0, a1]; exact hu c r ch)
  exact ⟨v0.trans (final4 c _ fun r ch => (hout r ch).1).symm, v1.trans (final5 c _ fun r ch => (hout r ch).2).symm, hrest⟩

end Cert.Proof.Scan

end
-- ==== Proof.Gate.Arrays.lean ====
/- Hand-written, untrusted: WHAT THE GATE'S KERNEL READS, on extended reals: the arrays that the host lines leave for the call
   (the norm and the projection are the reference's own), and what each input window's block holds. -/
module

public import proofs.«01_k».proof.Proof.Rms
public import proofs.«01_k».proof.Proof.Gen.KernelGateIdeal.Value
public import proofs.«01_k».proof.Proof.Gen.ReferenceGateIdeal.Read
public import Idealize.ShloMosaic.Lib.Pipeline.ValueKit.Geometry

@[expose] public section

noncomputable section

namespace Cert.Proof.Gate

open Cert.KernelGateIdeal Cert.KernelGateIdeal.Gen Idealize.ShloMosaic Idealize.ShloMosaic.TcCoe Idealize.SL.Sem
open Cert.Proof.Tools Cert.ReferenceGateIdeal.Read

/-- An argument array on one device. -/
local notation "arg[" m ", " c ", " a "]" => m (Thread.loc (c : Thread nD τ) a)

variable (m : (ℓ : Loc nD τ sig) → Buf (Elt Ideal) ℓ)

/-! ### The host lines -/

/-- The norm, rounded to the narrow type, which on extended reals is the identity. -/
theorem host_norm (c : Dev nD) : V m c main_v13 = truncf (F := Ideal) .bf16 (val_main_v12 (F := Ideal) arg[m, c, main_arg0] arg[m, c, main_arg1]) bitsLt_bf16_f32 := by
  show StableHlo.after hostOps0 _ main_v13 = _
  after_results_simp <;> rfl

/-- The embedding's projection. -/
theorem host_proj (c : Dev nD) : V m c main_v18 = val_main_v20 (F := Ideal) arg[m, c, main_arg2] arg[m, c, main_arg4] := by
  show StableHlo.after hostOps0 _ main_v18 = _
  after_results_simp <;> rfl

/-- The gate's weight, rounded. -/
theorem host_weight (c : Dev nD) : V m c main_v19 = truncf (F := Ideal) .bf16 arg[m, c, main_arg3] bitsLt_bf16_f32 := by
  show StableHlo.after hostOps0 _ main_v19 = _
  after_results_simp <;> rfl

/-- The next norm's gain as one row. -/
theorem host_gain (c : Dev nD) : V m c main_v20 = shapeCast S1x1024 arg[m, c, main_arg5] shapeCasts_S1024_S1x1024 := by
  show StableHlo.after hostOps0 _ main_v20 = _
  after_results_simp <;> rfl

/-! ### The windows -/

/-- The block index of each window at each point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- A point's row of the whole array. -/
def row (t : Fin cfg0.N) (r : Fin 512) : Fin 8192 := ⟨512 * t.val + r.val, by have := t.isLt; have : cfg0.N = 16 := N_0; have := r.isLt; omega⟩

/-- What each input window's block holds at an index. -/
theorem iblk0_apply (c : Dev nD) (t : Fin cfg0.N) (r : Fin 512) (l : Fin 1024) :
    ((iblk m c 0 t : Vec Ideal S512x1024 .bf16) (ix2 r l) : EReal) = val_main_v12 (F := Ideal) arg[m, c, main_arg0] arg[m, c, main_arg1] (ix2 (row t r) l) := by
  blk_simp [iblk, host_norm]
  refine congrArg (val_main_v12 (F := Ideal) arg[m, c, main_arg0] arg[m, c, main_arg1]) (?_ : _ = ix2 (row t r) l)
  blk_ext [index0, row]

theorem iblk1_apply (c : Dev nD) (t : Fin cfg0.N) (r l : Fin 1024) :
    ((iblk m c 1 t : Vec Ideal S1024x1024 .bf16) (ix2 r l) : EReal) = arg[m, c, main_arg3] (ix2 r l) := by
  blk_simp [iblk, host_weight]
  refine congrArg arg[m, c, main_arg3] (?_ : _ = ix2 r l)
  blk_ext [index1]

theorem iblk2_apply (c : Dev nD) (t : Fin cfg0.N) (r : Fin 512) (l : Fin 1024) :
    (iblk m c 2 t : Vec Ideal S512x1024 .f32) (ix2 r l) = val_main_v20 (F := Ideal) arg[m, c, main_arg2] arg[m, c, main_arg4] (ix2 (row t r) l) := by
  blk_simp [iblk, host_proj]
  refine congrArg (val_main_v20 (F := Ideal) arg[m, c, main_arg2] arg[m, c, main_arg4]) (?_ : _ = ix2 (row t r) l)
  blk_ext [index2, row]

theorem iblk3_apply (c : Dev nD) (t : Fin cfg0.N) (r : Fin 512) (l : Fin 1024) :
    (iblk m c 3 t : Vec Ideal S512x1024 .f32) (ix2 r l) = arg[m, c, main_arg0] (ix2 (row t r) l) := by
  blk_simp [iblk, V_main_arg0]
  refine congrArg arg[m, c, main_arg0] (?_ : _ = ix2 (row t r) l)
  blk_ext [index3, row]

theorem iblk4_apply (c : Dev nD) (t : Fin cfg0.N) (l : Fin 1024) :
    (iblk m c 4 t : Vec Ideal S1x1024 .f32) (ix2 0 l) = arg[m, c, main_arg5] (ix1 l) := by
  blk_simp [iblk, host_gain]
  refine Eq.trans (congrArg _ (?_ : _ = ix2 0 l)) ?_
  · blk_ext [index4]
  · rw [host_gain]
    pointwise

end Cert.Proof.Gate

end
-- ==== Proof.Gate.Value.lean ====
/- Hand-written, untrusted: THE VALUES OF THE GATE'S KERNEL, on extended reals: its three result arrays are the reference's
   (`final_out`, `final_pre`, `final_next`), whatever the arguments hold. -/
module

public import proofs.«01_k».proof.Proof.Gate.Arrays

@[expose] public section

noncomputable section

namespace Cert.Proof.Gate

open Cert.KernelGateIdeal Cert.KernelGateIdeal.Gen Idealize.ShloMosaic Idealize.ShloMosaic.TcCoe Idealize.SL.Sem
open Cert.Proof.Tools Cert.Proof.Rms Cert.ReferenceGateIdeal.Read

/-- An argument array on one device. -/
local notation "arg[" m ", " c ", " a "]" => m (Thread.loc (c : Thread nD τ) a)

/-- The logistic function. -/
abbrev sg (g : EReal) : EReal := Ideal.div 1 (1 + Ideal.exp (-g))

section Block

/-! What a point stores, element by element. -/

variable (b0 : Vec Ideal S512x1024 .bf16) (b1 : Vec Ideal S1024x1024 .bf16) (b2 b3 : Vec Ideal S512x1024 .f32) (b4 : Vec Ideal S1x1024 .f32)

theorem block_pre (r : Fin 512) (l : Fin 1024) : (k0_pay1 b0 b1 (ix2 r l) : EReal) = ∑ x, b0 (ix2 r x) * b1 (ix2 x l) := by
  simp only [k0_pay1]
  pointwise

theorem block_out (r : Fin 512) (l : Fin 1024) :
    (k0_pay2 b0 b1 b2 b3 (ix2 r l) : EReal) = b3 (ix2 r l) + sg (k0_pay1 b0 b1 (ix2 r l)) * b2 (ix2 r l) := by
  simp only [k0_pay2]
  generalize k0_pay1 b0 b1 = y
  pointwise
  simp only [zero_sub]

theorem block_next (r : Fin 512) (l : Fin 1024) :
    (k0_pay3 b0 b1 b2 b3 b4 (ix2 r l) : EReal)
      = k0_pay2 b0 b1 b2 b3 (ix2 r l) * rs (fun k => k0_pay2 b0 b1 b2 b3 (ix2 r k)) * b4 (ix2 0 l) := by
  simp only [k0_pay3]
  generalize k0_pay2 b0 b1 b2 b3 = y
  pointwise

end Block

section Reference

/-! The reference's results, element by element. -/

variable (x0 : Vec Ideal S8192x1024 .f32) (x1 : Vec Ideal S1024 .f32) (x2 : Vec Ideal S8192x256 .f32) (x3 : Vec Ideal S1024x1024 .f32) (x4 : Vec Ideal S256x1024 .f32) (x5 : Vec Ideal S1024 .f32)

theorem reference_pre (r : Fin 8192) (l : Fin 1024) :
    (val_main_v13 (F := Ideal) x0 x1 x3 (ix2 r l) : EReal) = ∑ x, val_main_v12 (F := Ideal) x0 x1 (ix2 r x) * x3 (ix2 x l) := by
  simp only [val_main_v13]
  generalize val_main_v12 (F := Ideal) x0 x1 = n
  pointwise

theorem reference_out (r : Fin 8192) (l : Fin 1024) :
    (val_main_v22 (F := Ideal) x0 x1 x2 x3 x4 (ix2 r l) : EReal)
      = x0 (ix2 r l) + sg (val_main_v13 (F := Ideal) x0 x1 x3 (ix2 r l)) * val_main_v20 (F := Ideal) x2 x4 (ix2 r l) := by
  simp only [val_main_v22, val_main_v21, val_main_v19, val_main_v17, val_main_v15, val_main_v14]
  generalize val_main_v13 (F := Ideal) x0 x1 x3 = p
  generalize val_main_v20 (F := Ideal) x2 x4 = e
  pointwise [val_main_v16, val_main_v18, val_main_cst_2, val_main_cst_3]

theorem reference_next (r : Fin 8192) (l : Fin 1024) :
    (val_main_v36 (F := Ideal) x0 x1 x2 x3 x4 x5 (ix2 r l) : EReal)
      = val_main_v22 (F := Ideal) x0 x1 x2 x3 x4 (ix2 r l) * rs (fun k => val_main_v22 (F := Ideal) x0 x1 x2 x3 x4 (ix2 r k)) * x5 (ix1 l) := by
  simp only [val_main_v36, val_main_v35, val_main_v32, val_main_v31, val_main_v30, val_main_v29, val_main_v27, val_main_v25, val_main_v24, val_main_v23]
  generalize val_main_v22 (F := Ideal) x0 x1 x2 x3 x4 = y
  pointwise [val_main_v26, val_main_v28, val_main_v33, val_main_v34, val_main_cst_4, val_main_cst_5, val_main_cst_6]

end Reference

variable (m : (ℓ : Loc nD τ sig) → Buf (Elt Ideal) ℓ) (c : Dev nD)

/-- A point's rows of the gate's argument, and of the residual stream behind the gate, are the reference's. -/
theorem pre_rows (t : Fin cfg0.N) (r : Fin 512) (l : Fin 1024) :
    (k0_pay1 (F := Ideal) (iblk m c 0 t) (iblk m c 1 t) (ix2 r l) : EReal) = val_main_v13 (F := Ideal) arg[m, c, main_arg0] arg[m, c, main_arg1] arg[m, c, main_arg3] (ix2 (row t r) l) := by
  rw [reference_pre]
  refine (block_pre _ _ r l).trans ?_
  simp only [iblk0_apply, iblk1_apply]

theorem out_rows (t : Fin cfg0.N) (r : Fin 512) (l : Fin 1024) :
    (k0_pay2 (F := Ideal) (iblk m c 0 t) (iblk m c 1 t) (iblk m c 2 t) (iblk m c 3 t) (ix2 r l) : EReal)
      = val_main_v22 (F := Ideal) arg[m, c, main_arg0] arg[m, c, main_arg1] arg[m, c, main_arg2] arg[m, c, main_arg3] arg[m, c, main_arg4] (ix2 (row t r) l) := by
  rw [reference_out]
  refine (block_out _ _ _ _ r l).trans ?_
  rw [pre_rows, iblk2_apply, iblk3_apply]

/-- The residual stream after the run is the reference's. -/
theorem final_out : (dats m 0 c).arrAt 5 cfg0.N = val_main_v22 (F := Ideal) arg[m, c, main_arg0] arg[m, c, main_arg1] arg[m, c, main_arg2] arg[m, c, main_arg3] arg[m, c, main_arg4] := by
  refine (dats m 0 c).arrAt_eq_of_covers 5 _ (by decide +kernel) fun t hf y => ?_
  blk_simp
  rw [after0_5]
  unfold out0_5
  rw [View.canon_unit_zero (S := S512x1024) hz2]
  simp only [View.ld_unit_zero (S := S512x1024) hz2, View.ld_unit_zero (S := S1024x1024) hz2, View.ld_unit_zero (S := S1x1024) hz2]
  obtain ⟨r, l, rfl⟩ : ∃ (r : Fin 512) (l : Fin 1024), y = ix2 r l := ⟨_, _, eq_ix2 (n0 := 512) (n1 := 1024) y⟩
  have e : (win0_5.blk t).view.emb (ix2 r l) = ix2 (row t r) l := by blk_ext [index5, row]
  rw [e]
  exact out_rows m c t r l

/-- The gate's argument after the run is the reference's. -/
theorem final_pre : (dats m 0 c).arrAt 6 cfg0.N = val_main_v13 (F := Ideal) arg[m, c, main_arg0] arg[m, c, main_arg1] arg[m, c, main_arg3] := by
  refine (dats m 0 c).arrAt_eq_of_covers 6 _ (by decide +kernel) fun t hf y => ?_
  blk_simp
  rw [after0_6]
  unfold out0_6
  rw [View.canon_unit_zero (S := S512x1024) hz2]
  simp only [View.ld_unit_zero (S := S512x1024) hz2, View.ld_unit_zero (S := S1024x1024) hz2, View.ld_unit_zero (S := S1x1024) hz2]
  obtain ⟨r, l, rfl⟩ : ∃ (r : Fin 512) (l : Fin 1024), y = ix2 r l := ⟨_, _, eq_ix2 (n0 := 512) (n1 := 1024) y⟩
  have e : (win0_6.blk t).view.emb (ix2 r l) = ix2 (row t r) l := by blk_ext [index6, row]
  rw [e]
  exact pre_rows m c t r l

/-- The next layer's norm after the run is the reference's. -/
theorem final_next : (dats m 0 c).arrAt 7 cfg0.N = val_main_v36 (F := Ideal) arg[m, c, main_arg0] arg[m, c, main_arg1] arg[m, c, main_arg2] arg[m, c, main_arg3] arg[m, c, main_arg4] arg[m, c, main_arg5] := by
  refine (dats m 0 c).arrAt_eq_of_covers 7 _ (by decide +kernel) fun t hf y => ?_
  blk_simp
  rw [after0_7]
  unfold out0_7
  rw [View.canon_unit_zero (S := S512x1024) hz2]
  simp only [View.ld_unit_zero (S := S512x1024) hz2, View.ld_unit_zero (S := S1024x1024) hz2, View.ld_unit_zero (S := S1x1024) hz2]
  obtain ⟨r, l, rfl⟩ : ∃ (r : Fin 512) (l : Fin 1024), y = ix2 r l := ⟨_, _, eq_ix2 (n0 := 512) (n1 := 1024) y⟩
  have e : (win0_7.blk t).view.emb (ix2 r l) = ix2 (row t r) l := by blk_ext [index7, row]
  rw [e]
  refine (block_next _ _ _ _ _ r l).trans (Eq.trans ?_ (reference_next _ _ _ _ _ _ _ _).symm)
  simp only [out_rows, iblk4_apply]

end Cert.Proof.Gate

end
-- ==== Proof.Gate.Claim.lean ====
/- Hand-written, untrusted: THE CLAIM ABOUT THE GATE'S KERNEL: its three result arrays are the reference's (Gate/Value.lean). -/
module

public import proofs.«01_k».proof.Defs
public import proofs.«01_k».proof.Proof.Gate.Value
public import proofs.«01_k».proof.Proof.Gen.KernelGate.Frame

@[expose] public section

noncomputable section

namespace Cert.Proof.Gate

open Idealize.ShloMosaic Idealize.ShloMosaic.TcCoe Idealize.SL.Sem
open Cert.KernelGateIdeal (main_arg0 main_arg1 main_arg2 main_arg3 main_arg4 main_arg5)

/-- A kernel's argument array on one device. -/
local notation "arg[" m ", " c ", " a "]" => m (Thread.loc (Dev.tc c : Thread Cert.KernelGateIdeal.nD Cert.KernelGateIdeal.τ) a)

/-- The reference's run leaves its arguments as they were; it has no semaphore. -/
theorem frame_reference : Cert.quiescent_ReferenceGateIdeal (hReferenceGateIdeal := Cert.ReferenceGateIdeal.Gen.facts) := fun m g _ =>
  (θ_run Cert.ReferenceGateIdeal.defs _ _).mono (fun r h => ⟨fun c => (h c).2.2.2, sem_eq_zero_of_no_sems (by decide) r.2⟩)
    (Cert.ReferenceGateIdeal.Value.run (F := Ideal) m g)

/-- The two programs end at the same arrays. -/
theorem algebraic : Cert.algebraic_KernelGateIdeal_ReferenceGateIdeal (hKernelGateIdeal := Cert.KernelGateIdeal.Gen.facts)
    (hReferenceGateIdeal := Cert.ReferenceGateIdeal.Gen.facts) := by
  intro m g m' g' _ hagree
  refine ⟨_, _, _, Cert.KernelGateIdeal.Value.run_blocks (F := Ideal) m g, ?_⟩
  refine (θ_run Cert.ReferenceGateIdeal.defs _ _).mono (fun r h c => ?_) (Cert.ReferenceGateIdeal.Value.run (F := Ideal) m' g')
  obtain ⟨a0, a1, a2, a3, a4, a5⟩ := hagree c
  obtain ⟨v0, v1, v2, hrest⟩ := h c
  refine ⟨(v0.trans (?_ : _ = Cert.ReferenceGateIdeal.Read.val_main_v22 (F := Ideal) arg[m, c, main_arg0] arg[m, c, main_arg1] arg[m, c, main_arg2] arg[m, c, main_arg3] arg[m, c, main_arg4])).trans (final_out m c).symm,
    (v1.trans (?_ : _ = Cert.ReferenceGateIdeal.Read.val_main_v13 (F := Ideal) arg[m, c, main_arg0] arg[m, c, main_arg1] arg[m, c, main_arg3])).trans (final_pre m c).symm,
    (v2.trans (?_ : _ = Cert.ReferenceGateIdeal.Read.val_main_v36 (F := Ideal) arg[m, c, main_arg0] arg[m, c, main_arg1] arg[m, c, main_arg2] arg[m, c, main_arg3] arg[m, c, main_arg4] arg[m, c, main_arg5])).trans (final_next m c).symm, hrest⟩
  · rw [← a0, ← a1, ← a2, ← a3, ← a4]
    first | exact Cert.ReferenceGateIdeal.Read.val_main_v22_eq m' c | exact Cert.ReferenceGateIdeal.Read.val_main_v22_eq _ _ _ _ _
  · rw [← a0, ← a1, ← a3]
    first | exact Cert.ReferenceGateIdeal.Read.val_main_v13_eq m' c | exact Cert.ReferenceGateIdeal.Read.val_main_v13_eq _ _ _
  · rw [← a0, ← a1, ← a2, ← a3, ← a4, ← a5]
    first | exact Cert.ReferenceGateIdeal.Read.val_main_v36_eq m' c | exact Cert.ReferenceGateIdeal.Read.val_main_v36_eq _ _ _ _ _ _

end Cert.Proof.Gate

end
-- ==== Proof.Hold.Arrays.lean ====
/- Hand-written, untrusted: WHAT THE ZERO-ORDER HOLD'S KERNEL READS, on extended reals: the columns and matrices that the host
   lines lay out over all layers, groups and states, and what each input window's block holds. -/
module

public import proofs.«01_k».proof.Proof.Rms
public import proofs.«01_k».proof.Proof.Gen.KernelHoldIdeal.Value
public import Idealize.ShloMosaic.Lib.Pipeline.ValueKit.Geometry
public import Idealize.ShloMosaic.Lib.StableHlo.ReadAt

@[expose] public section

noncomputable section

namespace Cert.Proof.Hold

open Cert.KernelHoldIdeal Cert.KernelHoldIdeal.Gen Idealize.ShloMosaic Idealize.ShloMosaic.TcCoe Idealize.SL.Sem
open Cert.Proof.Tools

/-- An argument array on one device. -/
local notation "arg[" m ", " c ", " a "]" => m (Thread.loc (c : Thread nD τ) a)

variable (m : (ℓ : Loc nD τ sig) → Buf (Elt Ideal) ℓ)

/-- The layer, the group and the state of a row. -/
def layer (R : Fin 8192) : Fin 4 := ⟨R.val / 2048, by omega⟩
def group (R : Fin 8192) : Fin 32 := ⟨R.val / 64 % 32, by omega⟩
def state (R : Fin 8192) : Fin 64 := ⟨R.val % 64, by omega⟩

/-! ### The host lines -/

/-- A table over (layer, group, state) as one column. -/
theorem host0 (c : Dev nD) (R : Fin 8192) : V m c main_v0 (ix2 R 0) = arg[m, c, main_arg0] (ix3 (layer R) (group R) (state R)) := by
  unfold V
  after_reads_at
  refine congrArg arg[m, c, main_arg0] (?_ : _ = ix3 (layer R) (group R) (state R))
  blk_ext [layer, group, state]

/-- A table over (layer, group, state) as one column. -/
theorem host1 (c : Dev nD) (R : Fin 8192) : V m c main_v1 (ix2 R 0) = arg[m, c, main_arg1] (ix3 (layer R) (group R) (state R)) := by
  unfold V
  after_reads_at
  refine congrArg arg[m, c, main_arg1] (?_ : _ = ix3 (layer R) (group R) (state R))
  blk_ext [layer, group, state]

/-- A table over (layer, group), repeated for each state, as one column. -/
theorem host2 (c : Dev nD) (R : Fin 8192) : V m c main_v5 (ix2 R 0) = arg[m, c, main_arg2] (ix2 (layer R) (group R)) := by
  unfold V
  after_reads_at
  refine congrArg arg[m, c, main_arg2] (?_ : _ = ix2 (layer R) (group R))
  blk_ext [layer, group, state]

/-- A table over (layer, group, state, channel) as a matrix. -/
theorem host3 (c : Dev nD) (R : Fin 8192) (l : Fin 16) : V m c main_v6 (ix2 R l) = arg[m, c, main_arg3] (ix4 (layer R) (group R) (state R) l) := by
  unfold V
  after_reads_at
  refine congrArg arg[m, c, main_arg3] (?_ : _ = ix4 (layer R) (group R) (state R) l)
  blk_ext [layer, group, state]

/-- A table over (layer, group, state, channel) as a matrix. -/
theorem host4 (c : Dev nD) (R : Fin 8192) (l : Fin 16) : V m c main_v7 (ix2 R l) = arg[m, c, main_arg4] (ix4 (layer R) (group R) (state R) l) := by
  unfold V
  after_reads_at
  refine congrArg arg[m, c, main_arg4] (?_ : _ = ix4 (layer R) (group R) (state R) l)
  blk_ext [layer, group, state]

/-! ### The windows -/

/-- The block index of each window at each point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- A point's row of the whole array. -/
def row (t : Fin cfg0.N) (r : Fin 2048) : Fin 8192 := ⟨2048 * t.val + r.val, by have := t.isLt; have : cfg0.N = 4 := N_0; have := r.isLt; omega⟩

/-- What each input window's block holds at an index. -/
theorem iblk0_apply (c : Dev nD) (t : Fin cfg0.N) (r : Fin 2048) :
    (iblk m c 0 t : Vec Ideal S2048x1 .f32) (ix2 r 0) = arg[m, c, main_arg0] (ix3 (layer (row t r)) (group (row t r)) (state (row t r))) := by
  refine Eq.trans ?_ (host0 m c _)
  blk_simp [iblk]
  refine congrArg (V m c main_v0) ?_
  blk_ext [index0, row]

theorem iblk1_apply (c : Dev nD) (t : Fin cfg0.N) (r : Fin 2048) :
    (iblk m c 1 t : Vec Ideal S2048x1 .f32) (ix2 r 0) = arg[m, c, main_arg1] (ix3 (layer (row t r)) (group (row t r)) (state (row t r))) := by
  refine Eq.trans ?_ (host1 m c _)
  blk_simp [iblk]
  refine congrArg (V m c main_v1) ?_
  blk_ext [index1, row]

theorem iblk2_apply (c : Dev nD) (t : Fin cfg0.N) (r : Fin 2048) :
    (iblk m c 2 t : Vec Ideal S2048x1 .f32) (ix2 r 0) = arg[m, c, main_arg2] (ix2 (layer (row t r)) (group (row t r))) := by
  refine Eq.trans ?_ (host2 m c _)
  blk_simp [iblk]
  refine congrArg (V m c main_v5) ?_
  blk_ext [index2, row]

theorem iblk3_apply (c : Dev nD) (t : Fin cfg0.N) (r : Fin 2048) (l : Fin 16) :
    (iblk m c 3 t : Vec Ideal S2048x16 .f32) (ix2 r l) = arg[m, c, main_arg3] (ix4 (layer (row t r)) (group (row t r)) (state (row t r)) l) := by
  refine Eq.trans ?_ (host3 m c _ _)
  blk_simp [iblk]
  refine congrArg (V m c main_v6) ?_
  blk_ext [index3, row]

theorem iblk4_apply (c : Dev nD) (t : Fin cfg0.N) (r : Fin 2048) (l : Fin 16) :
    (iblk m c 4 t : Vec Ideal S2048x16 .f32) (ix2 r l) = arg[m, c, main_arg4] (ix4 (layer (row t r)) (group (row t r)) (state (row t r)) l) := by
  refine Eq.trans ?_ (host4 m c _ _)
  blk_simp [iblk]
  refine congrArg (V m c main_v7) ?_
  blk_ext [index4, row]

end Cert.Proof.Hold

end
-- ==== Proof.Hold.Value.lean ====
/- Hand-written, untrusted: THE VALUES OF THE ZERO-ORDER HOLD'S KERNEL, on extended reals: its four result arrays are the
   reference's (`final5` … `final8`), whatever the arguments hold. -/
module

public import proofs.«01_k».proof.Proof.Hold.Arrays
public import proofs.«01_k».proof.Proof.Gen.ReferenceHoldIdeal.Read

@[expose] public section

noncomputable section

namespace Cert.Proof.Hold

open Cert.KernelHoldIdeal Cert.KernelHoldIdeal.Gen Idealize.ShloMosaic Idealize.ShloMosaic.TcCoe Idealize.SL.Sem
open Cert.Proof.Tools Cert.ReferenceHoldIdeal.Read

/-- An argument array on one device. -/
local notation "arg[" m ", " c ", " a "]" => m (Thread.loc (c : Thread nD τ) a)

/-! ### The mathematics of one state

`p` and `q` are the eigenvalue's parts, `d` the logarithm of the step, `s` and `u` the parts of one entry of the input matrix. -/

/-- The discrete eigenvalue's parts. -/
def aRe (p q d : EReal) : EReal := Ideal.exp (p * Ideal.exp d) * Ideal.cos (q * Ideal.exp d)
def aIm (p q d : EReal) : EReal := Ideal.exp (p * Ideal.exp d) * Ideal.sin (q * Ideal.exp d)

/-- The input's factor, (a - 1) / λ, in parts. -/
def fRe (p q d : EReal) : EReal := Ideal.div ((aRe p q d - 1) * p + aIm p q d * q) (p * p + q * q)
def fIm (p q d : EReal) : EReal := Ideal.div (aIm p q d * p - (aRe p q d - 1) * q) (p * p + q * q)

section Block

/-! What a point stores, element by element. -/

variable (b0 b1 b2 : Vec Ideal S2048x1 .f32) (b3 b4 : Vec Ideal S2048x16 .f32)

theorem block5 (r : Fin 2048) : (k0_pay6 b0 b1 b2 (ix2 r 0) : EReal) = aRe (b0 (ix2 r 0)) (b1 (ix2 r 0)) (b2 (ix2 r 0)) := by
  simp only [k0_pay2, k0_pay3, k0_pay4, k0_pay5, k0_pay6]
  unfold aRe
  pointwise

theorem block6 (r : Fin 2048) : (k0_pay7 b0 b1 b2 (ix2 r 0) : EReal) = aIm (b0 (ix2 r 0)) (b1 (ix2 r 0)) (b2 (ix2 r 0)) := by
  simp only [k0_pay2, k0_pay3, k0_pay4, k0_pay5, k0_pay7]
  unfold aIm
  pointwise

theorem factor_re (r : Fin 2048) : (k0_pay9 b0 b1 b2 (ix2 r 0) : EReal) = fRe (b0 (ix2 r 0)) (b1 (ix2 r 0)) (b2 (ix2 r 0)) := by
  unfold fRe
  rw [← block5, ← block6]
  simp only [k0_pay2, k0_pay3, k0_pay8, k0_pay9]
  generalize k0_pay6 b0 b1 b2 = y
  generalize k0_pay7 b0 b1 b2 = z
  pointwise

theorem factor_im (r : Fin 2048) : (k0_pay10 b0 b1 b2 (ix2 r 0) : EReal) = fIm (b0 (ix2 r 0)) (b1 (ix2 r 0)) (b2 (ix2 r 0)) := by
  unfold fIm
  rw [← block5, ← block6]
  simp only [k0_pay2, k0_pay3, k0_pay8, k0_pay10]
  generalize k0_pay6 b0 b1 b2 = y
  generalize k0_pay7 b0 b1 b2 = z
  pointwise

theorem block7 (r : Fin 2048) (l : Fin 16) : (k0_pay13 b0 b1 b2 b3 b4 (ix2 r l) : EReal)
    = k0_pay9 b0 b1 b2 (ix2 r 0) * b3 (ix2 r l) - k0_pay10 b0 b1 b2 (ix2 r 0) * b4 (ix2 r l) := by
  simp only [k0_pay11, k0_pay12, k0_pay13]
  generalize k0_pay9 b0 b1 b2 = y
  generalize k0_pay10 b0 b1 b2 = z
  pointwise

theorem block8 (r : Fin 2048) (l : Fin 16) : (k0_pay1 (k0_pay9 b0 b1 b2) (k0_pay10 b0 b1 b2) (k0_pay11 b3) (k0_pay12 b4) (ix2 r l) : EReal)
    = k0_pay9 b0 b1 b2 (ix2 r 0) * b4 (ix2 r l) + k0_pay10 b0 b1 b2 (ix2 r 0) * b3 (ix2 r l) := by
  simp only [k0_pay11, k0_pay12, k0_pay1]
  generalize k0_pay9 b0 b1 b2 = y
  generalize k0_pay10 b0 b1 b2 = z
  pointwise

end Block

section Reference

/-! The reference's results, element by element. -/

variable (x0 x1 : Vec Ideal S4x32x64 .f32) (x2 : Vec Ideal S4x32 .f32) (x3 x4 : Vec Ideal S4x32x64x16 .f32)

theorem table_re (a : Fin 4) (g : Fin 32) (k : Fin 64) : (val_main_v8 (F := Ideal) x0 x1 x2 (ix3 a g k) : EReal)
    = aRe (x0 (ix3 a g k)) (x1 (ix3 a g k)) (x2 (ix2 a g)) := by
  unfold aRe
  pointwise [val_main_v0, val_main_v1, val_main_v2, val_main_v3, val_main_v4, val_main_v5, val_main_v6, val_main_v7, val_main_v8]

theorem table_im (a : Fin 4) (g : Fin 32) (k : Fin 64) : (val_main_v12 (F := Ideal) x0 x1 x2 (ix3 a g k) : EReal)
    = aIm (x0 (ix3 a g k)) (x1 (ix3 a g k)) (x2 (ix2 a g)) := by
  unfold aIm
  pointwise [val_main_v0, val_main_v1, val_main_v2, val_main_v3, val_main_v4, val_main_v9, val_main_v10, val_main_v11, val_main_v12]

theorem table_factor_re (a : Fin 4) (g : Fin 32) (k : Fin 64) : (val_main_v21 (F := Ideal) x0 x1 x2 (ix3 a g k) : EReal)
    = fRe (x0 (ix3 a g k)) (x1 (ix3 a g k)) (x2 (ix2 a g)) := by
  unfold fRe
  rw [← table_re, ← table_im]
  simp only [val_main_v21, val_main_v20, val_main_v19, val_main_v18, val_main_v17]
  generalize val_main_v8 (F := Ideal) x0 x1 x2 = y
  generalize val_main_v12 (F := Ideal) x0 x1 x2 = z
  pointwise [val_main_v13, val_main_v14, val_main_v15, val_main_v16, val_main_cst]

theorem table_factor_im (a : Fin 4) (g : Fin 32) (k : Fin 64) : (val_main_v27 (F := Ideal) x0 x1 x2 (ix3 a g k) : EReal)
    = fIm (x0 (ix3 a g k)) (x1 (ix3 a g k)) (x2 (ix2 a g)) := by
  unfold fIm
  rw [← table_re, ← table_im]
  simp only [val_main_v27, val_main_v26, val_main_v25, val_main_v24, val_main_v22]
  generalize val_main_v8 (F := Ideal) x0 x1 x2 = y
  generalize val_main_v12 (F := Ideal) x0 x1 x2 = z
  pointwise [val_main_v13, val_main_v14, val_main_v15, val_main_v23, val_main_cst_0]

theorem reference5 (R : Fin 8192) : val_main_v30 (F := Ideal) x0 x1 x2 (ix2 R 0)
    = val_main_v8 (F := Ideal) x0 x1 x2 (ix3 (layer R) (group R) (state R)) := by
  simp only [val_main_v30]
  generalize val_main_v8 (F := Ideal) x0 x1 x2 = y
  pointwise [layer, group, state]

theorem reference6 (R : Fin 8192) : val_main_v31 (F := Ideal) x0 x1 x2 (ix2 R 0)
    = val_main_v12 (F := Ideal) x0 x1 x2 (ix3 (layer R) (group R) (state R)) := by
  simp only [val_main_v31]
  generalize val_main_v12 (F := Ideal) x0 x1 x2 = y
  pointwise [layer, group, state]

theorem reference7 (R : Fin 8192) (l : Fin 16) : (val_main_v37 (F := Ideal) x0 x1 x2 x3 x4 (ix2 R l) : EReal)
    = val_main_v21 (F := Ideal) x0 x1 x2 (ix3 (layer R) (group R) (state R)) * x3 (ix4 (layer R) (group R) (state R) l)
      - val_main_v27 (F := Ideal) x0 x1 x2 (ix3 (layer R) (group R) (state R)) * x4 (ix4 (layer R) (group R) (state R) l) := by
  simp only [val_main_v37, val_main_v36, val_main_v35, val_main_v34, val_main_v33, val_main_v32, val_main_v29, val_main_v28]
  generalize val_main_v21 (F := Ideal) x0 x1 x2 = y
  generalize val_main_v27 (F := Ideal) x0 x1 x2 = z
  pointwise [layer, group, state]

theorem reference8 (R : Fin 8192) (l : Fin 16) : (val_main_v43 (F := Ideal) x0 x1 x2 x3 x4 (ix2 R l) : EReal)
    = val_main_v21 (F := Ideal) x0 x1 x2 (ix3 (layer R) (group R) (state R)) * x4 (ix4 (layer R) (group R) (state R) l)
      + val_main_v27 (F := Ideal) x0 x1 x2 (ix3 (layer R) (group R) (state R)) * x3 (ix4 (layer R) (group R) (state R) l) := by
  simp only [val_main_v43, val_main_v42, val_main_v41, val_main_v40, val_main_v39, val_main_v38, val_main_v29, val_main_v28]
  generalize val_main_v21 (F := Ideal) x0 x1 x2 = y
  generalize val_main_v27 (F := Ideal) x0 x1 x2 = z
  pointwise [layer, group, state]

end Reference

variable (m : (ℓ : Loc nD τ sig) → Buf (Elt Ideal) ℓ) (c : Dev nD)

/-- The discrete eigenvalue's real part after the run is the reference's. -/
theorem final5 : (dats m 0 c).arrAt 5 cfg0.N = val_main_v30 (F := Ideal) arg[m, c, main_arg0] arg[m, c, main_arg1] arg[m, c, main_arg2] := by
  refine (dats m 0 c).arrAt_eq_of_covers 5 _ (by decide +kernel) fun t hf y => ?_
  blk_simp
  rw [after0_5]
  unfold out0_5
  rw [View.canon_unit_zero (S := S2048x1) hz2]
  simp only [View.ld_unit_zero (S := S2048x1) hz2]
  obtain ⟨r, l, rfl⟩ : ∃ (r : Fin 2048) (l : Fin 1), y = ix2 r l := ⟨_, _, eq_ix2 (n0 := 2048) (n1 := 1) y⟩
  obtain rfl : l = 0 := Subsingleton.elim _ _
  have e : (win0_5.blk t).view.emb (ix2 r 0) = ix2 (row t r) 0 := by blk_ext [index5, row]
  rw [e]
  refine (block5 _ _ _ r).trans (Eq.trans ?_ ((reference5 _ _ _ _).trans (table_re _ _ _ _ _ _)).symm)
  rw [iblk0_apply, iblk1_apply, iblk2_apply]

/-- Its imaginary part. -/
theorem final6 : (dats m 0 c).arrAt 6 cfg0.N = val_main_v31 (F := Ideal) arg[m, c, main_arg0] arg[m, c, main_arg1] arg[m, c, main_arg2] := by
  refine (dats m 0 c).arrAt_eq_of_covers 6 _ (by decide +kernel) fun t hf y => ?_
  blk_simp
  rw [after0_6]
  unfold out0_6
  rw [View.canon_unit_zero (S := S2048x1) hz2]
  simp only [View.ld_unit_zero (S := S2048x1) hz2]
  obtain ⟨r, l, rfl⟩ : ∃ (r : Fin 2048) (l : Fin 1), y = ix2 r l := ⟨_, _, eq_ix2 (n0 := 2048) (n1 := 1) y⟩
  obtain rfl : l = 0 := Subsingleton.elim _ _
  have e : (win0_6.blk t).view.emb (ix2 r 0) = ix2 (row t r) 0 := by blk_ext [index6, row]
  rw [e]
  refine (block6 _ _ _ r).trans (Eq.trans ?_ ((reference6 _ _ _ _).trans (table_im _ _ _ _ _ _)).symm)
  rw [iblk0_apply, iblk1_apply, iblk2_apply]

/-- The discrete input matrix's real part after the run is the reference's. -/
theorem final7 : (dats m 0 c).arrAt 7 cfg0.N = val_main_v37 (F := Ideal) arg[m, c, main_arg0] arg[m, c, main_arg1] arg[m, c, main_arg2] arg[m, c, main_arg3] arg[m, c, main_arg4] := by
  refine (dats m 0 c).arrAt_eq_of_covers 7 _ (by decide +kernel) fun t hf y => ?_
  blk_simp
  rw [after0_7]
  unfold out0_7
  rw [View.canon_unit_zero (S := S2048x16) hz2]
  simp only [View.ld_unit_zero (S := S2048x1) hz2, View.ld_unit_zero (S := S2048x16) hz2]
  obtain ⟨r, l, rfl⟩ : ∃ (r : Fin 2048) (l : Fin 16), y = ix2 r l := ⟨_, _, eq_ix2 (n0 := 2048) (n1 := 16) y⟩
  have e : (win0_7.blk t).view.emb (ix2 r l) = ix2 (row t r) l := by blk_ext [index7, row]
  rw [e]
  refine (block7 _ _ _ _ _ r l).trans (Eq.trans ?_ (reference7 _ _ _ _ _ _ _).symm)
  rw [factor_re, factor_im, table_factor_re, table_factor_im, iblk0_apply, iblk1_apply, iblk2_apply, iblk3_apply, iblk4_apply]

/-- Its imaginary part. -/
theorem final8 : (dats m 0 c).arrAt 8 cfg0.N = val_main_v43 (F := Ideal) arg[m, c, main_arg0] arg[m, c, main_arg1] arg[m, c, main_arg2] arg[m, c, main_arg3] arg[m, c, main_arg4] := by
  refine (dats m 0 c).arrAt_eq_of_covers 8 _ (by decide +kernel) fun t hf y => ?_
  blk_simp
  rw [after0_8]
  unfold out0_8
  rw [View.canon_unit_zero (S := S2048x16) hz2]
  simp only [View.ld_unit_zero (S := S2048x1) hz2, View.ld_unit_zero (S := S2048x16) hz2]
  obtain ⟨r, l, rfl⟩ : ∃ (r : Fin 2048) (l : Fin 16), y = ix2 r l := ⟨_, _, eq_ix2 (n0 := 2048) (n1 := 16) y⟩
  have e : (win0_8.blk t).view.emb (ix2 r l) = ix2 (row t r) l := by blk_ext [index8, row]
  rw [e]
  refine (block8 _ _ _ _ _ r l).trans (Eq.trans ?_ (reference8 _ _ _ _ _ _ _).symm)
  rw [factor_re, factor_im, table_factor_re, table_factor_im, iblk0_apply, iblk1_apply, iblk2_apply, iblk3_apply, iblk4_apply]

end Cert.Proof.Hold

end
-- ==== Proof.Hold.Claim.lean ====
/- Hand-written, untrusted: THE CLAIM ABOUT THE ZERO-ORDER HOLD'S KERNEL: its four result arrays are the reference's (Hold/Value.lean). -/
module

public import proofs.«01_k».proof.Defs
public import proofs.«01_k».proof.Proof.Hold.Value
public import proofs.«01_k».proof.Proof.Gen.KernelHold.Frame

@[expose] public section

noncomputable section

namespace Cert.Proof.Hold

open Idealize.ShloMosaic Idealize.ShloMosaic.TcCoe Idealize.SL.Sem
open Cert.KernelHoldIdeal (main_arg0 main_arg1 main_arg2 main_arg3 main_arg4)

/-- A kernel's argument array on one device. -/
local notation "arg[" m ", " c ", " a "]" => m (Thread.loc (Dev.tc c : Thread Cert.KernelHoldIdeal.nD Cert.KernelHoldIdeal.τ) a)

/-- The reference's run leaves its arguments as they were; it has no semaphore. -/
theorem frame_reference : Cert.quiescent_ReferenceHoldIdeal (hReferenceHoldIdeal := Cert.ReferenceHoldIdeal.Gen.facts) := fun m g _ =>
  (θ_run Cert.ReferenceHoldIdeal.defs _ _).mono (fun r h => ⟨fun c => (h c).2.2.2.2, sem_eq_zero_of_no_sems (by decide) r.2⟩)
    (Cert.ReferenceHoldIdeal.Value.run (F := Ideal) m g)

/-- The two programs end at the same arrays. -/
theorem algebraic : Cert.algebraic_KernelHoldIdeal_ReferenceHoldIdeal (hKernelHoldIdeal := Cert.KernelHoldIdeal.Gen.facts)
    (hReferenceHoldIdeal := Cert.ReferenceHoldIdeal.Gen.facts) := by
  intro m g m' g' _ hagree
  refine ⟨_, _, _, _, Cert.KernelHoldIdeal.Value.run_blocks (F := Ideal) m g, ?_⟩
  refine (θ_run Cert.ReferenceHoldIdeal.defs _ _).mono (fun r h c => ?_) (Cert.ReferenceHoldIdeal.Value.run (F := Ideal) m' g')
  obtain ⟨a0, a1, a2, a3, a4⟩ := hagree c
  obtain ⟨v0, v1, v2, v3, hrest⟩ := h c
  refine ⟨(v0.trans (?_ : _ = Cert.ReferenceHoldIdeal.Read.val_main_v30 (F := Ideal) arg[m, c, main_arg0] arg[m, c, main_arg1] arg[m, c, main_arg2])).trans (final5 m c).symm,
    (v1.trans (?_ : _ = Cert.ReferenceHoldIdeal.Read.val_main_v31 (F := Ideal) arg[m, c, main_arg0] arg[m, c, main_arg1] arg[m, c, main_arg2])).trans (final6 m c).symm,
    (v2.trans (?_ : _ = Cert.ReferenceHoldIdeal.Read.val_main_v37 (F := Ideal) arg[m, c, main_arg0] arg[m, c, main_arg1] arg[m, c, main_arg2] arg[m, c, main_arg3] arg[m, c, main_arg4])).trans (final7 m c).symm,
    (v3.trans (?_ : _ = Cert.ReferenceHoldIdeal.Read.val_main_v43 (F := Ideal) arg[m, c, main_arg0] arg[m, c, main_arg1] arg[m, c, main_arg2] arg[m, c, main_arg3] arg[m, c, main_arg4])).trans (final8 m c).symm, hrest⟩
  · rw [← a0, ← a1, ← a2]
    first | exact Cert.ReferenceHoldIdeal.Read.val_main_v30_eq m' c | exact Cert.ReferenceHoldIdeal.Read.val_main_v30_eq _ _ _
  · rw [← a0, ← a1, ← a2]
    first | exact Cert.ReferenceHoldIdeal.Read.val_main_v31_eq m' c | exact Cert.ReferenceHoldIdeal.Read.val_main_v31_eq _ _ _
  · rw [← a0, ← a1, ← a2, ← a3, ← a4]
    first | exact Cert.ReferenceHoldIdeal.Read.val_main_v37_eq m' c | exact Cert.ReferenceHoldIdeal.Read.val_main_v37_eq _ _ _ _ _
  · rw [← a0, ← a1, ← a2, ← a3, ← a4]
    first | exact Cert.ReferenceHoldIdeal.Read.val_main_v43_eq m' c | exact Cert.ReferenceHoldIdeal.Read.val_main_v43_eq _ _ _ _ _

end Cert.Proof.Hold

end
-- ==== Proof.States.Arrays.lean ====
/- Hand-written, untrusted: WHAT THE OUTPUT MATRICES' KERNEL READS, on extended reals: the two block diagonal matrices that the
   host lays out (`dense_re`, `dense_im`), and what each input window holds at a grid point. -/
module

public import proofs.«01_k».proof.Proof.Budx.Arrays
public import proofs.«01_k».proof.Proof.Gen.KernelStatesIdeal.Value

@[expose] public section

noncomputable section

namespace Cert.Proof.States

open Cert.KernelStatesIdeal Cert.KernelStatesIdeal.Gen Idealize.ShloMosaic Idealize.ShloMosaic.TcCoe Idealize.SL.Sem
open Cert.Proof.Tools
open Cert.Proof.Budx (fdiv fdiv_row fdiv_col same_group)

/-- An argument array on one device. -/
local notation "arg[" m ", " c ", " a "]" => m (Thread.loc (c : Thread nD τ) a)

/-! ### The block diagonal matrices -/

/-- An element of the block diagonal matrix (state, channel) of a weight over (group, channel, state): the weight's, where row and
    column belong to one group, else zero. -/
def dense (x : Vec Ideal S32x16x64 .f32) (k : Fin 2048) (a : Fin 512) : EReal :=
  if k.val / 64 = a.val / 16 then x (ix3 ⟨k.val / 64, by omega⟩ ⟨a.val % 16, by omega⟩ ⟨k.val % 64, by omega⟩) else 0

/-- A weight, negated. -/
def neg (x : Vec Ideal S32x16x64 .f32) : Vec Ideal S32x16x64 .f32 := fun i => -(x i : EReal)

/-- The host's choice between a repeated weight and zero is that element. -/
theorem select_dense (x : Vec Ideal S32x16x64 .f32) (k : Fin 2048) (a : Fin 512) :
    (Scalar.select (IntOp.cmpi CmpIPredicate.eq (fdiv (BitVec.ofNat 32 k.val) 64#32) (fdiv (BitVec.ofNat 32 a.val) 16#32))
      (x (ix3 ⟨k.val / 64, by omega⟩ ⟨a.val % 16, by omega⟩ ⟨k.val % 64, by omega⟩)) (0 : EReal) : EReal) = dense x k a := by
  have e := same_group ⟨k.val / 64, by omega⟩ ⟨a.val / 16, by omega⟩
  dsimp only at e
  rw [fdiv_row, fdiv_col, e]
  unfold dense
  by_cases h : k.val / 64 = a.val / 16
  · rw [if_pos h, if_pos h]
    rfl
  · rw [if_neg h, if_neg h]
    rfl

variable (m : (ℓ : Loc nD τ sig) → Buf (Elt Ideal) ℓ)

theorem dense_re (c : Dev nD) (k : Fin 2048) (a : Fin 512) : (V m c main_v13 (ix2 k a) : EReal) = dense arg[m, c, main_arg2] k a := by
  refine Eq.trans ?_ (select_dense _ k a)
  unfold V
  after_reads_at
  rfl

theorem dense_im (c : Dev nD) (k : Fin 2048) (a : Fin 512) : (V m c main_v26 (ix2 k a) : EReal) = dense (neg arg[m, c, main_arg3]) k a := by
  refine Eq.trans ?_ (select_dense _ k a)
  unfold V
  after_reads_at
  rfl

/-- The sum over one diagonal block's rows is the sum over the column's own group. -/
theorem sum_dense (x : Vec Ideal S32x16x64 .f32) (f : Fin 2048 → EReal) (j : Fin 2) (l : Fin 256) :
    ∑ k : Fin 1024, f ⟨1024 * j.val + k.val, by omega⟩ * dense x ⟨1024 * j.val + k.val, by omega⟩ ⟨256 * j.val + l.val, by omega⟩
      = ∑ p : Fin 64, f ⟨(256 * j.val + l.val) / 16 * 64 + p.val, by omega⟩
          * x (ix3 ⟨(256 * j.val + l.val) / 16, by omega⟩ ⟨(256 * j.val + l.val) % 16, by omega⟩ p) := by
  refine (Finset.sum_of_injOn (fun p : Fin 64 => (⟨l.val / 16 * 64 + p.val, by omega⟩ : Fin 1024)) ?_ (fun _ _ => Finset.mem_univ _) ?_ ?_).symm
  · intro p _ q _ h
    have := Fin.val_eq_of_eq h
    exact Fin.ext (by dsimp only at this; omega)
  · intro k _ hk
    unfold dense
    rw [if_neg, mul_zero]
    intro h
    dsimp only at h
    exact hk ⟨⟨k.val % 64, by omega⟩, Finset.mem_coe.2 (Finset.mem_univ _), Fin.ext (by dsimp only; omega)⟩
  · intro p _
    unfold dense
    dsimp only
    rw [if_pos (by omega)]
    have e : (256 * j.val + l.val) / 16 * 64 + p.val = 1024 * j.val + (l.val / 16 * 64 + p.val) := by omega
    have e1 : (1024 * j.val + (l.val / 16 * 64 + p.val)) / 64 = (256 * j.val + l.val) / 16 := by omega
    have e2 : (1024 * j.val + (l.val / 16 * 64 + p.val)) % 64 = p.val := by omega
    simp only [e, e1, e2]

/-! ### The windows -/

/-- The block index of each window at each point: row block and column block of the point. -/
theorem index0 : ∀ t : Fin cfg0.N, win0_0.index t = ![t.val / 2, t.val % 2] := (by decide +kernel : ∀ t : Fin grid0.N, _)
theorem index1 : ∀ t : Fin cfg0.N, win0_1.index t = ![t.val / 2, t.val % 2] := (by decide +kernel : ∀ t : Fin grid0.N, _)
theorem index2 : ∀ t : Fin cfg0.N, win0_2.index t = ![t.val % 2, t.val % 2] := (by decide +kernel : ∀ t : Fin grid0.N, _)
theorem index3 : ∀ t : Fin cfg0.N, win0_3.index t = ![t.val % 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![0, t.val % 2] := (by decide +kernel : ∀ t : Fin grid0.N, _)
theorem index6 : ∀ t : Fin cfg0.N, win0_6.index t = ![t.val / 2, t.val % 2] := (by decide +kernel : ∀ t : Fin grid0.N, _)
theorem index7 : ∀ t : Fin cfg0.N, win0_7.index t = ![t.val / 2, t.val % 2] := (by decide +kernel : ∀ t : Fin grid0.N, _)

/-- A point's row of the whole array; its diagonal block; the block's channel and its state. -/
def row (t : Fin cfg0.N) (r : Fin 1024) : Fin 8192 := ⟨1024 * (t.val / 2) + r.val, by have := t.isLt; have : cfg0.N = 16 := N_0; have := r.isLt; omega⟩
def half (t : Fin cfg0.N) : Fin 2 := ⟨t.val % 2, by omega⟩
def chan (j : Fin 2) (l : Fin 256) : Fin 512 := ⟨256 * j.val + l.val, by omega⟩
def state (j : Fin 2) (k : Fin 1024) : Fin 2048 := ⟨1024 * j.val + k.val, by omega⟩

theorem iblk0_apply (c : Dev nD) (t : Fin cfg0.N) (r : Fin 1024) (k : Fin 1024) :
    (iblk m c 0 t : Vec Ideal S1024x1024 .bf16) (ix2 r k) = arg[m, c, main_arg0] (ix2 (row t r) (state (half t) k)) := by
  blk_simp [iblk, V_main_arg0]
  refine congrArg _ ?_
  blk_ext [index0, row, state, half]

theorem iblk1_apply (c : Dev nD) (t : Fin cfg0.N) (r : Fin 1024) (k : Fin 1024) :
    (iblk m c 1 t : Vec Ideal S1024x1024 .bf16) (ix2 r k) = arg[m, c, main_arg1] (ix2 (row t r) (state (half t) k)) := by
  blk_simp [iblk, V_main_arg1]
  refine congrArg _ ?_
  blk_ext [index1, row, state, half]

theorem iblk2_apply (c : Dev nD) (t : Fin cfg0.N) (k : Fin 1024) (l : Fin 256) :
    ((iblk m c 2 t : Vec Ideal S1024x256 .bf16) (ix2 k l) : EReal) = dense arg[m, c, main_arg2] (state (half t) k) (chan (half t) l) := by
  refine Eq.trans ?_ (dense_re m c _ _)
  blk_simp [iblk]
  refine congrArg (V m c main_v13) ?_
  blk_ext [index2, chan, state, half]

theorem iblk3_apply (c : Dev nD) (t : Fin cfg0.N) (k : Fin 1024) (l : Fin 256) :
    ((iblk m c 3 t : Vec Ideal S1024x256 .bf16) (ix2 k l) : EReal) = dense (neg arg[m, c, main_arg3]) (state (half t) k) (chan (half t) l) := by
  refine Eq.trans ?_ (dense_im m c _ _)
  blk_simp [iblk]
  refine congrArg (V m c main_v26) ?_
  blk_ext [index3, chan, state, half]

theorem iblk4_apply (c : Dev nD) (t : Fin cfg0.N) (r : Fin 1024) (l : Fin 256) :
    (iblk m c 4 t : Vec Ideal S1024x256 .f32) (ix2 r l) = arg[m, c, main_arg4] (ix2 (row t r) (chan (half t) l)) := by
  blk_simp [iblk, V_main_arg4]
  refine congrArg _ ?_
  blk_ext [index4, row, chan, half]

theorem skip_row (c : Dev nD) (l : Fin 512) : V m c main_v27 (ix2 0 l) = arg[m, c, main_arg5] (ix1 l) := by
  unfold V
  after_reads_at

theorem iblk5_apply (c : Dev nD) (t : Fin cfg0.N) (l : Fin 256) :
    (iblk m c 5 t : Vec Ideal S1x256 .f32) (ix2 0 l) = arg[m, c, main_arg5] (ix1 (chan (half t) l)) := by
  refine Eq.trans ?_ (skip_row m c _)
  blk_simp [iblk]
  refine congrArg (V m c main_v27) ?_
  blk_ext [index5, chan, half]

end Cert.Proof.States

end
-- ==== Proof.States.Value.lean ====
/- Hand-written, untrusted: THE VALUES OF THE OUTPUT MATRICES' KERNEL, on extended reals: its two result arrays are the
   reference's (`final_sum`, `final_act`), where the imaginary parts are finite. -/
module

public import proofs.«01_k».proof.Proof.Reals
public import proofs.«01_k».proof.Proof.States.Arrays
public import proofs.«01_k».proof.Proof.Gen.ReferenceStatesIdeal.Read

@[expose] public section

noncomputable section

namespace Cert.Proof.States

open Cert.KernelStatesIdeal Cert.KernelStatesIdeal.Gen Idealize.ShloMosaic Idealize.ShloMosaic.TcCoe Idealize.SL.Sem
open Cert.Proof.Tools Cert.ReferenceStatesIdeal.Read

/-- An argument array on one device. -/
local notation "arg[" m ", " c ", " a "]" => m (Thread.loc (c : Thread nD τ) a)

/-- The activation's hyperbolic tangent; the activation as the kernel groups its factors, and as the reference does. -/
abbrev th (x : EReal) : EReal := Ideal.tanh (Ideal.ofBits .f32 1061962282#32 * (x + Ideal.ofBits .f32 1027024659#32 * (x * x * x)))
abbrev gk (x : EReal) : EReal := Ideal.ofBits .f32 1056964608#32 * x * (1 + th x)
abbrev ga (x : EReal) : EReal := x * (Ideal.ofBits .f32 1056964608#32 * (1 + th x))

theorem gk_eq (x : EReal) : gk x = ga x := by
  unfold gk ga
  rw [mul_comm (Ideal.ofBits .f32 1056964608#32) x, mul_assoc]

/-- A sum of finite products with negated factors is the negated sum. -/
theorem sum_neg {n : ℕ} (f g : Fin n → EReal) (hf : ∀ i, IsR (f i)) (hg : ∀ i, IsR (g i)) : ∑ i, f i * -(g i) = -∑ i, f i * g i := by
  choose a ha using hf
  choose b hb using hg
  simp only [ha, hb, ← EReal.coe_neg, ← EReal.coe_mul, coe_sum, mul_neg, Finset.sum_neg_distrib]

section Block

variable (b0 b1 : Vec Ideal S1024x1024 .bf16) (b2 b3 : Vec Ideal S1024x256 .bf16) (b4 : Vec Ideal S1024x256 .f32) (b5 : Vec Ideal S1x256 .f32)

/-- One block of the kernel's sum, element by element. -/
theorem block_sum (r : Fin 1024) (l : Fin 256) :
    (k0_pay3 b0 b1 b2 b3 b4 b5 (ix2 r l) : EReal) = (∑ k, b0 (ix2 r k) * b2 (ix2 k l) + ∑ k, b1 (ix2 r k) * b3 (ix2 k l)) + b5 (ix2 0 l) * b4 (ix2 r l) := by
  simp only [k0_pay3, k0_pay1, k0_pay2]
  pointwise

/-- One block of its activation. -/
theorem block_act (r : Fin 1024) (l : Fin 256) :
    (k0_pay4 b0 b1 b2 b3 b4 b5 (ix2 r l) : EReal) = gk (k0_pay3 b0 b1 b2 b3 b4 b5 (ix2 r l)) := by
  simp only [k0_pay4, k0_pay3]
  generalize k0_pay1 b0 b1 b2 b3 = y
  generalize k0_pay2 b5 = z
  pointwise

end Block

section Reference

/-- One product of the reference: the sum over the states of the channel's own group. -/
def own (s : Vec Ideal S8192x2048 .bf16) (x : Vec Ideal S32x16x64 .f32) (r : Fin 8192) (l : Fin 512) : EReal :=
  ∑ p : Fin 64, s (ix2 r ⟨l.val / 16 * 64 + p.val, by omega⟩) * x (ix3 ⟨l.val / 16, by omega⟩ ⟨l.val % 16, by omega⟩ p)

variable (x0 x1 : Vec Ideal S8192x2048 .bf16) (x2 x3 : Vec Ideal S32x16x64 .f32) (x4 : Vec Ideal S8192x512 .f32) (x5 : Vec Ideal S512 .f32)

theorem product_re (r : Fin 8192) (g : Fin 32) (h : Fin 16) : (val_main_v5 (F := Ideal) x0 x2 (ix3 r g h) : EReal)
    = ∑ p : Fin 64, x2 (ix3 g h p) * x0 (ix2 r ⟨g.val * 64 + p.val, by omega⟩) := by
  pointwise [val_main_v0, val_main_v1, val_main_v4, val_main_v5]

theorem product_im (r : Fin 8192) (g : Fin 32) (h : Fin 16) : (val_main_v7 (F := Ideal) x1 x3 (ix3 r g h) : EReal)
    = ∑ p : Fin 64, x3 (ix3 g h p) * x1 (ix2 r ⟨g.val * 64 + p.val, by omega⟩) := by
  pointwise [val_main_v2, val_main_v3, val_main_v6, val_main_v7]

/-- The reference's sum, element by element. -/
theorem reference_sum (r : Fin 8192) (l : Fin 512) :
    (val_main_v13 (F := Ideal) x0 x1 x2 x3 x4 x5 (ix2 r l) : EReal) = own x0 x2 r l - own x1 x3 r l + x5 (ix1 l) * x4 (ix2 r l) := by
  have e0 := product_re x0 x2 r ⟨l.val / 16, by omega⟩ ⟨l.val % 16, by omega⟩
  have e1 := product_im x1 x3 r ⟨l.val / 16, by omega⟩ ⟨l.val % 16, by omega⟩
  unfold own
  simp only [mul_comm (x0 _), mul_comm (x1 _)]
  rw [← e0, ← e1]
  simp only [val_main_v13, val_main_v12, val_main_v9, val_main_v8]
  generalize val_main_v5 (F := Ideal) x0 x2 = y
  generalize val_main_v7 (F := Ideal) x1 x3 = z
  pointwise [val_main_v10, val_main_v11]

/-- The reference's activation. -/
theorem reference_act (r : Fin 8192) (l : Fin 512) :
    (val_main_v27 (F := Ideal) x0 x1 x2 x3 x4 x5 (ix2 r l) : EReal) = ga (val_main_v13 (F := Ideal) x0 x1 x2 x3 x4 x5 (ix2 r l)) := by
  simp only [val_main_v27, val_main_v26, val_main_v25, val_main_v23, val_main_v21, val_main_v20, val_main_v18, val_main_v17, val_main_v15, val_main_v14]
  generalize val_main_v13 (F := Ideal) x0 x1 x2 x3 x4 x5 = y
  pointwise [val_main_v16, val_main_v19, val_main_v22, val_main_v24, val_main_cst, val_main_cst_0, val_main_cst_1, val_main_cst_2]

end Reference

variable (m : (ℓ : Loc nD τ sig) → Buf (Elt Ideal) ℓ) (c : Dev nD)

/-- A point's block of the sum is the reference's. -/
theorem sum_rows (hs : ∀ i, IsR (arg[m, c, main_arg1] i : EReal)) (hc : ∀ i, IsR (arg[m, c, main_arg3] i : EReal)) (t : Fin cfg0.N) (r : Fin 1024) (l : Fin 256) :
    (k0_pay3 (F := Ideal) (iblk m c 0 t) (iblk m c 1 t) (iblk m c 2 t) (iblk m c 3 t) (iblk m c 4 t) (iblk m c 5 t) (ix2 r l) : EReal)
      = val_main_v13 (F := Ideal) arg[m, c, main_arg0] arg[m, c, main_arg1] arg[m, c, main_arg2] arg[m, c, main_arg3] arg[m, c, main_arg4] arg[m, c, main_arg5] (ix2 (row t r) (chan (half t) l)) := by
  refine (block_sum _ _ _ _ _ _ r l).trans (Eq.trans ?_ (reference_sum _ _ _ _ _ _ _ _).symm)
  simp only [iblk0_apply, iblk1_apply, iblk2_apply, iblk3_apply, iblk4_apply, iblk5_apply]
  rw [sub_eq_add_neg]
  refine congrArg₂ (fun a b : EReal => a + b) (congrArg₂ (fun a b : EReal => a + b)
    (sum_dense _ (fun k => arg[m, c, main_arg0] (ix2 (row t r) k)) (half t) l)
    ((sum_dense _ (fun k => arg[m, c, main_arg1] (ix2 (row t r) k)) (half t) l).trans ?_)) rfl
  exact sum_neg _ _ (fun _ => hs _) (fun _ => hc _)

/-- The sum after the run is the reference's. -/
theorem final_sum (hs : ∀ i, IsR (arg[m, c, main_arg1] i : EReal)) (hc : ∀ i, IsR (arg[m, c, main_arg3] i : EReal)) : (dats m 0 c).arrAt 6 cfg0.N = val_main_v13 (F := Ideal) arg[m, c, main_arg0] arg[m, c, main_arg1] arg[m, c, main_arg2] arg[m, c, main_arg3] arg[m, c, main_arg4] arg[m, c, main_arg5] := by
  refine (dats m 0 c).arrAt_eq_of_covers 6 _ (by decide +kernel) fun t hf y => ?_
  blk_simp
  rw [after0_6]
  unfold out0_6
  rw [View.canon_unit_zero (S := S1024x256) hz2]
  simp only [View.ld_unit_zero (S := S1024x1024) hz2, View.ld_unit_zero (S := S1024x256) hz2, View.ld_unit_zero (S := S1x256) hz2]
  obtain ⟨r, l, rfl⟩ : ∃ (r : Fin 1024) (l : Fin 256), y = ix2 r l := ⟨_, _, eq_ix2 (n0 := 1024) (n1 := 256) y⟩
  have e : (win0_6.blk t).view.emb (ix2 r l) = ix2 (row t r) (chan (half t) l) := by blk_ext [index6, row, chan, half]
  rw [e]
  exact sum_rows m c hs hc t r l

/-- Its activation after the run is the reference's. -/
theorem final_act (hs : ∀ i, IsR (arg[m, c, main_arg1] i : EReal)) (hc : ∀ i, IsR (arg[m, c, main_arg3] i : EReal)) : (dats m 0 c).arrAt 7 cfg0.N = val_main_v27 (F := Ideal) arg[m, c, main_arg0] arg[m, c, main_arg1] arg[m, c, main_arg2] arg[m, c, main_arg3] arg[m, c, main_arg4] arg[m, c, main_arg5] := by
  refine (dats m 0 c).arrAt_eq_of_covers 7 _ (by decide +kernel) fun t hf y => ?_
  blk_simp
  rw [after0_7]
  unfold out0_7
  rw [View.canon_unit_zero (S := S1024x256) hz2]
  simp only [View.ld_unit_zero (S := S1024x1024) hz2, View.ld_unit_zero (S := S1024x256) hz2, View.ld_unit_zero (S := S1x256) hz2]
  obtain ⟨r, l, rfl⟩ : ∃ (r : Fin 1024) (l : Fin 256), y = ix2 r l := ⟨_, _, eq_ix2 (n0 := 1024) (n1 := 256) y⟩
  have e : (win0_7.blk t).view.emb (ix2 r l) = ix2 (row t r) (chan (half t) l) := by blk_ext [index7, row, chan, half]
  rw [e]
  refine (block_act _ _ _ _ _ _ r l).trans (Eq.trans ?_ (reference_act _ _ _ _ _ _ _ _).symm)
  rw [sum_rows m c hs hc, gk_eq]

end Cert.Proof.States

end
-- ==== Proof.States.Claim.lean ====
/- Hand-written, untrusted: THE CLAIM ABOUT THE OUTPUT MATRICES' KERNEL: its two result arrays are the reference's, where the
   states' and the matrix's imaginary parts are finite (States/Value.lean). -/
module

public import proofs.«01_k».proof.Defs
public import proofs.«01_k».proof.Proof.States.Value
public import proofs.«01_k».proof.Proof.Gen.KernelStates.Frame
public import proofs.«01_k».proof.Proof.Gen.Pre_states_finite

@[expose] public section

noncomputable section

namespace Cert.Proof.States

open Idealize.ShloMosaic Idealize.ShloMosaic.TcCoe Idealize.SL.Sem
open Cert.Proof.Tools
open Cert.KernelStatesIdeal (main_arg0 main_arg1 main_arg2 main_arg3 main_arg4 main_arg5)

/-- A kernel's argument array on one device. -/
local notation "arg[" m ", " c ", " a "]" => m (Thread.loc (Dev.tc c : Thread Cert.KernelStatesIdeal.nD Cert.KernelStatesIdeal.τ) a)

/-- The reference's run leaves its arguments as they were; it has no semaphore. -/
theorem frame_reference : Cert.quiescent_ReferenceStatesIdeal (hReferenceStatesIdeal := Cert.ReferenceStatesIdeal.Gen.facts) := fun m g _ =>
  (θ_run Cert.ReferenceStatesIdeal.defs _ _).mono (fun r h => ⟨fun c => (h c).2.2, sem_eq_zero_of_no_sems (by decide) r.2⟩)
    (Cert.ReferenceStatesIdeal.Value.run (F := Ideal) m g)

/-- The two programs end at the same arrays. -/
theorem algebraic : Cert.algebraic_KernelStatesIdeal_ReferenceStatesIdeal_pre_states_finite (hKernelStatesIdeal := Cert.KernelStatesIdeal.Gen.facts)
    (hReferenceStatesIdeal := Cert.ReferenceStatesIdeal.Gen.facts) (hPre_states_finite := Cert.Pre_states_finite.Gen.facts) := by
  intro m g m' g' hpre hagree
  refine ⟨_, _, Cert.KernelStatesIdeal.Value.run_blocks (F := Ideal) m g, ?_⟩
  refine (θ_run Cert.ReferenceStatesIdeal.defs _ _).mono (fun r h c => ?_) (Cert.ReferenceStatesIdeal.Value.run (F := Ideal) m' g')
  obtain ⟨a0, a1, a2, a3, a4, a5⟩ := hagree c
  obtain ⟨p0, p1⟩ := hpre c
  have h1 : ∀ i, IsR (arg[m, c, main_arg1] i : EReal) := isR_of_test (t := .f32) (fun i => (arg[m, c, main_arg1] i : EReal)) _ (fun _ => inf_word) p0
  have h3 : ∀ i, IsR (arg[m, c, main_arg3] i : EReal) := isR_of_test _ _ (fun _ => inf_word) p1
  obtain ⟨v0, v1, hrest⟩ := h c
  refine ⟨(v0.trans (?_ : _ = Cert.ReferenceStatesIdeal.Read.val_main_v13 (F := Ideal) arg[m, c, main_arg0] arg[m, c, main_arg1] arg[m, c, main_arg2] arg[m, c, main_arg3] arg[m, c, main_arg4] arg[m, c, main_arg5])).trans (final_sum m c h1 h3).symm,
    (v1.trans (?_ : _ = Cert.ReferenceStatesIdeal.Read.val_main_v27 (F := Ideal) arg[m, c, main_arg0] arg[m, c, main_arg1] arg[m, c, main_arg2] arg[m, c, main_arg3] arg[m, c, main_arg4] arg[m, c, main_arg5])).trans (final_act m c h1 h3).symm, hrest⟩
  · rw [← a0, ← a1, ← a2, ← a3, ← a4, ← a5]
    first | exact Cert.ReferenceStatesIdeal.Read.val_main_v13_eq m' c | exact Cert.ReferenceStatesIdeal.Read.val_main_v13_eq _ _ _ _ _ _
  · rw [← a0, ← a1, ← a2, ← a3, ← a4, ← a5]
    first | exact Cert.ReferenceStatesIdeal.Read.val_main_v27_eq m' c | exact Cert.ReferenceStatesIdeal.Read.val_main_v27_eq _ _ _ _ _ _

end Cert.Proof.States

end
-- ==== Proof.Heads.Reference.lean ====
/- Hand-written, untrusted: THE POOLING HEADS' REFERENCE, element by element, on extended reals: differences of running sums
   are windows' sums (`mean_ref`), and what the two results hold (`reference_q`, `reference_y`). -/
module

public import proofs.«01_k».proof.Proof.Pool.Reference
public import proofs.«01_k».proof.Proof.Gen.ReferenceHeadsIdeal.Read

@[expose] public section

noncomputable section

namespace Cert.Proof.Heads

open Cert.ReferenceHeadsIdeal Cert.ReferenceHeadsIdeal.Gen Cert.ReferenceHeadsIdeal.Read Idealize.ShloMosaic Idealize.ShloMosaic.TcCoe Idealize.SL.Sem
open Cert.Proof.Tools
open Cert.Proof.Pool (foldl_add col win count_reference two four eight sixteen first_group)

/-- The host's running sum along the time axis: entry `t` holds the sum of the entries up to `t`. -/
theorem sum_upto {B N M C : ℕ} (x : (⟨3, ![B, N, C]⟩ : Shape).Idx → EReal) (init : (⟨0, ![]⟩ : Shape).Idx → EReal)
    (h : (⟨3, ![B, N, C]⟩ : Shape).ReduceWindows ![1, N, 1] ![1, 1, 1] ![0, M, 0] ![0, 0, 0] ⟨3, ![B, N, C]⟩)
    (hu : 0 < (⟨0, ![]⟩ : Shape).numel) (hi : ∀ i, init i = 0) (b : Fin B) (t : Fin N) (c : Fin C) :
    Host.reduceWindowAdd (F := Ideal) (φ := .f32) ![1, N, 1] ![1, 1, 1] ![0, M, 0] ![0, 0, 0] x init h hu (ix3 b t c)
      = ∑ s : Fin N, if hs : M ≤ t.val + s.val ∧ t.val + s.val - M < N then x (ix3 b ⟨t.val + s.val - M, hs.2⟩ c) else 0 := by
  unfold Host.reduceWindowAdd
  show Host.reduceWindow (fun x y : EReal => x + y) ![1, N, 1] ![1, 1, 1] ![0, M, 0] ![0, 0, 0] x (fun _ : (⟨0, ![]⟩ : Shape).Idx => init (Shape.Idx.first hu)) h hu (ix3 b t c) = _
  unfold Host.reduceWindow
  refine (foldl_add _ _).trans ?_
  rw [hi, zero_add]
  refine (Finset.sum_congr rfl fun n _ => ?_).trans ((Equiv.sum_comp (⟨3, ![1, N, 1]⟩ : Shape).rowMajor.symm
    (fun w : (⟨3, ![1, N, 1]⟩ : Shape).Idx => if hs : M ≤ t.val + (w 1).val ∧ t.val + (w 1).val - M < N then x (ix3 b ⟨t.val + (w 1).val - M, hs.2⟩ c) else 0)).trans ?_)
  · let w : (⟨3, ![1, N, 1]⟩ : Shape).Idx := (⟨3, ![1, N, 1]⟩ : Shape).rowMajor.symm n
    have w0 : (w 0).val = 0 := by have : (w 0).val < 1 := (w 0).isLt; omega
    have w2 : (w 2).val = 0 := by have : (w 2).val < 1 := (w 2).isLt; omega
    by_cases hs : M ≤ t.val + (w 1).val ∧ t.val + (w 1).val - M < N
    · refine (dif_pos ?_).trans (Eq.trans ?_ (dif_pos hs).symm)
      rotate_left
      · refine congrArg x (funext fun a => Fin.ext ?_)
        fin_cases a
        · show b.val * 1 + (w 0).val - 0 = b.val; omega
        · show t.val * 1 + (w 1).val - M = t.val + (w 1).val - M; omega
        · show c.val * 1 + (w 2).val - 0 = c.val; omega
      · intro a
        fin_cases a
        · exact ⟨Nat.zero_le _, by show b.val * 1 + (w 0).val - 0 < B; omega⟩
        · exact ⟨by show M ≤ t.val * 1 + (w 1).val; omega, by show t.val * 1 + (w 1).val - M < N; omega⟩
        · exact ⟨Nat.zero_le _, by show c.val * 1 + (w 2).val - 0 < C; omega⟩
    · refine (dif_neg ?_).trans (Eq.trans ?_ (dif_neg hs).symm)
      rotate_left
      · rfl
      intro hin
      have h1 : M ≤ t.val * 1 + (w 1).val := (hin 1).1
      have h2 : t.val * 1 + (w 1).val - M < N := (hin 1).2
      omega
  · rw [sum_idx3, Fin.sum_univ_one]
    exact Finset.sum_congr rfl fun s _ => Fin.sum_univ_one _

/-- Of real numbers, the difference of the sums of the first `t + 1` and the first `t + 1 - w` is the sum of the last `w`. -/
theorem diff_window (G : ℕ → ℝ) (t : ℕ) : ∀ w : ℕ,
    ∑ s ∈ Finset.range (t + 1), G s - ∑ s ∈ Finset.range (t + 1 - w), G s = ∑ k ∈ Finset.range w, if k ≤ t then G (t - k) else 0
  | 0 => by simp
  | w + 1 => by
    rw [Finset.sum_range_succ _ w, ← diff_window G t w]
    by_cases h : w ≤ t
    · have e := Finset.sum_range_succ G (t - w)
      rw [if_pos h, show t + 1 - w = t - w + 1 by omega, e, show t + 1 - (w + 1) = t - w by omega]
      ring
    · rw [if_neg h, show t + 1 - w = 0 by omega, show t + 1 - (w + 1) = 0 by omega]
      simp

variable (u : Vec Ideal ⟨3, ![2, 4096, 512]⟩ .f32) (x1 : Vec Ideal ⟨3, ![4, 128, 128]⟩ .f32) (x2 : Vec Ideal ⟨1, ![512]⟩ .f32)

/-- The token `j` before token `t`; before the sequence's start zero. -/
def back (b : Fin 2) (k : Fin 512) (t : Fin 4096) (j : ℕ) : EReal :=
  if j ≤ t.val then u (ix3 b ⟨t.val - j, by omega⟩ k) else 0

/-- A token's mean over its group's window, minus the token. -/
def mean (g : Fin 4) (b : Fin 2) (t : Fin 4096) (l : Fin 128) : EReal :=
  Ideal.div (∑ j ∈ Finset.range (win g), back u b (col g l) t j) (((min (t.val + 1) (win g) : ℕ) : ℝ) : EReal) - u (ix3 b t (col g l))

/-- The reference's running sum. -/
theorem running (G : ℕ → ℝ) (b : Fin 2) (k : Fin 512) (hG : ∀ t : Fin 4096, u (ix3 b t k) = ((G t.val : ℝ) : EReal)) (t : Fin 4096) :
    val_main_v0 (F := Ideal) u (ix3 b t k) = ((∑ s ∈ Finset.range (t.val + 1), G s : ℝ) : EReal) := by
  have e : val_main_v0 (F := Ideal) u (ix3 b t k) = _ :=
    sum_upto u (val_main_call0_v0 (F := Ideal)) _ _ (fun i => by rw [val_main_call0_v0_apply, val_main_call0_cst_apply]; exact Ideal.ofBits_zero _) b t k
  rw [e, ← coe_sum]
  refine (Finset.sum_of_injOn (fun s : ℕ => if h : s + 4095 - t.val < 4096 then (⟨s + 4095 - t.val, h⟩ : Fin 4096) else 0) ?_ ?_ ?_ ?_).symm
  · intro p hp q hq h
    simp only [Finset.coe_range, Set.mem_Iio] at hp hq
    dsimp only at h
    rw [dif_pos (by omega), dif_pos (by omega)] at h
    have := Fin.val_eq_of_eq h
    dsimp only at this
    omega
  · intro p _
    exact Finset.mem_coe.2 (Finset.mem_univ _)
  · intro s _ hs
    rw [dif_neg]
    rintro ⟨h1, h2⟩
    refine hs ⟨t.val + s.val - 4095, ?_, ?_⟩
    · simp only [Finset.coe_range, Set.mem_Iio]; omega
    · dsimp only
      rw [dif_pos (by omega)]
      exact Fin.ext (by dsimp only; omega)
  · intro p hp
    have hp := Finset.mem_range.1 hp
    have ht := t.isLt
    rw [dif_pos (show p + 4095 - t.val < 4096 by omega), dif_pos ⟨by dsimp only; omega, by dsimp only; omega⟩, hG]
    refine congrArg (fun n : ℕ => ((G n : ℝ) : EReal)) ?_
    dsimp only
    omega

/-- The reference's mean, written with running sums, is the window's. -/
theorem differ (hu : ∀ i, IsR (u i)) (g : Fin 4) (c : EReal) (hc : c = ((win g : ℝ) : EReal)) (b : Fin 2) (t : Fin 4096) (l : Fin 128) :
    Ideal.div (val_main_v0 (F := Ideal) u (ix3 b t (col g l)) - (if h : t.val < win g then (0 : EReal) else val_main_v0 (F := Ideal) u (ix3 b ⟨t.val - win g, by omega⟩ (col g l))))
      (min (1 + FloatOps.sitofp (F := Ideal) .f32 (BitVec.ofNat 32 t.val)) c) - u (ix3 b t (col g l)) = mean u g b t l := by
  choose U hU using hu
  let G : ℕ → ℝ := fun s => if h : s < 4096 then U (ix3 b ⟨s, h⟩ (col g l)) else 0
  have hG : ∀ t : Fin 4096, u (ix3 b t (col g l)) = ((G t.val : ℝ) : EReal) := fun t => by
    rw [hU]
    simp only [G, dif_pos t.isLt]
  unfold mean
  refine congrArg (fun a : EReal => a - _) (congrArg₂ Ideal.div ?_ (count_reference _ _ _ t.isLt hc))
  have e : (if h : t.val < win g then (0 : EReal) else val_main_v0 (F := Ideal) u (ix3 b ⟨t.val - win g, by omega⟩ (col g l)))
      = ((∑ s ∈ Finset.range (t.val + 1 - win g), G s : ℝ) : EReal) := by
    by_cases h : t.val < win g
    · rw [dif_pos h, show t.val + 1 - win g = 0 by omega]; simp
    · rw [dif_neg h, running u G b _ hG]
      exact congrArg (fun n : ℕ => ((∑ s ∈ Finset.range n, G s : ℝ) : EReal)) (by dsimp only; omega)
  rw [e, running u G b _ hG, ← EReal.coe_sub, diff_window, ← coe_sum]
  refine Finset.sum_congr rfl fun j _ => ?_
  unfold back
  by_cases h : j ≤ t.val
  · rw [if_pos h, if_pos h, hG]
  · rw [if_neg h, if_neg h]; rfl

/-- The reference's means, group by group. -/
theorem mean_ref0 (hu : ∀ i, IsR (u i)) (b : Fin 2) (t : Fin 4096) (l : Fin 128) : val_main_v16 (F := Ideal) u (ix3 b t l) = mean u 0 b t l := by
  refine Eq.trans ?_ (differ u hu 0 _ two b t l)
  pointwise [val_main_v1, val_main_cst, val_main_v2, val_main_v3, val_main_v4, val_main_v5, val_main_cst_0, val_main_v6, val_main_v7,
    val_main_v8, val_main_v9, val_main_cst_1, val_main_v10, val_main_v11, val_main_v12, val_main_v13, val_main_v14, val_main_v15, val_main_v16]
  simp only [first_group]

theorem mean_ref1 (hu : ∀ i, IsR (u i)) (b : Fin 2) (t : Fin 4096) (l : Fin 128) : val_main_v31 (F := Ideal) u (ix3 b t l) = mean u 1 b t l := by
  refine Eq.trans ?_ (differ u hu 1 _ four b t l)
  pointwise [val_main_v1, val_main_cst, val_main_v2, val_main_v3, val_main_v4, val_main_v20, val_main_cst_2, val_main_v21, val_main_v22,
    val_main_v23, val_main_v24, val_main_cst_3, val_main_v25, val_main_v26, val_main_v27, val_main_v28, val_main_v29, val_main_v30, val_main_v31]
  rfl

theorem mean_ref2 (hu : ∀ i, IsR (u i)) (b : Fin 2) (t : Fin 4096) (l : Fin 128) : val_main_v46 (F := Ideal) u (ix3 b t l) = mean u 2 b t l := by
  refine Eq.trans ?_ (differ u hu 2 _ eight b t l)
  pointwise [val_main_v1, val_main_cst, val_main_v2, val_main_v3, val_main_v4, val_main_v35, val_main_cst_4, val_main_v36, val_main_v37,
    val_main_v38, val_main_v39, val_main_cst_5, val_main_v40, val_main_v41, val_main_v42, val_main_v43, val_main_v44, val_main_v45, val_main_v46]
  rfl

theorem mean_ref3 (hu : ∀ i, IsR (u i)) (b : Fin 2) (t : Fin 4096) (l : Fin 128) : val_main_v61 (F := Ideal) u (ix3 b t l) = mean u 3 b t l := by
  refine Eq.trans ?_ (differ u hu 3 _ sixteen b t l)
  pointwise [val_main_v1, val_main_cst, val_main_v2, val_main_v3, val_main_v4, val_main_v50, val_main_cst_6, val_main_v51, val_main_v52,
    val_main_v53, val_main_v54, val_main_cst_7, val_main_v55, val_main_v56, val_main_v57, val_main_v58, val_main_v59, val_main_v60, val_main_v61]
  rfl

/-- The reference's saved means. -/
theorem reference_q (hu : ∀ i, IsR (u i)) (n : Fin 8192) (g : Fin 4) (l : Fin 128) :
    (val_main_v73 (F := Ideal) u (ix2 n (col g l)) : EReal) = mean u g ⟨n.val / 4096, by omega⟩ ⟨n.val % 4096, by omega⟩ l := by
  have e0 := mean_ref0 u hu ⟨n.val / 4096, by omega⟩ ⟨n.val % 4096, by omega⟩ l
  have e1 := mean_ref1 u hu ⟨n.val / 4096, by omega⟩ ⟨n.val % 4096, by omega⟩ l
  have e2 := mean_ref2 u hu ⟨n.val / 4096, by omega⟩ ⟨n.val % 4096, by omega⟩ l
  have e3 := mean_ref3 u hu ⟨n.val / 4096, by omega⟩ ⟨n.val % 4096, by omega⟩ l
  simp only [val_main_v73, val_main_v72, val_main_v71]
  generalize val_main_v16 (F := Ideal) u = y0 at e0
  generalize val_main_v31 (F := Ideal) u = y1 at e1
  generalize val_main_v46 (F := Ideal) u = y2 at e2
  generalize val_main_v61 (F := Ideal) u = y3 at e3
  pointwise
  match g with
  | 0 =>
    have e : 128 * ((0 : Fin 4) : ℕ) + l.val = l.val := by omega
    simp (disch := omega) only [dif_neg, dif_pos]
    simp only [e, e0]
  | 1 =>
    have e : 128 * ((1 : Fin 4) : ℕ) + l.val - 128 = l.val := by omega
    simp (disch := omega) only [dif_neg, dif_pos]
    simp only [e, e1]
  | 2 =>
    have e : 128 * ((2 : Fin 4) : ℕ) + l.val - 128 - 128 = l.val := by omega
    simp (disch := omega) only [dif_neg, dif_pos]
    simp only [e, e2]
  | 3 =>
    have e : 128 * ((3 : Fin 4) : ℕ) + l.val - 128 - 128 - 128 = l.val := by omega
    simp (disch := omega) only [dif_neg, dif_pos]
    simp only [e, e3]

/-- The product of a token's means with a group's weights, and the reference's scaled products. -/
def product (g : Fin 4) (b : Fin 2) (t : Fin 4096) (l : Fin 128) : EReal := (∑ x, mean u g b t x * x1 (ix3 g x l)) * x2 (ix1 (col g l))

theorem reference_y (hu : ∀ i, IsR (u i)) (n : Fin 8192) (g : Fin 4) (l : Fin 128) :
    (val_main_v70 (F := Ideal) u x1 x2 (ix2 n (col g l)) : EReal) = product u x1 x2 g ⟨n.val / 4096, by omega⟩ ⟨n.val % 4096, by omega⟩ l := by
  unfold product
  have e0 := mean_ref0 u hu ⟨n.val / 4096, by omega⟩ ⟨n.val % 4096, by omega⟩
  have e1 := mean_ref1 u hu ⟨n.val / 4096, by omega⟩ ⟨n.val % 4096, by omega⟩
  have e2 := mean_ref2 u hu ⟨n.val / 4096, by omega⟩ ⟨n.val % 4096, by omega⟩
  have e3 := mean_ref3 u hu ⟨n.val / 4096, by omega⟩ ⟨n.val % 4096, by omega⟩
  simp only [val_main_v70, val_main_v69, val_main_v68, val_main_v67, val_main_v66, val_main_v65, val_main_v19, val_main_v34, val_main_v49, val_main_v64]
  generalize val_main_v16 (F := Ideal) u = y0 at e0
  generalize val_main_v31 (F := Ideal) u = y1 at e1
  generalize val_main_v46 (F := Ideal) u = y2 at e2
  generalize val_main_v61 (F := Ideal) u = y3 at e3
  pointwise [val_main_v17, val_main_v18, val_main_v32, val_main_v33, val_main_v47, val_main_v48, val_main_v62, val_main_v63]
  match g with
  | 0 =>
    have e : 128 * ((0 : Fin 4) : ℕ) + l.val = l.val := by omega
    simp (disch := omega) only [dif_neg, dif_pos]
    simp only [e, e0, first_group]
  | 1 =>
    have e : 128 * ((1 : Fin 4) : ℕ) + l.val - 128 = l.val := by omega
    simp (disch := omega) only [dif_neg, dif_pos]
    simp only [e, e1]
  | 2 =>
    have e : 128 * ((2 : Fin 4) : ℕ) + l.val - 128 - 128 = l.val := by omega
    simp (disch := omega) only [dif_neg, dif_pos]
    simp only [e, e2]
  | 3 =>
    have e : 128 * ((3 : Fin 4) : ℕ) + l.val - 128 - 128 - 128 = l.val := by omega
    simp (disch := omega) only [dif_neg, dif_pos]
    simp only [e, e3]

end Cert.Proof.Heads

end
-- ==== Proof.Heads.Blocks.lean ====
/- Hand-written, untrusted: THE POOLING HEADS, block by block, on extended reals. What the body computes from its tile and the
   sixteen rows before it, group by group: the window's mean minus the token, and its scaled product with the weights. -/
module

public import proofs.«01_k».proof.Proof.Heads.Reference
public import proofs.«01_k».proof.Proof.Gen.KernelHeadsIdeal.Value
public import Idealize.ShloMosaic.Lib.Pipeline.ValueKit

@[expose] public section

noncomputable section

namespace Cert.Proof.Heads

open Cert.KernelHeadsIdeal Cert.KernelHeadsIdeal.Gen Idealize.ShloMosaic Idealize.ShloMosaic.TcCoe Idealize.SL.Sem
open Cert.Proof.Tools
open Cert.Proof.Pool (col win count_kernel)

/-- A token of a point's tile. -/
abbrev at_ (i : grid0.Coords) (r : Fin 512) : Fin 4096 :=
  ⟨512 * (i 1).val + r.val, by have : (i 1).val < 8 := (i 1).isLt; omega⟩

variable (u : Vec Ideal ⟨3, ![2, 4096, 512]⟩ .f32) (x1 : Vec Ideal ⟨3, ![4, 128, 128]⟩ .f32) (x2 : Vec Ideal ⟨1, ![512]⟩ .f32)
variable (b : Fin 2) (i : grid0.Coords) (v : Vec Ideal S528x512 .f32)

/-- The sequence with sixteen rows of zeros before it. -/
def field (k : Fin 512) (s : ℕ) : EReal :=
  if h : 16 ≤ s ∧ s < 4112 then u (ix3 b ⟨s - 16, by omega⟩ k) else 0

/-- The rows as the body lays them down: the sixteen before the tile, then the tile. -/
def Rows : Prop := ∀ (n : ℕ) (hn : n < 528) (k : Fin 512), (v (ix2 ⟨n, hn⟩ k) : EReal) = field u b k (512 * (i 1).val + n)

variable {u x1 x2 b i v}

/-- An array turned down by some rows, read at a row that stays inside. -/
theorem turn1 (A : FVec Ideal S528x128 .f32) (l : Fin 128) (n : ℕ) (hn : n < 528) (h : 1 ≤ n) :
    dynamicRotate 0 1#32 none A rotates_S528x128_d0 (ix2 ⟨n, hn⟩ l) = A (ix2 ⟨n - 1, by omega⟩ l) := by
  pointwise
  simp only [show (n + 528 - 1) % 528 = n - 1 by omega]

theorem turn2 (A : FVec Ideal S528x128 .f32) (l : Fin 128) (n : ℕ) (hn : n < 528) (h : 2 ≤ n) :
    dynamicRotate 0 2#32 none A rotates_S528x128_d0 (ix2 ⟨n, hn⟩ l) = A (ix2 ⟨n - 2, by omega⟩ l) := by
  pointwise
  simp only [show (n + 528 - 2) % 528 = n - 2 by omega]

theorem turn4 (A : FVec Ideal S528x128 .f32) (l : Fin 128) (n : ℕ) (hn : n < 528) (h : 4 ≤ n) :
    dynamicRotate 0 4#32 none A rotates_S528x128_d0 (ix2 ⟨n, hn⟩ l) = A (ix2 ⟨n - 4, by omega⟩ l) := by
  pointwise
  simp only [show (n + 528 - 4) % 528 = n - 4 by omega]

theorem turn8 (A : FVec Ideal S528x128 .f32) (l : Fin 128) (n : ℕ) (hn : n < 528) (h : 8 ≤ n) :
    dynamicRotate 0 8#32 none A rotates_S528x128_d0 (ix2 ⟨n, hn⟩ l) = A (ix2 ⟨n - 8, by omega⟩ l) := by
  pointwise
  simp only [show (n + 528 - 8) % 528 = n - 8 by omega]

/-- The tile's own rows. -/
theorem rows (A : FVec Ideal S528x128 .f32) (r : Fin 512) (l : Fin 128) :
    extractStridedSlice S512x128 ![16, 0] A slices_S528x128_o16_0_S512x128 (ix2 r l) = A (ix2 ⟨16 + r.val, by omega⟩ l) := by
  pointwise

/-- An array whose rows are sums of the `c` terms up to there. -/
def Sums (f : ℕ → EReal) (c : ℕ) (l : Fin 128) (A : FVec Ideal S528x128 .f32) : Prop :=
  ∀ (n : ℕ) (hn : n < 528), c ≤ n + 1 → (A (ix2 ⟨n, hn⟩ l) : EReal) = ∑ k ∈ Finset.range c, f (n - k)

/-- Adding the rows `c` before doubles the number of the terms. -/
theorem Sums.double {f : ℕ → EReal} {c : ℕ} {l : Fin 128} {A B : FVec Ideal S528x128 .f32} (hA : Sums f c l A) (hc : 0 < c)
    (hB : ∀ (n : ℕ) (hn : n < 528) (_ : c ≤ n), B (ix2 ⟨n, hn⟩ l) = A (ix2 ⟨n - c, by omega⟩ l)) : Sums f (c + c) l (addf A B) := by
  intro n hn h
  have e1 := hA n hn (by omega)
  have e2 := hA (n - c) (by omega) (by omega)
  have e : addf A B (ix2 ⟨n, hn⟩ l) = (A (ix2 ⟨n, hn⟩ l) + B (ix2 ⟨n, hn⟩ l) : EReal) := rfl
  rw [e, hB n hn (by omega), e1, e2, Finset.sum_range_add]
  simp only [Nat.sub_sub]

theorem Sums.one {f : ℕ → EReal} {l : Fin 128} {A : FVec Ideal S528x128 .f32} (h : ∀ (n : ℕ) (hn : n < 528), (A (ix2 ⟨n, hn⟩ l) : EReal) = f n) : Sums f 1 l A :=
  fun n hn _ => by rw [h, Finset.sum_range_one, Nat.sub_zero]

/-- A window's sum of the sequence, at a row of the tile. -/
theorem pooled {g : Fin 4} {l : Fin 128} {A : FVec Ideal S528x128 .f32} (h : Sums (fun n => field u b (col g l) (512 * (i 1).val + n)) (win g) l A) (r : Fin 512) :
    extractStridedSlice S512x128 ![16, 0] A slices_S528x128_o16_0_S512x128 (ix2 r l) = ∑ j ∈ Finset.range (win g), back u b (col g l) (at_ i r) j := by
  have hw : win g ≤ 16 := by fin_cases g <;> decide
  have hi : (i 1).val < 8 := (i 1).isLt
  rw [rows]
  refine (h (16 + r.val) (by omega) (by omega)).trans (Finset.sum_congr rfl fun j hj => ?_)
  have hj := Finset.mem_range.1 hj
  unfold field back
  by_cases hk : j ≤ 512 * (i 1).val + r.val
  · refine (dif_pos (show 16 ≤ 512 * (i 1).val + (16 + r.val - j) ∧ 512 * (i 1).val + (16 + r.val - j) < 4112 by omega)).trans (Eq.trans ?_ (if_pos hk).symm)
    refine congrArg u (congrArg (fun t => ix3 b t (col g l)) (Fin.ext ?_))
    show 512 * (i 1).val + (16 + r.val - j) - 16 = 512 * (i 1).val + r.val - j
    omega
  · exact (dif_neg (show ¬(16 ≤ 512 * (i 1).val + (16 + r.val - j) ∧ 512 * (i 1).val + (16 + r.val - j) < 4112) by omega)).trans (if_neg hk).symm

/-- Group 0's means, element by element. -/
theorem mean0 {b0 : Vec Ideal S512x512 .f32} {b1 : Vec Ideal S16x512 .f32} {o : Vec Ideal S512x128 .f32} (hv : Rows u b i (k0_pay3 i b1 b0)) (ho : ∀ r l, o (ix2 r l) = u (ix3 b (at_ i r) (col 0 l))) (r : Fin 512) (l : Fin 128) :
    k0_pay5 i b1 b0 o (ix2 r l) = mean u 0 b (at_ i r) l := by
  simp only [k0_pay5, k0_pay4]
  generalize k0_pay3 i b1 b0 = v at hv
  refine congrArg₂ (fun a b : EReal => a - b) (congrArg₂ Ideal.div (pooled (g := 0) (Sums.double (c := 1) (Sums.one fun n hn => (Eq.trans ?_ (hv n hn (col 0 l)))) (by omega) (turn1 _ l)) r) (Eq.trans ?_ (count_kernel r.val (i 1).val (win 0) (by omega) (i 1).isLt (by decide)))) (Eq.trans ?_ (ho r l))
  · pointwise
    exact congrArg v (congrArg (ix2 ⟨n, hn⟩) (Fin.ext (by simp)))
  · pointwise
  · pointwise

/-- Group 1's means, element by element. -/
theorem mean1 {o : Vec Ideal S512x128 .f32} (hv : Rows u b i (v)) (ho : ∀ r l, o (ix2 r l) = u (ix3 b (at_ i r) (col 1 l))) (r : Fin 512) (l : Fin 128) :
    k0_pay8 v (k0_pay4 i) o (ix2 r l) = mean u 1 b (at_ i r) l := by
  simp only [k0_pay8, k0_pay4]
  refine congrArg₂ (fun a b : EReal => a - b) (congrArg₂ Ideal.div (pooled (g := 1) (Sums.double (c := 2) (Sums.double (c := 1) (Sums.one fun n hn => (Eq.trans ?_ (hv n hn (col 1 l)))) (by omega) (turn1 _ l)) (by omega) (turn2 _ l)) r) (Eq.trans ?_ (count_kernel r.val (i 1).val (win 1) (by omega) (i 1).isLt (by decide)))) (Eq.trans ?_ (ho r l))
  · pointwise
    rfl
  · pointwise
  · pointwise

/-- Group 2's means, element by element. -/
theorem mean2 {o : Vec Ideal S512x128 .f32} (hv : Rows u b i (v)) (ho : ∀ r l, o (ix2 r l) = u (ix3 b (at_ i r) (col 2 l))) (r : Fin 512) (l : Fin 128) :
    k0_pay13 (k0_pay4 i) (k0_pay11 v) k0_pay12 o (ix2 r l) = mean u 2 b (at_ i r) l := by
  simp only [k0_pay13, k0_pay11, k0_pay12, k0_pay4]
  refine congrArg₂ (fun a b : EReal => a - b) (congrArg₂ Ideal.div (pooled (g := 2) (Sums.double (c := 4) (Sums.double (c := 2) (Sums.double (c := 1) (Sums.one fun n hn => (Eq.trans ?_ (hv n hn (col 2 l)))) (by omega) (turn1 _ l)) (by omega) (turn2 _ l)) (by omega) (turn4 _ l)) r) (Eq.trans ?_ (count_kernel r.val (i 1).val (win 2) (by omega) (i 1).isLt (by decide)))) (Eq.trans ?_ (ho r l))
  · pointwise
    rfl
  · pointwise
  · pointwise

/-- Group 3's means, element by element. -/
theorem mean3 {o : Vec Ideal S512x128 .f32} (hv : Rows u b i (v)) (ho : ∀ r l, o (ix2 r l) = u (ix3 b (at_ i r) (col 3 l))) (r : Fin 512) (l : Fin 128) :
    k0_pay16 v (k0_pay4 i) o (ix2 r l) = mean u 3 b (at_ i r) l := by
  simp only [k0_pay16, k0_pay4]
  refine congrArg₂ (fun a b : EReal => a - b) (congrArg₂ Ideal.div (pooled (g := 3) (Sums.double (c := 8) (Sums.double (c := 4) (Sums.double (c := 2) (Sums.double (c := 1) (Sums.one fun n hn => (Eq.trans ?_ (hv n hn (col 3 l)))) (by omega) (turn1 _ l)) (by omega) (turn2 _ l)) (by omega) (turn4 _ l)) (by omega) (turn8 _ l)) r) (Eq.trans ?_ (count_kernel r.val (i 1).val (win 3) (by omega) (i 1).isLt (by decide)))) (Eq.trans ?_ (ho r l))
  · pointwise
    rfl
  · pointwise
  · pointwise

/-- Group 0's scaled products, element by element. -/
theorem product0 {b0 : Vec Ideal S512x512 .f32} {b1 : Vec Ideal S16x512 .f32} {o : Vec Ideal S512x128 .f32} {w : Vec Ideal S1x128x128 .f32} {s : Vec Ideal S1x128 .f32} (hv : Rows u b i (k0_pay3 i b1 b0)) (ho : ∀ r l, o (ix2 r l) = u (ix3 b (at_ i r) (col 0 l)))
    (hw : ∀ x l, w (ix3 0 x l) = x1 (ix3 0 x l)) (hs : ∀ l, s (ix2 0 l) = x2 (ix1 (col 0 l))) (r : Fin 512) (l : Fin 128) :
    k0_pay7 i b1 b0 o w s (ix2 r l) = product u x1 x2 0 b (at_ i r) l := by
  have hm := mean0 hv ho r
  unfold product
  simp only [k0_pay7]
  generalize k0_pay5 i b1 b0 o = q at hm
  simp only [← hm, ← hw, ← hs]
  pointwise

/-- Group 1's scaled products, element by element. -/
theorem product1 {o : Vec Ideal S512x128 .f32} {w : Vec Ideal S1x128x128 .f32} {s : Vec Ideal S1x128 .f32} (hv : Rows u b i (v)) (ho : ∀ r l, o (ix2 r l) = u (ix3 b (at_ i r) (col 1 l)))
    (hw : ∀ x l, w (ix3 0 x l) = x1 (ix3 1 x l)) (hs : ∀ l, s (ix2 0 l) = x2 (ix1 (col 1 l))) (r : Fin 512) (l : Fin 128) :
    k0_pay10 v (k0_pay4 i) o w s (ix2 r l) = product u x1 x2 1 b (at_ i r) l := by
  have hm := mean1 hv ho r
  unfold product
  simp only [k0_pay10]
  generalize k0_pay8 v (k0_pay4 i) o = q at hm
  simp only [← hm, ← hw, ← hs]
  pointwise

/-- Group 2's scaled products, element by element. -/
theorem product2 {o : Vec Ideal S512x128 .f32} {w : Vec Ideal S1x128x128 .f32} {s : Vec Ideal S1x128 .f32} (hv : Rows u b i (v)) (ho : ∀ r l, o (ix2 r l) = u (ix3 b (at_ i r) (col 2 l)))
    (hw : ∀ x l, w (ix3 0 x l) = x1 (ix3 2 x l)) (hs : ∀ l, s (ix2 0 l) = x2 (ix1 (col 2 l))) (r : Fin 512) (l : Fin 128) :
    k0_pay15 (k0_pay4 i) (k0_pay11 v) k0_pay12 o w s (ix2 r l) = product u x1 x2 2 b (at_ i r) l := by
  have hm := mean2 hv ho r
  unfold product
  simp only [k0_pay15]
  generalize k0_pay13 (k0_pay4 i) (k0_pay11 v) k0_pay12 o = q at hm
  simp only [← hm, ← hw, ← hs]
  pointwise

/-- Group 3's scaled products, element by element. -/
theorem product3 {o : Vec Ideal S512x128 .f32} {w : Vec Ideal S1x128x128 .f32} {s : Vec Ideal S1x128 .f32} (hv : Rows u b i (v)) (ho : ∀ r l, o (ix2 r l) = u (ix3 b (at_ i r) (col 3 l)))
    (hw : ∀ x l, w (ix3 0 x l) = x1 (ix3 3 x l)) (hs : ∀ l, s (ix2 0 l) = x2 (ix1 (col 3 l))) (r : Fin 512) (l : Fin 128) :
    k0_pay2 (k0_pay17 v (k0_pay4 i) o) w s (ix2 r l) = product u x1 x2 3 b (at_ i r) l := by
  have hm := mean3 hv ho r
  unfold product
  simp only [k0_pay2, k0_pay17]
  generalize k0_pay16 v (k0_pay4 i) o = q at hm
  simp only [← hm, ← hw, ← hs]
  pointwise

end Cert.Proof.Heads

end
-- ==== Proof.Heads.Value.lean ====
/- Hand-written, untrusted: THE POOLING HEADS, the arrays after the run: the blocks as parts of the arguments, and what each
   point writes (`out4`, `out5`), which is the reference's (`final_y`, `final_q`). -/
module

public import proofs.«01_k».proof.Proof.Heads.Blocks

@[expose] public section

noncomputable section

namespace Cert.Proof.Heads

open Cert.KernelHeadsIdeal Cert.KernelHeadsIdeal.Gen Idealize.ShloMosaic Idealize.ShloMosaic.TcCoe Idealize.SL.Sem
open Cert.Proof.Tools Cert.ReferenceHeadsIdeal.Read
open Cert.Proof.Pool (col win)

/-- The block index of each window at each point, and the grid's second coordinate. -/
theorem index0 : ∀ t : Fin cfg0.N, win0_0.index t = ![t.val, 0] := (by decide +kernel : ∀ t : Fin grid0.N, _)
theorem index1 : ∀ t : Fin cfg0.N, win0_1.index t = ![32 * t.val - 1, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem coord1 : ∀ t : Fin cfg0.N, ((grid0.coords t) 1 : ℕ) = t.val % 8 := (by decide +kernel : ∀ t : Fin grid0.N, _)

/-- The sequence that a point belongs to. -/
def seq (t : Fin cfg0.N) : Fin 2 := ⟨t.val / 8, by have := t.isLt; have : cfg0.N = 16 := N_0; omega⟩

/-- A point's row of the whole array. -/
def row (t : Fin cfg0.N) (r : Fin 512) : Fin 8192 := ⟨512 * t.val + r.val, by have := t.isLt; have : cfg0.N = 16 := N_0; have := r.isLt; omega⟩

variable (m : (ℓ : Loc nD τ sig) → Buf (Elt Ideal) ℓ)

/-- The arguments as the claims name them. -/
abbrev arg0 (c : Dev nD) : Vec Ideal S2x4096x512 .f32 := m ((c : Thread nD τ).loc main_arg0)
abbrev arg1 (c : Dev nD) : Vec Ideal S4x128x128 .f32 := m ((c : Thread nD τ).loc main_arg1)
abbrev arg2 (c : Dev nD) : Vec Ideal S512 .f32 := m ((c : Thread nD τ).loc main_arg2)

theorem host0 (c : Dev nD) : V m c main_v0 = shapeCast S8192x512 (arg0 m c) shapeCasts_S2x4096x512_S8192x512 := by
  show StableHlo.after (hostOps0 (F := Ideal)) _ main_v0 = _
  after_results_simp <;> rfl

theorem host2 (c : Dev nD) : V m c main_v1 = shapeCast S1x512 (arg2 m c) shapeCasts_S512_S1x512 := by
  show StableHlo.after (hostOps0 (F := Ideal)) _ main_v1 = _
  after_results_simp <;> rfl

/-- The input's block: a point's rows of its sequence. -/
theorem iblk0_apply (c : Dev nD) (t : Fin cfg0.N) (r : Fin 512) (l : Fin 512) :
    (iblk m c 0 t : Vec Ideal S512x512 .f32) (ix2 r l) = arg0 m c (ix3 (seq t) (at_ (grid0.coords t) r) l) := by
  have hc := coord1 t
  blk_simp [iblk]
  refine Eq.trans (congrArg _ (?_ : _ = ix2 (row t r) l)) ?_
  · blk_ext [index0, row]
  · rw [host0]
    pointwise
    refine congrArg _ (congrArg₂ (fun a b => ix3 a b l) (Fin.ext ?_) (Fin.ext ?_)) <;> simp only [row, seq, at_, hc] <;> omega

/-- The sixteen rows before it. -/
theorem iblk1_apply (c : Dev nD) (t : Fin cfg0.N) (ht : 0 < t.val % 8) (r : Fin 16) (l : Fin 512) :
    (iblk m c 1 t : Vec Ideal S16x512 .f32) (ix2 r l) = arg0 m c (ix3 (seq t) ⟨512 * (t.val % 8) + r.val - 16, by omega⟩ l) := by
  have hN : t.val < 16 := lt_of_lt_of_eq t.isLt N_0
  blk_simp [iblk]
  refine Eq.trans (congrArg _ (?_ : _ = ix2 (⟨512 * t.val + r.val - 16, by omega⟩ : Fin 8192) l)) ?_
  · blk_ext [index1]
  · rw [host0]
    pointwise
    refine congrArg _ (congrArg₂ (fun a b => ix3 a b l) (Fin.ext ?_) (Fin.ext ?_)) <;> simp only [seq] <;> omega

/-- The weights and the scale are whole at every point. -/
theorem iblk2_apply (c : Dev nD) (t : Fin cfg0.N) (g : Fin 4) (j k : Fin 128) : (iblk m c 2 t : Vec Ideal S4x128x128 .f32) (ix3 g j k) = arg1 m c (ix3 g j k) := by
  blk_simp [iblk]
  refine Eq.trans (congrArg _ (?_ : _ = ix3 g j k)) ?_
  · blk_ext [index2]
  · rfl

theorem iblk3_apply (c : Dev nD) (t : Fin cfg0.N) (l : Fin 512) : (iblk m c 3 t : Vec Ideal S1x512 .f32) (ix2 0 l) = arg2 m c (ix1 l) := by
  blk_simp [iblk]
  refine Eq.trans (congrArg _ (?_ : _ = ix2 0 l)) ?_
  · blk_ext [index3]
  · rw [host2]
    pointwise

/-- What the body loads for a group. -/
theorem ld0 (c : Dev nD) (t : Fin cfg0.N) (g : Fin 4) (inb) (r : Fin 512) (k : Fin 128) :
    View.ld (iblk m c 0 t : Vec Ideal S512x512 .f32) (Rect.unit ![0, 128 * g.val] ![512, 128] inb) (ix2 r k) = arg0 m c (ix3 (seq t) (at_ (grid0.coords t) r) (col g k)) :=
  (View.ld_unit_apply_of _ _ _ _ _ (ix2 r (col g k)) (fun a => by fin_cases a <;> simp [ix2])).trans (iblk0_apply m c t r _)

theorem ld2 (c : Dev nD) (t : Fin cfg0.N) (g : Fin 4) (inb) (j k : Fin 128) :
    View.ld (iblk m c 2 t : Vec Ideal S4x128x128 .f32) (Rect.unit ![g.val, 0, 0] ![1, 128, 128] inb) (ix3 0 j k) = arg1 m c (ix3 g j k) :=
  (View.ld_unit_apply_of _ _ _ _ _ (ix3 g j k) (fun a => by fin_cases a <;> simp [ix3])).trans (iblk2_apply m c t g j k)

theorem ld3 (c : Dev nD) (t : Fin cfg0.N) (g : Fin 4) (inb) (k : Fin 128) :
    View.ld (iblk m c 3 t : Vec Ideal S1x512 .f32) (Rect.unit ![0, 128 * g.val] ![1, 128] inb) (ix2 0 k) = arg2 m c (ix1 (col g k)) :=
  (View.ld_unit_apply_of _ _ _ _ _ (ix2 0 (col g k)) (fun a => by fin_cases a <;> simp [ix2])).trans (iblk3_apply m c t _)

/-- The rows that the body lays down at a point. -/
theorem tile (c : Dev nD) (t : Fin cfg0.N) : Rows (arg0 m c) (seq t) (grid0.coords t) (k0_pay3 (grid0.coords t) (iblk m c 1 t) (iblk m c 0 t)) := by
  intro n hn k
  have hc := coord1 t
  unfold field
  simp only [k0_pay3]
  pointwise
  by_cases h16 : n < 16
  · rw [dif_pos h16, hc]
    by_cases h0 : 0 < t.val % 8
    · rw [dif_pos (by omega)]
      refine Eq.trans ?_ ((iblk1_apply m c t h0 ⟨n, h16⟩ k).trans ?_)
      · have h8 : t.val % 8 < 8 := by omega
        interval_cases t.val % 8 <;> rfl
      · exact congrArg _ (congrArg₂ (fun a b => ix3 a b k) rfl (Fin.ext rfl))
    · rw [dif_neg (by omega), show t.val % 8 = 0 by omega]
      rfl
  · rw [dif_neg h16, dif_pos (by rw [hc]; omega)]
    refine (iblk0_apply m c t ⟨n - 16, by omega⟩ k).trans (congrArg _ (congrArg₂ (fun a b => ix3 a b k) rfl (Fin.ext ?_)))
    show 512 * ((grid0.coords t) 1).val + (n - 16) = 512 * ((grid0.coords t) 1).val + n - 16
    omega

/-- An index inside a group's tile. -/
theorem in_tile {n : ℕ} {g : Fin 4} {r : Fin n} {l : Fin 128} (o : Fin 4) {x : (⟨2, ![n, 128]⟩ : Shape).Idx} (h0 : r.val = (x 0).val) (h1 : 128 * g.val + l.val = 128 * o.val + (x 1).val) :
    g = o ∧ x = ix2 r l := by
  have : (x 1).val < 128 := (x 1).isLt
  refine ⟨Fin.ext (by omega), ?_⟩
  rw [eq_ix2 x]
  exact congrArg₂ ix2 (Fin.ext h0.symm) (Fin.ext (by show (x 1).val = l.val; omega))

theorem hz2 : ![0, 0] = (fun _ => 0 : Fin 2 → ℕ) := by funext a; fin_cases a <;> rfl

/-- A point's rows of the scaled products. -/
theorem out4 (c : Dev nD) (t : Fin cfg0.N) (r : Fin 512) (g : Fin 4) (l : Fin 128) :
    out0_4 (grid0.coords t) (iblk m c 0 t) (iblk m c 1 t) (iblk m c 2 t) (iblk m c 3 t) (ix2 r (col g l))
      = product (arg0 m c) (arg1 m c) (arg2 m c) g (seq t) (at_ (grid0.coords t) r) l := by
  have hv := tile m c t
  unfold out0_4 k0_pay21 k0_pay20 k0_pay19 k0_pay18
  simp only [View.ld_unit_zero (S := S512x512) hz2, View.ld_unit_zero (S := S16x512) hz2]
  canon_tiles x hx
  · obtain ⟨rfl, rfl⟩ := in_tile 3 hx0 hx1
    exact product3 hv (ld0 m c t 3 _) (ld2 m c t 3 _) (ld3 m c t 3 _) r l
  · obtain ⟨rfl, rfl⟩ := in_tile 2 hx0 hx1
    exact product2 hv (ld0 m c t 2 _) (ld2 m c t 2 _) (ld3 m c t 2 _) r l
  · obtain ⟨rfl, rfl⟩ := in_tile 1 hx0 hx1
    exact product1 hv (ld0 m c t 1 _) (ld2 m c t 1 _) (ld3 m c t 1 _) r l
  · obtain ⟨rfl, rfl⟩ := in_tile 0 hx0 (by simpa using hx1)
    exact product0 hv (ld0 m c t 0 _) (ld2 m c t 0 _) (ld3 m c t 0 _) r l

/-- A point's rows of the saved means. -/
theorem out5 (c : Dev nD) (t : Fin cfg0.N) (r : Fin 512) (g : Fin 4) (l : Fin 128) :
    out0_5 (grid0.coords t) (iblk m c 0 t) (iblk m c 1 t) (iblk m c 2 t) (iblk m c 3 t) (ix2 r (col g l))
      = mean (arg0 m c) g (seq t) (at_ (grid0.coords t) r) l := by
  have hv := tile m c t
  unfold out0_5 k0_pay21 k0_pay20 k0_pay19 k0_pay18
  simp only [View.ld_unit_zero (S := S512x512) hz2, View.ld_unit_zero (S := S16x512) hz2]
  canon_tiles x hx
  · obtain ⟨rfl, rfl⟩ := in_tile 3 hx0 hx1
    exact mean3 hv (ld0 m c t 3 _) r l
  · obtain ⟨rfl, rfl⟩ := in_tile 2 hx0 hx1
    exact mean2 hv (ld0 m c t 2 _) r l
  · obtain ⟨rfl, rfl⟩ := in_tile 1 hx0 hx1
    exact mean1 hv (ld0 m c t 1 _) r l
  · obtain ⟨rfl, rfl⟩ := in_tile 0 hx0 (by simpa using hx1)
    exact mean0 hv (ld0 m c t 0 _) r l

theorem tokens (f : Fin 2 → Fin 4096 → EReal) (t : Fin cfg0.N) (r : Fin 512) :
    f (seq t) (at_ (grid0.coords t) r) = f ⟨(row t r).val / 4096, by omega⟩ ⟨(row t r).val % 4096, by omega⟩ := by
  have hc := coord1 t
  refine congrArg₂ f (Fin.ext ?_) (Fin.ext ?_) <;> simp only [row, seq, hc] <;> omega

theorem exists_col (k : Fin 512) : ∃ (g : Fin 4) (l : Fin 128), k = col g l :=
  ⟨⟨k.val / 128, by omega⟩, ⟨k.val % 128, by omega⟩, Fin.ext (by show k.val = 128 * (k.val / 128) + k.val % 128; omega)⟩

variable (c : Dev nD)

/-- The scaled products after the run are the reference's. -/
theorem final_y (h : ∀ i, IsR (arg0 m c i)) :
    (dats m 0 c).arrAt 4 cfg0.N = val_main_v70 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, k, rfl⟩ : ∃ (r : Fin 512) (k : Fin 512), y = ix2 r k := ⟨_, _, eq_ix2 (n0 := 512) (n1 := 512) y⟩
  obtain ⟨g, l, rfl⟩ := exists_col k
  have e : (win0_4.blk t).view.emb (ix2 r (col g l)) = ix2 (row t r) (col g l) := by blk_ext [index4, row]
  rw [e]
  refine (out4 m c t r g l).trans (Eq.trans ?_ (reference_y (arg0 m c) (arg1 m c) (arg2 m c) h (row t r) g l).symm)
  exact tokens (fun b u => product (arg0 m c) (arg1 m c) (arg2 m c) g b u l) t r

/-- The saved means after the run are the reference's. -/
theorem final_q (h : ∀ i, IsR (arg0 m c i)) :
    (dats m 0 c).arrAt 5 cfg0.N = val_main_v73 (F := Ideal) (m ((c : Thread nD τ).loc main_arg0)) := by
  refine (dats m 0 c).arrAt_eq_of_covers 5 _ (by decide +kernel) fun t hf y => ?_
  blk_simp
  rw [after0_5]
  obtain ⟨r, k, rfl⟩ : ∃ (r : Fin 512) (k : Fin 512), y = ix2 r k := ⟨_, _, eq_ix2 (n0 := 512) (n1 := 512) y⟩
  obtain ⟨g, l, rfl⟩ := exists_col k
  have e : (win0_5.blk t).view.emb (ix2 r (col g l)) = ix2 (row t r) (col g l) := by blk_ext [index5, row]
  rw [e]
  refine (out5 m c t r g l).trans (Eq.trans ?_ (reference_q (arg0 m c) h (row t r) g l).symm)
  exact tokens (fun b u => mean (arg0 m c) g b u l) t r

end Cert.Proof.Heads

end
-- ==== Proof.Heads.Claim.lean ====
/- Hand-written, untrusted: THE CLAIM ABOUT THE POOLING HEADS' KERNEL: its two result arrays are the reference's, where the
   input is finite (Heads/Value.lean). -/
module

public import proofs.«01_k».proof.Defs
public import proofs.«01_k».proof.Proof.Heads.Value
public import proofs.«01_k».proof.Proof.Gen.KernelHeads.Frame
public import proofs.«01_k».proof.Proof.Gen.Pre_heads_finite

@[expose] public section

noncomputable section

namespace Cert.Proof.Heads

open Idealize.ShloMosaic Idealize.ShloMosaic.TcCoe Idealize.SL.Sem
open Cert.Proof.Tools
open Cert.KernelHeadsIdeal (main_arg0 main_arg1 main_arg2)

/-- A kernel's argument array on one device. -/
local notation "arg[" m ", " c ", " a "]" => m (Thread.loc (Dev.tc c : Thread Cert.KernelHeadsIdeal.nD Cert.KernelHeadsIdeal.τ) a)

/-- The reference's run leaves its arguments as they were; it has no semaphore. -/
theorem frame_reference : Cert.quiescent_ReferenceHeadsIdeal (hReferenceHeadsIdeal := Cert.ReferenceHeadsIdeal.Gen.facts) := fun m g _ =>
  (θ_run Cert.ReferenceHeadsIdeal.defs _ _).mono (fun r h => ⟨fun c => (h c).2.2, sem_eq_zero_of_no_sems (by decide) r.2⟩)
    (Cert.ReferenceHeadsIdeal.Value.run (F := Ideal) m g)

/-- The two programs end at the same arrays. -/
theorem algebraic : Cert.algebraic_KernelHeadsIdeal_ReferenceHeadsIdeal_pre_heads_finite (hKernelHeadsIdeal := Cert.KernelHeadsIdeal.Gen.facts)
    (hReferenceHeadsIdeal := Cert.ReferenceHeadsIdeal.Gen.facts) (hPre_heads_finite := Cert.Pre_heads_finite.Gen.facts) := by
  intro m g m' g' hpre hagree
  refine ⟨_, _, Cert.KernelHeadsIdeal.Value.run_blocks (F := Ideal) m g, ?_⟩
  refine (θ_run Cert.ReferenceHeadsIdeal.defs _ _).mono (fun r h c => ?_) (Cert.ReferenceHeadsIdeal.Value.run (F := Ideal) m' g')
  obtain ⟨a0, a1, a2⟩ := hagree c
  have h0 : ∀ i, IsR (arg[m, c, main_arg0] i : EReal) := isR_of_test _ _ (fun _ => inf_word) (hpre c)
  obtain ⟨v0, v1, hrest⟩ := h c
  refine ⟨(v0.trans (?_ : _ = Cert.ReferenceHeadsIdeal.Read.val_main_v70 (F := Ideal) (arg[m, c, main_arg0]) (arg[m, c, main_arg1]) (arg[m, c, main_arg2]))).trans (Heads.final_y m c h0).symm,
    (v1.trans (?_ : _ = Cert.ReferenceHeadsIdeal.Read.val_main_v73 (F := Ideal) (arg[m, c, main_arg0]))).trans (Heads.final_q m c h0).symm, hrest⟩
  · rw [← a0, ← a1, ← a2]
    exact Cert.ReferenceHeadsIdeal.Read.val_main_v70_eq m' c
  · rw [← a0]
    exact Cert.ReferenceHeadsIdeal.Read.val_main_v73_eq m' c

end Cert.Proof.Heads

end
-- ==== Proof.lean ====
/- Hand-written, untrusted: THE PROOF OF `Cert.Claim` (proofs.«01_k».proof.Defs). The frames of the kernels are the generated
   ones, those of the references and the values come from the modules under Proof/, one directory for each call. -/
module

public import proofs.«01_k».proof.Defs
public import proofs.«01_k».proof.Proof.Gen.KernelZoh
public import proofs.«01_k».proof.Proof.Gen.KernelZohIdeal
public import proofs.«01_k».proof.Proof.Gen.ReferenceZohIdeal
public import proofs.«01_k».proof.Proof.Gen.KernelFfn
public import proofs.«01_k».proof.Proof.Gen.KernelFfnIdeal
public import proofs.«01_k».proof.Proof.Gen.ReferenceFfnIdeal
public import proofs.«01_k».proof.Proof.Gen.KernelIndx
public import proofs.«01_k».proof.Proof.Gen.KernelIndxIdeal
public import proofs.«01_k».proof.Proof.Gen.ReferenceIndxIdeal
public import proofs.«01_k».proof.Proof.Gen.KernelLoss
public import proofs.«01_k».proof.Proof.Gen.KernelLossIdeal
public import proofs.«01_k».proof.Proof.Gen.ReferenceLossIdeal
public import proofs.«01_k».proof.Proof.Gen.KernelGatedx
public import proofs.«01_k».proof.Proof.Gen.KernelGatedxIdeal
public import proofs.«01_k».proof.Proof.Gen.ReferenceGatedxIdeal
public import proofs.«01_k».proof.Proof.Gen.KernelMixin
public import proofs.«01_k».proof.Proof.Gen.KernelMixinIdeal
public import proofs.«01_k».proof.Proof.Gen.ReferenceMixinIdeal
public import proofs.«01_k».proof.Proof.Gen.KernelGlu
public import proofs.«01_k».proof.Proof.Gen.KernelGluIdeal
public import proofs.«01_k».proof.Proof.Gen.ReferenceGluIdeal
public import proofs.«01_k».proof.Proof.Gen.KernelMixout
public import proofs.«01_k».proof.Proof.Gen.KernelMixoutIdeal
public import proofs.«01_k».proof.Proof.Gen.ReferenceMixoutIdeal
public import proofs.«01_k».proof.Proof.Gen.KernelIndxg
public import proofs.«01_k».proof.Proof.Gen.KernelIndxgIdeal
public import proofs.«01_k».proof.Proof.Gen.ReferenceIndxgIdeal
public import proofs.«01_k».proof.Proof.Gen.KernelBudx
public import proofs.«01_k».proof.Proof.Gen.KernelBudxIdeal
public import proofs.«01_k».proof.Proof.Gen.ReferenceBudxIdeal
public import proofs.«01_k».proof.Proof.Gen.KernelPool
public import proofs.«01_k».proof.Proof.Gen.KernelPoolIdeal
public import proofs.«01_k».proof.Proof.Gen.ReferencePoolIdeal
public import proofs.«01_k».proof.Proof.Gen.KernelScanBwd
public import proofs.«01_k».proof.Proof.Gen.KernelScanBwdIdeal
public import proofs.«01_k».proof.Proof.Gen.KernelScan
public import proofs.«01_k».proof.Proof.Gen.KernelScanIdeal
public import proofs.«01_k».proof.Proof.Gen.ReferenceScanIdeal
public import proofs.«01_k».proof.Proof.Gen.KernelGate
public import proofs.«01_k».proof.Proof.Gen.KernelGateIdeal
public import proofs.«01_k».proof.Proof.Gen.ReferenceGateIdeal
public import proofs.«01_k».proof.Proof.Gen.KernelHold
public import proofs.«01_k».proof.Proof.Gen.KernelHoldIdeal
public import proofs.«01_k».proof.Proof.Gen.ReferenceHoldIdeal
public import proofs.«01_k».proof.Proof.Gen.KernelStates
public import proofs.«01_k».proof.Proof.Gen.KernelStatesIdeal
public import proofs.«01_k».proof.Proof.Gen.ReferenceStatesIdeal
public import proofs.«01_k».proof.Proof.Gen.KernelHeads
public import proofs.«01_k».proof.Proof.Gen.KernelHeadsIdeal
public import proofs.«01_k».proof.Proof.Gen.ReferenceHeadsIdeal
public import proofs.«01_k».proof.Proof.Gen.Pre_zoh_finite
public import proofs.«01_k».proof.Proof.Gen.Pre_ffn_finite
public import proofs.«01_k».proof.Proof.Gen.Pre_indx_finite
public import proofs.«01_k».proof.Proof.Gen.Pre_loss_finite
public import proofs.«01_k».proof.Proof.Gen.Pre_gatedx_finite
public import proofs.«01_k».proof.Proof.Gen.Pre_mixin_finite
public import proofs.«01_k».proof.Proof.Gen.Pre_glu_finite
public import proofs.«01_k».proof.Proof.Gen.Pre_indxg_finite
public import proofs.«01_k».proof.Proof.Gen.Pre_pool_finite
public import proofs.«01_k».proof.Proof.Gen.Pre_scan_finite
public import proofs.«01_k».proof.Proof.Gen.Pre_states_finite
public import proofs.«01_k».proof.Proof.Gen.Pre_heads_finite
public import proofs.«01_k».proof.Proof.Gen.KernelZoh.Frame
public import proofs.«01_k».proof.Proof.Gen.KernelZohIdeal.Frame
public import proofs.«01_k».proof.Proof.Gen.ReferenceZohIdeal.Read
public import proofs.«01_k».proof.Proof.Zoh.Claim
public import proofs.«01_k».proof.Proof.Gen.KernelFfn.Frame
public import proofs.«01_k».proof.Proof.Gen.KernelFfnIdeal.Frame
public import proofs.«01_k».proof.Proof.Gen.ReferenceFfnIdeal.Read
public import proofs.«01_k».proof.Proof.Ffn.Claim
public import proofs.«01_k».proof.Proof.Gen.KernelIndx.Frame
public import proofs.«01_k».proof.Proof.Gen.KernelIndxIdeal.Frame
public import proofs.«01_k».proof.Proof.Gen.ReferenceIndxIdeal.Read
public import proofs.«01_k».proof.Proof.Indx.Claim
public import proofs.«01_k».proof.Proof.Gen.KernelIndxIdeal.Value
public import proofs.«01_k».proof.Proof.Gen.KernelLoss.Frame
public import proofs.«01_k».proof.Proof.Gen.KernelLossIdeal.Frame
public import proofs.«01_k».proof.Proof.Gen.ReferenceLossIdeal.Read
public import proofs.«01_k».proof.Proof.Loss.Claim
public import proofs.«01_k».proof.Proof.Gen.KernelLossIdeal.Value
public import proofs.«01_k».proof.Proof.Gen.KernelGatedx.Frame
public import proofs.«01_k».proof.Proof.Gen.KernelGatedxIdeal.Frame
public import proofs.«01_k».proof.Proof.Gen.ReferenceGatedxIdeal.Read
public import proofs.«01_k».proof.Proof.Gatedx.Claim
public import proofs.«01_k».proof.Proof.Gen.KernelGatedxIdeal.Value
public import proofs.«01_k».proof.Proof.Gen.KernelMixin.Frame
public import proofs.«01_k».proof.Proof.Gen.KernelMixinIdeal.Frame
public import proofs.«01_k».proof.Proof.Gen.ReferenceMixinIdeal.Read
public import proofs.«01_k».proof.Proof.Mixin.Claim
public import proofs.«01_k».proof.Proof.Gen.KernelMixinIdeal.Value
public import proofs.«01_k».proof.Proof.Gen.KernelGlu.Frame
public import proofs.«01_k».proof.Proof.Gen.KernelGluIdeal.Frame
public import proofs.«01_k».proof.Proof.Gen.ReferenceGluIdeal.Read
public import proofs.«01_k».proof.Proof.Glu.Claim
public import proofs.«01_k».proof.Proof.Gen.KernelGluIdeal.Value
public import proofs.«01_k».proof.Proof.Gen.KernelMixout.Frame
public import proofs.«01_k».proof.Proof.Gen.KernelMixoutIdeal.Frame
public import proofs.«01_k».proof.Proof.Gen.ReferenceMixoutIdeal.Read
public import proofs.«01_k».proof.Proof.Mixout.Claim
public import proofs.«01_k».proof.Proof.Gen.KernelIndxg.Frame
public import proofs.«01_k».proof.Proof.Gen.KernelIndxgIdeal.Frame
public import proofs.«01_k».proof.Proof.Gen.ReferenceIndxgIdeal.Read
public import proofs.«01_k».proof.Proof.Indxg.Claim
public import proofs.«01_k».proof.Proof.Gen.KernelIndxgIdeal.Value
public import proofs.«01_k».proof.Proof.Gen.KernelBudx.Frame
public import proofs.«01_k».proof.Proof.Gen.KernelBudxIdeal.Frame
public import proofs.«01_k».proof.Proof.Gen.ReferenceBudxIdeal.Read
public import proofs.«01_k».proof.Proof.Budx.Claim
public import proofs.«01_k».proof.Proof.Gen.KernelBudxIdeal.Value
public import proofs.«01_k».proof.Proof.Gen.KernelPool.Frame
public import proofs.«01_k».proof.Proof.Gen.KernelPoolIdeal.Frame
public import proofs.«01_k».proof.Proof.Gen.ReferencePoolIdeal.Read
public import proofs.«01_k».proof.Proof.Pool.Claim
public import proofs.«01_k».proof.Proof.Gen.KernelPoolIdeal.Value
public import proofs.«01_k».proof.Proof.Scan.Bwd
public import proofs.«01_k».proof.Proof.Scan.BwdIdeal
public import proofs.«01_k».proof.Proof.Scan.Fwd
public import proofs.«01_k».proof.Proof.Scan.FwdIdeal
public import proofs.«01_k».proof.Proof.Scan.Claim
public import proofs.«01_k».proof.Proof.Gen.KernelGate.Frame
public import proofs.«01_k».proof.Proof.Gen.KernelGateIdeal.Frame
public import proofs.«01_k».proof.Proof.Gen.ReferenceGateIdeal.Read
public import proofs.«01_k».proof.Proof.Gate.Claim
public import proofs.«01_k».proof.Proof.Gen.KernelGateIdeal.Value
public import proofs.«01_k».proof.Proof.Gen.KernelHold.Frame
public import proofs.«01_k».proof.Proof.Gen.KernelHoldIdeal.Frame
public import proofs.«01_k».proof.Proof.Gen.ReferenceHoldIdeal.Read
public import proofs.«01_k».proof.Proof.Hold.Claim
public import proofs.«01_k».proof.Proof.Gen.KernelHoldIdeal.Value
public import proofs.«01_k».proof.Proof.Gen.KernelStates.Frame
public import proofs.«01_k».proof.Proof.Gen.KernelStatesIdeal.Frame
public import proofs.«01_k».proof.Proof.Gen.ReferenceStatesIdeal.Read
public import proofs.«01_k».proof.Proof.States.Claim
public import proofs.«01_k».proof.Proof.Gen.KernelStatesIdeal.Value
public import proofs.«01_k».proof.Proof.Gen.KernelHeads.Frame
public import proofs.«01_k».proof.Proof.Gen.KernelHeadsIdeal.Frame
public import proofs.«01_k».proof.Proof.Gen.ReferenceHeadsIdeal.Read
public import proofs.«01_k».proof.Proof.Heads.Claim
public import proofs.«01_k».proof.Proof.Gen.KernelHeadsIdeal.Value
public import Idealize.ShloMosaic.Adequacy
public import Idealize.ShloMosaic.Init

@[expose] public section

noncomputable section

namespace Cert.Proof

open Idealize.ShloMosaic Idealize.SL.Sem

/-- Every claim of the statement. -/
theorem claim : Cert.Claim := ⟨Cert.KernelZoh.Gen.facts,
  Cert.KernelZohIdeal.Gen.facts,
  Cert.ReferenceZohIdeal.Gen.facts,
  Cert.KernelFfn.Gen.facts,
  Cert.KernelFfnIdeal.Gen.facts,
  Cert.ReferenceFfnIdeal.Gen.facts,
  Cert.KernelIndx.Gen.facts,
  Cert.KernelIndxIdeal.Gen.facts,
  Cert.ReferenceIndxIdeal.Gen.facts,
  Cert.KernelLoss.Gen.facts,
  Cert.KernelLossIdeal.Gen.facts,
  Cert.ReferenceLossIdeal.Gen.facts,
  Cert.KernelGatedx.Gen.facts,
  Cert.KernelGatedxIdeal.Gen.facts,
  Cert.ReferenceGatedxIdeal.Gen.facts,
  Cert.KernelMixin.Gen.facts,
  Cert.KernelMixinIdeal.Gen.facts,
  Cert.ReferenceMixinIdeal.Gen.facts,
  Cert.KernelGlu.Gen.facts,
  Cert.KernelGluIdeal.Gen.facts,
  Cert.ReferenceGluIdeal.Gen.facts,
  Cert.KernelMixout.Gen.facts,
  Cert.KernelMixoutIdeal.Gen.facts,
  Cert.ReferenceMixoutIdeal.Gen.facts,
  Cert.KernelIndxg.Gen.facts,
  Cert.KernelIndxgIdeal.Gen.facts,
  Cert.ReferenceIndxgIdeal.Gen.facts,
  Cert.KernelBudx.Gen.facts,
  Cert.KernelBudxIdeal.Gen.facts,
  Cert.ReferenceBudxIdeal.Gen.facts,
  Cert.KernelPool.Gen.facts,
  Cert.KernelPoolIdeal.Gen.facts,
  Cert.ReferencePoolIdeal.Gen.facts,
  Cert.KernelScanBwd.Gen.facts,
  Cert.KernelScanBwdIdeal.Gen.facts,
  Cert.KernelScan.Gen.facts,
  Cert.KernelScanIdeal.Gen.facts,
  Cert.ReferenceScanIdeal.Gen.facts,
  Cert.KernelGate.Gen.facts,
  Cert.KernelGateIdeal.Gen.facts,
  Cert.ReferenceGateIdeal.Gen.facts,
  Cert.KernelHold.Gen.facts,
  Cert.KernelHoldIdeal.Gen.facts,
  Cert.ReferenceHoldIdeal.Gen.facts,
  Cert.KernelStates.Gen.facts,
  Cert.KernelStatesIdeal.Gen.facts,
  Cert.ReferenceStatesIdeal.Gen.facts,
  Cert.KernelHeads.Gen.facts,
  Cert.KernelHeadsIdeal.Gen.facts,
  Cert.ReferenceHeadsIdeal.Gen.facts,
  Cert.Pre_zoh_finite.Gen.facts,
  Cert.Pre_ffn_finite.Gen.facts,
  Cert.Pre_indx_finite.Gen.facts,
  Cert.Pre_loss_finite.Gen.facts,
  Cert.Pre_gatedx_finite.Gen.facts,
  Cert.Pre_mixin_finite.Gen.facts,
  Cert.Pre_glu_finite.Gen.facts,
  Cert.Pre_indxg_finite.Gen.facts,
  Cert.Pre_pool_finite.Gen.facts,
  Cert.Pre_scan_finite.Gen.facts,
  Cert.Pre_states_finite.Gen.facts,
  Cert.Pre_heads_finite.Gen.facts, by
  exact ⟨fun m ρ _ => Cert.KernelZoh.Gen.frame m ρ,
    fun m ρ _ => Cert.KernelZohIdeal.Gen.frame m ρ,
    fun m ρ _ => Cert.KernelZohIdeal.Gen.frame m ρ,
    Zoh.frame_reference,
    fun m ρ _ => Zoh.frame_reference m ρ trivial,
    fun m ρ _ => Cert.KernelFfn.Gen.frame m ρ,
    fun m ρ _ => Cert.KernelFfnIdeal.Gen.frame m ρ,
    fun m ρ _ => Cert.KernelFfnIdeal.Gen.frame m ρ,
    Ffn.frame_reference,
    fun m ρ _ => Ffn.frame_reference m ρ trivial,
    fun m ρ _ => Cert.KernelIndx.Gen.frame m ρ,
    fun m ρ _ => Cert.KernelIndxIdeal.Gen.frame m ρ,
    fun m ρ _ => Cert.KernelIndxIdeal.Gen.frame m ρ,
    Indx.frame_reference,
    fun m ρ _ => Indx.frame_reference m ρ trivial,
    fun m ρ _ => Cert.KernelLoss.Gen.frame m ρ,
    fun m ρ _ => Cert.KernelLossIdeal.Gen.frame m ρ,
    fun m ρ _ => Cert.KernelLossIdeal.Gen.frame m ρ,
    Loss.frame_reference,
    fun m ρ _ => Loss.frame_reference m ρ trivial,
    fun m ρ _ => Cert.KernelGatedx.Gen.frame m ρ,
    fun m ρ _ => Cert.KernelGatedxIdeal.Gen.frame m ρ,
    fun m ρ _ => Cert.KernelGatedxIdeal.Gen.frame m ρ,
    Gatedx.frame_reference,
    fun m ρ _ => Gatedx.frame_reference m ρ trivial,
    fun m ρ _ => Cert.KernelMixin.Gen.frame m ρ,
    fun m ρ _ => Cert.KernelMixinIdeal.Gen.frame m ρ,
    fun m ρ _ => Cert.KernelMixinIdeal.Gen.frame m ρ,
    Mixin.frame_reference,
    fun m ρ _ => Mixin.frame_reference m ρ trivial,
    fun m ρ _ => Cert.KernelGlu.Gen.frame m ρ,
    fun m ρ _ => Cert.KernelGluIdeal.Gen.frame m ρ,
    fun m ρ _ => Cert.KernelGluIdeal.Gen.frame m ρ,
    Glu.frame_reference,
    fun m ρ _ => Glu.frame_reference m ρ trivial,
    fun m ρ _ => Cert.KernelMixout.Gen.frame m ρ,
    fun m ρ _ => Cert.KernelMixoutIdeal.Gen.frame m ρ,
    Mixout.frame_reference,
    fun m ρ _ => Cert.KernelIndxg.Gen.frame m ρ,
    fun m ρ _ => Cert.KernelIndxgIdeal.Gen.frame m ρ,
    fun m ρ _ => Cert.KernelIndxgIdeal.Gen.frame m ρ,
    Indxg.frame_reference,
    fun m ρ _ => Indxg.frame_reference m ρ trivial,
    fun m ρ _ => Cert.KernelBudx.Gen.frame m ρ,
    fun m ρ _ => Cert.KernelBudxIdeal.Gen.frame m ρ,
    Budx.frame_reference,
    fun m ρ _ => Cert.KernelPool.Gen.frame m ρ,
    fun m ρ _ => Cert.KernelPoolIdeal.Gen.frame m ρ,
    fun m ρ _ => Cert.KernelPoolIdeal.Gen.frame m ρ,
    Pool.frame_reference,
    fun m ρ _ => Pool.frame_reference m ρ trivial,
    ScanBwd.frame,
    fun m ρ _ => ScanBwdIdeal.frame m ρ,
    ScanFwd.frame,
    fun m ρ _ => ScanFwdIdeal.frame m ρ,
    fun m ρ _ => ScanFwdIdeal.frame m ρ,
    Scan.frame_reference,
    fun m ρ _ => Scan.frame_reference m ρ trivial,
    fun m ρ _ => Cert.KernelGate.Gen.frame m ρ,
    fun m ρ _ => Cert.KernelGateIdeal.Gen.frame m ρ,
    Gate.frame_reference,
    fun m ρ _ => Cert.KernelHold.Gen.frame m ρ,
    fun m ρ _ => Cert.KernelHoldIdeal.Gen.frame m ρ,
    Hold.frame_reference,
    fun m ρ _ => Cert.KernelStates.Gen.frame m ρ,
    fun m ρ _ => Cert.KernelStatesIdeal.Gen.frame m ρ,
    fun m ρ _ => Cert.KernelStatesIdeal.Gen.frame m ρ,
    States.frame_reference,
    fun m ρ _ => States.frame_reference m ρ trivial,
    fun m ρ _ => Cert.KernelHeads.Gen.frame m ρ,
    fun m ρ _ => Cert.KernelHeadsIdeal.Gen.frame m ρ,
    fun m ρ _ => Cert.KernelHeadsIdeal.Gen.frame m ρ,
    Heads.frame_reference,
    fun m ρ _ => Heads.frame_reference m ρ trivial,
    trivial,
    Zoh.algebraic,
    trivial,
    Ffn.algebraic,
    trivial,
    Indx.algebraic,
    trivial,
    Loss.algebraic,
    trivial,
    Gatedx.algebraic,
    trivial,
    Mixin.algebraic,
    ⟨IdealRules.named_const.statement Cert.KernelGluIdeal.κ "cubic" .f32 0x3D372713#32 ((8943 / 200000 : ℝ) : EReal) rfl,
      IdealRules.named_const.statement Cert.KernelGluIdeal.κ "cubic_grad" .f32 0x3E095D4F#32 ((26829 / 200000 : ℝ) : EReal) rfl⟩,
    Glu.algebraic,
    trivial,
    Mixout.algebraic,
    trivial,
    Indxg.algebraic,
    trivial,
    Budx.algebraic,
    trivial,
    Pool.algebraic,
    trivial,
    trivial,
    Scan.algebraic,
    trivial,
    Gate.algebraic,
    trivial,
    Hold.algebraic,
    trivial,
    States.algebraic,
    trivial,
    Heads.algebraic⟩⟩

end Cert.Proof

end
